-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Up0 (m : (ℓ : Loc Cert.Up0.nD Cert.Up0.τ Cert.Up0.sig) → Buf (Elt Bits) ℓ) : Prop :=
  True

def Pre_Up0Ideal (m : (ℓ : Loc Cert.Up0Ideal.nD Cert.Up0Ideal.τ Cert.Up0Ideal.sig) → Buf (Elt Ideal) ℓ) : Prop :=
  True

def Pre_Up0RefIdeal (m : (ℓ : Loc Cert.Up0RefIdeal.nD Cert.Up0RefIdeal.τ Cert.Up0RefIdeal.sig) → Buf (Elt Ideal) ℓ) : Prop :=
  True

def Pre_DownDx0 (m : (ℓ : Loc Cert.DownDx0.nD Cert.DownDx0.τ Cert.DownDx0.sig) → Buf (Elt Bits) ℓ) : Prop :=
  True

def Pre_DownDx0Ideal (m : (ℓ : Loc Cert.DownDx0Ideal.nD Cert.DownDx0Ideal.τ Cert.DownDx0Ideal.sig) → Buf (Elt Ideal) ℓ) : Prop :=
  True

def Pre_DownDx0RefIdeal (m : (ℓ : Loc Cert.DownDx0RefIdeal.nD Cert.DownDx0RefIdeal.τ Cert.DownDx0RefIdeal.sig) → Buf (Elt Ideal) ℓ) : Prop :=
  True

def Pre_UpDx0 (m : (ℓ : Loc Cert.UpDx0.nD Cert.UpDx0.τ Cert.UpDx0.sig) → Buf (Elt Bits) ℓ) : Prop :=
  True

def Pre_UpDx0Ideal (m : (ℓ : Loc Cert.UpDx0Ideal.nD Cert.UpDx0Ideal.τ Cert.UpDx0Ideal.sig) → Buf (Elt Ideal) ℓ) : Prop :=
  True

def Pre_UpDx0RefIdeal (m : (ℓ : Loc Cert.UpDx0RefIdeal.nD Cert.UpDx0RefIdeal.τ Cert.UpDx0RefIdeal.sig) → Buf (Elt Ideal) ℓ) : Prop :=
  True

def Pre_Down0 (m : (ℓ : Loc Cert.Down0.nD Cert.Down0.τ Cert.Down0.sig) → Buf (Elt Bits) ℓ) : Prop :=
  True

def Pre_Down0Ideal (m : (ℓ : Loc Cert.Down0Ideal.nD Cert.Down0Ideal.τ Cert.Down0Ideal.sig) → Buf (Elt Ideal) ℓ) : Prop :=
  True

def Pre_Down0RefIdeal (m : (ℓ : Loc Cert.Down0RefIdeal.nD Cert.Down0RefIdeal.τ Cert.Down0RefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_GluDx (m : (ℓ : Loc Cert.GluDx.nD Cert.GluDx.τ Cert.GluDx.sig) → Buf (Elt Bits) ℓ) : Prop :=
  True

def Pre_GluDxIdeal (m : (ℓ : Loc Cert.GluDxIdeal.nD Cert.GluDxIdeal.τ Cert.GluDxIdeal.sig) → Buf (Elt Ideal) ℓ) : Prop :=
  True

def Pre_GluDxRefIdeal (m : (ℓ : Loc Cert.GluDxRefIdeal.nD Cert.GluDxRefIdeal.τ Cert.GluDxRefIdeal.sig) → Buf (Elt Ideal) ℓ) : Prop :=
  True

def Pre_GluDw (m : (ℓ : Loc Cert.GluDw.nD Cert.GluDw.τ Cert.GluDw.sig) → Buf (Elt Bits) ℓ) : Prop :=
  True

def Pre_GluDwIdeal (m : (ℓ : Loc Cert.GluDwIdeal.nD Cert.GluDwIdeal.τ Cert.GluDwIdeal.sig) → Buf (Elt Ideal) ℓ) : Prop :=
  True

def Pre_GluDwRefIdeal (m : (ℓ : Loc Cert.GluDwRefIdeal.nD Cert.GluDwRefIdeal.τ Cert.GluDwRefIdeal.sig) → Buf (Elt Ideal) ℓ) : Prop :=
  True

def Pre_RwIn (m : (ℓ : Loc Cert.RwIn.nD Cert.RwIn.τ Cert.RwIn.sig) → Buf (Elt Bits) ℓ) : Prop :=
  True

def Pre_RwInIdeal (m : (ℓ : Loc Cert.RwInIdeal.nD Cert.RwInIdeal.τ Cert.RwInIdeal.sig) → Buf (Elt Ideal) ℓ) : Prop :=
  True

def Pre_RwInRefIdeal (m : (ℓ : Loc Cert.RwInRefIdeal.nD Cert.RwInRefIdeal.τ Cert.RwInRefIdeal.sig) → Buf (Elt Ideal) ℓ) : Prop :=
  True

def Pre_RwOut (m : (ℓ : Loc Cert.RwOut.nD Cert.RwOut.τ Cert.RwOut.sig) → Buf (Elt Bits) ℓ) : Prop :=
  True

def Pre_RwOutIdeal (m : (ℓ : Loc Cert.RwOutIdeal.nD Cert.RwOutIdeal.τ Cert.RwOutIdeal.sig) → Buf (Elt Ideal) ℓ) : Prop :=
  True

def Pre_RwOutRefIdeal (m : (ℓ : Loc Cert.RwOutRefIdeal.nD Cert.RwOutRefIdeal.τ Cert.RwOutRefIdeal.sig) → Buf (Elt Ideal) ℓ) : Prop :=
  True

def Pre_RwDx (m : (ℓ : Loc Cert.RwDx.nD Cert.RwDx.τ Cert.RwDx.sig) → Buf (Elt Bits) ℓ) : Prop :=
  True

def Pre_RwDxIdeal (m : (ℓ : Loc Cert.RwDxIdeal.nD Cert.RwDxIdeal.τ Cert.RwDxIdeal.sig) → Buf (Elt Ideal) ℓ) : Prop :=
  True

def Pre_RwDxRefIdeal (m : (ℓ : Loc Cert.RwDxRefIdeal.nD Cert.RwDxRefIdeal.τ Cert.RwDxRefIdeal.sig) → Buf (Elt Ideal) ℓ) : Prop :=
  True

def Pre_RwDw (m : (ℓ : Loc Cert.RwDw.nD Cert.RwDw.τ Cert.RwDw.sig) → Buf (Elt Bits) ℓ) : Prop :=
  True

def Pre_RwDwIdeal (m : (ℓ : Loc Cert.RwDwIdeal.nD Cert.RwDwIdeal.τ Cert.RwDwIdeal.sig) → Buf (Elt Ideal) ℓ) : Prop :=
  True

def Pre_RwDwRefIdeal (m : (ℓ : Loc Cert.RwDwRefIdeal.nD Cert.RwDwRefIdeal.τ Cert.RwDwRefIdeal.sig) → Buf (Elt Ideal) ℓ) : Prop :=
  True

def Pre_LnBwd (m : (ℓ : Loc Cert.LnBwd.nD Cert.LnBwd.τ Cert.LnBwd.sig) → Buf (Elt Bits) ℓ) : Prop :=
  True

def Pre_LnBwdIdeal (m : (ℓ : Loc Cert.LnBwdIdeal.nD Cert.LnBwdIdeal.τ Cert.LnBwdIdeal.sig) → Buf (Elt Ideal) ℓ) : Prop :=
  True

def Pre_LnBwdRefIdeal (m : (ℓ : Loc Cert.LnBwdRefIdeal.nD Cert.LnBwdRefIdeal.τ Cert.LnBwdRefIdeal.sig) → Buf (Elt Ideal) ℓ) : Prop :=
  True

def Pre_Ln (m : (ℓ : Loc Cert.Ln.nD Cert.Ln.τ Cert.Ln.sig) → Buf (Elt Bits) ℓ) : Prop :=
  True

def Pre_LnIdeal (m : (ℓ : Loc Cert.LnIdeal.nD Cert.LnIdeal.τ Cert.LnIdeal.sig) → Buf (Elt Ideal) ℓ) : Prop :=
  True

def Pre_LnRefIdeal (m : (ℓ : Loc Cert.LnRefIdeal.nD Cert.LnRefIdeal.τ Cert.LnRefIdeal.sig) → Buf (Elt Ideal) ℓ) : Prop :=
  True

def Pre_Ln0 (m : (ℓ : Loc Cert.Ln0.nD Cert.Ln0.τ Cert.Ln0.sig) → Buf (Elt Bits) ℓ) : Prop :=
  True

def Pre_Ln0Ideal (m : (ℓ : Loc Cert.Ln0Ideal.nD Cert.Ln0Ideal.τ Cert.Ln0Ideal.sig) → Buf (Elt Ideal) ℓ) : Prop :=
  True

def Pre_Ln0RefIdeal (m : (ℓ : Loc Cert.Ln0RefIdeal.nD Cert.Ln0RefIdeal.τ Cert.Ln0RefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_GluLnBwd (m : (ℓ : Loc Cert.GluLnBwd.nD Cert.GluLnBwd.τ Cert.GluLnBwd.sig) → Buf (Elt Bits) ℓ) : Prop :=
  True

def Pre_GluLnBwdIdeal (m : (ℓ : Loc Cert.GluLnBwdIdeal.nD Cert.GluLnBwdIdeal.τ Cert.GluLnBwdIdeal.sig) → Buf (Elt Ideal) ℓ) : Prop :=
  True

def Pre_GluLnBwdRefIdeal (m : (ℓ : Loc Cert.GluLnBwdRefIdeal.nD Cert.GluLnBwdRefIdeal.τ Cert.GluLnBwdRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_S5Bbar (m : (ℓ : Loc Cert.S5Bbar.nD Cert.S5Bbar.τ Cert.S5Bbar.sig) → Buf (Elt Bits) ℓ) : Prop :=
  True

def Pre_S5BbarIdeal (m : (ℓ : Loc Cert.S5BbarIdeal.nD Cert.S5BbarIdeal.τ Cert.S5BbarIdeal.sig) → Buf (Elt Ideal) ℓ) : Prop :=
  True

def Pre_S5BbarRefIdeal (m : (ℓ : Loc Cert.S5BbarRefIdeal.nD Cert.S5BbarRefIdeal.τ Cert.S5BbarRefIdeal.sig) → Buf (Elt Ideal) ℓ) : Prop :=
  True

def Pre_S5Param (m : (ℓ : Loc Cert.S5Param.nD Cert.S5Param.τ Cert.S5Param.sig) → Buf (Elt Bits) ℓ) : Prop :=
  True

def Pre_S5ParamIdeal (m : (ℓ : Loc Cert.S5ParamIdeal.nD Cert.S5ParamIdeal.τ Cert.S5ParamIdeal.sig) → Buf (Elt Ideal) ℓ) : Prop :=
  True

def Pre_S5ParamRefIdeal (m : (ℓ : Loc Cert.S5ParamRefIdeal.nD Cert.S5ParamRefIdeal.τ Cert.S5ParamRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1)
      ∧ r.2.mem ((c.tc : Thread Cert.DownDx.nD Cert.DownDx.τ).loc Cert.DownDx.main_arg2) = m ((c.tc : Thread Cert.DownDx.nD Cert.DownDx.τ).loc Cert.DownDx.main_arg2))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1)
      ∧ r.2.mem ((c.tc : Thread Cert.DownDxRefIdeal.nD Cert.DownDxRefIdeal.τ).loc Cert.DownDxRefIdeal.main_arg2) = m ((c.tc : Thread Cert.DownDxRefIdeal.nD Cert.DownDxRefIdeal.τ).loc Cert.DownDxRefIdeal.main_arg2))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1)
      ∧ r.2.mem ((c.tc : Thread Cert.UpDxRefIdeal.nD Cert.UpDxRefIdeal.τ).loc Cert.UpDxRefIdeal.main_arg2) = m ((c.tc : Thread Cert.UpDxRefIdeal.nD Cert.UpDxRefIdeal.τ).loc Cert.UpDxRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_Up0 [hUp0 : Cert.Up0.Facts] : Prop :=
  ∀ (m : (ℓ : Loc Cert.Up0.nD Cert.Up0.τ Cert.Up0.sig) → Buf (Elt Bits) ℓ) (g : Dev Cert.Up0.nD → PrngReg), Pre_Up0 m →
    θ_run (Cert.Up0.defs (F := Bits)) (onTc (τ := Cert.Up0.τ) (Cert.Up0.main (F := Bits))) ⟨m, fun _ => 0, g⟩ (fun r => (∀ c : Dev Cert.Up0.nD,
      r.2.mem ((c.tc : Thread Cert.Up0.nD Cert.Up0.τ).loc Cert.Up0.main_arg0) = m ((c.tc : Thread Cert.Up0.nD Cert.Up0.τ).loc Cert.Up0.main_arg0)
      ∧ r.2.mem ((c.tc : Thread Cert.Up0.nD Cert.Up0.τ).loc Cert.Up0.main_arg1) = m ((c.tc : Thread Cert.Up0.nD Cert.Up0.τ).loc Cert.Up0.main_arg1))
      ∧ r.2.sem = fun _ => 0)

def quiescent_Up0Ideal [hUp0Ideal : Cert.Up0Ideal.Facts] : Prop :=
  ∀ (m : (ℓ : Loc Cert.Up0Ideal.nD Cert.Up0Ideal.τ Cert.Up0Ideal.sig) → Buf (Elt Ideal) ℓ) (g : Dev Cert.Up0Ideal.nD → PrngReg), Pre_Up0Ideal m →
    θ_run (Cert.Up0Ideal.defs (F := Ideal)) (onTc (τ := Cert.Up0Ideal.τ) (Cert.Up0Ideal.main (F := Ideal))) ⟨m, fun _ => 0, g⟩ (fun r => (∀ c : Dev Cert.Up0Ideal.nD,
      r.2.mem ((c.tc : Thread Cert.Up0Ideal.nD Cert.Up0Ideal.τ).loc Cert.Up0Ideal.main_arg0) = m ((c.tc : Thread Cert.Up0Ideal.nD Cert.Up0Ideal.τ).loc Cert.Up0Ideal.main_arg0)
      ∧ r.2.mem ((c.tc : Thread Cert.Up0Ideal.nD Cert.Up0Ideal.τ).loc Cert.Up0Ideal.main_arg1) = m ((c.tc : Thread Cert.Up0Ideal.nD Cert.Up0Ideal.τ).loc Cert.Up0Ideal.main_arg1))
      ∧ r.2.sem = fun _ => 0)

def quiescent_Up0RefIdeal [hUp0RefIdeal : Cert.Up0RefIdeal.Facts] : Prop :=
  ∀ (m : (ℓ : Loc Cert.Up0RefIdeal.nD Cert.Up0RefIdeal.τ Cert.Up0RefIdeal.sig) → Buf (Elt Ideal) ℓ) (g : Dev Cert.Up0RefIdeal.nD → PrngReg), Pre_Up0RefIdeal m →
    θ_run (Cert.Up0RefIdeal.defs (F := Ideal)) (onTc (τ := Cert.Up0RefIdeal.τ) (Cert.Up0RefIdeal.main (F := Ideal))) ⟨m, fun _ => 0, g⟩ (fun r => (∀ c : Dev Cert.Up0RefIdeal.nD,
      r.2.mem ((c.tc : Thread Cert.Up0RefIdeal.nD Cert.Up0RefIdeal.τ).loc Cert.Up0RefIdeal.main_arg0) = m ((c.tc : Thread Cert.Up0RefIdeal.nD Cert.Up0RefIdeal.τ).loc Cert.Up0RefIdeal.main_arg0)
      ∧ r.2.mem ((c.tc : Thread Cert.Up0RefIdeal.nD Cert.Up0RefIdeal.τ).loc Cert.Up0RefIdeal.main_arg1) = m ((c.tc : Thread Cert.Up0RefIdeal.nD Cert.Up0RefIdeal.τ).loc Cert.Up0RefIdeal.main_arg1))
      ∧ r.2.sem = fun _ => 0)

def quiescent_DownDx0 [hDownDx0 : Cert.DownDx0.Facts] : Prop :=
  ∀ (m : (ℓ : Loc Cert.DownDx0.nD Cert.DownDx0.τ Cert.DownDx0.sig) → Buf (Elt Bits) ℓ) (g : Dev Cert.DownDx0.nD → PrngReg), Pre_DownDx0 m →
    θ_run (Cert.DownDx0.defs (F := Bits)) (onTc (τ := Cert.DownDx0.τ) (Cert.DownDx0.main (F := Bits))) ⟨m, fun _ => 0, g⟩ (fun r => (∀ c : Dev Cert.DownDx0.nD,
      r.2.mem ((c.tc : Thread Cert.DownDx0.nD Cert.DownDx0.τ).loc Cert.DownDx0.main_arg0) = m ((c.tc : Thread Cert.DownDx0.nD Cert.DownDx0.τ).loc Cert.DownDx0.main_arg0)
      ∧ r.2.mem ((c.tc : Thread Cert.DownDx0.nD Cert.DownDx0.τ).loc Cert.DownDx0.main_arg1) = m ((c.tc : Thread Cert.DownDx0.nD Cert.DownDx0.τ).loc Cert.DownDx0.main_arg1)
      ∧ r.2.mem ((c.tc : Thread Cert.DownDx0.nD Cert.DownDx0.τ).loc Cert.DownDx0.main_arg2) = m ((c.tc : Thread Cert.DownDx0.nD Cert.DownDx0.τ).loc Cert.DownDx0.main_arg2))
      ∧ r.2.sem = fun _ => 0)

def quiescent_DownDx0Ideal [hDownDx0Ideal : Cert.DownDx0Ideal.Facts] : Prop :=
  ∀ (m : (ℓ : Loc Cert.DownDx0Ideal.nD Cert.DownDx0Ideal.τ Cert.DownDx0Ideal.sig) → Buf (Elt Ideal) ℓ) (g : Dev Cert.DownDx0Ideal.nD → PrngReg), Pre_DownDx0Ideal m →
    θ_run (Cert.DownDx0Ideal.defs (F := Ideal)) (onTc (τ := Cert.DownDx0Ideal.τ) (Cert.DownDx0Ideal.main (F := Ideal))) ⟨m, fun _ => 0, g⟩ (fun r => (∀ c : Dev Cert.DownDx0Ideal.nD,
      r.2.mem ((c.tc : Thread Cert.DownDx0Ideal.nD Cert.DownDx0Ideal.τ).loc Cert.DownDx0Ideal.main_arg0) = m ((c.tc : Thread Cert.DownDx0Ideal.nD Cert.DownDx0Ideal.τ).loc Cert.DownDx0Ideal.main_arg0)
      ∧ r.2.mem ((c.tc : Thread Cert.DownDx0Ideal.nD Cert.DownDx0Ideal.τ).loc Cert.DownDx0Ideal.main_arg1) = m ((c.tc : Thread Cert.DownDx0Ideal.nD Cert.DownDx0Ideal.τ).loc Cert.DownDx0Ideal.main_arg1)
      ∧ r.2.mem ((c.tc : Thread Cert.DownDx0Ideal.nD Cert.DownDx0Ideal.τ).loc Cert.DownDx0Ideal.main_arg2) = m ((c.tc : Thread Cert.DownDx0Ideal.nD Cert.DownDx0Ideal.τ).loc Cert.DownDx0Ideal.main_arg2))
      ∧ r.2.sem = fun _ => 0)

def quiescent_DownDx0RefIdeal [hDownDx0RefIdeal : Cert.DownDx0RefIdeal.Facts] : Prop :=
  ∀ (m : (ℓ : Loc Cert.DownDx0RefIdeal.nD Cert.DownDx0RefIdeal.τ Cert.DownDx0RefIdeal.sig) → Buf (Elt Ideal) ℓ) (g : Dev Cert.DownDx0RefIdeal.nD → PrngReg), Pre_DownDx0RefIdeal m →
    θ_run (Cert.DownDx0RefIdeal.defs (F := Ideal)) (onTc (τ := Cert.DownDx0RefIdeal.τ) (Cert.DownDx0RefIdeal.main (F := Ideal))) ⟨m, fun _ => 0, g⟩ (fun r => (∀ c : Dev Cert.DownDx0RefIdeal.nD,
      r.2.mem ((c.tc : Thread Cert.DownDx0RefIdeal.nD Cert.DownDx0RefIdeal.τ).loc Cert.DownDx0RefIdeal.main_arg0) = m ((c.tc : Thread Cert.DownDx0RefIdeal.nD Cert.DownDx0RefIdeal.τ).loc Cert.DownDx0RefIdeal.main_arg0)
      ∧ r.2.mem ((c.tc : Thread Cert.DownDx0RefIdeal.nD Cert.DownDx0RefIdeal.τ).loc Cert.DownDx0RefIdeal.main_arg1) = m ((c.tc : Thread Cert.DownDx0RefIdeal.nD Cert.DownDx0RefIdeal.τ).loc Cert.DownDx0RefIdeal.main_arg1)
      ∧ r.2.mem ((c.tc : Thread Cert.DownDx0RefIdeal.nD Cert.DownDx0RefIdeal.τ).loc Cert.DownDx0RefIdeal.main_arg2) = m ((c.tc : Thread Cert.DownDx0RefIdeal.nD Cert.DownDx0RefIdeal.τ).loc Cert.DownDx0RefIdeal.main_arg2))
      ∧ r.2.sem = fun _ => 0)

def quiescent_UpDx0 [hUpDx0 : Cert.UpDx0.Facts] : Prop :=
  ∀ (m : (ℓ : Loc Cert.UpDx0.nD Cert.UpDx0.τ Cert.UpDx0.sig) → Buf (Elt Bits) ℓ) (g : Dev Cert.UpDx0.nD → PrngReg), Pre_UpDx0 m →
    θ_run (Cert.UpDx0.defs (F := Bits)) (onTc (τ := Cert.UpDx0.τ) (Cert.UpDx0.main (F := Bits))) ⟨m, fun _ => 0, g⟩ (fun r => (∀ c : Dev Cert.UpDx0.nD,
      r.2.mem ((c.tc : Thread Cert.UpDx0.nD Cert.UpDx0.τ).loc Cert.UpDx0.main_arg0) = m ((c.tc : Thread Cert.UpDx0.nD Cert.UpDx0.τ).loc Cert.UpDx0.main_arg0)
      ∧ r.2.mem ((c.tc : Thread Cert.UpDx0.nD Cert.UpDx0.τ).loc Cert.UpDx0.main_arg1) = m ((c.tc : Thread Cert.UpDx0.nD Cert.UpDx0.τ).loc Cert.UpDx0.main_arg1)
      ∧ r.2.mem ((c.tc : Thread Cert.UpDx0.nD Cert.UpDx0.τ).loc Cert.UpDx0.main_arg2) = m ((c.tc : Thread Cert.UpDx0.nD Cert.UpDx0.τ).loc Cert.UpDx0.main_arg2))
      ∧ r.2.sem = fun _ => 0)

def quiescent_UpDx0Ideal [hUpDx0Ideal : Cert.UpDx0Ideal.Facts] : Prop :=
  ∀ (m : (ℓ : Loc Cert.UpDx0Ideal.nD Cert.UpDx0Ideal.τ Cert.UpDx0Ideal.sig) → Buf (Elt Ideal) ℓ) (g : Dev Cert.UpDx0Ideal.nD → PrngReg), Pre_UpDx0Ideal m →
    θ_run (Cert.UpDx0Ideal.defs (F := Ideal)) (onTc (τ := Cert.UpDx0Ideal.τ) (Cert.UpDx0Ideal.main (F := Ideal))) ⟨m, fun _ => 0, g⟩ (fun r => (∀ c : Dev Cert.UpDx0Ideal.nD,
      r.2.mem ((c.tc : Thread Cert.UpDx0Ideal.nD Cert.UpDx0Ideal.τ).loc Cert.UpDx0Ideal.main_arg0) = m ((c.tc : Thread Cert.UpDx0Ideal.nD Cert.UpDx0Ideal.τ).loc Cert.UpDx0Ideal.main_arg0)
      ∧ r.2.mem ((c.tc : Thread Cert.UpDx0Ideal.nD Cert.UpDx0Ideal.τ).loc Cert.UpDx0Ideal.main_arg1) = m ((c.tc : Thread Cert.UpDx0Ideal.nD Cert.UpDx0Ideal.τ).loc Cert.UpDx0Ideal.main_arg1)
      ∧ r.2.mem ((c.tc : Thread Cert.UpDx0Ideal.nD Cert.UpDx0Ideal.τ).loc Cert.UpDx0Ideal.main_arg2) = m ((c.tc : Thread Cert.UpDx0Ideal.nD Cert.UpDx0Ideal.τ).loc Cert.UpDx0Ideal.main_arg2))
      ∧ r.2.sem = fun _ => 0)

def quiescent_UpDx0RefIdeal [hUpDx0RefIdeal : Cert.UpDx0RefIdeal.Facts] : Prop :=
  ∀ (m : (ℓ : Loc Cert.UpDx0RefIdeal.nD Cert.UpDx0RefIdeal.τ Cert.UpDx0RefIdeal.sig) → Buf (Elt Ideal) ℓ) (g : Dev Cert.UpDx0RefIdeal.nD → PrngReg), Pre_UpDx0RefIdeal m →
    θ_run (Cert.UpDx0RefIdeal.defs (F := Ideal)) (onTc (τ := Cert.UpDx0RefIdeal.τ) (Cert.UpDx0RefIdeal.main (F := Ideal))) ⟨m, fun _ => 0, g⟩ (fun r => (∀ c : Dev Cert.UpDx0RefIdeal.nD,
      r.2.mem ((c.tc : Thread Cert.UpDx0RefIdeal.nD Cert.UpDx0RefIdeal.τ).loc Cert.UpDx0RefIdeal.main_arg0) = m ((c.tc : Thread Cert.UpDx0RefIdeal.nD Cert.UpDx0RefIdeal.τ).loc Cert.UpDx0RefIdeal.main_arg0)
      ∧ r.2.mem ((c.tc : Thread Cert.UpDx0RefIdeal.nD Cert.UpDx0RefIdeal.τ).loc Cert.UpDx0RefIdeal.main_arg1) = m ((c.tc : Thread Cert.UpDx0RefIdeal.nD Cert.UpDx0RefIdeal.τ).loc Cert.UpDx0RefIdeal.main_arg1)
      ∧ r.2.mem ((c.tc : Thread Cert.UpDx0RefIdeal.nD Cert.UpDx0RefIdeal.τ).loc Cert.UpDx0RefIdeal.main_arg2) = m ((c.tc : Thread Cert.UpDx0RefIdeal.nD Cert.UpDx0RefIdeal.τ).loc Cert.UpDx0RefIdeal.main_arg2))
      ∧ r.2.sem = fun _ => 0)

def quiescent_Down0 [hDown0 : Cert.Down0.Facts] : Prop :=
  ∀ (m : (ℓ : Loc Cert.Down0.nD Cert.Down0.τ Cert.Down0.sig) → Buf (Elt Bits) ℓ) (g : Dev Cert.Down0.nD → PrngReg), Pre_Down0 m →
    θ_run (Cert.Down0.defs (F := Bits)) (onTc (τ := Cert.Down0.τ) (Cert.Down0.main (F := Bits))) ⟨m, fun _ => 0, g⟩ (fun r => (∀ c : Dev Cert.Down0.nD,
      r.2.mem ((c.tc : Thread Cert.Down0.nD Cert.Down0.τ).loc Cert.Down0.main_arg0) = m ((c.tc : Thread Cert.Down0.nD Cert.Down0.τ).loc Cert.Down0.main_arg0)
      ∧ r.2.mem ((c.tc : Thread Cert.Down0.nD Cert.Down0.τ).loc Cert.Down0.main_arg1) = m ((c.tc : Thread Cert.Down0.nD Cert.Down0.τ).loc Cert.Down0.main_arg1))
      ∧ r.2.sem = fun _ => 0)

def quiescent_Down0Ideal [hDown0Ideal : Cert.Down0Ideal.Facts] : Prop :=
  ∀ (m : (ℓ : Loc Cert.Down0Ideal.nD Cert.Down0Ideal.τ Cert.Down0Ideal.sig) → Buf (Elt Ideal) ℓ) (g : Dev Cert.Down0Ideal.nD → PrngReg), Pre_Down0Ideal m →
    θ_run (Cert.Down0Ideal.defs (F := Ideal)) (onTc (τ := Cert.Down0Ideal.τ) (Cert.Down0Ideal.main (F := Ideal))) ⟨m, fun _ => 0, g⟩ (fun r => (∀ c : Dev Cert.Down0Ideal.nD,
      r.2.mem ((c.tc : Thread Cert.Down0Ideal.nD Cert.Down0Ideal.τ).loc Cert.Down0Ideal.main_arg0) = m ((c.tc : Thread Cert.Down0Ideal.nD Cert.Down0Ideal.τ).loc Cert.Down0Ideal.main_arg0)
      ∧ r.2.mem ((c.tc : Thread Cert.Down0Ideal.nD Cert.Down0Ideal.τ).loc Cert.Down0Ideal.main_arg1) = m ((c.tc : Thread Cert.Down0Ideal.nD Cert.Down0Ideal.τ).loc Cert.Down0Ideal.main_arg1))
      ∧ r.2.sem = fun _ => 0)

def quiescent_Down0RefIdeal [hDown0RefIdeal : Cert.Down0RefIdeal.Facts] : Prop :=
  ∀ (m : (ℓ : Loc Cert.Down0RefIdeal.nD Cert.Down0RefIdeal.τ Cert.Down0RefIdeal.sig) → Buf (Elt Ideal) ℓ) (g : Dev Cert.Down0RefIdeal.nD → PrngReg), Pre_Down0RefIdeal m →
    θ_run (Cert.Down0RefIdeal.defs (F := Ideal)) (onTc (τ := Cert.Down0RefIdeal.τ) (Cert.Down0RefIdeal.main (F := Ideal))) ⟨m, fun _ => 0, g⟩ (fun r => (∀ c : Dev Cert.Down0RefIdeal.nD,
      r.2.mem ((c.tc : Thread Cert.Down0RefIdeal.nD Cert.Down0RefIdeal.τ).loc Cert.Down0RefIdeal.main_arg0) = m ((c.tc : Thread Cert.Down0RefIdeal.nD Cert.Down0RefIdeal.τ).loc Cert.Down0RefIdeal.main_arg0)
      ∧ r.2.mem ((c.tc : Thread Cert.Down0RefIdeal.nD Cert.Down0RefIdeal.τ).loc Cert.Down0RefIdeal.main_arg1) = m ((c.tc : Thread Cert.Down0RefIdeal.nD Cert.Down0RefIdeal.τ).loc Cert.Down0RefIdeal.main_arg1))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1))
      ∧ r.2.sem = fun _ => 0)

def quiescent_GluDx [hGluDx : Cert.GluDx.Facts] : Prop :=
  ∀ (m : (ℓ : Loc Cert.GluDx.nD Cert.GluDx.τ Cert.GluDx.sig) → Buf (Elt Bits) ℓ) (g : Dev Cert.GluDx.nD → PrngReg), Pre_GluDx m →
    θ_run (Cert.GluDx.defs (F := Bits)) (onTc (τ := Cert.GluDx.τ) (Cert.GluDx.main (F := Bits))) ⟨m, fun _ => 0, g⟩ (fun r => (∀ c : Dev Cert.GluDx.nD,
      r.2.mem ((c.tc : Thread Cert.GluDx.nD Cert.GluDx.τ).loc Cert.GluDx.main_arg0) = m ((c.tc : Thread Cert.GluDx.nD Cert.GluDx.τ).loc Cert.GluDx.main_arg0)
      ∧ r.2.mem ((c.tc : Thread Cert.GluDx.nD Cert.GluDx.τ).loc Cert.GluDx.main_arg1) = m ((c.tc : Thread Cert.GluDx.nD Cert.GluDx.τ).loc Cert.GluDx.main_arg1))
      ∧ r.2.sem = fun _ => 0)

def quiescent_GluDxIdeal [hGluDxIdeal : Cert.GluDxIdeal.Facts] : Prop :=
  ∀ (m : (ℓ : Loc Cert.GluDxIdeal.nD Cert.GluDxIdeal.τ Cert.GluDxIdeal.sig) → Buf (Elt Ideal) ℓ) (g : Dev Cert.GluDxIdeal.nD → PrngReg), Pre_GluDxIdeal m →
    θ_run (Cert.GluDxIdeal.defs (F := Ideal)) (onTc (τ := Cert.GluDxIdeal.τ) (Cert.GluDxIdeal.main (F := Ideal))) ⟨m, fun _ => 0, g⟩ (fun r => (∀ c : Dev Cert.GluDxIdeal.nD,
      r.2.mem ((c.tc : Thread Cert.GluDxIdeal.nD Cert.GluDxIdeal.τ).loc Cert.GluDxIdeal.main_arg0) = m ((c.tc : Thread Cert.GluDxIdeal.nD Cert.GluDxIdeal.τ).loc Cert.GluDxIdeal.main_arg0)
      ∧ r.2.mem ((c.tc : Thread Cert.GluDxIdeal.nD Cert.GluDxIdeal.τ).loc Cert.GluDxIdeal.main_arg1) = m ((c.tc : Thread Cert.GluDxIdeal.nD Cert.GluDxIdeal.τ).loc Cert.GluDxIdeal.main_arg1))
      ∧ r.2.sem = fun _ => 0)

def quiescent_GluDxRefIdeal [hGluDxRefIdeal : Cert.GluDxRefIdeal.Facts] : Prop :=
  ∀ (m : (ℓ : Loc Cert.GluDxRefIdeal.nD Cert.GluDxRefIdeal.τ Cert.GluDxRefIdeal.sig) → Buf (Elt Ideal) ℓ) (g : Dev Cert.GluDxRefIdeal.nD → PrngReg), Pre_GluDxRefIdeal m →
    θ_run (Cert.GluDxRefIdeal.defs (F := Ideal)) (onTc (τ := Cert.GluDxRefIdeal.τ) (Cert.GluDxRefIdeal.main (F := Ideal))) ⟨m, fun _ => 0, g⟩ (fun r => (∀ c : Dev Cert.GluDxRefIdeal.nD,
      r.2.mem ((c.tc : Thread Cert.GluDxRefIdeal.nD Cert.GluDxRefIdeal.τ).loc Cert.GluDxRefIdeal.main_arg0) = m ((c.tc : Thread Cert.GluDxRefIdeal.nD Cert.GluDxRefIdeal.τ).loc Cert.GluDxRefIdeal.main_arg0)
      ∧ r.2.mem ((c.tc : Thread Cert.GluDxRefIdeal.nD Cert.GluDxRefIdeal.τ).loc Cert.GluDxRefIdeal.main_arg1) = m ((c.tc : Thread Cert.GluDxRefIdeal.nD Cert.GluDxRefIdeal.τ).loc Cert.GluDxRefIdeal.main_arg1))
      ∧ r.2.sem = fun _ => 0)

def quiescent_GluDw [hGluDw : Cert.GluDw.Facts] : Prop :=
  ∀ (m : (ℓ : Loc Cert.GluDw.nD Cert.GluDw.τ Cert.GluDw.sig) → Buf (Elt Bits) ℓ) (g : Dev Cert.GluDw.nD → PrngReg), Pre_GluDw m →
    θ_run (Cert.GluDw.defs (F := Bits)) (onTc (τ := Cert.GluDw.τ) (Cert.GluDw.main (F := Bits))) ⟨m, fun _ => 0, g⟩ (fun r => (∀ c : Dev Cert.GluDw.nD,
      r.2.mem ((c.tc : Thread Cert.GluDw.nD Cert.GluDw.τ).loc Cert.GluDw.main_arg0) = m ((c.tc : Thread Cert.GluDw.nD Cert.GluDw.τ).loc Cert.GluDw.main_arg0)
      ∧ r.2.mem ((c.tc : Thread Cert.GluDw.nD Cert.GluDw.τ).loc Cert.GluDw.main_arg1) = m ((c.tc : Thread Cert.GluDw.nD Cert.GluDw.τ).loc Cert.GluDw.main_arg1))
      ∧ r.2.sem = fun _ => 0)

def quiescent_GluDwIdeal [hGluDwIdeal : Cert.GluDwIdeal.Facts] : Prop :=
  ∀ (m : (ℓ : Loc Cert.GluDwIdeal.nD Cert.GluDwIdeal.τ Cert.GluDwIdeal.sig) → Buf (Elt Ideal) ℓ) (g : Dev Cert.GluDwIdeal.nD → PrngReg), Pre_GluDwIdeal m →
    θ_run (Cert.GluDwIdeal.defs (F := Ideal)) (onTc (τ := Cert.GluDwIdeal.τ) (Cert.GluDwIdeal.main (F := Ideal))) ⟨m, fun _ => 0, g⟩ (fun r => (∀ c : Dev Cert.GluDwIdeal.nD,
      r.2.mem ((c.tc : Thread Cert.GluDwIdeal.nD Cert.GluDwIdeal.τ).loc Cert.GluDwIdeal.main_arg0) = m ((c.tc : Thread Cert.GluDwIdeal.nD Cert.GluDwIdeal.τ).loc Cert.GluDwIdeal.main_arg0)
      ∧ r.2.mem ((c.tc : Thread Cert.GluDwIdeal.nD Cert.GluDwIdeal.τ).loc Cert.GluDwIdeal.main_arg1) = m ((c.tc : Thread Cert.GluDwIdeal.nD Cert.GluDwIdeal.τ).loc Cert.GluDwIdeal.main_arg1))
      ∧ r.2.sem = fun _ => 0)

def quiescent_GluDwRefIdeal [hGluDwRefIdeal : Cert.GluDwRefIdeal.Facts] : Prop :=
  ∀ (m : (ℓ : Loc Cert.GluDwRefIdeal.nD Cert.GluDwRefIdeal.τ Cert.GluDwRefIdeal.sig) → Buf (Elt Ideal) ℓ) (g : Dev Cert.GluDwRefIdeal.nD → PrngReg), Pre_GluDwRefIdeal m →
    θ_run (Cert.GluDwRefIdeal.defs (F := Ideal)) (onTc (τ := Cert.GluDwRefIdeal.τ) (Cert.GluDwRefIdeal.main (F := Ideal))) ⟨m, fun _ => 0, g⟩ (fun r => (∀ c : Dev Cert.GluDwRefIdeal.nD,
      r.2.mem ((c.tc : Thread Cert.GluDwRefIdeal.nD Cert.GluDwRefIdeal.τ).loc Cert.GluDwRefIdeal.main_arg0) = m ((c.tc : Thread Cert.GluDwRefIdeal.nD Cert.GluDwRefIdeal.τ).loc Cert.GluDwRefIdeal.main_arg0)
      ∧ r.2.mem ((c.tc : Thread Cert.GluDwRefIdeal.nD Cert.GluDwRefIdeal.τ).loc Cert.GluDwRefIdeal.main_arg1) = m ((c.tc : Thread Cert.GluDwRefIdeal.nD Cert.GluDwRefIdeal.τ).loc Cert.GluDwRefIdeal.main_arg1))
      ∧ r.2.sem = fun _ => 0)

def quiescent_RwIn [hRwIn : Cert.RwIn.Facts] : Prop :=
  ∀ (m : (ℓ : Loc Cert.RwIn.nD Cert.RwIn.τ Cert.RwIn.sig) → Buf (Elt Bits) ℓ) (g : Dev Cert.RwIn.nD → PrngReg), Pre_RwIn m →
    θ_run (Cert.RwIn.defs (F := Bits)) (onTc (τ := Cert.RwIn.τ) (Cert.RwIn.main (F := Bits))) ⟨m, fun _ => 0, g⟩ (fun r => (∀ c : Dev Cert.RwIn.nD,
      r.2.mem ((c.tc : Thread Cert.RwIn.nD Cert.RwIn.τ).loc Cert.RwIn.main_arg0) = m ((c.tc : Thread Cert.RwIn.nD Cert.RwIn.τ).loc Cert.RwIn.main_arg0)
      ∧ r.2.mem ((c.tc : Thread Cert.RwIn.nD Cert.RwIn.τ).loc Cert.RwIn.main_arg1) = m ((c.tc : Thread Cert.RwIn.nD Cert.RwIn.τ).loc Cert.RwIn.main_arg1))
      ∧ r.2.sem = fun _ => 0)

def quiescent_RwInIdeal [hRwInIdeal : Cert.RwInIdeal.Facts] : Prop :=
  ∀ (m : (ℓ : Loc Cert.RwInIdeal.nD Cert.RwInIdeal.τ Cert.RwInIdeal.sig) → Buf (Elt Ideal) ℓ) (g : Dev Cert.RwInIdeal.nD → PrngReg), Pre_RwInIdeal m →
    θ_run (Cert.RwInIdeal.defs (F := Ideal)) (onTc (τ := Cert.RwInIdeal.τ) (Cert.RwInIdeal.main (F := Ideal))) ⟨m, fun _ => 0, g⟩ (fun r => (∀ c : Dev Cert.RwInIdeal.nD,
      r.2.mem ((c.tc : Thread Cert.RwInIdeal.nD Cert.RwInIdeal.τ).loc Cert.RwInIdeal.main_arg0) = m ((c.tc : Thread Cert.RwInIdeal.nD Cert.RwInIdeal.τ).loc Cert.RwInIdeal.main_arg0)
      ∧ r.2.mem ((c.tc : Thread Cert.RwInIdeal.nD Cert.RwInIdeal.τ).loc Cert.RwInIdeal.main_arg1) = m ((c.tc : Thread Cert.RwInIdeal.nD Cert.RwInIdeal.τ).loc Cert.RwInIdeal.main_arg1))
      ∧ r.2.sem = fun _ => 0)

def quiescent_RwInRefIdeal [hRwInRefIdeal : Cert.RwInRefIdeal.Facts] : Prop :=
  ∀ (m : (ℓ : Loc Cert.RwInRefIdeal.nD Cert.RwInRefIdeal.τ Cert.RwInRefIdeal.sig) → Buf (Elt Ideal) ℓ) (g : Dev Cert.RwInRefIdeal.nD → PrngReg), Pre_RwInRefIdeal m →
    θ_run (Cert.RwInRefIdeal.defs (F := Ideal)) (onTc (τ := Cert.RwInRefIdeal.τ) (Cert.RwInRefIdeal.main (F := Ideal))) ⟨m, fun _ => 0, g⟩ (fun r => (∀ c : Dev Cert.RwInRefIdeal.nD,
      r.2.mem ((c.tc : Thread Cert.RwInRefIdeal.nD Cert.RwInRefIdeal.τ).loc Cert.RwInRefIdeal.main_arg0) = m ((c.tc : Thread Cert.RwInRefIdeal.nD Cert.RwInRefIdeal.τ).loc Cert.RwInRefIdeal.main_arg0)
      ∧ r.2.mem ((c.tc : Thread Cert.RwInRefIdeal.nD Cert.RwInRefIdeal.τ).loc Cert.RwInRefIdeal.main_arg1) = m ((c.tc : Thread Cert.RwInRefIdeal.nD Cert.RwInRefIdeal.τ).loc Cert.RwInRefIdeal.main_arg1))
      ∧ r.2.sem = fun _ => 0)

def quiescent_RwOut [hRwOut : Cert.RwOut.Facts] : Prop :=
  ∀ (m : (ℓ : Loc Cert.RwOut.nD Cert.RwOut.τ Cert.RwOut.sig) → Buf (Elt Bits) ℓ) (g : Dev Cert.RwOut.nD → PrngReg), Pre_RwOut m →
    θ_run (Cert.RwOut.defs (F := Bits)) (onTc (τ := Cert.RwOut.τ) (Cert.RwOut.main (F := Bits))) ⟨m, fun _ => 0, g⟩ (fun r => (∀ c : Dev Cert.RwOut.nD,
      r.2.mem ((c.tc : Thread Cert.RwOut.nD Cert.RwOut.τ).loc Cert.RwOut.main_arg0) = m ((c.tc : Thread Cert.RwOut.nD Cert.RwOut.τ).loc Cert.RwOut.main_arg0)
      ∧ r.2.mem ((c.tc : Thread Cert.RwOut.nD Cert.RwOut.τ).loc Cert.RwOut.main_arg1) = m ((c.tc : Thread Cert.RwOut.nD Cert.RwOut.τ).loc Cert.RwOut.main_arg1))
      ∧ r.2.sem = fun _ => 0)

def quiescent_RwOutIdeal [hRwOutIdeal : Cert.RwOutIdeal.Facts] : Prop :=
  ∀ (m : (ℓ : Loc Cert.RwOutIdeal.nD Cert.RwOutIdeal.τ Cert.RwOutIdeal.sig) → Buf (Elt Ideal) ℓ) (g : Dev Cert.RwOutIdeal.nD → PrngReg), Pre_RwOutIdeal m →
    θ_run (Cert.RwOutIdeal.defs (F := Ideal)) (onTc (τ := Cert.RwOutIdeal.τ) (Cert.RwOutIdeal.main (F := Ideal))) ⟨m, fun _ => 0, g⟩ (fun r => (∀ c : Dev Cert.RwOutIdeal.nD,
      r.2.mem ((c.tc : Thread Cert.RwOutIdeal.nD Cert.RwOutIdeal.τ).loc Cert.RwOutIdeal.main_arg0) = m ((c.tc : Thread Cert.RwOutIdeal.nD Cert.RwOutIdeal.τ).loc Cert.RwOutIdeal.main_arg0)
      ∧ r.2.mem ((c.tc : Thread Cert.RwOutIdeal.nD Cert.RwOutIdeal.τ).loc Cert.RwOutIdeal.main_arg1) = m ((c.tc : Thread Cert.RwOutIdeal.nD Cert.RwOutIdeal.τ).loc Cert.RwOutIdeal.main_arg1))
      ∧ r.2.sem = fun _ => 0)

def quiescent_RwOutRefIdeal [hRwOutRefIdeal : Cert.RwOutRefIdeal.Facts] : Prop :=
  ∀ (m : (ℓ : Loc Cert.RwOutRefIdeal.nD Cert.RwOutRefIdeal.τ Cert.RwOutRefIdeal.sig) → Buf (Elt Ideal) ℓ) (g : Dev Cert.RwOutRefIdeal.nD → PrngReg), Pre_RwOutRefIdeal m →
    θ_run (Cert.RwOutRefIdeal.defs (F := Ideal)) (onTc (τ := Cert.RwOutRefIdeal.τ) (Cert.RwOutRefIdeal.main (F := Ideal))) ⟨m, fun _ => 0, g⟩ (fun r => (∀ c : Dev Cert.RwOutRefIdeal.nD,
      r.2.mem ((c.tc : Thread Cert.RwOutRefIdeal.nD Cert.RwOutRefIdeal.τ).loc Cert.RwOutRefIdeal.main_arg0) = m ((c.tc : Thread Cert.RwOutRefIdeal.nD Cert.RwOutRefIdeal.τ).loc Cert.RwOutRefIdeal.main_arg0)
      ∧ r.2.mem ((c.tc : Thread Cert.RwOutRefIdeal.nD Cert.RwOutRefIdeal.τ).loc Cert.RwOutRefIdeal.main_arg1) = m ((c.tc : Thread Cert.RwOutRefIdeal.nD Cert.RwOutRefIdeal.τ).loc Cert.RwOutRefIdeal.main_arg1))
      ∧ r.2.sem = fun _ => 0)

def quiescent_RwDx [hRwDx : Cert.RwDx.Facts] : Prop :=
  ∀ (m : (ℓ : Loc Cert.RwDx.nD Cert.RwDx.τ Cert.RwDx.sig) → Buf (Elt Bits) ℓ) (g : Dev Cert.RwDx.nD → PrngReg), Pre_RwDx m →
    θ_run (Cert.RwDx.defs (F := Bits)) (onTc (τ := Cert.RwDx.τ) (Cert.RwDx.main (F := Bits))) ⟨m, fun _ => 0, g⟩ (fun r => (∀ c : Dev Cert.RwDx.nD,
      r.2.mem ((c.tc : Thread Cert.RwDx.nD Cert.RwDx.τ).loc Cert.RwDx.main_arg0) = m ((c.tc : Thread Cert.RwDx.nD Cert.RwDx.τ).loc Cert.RwDx.main_arg0)
      ∧ r.2.mem ((c.tc : Thread Cert.RwDx.nD Cert.RwDx.τ).loc Cert.RwDx.main_arg1) = m ((c.tc : Thread Cert.RwDx.nD Cert.RwDx.τ).loc Cert.RwDx.main_arg1))
      ∧ r.2.sem = fun _ => 0)

def quiescent_RwDxIdeal [hRwDxIdeal : Cert.RwDxIdeal.Facts] : Prop :=
  ∀ (m : (ℓ : Loc Cert.RwDxIdeal.nD Cert.RwDxIdeal.τ Cert.RwDxIdeal.sig) → Buf (Elt Ideal) ℓ) (g : Dev Cert.RwDxIdeal.nD → PrngReg), Pre_RwDxIdeal m →
    θ_run (Cert.RwDxIdeal.defs (F := Ideal)) (onTc (τ := Cert.RwDxIdeal.τ) (Cert.RwDxIdeal.main (F := Ideal))) ⟨m, fun _ => 0, g⟩ (fun r => (∀ c : Dev Cert.RwDxIdeal.nD,
      r.2.mem ((c.tc : Thread Cert.RwDxIdeal.nD Cert.RwDxIdeal.τ).loc Cert.RwDxIdeal.main_arg0) = m ((c.tc : Thread Cert.RwDxIdeal.nD Cert.RwDxIdeal.τ).loc Cert.RwDxIdeal.main_arg0)
      ∧ r.2.mem ((c.tc : Thread Cert.RwDxIdeal.nD Cert.RwDxIdeal.τ).loc Cert.RwDxIdeal.main_arg1) = m ((c.tc : Thread Cert.RwDxIdeal.nD Cert.RwDxIdeal.τ).loc Cert.RwDxIdeal.main_arg1))
      ∧ r.2.sem = fun _ => 0)

def quiescent_RwDxRefIdeal [hRwDxRefIdeal : Cert.RwDxRefIdeal.Facts] : Prop :=
  ∀ (m : (ℓ : Loc Cert.RwDxRefIdeal.nD Cert.RwDxRefIdeal.τ Cert.RwDxRefIdeal.sig) → Buf (Elt Ideal) ℓ) (g : Dev Cert.RwDxRefIdeal.nD → PrngReg), Pre_RwDxRefIdeal m →
    θ_run (Cert.RwDxRefIdeal.defs (F := Ideal)) (onTc (τ := Cert.RwDxRefIdeal.τ) (Cert.RwDxRefIdeal.main (F := Ideal))) ⟨m, fun _ => 0, g⟩ (fun r => (∀ c : Dev Cert.RwDxRefIdeal.nD,
      r.2.mem ((c.tc : Thread Cert.RwDxRefIdeal.nD Cert.RwDxRefIdeal.τ).loc Cert.RwDxRefIdeal.main_arg0) = m ((c.tc : Thread Cert.RwDxRefIdeal.nD Cert.RwDxRefIdeal.τ).loc Cert.RwDxRefIdeal.main_arg0)
      ∧ r.2.mem ((c.tc : Thread Cert.RwDxRefIdeal.nD Cert.RwDxRefIdeal.τ).loc Cert.RwDxRefIdeal.main_arg1) = m ((c.tc : Thread Cert.RwDxRefIdeal.nD Cert.RwDxRefIdeal.τ).loc Cert.RwDxRefIdeal.main_arg1))
      ∧ r.2.sem = fun _ => 0)

def quiescent_RwDw [hRwDw : Cert.RwDw.Facts] : Prop :=
  ∀ (m : (ℓ : Loc Cert.RwDw.nD Cert.RwDw.τ Cert.RwDw.sig) → Buf (Elt Bits) ℓ) (g : Dev Cert.RwDw.nD → PrngReg), Pre_RwDw m →
    θ_run (Cert.RwDw.defs (F := Bits)) (onTc (τ := Cert.RwDw.τ) (Cert.RwDw.main (F := Bits))) ⟨m, fun _ => 0, g⟩ (fun r => (∀ c : Dev Cert.RwDw.nD,
      r.2.mem ((c.tc : Thread Cert.RwDw.nD Cert.RwDw.τ).loc Cert.RwDw.main_arg0) = m ((c.tc : Thread Cert.RwDw.nD Cert.RwDw.τ).loc Cert.RwDw.main_arg0)
      ∧ r.2.mem ((c.tc : Thread Cert.RwDw.nD Cert.RwDw.τ).loc Cert.RwDw.main_arg1) = m ((c.tc : Thread Cert.RwDw.nD Cert.RwDw.τ).loc Cert.RwDw.main_arg1))
      ∧ r.2.sem = fun _ => 0)

def quiescent_RwDwIdeal [hRwDwIdeal : Cert.RwDwIdeal.Facts] : Prop :=
  ∀ (m : (ℓ : Loc Cert.RwDwIdeal.nD Cert.RwDwIdeal.τ Cert.RwDwIdeal.sig) → Buf (Elt Ideal) ℓ) (g : Dev Cert.RwDwIdeal.nD → PrngReg), Pre_RwDwIdeal m →
    θ_run (Cert.RwDwIdeal.defs (F := Ideal)) (onTc (τ := Cert.RwDwIdeal.τ) (Cert.RwDwIdeal.main (F := Ideal))) ⟨m, fun _ => 0, g⟩ (fun r => (∀ c : Dev Cert.RwDwIdeal.nD,
      r.2.mem ((c.tc : Thread Cert.RwDwIdeal.nD Cert.RwDwIdeal.τ).loc Cert.RwDwIdeal.main_arg0) = m ((c.tc : Thread Cert.RwDwIdeal.nD Cert.RwDwIdeal.τ).loc Cert.RwDwIdeal.main_arg0)
      ∧ r.2.mem ((c.tc : Thread Cert.RwDwIdeal.nD Cert.RwDwIdeal.τ).loc Cert.RwDwIdeal.main_arg1) = m ((c.tc : Thread Cert.RwDwIdeal.nD Cert.RwDwIdeal.τ).loc Cert.RwDwIdeal.main_arg1))
      ∧ r.2.sem = fun _ => 0)

def quiescent_RwDwRefIdeal [hRwDwRefIdeal : Cert.RwDwRefIdeal.Facts] : Prop :=
  ∀ (m : (ℓ : Loc Cert.RwDwRefIdeal.nD Cert.RwDwRefIdeal.τ Cert.RwDwRefIdeal.sig) → Buf (Elt Ideal) ℓ) (g : Dev Cert.RwDwRefIdeal.nD → PrngReg), Pre_RwDwRefIdeal m →
    θ_run (Cert.RwDwRefIdeal.defs (F := Ideal)) (onTc (τ := Cert.RwDwRefIdeal.τ) (Cert.RwDwRefIdeal.main (F := Ideal))) ⟨m, fun _ => 0, g⟩ (fun r => (∀ c : Dev Cert.RwDwRefIdeal.nD,
      r.2.mem ((c.tc : Thread Cert.RwDwRefIdeal.nD Cert.RwDwRefIdeal.τ).loc Cert.RwDwRefIdeal.main_arg0) = m ((c.tc : Thread Cert.RwDwRefIdeal.nD Cert.RwDwRefIdeal.τ).loc Cert.RwDwRefIdeal.main_arg0)
      ∧ r.2.mem ((c.tc : Thread Cert.RwDwRefIdeal.nD Cert.RwDwRefIdeal.τ).loc Cert.RwDwRefIdeal.main_arg1) = m ((c.tc : Thread Cert.RwDwRefIdeal.nD Cert.RwDwRefIdeal.τ).loc Cert.RwDwRefIdeal.main_arg1))
      ∧ r.2.sem = fun _ => 0)

def quiescent_LnBwd [hLnBwd : Cert.LnBwd.Facts] : Prop :=
  ∀ (m : (ℓ : Loc Cert.LnBwd.nD Cert.LnBwd.τ Cert.LnBwd.sig) → Buf (Elt Bits) ℓ) (g : Dev Cert.LnBwd.nD → PrngReg), Pre_LnBwd m →
    θ_run (Cert.LnBwd.defs (F := Bits)) (onTc (τ := Cert.LnBwd.τ) (Cert.LnBwd.main (F := Bits))) ⟨m, fun _ => 0, g⟩ (fun r => (∀ c : Dev Cert.LnBwd.nD,
      r.2.mem ((c.tc : Thread Cert.LnBwd.nD Cert.LnBwd.τ).loc Cert.LnBwd.main_arg0) = m ((c.tc : Thread Cert.LnBwd.nD Cert.LnBwd.τ).loc Cert.LnBwd.main_arg0)
      ∧ r.2.mem ((c.tc : Thread Cert.LnBwd.nD Cert.LnBwd.τ).loc Cert.LnBwd.main_arg1) = m ((c.tc : Thread Cert.LnBwd.nD Cert.LnBwd.τ).loc Cert.LnBwd.main_arg1)
      ∧ r.2.mem ((c.tc : Thread Cert.LnBwd.nD Cert.LnBwd.τ).loc Cert.LnBwd.main_arg2) = m ((c.tc : Thread Cert.LnBwd.nD Cert.LnBwd.τ).loc Cert.LnBwd.main_arg2)
      ∧ r.2.mem ((c.tc : Thread Cert.LnBwd.nD Cert.LnBwd.τ).loc Cert.LnBwd.main_arg3) = m ((c.tc : Thread Cert.LnBwd.nD Cert.LnBwd.τ).loc Cert.LnBwd.main_arg3)
      ∧ r.2.mem ((c.tc : Thread Cert.LnBwd.nD Cert.LnBwd.τ).loc Cert.LnBwd.main_arg4) = m ((c.tc : Thread Cert.LnBwd.nD Cert.LnBwd.τ).loc Cert.LnBwd.main_arg4))
      ∧ r.2.sem = fun _ => 0)

def quiescent_LnBwdIdeal [hLnBwdIdeal : Cert.LnBwdIdeal.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
      ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3)
      ∧ r.2.mem ((c.tc : Thread Cert.LnBwdIdeal.nD Cert.LnBwdIdeal.τ).loc Cert.LnBwdIdeal.main_arg4) = m ((c.tc : Thread Cert.LnBwdIdeal.nD Cert.LnBwdIdeal.τ).loc Cert.LnBwdIdeal.main_arg4))
      ∧ r.2.sem = fun _ => 0)

def quiescent_LnBwdRefIdeal [hLnBwdRefIdeal : Cert.LnBwdRefIdeal.Facts] : Prop :=
  ∀ (m : (ℓ : Loc Cert.LnBwdRefIdeal.nD Cert.LnBwdRefIdeal.τ Cert.LnBwdRefIdeal.sig) → Buf (Elt Ideal) ℓ) (g : Dev Cert.LnBwdRefIdeal.nD → PrngReg), Pre_LnBwdRefIdeal m →
    θ_run (Cert.LnBwdRefIdeal.defs (F := Ideal)) (onTc (τ := Cert.LnBwdRefIdeal.τ) (Cert.LnBwdRefIdeal.main (F := Ideal))) ⟨m, fun _ => 0, g⟩ (fun r => (∀ c : Dev Cert.LnBwdRefIdeal.nD,
      r.2.mem ((c.tc : Thread Cert.LnBwdRefIdeal.nD Cert.LnBwdRefIdeal.τ).loc Cert.LnBwdRefIdeal.main_arg0) = m ((c.tc : Thread Cert.LnBwdRefIdeal.nD Cert.LnBwdRefIdeal.τ).loc Cert.LnBwdRefIdeal.main_arg0)
      ∧ r.2.mem ((c.tc : Thread Cert.LnBwdRefIdeal.nD Cert.LnBwdRefIdeal.τ).loc Cert.LnBwdRefIdeal.main_arg1) = m ((c.tc : Thread Cert.LnBwdRefIdeal.nD Cert.LnBwdRefIdeal.τ).loc Cert.LnBwdRefIdeal.main_arg1)
      ∧ r.2.mem ((c.tc : Thread Cert.LnBwdRefIdeal.nD Cert.LnBwdRefIdeal.τ).loc Cert.LnBwdRefIdeal.main_arg2) = m ((c.tc : Thread Cert.LnBwdRefIdeal.nD Cert.LnBwdRefIdeal.τ).loc Cert.LnBwdRefIdeal.main_arg2)
      ∧ r.2.mem ((c.tc : Thread Cert.LnBwdRefIdeal.nD Cert.LnBwdRefIdeal.τ).loc Cert.LnBwdRefIdeal.main_arg3) = m ((c.tc : Thread Cert.LnBwdRefIdeal.nD Cert.LnBwdRefIdeal.τ).loc Cert.LnBwdRefIdeal.main_arg3)
      ∧ r.2.mem ((c.tc : Thread Cert.LnBwdRefIdeal.nD Cert.LnBwdRefIdeal.τ).loc Cert.LnBwdRefIdeal.main_arg4) = m ((c.tc : Thread Cert.LnBwdRefIdeal.nD Cert.LnBwdRefIdeal.τ).loc Cert.LnBwdRefIdeal.main_arg4))
      ∧ r.2.sem = fun _ => 0)

def quiescent_Ln [hLn : Cert.Ln.Facts] : Prop :=
  ∀ (m : (ℓ : Loc Cert.Ln.nD Cert.Ln.τ Cert.Ln.sig) → Buf (Elt Bits) ℓ) (g : Dev Cert.Ln.nD → PrngReg), Pre_Ln m →
    θ_run (Cert.Ln.defs (F := Bits)) (onTc (τ := Cert.Ln.τ) (Cert.Ln.main (F := Bits))) ⟨m, fun _ => 0, g⟩ (fun r => (∀ c : Dev Cert.Ln.nD,
      r.2.mem ((c.tc : Thread Cert.Ln.nD Cert.Ln.τ).loc Cert.Ln.main_arg0) = m ((c.tc : Thread Cert.Ln.nD Cert.Ln.τ).loc Cert.Ln.main_arg0)
      ∧ r.2.mem ((c.tc : Thread Cert.Ln.nD Cert.Ln.τ).loc Cert.Ln.main_arg1) = m ((c.tc : Thread Cert.Ln.nD Cert.Ln.τ).loc Cert.Ln.main_arg1)
      ∧ r.2.mem ((c.tc : Thread Cert.Ln.nD Cert.Ln.τ).loc Cert.Ln.main_arg2) = m ((c.tc : Thread Cert.Ln.nD Cert.Ln.τ).loc Cert.Ln.main_arg2)
      ∧ r.2.mem ((c.tc : Thread Cert.Ln.nD Cert.Ln.τ).loc Cert.Ln.main_arg3) = m ((c.tc : Thread Cert.Ln.nD Cert.Ln.τ).loc Cert.Ln.main_arg3))
      ∧ r.2.sem = fun _ => 0)

def quiescent_LnIdeal [hLnIdeal : Cert.LnIdeal.Facts] : Prop :=
  ∀ (m : (ℓ : Loc Cert.LnIdeal.nD Cert.LnIdeal.τ Cert.LnIdeal.sig) → Buf (Elt Ideal) ℓ) (g : Dev Cert.LnIdeal.nD → PrngReg), Pre_LnIdeal m →
    θ_run (Cert.LnIdeal.defs (F := Ideal)) (onTc (τ := Cert.LnIdeal.τ) (Cert.LnIdeal.main (F := Ideal))) ⟨m, fun _ => 0, g⟩ (fun r => (∀ c : Dev Cert.LnIdeal.nD,
      r.2.mem ((c.tc : Thread Cert.LnIdeal.nD Cert.LnIdeal.τ).loc Cert.LnIdeal.main_arg0) = m ((c.tc : Thread Cert.LnIdeal.nD Cert.LnIdeal.τ).loc Cert.LnIdeal.main_arg0)
      ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
      ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
      ∧ r.2.mem ((c.tc : Thread Cert.LnIdeal.nD Cert.LnIdeal.τ).loc Cert.LnIdeal.main_arg3) = m ((c.tc : Thread Cert.LnIdeal.nD Cert.LnIdeal.τ).loc Cert.LnIdeal.main_arg3))
      ∧ r.2.sem = fun _ => 0)

def quiescent_LnRefIdeal [hLnRefIdeal : Cert.LnRefIdeal.Facts] : Prop :=
  ∀ (m : (ℓ : Loc Cert.LnRefIdeal.nD Cert.LnRefIdeal.τ Cert.LnRefIdeal.sig) → Buf (Elt Ideal) ℓ) (g : Dev Cert.LnRefIdeal.nD → PrngReg), Pre_LnRefIdeal m →
    θ_run (Cert.LnRefIdeal.defs (F := Ideal)) (onTc (τ := Cert.LnRefIdeal.τ) (Cert.LnRefIdeal.main (F := Ideal))) ⟨m, fun _ => 0, g⟩ (fun r => (∀ c : Dev Cert.LnRefIdeal.nD,
      r.2.mem ((c.tc : Thread Cert.LnRefIdeal.nD Cert.LnRefIdeal.τ).loc Cert.LnRefIdeal.main_arg0) = m ((c.tc : Thread Cert.LnRefIdeal.nD Cert.LnRefIdeal.τ).loc Cert.LnRefIdeal.main_arg0)
      ∧ r.2.mem ((c.tc : Thread Cert.LnRefIdeal.nD Cert.LnRefIdeal.τ).loc Cert.LnRefIdeal.main_arg1) = m ((c.tc : Thread Cert.LnRefIdeal.nD Cert.LnRefIdeal.τ).loc Cert.LnRefIdeal.main_arg1)
      ∧ r.2.mem ((c.tc : Thread Cert.LnRefIdeal.nD Cert.LnRefIdeal.τ).loc Cert.LnRefIdeal.main_arg2) = m ((c.tc : Thread Cert.LnRefIdeal.nD Cert.LnRefIdeal.τ).loc Cert.LnRefIdeal.main_arg2)
      ∧ r.2.mem ((c.tc : Thread Cert.LnRefIdeal.nD Cert.LnRefIdeal.τ).loc Cert.LnRefIdeal.main_arg3) = m ((c.tc : Thread Cert.LnRefIdeal.nD Cert.LnRefIdeal.τ).loc Cert.LnRefIdeal.main_arg3))
      ∧ r.2.sem = fun _ => 0)

def quiescent_Ln0 [hLn0 : Cert.Ln0.Facts] : Prop :=
  ∀ (m : (ℓ : Loc Cert.Ln0.nD Cert.Ln0.τ Cert.Ln0.sig) → Buf (Elt Bits) ℓ) (g : Dev Cert.Ln0.nD → PrngReg), Pre_Ln0 m →
    θ_run (Cert.Ln0.defs (F := Bits)) (onTc (τ := Cert.Ln0.τ) (Cert.Ln0.main (F := Bits))) ⟨m, fun _ => 0, g⟩ (fun r => (∀ c : Dev Cert.Ln0.nD,
      r.2.mem ((c.tc : Thread Cert.Ln0.nD Cert.Ln0.τ).loc Cert.Ln0.main_arg0) = m ((c.tc : Thread Cert.Ln0.nD Cert.Ln0.τ).loc Cert.Ln0.main_arg0)
      ∧ r.2.mem ((c.tc : Thread Cert.Ln0.nD Cert.Ln0.τ).loc Cert.Ln0.main_arg1) = m ((c.tc : Thread Cert.Ln0.nD Cert.Ln0.τ).loc Cert.Ln0.main_arg1)
      ∧ r.2.mem ((c.tc : Thread Cert.Ln0.nD Cert.Ln0.τ).loc Cert.Ln0.main_arg2) = m ((c.tc : Thread Cert.Ln0.nD Cert.Ln0.τ).loc Cert.Ln0.main_arg2)
      ∧ r.2.mem ((c.tc : Thread Cert.Ln0.nD Cert.Ln0.τ).loc Cert.Ln0.main_arg3) = m ((c.tc : Thread Cert.Ln0.nD Cert.Ln0.τ).loc Cert.Ln0.main_arg3))
      ∧ r.2.sem = fun _ => 0)

def quiescent_Ln0Ideal [hLn0Ideal : Cert.Ln0Ideal.Facts] : Prop :=
  ∀ (m : (ℓ : Loc Cert.Ln0Ideal.nD Cert.Ln0Ideal.τ Cert.Ln0Ideal.sig) → Buf (Elt Ideal) ℓ) (g : Dev Cert.Ln0Ideal.nD → PrngReg), Pre_Ln0Ideal m →
    θ_run (Cert.Ln0Ideal.defs (F := Ideal)) (onTc (τ := Cert.Ln0Ideal.τ) (Cert.Ln0Ideal.main (F := Ideal))) ⟨m, fun _ => 0, g⟩ (fun r => (∀ c : Dev Cert.Ln0Ideal.nD,
      r.2.mem ((c.tc : Thread Cert.Ln0Ideal.nD Cert.Ln0Ideal.τ).loc Cert.Ln0Ideal.main_arg0) = m ((c.tc : Thread Cert.Ln0Ideal.nD Cert.Ln0Ideal.τ).loc Cert.Ln0Ideal.main_arg0)
      ∧ r.2.mem ((c.tc : Thread Cert.Ln0Ideal.nD Cert.Ln0Ideal.τ).loc Cert.Ln0Ideal.main_arg1) = m ((c.tc : Thread Cert.Ln0Ideal.nD Cert.Ln0Ideal.τ).loc Cert.Ln0Ideal.main_arg1)
      ∧ r.2.mem ((c.tc : Thread Cert.Ln0Ideal.nD Cert.Ln0Ideal.τ).loc Cert.Ln0Ideal.main_arg2) = m ((c.tc : Thread Cert.Ln0Ideal.nD Cert.Ln0Ideal.τ).loc Cert.Ln0Ideal.main_arg2)
      ∧ r.2.mem ((c.tc : Thread Cert.Ln0Ideal.nD Cert.Ln0Ideal.τ).loc Cert.Ln0Ideal.main_arg3) = m ((c.tc : Thread Cert.Ln0Ideal.nD Cert.Ln0Ideal.τ).loc Cert.Ln0Ideal.main_arg3))
      ∧ r.2.sem = fun _ => 0)

def quiescent_Ln0RefIdeal [hLn0RefIdeal : Cert.Ln0RefIdeal.Facts] : Prop :=
  ∀ (m : (ℓ : Loc Cert.Ln0RefIdeal.nD Cert.Ln0RefIdeal.τ Cert.Ln0RefIdeal.sig) → Buf (Elt Ideal) ℓ) (g : Dev Cert.Ln0RefIdeal.nD → PrngReg), Pre_Ln0RefIdeal m →
    θ_run (Cert.Ln0RefIdeal.defs (F := Ideal)) (onTc (τ := Cert.Ln0RefIdeal.τ) (Cert.Ln0RefIdeal.main (F := Ideal))) ⟨m, fun _ => 0, g⟩ (fun r => (∀ c : Dev Cert.Ln0RefIdeal.nD,
      r.2.mem ((c.tc : Thread Cert.Ln0RefIdeal.nD Cert.Ln0RefIdeal.τ).loc Cert.Ln0RefIdeal.main_arg0) = m ((c.tc : Thread Cert.Ln0RefIdeal.nD Cert.Ln0RefIdeal.τ).loc Cert.Ln0RefIdeal.main_arg0)
      ∧ r.2.mem ((c.tc : Thread Cert.Ln0RefIdeal.nD Cert.Ln0RefIdeal.τ).loc Cert.Ln0RefIdeal.main_arg1) = m ((c.tc : Thread Cert.Ln0RefIdeal.nD Cert.Ln0RefIdeal.τ).loc Cert.Ln0RefIdeal.main_arg1)
      ∧ r.2.mem ((c.tc : Thread Cert.Ln0RefIdeal.nD Cert.Ln0RefIdeal.τ).loc Cert.Ln0RefIdeal.main_arg2) = m ((c.tc : Thread Cert.Ln0RefIdeal.nD Cert.Ln0RefIdeal.τ).loc Cert.Ln0RefIdeal.main_arg2)
      ∧ r.2.mem ((c.tc : Thread Cert.Ln0RefIdeal.nD Cert.Ln0RefIdeal.τ).loc Cert.Ln0RefIdeal.main_arg3) = m ((c.tc : Thread Cert.Ln0RefIdeal.nD Cert.Ln0RefIdeal.τ).loc Cert.Ln0RefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_GluLnBwd [hGluLnBwd : Cert.GluLnBwd.Facts] : Prop :=
  ∀ (m : (ℓ : Loc Cert.GluLnBwd.nD Cert.GluLnBwd.τ Cert.GluLnBwd.sig) → Buf (Elt Bits) ℓ) (g : Dev Cert.GluLnBwd.nD → PrngReg), Pre_GluLnBwd m →
    θ_run (Cert.GluLnBwd.defs (F := Bits)) (onTc (τ := Cert.GluLnBwd.τ) (Cert.GluLnBwd.main (F := Bits))) ⟨m, fun _ => 0, g⟩ (fun r => (∀ c : Dev Cert.GluLnBwd.nD,
      r.2.mem ((c.tc : Thread Cert.GluLnBwd.nD Cert.GluLnBwd.τ).loc Cert.GluLnBwd.main_arg0) = m ((c.tc : Thread Cert.GluLnBwd.nD Cert.GluLnBwd.τ).loc Cert.GluLnBwd.main_arg0)
      ∧ r.2.mem ((c.tc : Thread Cert.GluLnBwd.nD Cert.GluLnBwd.τ).loc Cert.GluLnBwd.main_arg1) = m ((c.tc : Thread Cert.GluLnBwd.nD Cert.GluLnBwd.τ).loc Cert.GluLnBwd.main_arg1)
      ∧ r.2.mem ((c.tc : Thread Cert.GluLnBwd.nD Cert.GluLnBwd.τ).loc Cert.GluLnBwd.main_arg2) = m ((c.tc : Thread Cert.GluLnBwd.nD Cert.GluLnBwd.τ).loc Cert.GluLnBwd.main_arg2)
      ∧ r.2.mem ((c.tc : Thread Cert.GluLnBwd.nD Cert.GluLnBwd.τ).loc Cert.GluLnBwd.main_arg3) = m ((c.tc : Thread Cert.GluLnBwd.nD Cert.GluLnBwd.τ).loc Cert.GluLnBwd.main_arg3)
      ∧ r.2.mem ((c.tc : Thread Cert.GluLnBwd.nD Cert.GluLnBwd.τ).loc Cert.GluLnBwd.main_arg4) = m ((c.tc : Thread Cert.GluLnBwd.nD Cert.GluLnBwd.τ).loc Cert.GluLnBwd.main_arg4))
      ∧ r.2.sem = fun _ => 0)

def quiescent_GluLnBwdIdeal [hGluLnBwdIdeal : Cert.GluLnBwdIdeal.Facts] : Prop :=
  ∀ (m : (ℓ : Loc Cert.GluLnBwdIdeal.nD Cert.GluLnBwdIdeal.τ Cert.GluLnBwdIdeal.sig) → Buf (Elt Ideal) ℓ) (g : Dev Cert.GluLnBwdIdeal.nD → PrngReg), Pre_GluLnBwdIdeal m →
    θ_run (Cert.GluLnBwdIdeal.defs (F := Ideal)) (onTc (τ := Cert.GluLnBwdIdeal.τ) (Cert.GluLnBwdIdeal.main (F := Ideal))) ⟨m, fun _ => 0, g⟩ (fun r => (∀ c : Dev Cert.GluLnBwdIdeal.nD,
      r.2.mem ((c.tc : Thread Cert.GluLnBwdIdeal.nD Cert.GluLnBwdIdeal.τ).loc Cert.GluLnBwdIdeal.main_arg0) = m ((c.tc : Thread Cert.GluLnBwdIdeal.nD Cert.GluLnBwdIdeal.τ).loc Cert.GluLnBwdIdeal.main_arg0)
      ∧ r.2.mem ((c.tc : Thread Cert.GluLnBwdIdeal.nD Cert.GluLnBwdIdeal.τ).loc Cert.GluLnBwdIdeal.main_arg1) = m ((c.tc : Thread Cert.GluLnBwdIdeal.nD Cert.GluLnBwdIdeal.τ).loc Cert.GluLnBwdIdeal.main_arg1)
      ∧ r.2.mem ((c.tc : Thread Cert.GluLnBwdIdeal.nD Cert.GluLnBwdIdeal.τ).loc Cert.GluLnBwdIdeal.main_arg2) = m ((c.tc : Thread Cert.GluLnBwdIdeal.nD Cert.GluLnBwdIdeal.τ).loc Cert.GluLnBwdIdeal.main_arg2)
      ∧ r.2.mem ((c.tc : Thread Cert.GluLnBwdIdeal.nD Cert.GluLnBwdIdeal.τ).loc Cert.GluLnBwdIdeal.main_arg3) = m ((c.tc : Thread Cert.GluLnBwdIdeal.nD Cert.GluLnBwdIdeal.τ).loc Cert.GluLnBwdIdeal.main_arg3)
      ∧ r.2.mem ((c.tc : Thread Cert.GluLnBwdIdeal.nD Cert.GluLnBwdIdeal.τ).loc Cert.GluLnBwdIdeal.main_arg4) = m ((c.tc : Thread Cert.GluLnBwdIdeal.nD Cert.GluLnBwdIdeal.τ).loc Cert.GluLnBwdIdeal.main_arg4))
      ∧ r.2.sem = fun _ => 0)

def quiescent_GluLnBwdRefIdeal [hGluLnBwdRefIdeal : Cert.GluLnBwdRefIdeal.Facts] : Prop :=
  ∀ (m : (ℓ : Loc Cert.GluLnBwdRefIdeal.nD Cert.GluLnBwdRefIdeal.τ Cert.GluLnBwdRefIdeal.sig) → Buf (Elt Ideal) ℓ) (g : Dev Cert.GluLnBwdRefIdeal.nD → PrngReg), Pre_GluLnBwdRefIdeal m →
    θ_run (Cert.GluLnBwdRefIdeal.defs (F := Ideal)) (onTc (τ := Cert.GluLnBwdRefIdeal.τ) (Cert.GluLnBwdRefIdeal.main (F := Ideal))) ⟨m, fun _ => 0, g⟩ (fun r => (∀ c : Dev Cert.GluLnBwdRefIdeal.nD,
      r.2.mem ((c.tc : Thread Cert.GluLnBwdRefIdeal.nD Cert.GluLnBwdRefIdeal.τ).loc Cert.GluLnBwdRefIdeal.main_arg0) = m ((c.tc : Thread Cert.GluLnBwdRefIdeal.nD Cert.GluLnBwdRefIdeal.τ).loc Cert.GluLnBwdRefIdeal.main_arg0)
      ∧ r.2.mem ((c.tc : Thread Cert.GluLnBwdRefIdeal.nD Cert.GluLnBwdRefIdeal.τ).loc Cert.GluLnBwdRefIdeal.main_arg1) = m ((c.tc : Thread Cert.GluLnBwdRefIdeal.nD Cert.GluLnBwdRefIdeal.τ).loc Cert.GluLnBwdRefIdeal.main_arg1)
      ∧ r.2.mem ((c.tc : Thread Cert.GluLnBwdRefIdeal.nD Cert.GluLnBwdRefIdeal.τ).loc Cert.GluLnBwdRefIdeal.main_arg2) = m ((c.tc : Thread Cert.GluLnBwdRefIdeal.nD Cert.GluLnBwdRefIdeal.τ).loc Cert.GluLnBwdRefIdeal.main_arg2)
      ∧ r.2.mem ((c.tc : Thread Cert.GluLnBwdRefIdeal.nD Cert.GluLnBwdRefIdeal.τ).loc Cert.GluLnBwdRefIdeal.main_arg3) = m ((c.tc : Thread Cert.GluLnBwdRefIdeal.nD Cert.GluLnBwdRefIdeal.τ).loc Cert.GluLnBwdRefIdeal.main_arg3)
      ∧ r.2.mem ((c.tc : Thread Cert.GluLnBwdRefIdeal.nD Cert.GluLnBwdRefIdeal.τ).loc Cert.GluLnBwdRefIdeal.main_arg4) = m ((c.tc : Thread Cert.GluLnBwdRefIdeal.nD Cert.GluLnBwdRefIdeal.τ).loc Cert.GluLnBwdRefIdeal.main_arg4))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4))
      ∧ r.2.sem = fun _ => 0)

def quiescent_S5Bbar [hS5Bbar : Cert.S5Bbar.Facts] : Prop :=
  ∀ (m : (ℓ : Loc Cert.S5Bbar.nD Cert.S5Bbar.τ Cert.S5Bbar.sig) → Buf (Elt Bits) ℓ) (g : Dev Cert.S5Bbar.nD → PrngReg), Pre_S5Bbar m →
    θ_run (Cert.S5Bbar.defs (F := Bits)) (onTc (τ := Cert.S5Bbar.τ) (Cert.S5Bbar.main (F := Bits))) ⟨m, fun _ => 0, g⟩ (fun r => (∀ c : Dev Cert.S5Bbar.nD,
      r.2.mem ((c.tc : Thread Cert.S5Bbar.nD Cert.S5Bbar.τ).loc Cert.S5Bbar.main_arg0) = m ((c.tc : Thread Cert.S5Bbar.nD Cert.S5Bbar.τ).loc Cert.S5Bbar.main_arg0)
      ∧ r.2.mem ((c.tc : Thread Cert.S5Bbar.nD Cert.S5Bbar.τ).loc Cert.S5Bbar.main_arg1) = m ((c.tc : Thread Cert.S5Bbar.nD Cert.S5Bbar.τ).loc Cert.S5Bbar.main_arg1)
      ∧ r.2.mem ((c.tc : Thread Cert.S5Bbar.nD Cert.S5Bbar.τ).loc Cert.S5Bbar.main_arg2) = m ((c.tc : Thread Cert.S5Bbar.nD Cert.S5Bbar.τ).loc Cert.S5Bbar.main_arg2)
      ∧ r.2.mem ((c.tc : Thread Cert.S5Bbar.nD Cert.S5Bbar.τ).loc Cert.S5Bbar.main_arg3) = m ((c.tc : Thread Cert.S5Bbar.nD Cert.S5Bbar.τ).loc Cert.S5Bbar.main_arg3))
      ∧ r.2.sem = fun _ => 0)

def quiescent_S5BbarIdeal [hS5BbarIdeal : Cert.S5BbarIdeal.Facts] : Prop :=
  ∀ (m : (ℓ : Loc Cert.S5BbarIdeal.nD Cert.S5BbarIdeal.τ Cert.S5BbarIdeal.sig) → Buf (Elt Ideal) ℓ) (g : Dev Cert.S5BbarIdeal.nD → PrngReg), Pre_S5BbarIdeal m →
    θ_run (Cert.S5BbarIdeal.defs (F := Ideal)) (onTc (τ := Cert.S5BbarIdeal.τ) (Cert.S5BbarIdeal.main (F := Ideal))) ⟨m, fun _ => 0, g⟩ (fun r => (∀ c : Dev Cert.S5BbarIdeal.nD,
      r.2.mem ((c.tc : Thread Cert.S5BbarIdeal.nD Cert.S5BbarIdeal.τ).loc Cert.S5BbarIdeal.main_arg0) = m ((c.tc : Thread Cert.S5BbarIdeal.nD Cert.S5BbarIdeal.τ).loc Cert.S5BbarIdeal.main_arg0)
      ∧ r.2.mem ((c.tc : Thread Cert.S5BbarIdeal.nD Cert.S5BbarIdeal.τ).loc Cert.S5BbarIdeal.main_arg1) = m ((c.tc : Thread Cert.S5BbarIdeal.nD Cert.S5BbarIdeal.τ).loc Cert.S5BbarIdeal.main_arg1)
      ∧ r.2.mem ((c.tc : Thread Cert.S5BbarIdeal.nD Cert.S5BbarIdeal.τ).loc Cert.S5BbarIdeal.main_arg2) = m ((c.tc : Thread Cert.S5BbarIdeal.nD Cert.S5BbarIdeal.τ).loc Cert.S5BbarIdeal.main_arg2)
      ∧ r.2.mem ((c.tc : Thread Cert.S5BbarIdeal.nD Cert.S5BbarIdeal.τ).loc Cert.S5BbarIdeal.main_arg3) = m ((c.tc : Thread Cert.S5BbarIdeal.nD Cert.S5BbarIdeal.τ).loc Cert.S5BbarIdeal.main_arg3))
      ∧ r.2.sem = fun _ => 0)

def quiescent_S5BbarRefIdeal [hS5BbarRefIdeal : Cert.S5BbarRefIdeal.Facts] : Prop :=
  ∀ (m : (ℓ : Loc Cert.S5BbarRefIdeal.nD Cert.S5BbarRefIdeal.τ Cert.S5BbarRefIdeal.sig) → Buf (Elt Ideal) ℓ) (g : Dev Cert.S5BbarRefIdeal.nD → PrngReg), Pre_S5BbarRefIdeal m →
    θ_run (Cert.S5BbarRefIdeal.defs (F := Ideal)) (onTc (τ := Cert.S5BbarRefIdeal.τ) (Cert.S5BbarRefIdeal.main (F := Ideal))) ⟨m, fun _ => 0, g⟩ (fun r => (∀ c : Dev Cert.S5BbarRefIdeal.nD,
      r.2.mem ((c.tc : Thread Cert.S5BbarRefIdeal.nD Cert.S5BbarRefIdeal.τ).loc Cert.S5BbarRefIdeal.main_arg0) = m ((c.tc : Thread Cert.S5BbarRefIdeal.nD Cert.S5BbarRefIdeal.τ).loc Cert.S5BbarRefIdeal.main_arg0)
      ∧ r.2.mem ((c.tc : Thread Cert.S5BbarRefIdeal.nD Cert.S5BbarRefIdeal.τ).loc Cert.S5BbarRefIdeal.main_arg1) = m ((c.tc : Thread Cert.S5BbarRefIdeal.nD Cert.S5BbarRefIdeal.τ).loc Cert.S5BbarRefIdeal.main_arg1)
      ∧ r.2.mem ((c.tc : Thread Cert.S5BbarRefIdeal.nD Cert.S5BbarRefIdeal.τ).loc Cert.S5BbarRefIdeal.main_arg2) = m ((c.tc : Thread Cert.S5BbarRefIdeal.nD Cert.S5BbarRefIdeal.τ).loc Cert.S5BbarRefIdeal.main_arg2)
      ∧ r.2.mem ((c.tc : Thread Cert.S5BbarRefIdeal.nD Cert.S5BbarRefIdeal.τ).loc Cert.S5BbarRefIdeal.main_arg3) = m ((c.tc : Thread Cert.S5BbarRefIdeal.nD Cert.S5BbarRefIdeal.τ).loc Cert.S5BbarRefIdeal.main_arg3))
      ∧ r.2.sem = fun _ => 0)

def quiescent_S5Param [hS5Param : Cert.S5Param.Facts] : Prop :=
  ∀ (m : (ℓ : Loc Cert.S5Param.nD Cert.S5Param.τ Cert.S5Param.sig) → Buf (Elt Bits) ℓ) (g : Dev Cert.S5Param.nD → PrngReg), Pre_S5Param m →
    θ_run (Cert.S5Param.defs (F := Bits)) (onTc (τ := Cert.S5Param.τ) (Cert.S5Param.main (F := Bits))) ⟨m, fun _ => 0, g⟩ (fun r => (∀ c : Dev Cert.S5Param.nD,
      r.2.mem ((c.tc : Thread Cert.S5Param.nD Cert.S5Param.τ).loc Cert.S5Param.main_arg0) = m ((c.tc : Thread Cert.S5Param.nD Cert.S5Param.τ).loc Cert.S5Param.main_arg0)
      ∧ r.2.mem ((c.tc : Thread Cert.S5Param.nD Cert.S5Param.τ).loc Cert.S5Param.main_arg1) = m ((c.tc : Thread Cert.S5Param.nD Cert.S5Param.τ).loc Cert.S5Param.main_arg1)
      ∧ r.2.mem ((c.tc : Thread Cert.S5Param.nD Cert.S5Param.τ).loc Cert.S5Param.main_arg2) = m ((c.tc : Thread Cert.S5Param.nD Cert.S5Param.τ).loc Cert.S5Param.main_arg2))
      ∧ r.2.sem = fun _ => 0)

def quiescent_S5ParamIdeal [hS5ParamIdeal : Cert.S5ParamIdeal.Facts] : Prop :=
  ∀ (m : (ℓ : Loc Cert.S5ParamIdeal.nD Cert.S5ParamIdeal.τ Cert.S5ParamIdeal.sig) → Buf (Elt Ideal) ℓ) (g : Dev Cert.S5ParamIdeal.nD → PrngReg), Pre_S5ParamIdeal m →
    θ_run (Cert.S5ParamIdeal.defs (F := Ideal)) (onTc (τ := Cert.S5ParamIdeal.τ) (Cert.S5ParamIdeal.main (F := Ideal))) ⟨m, fun _ => 0, g⟩ (fun r => (∀ c : Dev Cert.S5ParamIdeal.nD,
      r.2.mem ((c.tc : Thread Cert.S5ParamIdeal.nD Cert.S5ParamIdeal.τ).loc Cert.S5ParamIdeal.main_arg0) = m ((c.tc : Thread Cert.S5ParamIdeal.nD Cert.S5ParamIdeal.τ).loc Cert.S5ParamIdeal.main_arg0)
      ∧ r.2.mem ((c.tc : Thread Cert.S5ParamIdeal.nD Cert.S5ParamIdeal.τ).loc Cert.S5ParamIdeal.main_arg1) = m ((c.tc : Thread Cert.S5ParamIdeal.nD Cert.S5ParamIdeal.τ).loc Cert.S5ParamIdeal.main_arg1)
      ∧ r.2.mem ((c.tc : Thread Cert.S5ParamIdeal.nD Cert.S5ParamIdeal.τ).loc Cert.S5ParamIdeal.main_arg2) = m ((c.tc : Thread Cert.S5ParamIdeal.nD Cert.S5ParamIdeal.τ).loc Cert.S5ParamIdeal.main_arg2))
      ∧ r.2.sem = fun _ => 0)

def quiescent_S5ParamRefIdeal [hS5ParamRefIdeal : Cert.S5ParamRefIdeal.Facts] : Prop :=
  ∀ (m : (ℓ : Loc Cert.S5ParamRefIdeal.nD Cert.S5ParamRefIdeal.τ Cert.S5ParamRefIdeal.sig) → Buf (Elt Ideal) ℓ) (g : Dev Cert.S5ParamRefIdeal.nD → PrngReg), Pre_S5ParamRefIdeal m →
    θ_run (Cert.S5ParamRefIdeal.defs (F := Ideal)) (onTc (τ := Cert.S5ParamRefIdeal.τ) (Cert.S5ParamRefIdeal.main (F := Ideal))) ⟨m, fun _ => 0, g⟩ (fun r => (∀ c : Dev Cert.S5ParamRefIdeal.nD,
      r.2.mem ((c.tc : Thread Cert.S5ParamRefIdeal.nD Cert.S5ParamRefIdeal.τ).loc Cert.S5ParamRefIdeal.main_arg0) = m ((c.tc : Thread Cert.S5ParamRefIdeal.nD Cert.S5ParamRefIdeal.τ).loc Cert.S5ParamRefIdeal.main_arg0)
      ∧ r.2.mem ((c.tc : Thread Cert.S5ParamRefIdeal.nD Cert.S5ParamRefIdeal.τ).loc Cert.S5ParamRefIdeal.main_arg1) = m ((c.tc : Thread Cert.S5ParamRefIdeal.nD Cert.S5ParamRefIdeal.τ).loc Cert.S5ParamRefIdeal.main_arg1)
      ∧ r.2.mem ((c.tc : Thread Cert.S5ParamRefIdeal.nD Cert.S5ParamRefIdeal.τ).loc Cert.S5ParamRefIdeal.main_arg2) = m ((c.tc : Thread Cert.S5ParamRefIdeal.nD Cert.S5ParamRefIdeal.τ).loc Cert.S5ParamRefIdeal.main_arg2))
      ∧ r.2.sem = fun _ => 0)

def preserves_Kernel_KernelIdeal : Prop :=
  True

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v4)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v4) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v3) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)
      ∧ m' ((c.tc : Thread Cert.DownDxRefIdeal.nD Cert.DownDxRefIdeal.τ).loc Cert.DownDxRefIdeal.main_arg2) = m ((c.tc : Thread Cert.DownDxIdeal.nD Cert.DownDxIdeal.τ).loc Cert.DownDxIdeal.main_arg2)) →
    ∃ (v0 : (c : Dev Cert.DownDxIdeal.nD) → Buf (Elt Ideal) ((c.tc : Thread Cert.DownDxIdeal.nD Cert.DownDxIdeal.τ).loc Cert.DownDxIdeal.main_v5)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v5) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
          ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v14) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1)
          ∧ r.2.mem ((c.tc : Thread Cert.DownDxRefIdeal.nD Cert.DownDxRefIdeal.τ).loc Cert.DownDxRefIdeal.main_arg2) = m' ((c.tc : Thread Cert.DownDxRefIdeal.nD Cert.DownDxRefIdeal.τ).loc Cert.DownDxRefIdeal.main_arg2))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v2)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v2) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v6) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v2)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v2) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v6) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)
      ∧ m' ((c.tc : Thread Cert.UpDxRefIdeal.nD Cert.UpDxRefIdeal.τ).loc Cert.UpDxRefIdeal.main_arg2) = m ((c.tc : Thread Cert.UpDxIdeal.nD Cert.UpDxIdeal.τ).loc Cert.UpDxIdeal.main_arg2)) →
    ∃ (v0 : (c : Dev Cert.UpDxIdeal.nD) → Buf (Elt Ideal) ((c.tc : Thread Cert.UpDxIdeal.nD Cert.UpDxIdeal.τ).loc Cert.UpDxIdeal.main_v4)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v4) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v5) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1)
          ∧ r.2.mem ((c.tc : Thread Cert.UpDxRefIdeal.nD Cert.UpDxRefIdeal.τ).loc Cert.UpDxRefIdeal.main_arg2) = m' ((c.tc : Thread Cert.UpDxRefIdeal.nD Cert.UpDxRefIdeal.τ).loc Cert.UpDxRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v4)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v4) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v5) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_Up0_Up0Ideal : Prop :=
  True

def algebraic_Up0Ideal_Up0RefIdeal [hUp0Ideal : Cert.Up0Ideal.Facts] [hUp0RefIdeal : Cert.Up0RefIdeal.Facts] : Prop :=
  ∀ (m : (ℓ : Loc Cert.Up0Ideal.nD Cert.Up0Ideal.τ Cert.Up0Ideal.sig) → Buf (Elt Ideal) ℓ) (g : Dev Cert.Up0Ideal.nD → PrngReg)
    (m' : (ℓ : Loc Cert.Up0RefIdeal.nD Cert.Up0RefIdeal.τ Cert.Up0RefIdeal.sig) → Buf (Elt Ideal) ℓ) (g' : Dev Cert.Up0RefIdeal.nD → PrngReg), Pre_Up0Ideal m →
    (∀ c : Dev Cert.Up0Ideal.nD,
      m' ((c.tc : Thread Cert.Up0RefIdeal.nD Cert.Up0RefIdeal.τ).loc Cert.Up0RefIdeal.main_arg0) = m ((c.tc : Thread Cert.Up0Ideal.nD Cert.Up0Ideal.τ).loc Cert.Up0Ideal.main_arg0)
      ∧ m' ((c.tc : Thread Cert.Up0RefIdeal.nD Cert.Up0RefIdeal.τ).loc Cert.Up0RefIdeal.main_arg1) = m ((c.tc : Thread Cert.Up0Ideal.nD Cert.Up0Ideal.τ).loc Cert.Up0Ideal.main_arg1)) →
    ∃ (v0 : (c : Dev Cert.Up0Ideal.nD) → Buf (Elt Ideal) ((c.tc : Thread Cert.Up0Ideal.nD Cert.Up0Ideal.τ).loc Cert.Up0Ideal.main_v4)),
      θ_run (Cert.Up0Ideal.defs (F := Ideal)) (onTc (τ := Cert.Up0Ideal.τ) (Cert.Up0Ideal.main (F := Ideal))) ⟨m, fun _ => 0, g⟩ (fun r => ∀ c : Dev Cert.Up0Ideal.nD,
          r.2.mem ((c.tc : Thread Cert.Up0Ideal.nD Cert.Up0Ideal.τ).loc Cert.Up0Ideal.main_v4) = v0 c
          ∧ r.2.mem ((c.tc : Thread Cert.Up0Ideal.nD Cert.Up0Ideal.τ).loc Cert.Up0Ideal.main_arg0) = m ((c.tc : Thread Cert.Up0Ideal.nD Cert.Up0Ideal.τ).loc Cert.Up0Ideal.main_arg0)
          ∧ r.2.mem ((c.tc : Thread Cert.Up0Ideal.nD Cert.Up0Ideal.τ).loc Cert.Up0Ideal.main_arg1) = m ((c.tc : Thread Cert.Up0Ideal.nD Cert.Up0Ideal.τ).loc Cert.Up0Ideal.main_arg1))
      ∧ θ_run (Cert.Up0RefIdeal.defs (F := Ideal)) (onTc (τ := Cert.Up0RefIdeal.τ) (Cert.Up0RefIdeal.main (F := Ideal))) ⟨m', fun _ => 0, g'⟩ (fun r => ∀ c : Dev Cert.Up0RefIdeal.nD,
          r.2.mem ((c.tc : Thread Cert.Up0RefIdeal.nD Cert.Up0RefIdeal.τ).loc Cert.Up0RefIdeal.main_v3) = v0 c
          ∧ r.2.mem ((c.tc : Thread Cert.Up0RefIdeal.nD Cert.Up0RefIdeal.τ).loc Cert.Up0RefIdeal.main_arg0) = m' ((c.tc : Thread Cert.Up0RefIdeal.nD Cert.Up0RefIdeal.τ).loc Cert.Up0RefIdeal.main_arg0)
          ∧ r.2.mem ((c.tc : Thread Cert.Up0RefIdeal.nD Cert.Up0RefIdeal.τ).loc Cert.Up0RefIdeal.main_arg1) = m' ((c.tc : Thread Cert.Up0RefIdeal.nD Cert.Up0RefIdeal.τ).loc Cert.Up0RefIdeal.main_arg1))

def preserves_DownDx0_DownDx0Ideal : Prop :=
  True

def algebraic_DownDx0Ideal_DownDx0RefIdeal [hDownDx0Ideal : Cert.DownDx0Ideal.Facts] [hDownDx0RefIdeal : Cert.DownDx0RefIdeal.Facts] : Prop :=
  ∀ (m : (ℓ : Loc Cert.DownDx0Ideal.nD Cert.DownDx0Ideal.τ Cert.DownDx0Ideal.sig) → Buf (Elt Ideal) ℓ) (g : Dev Cert.DownDx0Ideal.nD → PrngReg)
    (m' : (ℓ : Loc Cert.DownDx0RefIdeal.nD Cert.DownDx0RefIdeal.τ Cert.DownDx0RefIdeal.sig) → Buf (Elt Ideal) ℓ) (g' : Dev Cert.DownDx0RefIdeal.nD → PrngReg), Pre_DownDx0Ideal m →
    (∀ c : Dev Cert.DownDx0Ideal.nD,
      m' ((c.tc : Thread Cert.DownDx0RefIdeal.nD Cert.DownDx0RefIdeal.τ).loc Cert.DownDx0RefIdeal.main_arg0) = m ((c.tc : Thread Cert.DownDx0Ideal.nD Cert.DownDx0Ideal.τ).loc Cert.DownDx0Ideal.main_arg0)
      ∧ m' ((c.tc : Thread Cert.DownDx0RefIdeal.nD Cert.DownDx0RefIdeal.τ).loc Cert.DownDx0RefIdeal.main_arg1) = m ((c.tc : Thread Cert.DownDx0Ideal.nD Cert.DownDx0Ideal.τ).loc Cert.DownDx0Ideal.main_arg1)
      ∧ m' ((c.tc : Thread Cert.DownDx0RefIdeal.nD Cert.DownDx0RefIdeal.τ).loc Cert.DownDx0RefIdeal.main_arg2) = m ((c.tc : Thread Cert.DownDx0Ideal.nD Cert.DownDx0Ideal.τ).loc Cert.DownDx0Ideal.main_arg2)) →
    ∃ (v0 : (c : Dev Cert.DownDx0Ideal.nD) → Buf (Elt Ideal) ((c.tc : Thread Cert.DownDx0Ideal.nD Cert.DownDx0Ideal.τ).loc Cert.DownDx0Ideal.main_v5)),
      θ_run (Cert.DownDx0Ideal.defs (F := Ideal)) (onTc (τ := Cert.DownDx0Ideal.τ) (Cert.DownDx0Ideal.main (F := Ideal))) ⟨m, fun _ => 0, g⟩ (fun r => ∀ c : Dev Cert.DownDx0Ideal.nD,
          r.2.mem ((c.tc : Thread Cert.DownDx0Ideal.nD Cert.DownDx0Ideal.τ).loc Cert.DownDx0Ideal.main_v5) = v0 c
          ∧ r.2.mem ((c.tc : Thread Cert.DownDx0Ideal.nD Cert.DownDx0Ideal.τ).loc Cert.DownDx0Ideal.main_arg0) = m ((c.tc : Thread Cert.DownDx0Ideal.nD Cert.DownDx0Ideal.τ).loc Cert.DownDx0Ideal.main_arg0)
          ∧ r.2.mem ((c.tc : Thread Cert.DownDx0Ideal.nD Cert.DownDx0Ideal.τ).loc Cert.DownDx0Ideal.main_arg1) = m ((c.tc : Thread Cert.DownDx0Ideal.nD Cert.DownDx0Ideal.τ).loc Cert.DownDx0Ideal.main_arg1)
          ∧ r.2.mem ((c.tc : Thread Cert.DownDx0Ideal.nD Cert.DownDx0Ideal.τ).loc Cert.DownDx0Ideal.main_arg2) = m ((c.tc : Thread Cert.DownDx0Ideal.nD Cert.DownDx0Ideal.τ).loc Cert.DownDx0Ideal.main_arg2))
      ∧ θ_run (Cert.DownDx0RefIdeal.defs (F := Ideal)) (onTc (τ := Cert.DownDx0RefIdeal.τ) (Cert.DownDx0RefIdeal.main (F := Ideal))) ⟨m', fun _ => 0, g'⟩ (fun r => ∀ c : Dev Cert.DownDx0RefIdeal.nD,
          r.2.mem ((c.tc : Thread Cert.DownDx0RefIdeal.nD Cert.DownDx0RefIdeal.τ).loc Cert.DownDx0RefIdeal.main_v14) = v0 c
          ∧ r.2.mem ((c.tc : Thread Cert.DownDx0RefIdeal.nD Cert.DownDx0RefIdeal.τ).loc Cert.DownDx0RefIdeal.main_arg0) = m' ((c.tc : Thread Cert.DownDx0RefIdeal.nD Cert.DownDx0RefIdeal.τ).loc Cert.DownDx0RefIdeal.main_arg0)
          ∧ r.2.mem ((c.tc : Thread Cert.DownDx0RefIdeal.nD Cert.DownDx0RefIdeal.τ).loc Cert.DownDx0RefIdeal.main_arg1) = m' ((c.tc : Thread Cert.DownDx0RefIdeal.nD Cert.DownDx0RefIdeal.τ).loc Cert.DownDx0RefIdeal.main_arg1)
          ∧ r.2.mem ((c.tc : Thread Cert.DownDx0RefIdeal.nD Cert.DownDx0RefIdeal.τ).loc Cert.DownDx0RefIdeal.main_arg2) = m' ((c.tc : Thread Cert.DownDx0RefIdeal.nD Cert.DownDx0RefIdeal.τ).loc Cert.DownDx0RefIdeal.main_arg2))

def preserves_UpDx0_UpDx0Ideal : Prop :=
  True

def algebraic_UpDx0Ideal_UpDx0RefIdeal [hUpDx0Ideal : Cert.UpDx0Ideal.Facts] [hUpDx0RefIdeal : Cert.UpDx0RefIdeal.Facts] : Prop :=
  ∀ (m : (ℓ : Loc Cert.UpDx0Ideal.nD Cert.UpDx0Ideal.τ Cert.UpDx0Ideal.sig) → Buf (Elt Ideal) ℓ) (g : Dev Cert.UpDx0Ideal.nD → PrngReg)
    (m' : (ℓ : Loc Cert.UpDx0RefIdeal.nD Cert.UpDx0RefIdeal.τ Cert.UpDx0RefIdeal.sig) → Buf (Elt Ideal) ℓ) (g' : Dev Cert.UpDx0RefIdeal.nD → PrngReg), Pre_UpDx0Ideal m →
    (∀ c : Dev Cert.UpDx0Ideal.nD,
      m' ((c.tc : Thread Cert.UpDx0RefIdeal.nD Cert.UpDx0RefIdeal.τ).loc Cert.UpDx0RefIdeal.main_arg0) = m ((c.tc : Thread Cert.UpDx0Ideal.nD Cert.UpDx0Ideal.τ).loc Cert.UpDx0Ideal.main_arg0)
      ∧ m' ((c.tc : Thread Cert.UpDx0RefIdeal.nD Cert.UpDx0RefIdeal.τ).loc Cert.UpDx0RefIdeal.main_arg1) = m ((c.tc : Thread Cert.UpDx0Ideal.nD Cert.UpDx0Ideal.τ).loc Cert.UpDx0Ideal.main_arg1)
      ∧ m' ((c.tc : Thread Cert.UpDx0RefIdeal.nD Cert.UpDx0RefIdeal.τ).loc Cert.UpDx0RefIdeal.main_arg2) = m ((c.tc : Thread Cert.UpDx0Ideal.nD Cert.UpDx0Ideal.τ).loc Cert.UpDx0Ideal.main_arg2)) →
    ∃ (v0 : (c : Dev Cert.UpDx0Ideal.nD) → Buf (Elt Ideal) ((c.tc : Thread Cert.UpDx0Ideal.nD Cert.UpDx0Ideal.τ).loc Cert.UpDx0Ideal.main_v4)),
      θ_run (Cert.UpDx0Ideal.defs (F := Ideal)) (onTc (τ := Cert.UpDx0Ideal.τ) (Cert.UpDx0Ideal.main (F := Ideal))) ⟨m, fun _ => 0, g⟩ (fun r => ∀ c : Dev Cert.UpDx0Ideal.nD,
          r.2.mem ((c.tc : Thread Cert.UpDx0Ideal.nD Cert.UpDx0Ideal.τ).loc Cert.UpDx0Ideal.main_v4) = v0 c
          ∧ r.2.mem ((c.tc : Thread Cert.UpDx0Ideal.nD Cert.UpDx0Ideal.τ).loc Cert.UpDx0Ideal.main_arg0) = m ((c.tc : Thread Cert.UpDx0Ideal.nD Cert.UpDx0Ideal.τ).loc Cert.UpDx0Ideal.main_arg0)
          ∧ r.2.mem ((c.tc : Thread Cert.UpDx0Ideal.nD Cert.UpDx0Ideal.τ).loc Cert.UpDx0Ideal.main_arg1) = m ((c.tc : Thread Cert.UpDx0Ideal.nD Cert.UpDx0Ideal.τ).loc Cert.UpDx0Ideal.main_arg1)
          ∧ r.2.mem ((c.tc : Thread Cert.UpDx0Ideal.nD Cert.UpDx0Ideal.τ).loc Cert.UpDx0Ideal.main_arg2) = m ((c.tc : Thread Cert.UpDx0Ideal.nD Cert.UpDx0Ideal.τ).loc Cert.UpDx0Ideal.main_arg2))
      ∧ θ_run (Cert.UpDx0RefIdeal.defs (F := Ideal)) (onTc (τ := Cert.UpDx0RefIdeal.τ) (Cert.UpDx0RefIdeal.main (F := Ideal))) ⟨m', fun _ => 0, g'⟩ (fun r => ∀ c : Dev Cert.UpDx0RefIdeal.nD,
          r.2.mem ((c.tc : Thread Cert.UpDx0RefIdeal.nD Cert.UpDx0RefIdeal.τ).loc Cert.UpDx0RefIdeal.main_v5) = v0 c
          ∧ r.2.mem ((c.tc : Thread Cert.UpDx0RefIdeal.nD Cert.UpDx0RefIdeal.τ).loc Cert.UpDx0RefIdeal.main_arg0) = m' ((c.tc : Thread Cert.UpDx0RefIdeal.nD Cert.UpDx0RefIdeal.τ).loc Cert.UpDx0RefIdeal.main_arg0)
          ∧ r.2.mem ((c.tc : Thread Cert.UpDx0RefIdeal.nD Cert.UpDx0RefIdeal.τ).loc Cert.UpDx0RefIdeal.main_arg1) = m' ((c.tc : Thread Cert.UpDx0RefIdeal.nD Cert.UpDx0RefIdeal.τ).loc Cert.UpDx0RefIdeal.main_arg1)
          ∧ r.2.mem ((c.tc : Thread Cert.UpDx0RefIdeal.nD Cert.UpDx0RefIdeal.τ).loc Cert.UpDx0RefIdeal.main_arg2) = m' ((c.tc : Thread Cert.UpDx0RefIdeal.nD Cert.UpDx0RefIdeal.τ).loc Cert.UpDx0RefIdeal.main_arg2))

def preserves_Down0_Down0Ideal : Prop :=
  True

def algebraic_Down0Ideal_Down0RefIdeal [hDown0Ideal : Cert.Down0Ideal.Facts] [hDown0RefIdeal : Cert.Down0RefIdeal.Facts] : Prop :=
  ∀ (m : (ℓ : Loc Cert.Down0Ideal.nD Cert.Down0Ideal.τ Cert.Down0Ideal.sig) → Buf (Elt Ideal) ℓ) (g : Dev Cert.Down0Ideal.nD → PrngReg)
    (m' : (ℓ : Loc Cert.Down0RefIdeal.nD Cert.Down0RefIdeal.τ Cert.Down0RefIdeal.sig) → Buf (Elt Ideal) ℓ) (g' : Dev Cert.Down0RefIdeal.nD → PrngReg), Pre_Down0Ideal m →
    (∀ c : Dev Cert.Down0Ideal.nD,
      m' ((c.tc : Thread Cert.Down0RefIdeal.nD Cert.Down0RefIdeal.τ).loc Cert.Down0RefIdeal.main_arg0) = m ((c.tc : Thread Cert.Down0Ideal.nD Cert.Down0Ideal.τ).loc Cert.Down0Ideal.main_arg0)
      ∧ m' ((c.tc : Thread Cert.Down0RefIdeal.nD Cert.Down0RefIdeal.τ).loc Cert.Down0RefIdeal.main_arg1) = m ((c.tc : Thread Cert.Down0Ideal.nD Cert.Down0Ideal.τ).loc Cert.Down0Ideal.main_arg1)) →
    ∃ (v0 : (c : Dev Cert.Down0Ideal.nD) → Buf (Elt Ideal) ((c.tc : Thread Cert.Down0Ideal.nD Cert.Down0Ideal.τ).loc Cert.Down0Ideal.main_v4)),
      θ_run (Cert.Down0Ideal.defs (F := Ideal)) (onTc (τ := Cert.Down0Ideal.τ) (Cert.Down0Ideal.main (F := Ideal))) ⟨m, fun _ => 0, g⟩ (fun r => ∀ c : Dev Cert.Down0Ideal.nD,
          r.2.mem ((c.tc : Thread Cert.Down0Ideal.nD Cert.Down0Ideal.τ).loc Cert.Down0Ideal.main_v4) = v0 c
          ∧ r.2.mem ((c.tc : Thread Cert.Down0Ideal.nD Cert.Down0Ideal.τ).loc Cert.Down0Ideal.main_arg0) = m ((c.tc : Thread Cert.Down0Ideal.nD Cert.Down0Ideal.τ).loc Cert.Down0Ideal.main_arg0)
          ∧ r.2.mem ((c.tc : Thread Cert.Down0Ideal.nD Cert.Down0Ideal.τ).loc Cert.Down0Ideal.main_arg1) = m ((c.tc : Thread Cert.Down0Ideal.nD Cert.Down0Ideal.τ).loc Cert.Down0Ideal.main_arg1))
      ∧ θ_run (Cert.Down0RefIdeal.defs (F := Ideal)) (onTc (τ := Cert.Down0RefIdeal.τ) (Cert.Down0RefIdeal.main (F := Ideal))) ⟨m', fun _ => 0, g'⟩ (fun r => ∀ c : Dev Cert.Down0RefIdeal.nD,
          r.2.mem ((c.tc : Thread Cert.Down0RefIdeal.nD Cert.Down0RefIdeal.τ).loc Cert.Down0RefIdeal.main_v5) = v0 c
          ∧ r.2.mem ((c.tc : Thread Cert.Down0RefIdeal.nD Cert.Down0RefIdeal.τ).loc Cert.Down0RefIdeal.main_arg0) = m' ((c.tc : Thread Cert.Down0RefIdeal.nD Cert.Down0RefIdeal.τ).loc Cert.Down0RefIdeal.main_arg0)
          ∧ r.2.mem ((c.tc : Thread Cert.Down0RefIdeal.nD Cert.Down0RefIdeal.τ).loc Cert.Down0RefIdeal.main_arg1) = m' ((c.tc : Thread Cert.Down0RefIdeal.nD Cert.Down0RefIdeal.τ).loc Cert.Down0RefIdeal.main_arg1))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)) →
    ∃ (v0 : (c : Dev Cert.GluIdeal.nD) → Buf (Elt Ideal) ((c.tc : Thread Cert.GluIdeal.nD Cert.GluIdeal.τ).loc Cert.GluIdeal.main_v4)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v4) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v2) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1))

def preserves_GluDx_GluDxIdeal : Prop :=
  True

def algebraic_GluDxIdeal_GluDxRefIdeal [hGluDxIdeal : Cert.GluDxIdeal.Facts] [hGluDxRefIdeal : Cert.GluDxRefIdeal.Facts] : Prop :=
  ∀ (m : (ℓ : Loc Cert.GluDxIdeal.nD Cert.GluDxIdeal.τ Cert.GluDxIdeal.sig) → Buf (Elt Ideal) ℓ) (g : Dev Cert.GluDxIdeal.nD → PrngReg)
    (m' : (ℓ : Loc Cert.GluDxRefIdeal.nD Cert.GluDxRefIdeal.τ Cert.GluDxRefIdeal.sig) → Buf (Elt Ideal) ℓ) (g' : Dev Cert.GluDxRefIdeal.nD → PrngReg), Pre_GluDxIdeal m →
    (∀ c : Dev Cert.GluDxIdeal.nD,
      m' ((c.tc : Thread Cert.GluDxRefIdeal.nD Cert.GluDxRefIdeal.τ).loc Cert.GluDxRefIdeal.main_arg0) = m ((c.tc : Thread Cert.GluDxIdeal.nD Cert.GluDxIdeal.τ).loc Cert.GluDxIdeal.main_arg0)
      ∧ m' ((c.tc : Thread Cert.GluDxRefIdeal.nD Cert.GluDxRefIdeal.τ).loc Cert.GluDxRefIdeal.main_arg1) = m ((c.tc : Thread Cert.GluDxIdeal.nD Cert.GluDxIdeal.τ).loc Cert.GluDxIdeal.main_arg1)) →
    ∃ (v0 : (c : Dev Cert.GluDxIdeal.nD) → Buf (Elt Ideal) ((c.tc : Thread Cert.GluDxIdeal.nD Cert.GluDxIdeal.τ).loc Cert.GluDxIdeal.main_v4)),
      θ_run (Cert.GluDxIdeal.defs (F := Ideal)) (onTc (τ := Cert.GluDxIdeal.τ) (Cert.GluDxIdeal.main (F := Ideal))) ⟨m, fun _ => 0, g⟩ (fun r => ∀ c : Dev Cert.GluDxIdeal.nD,
          r.2.mem ((c.tc : Thread Cert.GluDxIdeal.nD Cert.GluDxIdeal.τ).loc Cert.GluDxIdeal.main_v4) = v0 c
          ∧ r.2.mem ((c.tc : Thread Cert.GluDxIdeal.nD Cert.GluDxIdeal.τ).loc Cert.GluDxIdeal.main_arg0) = m ((c.tc : Thread Cert.GluDxIdeal.nD Cert.GluDxIdeal.τ).loc Cert.GluDxIdeal.main_arg0)
          ∧ r.2.mem ((c.tc : Thread Cert.GluDxIdeal.nD Cert.GluDxIdeal.τ).loc Cert.GluDxIdeal.main_arg1) = m ((c.tc : Thread Cert.GluDxIdeal.nD Cert.GluDxIdeal.τ).loc Cert.GluDxIdeal.main_arg1))
      ∧ θ_run (Cert.GluDxRefIdeal.defs (F := Ideal)) (onTc (τ := Cert.GluDxRefIdeal.τ) (Cert.GluDxRefIdeal.main (F := Ideal))) ⟨m', fun _ => 0, g'⟩ (fun r => ∀ c : Dev Cert.GluDxRefIdeal.nD,
          r.2.mem ((c.tc : Thread Cert.GluDxRefIdeal.nD Cert.GluDxRefIdeal.τ).loc Cert.GluDxRefIdeal.main_v3) = v0 c
          ∧ r.2.mem ((c.tc : Thread Cert.GluDxRefIdeal.nD Cert.GluDxRefIdeal.τ).loc Cert.GluDxRefIdeal.main_arg0) = m' ((c.tc : Thread Cert.GluDxRefIdeal.nD Cert.GluDxRefIdeal.τ).loc Cert.GluDxRefIdeal.main_arg0)
          ∧ r.2.mem ((c.tc : Thread Cert.GluDxRefIdeal.nD Cert.GluDxRefIdeal.τ).loc Cert.GluDxRefIdeal.main_arg1) = m' ((c.tc : Thread Cert.GluDxRefIdeal.nD Cert.GluDxRefIdeal.τ).loc Cert.GluDxRefIdeal.main_arg1))

def preserves_GluDw_GluDwIdeal : Prop :=
  True

def algebraic_GluDwIdeal_GluDwRefIdeal [hGluDwIdeal : Cert.GluDwIdeal.Facts] [hGluDwRefIdeal : Cert.GluDwRefIdeal.Facts] : Prop :=
  ∀ (m : (ℓ : Loc Cert.GluDwIdeal.nD Cert.GluDwIdeal.τ Cert.GluDwIdeal.sig) → Buf (Elt Ideal) ℓ) (g : Dev Cert.GluDwIdeal.nD → PrngReg)
    (m' : (ℓ : Loc Cert.GluDwRefIdeal.nD Cert.GluDwRefIdeal.τ Cert.GluDwRefIdeal.sig) → Buf (Elt Ideal) ℓ) (g' : Dev Cert.GluDwRefIdeal.nD → PrngReg), Pre_GluDwIdeal m →
    (∀ c : Dev Cert.GluDwIdeal.nD,
      m' ((c.tc : Thread Cert.GluDwRefIdeal.nD Cert.GluDwRefIdeal.τ).loc Cert.GluDwRefIdeal.main_arg0) = m ((c.tc : Thread Cert.GluDwIdeal.nD Cert.GluDwIdeal.τ).loc Cert.GluDwIdeal.main_arg0)
      ∧ m' ((c.tc : Thread Cert.GluDwRefIdeal.nD Cert.GluDwRefIdeal.τ).loc Cert.GluDwRefIdeal.main_arg1) = m ((c.tc : Thread Cert.GluDwIdeal.nD Cert.GluDwIdeal.τ).loc Cert.GluDwIdeal.main_arg1)) →
    ∃ (v0 : (c : Dev Cert.GluDwIdeal.nD) → Buf (Elt Ideal) ((c.tc : Thread Cert.GluDwIdeal.nD Cert.GluDwIdeal.τ).loc Cert.GluDwIdeal.main_v2)),
      θ_run (Cert.GluDwIdeal.defs (F := Ideal)) (onTc (τ := Cert.GluDwIdeal.τ) (Cert.GluDwIdeal.main (F := Ideal))) ⟨m, fun _ => 0, g⟩ (fun r => ∀ c : Dev Cert.GluDwIdeal.nD,
          r.2.mem ((c.tc : Thread Cert.GluDwIdeal.nD Cert.GluDwIdeal.τ).loc Cert.GluDwIdeal.main_v2) = v0 c
          ∧ r.2.mem ((c.tc : Thread Cert.GluDwIdeal.nD Cert.GluDwIdeal.τ).loc Cert.GluDwIdeal.main_arg0) = m ((c.tc : Thread Cert.GluDwIdeal.nD Cert.GluDwIdeal.τ).loc Cert.GluDwIdeal.main_arg0)
          ∧ r.2.mem ((c.tc : Thread Cert.GluDwIdeal.nD Cert.GluDwIdeal.τ).loc Cert.GluDwIdeal.main_arg1) = m ((c.tc : Thread Cert.GluDwIdeal.nD Cert.GluDwIdeal.τ).loc Cert.GluDwIdeal.main_arg1))
      ∧ θ_run (Cert.GluDwRefIdeal.defs (F := Ideal)) (onTc (τ := Cert.GluDwRefIdeal.τ) (Cert.GluDwRefIdeal.main (F := Ideal))) ⟨m', fun _ => 0, g'⟩ (fun r => ∀ c : Dev Cert.GluDwRefIdeal.nD,
          r.2.mem ((c.tc : Thread Cert.GluDwRefIdeal.nD Cert.GluDwRefIdeal.τ).loc Cert.GluDwRefIdeal.main_v6) = v0 c
          ∧ r.2.mem ((c.tc : Thread Cert.GluDwRefIdeal.nD Cert.GluDwRefIdeal.τ).loc Cert.GluDwRefIdeal.main_arg0) = m' ((c.tc : Thread Cert.GluDwRefIdeal.nD Cert.GluDwRefIdeal.τ).loc Cert.GluDwRefIdeal.main_arg0)
          ∧ r.2.mem ((c.tc : Thread Cert.GluDwRefIdeal.nD Cert.GluDwRefIdeal.τ).loc Cert.GluDwRefIdeal.main_arg1) = m' ((c.tc : Thread Cert.GluDwRefIdeal.nD Cert.GluDwRefIdeal.τ).loc Cert.GluDwRefIdeal.main_arg1))

def preserves_RwIn_RwInIdeal : Prop :=
  True

def algebraic_RwInIdeal_RwInRefIdeal [hRwInIdeal : Cert.RwInIdeal.Facts] [hRwInRefIdeal : Cert.RwInRefIdeal.Facts] : Prop :=
  ∀ (m : (ℓ : Loc Cert.RwInIdeal.nD Cert.RwInIdeal.τ Cert.RwInIdeal.sig) → Buf (Elt Ideal) ℓ) (g : Dev Cert.RwInIdeal.nD → PrngReg)
    (m' : (ℓ : Loc Cert.RwInRefIdeal.nD Cert.RwInRefIdeal.τ Cert.RwInRefIdeal.sig) → Buf (Elt Ideal) ℓ) (g' : Dev Cert.RwInRefIdeal.nD → PrngReg), Pre_RwInIdeal m →
    (∀ c : Dev Cert.RwInIdeal.nD,
      m' ((c.tc : Thread Cert.RwInRefIdeal.nD Cert.RwInRefIdeal.τ).loc Cert.RwInRefIdeal.main_arg0) = m ((c.tc : Thread Cert.RwInIdeal.nD Cert.RwInIdeal.τ).loc Cert.RwInIdeal.main_arg0)
      ∧ m' ((c.tc : Thread Cert.RwInRefIdeal.nD Cert.RwInRefIdeal.τ).loc Cert.RwInRefIdeal.main_arg1) = m ((c.tc : Thread Cert.RwInIdeal.nD Cert.RwInIdeal.τ).loc Cert.RwInIdeal.main_arg1)) →
    ∃ (v0 : (c : Dev Cert.RwInIdeal.nD) → Buf (Elt Ideal) ((c.tc : Thread Cert.RwInIdeal.nD Cert.RwInIdeal.τ).loc Cert.RwInIdeal.main_v5)),
      θ_run (Cert.RwInIdeal.defs (F := Ideal)) (onTc (τ := Cert.RwInIdeal.τ) (Cert.RwInIdeal.main (F := Ideal))) ⟨m, fun _ => 0, g⟩ (fun r => ∀ c : Dev Cert.RwInIdeal.nD,
          r.2.mem ((c.tc : Thread Cert.RwInIdeal.nD Cert.RwInIdeal.τ).loc Cert.RwInIdeal.main_v5) = v0 c
          ∧ r.2.mem ((c.tc : Thread Cert.RwInIdeal.nD Cert.RwInIdeal.τ).loc Cert.RwInIdeal.main_arg0) = m ((c.tc : Thread Cert.RwInIdeal.nD Cert.RwInIdeal.τ).loc Cert.RwInIdeal.main_arg0)
          ∧ r.2.mem ((c.tc : Thread Cert.RwInIdeal.nD Cert.RwInIdeal.τ).loc Cert.RwInIdeal.main_arg1) = m ((c.tc : Thread Cert.RwInIdeal.nD Cert.RwInIdeal.τ).loc Cert.RwInIdeal.main_arg1))
      ∧ θ_run (Cert.RwInRefIdeal.defs (F := Ideal)) (onTc (τ := Cert.RwInRefIdeal.τ) (Cert.RwInRefIdeal.main (F := Ideal))) ⟨m', fun _ => 0, g'⟩ (fun r => ∀ c : Dev Cert.RwInRefIdeal.nD,
          r.2.mem ((c.tc : Thread Cert.RwInRefIdeal.nD Cert.RwInRefIdeal.τ).loc Cert.RwInRefIdeal.main_v1) = v0 c
          ∧ r.2.mem ((c.tc : Thread Cert.RwInRefIdeal.nD Cert.RwInRefIdeal.τ).loc Cert.RwInRefIdeal.main_arg0) = m' ((c.tc : Thread Cert.RwInRefIdeal.nD Cert.RwInRefIdeal.τ).loc Cert.RwInRefIdeal.main_arg0)
          ∧ r.2.mem ((c.tc : Thread Cert.RwInRefIdeal.nD Cert.RwInRefIdeal.τ).loc Cert.RwInRefIdeal.main_arg1) = m' ((c.tc : Thread Cert.RwInRefIdeal.nD Cert.RwInRefIdeal.τ).loc Cert.RwInRefIdeal.main_arg1))

def preserves_RwOut_RwOutIdeal : Prop :=
  True

def algebraic_RwOutIdeal_RwOutRefIdeal [hRwOutIdeal : Cert.RwOutIdeal.Facts] [hRwOutRefIdeal : Cert.RwOutRefIdeal.Facts] : Prop :=
  ∀ (m : (ℓ : Loc Cert.RwOutIdeal.nD Cert.RwOutIdeal.τ Cert.RwOutIdeal.sig) → Buf (Elt Ideal) ℓ) (g : Dev Cert.RwOutIdeal.nD → PrngReg)
    (m' : (ℓ : Loc Cert.RwOutRefIdeal.nD Cert.RwOutRefIdeal.τ Cert.RwOutRefIdeal.sig) → Buf (Elt Ideal) ℓ) (g' : Dev Cert.RwOutRefIdeal.nD → PrngReg), Pre_RwOutIdeal m →
    (∀ c : Dev Cert.RwOutIdeal.nD,
      m' ((c.tc : Thread Cert.RwOutRefIdeal.nD Cert.RwOutRefIdeal.τ).loc Cert.RwOutRefIdeal.main_arg0) = m ((c.tc : Thread Cert.RwOutIdeal.nD Cert.RwOutIdeal.τ).loc Cert.RwOutIdeal.main_arg0)
      ∧ m' ((c.tc : Thread Cert.RwOutRefIdeal.nD Cert.RwOutRefIdeal.τ).loc Cert.RwOutRefIdeal.main_arg1) = m ((c.tc : Thread Cert.RwOutIdeal.nD Cert.RwOutIdeal.τ).loc Cert.RwOutIdeal.main_arg1)) →
    ∃ (v0 : (c : Dev Cert.RwOutIdeal.nD) → Buf (Elt Ideal) ((c.tc : Thread Cert.RwOutIdeal.nD Cert.RwOutIdeal.τ).loc Cert.RwOutIdeal.main_v5)),
      θ_run (Cert.RwOutIdeal.defs (F := Ideal)) (onTc (τ := Cert.RwOutIdeal.τ) (Cert.RwOutIdeal.main (F := Ideal))) ⟨m, fun _ => 0, g⟩ (fun r => ∀ c : Dev Cert.RwOutIdeal.nD,
          r.2.mem ((c.tc : Thread Cert.RwOutIdeal.nD Cert.RwOutIdeal.τ).loc Cert.RwOutIdeal.main_v5) = v0 c
          ∧ r.2.mem ((c.tc : Thread Cert.RwOutIdeal.nD Cert.RwOutIdeal.τ).loc Cert.RwOutIdeal.main_arg0) = m ((c.tc : Thread Cert.RwOutIdeal.nD Cert.RwOutIdeal.τ).loc Cert.RwOutIdeal.main_arg0)
          ∧ r.2.mem ((c.tc : Thread Cert.RwOutIdeal.nD Cert.RwOutIdeal.τ).loc Cert.RwOutIdeal.main_arg1) = m ((c.tc : Thread Cert.RwOutIdeal.nD Cert.RwOutIdeal.τ).loc Cert.RwOutIdeal.main_arg1))
      ∧ θ_run (Cert.RwOutRefIdeal.defs (F := Ideal)) (onTc (τ := Cert.RwOutRefIdeal.τ) (Cert.RwOutRefIdeal.main (F := Ideal))) ⟨m', fun _ => 0, g'⟩ (fun r => ∀ c : Dev Cert.RwOutRefIdeal.nD,
          r.2.mem ((c.tc : Thread Cert.RwOutRefIdeal.nD Cert.RwOutRefIdeal.τ).loc Cert.RwOutRefIdeal.main_v2) = v0 c
          ∧ r.2.mem ((c.tc : Thread Cert.RwOutRefIdeal.nD Cert.RwOutRefIdeal.τ).loc Cert.RwOutRefIdeal.main_arg0) = m' ((c.tc : Thread Cert.RwOutRefIdeal.nD Cert.RwOutRefIdeal.τ).loc Cert.RwOutRefIdeal.main_arg0)
          ∧ r.2.mem ((c.tc : Thread Cert.RwOutRefIdeal.nD Cert.RwOutRefIdeal.τ).loc Cert.RwOutRefIdeal.main_arg1) = m' ((c.tc : Thread Cert.RwOutRefIdeal.nD Cert.RwOutRefIdeal.τ).loc Cert.RwOutRefIdeal.main_arg1))

def preserves_RwDx_RwDxIdeal : Prop :=
  True

def algebraic_RwDxIdeal_RwDxRefIdeal [hRwDxIdeal : Cert.RwDxIdeal.Facts] [hRwDxRefIdeal : Cert.RwDxRefIdeal.Facts] : Prop :=
  ∀ (m : (ℓ : Loc Cert.RwDxIdeal.nD Cert.RwDxIdeal.τ Cert.RwDxIdeal.sig) → Buf (Elt Ideal) ℓ) (g : Dev Cert.RwDxIdeal.nD → PrngReg)
    (m' : (ℓ : Loc Cert.RwDxRefIdeal.nD Cert.RwDxRefIdeal.τ Cert.RwDxRefIdeal.sig) → Buf (Elt Ideal) ℓ) (g' : Dev Cert.RwDxRefIdeal.nD → PrngReg), Pre_RwDxIdeal m →
    (∀ c : Dev Cert.RwDxIdeal.nD,
      m' ((c.tc : Thread Cert.RwDxRefIdeal.nD Cert.RwDxRefIdeal.τ).loc Cert.RwDxRefIdeal.main_arg0) = m ((c.tc : Thread Cert.RwDxIdeal.nD Cert.RwDxIdeal.τ).loc Cert.RwDxIdeal.main_arg0)
      ∧ m' ((c.tc : Thread Cert.RwDxRefIdeal.nD Cert.RwDxRefIdeal.τ).loc Cert.RwDxRefIdeal.main_arg1) = m ((c.tc : Thread Cert.RwDxIdeal.nD Cert.RwDxIdeal.τ).loc Cert.RwDxIdeal.main_arg1)) →
    ∃ (v0 : (c : Dev Cert.RwDxIdeal.nD) → Buf (Elt Ideal) ((c.tc : Thread Cert.RwDxIdeal.nD Cert.RwDxIdeal.τ).loc Cert.RwDxIdeal.main_v5)),
      θ_run (Cert.RwDxIdeal.defs (F := Ideal)) (onTc (τ := Cert.RwDxIdeal.τ) (Cert.RwDxIdeal.main (F := Ideal))) ⟨m, fun _ => 0, g⟩ (fun r => ∀ c : Dev Cert.RwDxIdeal.nD,
          r.2.mem ((c.tc : Thread Cert.RwDxIdeal.nD Cert.RwDxIdeal.τ).loc Cert.RwDxIdeal.main_v5) = v0 c
          ∧ r.2.mem ((c.tc : Thread Cert.RwDxIdeal.nD Cert.RwDxIdeal.τ).loc Cert.RwDxIdeal.main_arg0) = m ((c.tc : Thread Cert.RwDxIdeal.nD Cert.RwDxIdeal.τ).loc Cert.RwDxIdeal.main_arg0)
          ∧ r.2.mem ((c.tc : Thread Cert.RwDxIdeal.nD Cert.RwDxIdeal.τ).loc Cert.RwDxIdeal.main_arg1) = m ((c.tc : Thread Cert.RwDxIdeal.nD Cert.RwDxIdeal.τ).loc Cert.RwDxIdeal.main_arg1))
      ∧ θ_run (Cert.RwDxRefIdeal.defs (F := Ideal)) (onTc (τ := Cert.RwDxRefIdeal.τ) (Cert.RwDxRefIdeal.main (F := Ideal))) ⟨m', fun _ => 0, g'⟩ (fun r => ∀ c : Dev Cert.RwDxRefIdeal.nD,
          r.2.mem ((c.tc : Thread Cert.RwDxRefIdeal.nD Cert.RwDxRefIdeal.τ).loc Cert.RwDxRefIdeal.main_v3) = v0 c
          ∧ r.2.mem ((c.tc : Thread Cert.RwDxRefIdeal.nD Cert.RwDxRefIdeal.τ).loc Cert.RwDxRefIdeal.main_arg0) = m' ((c.tc : Thread Cert.RwDxRefIdeal.nD Cert.RwDxRefIdeal.τ).loc Cert.RwDxRefIdeal.main_arg0)
          ∧ r.2.mem ((c.tc : Thread Cert.RwDxRefIdeal.nD Cert.RwDxRefIdeal.τ).loc Cert.RwDxRefIdeal.main_arg1) = m' ((c.tc : Thread Cert.RwDxRefIdeal.nD Cert.RwDxRefIdeal.τ).loc Cert.RwDxRefIdeal.main_arg1))

def preserves_RwDw_RwDwIdeal : Prop :=
  True

def algebraic_RwDwIdeal_RwDwRefIdeal [hRwDwIdeal : Cert.RwDwIdeal.Facts] [hRwDwRefIdeal : Cert.RwDwRefIdeal.Facts] : Prop :=
  ∀ (m : (ℓ : Loc Cert.RwDwIdeal.nD Cert.RwDwIdeal.τ Cert.RwDwIdeal.sig) → Buf (Elt Ideal) ℓ) (g : Dev Cert.RwDwIdeal.nD → PrngReg)
    (m' : (ℓ : Loc Cert.RwDwRefIdeal.nD Cert.RwDwRefIdeal.τ Cert.RwDwRefIdeal.sig) → Buf (Elt Ideal) ℓ) (g' : Dev Cert.RwDwRefIdeal.nD → PrngReg), Pre_RwDwIdeal m →
    (∀ c : Dev Cert.RwDwIdeal.nD,
      m' ((c.tc : Thread Cert.RwDwRefIdeal.nD Cert.RwDwRefIdeal.τ).loc Cert.RwDwRefIdeal.main_arg0) = m ((c.tc : Thread Cert.RwDwIdeal.nD Cert.RwDwIdeal.τ).loc Cert.RwDwIdeal.main_arg0)
      ∧ m' ((c.tc : Thread Cert.RwDwRefIdeal.nD Cert.RwDwRefIdeal.τ).loc Cert.RwDwRefIdeal.main_arg1) = m ((c.tc : Thread Cert.RwDwIdeal.nD Cert.RwDwIdeal.τ).loc Cert.RwDwIdeal.main_arg1)) →
    ∃ (v0 : (c : Dev Cert.RwDwIdeal.nD) → Buf (Elt Ideal) ((c.tc : Thread Cert.RwDwIdeal.nD Cert.RwDwIdeal.τ).loc Cert.RwDwIdeal.main_v2)),
      θ_run (Cert.RwDwIdeal.defs (F := Ideal)) (onTc (τ := Cert.RwDwIdeal.τ) (Cert.RwDwIdeal.main (F := Ideal))) ⟨m, fun _ => 0, g⟩ (fun r => ∀ c : Dev Cert.RwDwIdeal.nD,
          r.2.mem ((c.tc : Thread Cert.RwDwIdeal.nD Cert.RwDwIdeal.τ).loc Cert.RwDwIdeal.main_v2) = v0 c
          ∧ r.2.mem ((c.tc : Thread Cert.RwDwIdeal.nD Cert.RwDwIdeal.τ).loc Cert.RwDwIdeal.main_arg0) = m ((c.tc : Thread Cert.RwDwIdeal.nD Cert.RwDwIdeal.τ).loc Cert.RwDwIdeal.main_arg0)
          ∧ r.2.mem ((c.tc : Thread Cert.RwDwIdeal.nD Cert.RwDwIdeal.τ).loc Cert.RwDwIdeal.main_arg1) = m ((c.tc : Thread Cert.RwDwIdeal.nD Cert.RwDwIdeal.τ).loc Cert.RwDwIdeal.main_arg1))
      ∧ θ_run (Cert.RwDwRefIdeal.defs (F := Ideal)) (onTc (τ := Cert.RwDwRefIdeal.τ) (Cert.RwDwRefIdeal.main (F := Ideal))) ⟨m', fun _ => 0, g'⟩ (fun r => ∀ c : Dev Cert.RwDwRefIdeal.nD,
          r.2.mem ((c.tc : Thread Cert.RwDwRefIdeal.nD Cert.RwDwRefIdeal.τ).loc Cert.RwDwRefIdeal.main_v4) = v0 c
          ∧ r.2.mem ((c.tc : Thread Cert.RwDwRefIdeal.nD Cert.RwDwRefIdeal.τ).loc Cert.RwDwRefIdeal.main_arg0) = m' ((c.tc : Thread Cert.RwDwRefIdeal.nD Cert.RwDwRefIdeal.τ).loc Cert.RwDwRefIdeal.main_arg0)
          ∧ r.2.mem ((c.tc : Thread Cert.RwDwRefIdeal.nD Cert.RwDwRefIdeal.τ).loc Cert.RwDwRefIdeal.main_arg1) = m' ((c.tc : Thread Cert.RwDwRefIdeal.nD Cert.RwDwRefIdeal.τ).loc Cert.RwDwRefIdeal.main_arg1))

def preserves_LnBwd_LnBwdIdeal : Prop :=
  True

def algebraic_LnBwdIdeal_LnBwdRefIdeal [hLnBwdIdeal : Cert.LnBwdIdeal.Facts] [hLnBwdRefIdeal : Cert.LnBwdRefIdeal.Facts] : Prop :=
  ∀ (m : (ℓ : Loc Cert.LnBwdIdeal.nD Cert.LnBwdIdeal.τ Cert.LnBwdIdeal.sig) → Buf (Elt Ideal) ℓ) (g : Dev Cert.LnBwdIdeal.nD → PrngReg)
    (m' : (ℓ : Loc Cert.LnBwdRefIdeal.nD Cert.LnBwdRefIdeal.τ Cert.LnBwdRefIdeal.sig) → Buf (Elt Ideal) ℓ) (g' : Dev Cert.LnBwdRefIdeal.nD → PrngReg), Pre_LnBwdIdeal m →
    (∀ c : Dev Cert.LnBwdIdeal.nD,
      m' ((c.tc : Thread Cert.LnBwdRefIdeal.nD Cert.LnBwdRefIdeal.τ).loc Cert.LnBwdRefIdeal.main_arg0) = m ((c.tc : Thread Cert.LnBwdIdeal.nD Cert.LnBwdIdeal.τ).loc Cert.LnBwdIdeal.main_arg0)
      ∧ m' ((c.tc : Thread Cert.LnBwdRefIdeal.nD Cert.LnBwdRefIdeal.τ).loc Cert.LnBwdRefIdeal.main_arg1) = m ((c.tc : Thread Cert.LnBwdIdeal.nD Cert.LnBwdIdeal.τ).loc Cert.LnBwdIdeal.main_arg1)
      ∧ m' ((c.tc : Thread Cert.LnBwdRefIdeal.nD Cert.LnBwdRefIdeal.τ).loc Cert.LnBwdRefIdeal.main_arg2) = m ((c.tc : Thread Cert.LnBwdIdeal.nD Cert.LnBwdIdeal.τ).loc Cert.LnBwdIdeal.main_arg2)
      ∧ m' ((c.tc : Thread Cert.LnBwdRefIdeal.nD Cert.LnBwdRefIdeal.τ).loc Cert.LnBwdRefIdeal.main_arg3) = m ((c.tc : Thread Cert.LnBwdIdeal.nD Cert.LnBwdIdeal.τ).loc Cert.LnBwdIdeal.main_arg3)
      ∧ m' ((c.tc : Thread Cert.LnBwdRefIdeal.nD Cert.LnBwdRefIdeal.τ).loc Cert.LnBwdRefIdeal.main_arg4) = m ((c.tc : Thread Cert.LnBwdIdeal.nD Cert.LnBwdIdeal.τ).loc Cert.LnBwdIdeal.main_arg4)) →
    ∃ (v0 : (c : Dev Cert.LnBwdIdeal.nD) → Buf (Elt Ideal) ((c.tc : Thread Cert.LnBwdIdeal.nD Cert.LnBwdIdeal.τ).loc Cert.LnBwdIdeal.main_v1_0)) (v1 : (c : Dev Cert.LnBwdIdeal.nD) → Buf (Elt Ideal) ((c.tc : Thread Cert.LnBwdIdeal.nD Cert.LnBwdIdeal.τ).loc Cert.LnBwdIdeal.main_v1_1)) (v2 : (c : Dev Cert.LnBwdIdeal.nD) → Buf (Elt Ideal) ((c.tc : Thread Cert.LnBwdIdeal.nD Cert.LnBwdIdeal.τ).loc Cert.LnBwdIdeal.main_v1_2)) (v3 : (c : Dev Cert.LnBwdIdeal.nD) → Buf (Elt Ideal) ((c.tc : Thread Cert.LnBwdIdeal.nD Cert.LnBwdIdeal.τ).loc Cert.LnBwdIdeal.main_v1_3)),
      θ_run (Cert.LnBwdIdeal.defs (F := Ideal)) (onTc (τ := Cert.LnBwdIdeal.τ) (Cert.LnBwdIdeal.main (F := Ideal))) ⟨m, fun _ => 0, g⟩ (fun r => ∀ c : Dev Cert.LnBwdIdeal.nD,
          r.2.mem ((c.tc : Thread Cert.LnBwdIdeal.nD Cert.LnBwdIdeal.τ).loc Cert.LnBwdIdeal.main_v1_0) = v0 c
          ∧ r.2.mem ((c.tc : Thread Cert.LnBwdIdeal.nD Cert.LnBwdIdeal.τ).loc Cert.LnBwdIdeal.main_v1_1) = v1 c
          ∧ r.2.mem ((c.tc : Thread Cert.LnBwdIdeal.nD Cert.LnBwdIdeal.τ).loc Cert.LnBwdIdeal.main_v1_2) = v2 c
          ∧ r.2.mem ((c.tc : Thread Cert.LnBwdIdeal.nD Cert.LnBwdIdeal.τ).loc Cert.LnBwdIdeal.main_v1_3) = v3 c
          ∧ r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
          ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
          ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
          ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3)
          ∧ r.2.mem ((c.tc : Thread Cert.LnBwdIdeal.nD Cert.LnBwdIdeal.τ).loc Cert.LnBwdIdeal.main_arg4) = m ((c.tc : Thread Cert.LnBwdIdeal.nD Cert.LnBwdIdeal.τ).loc Cert.LnBwdIdeal.main_arg4))
      ∧ θ_run (Cert.LnBwdRefIdeal.defs (F := Ideal)) (onTc (τ := Cert.LnBwdRefIdeal.τ) (Cert.LnBwdRefIdeal.main (F := Ideal))) ⟨m', fun _ => 0, g'⟩ (fun r => ∀ c : Dev Cert.LnBwdRefIdeal.nD,
          r.2.mem ((c.tc : Thread Cert.LnBwdRefIdeal.nD Cert.LnBwdRefIdeal.τ).loc Cert.LnBwdRefIdeal.main_v63) = v0 c
          ∧ r.2.mem ((c.tc : Thread Cert.LnBwdRefIdeal.nD Cert.LnBwdRefIdeal.τ).loc Cert.LnBwdRefIdeal.main_v64) = v1 c
          ∧ r.2.mem ((c.tc : Thread Cert.LnBwdRefIdeal.nD Cert.LnBwdRefIdeal.τ).loc Cert.LnBwdRefIdeal.main_v65) = v2 c
          ∧ r.2.mem ((c.tc : Thread Cert.LnBwdRefIdeal.nD Cert.LnBwdRefIdeal.τ).loc Cert.LnBwdRefIdeal.main_v66) = v3 c
          ∧ r.2.mem ((c.tc : Thread Cert.LnBwdRefIdeal.nD Cert.LnBwdRefIdeal.τ).loc Cert.LnBwdRefIdeal.main_arg0) = m' ((c.tc : Thread Cert.LnBwdRefIdeal.nD Cert.LnBwdRefIdeal.τ).loc Cert.LnBwdRefIdeal.main_arg0)
          ∧ r.2.mem ((c.tc : Thread Cert.LnBwdRefIdeal.nD Cert.LnBwdRefIdeal.τ).loc Cert.LnBwdRefIdeal.main_arg1) = m' ((c.tc : Thread Cert.LnBwdRefIdeal.nD Cert.LnBwdRefIdeal.τ).loc Cert.LnBwdRefIdeal.main_arg1)
          ∧ r.2.mem ((c.tc : Thread Cert.LnBwdRefIdeal.nD Cert.LnBwdRefIdeal.τ).loc Cert.LnBwdRefIdeal.main_arg2) = m' ((c.tc : Thread Cert.LnBwdRefIdeal.nD Cert.LnBwdRefIdeal.τ).loc Cert.LnBwdRefIdeal.main_arg2)
          ∧ r.2.mem ((c.tc : Thread Cert.LnBwdRefIdeal.nD Cert.LnBwdRefIdeal.τ).loc Cert.LnBwdRefIdeal.main_arg3) = m' ((c.tc : Thread Cert.LnBwdRefIdeal.nD Cert.LnBwdRefIdeal.τ).loc Cert.LnBwdRefIdeal.main_arg3)
          ∧ r.2.mem ((c.tc : Thread Cert.LnBwdRefIdeal.nD Cert.LnBwdRefIdeal.τ).loc Cert.LnBwdRefIdeal.main_arg4) = m' ((c.tc : Thread Cert.LnBwdRefIdeal.nD Cert.LnBwdRefIdeal.τ).loc Cert.LnBwdRefIdeal.main_arg4))

def preserves_Ln_LnIdeal : Prop :=
  True

def algebraic_LnIdeal_LnRefIdeal [hLnIdeal : Cert.LnIdeal.Facts] [hLnRefIdeal : Cert.LnRefIdeal.Facts] : Prop :=
  ∀ (m : (ℓ : Loc Cert.LnIdeal.nD Cert.LnIdeal.τ Cert.LnIdeal.sig) → Buf (Elt Ideal) ℓ) (g : Dev Cert.LnIdeal.nD → PrngReg)
    (m' : (ℓ : Loc Cert.LnRefIdeal.nD Cert.LnRefIdeal.τ Cert.LnRefIdeal.sig) → Buf (Elt Ideal) ℓ) (g' : Dev Cert.LnRefIdeal.nD → PrngReg), Pre_LnIdeal m →
    (∀ c : Dev Cert.LnIdeal.nD,
      m' ((c.tc : Thread Cert.LnRefIdeal.nD Cert.LnRefIdeal.τ).loc Cert.LnRefIdeal.main_arg0) = m ((c.tc : Thread Cert.LnIdeal.nD Cert.LnIdeal.τ).loc Cert.LnIdeal.main_arg0)
      ∧ m' ((c.tc : Thread Cert.LnRefIdeal.nD Cert.LnRefIdeal.τ).loc Cert.LnRefIdeal.main_arg1) = m ((c.tc : Thread Cert.LnIdeal.nD Cert.LnIdeal.τ).loc Cert.LnIdeal.main_arg1)
      ∧ m' ((c.tc : Thread Cert.LnRefIdeal.nD Cert.LnRefIdeal.τ).loc Cert.LnRefIdeal.main_arg2) = m ((c.tc : Thread Cert.LnIdeal.nD Cert.LnIdeal.τ).loc Cert.LnIdeal.main_arg2)
      ∧ m' ((c.tc : Thread Cert.LnRefIdeal.nD Cert.LnRefIdeal.τ).loc Cert.LnRefIdeal.main_arg3) = m ((c.tc : Thread Cert.LnIdeal.nD Cert.LnIdeal.τ).loc Cert.LnIdeal.main_arg3)) →
    ∃ (v0 : (c : Dev Cert.LnIdeal.nD) → Buf (Elt Ideal) ((c.tc : Thread Cert.LnIdeal.nD Cert.LnIdeal.τ).loc Cert.LnIdeal.main_v1)),
      θ_run (Cert.LnIdeal.defs (F := Ideal)) (onTc (τ := Cert.LnIdeal.τ) (Cert.LnIdeal.main (F := Ideal))) ⟨m, fun _ => 0, g⟩ (fun r => ∀ c : Dev Cert.LnIdeal.nD,
          r.2.mem ((c.tc : Thread Cert.LnIdeal.nD Cert.LnIdeal.τ).loc Cert.LnIdeal.main_v1) = v0 c
          ∧ r.2.mem ((c.tc : Thread Cert.LnIdeal.nD Cert.LnIdeal.τ).loc Cert.LnIdeal.main_arg0) = m ((c.tc : Thread Cert.LnIdeal.nD Cert.LnIdeal.τ).loc Cert.LnIdeal.main_arg0)
          ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
          ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
          ∧ r.2.mem ((c.tc : Thread Cert.LnIdeal.nD Cert.LnIdeal.τ).loc Cert.LnIdeal.main_arg3) = m ((c.tc : Thread Cert.LnIdeal.nD Cert.LnIdeal.τ).loc Cert.LnIdeal.main_arg3))
      ∧ θ_run (Cert.LnRefIdeal.defs (F := Ideal)) (onTc (τ := Cert.LnRefIdeal.τ) (Cert.LnRefIdeal.main (F := Ideal))) ⟨m', fun _ => 0, g'⟩ (fun r => ∀ c : Dev Cert.LnRefIdeal.nD,
          r.2.mem ((c.tc : Thread Cert.LnRefIdeal.nD Cert.LnRefIdeal.τ).loc Cert.LnRefIdeal.main_v26) = v0 c
          ∧ r.2.mem ((c.tc : Thread Cert.LnRefIdeal.nD Cert.LnRefIdeal.τ).loc Cert.LnRefIdeal.main_arg0) = m' ((c.tc : Thread Cert.LnRefIdeal.nD Cert.LnRefIdeal.τ).loc Cert.LnRefIdeal.main_arg0)
          ∧ r.2.mem ((c.tc : Thread Cert.LnRefIdeal.nD Cert.LnRefIdeal.τ).loc Cert.LnRefIdeal.main_arg1) = m' ((c.tc : Thread Cert.LnRefIdeal.nD Cert.LnRefIdeal.τ).loc Cert.LnRefIdeal.main_arg1)
          ∧ r.2.mem ((c.tc : Thread Cert.LnRefIdeal.nD Cert.LnRefIdeal.τ).loc Cert.LnRefIdeal.main_arg2) = m' ((c.tc : Thread Cert.LnRefIdeal.nD Cert.LnRefIdeal.τ).loc Cert.LnRefIdeal.main_arg2)
          ∧ r.2.mem ((c.tc : Thread Cert.LnRefIdeal.nD Cert.LnRefIdeal.τ).loc Cert.LnRefIdeal.main_arg3) = m' ((c.tc : Thread Cert.LnRefIdeal.nD Cert.LnRefIdeal.τ).loc Cert.LnRefIdeal.main_arg3))

def preserves_Ln0_Ln0Ideal : Prop :=
  True

def algebraic_Ln0Ideal_Ln0RefIdeal [hLn0Ideal : Cert.Ln0Ideal.Facts] [hLn0RefIdeal : Cert.Ln0RefIdeal.Facts] : Prop :=
  ∀ (m : (ℓ : Loc Cert.Ln0Ideal.nD Cert.Ln0Ideal.τ Cert.Ln0Ideal.sig) → Buf (Elt Ideal) ℓ) (g : Dev Cert.Ln0Ideal.nD → PrngReg)
    (m' : (ℓ : Loc Cert.Ln0RefIdeal.nD Cert.Ln0RefIdeal.τ Cert.Ln0RefIdeal.sig) → Buf (Elt Ideal) ℓ) (g' : Dev Cert.Ln0RefIdeal.nD → PrngReg), Pre_Ln0Ideal m →
    (∀ c : Dev Cert.Ln0Ideal.nD,
      m' ((c.tc : Thread Cert.Ln0RefIdeal.nD Cert.Ln0RefIdeal.τ).loc Cert.Ln0RefIdeal.main_arg0) = m ((c.tc : Thread Cert.Ln0Ideal.nD Cert.Ln0Ideal.τ).loc Cert.Ln0Ideal.main_arg0)
      ∧ m' ((c.tc : Thread Cert.Ln0RefIdeal.nD Cert.Ln0RefIdeal.τ).loc Cert.Ln0RefIdeal.main_arg1) = m ((c.tc : Thread Cert.Ln0Ideal.nD Cert.Ln0Ideal.τ).loc Cert.Ln0Ideal.main_arg1)
      ∧ m' ((c.tc : Thread Cert.Ln0RefIdeal.nD Cert.Ln0RefIdeal.τ).loc Cert.Ln0RefIdeal.main_arg2) = m ((c.tc : Thread Cert.Ln0Ideal.nD Cert.Ln0Ideal.τ).loc Cert.Ln0Ideal.main_arg2)
      ∧ m' ((c.tc : Thread Cert.Ln0RefIdeal.nD Cert.Ln0RefIdeal.τ).loc Cert.Ln0RefIdeal.main_arg3) = m ((c.tc : Thread Cert.Ln0Ideal.nD Cert.Ln0Ideal.τ).loc Cert.Ln0Ideal.main_arg3)) →
    ∃ (v0 : (c : Dev Cert.Ln0Ideal.nD) → Buf (Elt Ideal) ((c.tc : Thread Cert.Ln0Ideal.nD Cert.Ln0Ideal.τ).loc Cert.Ln0Ideal.main_v1_0)) (v1 : (c : Dev Cert.Ln0Ideal.nD) → Buf (Elt Ideal) ((c.tc : Thread Cert.Ln0Ideal.nD Cert.Ln0Ideal.τ).loc Cert.Ln0Ideal.main_v1_1)),
      θ_run (Cert.Ln0Ideal.defs (F := Ideal)) (onTc (τ := Cert.Ln0Ideal.τ) (Cert.Ln0Ideal.main (F := Ideal))) ⟨m, fun _ => 0, g⟩ (fun r => ∀ c : Dev Cert.Ln0Ideal.nD,
          r.2.mem ((c.tc : Thread Cert.Ln0Ideal.nD Cert.Ln0Ideal.τ).loc Cert.Ln0Ideal.main_v1_0) = v0 c
          ∧ r.2.mem ((c.tc : Thread Cert.Ln0Ideal.nD Cert.Ln0Ideal.τ).loc Cert.Ln0Ideal.main_v1_1) = v1 c
          ∧ r.2.mem ((c.tc : Thread Cert.Ln0Ideal.nD Cert.Ln0Ideal.τ).loc Cert.Ln0Ideal.main_arg0) = m ((c.tc : Thread Cert.Ln0Ideal.nD Cert.Ln0Ideal.τ).loc Cert.Ln0Ideal.main_arg0)
          ∧ r.2.mem ((c.tc : Thread Cert.Ln0Ideal.nD Cert.Ln0Ideal.τ).loc Cert.Ln0Ideal.main_arg1) = m ((c.tc : Thread Cert.Ln0Ideal.nD Cert.Ln0Ideal.τ).loc Cert.Ln0Ideal.main_arg1)
          ∧ r.2.mem ((c.tc : Thread Cert.Ln0Ideal.nD Cert.Ln0Ideal.τ).loc Cert.Ln0Ideal.main_arg2) = m ((c.tc : Thread Cert.Ln0Ideal.nD Cert.Ln0Ideal.τ).loc Cert.Ln0Ideal.main_arg2)
          ∧ r.2.mem ((c.tc : Thread Cert.Ln0Ideal.nD Cert.Ln0Ideal.τ).loc Cert.Ln0Ideal.main_arg3) = m ((c.tc : Thread Cert.Ln0Ideal.nD Cert.Ln0Ideal.τ).loc Cert.Ln0Ideal.main_arg3))
      ∧ θ_run (Cert.Ln0RefIdeal.defs (F := Ideal)) (onTc (τ := Cert.Ln0RefIdeal.τ) (Cert.Ln0RefIdeal.main (F := Ideal))) ⟨m', fun _ => 0, g'⟩ (fun r => ∀ c : Dev Cert.Ln0RefIdeal.nD,
          r.2.mem ((c.tc : Thread Cert.Ln0RefIdeal.nD Cert.Ln0RefIdeal.τ).loc Cert.Ln0RefIdeal.main_v26) = v0 c
          ∧ r.2.mem ((c.tc : Thread Cert.Ln0RefIdeal.nD Cert.Ln0RefIdeal.τ).loc Cert.Ln0RefIdeal.main_v27) = v1 c
          ∧ r.2.mem ((c.tc : Thread Cert.Ln0RefIdeal.nD Cert.Ln0RefIdeal.τ).loc Cert.Ln0RefIdeal.main_arg0) = m' ((c.tc : Thread Cert.Ln0RefIdeal.nD Cert.Ln0RefIdeal.τ).loc Cert.Ln0RefIdeal.main_arg0)
          ∧ r.2.mem ((c.tc : Thread Cert.Ln0RefIdeal.nD Cert.Ln0RefIdeal.τ).loc Cert.Ln0RefIdeal.main_arg1) = m' ((c.tc : Thread Cert.Ln0RefIdeal.nD Cert.Ln0RefIdeal.τ).loc Cert.Ln0RefIdeal.main_arg1)
          ∧ r.2.mem ((c.tc : Thread Cert.Ln0RefIdeal.nD Cert.Ln0RefIdeal.τ).loc Cert.Ln0RefIdeal.main_arg2) = m' ((c.tc : Thread Cert.Ln0RefIdeal.nD Cert.Ln0RefIdeal.τ).loc Cert.Ln0RefIdeal.main_arg2)
          ∧ r.2.mem ((c.tc : Thread Cert.Ln0RefIdeal.nD Cert.Ln0RefIdeal.τ).loc Cert.Ln0RefIdeal.main_arg3) = m' ((c.tc : Thread Cert.Ln0RefIdeal.nD Cert.Ln0RefIdeal.τ).loc Cert.Ln0RefIdeal.main_arg3))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v12) = v0 c
          ∧ r.2.mem ((c.tc : Thread Cert.LossRefIdeal.nD Cert.LossRefIdeal.τ).loc Cert.LossRefIdeal.main_v18) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_GluLnBwd_GluLnBwdIdeal : Prop :=
  True

def algebraic_GluLnBwdIdeal_GluLnBwdRefIdeal [hGluLnBwdIdeal : Cert.GluLnBwdIdeal.Facts] [hGluLnBwdRefIdeal : Cert.GluLnBwdRefIdeal.Facts] : Prop :=
  ∀ (m : (ℓ : Loc Cert.GluLnBwdIdeal.nD Cert.GluLnBwdIdeal.τ Cert.GluLnBwdIdeal.sig) → Buf (Elt Ideal) ℓ) (g : Dev Cert.GluLnBwdIdeal.nD → PrngReg)
    (m' : (ℓ : Loc Cert.GluLnBwdRefIdeal.nD Cert.GluLnBwdRefIdeal.τ Cert.GluLnBwdRefIdeal.sig) → Buf (Elt Ideal) ℓ) (g' : Dev Cert.GluLnBwdRefIdeal.nD → PrngReg), Pre_GluLnBwdIdeal m →
    (∀ c : Dev Cert.GluLnBwdIdeal.nD,
      m' ((c.tc : Thread Cert.GluLnBwdRefIdeal.nD Cert.GluLnBwdRefIdeal.τ).loc Cert.GluLnBwdRefIdeal.main_arg0) = m ((c.tc : Thread Cert.GluLnBwdIdeal.nD Cert.GluLnBwdIdeal.τ).loc Cert.GluLnBwdIdeal.main_arg0)
      ∧ m' ((c.tc : Thread Cert.GluLnBwdRefIdeal.nD Cert.GluLnBwdRefIdeal.τ).loc Cert.GluLnBwdRefIdeal.main_arg1) = m ((c.tc : Thread Cert.GluLnBwdIdeal.nD Cert.GluLnBwdIdeal.τ).loc Cert.GluLnBwdIdeal.main_arg1)
      ∧ m' ((c.tc : Thread Cert.GluLnBwdRefIdeal.nD Cert.GluLnBwdRefIdeal.τ).loc Cert.GluLnBwdRefIdeal.main_arg2) = m ((c.tc : Thread Cert.GluLnBwdIdeal.nD Cert.GluLnBwdIdeal.τ).loc Cert.GluLnBwdIdeal.main_arg2)
      ∧ m' ((c.tc : Thread Cert.GluLnBwdRefIdeal.nD Cert.GluLnBwdRefIdeal.τ).loc Cert.GluLnBwdRefIdeal.main_arg3) = m ((c.tc : Thread Cert.GluLnBwdIdeal.nD Cert.GluLnBwdIdeal.τ).loc Cert.GluLnBwdIdeal.main_arg3)
      ∧ m' ((c.tc : Thread Cert.GluLnBwdRefIdeal.nD Cert.GluLnBwdRefIdeal.τ).loc Cert.GluLnBwdRefIdeal.main_arg4) = m ((c.tc : Thread Cert.GluLnBwdIdeal.nD Cert.GluLnBwdIdeal.τ).loc Cert.GluLnBwdIdeal.main_arg4)) →
    ∃ (v0 : (c : Dev Cert.GluLnBwdIdeal.nD) → Buf (Elt Ideal) ((c.tc : Thread Cert.GluLnBwdIdeal.nD Cert.GluLnBwdIdeal.τ).loc Cert.GluLnBwdIdeal.main_v1_0)) (v1 : (c : Dev Cert.GluLnBwdIdeal.nD) → Buf (Elt Ideal) ((c.tc : Thread Cert.GluLnBwdIdeal.nD Cert.GluLnBwdIdeal.τ).loc Cert.GluLnBwdIdeal.main_v1_1)) (v2 : (c : Dev Cert.GluLnBwdIdeal.nD) → Buf (Elt Ideal) ((c.tc : Thread Cert.GluLnBwdIdeal.nD Cert.GluLnBwdIdeal.τ).loc Cert.GluLnBwdIdeal.main_v1_2)) (v3 : (c : Dev Cert.GluLnBwdIdeal.nD) → Buf (Elt Ideal) ((c.tc : Thread Cert.GluLnBwdIdeal.nD Cert.GluLnBwdIdeal.τ).loc Cert.GluLnBwdIdeal.main_v1_3)),
      θ_run (Cert.GluLnBwdIdeal.defs (F := Ideal)) (onTc (τ := Cert.GluLnBwdIdeal.τ) (Cert.GluLnBwdIdeal.main (F := Ideal))) ⟨m, fun _ => 0, g⟩ (fun r => ∀ c : Dev Cert.GluLnBwdIdeal.nD,
          r.2.mem ((c.tc : Thread Cert.GluLnBwdIdeal.nD Cert.GluLnBwdIdeal.τ).loc Cert.GluLnBwdIdeal.main_v1_0) = v0 c
          ∧ r.2.mem ((c.tc : Thread Cert.GluLnBwdIdeal.nD Cert.GluLnBwdIdeal.τ).loc Cert.GluLnBwdIdeal.main_v1_1) = v1 c
          ∧ r.2.mem ((c.tc : Thread Cert.GluLnBwdIdeal.nD Cert.GluLnBwdIdeal.τ).loc Cert.GluLnBwdIdeal.main_v1_2) = v2 c
          ∧ r.2.mem ((c.tc : Thread Cert.GluLnBwdIdeal.nD Cert.GluLnBwdIdeal.τ).loc Cert.GluLnBwdIdeal.main_v1_3) = v3 c
          ∧ r.2.mem ((c.tc : Thread Cert.GluLnBwdIdeal.nD Cert.GluLnBwdIdeal.τ).loc Cert.GluLnBwdIdeal.main_arg0) = m ((c.tc : Thread Cert.GluLnBwdIdeal.nD Cert.GluLnBwdIdeal.τ).loc Cert.GluLnBwdIdeal.main_arg0)
          ∧ r.2.mem ((c.tc : Thread Cert.GluLnBwdIdeal.nD Cert.GluLnBwdIdeal.τ).loc Cert.GluLnBwdIdeal.main_arg1) = m ((c.tc : Thread Cert.GluLnBwdIdeal.nD Cert.GluLnBwdIdeal.τ).loc Cert.GluLnBwdIdeal.main_arg1)
          ∧ r.2.mem ((c.tc : Thread Cert.GluLnBwdIdeal.nD Cert.GluLnBwdIdeal.τ).loc Cert.GluLnBwdIdeal.main_arg2) = m ((c.tc : Thread Cert.GluLnBwdIdeal.nD Cert.GluLnBwdIdeal.τ).loc Cert.GluLnBwdIdeal.main_arg2)
          ∧ r.2.mem ((c.tc : Thread Cert.GluLnBwdIdeal.nD Cert.GluLnBwdIdeal.τ).loc Cert.GluLnBwdIdeal.main_arg3) = m ((c.tc : Thread Cert.GluLnBwdIdeal.nD Cert.GluLnBwdIdeal.τ).loc Cert.GluLnBwdIdeal.main_arg3)
          ∧ r.2.mem ((c.tc : Thread Cert.GluLnBwdIdeal.nD Cert.GluLnBwdIdeal.τ).loc Cert.GluLnBwdIdeal.main_arg4) = m ((c.tc : Thread Cert.GluLnBwdIdeal.nD Cert.GluLnBwdIdeal.τ).loc Cert.GluLnBwdIdeal.main_arg4))
      ∧ θ_run (Cert.GluLnBwdRefIdeal.defs (F := Ideal)) (onTc (τ := Cert.GluLnBwdRefIdeal.τ) (Cert.GluLnBwdRefIdeal.main (F := Ideal))) ⟨m', fun _ => 0, g'⟩ (fun r => ∀ c : Dev Cert.GluLnBwdRefIdeal.nD,
          r.2.mem ((c.tc : Thread Cert.GluLnBwdRefIdeal.nD Cert.GluLnBwdRefIdeal.τ).loc Cert.GluLnBwdRefIdeal.main_v81) = v0 c
          ∧ r.2.mem ((c.tc : Thread Cert.GluLnBwdRefIdeal.nD Cert.GluLnBwdRefIdeal.τ).loc Cert.GluLnBwdRefIdeal.main_v82) = v1 c
          ∧ r.2.mem ((c.tc : Thread Cert.GluLnBwdRefIdeal.nD Cert.GluLnBwdRefIdeal.τ).loc Cert.GluLnBwdRefIdeal.main_v83) = v2 c
          ∧ r.2.mem ((c.tc : Thread Cert.GluLnBwdRefIdeal.nD Cert.GluLnBwdRefIdeal.τ).loc Cert.GluLnBwdRefIdeal.main_v84) = v3 c
          ∧ r.2.mem ((c.tc : Thread Cert.GluLnBwdRefIdeal.nD Cert.GluLnBwdRefIdeal.τ).loc Cert.GluLnBwdRefIdeal.main_arg0) = m' ((c.tc : Thread Cert.GluLnBwdRefIdeal.nD Cert.GluLnBwdRefIdeal.τ).loc Cert.GluLnBwdRefIdeal.main_arg0)
          ∧ r.2.mem ((c.tc : Thread Cert.GluLnBwdRefIdeal.nD Cert.GluLnBwdRefIdeal.τ).loc Cert.GluLnBwdRefIdeal.main_arg1) = m' ((c.tc : Thread Cert.GluLnBwdRefIdeal.nD Cert.GluLnBwdRefIdeal.τ).loc Cert.GluLnBwdRefIdeal.main_arg1)
          ∧ r.2.mem ((c.tc : Thread Cert.GluLnBwdRefIdeal.nD Cert.GluLnBwdRefIdeal.τ).loc Cert.GluLnBwdRefIdeal.main_arg2) = m' ((c.tc : Thread Cert.GluLnBwdRefIdeal.nD Cert.GluLnBwdRefIdeal.τ).loc Cert.GluLnBwdRefIdeal.main_arg2)
          ∧ r.2.mem ((c.tc : Thread Cert.GluLnBwdRefIdeal.nD Cert.GluLnBwdRefIdeal.τ).loc Cert.GluLnBwdRefIdeal.main_arg3) = m' ((c.tc : Thread Cert.GluLnBwdRefIdeal.nD Cert.GluLnBwdRefIdeal.τ).loc Cert.GluLnBwdRefIdeal.main_arg3)
          ∧ r.2.mem ((c.tc : Thread Cert.GluLnBwdRefIdeal.nD Cert.GluLnBwdRefIdeal.τ).loc Cert.GluLnBwdRefIdeal.main_arg4) = m' ((c.tc : Thread Cert.GluLnBwdRefIdeal.nD Cert.GluLnBwdRefIdeal.τ).loc Cert.GluLnBwdRefIdeal.main_arg4))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)) →
    ∃ (v0 : (c : Dev Cert.GateIdeal.nD) → Buf (Elt Ideal) ((c.tc : Thread Cert.GateIdeal.nD Cert.GateIdeal.τ).loc Cert.GateIdeal.main_v0)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v28) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4))

def preserves_S5Bbar_S5BbarIdeal : Prop :=
  True

def algebraic_S5BbarIdeal_S5BbarRefIdeal [hS5BbarIdeal : Cert.S5BbarIdeal.Facts] [hS5BbarRefIdeal : Cert.S5BbarRefIdeal.Facts] : Prop :=
  ∀ (m : (ℓ : Loc Cert.S5BbarIdeal.nD Cert.S5BbarIdeal.τ Cert.S5BbarIdeal.sig) → Buf (Elt Ideal) ℓ) (g : Dev Cert.S5BbarIdeal.nD → PrngReg)
    (m' : (ℓ : Loc Cert.S5BbarRefIdeal.nD Cert.S5BbarRefIdeal.τ Cert.S5BbarRefIdeal.sig) → Buf (Elt Ideal) ℓ) (g' : Dev Cert.S5BbarRefIdeal.nD → PrngReg), Pre_S5BbarIdeal m →
    (∀ c : Dev Cert.S5BbarIdeal.nD,
      m' ((c.tc : Thread Cert.S5BbarRefIdeal.nD Cert.S5BbarRefIdeal.τ).loc Cert.S5BbarRefIdeal.main_arg0) = m ((c.tc : Thread Cert.S5BbarIdeal.nD Cert.S5BbarIdeal.τ).loc Cert.S5BbarIdeal.main_arg0)
      ∧ m' ((c.tc : Thread Cert.S5BbarRefIdeal.nD Cert.S5BbarRefIdeal.τ).loc Cert.S5BbarRefIdeal.main_arg1) = m ((c.tc : Thread Cert.S5BbarIdeal.nD Cert.S5BbarIdeal.τ).loc Cert.S5BbarIdeal.main_arg1)
      ∧ m' ((c.tc : Thread Cert.S5BbarRefIdeal.nD Cert.S5BbarRefIdeal.τ).loc Cert.S5BbarRefIdeal.main_arg2) = m ((c.tc : Thread Cert.S5BbarIdeal.nD Cert.S5BbarIdeal.τ).loc Cert.S5BbarIdeal.main_arg2)
      ∧ m' ((c.tc : Thread Cert.S5BbarRefIdeal.nD Cert.S5BbarRefIdeal.τ).loc Cert.S5BbarRefIdeal.main_arg3) = m ((c.tc : Thread Cert.S5BbarIdeal.nD Cert.S5BbarIdeal.τ).loc Cert.S5BbarIdeal.main_arg3)) →
    ∃ (v0 : (c : Dev Cert.S5BbarIdeal.nD) → Buf (Elt Ideal) ((c.tc : Thread Cert.S5BbarIdeal.nD Cert.S5BbarIdeal.τ).loc Cert.S5BbarIdeal.main_v6_0)) (v1 : (c : Dev Cert.S5BbarIdeal.nD) → Buf (Elt Ideal) ((c.tc : Thread Cert.S5BbarIdeal.nD Cert.S5BbarIdeal.τ).loc Cert.S5BbarIdeal.main_v6_1)),
      θ_run (Cert.S5BbarIdeal.defs (F := Ideal)) (onTc (τ := Cert.S5BbarIdeal.τ) (Cert.S5BbarIdeal.main (F := Ideal))) ⟨m, fun _ => 0, g⟩ (fun r => ∀ c : Dev Cert.S5BbarIdeal.nD,
          r.2.mem ((c.tc : Thread Cert.S5BbarIdeal.nD Cert.S5BbarIdeal.τ).loc Cert.S5BbarIdeal.main_v6_0) = v0 c
          ∧ r.2.mem ((c.tc : Thread Cert.S5BbarIdeal.nD Cert.S5BbarIdeal.τ).loc Cert.S5BbarIdeal.main_v6_1) = v1 c
          ∧ r.2.mem ((c.tc : Thread Cert.S5BbarIdeal.nD Cert.S5BbarIdeal.τ).loc Cert.S5BbarIdeal.main_arg0) = m ((c.tc : Thread Cert.S5BbarIdeal.nD Cert.S5BbarIdeal.τ).loc Cert.S5BbarIdeal.main_arg0)
          ∧ r.2.mem ((c.tc : Thread Cert.S5BbarIdeal.nD Cert.S5BbarIdeal.τ).loc Cert.S5BbarIdeal.main_arg1) = m ((c.tc : Thread Cert.S5BbarIdeal.nD Cert.S5BbarIdeal.τ).loc Cert.S5BbarIdeal.main_arg1)
          ∧ r.2.mem ((c.tc : Thread Cert.S5BbarIdeal.nD Cert.S5BbarIdeal.τ).loc Cert.S5BbarIdeal.main_arg2) = m ((c.tc : Thread Cert.S5BbarIdeal.nD Cert.S5BbarIdeal.τ).loc Cert.S5BbarIdeal.main_arg2)
          ∧ r.2.mem ((c.tc : Thread Cert.S5BbarIdeal.nD Cert.S5BbarIdeal.τ).loc Cert.S5BbarIdeal.main_arg3) = m ((c.tc : Thread Cert.S5BbarIdeal.nD Cert.S5BbarIdeal.τ).loc Cert.S5BbarIdeal.main_arg3))
      ∧ θ_run (Cert.S5BbarRefIdeal.defs (F := Ideal)) (onTc (τ := Cert.S5BbarRefIdeal.τ) (Cert.S5BbarRefIdeal.main (F := Ideal))) ⟨m', fun _ => 0, g'⟩ (fun r => ∀ c : Dev Cert.S5BbarRefIdeal.nD,
          r.2.mem ((c.tc : Thread Cert.S5BbarRefIdeal.nD Cert.S5BbarRefIdeal.τ).loc Cert.S5BbarRefIdeal.main_v14) = v0 c
          ∧ r.2.mem ((c.tc : Thread Cert.S5BbarRefIdeal.nD Cert.S5BbarRefIdeal.τ).loc Cert.S5BbarRefIdeal.main_v15) = v1 c
          ∧ r.2.mem ((c.tc : Thread Cert.S5BbarRefIdeal.nD Cert.S5BbarRefIdeal.τ).loc Cert.S5BbarRefIdeal.main_arg0) = m' ((c.tc : Thread Cert.S5BbarRefIdeal.nD Cert.S5BbarRefIdeal.τ).loc Cert.S5BbarRefIdeal.main_arg0)
          ∧ r.2.mem ((c.tc : Thread Cert.S5BbarRefIdeal.nD Cert.S5BbarRefIdeal.τ).loc Cert.S5BbarRefIdeal.main_arg1) = m' ((c.tc : Thread Cert.S5BbarRefIdeal.nD Cert.S5BbarRefIdeal.τ).loc Cert.S5BbarRefIdeal.main_arg1)
          ∧ r.2.mem ((c.tc : Thread Cert.S5BbarRefIdeal.nD Cert.S5BbarRefIdeal.τ).loc Cert.S5BbarRefIdeal.main_arg2) = m' ((c.tc : Thread Cert.S5BbarRefIdeal.nD Cert.S5BbarRefIdeal.τ).loc Cert.S5BbarRefIdeal.main_arg2)
          ∧ r.2.mem ((c.tc : Thread Cert.S5BbarRefIdeal.nD Cert.S5BbarRefIdeal.τ).loc Cert.S5BbarRefIdeal.main_arg3) = m' ((c.tc : Thread Cert.S5BbarRefIdeal.nD Cert.S5BbarRefIdeal.τ).loc Cert.S5BbarRefIdeal.main_arg3))

def preserves_S5Param_S5ParamIdeal : Prop :=
  True

def algebraic_S5ParamIdeal_S5ParamRefIdeal [hS5ParamIdeal : Cert.S5ParamIdeal.Facts] [hS5ParamRefIdeal : Cert.S5ParamRefIdeal.Facts] : Prop :=
  ∀ (m : (ℓ : Loc Cert.S5ParamIdeal.nD Cert.S5ParamIdeal.τ Cert.S5ParamIdeal.sig) → Buf (Elt Ideal) ℓ) (g : Dev Cert.S5ParamIdeal.nD → PrngReg)
    (m' : (ℓ : Loc Cert.S5ParamRefIdeal.nD Cert.S5ParamRefIdeal.τ Cert.S5ParamRefIdeal.sig) → Buf (Elt Ideal) ℓ) (g' : Dev Cert.S5ParamRefIdeal.nD → PrngReg), Pre_S5ParamIdeal m →
    (∀ c : Dev Cert.S5ParamIdeal.nD,
      m' ((c.tc : Thread Cert.S5ParamRefIdeal.nD Cert.S5ParamRefIdeal.τ).loc Cert.S5ParamRefIdeal.main_arg0) = m ((c.tc : Thread Cert.S5ParamIdeal.nD Cert.S5ParamIdeal.τ).loc Cert.S5ParamIdeal.main_arg0)
      ∧ m' ((c.tc : Thread Cert.S5ParamRefIdeal.nD Cert.S5ParamRefIdeal.τ).loc Cert.S5ParamRefIdeal.main_arg1) = m ((c.tc : Thread Cert.S5ParamIdeal.nD Cert.S5ParamIdeal.τ).loc Cert.S5ParamIdeal.main_arg1)
      ∧ m' ((c.tc : Thread Cert.S5ParamRefIdeal.nD Cert.S5ParamRefIdeal.τ).loc Cert.S5ParamRefIdeal.main_arg2) = m ((c.tc : Thread Cert.S5ParamIdeal.nD Cert.S5ParamIdeal.τ).loc Cert.S5ParamIdeal.main_arg2)) →
    ∃ (v0 : (c : Dev Cert.S5ParamIdeal.nD) → Buf (Elt Ideal) ((c.tc : Thread Cert.S5ParamIdeal.nD Cert.S5ParamIdeal.τ).loc Cert.S5ParamIdeal.main_v3_0)) (v1 : (c : Dev Cert.S5ParamIdeal.nD) → Buf (Elt Ideal) ((c.tc : Thread Cert.S5ParamIdeal.nD Cert.S5ParamIdeal.τ).loc Cert.S5ParamIdeal.main_v3_1)) (v2 : (c : Dev Cert.S5ParamIdeal.nD) → Buf (Elt Ideal) ((c.tc : Thread Cert.S5ParamIdeal.nD Cert.S5ParamIdeal.τ).loc Cert.S5ParamIdeal.main_v3_2)) (v3 : (c : Dev Cert.S5ParamIdeal.nD) → Buf (Elt Ideal) ((c.tc : Thread Cert.S5ParamIdeal.nD Cert.S5ParamIdeal.τ).loc Cert.S5ParamIdeal.main_v3_3)),
      θ_run (Cert.S5ParamIdeal.defs (F := Ideal)) (onTc (τ := Cert.S5ParamIdeal.τ) (Cert.S5ParamIdeal.main (F := Ideal))) ⟨m, fun _ => 0, g⟩ (fun r => ∀ c : Dev Cert.S5ParamIdeal.nD,
          r.2.mem ((c.tc : Thread Cert.S5ParamIdeal.nD Cert.S5ParamIdeal.τ).loc Cert.S5ParamIdeal.main_v3_0) = v0 c
          ∧ r.2.mem ((c.tc : Thread Cert.S5ParamIdeal.nD Cert.S5ParamIdeal.τ).loc Cert.S5ParamIdeal.main_v3_1) = v1 c
          ∧ r.2.mem ((c.tc : Thread Cert.S5ParamIdeal.nD Cert.S5ParamIdeal.τ).loc Cert.S5ParamIdeal.main_v3_2) = v2 c
          ∧ r.2.mem ((c.tc : Thread Cert.S5ParamIdeal.nD Cert.S5ParamIdeal.τ).loc Cert.S5ParamIdeal.main_v3_3) = v3 c
          ∧ r.2.mem ((c.tc : Thread Cert.S5ParamIdeal.nD Cert.S5ParamIdeal.τ).loc Cert.S5ParamIdeal.main_arg0) = m ((c.tc : Thread Cert.S5ParamIdeal.nD Cert.S5ParamIdeal.τ).loc Cert.S5ParamIdeal.main_arg0)
          ∧ r.2.mem ((c.tc : Thread Cert.S5ParamIdeal.nD Cert.S5ParamIdeal.τ).loc Cert.S5ParamIdeal.main_arg1) = m ((c.tc : Thread Cert.S5ParamIdeal.nD Cert.S5ParamIdeal.τ).loc Cert.S5ParamIdeal.main_arg1)
          ∧ r.2.mem ((c.tc : Thread Cert.S5ParamIdeal.nD Cert.S5ParamIdeal.τ).loc Cert.S5ParamIdeal.main_arg2) = m ((c.tc : Thread Cert.S5ParamIdeal.nD Cert.S5ParamIdeal.τ).loc Cert.S5ParamIdeal.main_arg2))
      ∧ θ_run (Cert.S5ParamRefIdeal.defs (F := Ideal)) (onTc (τ := Cert.S5ParamRefIdeal.τ) (Cert.S5ParamRefIdeal.main (F := Ideal))) ⟨m', fun _ => 0, g'⟩ (fun r => ∀ c : Dev Cert.S5ParamRefIdeal.nD,
          r.2.mem ((c.tc : Thread Cert.S5ParamRefIdeal.nD Cert.S5ParamRefIdeal.τ).loc Cert.S5ParamRefIdeal.main_v13) = v0 c
          ∧ r.2.mem ((c.tc : Thread Cert.S5ParamRefIdeal.nD Cert.S5ParamRefIdeal.τ).loc Cert.S5ParamRefIdeal.main_v17) = v1 c
          ∧ r.2.mem ((c.tc : Thread Cert.S5ParamRefIdeal.nD Cert.S5ParamRefIdeal.τ).loc Cert.S5ParamRefIdeal.main_v26) = v2 c
          ∧ r.2.mem ((c.tc : Thread Cert.S5ParamRefIdeal.nD Cert.S5ParamRefIdeal.τ).loc Cert.S5ParamRefIdeal.main_v30) = v3 c
          ∧ r.2.mem ((c.tc : Thread Cert.S5ParamRefIdeal.nD Cert.S5ParamRefIdeal.τ).loc Cert.S5ParamRefIdeal.main_arg0) = m' ((c.tc : Thread Cert.S5ParamRefIdeal.nD Cert.S5ParamRefIdeal.τ).loc Cert.S5ParamRefIdeal.main_arg0)
          ∧ r.2.mem ((c.tc : Thread Cert.S5ParamRefIdeal.nD Cert.S5ParamRefIdeal.τ).loc Cert.S5ParamRefIdeal.main_arg1) = m' ((c.tc : Thread Cert.S5ParamRefIdeal.nD Cert.S5ParamRefIdeal.τ).loc Cert.S5ParamRefIdeal.main_arg1)
          ∧ r.2.mem ((c.tc : Thread Cert.S5ParamRefIdeal.nD Cert.S5ParamRefIdeal.τ).loc Cert.S5ParamRefIdeal.main_arg2) = m' ((c.tc : Thread Cert.S5ParamRefIdeal.nD Cert.S5ParamRefIdeal.τ).loc Cert.S5ParamRefIdeal.main_arg2))

def Claim : Prop :=
  ∃ (hKernel : Cert.Kernel.Facts) (hKernelIdeal : Cert.KernelIdeal.Facts) (hUp : Cert.Up.Facts) (hUpIdeal : Cert.UpIdeal.Facts) (hUpRefIdeal : Cert.UpRefIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hUpDw : Cert.UpDw.Facts) (hUpDwIdeal : Cert.UpDwIdeal.Facts) (hUpDwRefIdeal : Cert.UpDwRefIdeal.Facts) (hUpDx : Cert.UpDx.Facts) (hUpDxIdeal : Cert.UpDxIdeal.Facts) (hUpDxRefIdeal : Cert.UpDxRefIdeal.Facts) (hDown : Cert.Down.Facts) (hDownIdeal : Cert.DownIdeal.Facts) (hDownRefIdeal : Cert.DownRefIdeal.Facts) (hUp0 : Cert.Up0.Facts) (hUp0Ideal : Cert.Up0Ideal.Facts) (hUp0RefIdeal : Cert.Up0RefIdeal.Facts) (hDownDx0 : Cert.DownDx0.Facts) (hDownDx0Ideal : Cert.DownDx0Ideal.Facts) (hDownDx0RefIdeal : Cert.DownDx0RefIdeal.Facts) (hUpDx0 : Cert.UpDx0.Facts) (hUpDx0Ideal : Cert.UpDx0Ideal.Facts) (hUpDx0RefIdeal : Cert.UpDx0RefIdeal.Facts) (hDown0 : Cert.Down0.Facts) (hDown0Ideal : Cert.Down0Ideal.Facts) (hDown0RefIdeal : Cert.Down0RefIdeal.Facts) (hGlu : Cert.Glu.Facts) (hGluIdeal : Cert.GluIdeal.Facts) (hGluRefIdeal : Cert.GluRefIdeal.Facts) (hGluDx : Cert.GluDx.Facts) (hGluDxIdeal : Cert.GluDxIdeal.Facts) (hGluDxRefIdeal : Cert.GluDxRefIdeal.Facts) (hGluDw : Cert.GluDw.Facts) (hGluDwIdeal : Cert.GluDwIdeal.Facts) (hGluDwRefIdeal : Cert.GluDwRefIdeal.Facts) (hRwIn : Cert.RwIn.Facts) (hRwInIdeal : Cert.RwInIdeal.Facts) (hRwInRefIdeal : Cert.RwInRefIdeal.Facts) (hRwOut : Cert.RwOut.Facts) (hRwOutIdeal : Cert.RwOutIdeal.Facts) (hRwOutRefIdeal : Cert.RwOutRefIdeal.Facts) (hRwDx : Cert.RwDx.Facts) (hRwDxIdeal : Cert.RwDxIdeal.Facts) (hRwDxRefIdeal : Cert.RwDxRefIdeal.Facts) (hRwDw : Cert.RwDw.Facts) (hRwDwIdeal : Cert.RwDwIdeal.Facts) (hRwDwRefIdeal : Cert.RwDwRefIdeal.Facts) (hLnBwd : Cert.LnBwd.Facts) (hLnBwdIdeal : Cert.LnBwdIdeal.Facts) (hLnBwdRefIdeal : Cert.LnBwdRefIdeal.Facts) (hLn : Cert.Ln.Facts) (hLnIdeal : Cert.LnIdeal.Facts) (hLnRefIdeal : Cert.LnRefIdeal.Facts) (hLn0 : Cert.Ln0.Facts) (hLn0Ideal : Cert.Ln0Ideal.Facts) (hLn0RefIdeal : Cert.Ln0RefIdeal.Facts) (hLoss : Cert.Loss.Facts) (hLossIdeal : Cert.LossIdeal.Facts) (hLossRefIdeal : Cert.LossRefIdeal.Facts) (hGluLnBwd : Cert.GluLnBwd.Facts) (hGluLnBwdIdeal : Cert.GluLnBwdIdeal.Facts) (hGluLnBwdRefIdeal : Cert.GluLnBwdRefIdeal.Facts) (hGate : Cert.Gate.Facts) (hGateIdeal : Cert.GateIdeal.Facts) (hGateRefIdeal : Cert.GateRefIdeal.Facts) (hS5Bbar : Cert.S5Bbar.Facts) (hS5BbarIdeal : Cert.S5BbarIdeal.Facts) (hS5BbarRefIdeal : Cert.S5BbarRefIdeal.Facts) (hS5Param : Cert.S5Param.Facts) (hS5ParamIdeal : Cert.S5ParamIdeal.Facts) (hS5ParamRefIdeal : Cert.S5ParamRefIdeal.Facts),
    quiescent_Kernel (hKernel := hKernel)
    ∧ quiescent_KernelIdeal (hKernelIdeal := hKernelIdeal)
    ∧ quiescent_Up (hUp := hUp)
    ∧ quiescent_UpIdeal (hUpIdeal := hUpIdeal)
    ∧ quiescent_UpRefIdeal (hUpRefIdeal := hUpRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_Down (hDown := hDown)
    ∧ quiescent_DownIdeal (hDownIdeal := hDownIdeal)
    ∧ quiescent_DownRefIdeal (hDownRefIdeal := hDownRefIdeal)
    ∧ quiescent_Up0 (hUp0 := hUp0)
    ∧ quiescent_Up0Ideal (hUp0Ideal := hUp0Ideal)
    ∧ quiescent_Up0RefIdeal (hUp0RefIdeal := hUp0RefIdeal)
    ∧ quiescent_DownDx0 (hDownDx0 := hDownDx0)
    ∧ quiescent_DownDx0Ideal (hDownDx0Ideal := hDownDx0Ideal)
    ∧ quiescent_DownDx0RefIdeal (hDownDx0RefIdeal := hDownDx0RefIdeal)
    ∧ quiescent_UpDx0 (hUpDx0 := hUpDx0)
    ∧ quiescent_UpDx0Ideal (hUpDx0Ideal := hUpDx0Ideal)
    ∧ quiescent_UpDx0RefIdeal (hUpDx0RefIdeal := hUpDx0RefIdeal)
    ∧ quiescent_Down0 (hDown0 := hDown0)
    ∧ quiescent_Down0Ideal (hDown0Ideal := hDown0Ideal)
    ∧ quiescent_Down0RefIdeal (hDown0RefIdeal := hDown0RefIdeal)
    ∧ quiescent_Glu (hGlu := hGlu)
    ∧ quiescent_GluIdeal (hGluIdeal := hGluIdeal)
    ∧ quiescent_GluRefIdeal (hGluRefIdeal := hGluRefIdeal)
    ∧ quiescent_GluDx (hGluDx := hGluDx)
    ∧ quiescent_GluDxIdeal (hGluDxIdeal := hGluDxIdeal)
    ∧ quiescent_GluDxRefIdeal (hGluDxRefIdeal := hGluDxRefIdeal)
    ∧ quiescent_GluDw (hGluDw := hGluDw)
    ∧ quiescent_GluDwIdeal (hGluDwIdeal := hGluDwIdeal)
    ∧ quiescent_GluDwRefIdeal (hGluDwRefIdeal := hGluDwRefIdeal)
    ∧ quiescent_RwIn (hRwIn := hRwIn)
    ∧ quiescent_RwInIdeal (hRwInIdeal := hRwInIdeal)
    ∧ quiescent_RwInRefIdeal (hRwInRefIdeal := hRwInRefIdeal)
    ∧ quiescent_RwOut (hRwOut := hRwOut)
    ∧ quiescent_RwOutIdeal (hRwOutIdeal := hRwOutIdeal)
    ∧ quiescent_RwOutRefIdeal (hRwOutRefIdeal := hRwOutRefIdeal)
    ∧ quiescent_RwDx (hRwDx := hRwDx)
    ∧ quiescent_RwDxIdeal (hRwDxIdeal := hRwDxIdeal)
    ∧ quiescent_RwDxRefIdeal (hRwDxRefIdeal := hRwDxRefIdeal)
    ∧ quiescent_RwDw (hRwDw := hRwDw)
    ∧ quiescent_RwDwIdeal (hRwDwIdeal := hRwDwIdeal)
    ∧ quiescent_RwDwRefIdeal (hRwDwRefIdeal := hRwDwRefIdeal)
    ∧ quiescent_LnBwd (hLnBwd := hLnBwd)
    ∧ quiescent_LnBwdIdeal (hLnBwdIdeal := hLnBwdIdeal)
    ∧ quiescent_LnBwdRefIdeal (hLnBwdRefIdeal := hLnBwdRefIdeal)
    ∧ quiescent_Ln (hLn := hLn)
    ∧ quiescent_LnIdeal (hLnIdeal := hLnIdeal)
    ∧ quiescent_LnRefIdeal (hLnRefIdeal := hLnRefIdeal)
    ∧ quiescent_Ln0 (hLn0 := hLn0)
    ∧ quiescent_Ln0Ideal (hLn0Ideal := hLn0Ideal)
    ∧ quiescent_Ln0RefIdeal (hLn0RefIdeal := hLn0RefIdeal)
    ∧ quiescent_Loss (hLoss := hLoss)
    ∧ quiescent_LossIdeal (hLossIdeal := hLossIdeal)
    ∧ quiescent_LossRefIdeal (hLossRefIdeal := hLossRefIdeal)
    ∧ quiescent_GluLnBwd (hGluLnBwd := hGluLnBwd)
    ∧ quiescent_GluLnBwdIdeal (hGluLnBwdIdeal := hGluLnBwdIdeal)
    ∧ quiescent_GluLnBwdRefIdeal (hGluLnBwdRefIdeal := hGluLnBwdRefIdeal)
    ∧ quiescent_Gate (hGate := hGate)
    ∧ quiescent_GateIdeal (hGateIdeal := hGateIdeal)
    ∧ quiescent_GateRefIdeal (hGateRefIdeal := hGateRefIdeal)
    ∧ quiescent_S5Bbar (hS5Bbar := hS5Bbar)
    ∧ quiescent_S5BbarIdeal (hS5BbarIdeal := hS5BbarIdeal)
    ∧ quiescent_S5BbarRefIdeal (hS5BbarRefIdeal := hS5BbarRefIdeal)
    ∧ quiescent_S5Param (hS5Param := hS5Param)
    ∧ quiescent_S5ParamIdeal (hS5ParamIdeal := hS5ParamIdeal)
    ∧ quiescent_S5ParamRefIdeal (hS5ParamRefIdeal := hS5ParamRefIdeal)
    ∧ preserves_Kernel_KernelIdeal
    ∧ preserves_Up_UpIdeal
    ∧ algebraic_UpIdeal_UpRefIdeal (hUpIdeal := hUpIdeal) (hUpRefIdeal := hUpRefIdeal)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_UpDw_UpDwIdeal
    ∧ algebraic_UpDwIdeal_UpDwRefIdeal (hUpDwIdeal := hUpDwIdeal) (hUpDwRefIdeal := hUpDwRefIdeal)
    ∧ preserves_UpDx_UpDxIdeal
    ∧ algebraic_UpDxIdeal_UpDxRefIdeal (hUpDxIdeal := hUpDxIdeal) (hUpDxRefIdeal := hUpDxRefIdeal)
    ∧ preserves_Down_DownIdeal
    ∧ algebraic_DownIdeal_DownRefIdeal (hDownIdeal := hDownIdeal) (hDownRefIdeal := hDownRefIdeal)
    ∧ preserves_Up0_Up0Ideal
    ∧ algebraic_Up0Ideal_Up0RefIdeal (hUp0Ideal := hUp0Ideal) (hUp0RefIdeal := hUp0RefIdeal)
    ∧ preserves_DownDx0_DownDx0Ideal
    ∧ algebraic_DownDx0Ideal_DownDx0RefIdeal (hDownDx0Ideal := hDownDx0Ideal) (hDownDx0RefIdeal := hDownDx0RefIdeal)
    ∧ preserves_UpDx0_UpDx0Ideal
    ∧ algebraic_UpDx0Ideal_UpDx0RefIdeal (hUpDx0Ideal := hUpDx0Ideal) (hUpDx0RefIdeal := hUpDx0RefIdeal)
    ∧ preserves_Down0_Down0Ideal
    ∧ algebraic_Down0Ideal_Down0RefIdeal (hDown0Ideal := hDown0Ideal) (hDown0RefIdeal := hDown0RefIdeal)
    ∧ preserves_Glu_GluIdeal
    ∧ algebraic_GluIdeal_GluRefIdeal (hGluIdeal := hGluIdeal) (hGluRefIdeal := hGluRefIdeal)
    ∧ preserves_GluDx_GluDxIdeal
    ∧ algebraic_GluDxIdeal_GluDxRefIdeal (hGluDxIdeal := hGluDxIdeal) (hGluDxRefIdeal := hGluDxRefIdeal)
    ∧ preserves_GluDw_GluDwIdeal
    ∧ algebraic_GluDwIdeal_GluDwRefIdeal (hGluDwIdeal := hGluDwIdeal) (hGluDwRefIdeal := hGluDwRefIdeal)
    ∧ preserves_RwIn_RwInIdeal
    ∧ algebraic_RwInIdeal_RwInRefIdeal (hRwInIdeal := hRwInIdeal) (hRwInRefIdeal := hRwInRefIdeal)
    ∧ preserves_RwOut_RwOutIdeal
    ∧ algebraic_RwOutIdeal_RwOutRefIdeal (hRwOutIdeal := hRwOutIdeal) (hRwOutRefIdeal := hRwOutRefIdeal)
    ∧ preserves_RwDx_RwDxIdeal
    ∧ algebraic_RwDxIdeal_RwDxRefIdeal (hRwDxIdeal := hRwDxIdeal) (hRwDxRefIdeal := hRwDxRefIdeal)
    ∧ preserves_RwDw_RwDwIdeal
    ∧ algebraic_RwDwIdeal_RwDwRefIdeal (hRwDwIdeal := hRwDwIdeal) (hRwDwRefIdeal := hRwDwRefIdeal)
    ∧ preserves_LnBwd_LnBwdIdeal
    ∧ algebraic_LnBwdIdeal_LnBwdRefIdeal (hLnBwdIdeal := hLnBwdIdeal) (hLnBwdRefIdeal := hLnBwdRefIdeal)
    ∧ preserves_Ln_LnIdeal
    ∧ algebraic_LnIdeal_LnRefIdeal (hLnIdeal := hLnIdeal) (hLnRefIdeal := hLnRefIdeal)
    ∧ preserves_Ln0_Ln0Ideal
    ∧ algebraic_Ln0Ideal_Ln0RefIdeal (hLn0Ideal := hLn0Ideal) (hLn0RefIdeal := hLn0RefIdeal)
    ∧ preserves_Loss_LossIdeal
    ∧ algebraic_LossIdeal_LossRefIdeal (hLossIdeal := hLossIdeal) (hLossRefIdeal := hLossRefIdeal)
    ∧ preserves_GluLnBwd_GluLnBwdIdeal
    ∧ algebraic_GluLnBwdIdeal_GluLnBwdRefIdeal (hGluLnBwdIdeal := hGluLnBwdIdeal) (hGluLnBwdRefIdeal := hGluLnBwdRefIdeal)
    ∧ preserves_Gate_GateIdeal
    ∧ algebraic_GateIdeal_GateRefIdeal (hGateIdeal := hGateIdeal) (hGateRefIdeal := hGateRefIdeal)
    ∧ preserves_S5Bbar_S5BbarIdeal
    ∧ algebraic_S5BbarIdeal_S5BbarRefIdeal (hS5BbarIdeal := hS5BbarIdeal) (hS5BbarRefIdeal := hS5BbarRefIdeal)
    ∧ preserves_S5Param_S5ParamIdeal
    ∧ algebraic_S5ParamIdeal_S5ParamRefIdeal (hS5ParamIdeal := hS5ParamIdeal) (hS5ParamRefIdeal := hS5ParamRefIdeal)
-- ==== Kernel.lean ====
abbrev S4096x1024 : Shape := ⟨2, ![4096, 1024]⟩
abbrev S64x64x16 : Shape := ⟨3, ![64, 64, 16]⟩
abbrev S64x64 : Shape := ⟨2, ![64, 64]⟩
abbrev S64x16x64 : Shape := ⟨3, ![64, 16, 64]⟩
abbrev S1024 : Shape := ⟨1, ![1024]⟩
abbrev S8x8x64x16 : Shape := ⟨4, ![8, 8, 64, 16]⟩
abbrev S8x8x16x64 : Shape := ⟨4, ![8, 8, 16, 64]⟩
abbrev S8x8 : Shape := ⟨2, ![8, 8]⟩
abbrev S_ : Shape := ⟨0, ![]⟩
abbrev S8x8x16x1x64 : Shape := ⟨5, ![8, 8, 16, 1, 64]⟩
abbrev S1x8x1x8x1 : Shape := ⟨5, ![1, 8, 1, 8, 1]⟩
abbrev S8x8x16x8x64 : Shape := ⟨5, ![8, 8, 16, 8, 64]⟩
abbrev S8x128x512 : Shape := ⟨3, ![8, 128, 512]⟩
abbrev S1x4096 : Shape := ⟨2, ![1, 4096]⟩
abbrev S8x8x64x1x16 : Shape := ⟨5, ![8, 8, 64, 1, 16]⟩
abbrev S8x8x64x8x16 : Shape := ⟨5, ![8, 8, 64, 8, 16]⟩
abbrev S8x512x128 : Shape := ⟨3, ![8, 512, 128]⟩
abbrev S1x1024 : Shape := ⟨2, ![1, 1024]⟩
abbrev S4096x4096 : Shape := ⟨2, ![4096, 4096]⟩
abbrev S1024x128 : Shape := ⟨2, ![1024, 128]⟩
abbrev S1x128x512 : Shape := ⟨3, ![1, 128, 512]⟩
abbrev S1x512 : Shape := ⟨2, ![1, 512]⟩
abbrev S1x512x128 : Shape := ⟨3, ![1, 512, 128]⟩
abbrev S1x128 : Shape := ⟨2, ![1, 128]⟩
abbrev S1024x512 : Shape := ⟨2, ![1024, 512]⟩
abbrev S2x512 : Shape := ⟨2, ![2, 512]⟩
abbrev S128x512 : Shape := ⟨2, ![128, 512]⟩
abbrev S8x512 : Shape := ⟨2, ![8, 512]⟩
abbrev S512x128 : Shape := ⟨2, ![512, 128]⟩
abbrev S128 : Shape := ⟨1, ![128]⟩
abbrev S512 : Shape := ⟨1, ![512]⟩

abbrev nBuf : Space → Nat
  | .hbm => 147
  | .vmem => 70
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S64x64x16, .f32⟩
  | 4 => ⟨S64x64x16, .f32⟩
  | 5 => ⟨S64x64, .f32⟩
  | 6 => ⟨S64x64, .f32⟩
  | 7 => ⟨S64x16x64, .f32⟩
  | 8 => ⟨S64x16x64, .f32⟩
  | 9 => ⟨S1024, .f32⟩
  | 10 => ⟨S8x8x64x16, .f32⟩
  | 11 => ⟨S8x8x16x64, .f32⟩
  | 12 => ⟨S8x8, .i32⟩
  | 13 => ⟨S8x8, .i32⟩
  | 14 => ⟨S_, .i32⟩
  | 15 => ⟨S8x8, .i32⟩
  | 16 => ⟨S8x8, .i32⟩
  | 17 => ⟨S8x8, .i1⟩
  | 18 => ⟨S8x8, .f32⟩
  | 19 => ⟨S8x8x16x1x64, .f32⟩
  | 20 => ⟨S1x8x1x8x1, .f32⟩
  | 21 => ⟨S8x8x16x8x64, .f32⟩
  | 22 => ⟨S8x8x16x8x64, .f32⟩
  | 23 => ⟨S8x8x16x8x64, .f32⟩
  | 24 => ⟨S8x128x512, .f32⟩
  | 25 => ⟨S8x8x64x16, .f32⟩
  | 26 => ⟨S8x8x16x64, .f32⟩
  | 27 => ⟨S8x8, .i32⟩
  | 28 => ⟨S8x8, .i32⟩
  | 29 => ⟨S_, .i32⟩
  | 30 => ⟨S8x8, .i32⟩
  | 31 => ⟨S8x8, .i32⟩
  | 32 => ⟨S8x8, .i1⟩
  | 33 => ⟨S8x8, .f32⟩
  | 34 => ⟨S8x8x16x1x64, .f32⟩
  | 35 => ⟨S1x8x1x8x1, .f32⟩
  | 36 => ⟨S8x8x16x8x64, .f32⟩
  | 37 => ⟨S8x8x16x8x64, .f32⟩
  | 38 => ⟨S8x8x16x8x64, .f32⟩
  | 39 => ⟨S8x128x512, .f32⟩
  | 40 => ⟨S1x4096, .f32⟩
  | 41 => ⟨S1x4096, .f32⟩
  | 42 => ⟨S8x8x16x64, .f32⟩
  | 43 => ⟨S8x8x64x16, .f32⟩
  | 44 => ⟨S8x8, .i32⟩
  | 45 => ⟨S8x8, .i32⟩
  | 46 => ⟨S_, .i32⟩
  | 47 => ⟨S8x8, .i32⟩
  | 48 => ⟨S8x8, .i32⟩
  | 49 => ⟨S8x8, .i1⟩
  | 50 => ⟨S8x8, .f32⟩
  | 51 => ⟨S8x8x64x1x16, .f32⟩
  | 52 => ⟨S1x8x1x8x1, .f32⟩
  | 53 => ⟨S8x8x64x8x16, .f32⟩
  | 54 => ⟨S8x8x64x8x16, .f32⟩
  | 55 => ⟨S8x8x64x8x16, .f32⟩
  | 56 => ⟨S8x512x128, .f32⟩
  | 57 => ⟨S8x8x16x64, .f32⟩
  | 58 => ⟨S8x8x64x16, .f32⟩
  | 59 => ⟨S8x8, .i32⟩
  | 60 => ⟨S8x8, .i32⟩
  | 61 => ⟨S_, .i32⟩
  | 62 => ⟨S8x8, .i32⟩
  | 63 => ⟨S8x8, .i32⟩
  | 64 => ⟨S8x8, .i1⟩
  | 65 => ⟨S8x8, .f32⟩
  | 66 => ⟨S8x8x64x1x16, .f32⟩
  | 67 => ⟨S1x8x1x8x1, .f32⟩
  | 68 => ⟨S8x8x64x8x16, .f32⟩
  | 69 => ⟨S8x8x64x8x16, .f32⟩
  | 70 => ⟨S8x8x64x8x16, .f32⟩
  | 71 => ⟨S8x512x128, .f32⟩
  | 72 => ⟨S1x1024, .f32⟩
  | 73 => ⟨S4096x4096, .f32⟩
  | 74 => ⟨S4096x4096, .f32⟩
  | 75 => ⟨S4096x1024, .bf16⟩
  | 76 => ⟨S4096x1024, .f32⟩
  | 77 => ⟨S8x128x512, .f32⟩
  | 78 => ⟨S8x128x512, .f32⟩
  | 79 => ⟨S8x512x128, .f32⟩
  | 80 => ⟨S8x512x128, .f32⟩
  | 81 => ⟨S1x1024, .f32⟩
  | 82 => ⟨S1x4096, .f32⟩
  | 83 => ⟨S1x4096, .f32⟩
  | 84 => ⟨S8x8x16x8x64, .f32⟩
  | 85 => ⟨S8x8, .i32⟩
  | 86 => ⟨S8x8, .i32⟩
  | 87 => ⟨S_, .i32⟩
  | 88 => ⟨S8x8, .i32⟩
  | 89 => ⟨S8x8, .i32⟩
  | 90 => ⟨S8x8, .i1⟩
  | 91 => ⟨S8x8, .f32⟩
  | 92 => ⟨S1x8x1x8x1, .f32⟩
  | 93 => ⟨S8x8x16x8x64, .f32⟩
  | 94 => ⟨S8x8x16x8x64, .f32⟩
  | 95 => ⟨S_, .f32⟩
  | 96 => ⟨S8x8x16x64, .f32⟩
  | 97 => ⟨S8x8x64x16, .f32⟩
  | 98 => ⟨S64x64x16, .f32⟩
  | 99 => ⟨S8x8x16x8x64, .f32⟩
  | 100 => ⟨S8x8, .i32⟩
  | 101 => ⟨S8x8, .i32⟩
  | 102 => ⟨S_, .i32⟩
  | 103 => ⟨S8x8, .i32⟩
  | 104 => ⟨S8x8, .i32⟩
  | 105 => ⟨S8x8, .i1⟩
  | 106 => ⟨S8x8, .f32⟩
  | 107 => ⟨S1x8x1x8x1, .f32⟩
  | 108 => ⟨S8x8x16x8x64, .f32⟩
  | 109 => ⟨S8x8x16x8x64, .f32⟩
  | 110 => ⟨S_, .f32⟩
  | 111 => ⟨S8x8x16x64, .f32⟩
  | 112 => ⟨S8x8x64x16, .f32⟩
  | 113 => ⟨S64x64x16, .f32⟩
  | 114 => ⟨S8x8x64x8x16, .f32⟩
  | 115 => ⟨S8x8, .i32⟩
  | 116 => ⟨S8x8, .i32⟩
  | 117 => ⟨S_, .i32⟩
  | 118 => ⟨S8x8, .i32⟩
  | 119 => ⟨S8x8, .i32⟩
  | 120 => ⟨S8x8, .i1⟩
  | 121 => ⟨S8x8, .f32⟩
  | 122 => ⟨S1x8x1x8x1, .f32⟩
  | 123 => ⟨S8x8x64x8x16, .f32⟩
  | 124 => ⟨S8x8x64x8x16, .f32⟩
  | 125 => ⟨S_, .f32⟩
  | 126 => ⟨S8x8x64x16, .f32⟩
  | 127 => ⟨S8x8x16x64, .f32⟩
  | _ => ⟨S4096x1024, .f32⟩

abbrev hbmTy0_1 (i : Nat) : BufTy := match i % 128 with
  | 0 => ⟨S64x16x64, .f32⟩
  | 1 => ⟨S8x8x64x8x16, .f32⟩
  | 2 => ⟨S8x8, .i32⟩
  | 3 => ⟨S8x8, .i32⟩
  | 4 => ⟨S_, .i32⟩
  | 5 => ⟨S8x8, .i32⟩
  | 6 => ⟨S8x8, .i32⟩
  | 7 => ⟨S8x8, .i1⟩
  | 8 => ⟨S8x8, .f32⟩
  | 9 => ⟨S1x8x1x8x1, .f32⟩
  | 10 => ⟨S8x8x64x8x16, .f32⟩
  | 11 => ⟨S8x8x64x8x16, .f32⟩
  | 12 => ⟨S_, .f32⟩
  | 13 => ⟨S8x8x64x16, .f32⟩
  | 14 => ⟨S8x8x16x64, .f32⟩
  | 15 => ⟨S64x16x64, .f32⟩
  | 16 => ⟨S1024, .f32⟩
  | 17 => ⟨S64x64, .f32⟩
  | 18 => ⟨S64x64, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | .local _ .vmem, ⟨0, _⟩ => ⟨S1024x128, .f32⟩
  | .local _ .vmem, ⟨1, _⟩ => ⟨S1024x128, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512x128, .f32⟩
  | .local _ .vmem, ⟨11, _⟩ => ⟨S1x512x128, .f32⟩
  | .local _ .vmem, ⟨12, _⟩ => ⟨S1x512x128, .f32⟩
  | .local _ .vmem, ⟨13, _⟩ => ⟨S1x512x128, .f32⟩
  | .local _ .vmem, ⟨14, _⟩ => ⟨S1x128, .f32⟩
  | .local _ .vmem, ⟨15, _⟩ => ⟨S1x128, .f32⟩
  | .local _ .vmem, ⟨16, _⟩ => ⟨S1024x512, .f32⟩
  | .local _ .vmem, ⟨17, _⟩ => ⟨S1024x512, .f32⟩
  | .local _ .vmem, ⟨18, _⟩ => ⟨S1024x512, .f32⟩
  | .local _ .vmem, ⟨19, _⟩ => ⟨S1024x512, .f32⟩
  | .local _ .vmem, ⟨20, _⟩ => ⟨S1024x128, .bf16⟩
  | .local _ .vmem, ⟨21, _⟩ => ⟨S1024x128, .bf16⟩
  | .local _ .vmem, ⟨22, _⟩ => ⟨S2x512, .f32⟩
  | .local _ .vmem, ⟨23, _⟩ => ⟨S1024x128, .f32⟩
  | .local _ .vmem, ⟨24, _⟩ => ⟨S1024x128, .f32⟩
  | .local _ .vmem, ⟨25, _⟩ => ⟨S1024x128, .f32⟩
  | .local _ .vmem, ⟨26, _⟩ => ⟨S1024x128, .f32⟩
  | .local _ .vmem, ⟨27, _⟩ => ⟨S1024x512, .f32⟩
  | .local _ .vmem, ⟨28, _⟩ => ⟨S1024x512, .f32⟩
  | .local _ .vmem, ⟨29, _⟩ => ⟨S1024x512, .f32⟩
  | .local _ .vmem, ⟨30, _⟩ => ⟨S1024x512, .f32⟩
  | .local _ .vmem, ⟨31, _⟩ => ⟨S8x512, .f32⟩
  | .local _ .vmem, ⟨32, _⟩ => ⟨S8x512, .f32⟩
  | .local _ .vmem, ⟨33, _⟩ => ⟨S8x512, .f32⟩
  | .local _ .vmem, ⟨34, _⟩ => ⟨S8x512, .f32⟩
  | .local _ .vmem, ⟨35, _⟩ => ⟨S1024x128, .f32⟩
  | .local _ .vmem, ⟨36, _⟩ => ⟨S1024x128, .f32⟩
  | .local _ .vmem, ⟨37, _⟩ => ⟨S1x128x512, .f32⟩
  | .local _ .vmem, ⟨38, _⟩ => ⟨S1x128x512, .f32⟩
  | .local _ .vmem, ⟨39, _⟩ => ⟨S1x128x512, .f32⟩
  | .local _ .vmem, ⟨40, _⟩ => ⟨S1x128x512, .f32⟩
  | .local _ .vmem, ⟨41, _⟩ => ⟨S1x512, .f32⟩
  | .local _ .vmem, ⟨42, _⟩ => ⟨S1x512, .f32⟩
  | .local _ .vmem, ⟨43, _⟩ => ⟨S1x512, .f32⟩
  | .local _ .vmem, ⟨44, _⟩ => ⟨S1x512, .f32⟩
  | .local _ .vmem, ⟨45, _⟩ => ⟨S1x512x128, .f32⟩
  | .local _ .vmem, ⟨46, _⟩ => ⟨S1x512x128, .f32⟩
  | .local _ .vmem, ⟨47, _⟩ => ⟨S1x512x128, .f32⟩
  | .local _ .vmem, ⟨48, _⟩ => ⟨S1x512x128, .f32⟩
  | .local _ .vmem, ⟨49, _⟩ => ⟨S1x128, .f32⟩
  | .local _ .vmem, ⟨50, _⟩ => ⟨S1x128, .f32⟩
  | .local _ .vmem, ⟨51, _⟩ => ⟨S1024x128, .f32⟩
  | .local _ .vmem, ⟨52, _⟩ => ⟨S1024x128, .f32⟩
  | .local _ .vmem, ⟨53, _⟩ => ⟨S1x128x512, .f32⟩
  | .local _ .vmem, ⟨54, _⟩ => ⟨S1x128x512, .f32⟩
  | .local _ .vmem, ⟨55, _⟩ => ⟨S1x128x512, .f32⟩
  | .local _ .vmem, ⟨56, _⟩ => ⟨S1x128x512, .f32⟩
  | .local _ .vmem, ⟨57, _⟩ => ⟨S1x512x128, .f32⟩
  | .local _ .vmem, ⟨58, _⟩ => ⟨S1x512x128, .f32⟩
  | .local _ .vmem, ⟨59, _⟩ => ⟨S1x512x128, .f32⟩
  | .local _ .vmem, ⟨60, _⟩ => ⟨S1x512x128, .f32⟩
  | .local _ .vmem, ⟨61, _⟩ => ⟨S1x128, .f32⟩
  | .local _ .vmem, ⟨62, _⟩ => ⟨S1x128, .f32⟩
  | .local _ .vmem, ⟨63, _⟩ => ⟨S1x512, .f32⟩
  | .local _ .vmem, ⟨64, _⟩ => ⟨S1x512, .f32⟩
  | .local _ .vmem, ⟨65, _⟩ => ⟨S1x512, .f32⟩
  | .local _ .vmem, ⟨66, _⟩ => ⟨S1x512, .f32⟩
  | .local _ .vmem, ⟨67, _⟩ => ⟨S2x512, .f32⟩
  | .local _ .vmem, ⟨68, _⟩ => ⟨S1024x512, .f32⟩
  | .local _ .vmem, ⟨69, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_1 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_c_2 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59_0 : Ref sig .tc := ⟨.hbm, 73, rfl⟩
abbrev main_v59_1 : Ref sig .tc := ⟨.hbm, 74, rfl⟩
abbrev main_v59_2 : Ref sig .tc := ⟨.hbm, 75, rfl⟩
abbrev main_v60_0 : Ref sig .tc := ⟨.hbm, 76, rfl⟩
abbrev main_v60_1 : Ref sig .tc := ⟨.hbm, 77, rfl⟩
abbrev main_v60_2 : Ref sig .tc := ⟨.hbm, 78, rfl⟩
abbrev main_v60_3 : Ref sig .tc := ⟨.hbm, 79, rfl⟩
abbrev main_v60_4 : Ref sig .tc := ⟨.hbm, 80, rfl⟩
abbrev main_v60_5 : Ref sig .tc := ⟨.hbm, 81, rfl⟩
abbrev main_v60_6 : Ref sig .tc := ⟨.hbm, 82, rfl⟩
abbrev main_v60_7 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_3 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_c_4 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_5 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_c_6 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_cst_7 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_c_8 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_cst_9 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc1_stg0_0 : Ref sig .tc := ⟨.vmem, 23, rfl⟩
abbrev cc1_stg0_1 : Ref sig .tc := ⟨.vmem, 24, rfl⟩
abbrev cc1_stg1_0 : Ref sig .tc := ⟨.vmem, 25, rfl⟩
abbrev cc1_stg1_1 : Ref sig .tc := ⟨.vmem, 26, rfl⟩
abbrev cc1_stg2_0 : Ref sig .tc := ⟨.vmem, 27, rfl⟩
abbrev cc1_stg2_1 : Ref sig .tc := ⟨.vmem, 28, rfl⟩
abbrev cc1_stg3_0 : Ref sig .tc := ⟨.vmem, 29, rfl⟩
abbrev cc1_stg3_1 : Ref sig .tc := ⟨.vmem, 30, rfl⟩
abbrev cc1_stg4_0 : Ref sig .tc := ⟨.vmem, 31, rfl⟩
abbrev cc1_stg4_1 : Ref sig .tc := ⟨.vmem, 32, rfl⟩
abbrev cc1_stg5_0 : Ref sig .tc := ⟨.vmem, 33, rfl⟩
abbrev cc1_stg5_1 : Ref sig .tc := ⟨.vmem, 34, rfl⟩
abbrev cc1_stg6_0 : Ref sig .tc := ⟨.vmem, 35, rfl⟩
abbrev cc1_stg6_1 : Ref sig .tc := ⟨.vmem, 36, rfl⟩
abbrev cc1_stg7_0 : Ref sig .tc := ⟨.vmem, 37, rfl⟩
abbrev cc1_stg7_1 : Ref sig .tc := ⟨.vmem, 38, rfl⟩
abbrev cc1_stg8_0 : Ref sig .tc := ⟨.vmem, 39, rfl⟩
abbrev cc1_stg8_1 : Ref sig .tc := ⟨.vmem, 40, rfl⟩
abbrev cc1_stg9_0 : Ref sig .tc := ⟨.vmem, 41, rfl⟩
abbrev cc1_stg9_1 : Ref sig .tc := ⟨.vmem, 42, rfl⟩
abbrev cc1_stg10_0 : Ref sig .tc := ⟨.vmem, 43, rfl⟩
abbrev cc1_stg10_1 : Ref sig .tc := ⟨.vmem, 44, rfl⟩
abbrev cc1_stg11_0 : Ref sig .tc := ⟨.vmem, 45, rfl⟩
abbrev cc1_stg11_1 : Ref sig .tc := ⟨.vmem, 46, rfl⟩
abbrev cc1_stg12_0 : Ref sig .tc := ⟨.vmem, 47, rfl⟩
abbrev cc1_stg12_1 : Ref sig .tc := ⟨.vmem, 48, rfl⟩
abbrev cc1_stg13_0 : Ref sig .tc := ⟨.vmem, 49, rfl⟩
abbrev cc1_stg13_1 : Ref sig .tc := ⟨.vmem, 50, rfl⟩
abbrev cc1_stg14_0 : Ref sig .tc := ⟨.vmem, 51, rfl⟩
abbrev cc1_stg14_1 : Ref sig .tc := ⟨.vmem, 52, rfl⟩
abbrev cc1_stg15_0 : Ref sig .tc := ⟨.vmem, 53, rfl⟩
abbrev cc1_stg15_1 : Ref sig .tc := ⟨.vmem, 54, rfl⟩
abbrev cc1_stg16_0 : Ref sig .tc := ⟨.vmem, 55, rfl⟩
abbrev cc1_stg16_1 : Ref sig .tc := ⟨.vmem, 56, rfl⟩
abbrev cc1_stg17_0 : Ref sig .tc := ⟨.vmem, 57, rfl⟩
abbrev cc1_stg17_1 : Ref sig .tc := ⟨.vmem, 58, rfl⟩
abbrev cc1_stg18_0 : Ref sig .tc := ⟨.vmem, 59, rfl⟩
abbrev cc1_stg18_1 : Ref sig .tc := ⟨.vmem, 60, rfl⟩
abbrev cc1_stg19_0 : Ref sig .tc := ⟨.vmem, 61, rfl⟩
abbrev cc1_stg19_1 : Ref sig .tc := ⟨.vmem, 62, rfl⟩
abbrev cc1_stg20_0 : Ref sig .tc := ⟨.vmem, 63, rfl⟩
abbrev cc1_stg20_1 : Ref sig .tc := ⟨.vmem, 64, rfl⟩
abbrev cc1_stg21_0 : Ref sig .tc := ⟨.vmem, 65, rfl⟩
abbrev cc1_stg21_1 : Ref sig .tc := ⟨.vmem, 66, rfl⟩
abbrev cc1_scratch0 : Ref sig .tc := ⟨.vmem, 67, rfl⟩
abbrev cc1_scratch1 : Ref sig .tc := ⟨.vmem, 68, rfl⟩
abbrev cc1_scratch2 : Ref sig .tc := ⟨.vmem, 69, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem2_1 : DmaSem sig := 27
abbrev cc1_sem3_0 : DmaSem sig := 28
abbrev cc1_sem3_1 : DmaSem sig := 29
abbrev cc1_sem4_0 : DmaSem sig := 30
abbrev cc1_sem4_1 : DmaSem sig := 31
abbrev cc1_sem5_0 : DmaSem sig := 32
abbrev cc1_sem5_1 : DmaSem sig := 33
abbrev cc1_sem6_0 : DmaSem sig := 34
abbrev cc1_sem6_1 : DmaSem sig := 35
abbrev cc1_sem7_0 : DmaSem sig := 36
abbrev cc1_sem7_1 : DmaSem sig := 37
abbrev cc1_sem8_0 : DmaSem sig := 38
abbrev cc1_sem8_1 : DmaSem sig := 39
abbrev cc1_sem9_0 : DmaSem sig := 40
abbrev cc1_sem9_1 : DmaSem sig := 41
abbrev cc1_sem10_0 : DmaSem sig := 42
abbrev cc1_sem10_1 : DmaSem sig := 43
abbrev cc1_sem11_0 : DmaSem sig := 44
abbrev cc1_sem11_1 : DmaSem sig := 45
abbrev cc1_sem12_0 : DmaSem sig := 46
abbrev cc1_sem12_1 : DmaSem sig := 47
abbrev cc1_sem13_0 : DmaSem sig := 48
abbrev cc1_sem13_1 : DmaSem sig := 49
abbrev cc1_sem14_0 : DmaSem sig := 50
abbrev cc1_sem14_1 : DmaSem sig := 51
abbrev cc1_sem15_0 : DmaSem sig := 52
abbrev cc1_sem15_1 : DmaSem sig := 53
abbrev cc1_sem16_0 : DmaSem sig := 54
abbrev cc1_sem16_1 : DmaSem sig := 55
abbrev cc1_sem17_0 : DmaSem sig := 56
abbrev cc1_sem17_1 : DmaSem sig := 57
abbrev cc1_sem18_0 : DmaSem sig := 58
abbrev cc1_sem18_1 : DmaSem sig := 59
abbrev cc1_sem19_0 : DmaSem sig := 60
abbrev cc1_sem19_1 : DmaSem sig := 61
abbrev cc1_sem20_0 : DmaSem sig := 62
abbrev cc1_sem20_1 : DmaSem sig := 63
abbrev cc1_sem21_0 : DmaSem sig := 64
abbrev cc1_sem21_1 : DmaSem sig := 65

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32_36 : BitVec 32 := 0#32
  let c128_i32 : BitVec 32 := 128#32
  let v141 : BitVec 32 := Scalar.addi c0_i32_36 c128_i32
  let c1_i32_37 : BitVec 32 := 1#32
  ⟨c0_i32_36, v141, c1_i32_37⟩
def k0_mult1 (k0_t1 : Fin k0_t1_loop.trips) : BitVec 32 :=
  let c0_i32_36 : BitVec 32 := 0#32
  let c1_i32_37 : BitVec 32 := 1#32
  let arg14 : BitVec 32 := Scf.iv c0_i32_36 c1_i32_37 k0_t1
  let c8_i32_63 : BitVec 32 := 8#32
  let v186 : BitVec 32 := Scalar.muli arg14 c8_i32_63
  v186
def k0_off1 (k0_t1 : Fin k0_t1_loop.trips) : Fin 2 → Nat :=
  let c0_i32_36 : BitVec 32 := 0#32
  let c1_i32_37 : BitVec 32 := 1#32
  let arg14 : BitVec 32 := Scf.iv c0_i32_36 c1_i32_37 k0_t1
  let c8_i32_63 : BitVec 32 := 8#32
  let v186 : BitVec 32 := Scalar.muli arg14 c8_i32_63
  let v187 : BitVec 32 := v186
  let v188 : Index := Scalar.indexCast v187
  let c0_64 : Index := 0#32
  ![v188.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev grid1 : Pipeline.Grid := ⟨2, ![8, 4], ![false, false]⟩

@[reducible] def k1_t1_loop : Scf.Loop 32 :=
  let c0_i32_58 : BitVec 32 := 0#32
  let c128_i32 : BitVec 32 := 128#32
  let v213 : BitVec 32 := Scalar.addi c0_i32_58 c128_i32
  let c1_i32_59 : BitVec 32 := 1#32
  ⟨c0_i32_58, v213, c1_i32_59⟩
def k1_mult1 (k1_t1 : Fin k1_t1_loop.trips) : BitVec 32 :=
  let c127_i32 : BitVec 32 := 127#32
  let c0_i32_58 : BitVec 32 := 0#32
  let c1_i32_59 : BitVec 32 := 1#32
  let arg27 : BitVec 32 := Scf.iv c0_i32_58 c1_i32_59 k1_t1
  let v309 : BitVec 32 := Scalar.subi c127_i32 arg27
  let c8_i32_130 : BitVec 32 := 8#32
  let v310 : BitVec 32 := Scalar.muli v309 c8_i32_130
  v310
def k1_off1 (k1_t1 : Fin k1_t1_loop.trips) : Fin 2 → Nat :=
  let c127_i32 : BitVec 32 := 127#32
  let c0_i32_58 : BitVec 32 := 0#32
  let c1_i32_59 : BitVec 32 := 1#32
  let arg27 : BitVec 32 := Scf.iv c0_i32_58 c1_i32_59 k1_t1
  let v309 : BitVec 32 := Scalar.subi c127_i32 arg27
  let c8_i32_130 : BitVec 32 := 8#32
  let v310 : BitVec 32 := Scalar.muli v309 c8_i32_130
  let v311 : BitVec 32 := v310
  let v312 : Index := Scalar.indexCast v311
  let c0_131 : Index := 0#32
  ![v312.toNat, 0]
def cc1_transform_0 (i : grid1.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  ![v0.toNat, arg0.toNat]

def cc1_transform_1 (i : grid1.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  ![v0.toNat, arg0.toNat]

def cc1_transform_2 (i : grid1.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  ![v0.toNat, arg0.toNat]

def cc1_transform_3 (i : grid1.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  ![v0.toNat, arg0.toNat]

def cc1_transform_4 (i : grid1.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c128_i32 : BitVec 32 := 128#32
  let v1 : BitVec 32 := Scalar.muli v0 c128_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  ![v3.toNat, arg0.toNat]

def cc1_transform_5 (i : grid1.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c128_i32 : BitVec 32 := 128#32
  let v1 : BitVec 32 := Scalar.muli v0 c128_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  ![v3.toNat, arg0.toNat]

def cc1_transform_6 (i : grid1.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  ![v0.toNat, arg0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_12 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_14 (i : grid1.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  ![v0.toNat, arg0.toNat]

def cc1_transform_15 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_16 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_17 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_18 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_19 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_20 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_21 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S8x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S8x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1024x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x128x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S1x128x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S1x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev stage1_10 : Fin 2 → Memref sig .tc .vmem S1x512 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]

abbrev stage1_11 : Fin 2 → Memref sig .tc .vmem S1x512x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]

abbrev stage1_12 : Fin 2 → Memref sig .tc .vmem S1x512x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, false]

abbrev stage1_13 : Fin 2 → Memref sig .tc .vmem S1x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, false]

abbrev stage1_14 : Fin 2 → Memref sig .tc .vmem S1024x128 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, true]

abbrev stage1_15 : Fin 2 → Memref sig .tc .vmem S1x128x512 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true, false]

abbrev stage1_16 : Fin 2 → Memref sig .tc .vmem S1x128x512 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true, false]

abbrev stage1_17 : Fin 2 → Memref sig .tc .vmem S1x512x128 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true, false]

abbrev stage1_18 : Fin 2 → Memref sig .tc .vmem S1x512x128 .f32 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true, false]

abbrev stage1_19 : Fin 2 → Memref sig .tc .vmem S1x128 .f32 := fun | 0 => Memref.whole cc1_stg19_0 | 1 => Memref.whole cc1_stg19_1 | ⟨_ + 2, h⟩ => absurd h (Nat.not_lt.2 (Nat.le_add_left _ _))
abbrev sem1_19 : Fin 2 → DmaSem sig := fun | 0 => cc1_sem19_0 | 1 => cc1_sem19_1 | ⟨_ + 2, h⟩ => absurd h (Nat.not_lt.2 (Nat.le_add_left _ _))
abbrev reads1_19 : Fin grid1.rank → Bool := ![true, false]

abbrev stage1_20 : Fin 2 → Memref sig .tc .vmem S1x512 .f32 := fun | 0 => Memref.whole cc1_stg20_0 | 1 => Memref.whole cc1_stg20_1 | ⟨_ + 2, h⟩ => absurd h (Nat.not_lt.2 (Nat.le_add_left _ _))
abbrev sem1_20 : Fin 2 → DmaSem sig := fun | 0 => cc1_sem20_0 | 1 => cc1_sem20_1 | ⟨_ + 2, h⟩ => absurd h (Nat.not_lt.2 (Nat.le_add_left _ _))
abbrev reads1_20 : Fin grid1.rank → Bool := ![true, false]

abbrev stage1_21 : Fin 2 → Memref sig .tc .vmem S1x512 .f32 := fun | 0 => Memref.whole cc1_stg21_0 | 1 => Memref.whole cc1_stg21_1 | ⟨_ + 2, h⟩ => absurd h (Nat.not_lt.2 (Nat.le_add_left _ _))
abbrev sem1_21 : Fin 2 → DmaSem sig := fun | 0 => cc1_sem21_0 | 1 => cc1_sem21_1 | ⟨_ + 2, h⟩ => absurd h (Nat.not_lt.2 (Nat.le_add_left _ _))
abbrev reads1_21 : Fin grid1.rank → Bool := ![true, false]
-- ==== Up.lean ====
abbrev S4096x1024 : Shape := ⟨2, ![4096, 1024]⟩
abbrev S2x1024x4096 : Shape := ⟨3, ![2, 1024, 4096]⟩
abbrev S2x1024x8x512 : Shape := ⟨4, ![2, 1024, 8, 512]⟩
abbrev S8x2x1024x512 : Shape := ⟨4, ![8, 2, 1024, 512]⟩
abbrev S4096x4096 : Shape := ⟨2, ![4096, 4096]⟩
abbrev S2048x1024 : Shape := ⟨2, ![2048, 1024]⟩
abbrev S2x1x1024x512 : Shape := ⟨4, ![2, 1, 1024, 512]⟩
abbrev S2x1024x512 : Shape := ⟨3, ![2, 1024, 512]⟩
abbrev S1x1024x512 : Shape := ⟨3, ![1, 1024, 512]⟩
abbrev S1024x512 : Shape := ⟨2, ![1024, 512]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S2x1024x4096, .f32⟩
  | .hbm, ⟨2, _⟩ => ⟨S4096x1024, .bf16⟩
  | .hbm, ⟨3, _⟩ => ⟨S2x1024x4096, .bf16⟩
  | .hbm, ⟨4, _⟩ => ⟨S2x1024x8x512, .bf16⟩
  | .hbm, ⟨5, _⟩ => ⟨S8x2x1024x512, .bf16⟩
  | .hbm, ⟨6, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S2x1x1024x512, .bf16⟩
  | .local _ .vmem, ⟨3, _⟩ => ⟨S2x1x1024x512, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg1.toNat, c1_i32.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S4096x1024 : Shape := ⟨2, ![4096, 1024]⟩
abbrev S2x1024x4096 : Shape := ⟨3, ![2, 1024, 4096]⟩
abbrev S1x1024x4096 : Shape := ⟨3, ![1, 1024, 4096]⟩
abbrev S1024x4096 : Shape := ⟨2, ![1024, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x1024x4096, .f32⟩
  | .hbm, ⟨2, _⟩ => ⟨S1x1024x4096, .f32⟩
  | .hbm, ⟨3, _⟩ => ⟨S1024x4096, .f32⟩
  | .hbm, ⟨4, _⟩ => ⟨S4096x4096, .f32⟩
  | .hbm, ⟨5, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DownDx.lean ====
abbrev S4096x1024 : Shape := ⟨2, ![4096, 1024]⟩
abbrev S4096x4096 : Shape := ⟨2, ![4096, 4096]⟩
abbrev S2x4096x1024 : Shape := ⟨3, ![2, 4096, 1024]⟩
abbrev S2x8x512x1024 : Shape := ⟨4, ![2, 8, 512, 1024]⟩
abbrev S8x2x512x1024 : Shape := ⟨4, ![8, 2, 512, 1024]⟩
abbrev S2048x1024 : Shape := ⟨2, ![2048, 1024]⟩
abbrev S1x1x512x1024 : Shape := ⟨4, ![1, 1, 512, 1024]⟩
abbrev S2048x512 : Shape := ⟨2, ![2048, 512]⟩
abbrev S512x1024 : Shape := ⟨2, ![512, 1024]⟩

abbrev nBuf : Space → Nat
  | .hbm => 9
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S2x4096x1024, .f32⟩
  | .hbm, ⟨3, _⟩ => ⟨S4096x1024, .bf16⟩
  | .hbm, ⟨4, _⟩ => ⟨S2x4096x1024, .bf16⟩
  | .hbm, ⟨5, _⟩ => ⟨S2x8x512x1024, .bf16⟩
  | .hbm, ⟨6, _⟩ => ⟨S8x2x512x1024, .bf16⟩
  | .hbm, ⟨7, _⟩ => ⟨S4096x4096, .bf16⟩
  | .hbm, ⟨8, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1x1x512x1024, .bf16⟩
  | .local _ .vmem, ⟨3, _⟩ => ⟨S1x1x512x1024, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg1.toNat, c1_i32.toNat, c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownDxRefIdeal.lean ====
abbrev S4096x1024 : Shape := ⟨2, ![4096, 1024]⟩
abbrev S4096x4096 : Shape := ⟨2, ![4096, 4096]⟩
abbrev S2x4096x1024 : Shape := ⟨3, ![2, 4096, 1024]⟩
abbrev S_ : Shape := ⟨0, ![]⟩
abbrev S1x4096x1024 : Shape := ⟨3, ![1, 4096, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S2x4096x1024, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .i1⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S1x4096x1024, .f32⟩
  | .hbm, ⟨16, _⟩ => ⟨S4096x1024, .f32⟩
  | .hbm, ⟨17, _⟩ => ⟨S4096x1024, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== DownDw.lean ====
abbrev S4096x1024 : Shape := ⟨2, ![4096, 1024]⟩
abbrev S4096x4096 : Shape := ⟨2, ![4096, 4096]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x4096, .bf16⟩
  | .hbm, ⟨3, _⟩ => ⟨S4096x1024, .bf16⟩
  | .hbm, ⟨4, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32_7 : BitVec 32 := 3#32
  let v18 : BitVec 1 := Scalar.cmpi .eq arg2 c3_i32_7
  let v19 : BitVec 32 := Scalar.extui v18
  let c0_i32_8 : BitVec 32 := 0#32
  let v20 : BitVec 1 := Scalar.cmpi .ne v19 c0_i32_8
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S1024x4096, .f32⟩
  | .hbm, ⟨10, _⟩ => ⟨S4096x1024, .f32⟩
  | .hbm, ⟨11, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== UpDw.lean ====
abbrev S4096x4096 : Shape := ⟨2, ![4096, 4096]⟩
abbrev S4096x1024 : Shape := ⟨2, ![4096, 1024]⟩
abbrev S8x1024x512 : Shape := ⟨3, ![8, 1024, 512]⟩
abbrev S1024x1024 : Shape := ⟨2, ![1024, 1024]⟩
abbrev S2x1024x512 : Shape := ⟨3, ![2, 1024, 512]⟩
abbrev S1024x512 : Shape := ⟨2, ![1024, 512]⟩
abbrev S1x1024x512 : Shape := ⟨3, ![1, 1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .bf16⟩
  | .hbm, ⟨3, _⟩ => ⟨S4096x4096, .bf16⟩
  | .hbm, ⟨4, _⟩ => ⟨S8x1024x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2x1024x512, .bf16⟩
  | .local _ .vmem, ⟨5, _⟩ => ⟨S2x1024x512, .bf16⟩
  | .local _ .vmem, ⟨6, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩
abbrev S1024x8x512 : Shape := ⟨3, ![1024, 8, 512]⟩
abbrev S8x1024x512 : Shape := ⟨3, ![8, 1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S_, .f32⟩
  | .hbm, ⟨3, _⟩ => ⟨S1024x4096, .f32⟩
  | .hbm, ⟨4, _⟩ => ⟨S4096x4096, .f32⟩
  | .hbm, ⟨5, _⟩ => ⟨S4096x1024, .f32⟩
  | .hbm, ⟨6, _⟩ => ⟨S1024x4096, .f32⟩
  | .hbm, ⟨7, _⟩ => ⟨S1024x4096, .bf16⟩
  | .hbm, ⟨8, _⟩ => ⟨S1024x8x512, .bf16⟩
  | .hbm, ⟨9, _⟩ => ⟨S8x1024x512, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpDx.lean ====
abbrev S4096x4096 : Shape := ⟨2, ![4096, 4096]⟩
abbrev S4096x1024 : Shape := ⟨2, ![4096, 1024]⟩
abbrev S2x1024x4096 : Shape := ⟨3, ![2, 1024, 4096]⟩
abbrev S2x1024x8x512 : Shape := ⟨4, ![2, 1024, 8, 512]⟩
abbrev S8x2x1024x512 : Shape := ⟨4, ![8, 2, 1024, 512]⟩
abbrev S1024x1024 : Shape := ⟨2, ![1024, 1024]⟩
abbrev S2x1x1024x512 : Shape := ⟨4, ![2, 1, 1024, 512]⟩
abbrev S2x1024x512 : Shape := ⟨3, ![2, 1024, 512]⟩
abbrev S1x1024x512 : Shape := ⟨3, ![1, 1024, 512]⟩
abbrev S1024x512 : Shape := ⟨2, ![1024, 512]⟩

abbrev nBuf : Space → Nat
  | .hbm => 8
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S2x1024x4096, .f32⟩
  | .hbm, ⟨3, _⟩ => ⟨S4096x4096, .bf16⟩
  | .hbm, ⟨4, _⟩ => ⟨S2x1024x4096, .bf16⟩
  | .hbm, ⟨5, _⟩ => ⟨S2x1024x8x512, .bf16⟩
  | .hbm, ⟨6, _⟩ => ⟨S8x2x1024x512, .bf16⟩
  | .hbm, ⟨7, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S2x1x1024x512, .bf16⟩
  | .local _ .vmem, ⟨3, _⟩ => ⟨S2x1x1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32_8 : BitVec 32 := 3#32
  let v18 : BitVec 1 := Scalar.cmpi .eq arg2 c3_i32_8
  let v19 : BitVec 32 := Scalar.extui v18
  let c0_i32_9 : BitVec 32 := 0#32
  let v20 : BitVec 1 := Scalar.cmpi .ne v19 c0_i32_9
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg2.toNat, c1_i32.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpDxRefIdeal.lean ====
abbrev S4096x4096 : Shape := ⟨2, ![4096, 4096]⟩
abbrev S4096x1024 : Shape := ⟨2, ![4096, 1024]⟩
abbrev S2x1024x4096 : Shape := ⟨3, ![2, 1024, 4096]⟩
abbrev S_ : Shape := ⟨0, ![]⟩
abbrev S1x1024x4096 : Shape := ⟨3, ![1, 1024, 4096]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S2x1024x4096, .f32⟩
  | .hbm, ⟨3, _⟩ => ⟨S_, .f32⟩
  | .hbm, ⟨4, _⟩ => ⟨S4096x1024, .f32⟩
  | .hbm, ⟨5, _⟩ => ⟨S1x1024x4096, .f32⟩
  | .hbm, ⟨6, _⟩ => ⟨S1024x4096, .f32⟩
  | .hbm, ⟨7, _⟩ => ⟨S4096x4096, .f32⟩
  | .hbm, ⟨8, _⟩ => ⟨S4096x1024, .f32⟩
  | .hbm, ⟨9, _⟩ => ⟨S4096x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Down.lean ====
abbrev S4096x4096 : Shape := ⟨2, ![4096, 4096]⟩
abbrev S2x4096x1024 : Shape := ⟨3, ![2, 4096, 1024]⟩
abbrev S2x8x512x1024 : Shape := ⟨4, ![2, 8, 512, 1024]⟩
abbrev S8x2x512x1024 : Shape := ⟨4, ![8, 2, 512, 1024]⟩
abbrev S4096x1024 : Shape := ⟨2, ![4096, 1024]⟩
abbrev S1024x1024 : Shape := ⟨2, ![1024, 1024]⟩
abbrev S2x1x512x1024 : Shape := ⟨4, ![2, 1, 512, 1024]⟩
abbrev S2x512x1024 : Shape := ⟨3, ![2, 512, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S2x4096x1024, .f32⟩
  | .hbm, ⟨2, _⟩ => ⟨S4096x4096, .bf16⟩
  | .hbm, ⟨3, _⟩ => ⟨S2x4096x1024, .bf16⟩
  | .hbm, ⟨4, _⟩ => ⟨S2x8x512x1024, .bf16⟩
  | .hbm, ⟨5, _⟩ => ⟨S8x2x512x1024, .bf16⟩
  | .hbm, ⟨6, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S2x1x512x1024, .bf16⟩
  | .local _ .vmem, ⟨3, _⟩ => ⟨S2x1x512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32_9 : BitVec 32 := 3#32
  let v19 : BitVec 1 := Scalar.cmpi .eq arg2 c3_i32_9
  let v20 : BitVec 32 := Scalar.extui v19
  let c0_i32_10 : BitVec 32 := 0#32
  let v21 : BitVec 1 := Scalar.cmpi .ne v20 c0_i32_10
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg2.toNat, c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S4096x4096 : Shape := ⟨2, ![4096, 4096]⟩
abbrev S2x4096x1024 : Shape := ⟨3, ![2, 4096, 1024]⟩
abbrev S_ : Shape := ⟨0, ![]⟩
abbrev S1x4096x1024 : Shape := ⟨3, ![1, 4096, 1024]⟩
abbrev S4096x1024 : Shape := ⟨2, ![4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S2x4096x1024, .f32⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S1x4096x1024, .f32⟩
  | .hbm, ⟨7, _⟩ => ⟨S4096x1024, .f32⟩
  | .hbm, ⟨8, _⟩ => ⟨S4096x1024, .f32⟩
  | .hbm, ⟨9, _⟩ => ⟨S4096x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Up0.lean ====
abbrev S4096x1024 : Shape := ⟨2, ![4096, 1024]⟩
abbrev S2x1024x4096 : Shape := ⟨3, ![2, 1024, 4096]⟩
abbrev S2x1024x8x512 : Shape := ⟨4, ![2, 1024, 8, 512]⟩
abbrev S8x2x1024x512 : Shape := ⟨4, ![8, 2, 1024, 512]⟩
abbrev S4096x4096 : Shape := ⟨2, ![4096, 4096]⟩
abbrev S2048x1024 : Shape := ⟨2, ![2048, 1024]⟩
abbrev S2x1x1024x512 : Shape := ⟨4, ![2, 1, 1024, 512]⟩
abbrev S2x1024x512 : Shape := ⟨3, ![2, 1024, 512]⟩
abbrev S1x1024x512 : Shape := ⟨3, ![1, 1024, 512]⟩
abbrev S1024x512 : Shape := ⟨2, ![1024, 512]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S2x1024x4096, .f32⟩
  | .hbm, ⟨2, _⟩ => ⟨S4096x1024, .bf16⟩
  | .hbm, ⟨3, _⟩ => ⟨S2x1024x4096, .bf16⟩
  | .hbm, ⟨4, _⟩ => ⟨S2x1024x8x512, .bf16⟩
  | .hbm, ⟨5, _⟩ => ⟨S8x2x1024x512, .bf16⟩
  | .hbm, ⟨6, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S2x1x1024x512, .bf16⟩
  | .local _ .vmem, ⟨3, _⟩ => ⟨S2x1x1024x512, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, arg2.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Up0RefIdeal.lean ====
abbrev S4096x1024 : Shape := ⟨2, ![4096, 1024]⟩
abbrev S2x1024x4096 : Shape := ⟨3, ![2, 1024, 4096]⟩
abbrev S1x1024x4096 : Shape := ⟨3, ![1, 1024, 4096]⟩
abbrev S1024x4096 : Shape := ⟨2, ![1024, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x1024x4096, .f32⟩
  | .hbm, ⟨2, _⟩ => ⟨S1x1024x4096, .f32⟩
  | .hbm, ⟨3, _⟩ => ⟨S1024x4096, .f32⟩
  | .hbm, ⟨4, _⟩ => ⟨S4096x4096, .f32⟩
  | .hbm, ⟨5, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DownDx0.lean ====
abbrev S4096x1024 : Shape := ⟨2, ![4096, 1024]⟩
abbrev S4096x4096 : Shape := ⟨2, ![4096, 4096]⟩
abbrev S2x4096x1024 : Shape := ⟨3, ![2, 4096, 1024]⟩
abbrev S2x8x512x1024 : Shape := ⟨4, ![2, 8, 512, 1024]⟩
abbrev S8x2x512x1024 : Shape := ⟨4, ![8, 2, 512, 1024]⟩
abbrev S2048x1024 : Shape := ⟨2, ![2048, 1024]⟩
abbrev S1x1x512x1024 : Shape := ⟨4, ![1, 1, 512, 1024]⟩
abbrev S2048x512 : Shape := ⟨2, ![2048, 512]⟩
abbrev S512x1024 : Shape := ⟨2, ![512, 1024]⟩

abbrev nBuf : Space → Nat
  | .hbm => 9
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S2x4096x1024, .f32⟩
  | .hbm, ⟨3, _⟩ => ⟨S4096x1024, .bf16⟩
  | .hbm, ⟨4, _⟩ => ⟨S2x4096x1024, .bf16⟩
  | .hbm, ⟨5, _⟩ => ⟨S2x8x512x1024, .bf16⟩
  | .hbm, ⟨6, _⟩ => ⟨S8x2x512x1024, .bf16⟩
  | .hbm, ⟨7, _⟩ => ⟨S4096x4096, .bf16⟩
  | .hbm, ⟨8, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1x1x512x1024, .bf16⟩
  | .local _ .vmem, ⟨3, _⟩ => ⟨S1x1x512x1024, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownDx0RefIdeal.lean ====
abbrev S4096x1024 : Shape := ⟨2, ![4096, 1024]⟩
abbrev S4096x4096 : Shape := ⟨2, ![4096, 4096]⟩
abbrev S2x4096x1024 : Shape := ⟨3, ![2, 4096, 1024]⟩
abbrev S_ : Shape := ⟨0, ![]⟩
abbrev S1x4096x1024 : Shape := ⟨3, ![1, 4096, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S2x4096x1024, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .i1⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S1x4096x1024, .f32⟩
  | .hbm, ⟨16, _⟩ => ⟨S4096x1024, .f32⟩
  | .hbm, ⟨17, _⟩ => ⟨S4096x1024, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== UpDx0.lean ====
abbrev S4096x4096 : Shape := ⟨2, ![4096, 4096]⟩
abbrev S4096x1024 : Shape := ⟨2, ![4096, 1024]⟩
abbrev S2x1024x4096 : Shape := ⟨3, ![2, 1024, 4096]⟩
abbrev S2x1024x8x512 : Shape := ⟨4, ![2, 1024, 8, 512]⟩
abbrev S8x2x1024x512 : Shape := ⟨4, ![8, 2, 1024, 512]⟩
abbrev S1024x1024 : Shape := ⟨2, ![1024, 1024]⟩
abbrev S2x1x1024x512 : Shape := ⟨4, ![2, 1, 1024, 512]⟩
abbrev S2x1024x512 : Shape := ⟨3, ![2, 1024, 512]⟩
abbrev S1x1024x512 : Shape := ⟨3, ![1, 1024, 512]⟩
abbrev S1024x512 : Shape := ⟨2, ![1024, 512]⟩

abbrev nBuf : Space → Nat
  | .hbm => 8
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S2x1024x4096, .f32⟩
  | .hbm, ⟨3, _⟩ => ⟨S4096x4096, .bf16⟩
  | .hbm, ⟨4, _⟩ => ⟨S2x1024x4096, .bf16⟩
  | .hbm, ⟨5, _⟩ => ⟨S2x1024x8x512, .bf16⟩
  | .hbm, ⟨6, _⟩ => ⟨S8x2x1024x512, .bf16⟩
  | .hbm, ⟨7, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S2x1x1024x512, .bf16⟩
  | .local _ .vmem, ⟨3, _⟩ => ⟨S2x1x1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32_8 : BitVec 32 := 3#32
  let v18 : BitVec 1 := Scalar.cmpi .eq arg2 c3_i32_8
  let v19 : BitVec 32 := Scalar.extui v18
  let c0_i32_9 : BitVec 32 := 0#32
  let v20 : BitVec 1 := Scalar.cmpi .ne v19 c0_i32_9
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpDx0RefIdeal.lean ====
abbrev S4096x4096 : Shape := ⟨2, ![4096, 4096]⟩
abbrev S4096x1024 : Shape := ⟨2, ![4096, 1024]⟩
abbrev S2x1024x4096 : Shape := ⟨3, ![2, 1024, 4096]⟩
abbrev S_ : Shape := ⟨0, ![]⟩
abbrev S1x1024x4096 : Shape := ⟨3, ![1, 1024, 4096]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S2x1024x4096, .f32⟩
  | .hbm, ⟨3, _⟩ => ⟨S_, .f32⟩
  | .hbm, ⟨4, _⟩ => ⟨S4096x1024, .f32⟩
  | .hbm, ⟨5, _⟩ => ⟨S1x1024x4096, .f32⟩
  | .hbm, ⟨6, _⟩ => ⟨S1024x4096, .f32⟩
  | .hbm, ⟨7, _⟩ => ⟨S4096x4096, .f32⟩
  | .hbm, ⟨8, _⟩ => ⟨S4096x1024, .f32⟩
  | .hbm, ⟨9, _⟩ => ⟨S4096x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Down0.lean ====
abbrev S4096x4096 : Shape := ⟨2, ![4096, 4096]⟩
abbrev S2x4096x1024 : Shape := ⟨3, ![2, 4096, 1024]⟩
abbrev S2x8x512x1024 : Shape := ⟨4, ![2, 8, 512, 1024]⟩
abbrev S8x2x512x1024 : Shape := ⟨4, ![8, 2, 512, 1024]⟩
abbrev S4096x1024 : Shape := ⟨2, ![4096, 1024]⟩
abbrev S1024x1024 : Shape := ⟨2, ![1024, 1024]⟩
abbrev S2x1x512x1024 : Shape := ⟨4, ![2, 1, 512, 1024]⟩
abbrev S2x512x1024 : Shape := ⟨3, ![2, 512, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S2x4096x1024, .f32⟩
  | .hbm, ⟨2, _⟩ => ⟨S4096x4096, .bf16⟩
  | .hbm, ⟨3, _⟩ => ⟨S2x4096x1024, .bf16⟩
  | .hbm, ⟨4, _⟩ => ⟨S2x8x512x1024, .bf16⟩
  | .hbm, ⟨5, _⟩ => ⟨S8x2x512x1024, .bf16⟩
  | .hbm, ⟨6, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S2x1x512x1024, .bf16⟩
  | .local _ .vmem, ⟨3, _⟩ => ⟨S2x1x512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32_9 : BitVec 32 := 3#32
  let v19 : BitVec 1 := Scalar.cmpi .eq arg2 c3_i32_9
  let v20 : BitVec 32 := Scalar.extui v19
  let c0_i32_10 : BitVec 32 := 0#32
  let v21 : BitVec 1 := Scalar.cmpi .ne v20 c0_i32_10
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Down0RefIdeal.lean ====
abbrev S4096x4096 : Shape := ⟨2, ![4096, 4096]⟩
abbrev S2x4096x1024 : Shape := ⟨3, ![2, 4096, 1024]⟩
abbrev S_ : Shape := ⟨0, ![]⟩
abbrev S1x4096x1024 : Shape := ⟨3, ![1, 4096, 1024]⟩
abbrev S4096x1024 : Shape := ⟨2, ![4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S2x4096x1024, .f32⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S1x4096x1024, .f32⟩
  | .hbm, ⟨7, _⟩ => ⟨S4096x1024, .f32⟩
  | .hbm, ⟨8, _⟩ => ⟨S4096x1024, .f32⟩
  | .hbm, ⟨9, _⟩ => ⟨S4096x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Glu.lean ====
abbrev S4096x1024 : Shape := ⟨2, ![4096, 1024]⟩
abbrev S1x1024x2048 : Shape := ⟨3, ![1, 1024, 2048]⟩
abbrev S1x1024x8x256 : Shape := ⟨4, ![1, 1024, 8, 256]⟩
abbrev S8x1x1024x256 : Shape := ⟨4, ![8, 1, 1024, 256]⟩
abbrev S4096x2048 : Shape := ⟨2, ![4096, 2048]⟩
abbrev S1024x1024 : Shape := ⟨2, ![1024, 1024]⟩
abbrev S4x1x1024x256 : Shape := ⟨4, ![4, 1, 1024, 256]⟩
abbrev S4x1024x256 : Shape := ⟨3, ![4, 1024, 256]⟩
abbrev S1x1024x256 : Shape := ⟨3, ![1, 1024, 256]⟩
abbrev S1024x256 : Shape := ⟨2, ![1024, 256]⟩

abbrev nBuf : Space → Nat
  | .hbm => 7
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1x1024x2048, .f32⟩
  | .hbm, ⟨2, _⟩ => ⟨S4096x1024, .bf16⟩
  | .hbm, ⟨3, _⟩ => ⟨S1x1024x2048, .bf16⟩
  | .hbm, ⟨4, _⟩ => ⟨S1x1024x8x256, .bf16⟩
  | .hbm, ⟨5, _⟩ => ⟨S8x1x1024x256, .bf16⟩
  | .hbm, ⟨6, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S4x1x1024x256, .bf16⟩
  | .local _ .vmem, ⟨3, _⟩ => ⟨S4x1x1024x256, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, arg2.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluRefIdeal.lean ====
abbrev S4096x1024 : Shape := ⟨2, ![4096, 1024]⟩
abbrev S1x1024x2048 : Shape := ⟨3, ![1, 1024, 2048]⟩
abbrev S1024x2048 : Shape := ⟨2, ![1024, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024x2048, .f32⟩
  | .hbm, ⟨2, _⟩ => ⟨S1024x2048, .f32⟩
  | .hbm, ⟨3, _⟩ => ⟨S4096x2048, .f32⟩
  | .hbm, ⟨4, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GluDx.lean ====
abbrev S4096x2048 : Shape := ⟨2, ![4096, 2048]⟩
abbrev S1x1024x2048 : Shape := ⟨3, ![1, 1024, 2048]⟩
abbrev S1x1024x8x256 : Shape := ⟨4, ![1, 1024, 8, 256]⟩
abbrev S8x1x1024x256 : Shape := ⟨4, ![8, 1, 1024, 256]⟩
abbrev S4096x1024 : Shape := ⟨2, ![4096, 1024]⟩
abbrev S1024x1024 : Shape := ⟨2, ![1024, 1024]⟩
abbrev S4x1x1024x256 : Shape := ⟨4, ![4, 1, 1024, 256]⟩
abbrev S4x1024x256 : Shape := ⟨3, ![4, 1024, 256]⟩
abbrev S1x1024x256 : Shape := ⟨3, ![1, 1024, 256]⟩
abbrev S1024x256 : Shape := ⟨2, ![1024, 256]⟩

abbrev nBuf : Space → Nat
  | .hbm => 7
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S1x1024x2048, .f32⟩
  | .hbm, ⟨2, _⟩ => ⟨S4096x2048, .bf16⟩
  | .hbm, ⟨3, _⟩ => ⟨S1x1024x2048, .bf16⟩
  | .hbm, ⟨4, _⟩ => ⟨S1x1024x8x256, .bf16⟩
  | .hbm, ⟨5, _⟩ => ⟨S8x1x1024x256, .bf16⟩
  | .hbm, ⟨6, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S4x1x1024x256, .bf16⟩
  | .local _ .vmem, ⟨3, _⟩ => ⟨S4x1x1024x256, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_8 : BitVec 32 := 1#32
  let v22 : BitVec 1 := Scalar.cmpi .eq arg2 c1_i32_8
  let v23 : BitVec 32 := Scalar.extui v22
  let c0_i32_9 : BitVec 32 := 0#32
  let v24 : BitVec 1 := Scalar.cmpi .ne v23 c0_i32_9
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluDxRefIdeal.lean ====
abbrev S4096x2048 : Shape := ⟨2, ![4096, 2048]⟩
abbrev S1x1024x2048 : Shape := ⟨3, ![1, 1024, 2048]⟩
abbrev S_ : Shape := ⟨0, ![]⟩
abbrev S4096x1024 : Shape := ⟨2, ![4096, 1024]⟩
abbrev S1024x2048 : Shape := ⟨2, ![1024, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x1024x2048, .f32⟩
  | .hbm, ⟨2, _⟩ => ⟨S_, .f32⟩
  | .hbm, ⟨3, _⟩ => ⟨S4096x1024, .f32⟩
  | .hbm, ⟨4, _⟩ => ⟨S1024x2048, .f32⟩
  | .hbm, ⟨5, _⟩ => ⟨S4096x2048, .f32⟩
  | .hbm, ⟨6, _⟩ => ⟨S4096x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GluDw.lean ====
abbrev S4096x2048 : Shape := ⟨2, ![4096, 2048]⟩
abbrev S4096x1024 : Shape := ⟨2, ![4096, 1024]⟩
abbrev S8x1024x256 : Shape := ⟨3, ![8, 1024, 256]⟩
abbrev S1024x1024 : Shape := ⟨2, ![1024, 1024]⟩
abbrev S4x1024x256 : Shape := ⟨3, ![4, 1024, 256]⟩
abbrev S1024x256 : Shape := ⟨2, ![1024, 256]⟩
abbrev S1x1024x256 : Shape := ⟨3, ![1, 1024, 256]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x1024, .bf16⟩
  | .hbm, ⟨3, _⟩ => ⟨S4096x2048, .bf16⟩
  | .hbm, ⟨4, _⟩ => ⟨S8x1024x256, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S4x1024x256, .bf16⟩
  | .local _ .vmem, ⟨5, _⟩ => ⟨S4x1024x256, .bf16⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluDwRefIdeal.lean ====
abbrev S4096x2048 : Shape := ⟨2, ![4096, 2048]⟩
abbrev S4096x1024 : Shape := ⟨2, ![4096, 1024]⟩
abbrev S_ : Shape := ⟨0, ![]⟩
abbrev S1024x2048 : Shape := ⟨2, ![1024, 2048]⟩
abbrev S2048x1024 : Shape := ⟨2, ![2048, 1024]⟩
abbrev S1024x8x256 : Shape := ⟨3, ![1024, 8, 256]⟩
abbrev S8x1024x256 : Shape := ⟨3, ![8, 1024, 256]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S_, .f32⟩
  | .hbm, ⟨3, _⟩ => ⟨S1024x2048, .f32⟩
  | .hbm, ⟨4, _⟩ => ⟨S4096x2048, .f32⟩
  | .hbm, ⟨5, _⟩ => ⟨S2048x1024, .f32⟩
  | .hbm, ⟨6, _⟩ => ⟨S1024x2048, .f32⟩
  | .hbm, ⟨7, _⟩ => ⟨S1024x2048, .bf16⟩
  | .hbm, ⟨8, _⟩ => ⟨S1024x8x256, .bf16⟩
  | .hbm, ⟨9, _⟩ => ⟨S8x1024x256, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== RwIn.lean ====
abbrev S4096x1024 : Shape := ⟨2, ![4096, 1024]⟩
abbrev S1x1024x1024 : Shape := ⟨3, ![1, 1024, 1024]⟩
abbrev S1024x1024 : Shape := ⟨2, ![1024, 1024]⟩
abbrev S8x128x1024 : Shape := ⟨3, ![8, 128, 1024]⟩

abbrev nBuf : Space → Nat
  | .hbm => 8
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1x1024x1024, .f32⟩
  | .hbm, ⟨2, _⟩ => ⟨S4096x1024, .bf16⟩
  | .hbm, ⟨3, _⟩ => ⟨S1024x1024, .f32⟩
  | .hbm, ⟨4, _⟩ => ⟨S1024x1024, .bf16⟩
  | .hbm, ⟨5, _⟩ => ⟨S8x128x1024, .bf16⟩
  | .hbm, ⟨6, _⟩ => ⟨S1024x1024, .bf16⟩
  | .hbm, ⟨7, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RwInRefIdeal.lean ====
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024x1024, .f32⟩
  | .hbm, ⟨2, _⟩ => ⟨S1024x1024, .f32⟩
  | .hbm, ⟨3, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== RwOut.lean ====
abbrev S4096x1024 : Shape := ⟨2, ![4096, 1024]⟩
abbrev S1x1024x1024 : Shape := ⟨3, ![1, 1024, 1024]⟩
abbrev S1024x1024 : Shape := ⟨2, ![1024, 1024]⟩
abbrev S8x128x1024 : Shape := ⟨3, ![8, 128, 1024]⟩

abbrev nBuf : Space → Nat
  | .hbm => 8
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1x1024x1024, .f32⟩
  | .hbm, ⟨2, _⟩ => ⟨S4096x1024, .bf16⟩
  | .hbm, ⟨3, _⟩ => ⟨S1024x1024, .f32⟩
  | .hbm, ⟨4, _⟩ => ⟨S1024x1024, .bf16⟩
  | .hbm, ⟨5, _⟩ => ⟨S8x128x1024, .bf16⟩
  | .hbm, ⟨6, _⟩ => ⟨S1024x1024, .bf16⟩
  | .hbm, ⟨7, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RwOutRefIdeal.lean ====
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024x1024, .f32⟩
  | .hbm, ⟨2, _⟩ => ⟨S1024x1024, .f32⟩
  | .hbm, ⟨3, _⟩ => ⟨S4096x1024, .f32⟩
  | .hbm, ⟨4, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== RwDx.lean ====
abbrev S4096x1024 : Shape := ⟨2, ![4096, 1024]⟩
abbrev S1x1024x1024 : Shape := ⟨3, ![1, 1024, 1024]⟩
abbrev S1024x1024 : Shape := ⟨2, ![1024, 1024]⟩
abbrev S8x128x1024 : Shape := ⟨3, ![8, 128, 1024]⟩

abbrev nBuf : Space → Nat
  | .hbm => 8
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1x1024x1024, .f32⟩
  | .hbm, ⟨2, _⟩ => ⟨S4096x1024, .bf16⟩
  | .hbm, ⟨3, _⟩ => ⟨S1024x1024, .f32⟩
  | .hbm, ⟨4, _⟩ => ⟨S1024x1024, .bf16⟩
  | .hbm, ⟨5, _⟩ => ⟨S8x128x1024, .bf16⟩
  | .hbm, ⟨6, _⟩ => ⟨S1024x1024, .bf16⟩
  | .hbm, ⟨7, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RwDxRefIdeal.lean ====
abbrev S4096x1024 : Shape := ⟨2, ![4096, 1024]⟩
abbrev S1x1024x1024 : Shape := ⟨3, ![1, 1024, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024x1024, .f32⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== RwDw.lean ====
abbrev S4096x1024 : Shape := ⟨2, ![4096, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RwDwRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== LnBwd.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .hbm, ⟨6, _⟩ => ⟨S4096x1024, .f32⟩
  | .hbm, ⟨7, _⟩ => ⟨S4096x1024, .bf16⟩
  | .hbm, ⟨8, _⟩ => ⟨S1x1024, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LnBwdRefIdeal.lean ====
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 91
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S_, .f32⟩
  | .hbm, ⟨50, _⟩ => ⟨S1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S1024, .f32⟩
  | .hbm, ⟨59, _⟩ => ⟨S4096x1024, .f32⟩
  | .hbm, ⟨60, _⟩ => ⟨S_, .f32⟩
  | .hbm, ⟨61, _⟩ => ⟨S4096, .f32⟩
  | .hbm, ⟨62, _⟩ => ⟨S4096x1, .f32⟩
  | .hbm, ⟨63, _⟩ => ⟨S4096x1024, .f32⟩
  | .hbm, ⟨64, _⟩ => ⟨S4096x1024, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S_, .f32⟩
  | .hbm, ⟨70, _⟩ => ⟨S4096, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S4096, .f32⟩
  | .hbm, ⟨77, _⟩ => ⟨S4096x1, .f32⟩
  | .hbm, ⟨78, _⟩ => ⟨S_, .f32⟩
  | .hbm, ⟨79, _⟩ => ⟨S4096x1, .f32⟩
  | .hbm, ⟨80, _⟩ => ⟨S4096x1, .f32⟩
  | .hbm, ⟨81, _⟩ => ⟨S_, .f32⟩
  | .hbm, ⟨82, _⟩ => ⟨S4096, .f32⟩
  | .hbm, ⟨83, _⟩ => ⟨S4096x1024, .f32⟩
  | .hbm, ⟨84, _⟩ => ⟨S4096x1024, .f32⟩
  | .hbm, ⟨85, _⟩ => ⟨S_, .f32⟩
  | .hbm, ⟨86, _⟩ => ⟨S4096x1024, .f32⟩
  | .hbm, ⟨87, _⟩ => ⟨S4096x1024, .f32⟩
  | .hbm, ⟨88, _⟩ => ⟨S4096x1024, .bf16⟩
  | .hbm, ⟨89, _⟩ => ⟨S1x1024, .f32⟩
  | .hbm, ⟨90, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_10 : Ref sig .tc := ⟨.hbm, 57, rfl⟩
abbrev main_v41 : Ref sig .tc := ⟨.hbm, 58, rfl⟩
abbrev main_v42 : Ref sig .tc := ⟨.hbm, 59, rfl⟩
abbrev main_cst_11 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_12 : Ref sig .tc := ⟨.hbm, 66, rfl⟩
abbrev main_v48 : Ref sig .tc := ⟨.hbm, 67, rfl⟩
abbrev main_v49 : Ref sig .tc := ⟨.hbm, 68, rfl⟩
abbrev main_cst_13 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_14 : Ref sig .tc := ⟨.hbm, 75, rfl⟩
abbrev main_v55 : Ref sig .tc := ⟨.hbm, 76, rfl⟩
abbrev main_v56 : Ref sig .tc := ⟨.hbm, 77, rfl⟩
abbrev main_cst_15 : Ref sig .tc := ⟨.hbm, 78, rfl⟩
abbrev main_v57 : Ref sig .tc := ⟨.hbm, 79, rfl⟩
abbrev main_v58 : Ref sig .tc := ⟨.hbm, 80, rfl⟩
abbrev main_cst_16 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_17 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩

abbrev nD : Nat := 1
abbrev τ : Topo := Topo.v7x

variable {F : FTy → Type} [FloatOps F]
-- ==== Ln.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4096x1024, .bf16⟩
  | .hbm, ⟨5, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== LnRefIdeal.lean ====
abbrev S4096x1024 : Shape := ⟨2, ![4096, 1024]⟩
abbrev S1x1024 : Shape := ⟨2, ![1, 1024]⟩
abbrev S_ : Shape := ⟨0, ![]⟩
abbrev S1024 : Shape := ⟨1, ![1024]⟩
abbrev S4096 : Shape := ⟨1, ![4096]⟩
abbrev S4096x1 : Shape := ⟨2, ![4096, 1]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S1024, .f32⟩
  | .hbm, ⟨9, _⟩ => ⟨S1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S1x1024, .f32⟩
  | .hbm, ⟨35, _⟩ => ⟨S4096x1024, .f32⟩
  | .hbm, ⟨36, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Ln0.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4096x1024, .bf16⟩
  | .hbm, ⟨5, _⟩ => ⟨S4096x1024, .f32⟩
  | .hbm, ⟨6, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Ln0RefIdeal.lean ====
abbrev S4096x1024 : Shape := ⟨2, ![4096, 1024]⟩
abbrev S1x1024 : Shape := ⟨2, ![1, 1024]⟩
abbrev S_ : Shape := ⟨0, ![]⟩
abbrev S1024 : Shape := ⟨1, ![1024]⟩
abbrev S4096 : Shape := ⟨1, ![4096]⟩
abbrev S4096x1 : Shape := ⟨2, ![4096, 1]⟩

abbrev nBuf : Space → Nat
  | .hbm => 38
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S1024, .f32⟩
  | .hbm, ⟨9, _⟩ => ⟨S1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Loss.lean ====
abbrev S4096x1024 : Shape := ⟨2, ![4096, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S8x128, .f32⟩
  | .hbm, ⟨3, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S8x128, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossRefIdeal.lean ====
abbrev S4096x1024 : Shape := ⟨2, ![4096, 1024]⟩
abbrev S_ : Shape := ⟨0, ![]⟩
abbrev S4096 : Shape := ⟨1, ![4096]⟩
abbrev S8x128 : Shape := ⟨2, ![8, 128]⟩

abbrev nBuf : Space → Nat
  | .hbm => 30
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S_, .f32⟩
  | .hbm, ⟨20, _⟩ => ⟨S8x128, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S4096, .f32⟩
  | .hbm, ⟨25, _⟩ => ⟨S_, .f32⟩
  | .hbm, ⟨26, _⟩ => ⟨S4096, .f32⟩
  | .hbm, ⟨27, _⟩ => ⟨S4096, .f32⟩
  | .hbm, ⟨28, _⟩ => ⟨S4096x1024, .f32⟩
  | .hbm, ⟨29, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_4 : Ref sig .tc := ⟨.hbm, 18, rfl⟩
abbrev main_v11 : Ref sig .tc := ⟨.hbm, 19, rfl⟩
abbrev main_v12 : Ref sig .tc := ⟨.hbm, 20, rfl⟩
abbrev main_cst_5 : Ref sig .tc := ⟨.hbm, 21, rfl⟩
abbrev main_cst_6 : Ref sig .tc := ⟨.hbm, 22, rfl⟩
abbrev main_v13 : Ref sig .tc := ⟨.hbm, 23, rfl⟩
abbrev main_v14 : Ref sig .tc := ⟨.hbm, 24, rfl⟩
abbrev main_cst_7 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]
-- ==== GluLnBwd.lean ====
abbrev S4096x1024 : Shape := ⟨2, ![4096, 1024]⟩
abbrev S4096x2048 : Shape := ⟨2, ![4096, 2048]⟩
abbrev S1x1024 : Shape := ⟨2, ![1, 1024]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S1024 : Shape := ⟨1, ![1024]⟩

abbrev nBuf : Space → Nat
  | .hbm => 10
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S4096x2048, .bf16⟩
  | .hbm, ⟨6, _⟩ => ⟨S4096x1024, .f32⟩
  | .hbm, ⟨7, _⟩ => ⟨S4096x2048, .bf16⟩
  | .hbm, ⟨8, _⟩ => ⟨S1x1024, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x2048, .bf16⟩
  | .local _ .vmem, ⟨11, _⟩ => ⟨S512x2048, .bf16⟩
  | .local _ .vmem, ⟨12, _⟩ => ⟨S1x1024, .f32⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== GluLnBwdRefIdeal.lean ====
abbrev S4096x1024 : Shape := ⟨2, ![4096, 1024]⟩
abbrev S4096x2048 : Shape := ⟨2, ![4096, 2048]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 114
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S4096x1024, .f32⟩
  | .hbm, ⟨53, _⟩ => ⟨S4096x1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S1x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S_, .f32⟩
  | .hbm, ⟨65, _⟩ => ⟨S1024, .f32⟩
  | .hbm, ⟨66, _⟩ => ⟨S4096x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S4096x1024, .f32⟩
  | .hbm, ⟨71, _⟩ => ⟨S4096x1024, .f32⟩
  | .hbm, ⟨72, _⟩ => ⟨S_, .f32⟩
  | .hbm, ⟨73, _⟩ => ⟨S1024, .f32⟩
  | .hbm, ⟨74, _⟩ => ⟨S4096x1024, .f32⟩
  | .hbm, ⟨75, _⟩ => ⟨S_, .f32⟩
  | .hbm, ⟨76, _⟩ => ⟨S4096, .f32⟩
  | .hbm, ⟨77, _⟩ => ⟨S4096x1, .f32⟩
  | .hbm, ⟨78, _⟩ => ⟨S4096x1024, .f32⟩
  | .hbm, ⟨79, _⟩ => ⟨S4096x1024, .f32⟩
  | .hbm, ⟨80, _⟩ => ⟨S4096x1, .f32⟩
  | .hbm, ⟨81, _⟩ => ⟨S_, .f32⟩
  | .hbm, ⟨82, _⟩ => ⟨S4096x1, .f32⟩
  | .hbm, ⟨83, _⟩ => ⟨S4096x1, .f32⟩
  | .hbm, ⟨84, _⟩ => ⟨S_, .f32⟩
  | .hbm, ⟨85, _⟩ => ⟨S4096, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S_, .f32⟩
  | .hbm, ⟨91, _⟩ => ⟨S4096, .f32⟩
  | .hbm, ⟨92, _⟩ => ⟨S4096x1, .f32⟩
  | .hbm, ⟨93, _⟩ => ⟨S_, .f32⟩
  | .hbm, ⟨94, _⟩ => ⟨S4096x1, .f32⟩
  | .hbm, ⟨95, _⟩ => ⟨S4096x1, .f32⟩
  | .hbm, ⟨96, _⟩ => ⟨S_, .f32⟩
  | .hbm, ⟨97, _⟩ => ⟨S4096, .f32⟩
  | .hbm, ⟨98, _⟩ => ⟨S4096x1024, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S4096x1024, .f32⟩
  | .hbm, ⟨103, _⟩ => ⟨S_, .f32⟩
  | .hbm, ⟨104, _⟩ => ⟨S4096x2048, .f32⟩
  | .hbm, ⟨105, _⟩ => ⟨S_, .f32⟩
  | .hbm, ⟨106, _⟩ => ⟨S4096x2048, .f32⟩
  | .hbm, ⟨107, _⟩ => ⟨S4096x2048, .f32⟩
  | .hbm, ⟨108, _⟩ => ⟨S_, .f32⟩
  | .hbm, ⟨109, _⟩ => ⟨S4096x1024, .f32⟩
  | .hbm, ⟨110, _⟩ => ⟨S4096x1024, .f32⟩
  | .hbm, ⟨111, _⟩ => ⟨S4096x2048, .bf16⟩
  | .hbm, ⟨112, _⟩ => ⟨S1x1024, .f32⟩
  | .hbm, ⟨113, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_9 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_10 : Ref sig .tc := ⟨.hbm, 61, rfl⟩
abbrev main_v45 : Ref sig .tc := ⟨.hbm, 62, rfl⟩
abbrev main_v46 : Ref sig .tc := ⟨.hbm, 63, rfl⟩
abbrev main_cst_11 : Ref sig .tc := ⟨.hbm, 64, rfl⟩
abbrev main_v47 : Ref sig .tc := ⟨.hbm, 65, rfl⟩
abbrev main_v48 : Ref sig .tc := ⟨.hbm, 66, rfl⟩
abbrev main_cst_12 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_13 : Ref sig .tc := ⟨.hbm, 72, rfl⟩
abbrev main_v53 : Ref sig .tc := ⟨.hbm, 73, rfl⟩
abbrev main_v54 : Ref sig .tc := ⟨.hbm, 74, rfl⟩
abbrev main_cst_14 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_15 : Ref sig .tc := ⟨.hbm, 81, rfl⟩
abbrev main_v60 : Ref sig .tc := ⟨.hbm, 82, rfl⟩
abbrev main_v61 : Ref sig .tc := ⟨.hbm, 83, rfl⟩
abbrev main_cst_16 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_17 : Ref sig .tc := ⟨.hbm, 90, rfl⟩
abbrev main_v67 : Ref sig .tc := ⟨.hbm, 91, rfl⟩
abbrev main_v68 : Ref sig .tc := ⟨.hbm, 92, rfl⟩
abbrev main_cst_18 : Ref sig .tc := ⟨.hbm, 93, rfl⟩
abbrev main_v69 : Ref sig .tc := ⟨.hbm, 94, rfl⟩
abbrev main_v70 : Ref sig .tc := ⟨.hbm, 95, rfl⟩
abbrev main_cst_19 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_20 : Ref sig .tc := ⟨.hbm, 103, rfl⟩
abbrev main_v77 : Ref sig .tc := ⟨.hbm, 104, rfl⟩
abbrev main_cst_21 : Ref sig .tc := ⟨.hbm, 105, rfl⟩
abbrev main_v78 : Ref sig .tc := ⟨.hbm, 106, rfl⟩
abbrev main_v79 : Ref sig .tc := ⟨.hbm, 107, rfl⟩
abbrev main_cst_22 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩

abbrev nD : Nat := 1
abbrev τ : Topo := Topo.v7x

variable {F : FTy → Type} [FloatOps F]
-- ==== Gate.lean ====
abbrev S4096x1024 : Shape := ⟨2, ![4096, 1024]⟩
abbrev S1x1024 : Shape := ⟨2, ![1, 1024]⟩
abbrev S512x1024 : Shape := ⟨2, ![512, 1024]⟩
abbrev S1x128 : Shape := ⟨2, ![1, 128]⟩
abbrev S512x128 : Shape := ⟨2, ![512, 128]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GateRefIdeal.lean ====
abbrev S4096x1024 : Shape := ⟨2, ![4096, 1024]⟩
abbrev S1x1024 : Shape := ⟨2, ![1, 1024]⟩
abbrev S1024 : Shape := ⟨1, ![1024]⟩
abbrev S4096x16x64 : Shape := ⟨3, ![4096, 16, 64]⟩
abbrev S_ : Shape := ⟨0, ![]⟩
abbrev S4096x16 : Shape := ⟨2, ![4096, 16]⟩
abbrev S4096x16x1 : Shape := ⟨3, ![4096, 16, 1]⟩

abbrev nBuf : Space → Nat
  | .hbm => 39
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1024, .f32⟩
  | .hbm, ⟨6, _⟩ => ⟨S1024, .f32⟩
  | .hbm, ⟨7, _⟩ => ⟨S4096x16x64, .f32⟩
  | .hbm, ⟨8, _⟩ => ⟨S_, .f32⟩
  | .hbm, ⟨9, _⟩ => ⟨S4096x16, .f32⟩
  | .hbm, ⟨10, _⟩ => ⟨S4096x16x1, .f32⟩
  | .hbm, ⟨11, _⟩ => ⟨S_, .f32⟩
  | .hbm, ⟨12, _⟩ => ⟨S4096x16x1, .f32⟩
  | .hbm, ⟨13, _⟩ => ⟨S4096x16x1, .f32⟩
  | .hbm, ⟨14, _⟩ => ⟨S4096x16x64, .f32⟩
  | .hbm, ⟨15, _⟩ => ⟨S4096x16x64, .f32⟩
  | .hbm, ⟨16, _⟩ => ⟨S4096x16x64, .f32⟩
  | .hbm, ⟨17, _⟩ => ⟨S_, .f32⟩
  | .hbm, ⟨18, _⟩ => ⟨S4096x16, .f32⟩
  | .hbm, ⟨19, _⟩ => ⟨S4096x16x1, .f32⟩
  | .hbm, ⟨20, _⟩ => ⟨S_, .f32⟩
  | .hbm, ⟨21, _⟩ => ⟨S4096x16x1, .f32⟩
  | .hbm, ⟨22, _⟩ => ⟨S4096x16x1, .f32⟩
  | .hbm, ⟨23, _⟩ => ⟨S_, .f32⟩
  | .hbm, ⟨24, _⟩ => ⟨S4096x16x1, .f32⟩
  | .hbm, ⟨25, _⟩ => ⟨S4096x16x1, .f32⟩
  | .hbm, ⟨26, _⟩ => ⟨S4096x16x1, .f32⟩
  | .hbm, ⟨27, _⟩ => ⟨S4096x16x64, .f32⟩
  | .hbm, ⟨28, _⟩ => ⟨S4096x16x64, .f32⟩
  | .hbm, ⟨29, _⟩ => ⟨S4096x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== S5Bbar.lean ====
abbrev S64x64 : Shape := ⟨2, ![64, 64]⟩
abbrev S1x64x64x16 : Shape := ⟨4, ![1, 64, 64, 16]⟩
abbrev S64x64x16 : Shape := ⟨3, ![64, 64, 16]⟩
abbrev S4096x16 : Shape := ⟨2, ![4096, 16]⟩
abbrev S4096x1 : Shape := ⟨2, ![4096, 1]⟩

abbrev nBuf : Space → Nat
  | .hbm => 12
  | .vmem => 6
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S1x64x64x16, .f32⟩
  | .hbm, ⟨3, _⟩ => ⟨S1x64x64x16, .f32⟩
  | .hbm, ⟨4, _⟩ => ⟨S64x64x16, .f32⟩
  | .hbm, ⟨5, _⟩ => ⟨S4096x16, .f32⟩
  | .hbm, ⟨6, _⟩ => ⟨S64x64x16, .f32⟩
  | .hbm, ⟨7, _⟩ => ⟨S4096x16, .f32⟩
  | .hbm, ⟨8, _⟩ => ⟨S4096x1, .f32⟩
  | .hbm, ⟨9, _⟩ => ⟨S4096x1, .f32⟩
  | .hbm, ⟨10, _⟩ => ⟨S4096x16, .f32⟩
  | .hbm, ⟨11, _⟩ => ⟨S4096x16, .f32⟩
  | .local _ .vmem, ⟨0, _⟩ => ⟨S4096x1, .f32⟩
  | .local _ .vmem, ⟨1, _⟩ => ⟨S4096x1, .f32⟩
  | .local _ .vmem, ⟨2, _⟩ => ⟨S4096x16, .f32⟩
  | .local _ .vmem, ⟨3, _⟩ => ⟨S4096x16, .f32⟩
  | .local _ .vmem, ⟨4, _⟩ => ⟨S4096x16, .f32⟩
  | .local _ .vmem, ⟨5, _⟩ => ⟨S4096x16, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== S5BbarRefIdeal.lean ====
abbrev S64x64 : Shape := ⟨2, ![64, 64]⟩
abbrev S1x64x64x16 : Shape := ⟨4, ![1, 64, 64, 16]⟩
abbrev S64x64x1 : Shape := ⟨3, ![64, 64, 1]⟩
abbrev S64x64x16 : Shape := ⟨3, ![64, 64, 16]⟩
abbrev S4096x16 : Shape := ⟨2, ![4096, 16]⟩

abbrev nBuf : Space → Nat
  | .hbm => 20
  | .vmem => 0
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S1x64x64x16, .f32⟩
  | .hbm, ⟨3, _⟩ => ⟨S1x64x64x16, .f32⟩
  | .hbm, ⟨4, _⟩ => ⟨S64x64x1, .f32⟩
  | .hbm, ⟨5, _⟩ => ⟨S64x64x1, .f32⟩
  | .hbm, ⟨6, _⟩ => ⟨S64x64x16, .f32⟩
  | .hbm, ⟨7, _⟩ => ⟨S64x64x16, .f32⟩
  | .hbm, ⟨8, _⟩ => ⟨S64x64x16, .f32⟩
  | .hbm, ⟨9, _⟩ => ⟨S64x64x16, .f32⟩
  | .hbm, ⟨10, _⟩ => ⟨S64x64x16, .f32⟩
  | .hbm, ⟨11, _⟩ => ⟨S64x64x16, .f32⟩
  | .hbm, ⟨12, _⟩ => ⟨S64x64x16, .f32⟩
  | .hbm, ⟨13, _⟩ => ⟨S64x64x16, .f32⟩
  | .hbm, ⟨14, _⟩ => ⟨S64x64x16, .f32⟩
  | .hbm, ⟨15, _⟩ => ⟨S64x64x16, .f32⟩
  | .hbm, ⟨16, _⟩ => ⟨S64x64x16, .f32⟩
  | .hbm, ⟨17, _⟩ => ⟨S64x64x16, .f32⟩
  | .hbm, ⟨18, _⟩ => ⟨S4096x16, .f32⟩
  | .hbm, ⟨19, _⟩ => ⟨S4096x16, .f32⟩
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== S5Param.lean ====
abbrev S1x64x64 : Shape := ⟨3, ![1, 64, 64]⟩
abbrev S1x64 : Shape := ⟨2, ![1, 64]⟩
abbrev S64x64 : Shape := ⟨2, ![64, 64]⟩
abbrev S64x1 : Shape := ⟨2, ![64, 1]⟩

abbrev nBuf : Space → Nat
  | .hbm => 10
  | .vmem => 7
  | .smem => 0
  | _ => 0

abbrev bufTy : (tb : Table) → Fin (tcTables nBuf tb) → BufTy
  | .hbm, ⟨0, _⟩ => ⟨S1x64x64, .f32⟩
  | .hbm, ⟨1, _⟩ => ⟨S1x64x64, .f32⟩
  | .hbm, ⟨2, _⟩ => ⟨S1x64, .f32⟩
  | .hbm, ⟨3, _⟩ => ⟨S64x64, .f32⟩
  | .hbm, ⟨4, _⟩ => ⟨S64x64, .f32⟩
  | .hbm, ⟨5, _⟩ => ⟨S64x1, .f32⟩
  | .hbm, ⟨6, _⟩ => ⟨S64x64, .f32⟩
  | .hbm, ⟨7, _⟩ => ⟨S64x64, .f32⟩
  | .hbm, ⟨8, _⟩ => ⟨S64x64, .f32⟩
  | .hbm, ⟨9, _⟩ => ⟨S64x64, .f32⟩
  | .local _ .vmem, ⟨0, _⟩ => ⟨S64x64, .f32⟩
  | .local _ .vmem, ⟨1, _⟩ => ⟨S64x64, .f32⟩
  | .local _ .vmem, ⟨2, _⟩ => ⟨S64x1, .f32⟩
  | .local _ .vmem, ⟨3, _⟩ => ⟨S64x64, .f32⟩
  | .local _ .vmem, ⟨4, _⟩ => ⟨S64x64, .f32⟩
  | .local _ .vmem, ⟨5, _⟩ => ⟨S64x64, .f32⟩
  | .local _ .vmem, ⟨6, _⟩ => ⟨S64x64, .f32⟩
  | _, _ => ⟨S1x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== S5ParamRefIdeal.lean ====
abbrev S1x64x64 : Shape := ⟨3, ![1, 64, 64]⟩
abbrev S1x64 : Shape := ⟨2, ![1, 64]⟩
abbrev S64 : Shape := ⟨1, ![64]⟩
abbrev S64x1 : Shape := ⟨2, ![64, 1]⟩
abbrev S64x64 : Shape := ⟨2, ![64, 64]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S1x64x64, .f32⟩
  | .hbm, ⟨1, _⟩ => ⟨S1x64x64, .f32⟩
  | .hbm, ⟨2, _⟩ => ⟨S1x64, .f32⟩
  | .hbm, ⟨3, _⟩ => ⟨S64, .f32⟩
  | .hbm, ⟨4, _⟩ => ⟨S64, .f32⟩
  | .hbm, ⟨5, _⟩ => ⟨S64x1, .f32⟩
  | .hbm, ⟨6, _⟩ => ⟨S64x64, .f32⟩
  | .hbm, ⟨7, _⟩ => ⟨S_, .f32⟩
  | .hbm, ⟨8, _⟩ => ⟨S64x64, .f32⟩
  | .hbm, ⟨9, _⟩ => ⟨S64x64, .f32⟩
  | .hbm, ⟨10, _⟩ => ⟨S64x64, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S64x64, .f32⟩
  | .hbm, ⟨23, _⟩ => ⟨S64x64, .f32⟩
  | .hbm, ⟨24, _⟩ => ⟨S64x64, .f32⟩
  | .hbm, ⟨25, _⟩ => ⟨S_, .f32⟩
  | .hbm, ⟨26, _⟩ => ⟨S64x64, .f32⟩
  | .hbm, ⟨27, _⟩ => ⟨S64x64, .f32⟩
  | .hbm, ⟨28, _⟩ => ⟨S64x64, .f32⟩
  | .hbm, ⟨29, _⟩ => ⟨S64x64, .f32⟩
  | .hbm, ⟨30, _⟩ => ⟨S64x64, .f32⟩
  | .hbm, ⟨31, _⟩ => ⟨S64x64, .f32⟩
  | .hbm, ⟨32, _⟩ => ⟨S64x64, .f32⟩
  | .hbm, ⟨33, _⟩ => ⟨S64x64, .f32⟩
  | .hbm, ⟨34, _⟩ => ⟨S64x64, .f32⟩
  | .hbm, ⟨35, _⟩ => ⟨S64x64, .f32⟩
  | _, _ => ⟨S1x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩

abbrev nD : Nat := 1
abbrev τ : Topo := Topo.v7x

variable {F : FTy → Type} [FloatOps F]
-- ==== Proof.FwdBody.lean ====
/-
  The body of the forward pass of the recurrence (`s5_fwd`), in closed form: what one grid point leaves in its buffers as plain
  functions of the blocks it is given, and the body run to them.
-/
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.FrameBody
public import Idealize.ShloMosaic.Lib.VecWindow
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-! ## The tile's scan as a function -/

/-- The scan's running state: the carried pair of rows, and the two tiles (real and imaginary parts). -/
abbrev ScanSt (F : FTy → Type) := (Vec F S1x512 .f32 × Vec F S1x512 .f32) × Vec F S1024x512 .f32 × Vec F S1024x512 .f32

theorem inb8 (k : Fin 128) : ∀ a, (![8 * k.val, 0] : Fin 2 → ℕ) a + S8x512.size a ≤ S1024x512.size a := by
  intro a; have := k.isLt; fin_cases a
  · show 8 * k.val + 8 ≤ 1024; omega
  · show 0 + 512 ≤ 512; omega

/-- The eight rows of group `k` of a tile. -/
abbrev grp (x : Vec F S1024x512 .f32) (k : Fin 128) : Vec F S8x512 .f32 := VecWindow.window x ![8 * k.val, 0] S8x512.size (inb8 k)

/-- A tile with the eight rows of group `k` replaced. -/
abbrev setGrp (x : Vec F S1024x512 .f32) (k : Fin 128) (w : Vec F S8x512 .f32) : Vec F S1024x512 .f32 :=
  VecWindow.put x ![8 * k.val, 0] S8x512.size w

theorem inbRow (r : Fin 2) : ∀ a, (![r.val, 0] : Fin 2 → ℕ) a + S1x512.size a ≤ S2x512.size a := by
  intro a; have := r.isLt; fin_cases a
  · show r.val + 1 ≤ 2; omega
  · show 0 + 512 ≤ 512; omega

/-- Row `r` of the two carried rows. -/
abbrev crow (x : Vec F S2x512 .f32) (r : Fin 2) : Vec F S1x512 .f32 := VecWindow.window x ![r.val, 0] S1x512.size (inbRow r)

/-- The carried rows set to a pair. -/
abbrev setRows (x : Vec F S2x512 .f32) (p : Vec F S1x512 .f32 × Vec F S1x512 .f32) : Vec F S2x512 .f32 :=
  VecWindow.put (VecWindow.put x ![0, 0] S1x512.size p.1) ![1, 0] S1x512.size p.2

/-- The new eight rows of one group: from the powers of the transition (`ar`, `ai`), the carried rows and the rows found. -/
def fwdTile (ar ai hr hi : Vec F S1x512 .f32) (xr xi : Vec F S8x512 .f32) : Vec F S8x512 .f32 × Vec F S8x512 .f32 :=
  let v42 : IVec S8x512 32 := iota .tc S8x512 32 [0] iota_S8x512_d0_w32
  let v19 := k0_pay19 ar; let v21 := k0_pay20 ai
  let v26 := k0_pay21 ar ai; let v29 := k0_pay22 ar ai; let v30 := k0_pay23 ar ai
  let v32 := k0_pay24 v29 v30; let v35 := k0_pay25 v26 v29; let v38 := k0_pay26 v26 v29 v30; let v41 := k0_pay27 v26 v29 v30
  let v44 := k0_pay28
  let v77 := k0_pay35 v19 v21 v26 v29; let v78 := k0_pay36 v19 v21 v26 v29; let v83 := k0_pay37 v19 v21 v26 v29 v30
  let v109 := k0_pay42 v32 v35 v38 v41 v44 v77 v78 v83; let v110 := k0_pay43 v32 v35 v38 v41 v44 v77 v78 v83
  let v116 := k0_pay45 v19 v42; let v120 := k0_pay46 v21 v42; let v126 := k0_pay48 v26 v42; let v130 := k0_pay49 v29 v42
  let v132 := k0_pay50 v42
  (k0_pay14 v109 v110 v116 v120 v126 v130 (k0_pay51 v32 v132) (k0_pay52 v35 v132) hr hi xr xi,
   k0_pay15 v109 v110 v116 v120 v126 v130 (k0_pay51 v32 v132) (k0_pay52 v35 v132) hr hi xr xi)

/-- One group of the scan: its rows replaced, its last row carried on. -/
def fwdStep (ar ai : Vec F S1x512 .f32) (k : Fin 128) (s : ScanSt F) : ScanSt F :=
  let t := fwdTile ar ai s.1.1 s.1.2 (grp s.2.1 k) (grp s.2.2 k)
  ((k0_pay53 t.1, k0_pay54 t.2), setGrp s.2.1 k t.1, setGrp s.2.2 k t.2)

/-- The scan's state before group `k`. -/
def fwdScan (ar ai : Vec F S1x512 .f32) (s : ScanSt F) : ℕ → ScanSt F
  | 0 => s
  | k + 1 => if h : k < 128 then fwdStep ar ai ⟨k, h⟩ (fwdScan ar ai s k) else fwdScan ar ai s k

theorem fwdScan_succ (ar ai : Vec F S1x512 .f32) (s : ScanSt F) (k : Fin 128) :
    fwdScan ar ai s (k.val + 1) = fwdStep ar ai k (fwdScan ar ai s k.val) := dif_pos k.isLt

/-- The scan of a whole tile: from the projected inputs and the carried rows `cs`. -/
def fwdEnd (u : Vec F S1024x128 .f32) (br bi : Vec F S1x128x512 .f32) (ar ai : Vec F S1x512 .f32) (cs : Vec F S2x512 .f32) : ScanSt F :=
  fwdScan ar ai ((crow cs 0, crow cs 1), k0_pay17 u br, k0_pay18 u bi) 128

/-- The carried rows after the tile. -/
def fwdCarry (u : Vec F S1024x128 .f32) (br bi : Vec F S1x128x512 .f32) (ar ai : Vec F S1x512 .f32) (cs : Vec F S2x512 .f32) : Vec F S2x512 .f32 :=
  setRows cs (k0_pay55 (fwdEnd u br bi ar ai cs).1.1, k0_pay56 (fwdEnd u br bi ar ai cs).1.2)

/-- The output rows of the tile. -/
def fwdOut (u : Vec F S1024x128 .f32) (br bi : Vec F S1x128x512 .f32) (ar ai : Vec F S1x512 .f32) (cr ci : Vec F S1x512x128 .f32) (d : Vec F S1x128 .f32)
    (cs : Vec F S2x512 .f32) : Vec F S1024x128 .bf16 :=
  k0_pay1 u (k0_pay57 d) (k0_pay58 (fwdEnd u br bi ar ai cs).2.1 cr) (k0_pay59 (fwdEnd u br bi ar ai cs).2.2 ci)

theorem trips0 : k0_t1_loop.trips = 128 := by decide

theorem off1_0 (k : Fin k0_t1_loop.trips) : k0_off1 k = ![8 * (k.cast trips0).val, 0] := by
  revert k; decide

section Loop

variable (c : Dev nD) (i : grid0.Coords) (arg2 : Memref sig .tc .vmem S1024x128 .f32) (harg2 : arg2.IsWhole) (arg3 : Memref sig .tc .vmem S1x128x512 .f32) (harg3 : arg3.IsWhole) (arg4 : Memref sig .tc .vmem S1x128x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512x128 .f32) (harg7 : arg7.IsWhole) (arg8 : Memref sig .tc .vmem S1x512x128 .f32) (harg8 : arg8.IsWhole) (arg9 : Memref sig .tc .vmem S1x128 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x128 .bf16) (harg12 : arg12.IsWhole) (arg13 : Memref sig .tc .vmem S2x512 .f32) (harg13 : arg13.IsWhole)
  (v22 v23 : Vec F S1x512 .f32) (v32 v35 : FVec F S1x512 .f32) (v109 v110 v116 v120 v126 v130 : FVec F S8x512 .f32) (v132 : IVec S8x512 1)

/-- What one trip of the loop carries on and writes, read off its run. -/
theorem trip0_eq (k : Fin k0_t1_loop.trips) (acc : Vec F S1x512 .f32 × Vec F S1x512 .f32) (f10 : BufTy.Contents (Elt F) arg10.view.ty) (f11 : BufTy.Contents (Elt F) arg11.view.ty) :
    tripR_k0_t1 (F := F) Variants.none c none i arg2 harg2 arg3 harg3 arg4 harg4 arg5 harg5 arg6 harg6 arg7 harg7 arg8 harg8 arg9 harg9 arg10 harg10 arg11 harg11 arg12 harg12 arg13 harg13 v22 v23 v32 v35 v109 v110 v116 v120 v126 v130 v132 k acc f10 f11
      = (k0_pay53 (k0_pay14 v109 v110 v116 v120 v126 v130 (k0_pay51 v32 v132) (k0_pay52 v35 v132) acc.1 acc.2 (grp (arg10.view.read (Elt F) f10) (k.cast trips0)) (grp (arg11.view.read (Elt F) f11) (k.cast trips0))),
         k0_pay54 (k0_pay15 v109 v110 v116 v120 v126 v130 (k0_pay51 v32 v132) (k0_pay52 v35 v132) acc.1 acc.2 (grp (arg10.view.read (Elt F) f10) (k.cast trips0)) (grp (arg11.view.read (Elt F) f11) (k.cast trips0))))
    ∧ (trip_k0_t1 (F := F) Variants.none c none i arg2 harg2 arg3 harg3 arg4 harg4 arg5 harg5 arg6 harg6 arg7 harg7 arg8 harg8 arg9 harg9 arg10 harg10 arg11 harg11 arg12 harg12 arg13 harg13 v22 v23 v32 v35 v109 v110 v116 v120 v126 v130 v132 k).2.1 acc f10 f11
      = [⟨Rect.unit (s := S1024x512) (k0_off1 k) S8x512.size (k0_off1_inb k), (k0_pay14 v109 v110 v116 v120 v126 v130 (k0_pay51 v32 v132) (k0_pay52 v35 v132) acc.1 acc.2 (grp (arg10.view.read (Elt F) f10) (k.cast trips0)) (grp (arg11.view.read (Elt F) f11) (k.cast trips0)))⟩]
    ∧ (trip_k0_t1 (F := F) Variants.none c none i arg2 harg2 arg3 harg3 arg4 harg4 arg5 harg5 arg6 harg6 arg7 harg7 arg8 harg8 arg9 harg9 arg10 harg10 arg11 harg11 arg12 harg12 arg13 harg13 v22 v23 v32 v35 v109 v110 v116 v120 v126 v130 v132 k).2.2.1 acc f10 f11
      = [⟨Rect.unit (s := S1024x512) (k0_off1 k) S8x512.size (k0_off1_inb k), (k0_pay15 v109 v110 v116 v120 v126 v130 (k0_pay51 v32 v132) (k0_pay52 v35 v132) acc.1 acc.2 (grp (arg10.view.read (Elt F) f10) (k.cast trips0)) (grp (arg11.view.read (Elt F) f11) (k.cast trips0)))⟩] := by
  have h10 : grp (arg10.view.read (Elt F) f10) (k.cast trips0) = arg10.view.readAt (Elt F) (Rect.unit (s := S1024x512) (k0_off1 k) S8x512.size (k0_off1_inb k)).toLoadRect f10 :=
    (View.readAt_unit arg10.view f10 (k0_off1_inb k) (off1_0 k) (inb8 (k.cast trips0))).symm
  have h11 : grp (arg11.view.read (Elt F) f11) (k.cast trips0) = arg11.view.readAt (Elt F) (Rect.unit (s := S1024x512) (k0_off1 k) S8x512.size (k0_off1_inb k)).toLoadRect f11 :=
    (View.readAt_unit arg11.view f11 (k0_off1_inb k) (off1_0 k) (inb8 (k.cast trips0))).symm
  rw [h10, h11]
  refine ⟨?_, ?_, ?_⟩
  · unfold tripR_k0_t1 trip_k0_t1; rfl
  · unfold trip_k0_t1; rfl
  · unfold trip_k0_t1; rfl

/-- The loop's state in the program's own buffers reads as the scan's. -/
theorem st0_eq (ar ai : Vec F S1x512 .f32) (G10 : BufTy.Contents (Elt F) arg10.view.ty) (G11 : BufTy.Contents (Elt F) arg11.view.ty)
    (init : Vec F S1x512 .f32 × Vec F S1x512 .f32)
    (hT : ∀ hr hi xr xi, fwdTile ar ai hr hi xr xi = (k0_pay14 v109 v110 v116 v120 v126 v130 (k0_pay51 v32 v132) (k0_pay52 v35 v132) hr hi xr xi,
      k0_pay15 v109 v110 v116 v120 v126 v130 (k0_pay51 v32 v132) (k0_pay52 v35 v132) hr hi xr xi)) (k : ℕ) (hk : k ≤ 128) :
    ((st_k0_t1 (F := F) Variants.none c none i arg2 harg2 arg3 harg3 arg4 harg4 arg5 harg5 arg6 harg6 arg7 harg7 arg8 harg8 arg9 harg9 arg10 harg10 arg11 harg11 arg12 harg12 arg13 harg13 v22 v23 v32 v35 v109 v110 v116 v120 v126 v130 v132 G10 G11 init k).1,
     arg10.view.read (Elt F) (arg10.view.writes (Elt F) G10 (st_k0_t1 (F := F) Variants.none c none i arg2 harg2 arg3 harg3 arg4 harg4 arg5 harg5 arg6 harg6 arg7 harg7 arg8 harg8 arg9 harg9 arg10 harg10 arg11 harg11 arg12 harg12 arg13 harg13 v22 v23 v32 v35 v109 v110 v116 v120 v126 v130 v132 G10 G11 init k).2.1),
     arg11.view.read (Elt F) (arg11.view.writes (Elt F) G11 (st_k0_t1 (F := F) Variants.none c none i arg2 harg2 arg3 harg3 arg4 harg4 arg5 harg5 arg6 harg6 arg7 harg7 arg8 harg8 arg9 harg9 arg10 harg10 arg11 harg11 arg12 harg12 arg13 harg13 v22 v23 v32 v35 v109 v110 v116 v120 v126 v130 v132 G10 G11 init k).2.2))
      = fwdScan ar ai (init, arg10.view.read (Elt F) G10, arg11.view.read (Elt F) G11) k := by
  induction k with
  | zero => rfl
  | succ k ih =>
    have ih := ih (by omega)
    have hk' : k < k0_t1_loop.trips := by rw [trips0]; omega
    have e := st_k0_t1_succ (F := F) Variants.none c none i arg2 harg2 arg3 harg3 arg4 harg4 arg5 harg5 arg6 harg6 arg7 harg7 arg8 harg8 arg9 harg9 arg10 harg10 arg11 harg11 arg12 harg12 arg13 harg13 v22 v23 v32 v35 v109 v110 v116 v120 v126 v130 v132 G10 G11 init ⟨k, hk'⟩
    have f := fwdScan_succ ar ai (init, arg10.view.read (Elt F) G10, arg11.view.read (Elt F) G11) ⟨k, by omega⟩
    dsimp only at e f
    rw [e, f, ← ih]
    generalize st_k0_t1 (F := F) Variants.none c none i arg2 harg2 arg3 harg3 arg4 harg4 arg5 harg5 arg6 harg6 arg7 harg7 arg8 harg8 arg9 harg9 arg10 harg10 arg11 harg11 arg12 harg12 arg13 harg13 v22 v23 v32 v35 v109 v110 v116 v120 v126 v130 v132 G10 G11 init k = S
    have hh := trip0_eq c i arg2 harg2 arg3 harg3 arg4 harg4 arg5 harg5 arg6 harg6 arg7 harg7 arg8 harg8 arg9 harg9 arg10 harg10 arg11 harg11 arg12 harg12 arg13 harg13 v22 v23 v32 v35 v109 v110 v116 v120 v126 v130 v132 ⟨k, hk'⟩ S.1 (arg10.view.writes (Elt F) G10 S.2.1) (arg11.view.writes (Elt F) G11 S.2.2)
    rw [hh.1, hh.2.1, hh.2.2]
    unfold fwdStep
    rw [hT]
    dsimp only [List.cons_append, List.nil_append]
    rw [View.read_writes_cons_put _ _ _ _ _ (off1_0 ⟨k, hk'⟩), View.read_writes_cons_put _ _ _ _ _ (off1_0 ⟨k, hk'⟩)]
    rfl

end Loop

/-- The body's one branch condition: the tile is the first of its column. -/
abbrev cond0 (i : grid0.Coords) : Prop := (Scalar.cmpi .ne (Scalar.extui (Scalar.cmpi .eq (BitVec.ofNat 32 (i 1).val) 0#32)) 0#32) = 1#1

set_option maxHeartbeats 1000000 in
/-- The body at the first tile of a column: the carried rows start at zero. -/
theorem fwd_runA (c : Dev nD) (i : grid0.Coords) (arg2 : Memref sig .tc .vmem S1024x128 .f32) (harg2 : arg2.IsWhole) (arg3 : Memref sig .tc .vmem S1x128x512 .f32) (harg3 : arg3.IsWhole) (arg4 : Memref sig .tc .vmem S1x128x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512x128 .f32) (harg7 : arg7.IsWhole) (arg8 : Memref sig .tc .vmem S1x512x128 .f32) (harg8 : arg8.IsWhole) (arg9 : Memref sig .tc .vmem S1x128 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x128 .bf16) (harg12 : arg12.IsWhole) (arg13 : Memref sig .tc .vmem S2x512 .f32) (harg13 : arg13.IsWhole)
    (hc : cond0 i) (x0 : Vec F S1024x128 .f32) (x1 : Vec F S1x128x512 .f32) (x2 : Vec F S1x128x512 .f32) (x3 : Vec F S1x512 .f32) (x4 : Vec F S1x512 .f32) (x5 : Vec F S1x512x128 .f32) (x6 : Vec F S1x512x128 .f32) (x7 : Vec F S1x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (fwdEnd x0 x1 x2 x3 x4 (k0_pay16 (F := F))).2.1 ∗ owns (c : Thread nD τ) arg11 fullShare (fwdEnd x0 x1 x2 x3 x4 (k0_pay16 (F := F))).2.2 ∗ owns (c : Thread nD τ) arg12 fullShare (fwdOut x0 x1 x2 x3 x4 x5 x6 x7 (k0_pay16 (F := F))) ∗ owns (c : Thread nD τ) arg13 fullShare (fwdCarry x0 x1 x2 x3 x4 (k0_pay16 (F := F)))) -∗ K ⟨⟩))
      ⊢ wp frame (wpE (defs₀ (F := F)) Variants.none c none) E (cc0_s5_fwd i arg2 harg2 arg3 harg3 arg4 harg4 arg5 harg5 arg6 harg6 arg7 harg7 arg8 harg8 arg9 harg9 arg10 harg10 arg11 harg11 arg12 harg12 arg13 harg13) K := by
  simp only [cc0_s5_fwd_eq_skeleton]; unfold cc0_s5_fwd_skel
  simp only [k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds, %fs, -, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  have L2 : ∀ inb, arg2.view.readAt (Elt F) (Rect.unit ![0, 0] ![1024, 128] inb).toLoadRect (harg2.unread x0) = x0 := fun inb => (View.readAt_full arg2.view _ inb).trans (harg2.read_unread _)
  have L3 : ∀ inb, arg3.view.readAt (Elt F) (Rect.unit ![0, 0, 0] ![1, 128, 512] inb).toLoadRect (harg3.unread x1) = x1 := fun inb => (View.readAt_full arg3.view _ inb).trans (harg3.read_unread _)
  have L4 : ∀ inb, arg4.view.readAt (Elt F) (Rect.unit ![0, 0, 0] ![1, 128, 512] inb).toLoadRect (harg4.unread x2) = x2 := fun inb => (View.readAt_full arg4.view _ inb).trans (harg4.read_unread _)
  have L5 : ∀ inb, arg5.view.readAt (Elt F) (Rect.unit ![0, 0] ![1, 512] inb).toLoadRect (harg5.unread x3) = x3 := fun inb => (View.readAt_full arg5.view _ inb).trans (harg5.read_unread _)
  have L6 : ∀ inb, arg6.view.readAt (Elt F) (Rect.unit ![0, 0] ![1, 512] inb).toLoadRect (harg6.unread x4) = x4 := fun inb => (View.readAt_full arg6.view _ inb).trans (harg6.read_unread _)
  have L7 : ∀ inb, arg7.view.readAt (Elt F) (Rect.unit ![0, 0, 0] ![1, 512, 128] inb).toLoadRect (harg7.unread x5) = x5 := fun inb => (View.readAt_full arg7.view _ inb).trans (harg7.read_unread _)
  have L8 : ∀ inb, arg8.view.readAt (Elt F) (Rect.unit ![0, 0, 0] ![1, 512, 128] inb).toLoadRect (harg8.unread x6) = x6 := fun inb => (View.readAt_full arg8.view _ inb).trans (harg8.read_unread _)
  have L9 : ∀ inb, arg9.view.readAt (Elt F) (Rect.unit ![0, 0] ![1, 128] inb).toLoadRect (harg9.unread x7) = x7 := fun inb => (View.readAt_full arg9.view _ inb).trans (harg9.read_unread _)
  have h22 : fwd_runA.sl.v22 c arg13 = crow (k0_pay16 (F := F)) 0 := by
    unfold fwd_runA.sl.v22; unfold View.readCov
    refine (View.readAt_unit arg13.view _ inb_S2x512_S1x512_0_0 (rfl : _ = ![(0 : Fin 2).val, 0]) (inbRow 0)).trans ?_
    unfold fwd_runA.sl.HS_1; rw [View.read_writes_full]
  have h23 : fwd_runA.sl.v23 c arg13 = crow (k0_pay16 (F := F)) 1 := by
    unfold fwd_runA.sl.v23; unfold View.readCov
    refine (View.readAt_unit arg13.view _ inb_S2x512_S1x512_1_0 (rfl : _ = ![(1 : Fin 2).val, 0]) (inbRow 1)).trans ?_
    unfold fwd_runA.sl.HS_1; rw [View.read_writes_full]
  have hG10 : arg10.view.read (Elt F) (arg10.view.writes (Elt F) arg10.view.junk (fwd_runA.sl.H8_1 c arg2 harg2 arg3 harg3 x0 x1)) = k0_pay17 x0 x1 := by
    unfold fwd_runA.sl.H8_1; rw [View.read_writes_full]; ((try delta fwd_runA.sl.r); (try delta fwd_runA.sl.v0); (try delta fwd_runA.sl.v1)); exact congrArg₂ k0_pay17 (L2 _) (L3 _)
  have hG11 : arg11.view.read (Elt F) (arg11.view.writes (Elt F) arg11.view.junk (fwd_runA.sl.H9_1 c arg2 harg2 arg4 harg4 x0 x2)) = k0_pay18 x0 x2 := by
    unfold fwd_runA.sl.H9_1; rw [View.read_writes_full]; ((try delta fwd_runA.sl.r); (try delta fwd_runA.sl.v0); (try delta fwd_runA.sl.v2)); exact congrArg₂ k0_pay18 (L2 _) (L4 _)
  have key := st0_eq c i arg2 harg2 arg3 harg3 arg4 harg4 arg5 harg5 arg6 harg6 arg7 harg7 arg8 harg8 arg9 harg9 arg10 harg10 arg11 harg11 arg12 harg12 arg13 harg13 (fwd_runA.sl.v22 c arg13) (fwd_runA.sl.v23 c arg13) (fwd_runA.sl.r_6 c arg5 harg5 arg6 harg6 x3 x4) (fwd_runA.sl.r_7 c arg5 harg5 arg6 harg6 x3 x4) (fwd_runA.sl.r_13 c arg5 harg5 arg6 harg6 x3 x4) (fwd_runA.sl.r_14 c arg5 harg5 arg6 harg6 x3 x4) (fwd_runA.sl.r_15 c arg5 harg5 x3) (fwd_runA.sl.r_16 c arg6 harg6 x4) (fwd_runA.sl.r_17 c arg5 harg5 arg6 harg6 x3 x4) (fwd_runA.sl.r_18 c arg5 harg5 arg6 harg6 x3 x4) (k0_pay50 fwd_runA.sl.v42) x3 x4
    (arg10.view.writes (Elt F) arg10.view.junk (fwd_runA.sl.H8_1 c arg2 harg2 arg3 harg3 x0 x1)) (arg11.view.writes (Elt F) arg11.view.junk (fwd_runA.sl.H9_1 c arg2 harg2 arg4 harg4 x0 x2))
    (fwd_runA.sl.v22 c arg13, fwd_runA.sl.v23 c arg13) (by
      intro hr hi xr xi
      ((try delta fwd_runA.sl.v42); (try delta fwd_runA.sl.r_18); (try delta fwd_runA.sl.r_17); (try delta fwd_runA.sl.r_16); (try delta fwd_runA.sl.r_15); (try delta fwd_runA.sl.r_14); (try delta fwd_runA.sl.r_13); (try delta fwd_runA.sl.r_12); (try delta fwd_runA.sl.r_11); (try delta fwd_runA.sl.r_10); (try delta fwd_runA.sl.r_9); (try delta fwd_runA.sl.r_8); (try delta fwd_runA.sl.r_7); (try delta fwd_runA.sl.r_6); (try delta fwd_runA.sl.r_5); (try delta fwd_runA.sl.r_4); (try delta fwd_runA.sl.r_3); (try delta fwd_runA.sl.r_2); (try delta fwd_runA.sl.r_1); (try delta fwd_runA.sl.r))
      simp only [L5, L6, View.readAt_full, harg5.read_unread, harg6.read_unread]
      rfl) 128 le_rfl
  rw [hG10, hG11] at key
  have kk : _ = fwdEnd x0 x1 x2 x3 x4 (k0_pay16 (F := F)) := key.trans (by rw [h22, h23]; rfl)
  have k1 := congrArg Prod.fst kk; have k10 := congrArg (fun z => z.2.1) kk; have k11 := congrArg (fun z => z.2.2) kk
  dsimp only at k1 k10 k11
  isplitl [H8]
  · iexists _; isplitr; swap; · iexact H8
    ipureintro
    rw [View.writes_append]; exact k10
  isplitl [H9]
  · iexists _; isplitr; swap; · iexact H9
    ipureintro
    rw [View.writes_append]; exact k11
  isplitl [H10]
  · iexists _; isplitr; swap; · iexact H10
    ipureintro
    rw [View.read_writes_full]
    unfold fwdOut
    have L10 : ∀ inb f, arg10.view.readAt (Elt F) (Rect.unit ![0, 0] ![1024, 512] inb).toLoadRect f = arg10.view.read (Elt F) f := fun inb f => View.readAt_full arg10.view f inb
    have L11 : ∀ inb f, arg11.view.readAt (Elt F) (Rect.unit ![0, 0] ![1024, 512] inb).toLoadRect f = arg11.view.read (Elt F) f := fun inb f => View.readAt_full arg11.view f inb
    ((try delta fwd_runA.sl.r_21); (try delta fwd_runA.sl.r_20); (try delta fwd_runA.sl.r_19); (try delta fwd_runA.sl.v149); (try delta fwd_runA.sl.v151); (try delta fwd_runA.sl.r); (try delta fwd_runA.sl.v0))
    simp only [L2, L7, L8, L9, L10, L11, View.readCov, View.readAt_full, View.writes_append, harg2.read_unread, harg7.read_unread, harg8.read_unread, harg9.read_unread]
    exact congrArg₂ (fun a b => k0_pay1 x0 (k0_pay57 x7) (k0_pay58 a x5) (k0_pay59 b x6)) k10 k11
  iexists _; isplitr; swap; · iexact HS
  ipureintro
  rw [View.read_writes_cons_put _ _ _ _ _ (rfl : _ = ![1, 0]), View.read_writes_cons_put _ _ _ _ _ (rfl : _ = ![0, 0])]
  have e : View.read (Elt F) arg13.view (arg13.view.writes (Elt F) arg13.view.junk fwd_runA.sl.HS_1) = k0_pay16 := by
    unfold fwd_runA.sl.HS_1; rw [View.read_writes_full]
  rw [e]
  exact congrArg (fun q => setRows k0_pay16 (k0_pay55 q.1, k0_pay56 q.2)) k1

set_option maxHeartbeats 1000000 in
/-- The body at a later tile of a column: the carried rows are those the tile before left. -/
theorem fwd_runB (c : Dev nD) (i : grid0.Coords) (arg2 : Memref sig .tc .vmem S1024x128 .f32) (harg2 : arg2.IsWhole) (arg3 : Memref sig .tc .vmem S1x128x512 .f32) (harg3 : arg3.IsWhole) (arg4 : Memref sig .tc .vmem S1x128x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512x128 .f32) (harg7 : arg7.IsWhole) (arg8 : Memref sig .tc .vmem S1x512x128 .f32) (harg8 : arg8.IsWhole) (arg9 : Memref sig .tc .vmem S1x128 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x128 .bf16) (harg12 : arg12.IsWhole) (arg13 : Memref sig .tc .vmem S2x512 .f32) (harg13 : arg13.IsWhole)
    (hc : ¬ cond0 i) (x0 : Vec F S1024x128 .f32) (x1 : Vec F S1x128x512 .f32) (x2 : Vec F S1x128x512 .f32) (x3 : Vec F S1x512 .f32) (x4 : Vec F S1x512 .f32) (x5 : Vec F S1x512x128 .f32) (x6 : Vec F S1x512x128 .f32) (x7 : Vec F S1x128 .f32) (cs : Vec F S2x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare cs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (fwdEnd x0 x1 x2 x3 x4 cs).2.1 ∗ owns (c : Thread nD τ) arg11 fullShare (fwdEnd x0 x1 x2 x3 x4 cs).2.2 ∗ owns (c : Thread nD τ) arg12 fullShare (fwdOut x0 x1 x2 x3 x4 x5 x6 x7 cs) ∗ owns (c : Thread nD τ) arg13 fullShare (fwdCarry x0 x1 x2 x3 x4 cs)) -∗ K ⟨⟩))
      ⊢ wp frame (wpE (defs₀ (F := F)) Variants.none c none) E (cc0_s5_fwd i arg2 harg2 arg3 harg3 arg4 harg4 arg5 harg5 arg6 harg6 arg7 harg7 arg8 harg8 arg9 harg9 arg10 harg10 arg11 harg11 arg12 harg12 arg13 harg13) K := by
  simp only [cc0_s5_fwd_eq_skeleton]; unfold cc0_s5_fwd_skel
  simp only [k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg13.eq_unread hfs
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  have L2 : ∀ inb, arg2.view.readAt (Elt F) (Rect.unit ![0, 0] ![1024, 128] inb).toLoadRect (harg2.unread x0) = x0 := fun inb => (View.readAt_full arg2.view _ inb).trans (harg2.read_unread _)
  have L3 : ∀ inb, arg3.view.readAt (Elt F) (Rect.unit ![0, 0, 0] ![1, 128, 512] inb).toLoadRect (harg3.unread x1) = x1 := fun inb => (View.readAt_full arg3.view _ inb).trans (harg3.read_unread _)
  have L4 : ∀ inb, arg4.view.readAt (Elt F) (Rect.unit ![0, 0, 0] ![1, 128, 512] inb).toLoadRect (harg4.unread x2) = x2 := fun inb => (View.readAt_full arg4.view _ inb).trans (harg4.read_unread _)
  have L5 : ∀ inb, arg5.view.readAt (Elt F) (Rect.unit ![0, 0] ![1, 512] inb).toLoadRect (harg5.unread x3) = x3 := fun inb => (View.readAt_full arg5.view _ inb).trans (harg5.read_unread _)
  have L6 : ∀ inb, arg6.view.readAt (Elt F) (Rect.unit ![0, 0] ![1, 512] inb).toLoadRect (harg6.unread x4) = x4 := fun inb => (View.readAt_full arg6.view _ inb).trans (harg6.read_unread _)
  have L7 : ∀ inb, arg7.view.readAt (Elt F) (Rect.unit ![0, 0, 0] ![1, 512, 128] inb).toLoadRect (harg7.unread x5) = x5 := fun inb => (View.readAt_full arg7.view _ inb).trans (harg7.read_unread _)
  have L8 : ∀ inb, arg8.view.readAt (Elt F) (Rect.unit ![0, 0, 0] ![1, 512, 128] inb).toLoadRect (harg8.unread x6) = x6 := fun inb => (View.readAt_full arg8.view _ inb).trans (harg8.read_unread _)
  have L9 : ∀ inb, arg9.view.readAt (Elt F) (Rect.unit ![0, 0] ![1, 128] inb).toLoadRect (harg9.unread x7) = x7 := fun inb => (View.readAt_full arg9.view _ inb).trans (harg9.read_unread _)
  have h22 : fwd_runB.sl.r_3 c arg13 harg13 cs = crow cs 0 := by
    refine (View.readAt_unit arg13.view _ inb_S2x512_S1x512_0_0 (rfl : _ = ![(0 : Fin 2).val, 0]) (inbRow 0)).trans ?_
    rw [harg13.read_unread]
  have h23 : fwd_runB.sl.r_4 c arg13 harg13 cs = crow cs 1 := by
    refine (View.readAt_unit arg13.view _ inb_S2x512_S1x512_1_0 (rfl : _ = ![(1 : Fin 2).val, 0]) (inbRow 1)).trans ?_
    rw [harg13.read_unread]
  have hG10 : arg10.view.read (Elt F) (arg10.view.writes (Elt F) arg10.view.junk (fwd_runB.sl.H8_1 c arg2 harg2 arg3 harg3 x0 x1)) = k0_pay17 x0 x1 := by
    unfold fwd_runB.sl.H8_1; rw [View.read_writes_full]; ((try delta fwd_runB.sl.r); (try delta fwd_runB.sl.v0); (try delta fwd_runB.sl.v1)); exact congrArg₂ k0_pay17 (L2 _) (L3 _)
  have hG11 : arg11.view.read (Elt F) (arg11.view.writes (Elt F) arg11.view.junk (fwd_runB.sl.H9_1 c arg2 harg2 arg4 harg4 x0 x2)) = k0_pay18 x0 x2 := by
    unfold fwd_runB.sl.H9_1; rw [View.read_writes_full]; ((try delta fwd_runB.sl.r); (try delta fwd_runB.sl.v0); (try delta fwd_runB.sl.v2)); exact congrArg₂ k0_pay18 (L2 _) (L4 _)
  have key := st0_eq c i arg2 harg2 arg3 harg3 arg4 harg4 arg5 harg5 arg6 harg6 arg7 harg7 arg8 harg8 arg9 harg9 arg10 harg10 arg11 harg11 arg12 harg12 arg13 harg13 (fwd_runB.sl.r_3 c arg13 harg13 cs) (fwd_runB.sl.r_4 c arg13 harg13 cs) (fwd_runB.sl.r_8 c arg5 harg5 arg6 harg6 x3 x4) (fwd_runB.sl.r_9 c arg5 harg5 arg6 harg6 x3 x4) (fwd_runB.sl.r_15 c arg5 harg5 arg6 harg6 x3 x4) (fwd_runB.sl.r_16 c arg5 harg5 arg6 harg6 x3 x4) (fwd_runB.sl.r_17 c arg5 harg5 x3) (fwd_runB.sl.r_18 c arg6 harg6 x4) (fwd_runB.sl.r_19 c arg5 harg5 arg6 harg6 x3 x4) (fwd_runB.sl.r_20 c arg5 harg5 arg6 harg6 x3 x4) (k0_pay50 fwd_runB.sl.v42) x3 x4
    (arg10.view.writes (Elt F) arg10.view.junk (fwd_runB.sl.H8_1 c arg2 harg2 arg3 harg3 x0 x1)) (arg11.view.writes (Elt F) arg11.view.junk (fwd_runB.sl.H9_1 c arg2 harg2 arg4 harg4 x0 x2))
    (fwd_runB.sl.r_3 c arg13 harg13 cs, fwd_runB.sl.r_4 c arg13 harg13 cs) (by
      intro hr hi xr xi
      ((try delta fwd_runB.sl.v42); (try delta fwd_runB.sl.r_20); (try delta fwd_runB.sl.r_19); (try delta fwd_runB.sl.r_18); (try delta fwd_runB.sl.r_17); (try delta fwd_runB.sl.r_16); (try delta fwd_runB.sl.r_15); (try delta fwd_runB.sl.r_14); (try delta fwd_runB.sl.r_13); (try delta fwd_runB.sl.r_12); (try delta fwd_runB.sl.r_11); (try delta fwd_runB.sl.r_10); (try delta fwd_runB.sl.r_9); (try delta fwd_runB.sl.r_8); (try delta fwd_runB.sl.r_7); (try delta fwd_runB.sl.r_6); (try delta fwd_runB.sl.r_5); (try delta fwd_runB.sl.r_2); (try delta fwd_runB.sl.r_1); (try delta fwd_runB.sl.r))
      simp only [L5, L6, View.readAt_full, harg5.read_unread, harg6.read_unread]
      rfl) 128 le_rfl
  rw [hG10, hG11] at key
  have kk : _ = fwdEnd x0 x1 x2 x3 x4 cs := key.trans (by rw [h22, h23]; rfl)
  have k1 := congrArg Prod.fst kk; have k10 := congrArg (fun z => z.2.1) kk; have k11 := congrArg (fun z => z.2.2) kk
  dsimp only at k1 k10 k11
  isplitl [H8]
  · iexists _; isplitr; swap; · iexact H8
    ipureintro
    rw [View.writes_append]; exact k10
  isplitl [H9]
  · iexists _; isplitr; swap; · iexact H9
    ipureintro
    rw [View.writes_append]; exact k11
  isplitl [H10]
  · iexists _; isplitr; swap; · iexact H10
    ipureintro
    rw [View.read_writes_full]
    unfold fwdOut
    have L10 : ∀ inb f, arg10.view.readAt (Elt F) (Rect.unit ![0, 0] ![1024, 512] inb).toLoadRect f = arg10.view.read (Elt F) f := fun inb f => View.readAt_full arg10.view f inb
    have L11 : ∀ inb f, arg11.view.readAt (Elt F) (Rect.unit ![0, 0] ![1024, 512] inb).toLoadRect f = arg11.view.read (Elt F) f := fun inb f => View.readAt_full arg11.view f inb
    ((try delta fwd_runB.sl.r_23); (try delta fwd_runB.sl.r_22); (try delta fwd_runB.sl.r_21); (try delta fwd_runB.sl.v149); (try delta fwd_runB.sl.v151); (try delta fwd_runB.sl.r); (try delta fwd_runB.sl.v0))
    simp only [L2, L7, L8, L9, L10, L11, View.readCov, View.readAt_full, View.writes_append, harg2.read_unread, harg7.read_unread, harg8.read_unread, harg9.read_unread]
    exact congrArg₂ (fun a b => k0_pay1 x0 (k0_pay57 x7) (k0_pay58 a x5) (k0_pay59 b x6)) k10 k11
  iexists _; isplitr; swap; · iexact HS
  ipureintro
  rw [View.read_writes_cons_put _ _ _ _ _ (rfl : _ = ![1, 0]), View.read_writes_cons_put _ _ _ _ _ (rfl : _ = ![0, 0])]
  rw [View.writes_nil, harg13.read_unread]
  exact congrArg (fun q => setRows cs (k0_pay55 q.1, k0_pay56 q.2)) k1

end Cert.KernelIdeal.Hand

end
-- ==== Proof.Reg0.lean ====
/-
  The forward call as a region of the program: what each point finds, what it leaves, the obligation at every point.
-/
module

public import proofs.«01_k».proof.Proof.FwdBody
public import proofs.«01_k».proof.Proof.Gen.KernelIdeal.Points
public import Idealize.ShloMosaic.Lib.Pipeline.FrameBody
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (W : Dev nD → Valuation τ sig (Elt F))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- The body's first branch is taken at the first tile of a column. -/
theorem hcond0 : ∀ t : Fin cfg0.N, cond0 (grid0.coords t) ↔ t.val % 4 = 0 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [cond0, e0, e1]
    word_cmp
   : ∀ t : Fin grid0.N, cond0 (grid0.coords t) ↔ t.val % 4 = 0)

/-- The carried rows after point `n`. -/
def cs0 (c : Dev nD) : (n : ℕ) → n < cfg0.N → Vec F S2x512 .f32
  | 0, h => fwdCarry (iblk0 W c 0 ⟨0, h⟩) (iblk0 W c 1 ⟨0, h⟩) (iblk0 W c 2 ⟨0, h⟩) (iblk0 W c 3 ⟨0, h⟩) (iblk0 W c 4 ⟨0, h⟩) (k0_pay16 (F := F))
  | n + 1, h => fwdCarry (iblk0 W c 0 ⟨n + 1, h⟩) (iblk0 W c 1 ⟨n + 1, h⟩) (iblk0 W c 2 ⟨n + 1, h⟩) (iblk0 W c 3 ⟨n + 1, h⟩) (iblk0 W c 4 ⟨n + 1, h⟩) (if (n + 1) % 4 = 0 then k0_pay16 (F := F) else cs0 c n (Nat.lt_of_succ_lt h))

/-- The carried rows that point `t` starts from. -/
def start0 (c : Dev nD) (t : Fin cfg0.N) : Vec F S2x512 .f32 :=
  if t.val % 4 = 0 then k0_pay16 (F := F) else cs0 W c (t.val - 1) (Nat.lt_of_le_of_lt (Nat.sub_le _ _) t.isLt)

theorem cs0_eq (c : Dev nD) (t : Fin cfg0.N) : cs0 W c t.val t.isLt = fwdCarry (iblk0 W c 0 t) (iblk0 W c 1 t) (iblk0 W c 2 t) (iblk0 W c 3 t) (iblk0 W c 4 t) (start0 W c t) := by
  obtain ⟨n, hn⟩ := t
  cases n with
  | zero => unfold start0; rw [if_pos (by rfl)]; rfl
  | succ n => rfl

/-- Scratch operand 0. -/
abbrev scM0_0 : Memref sig .tc .vmem S2x512 .f32 := Memref.whole cc0_scratch0
/-- The staging buffer of window 0 at point `t`. -/
abbrev ms0_0 (t : Fin cfg0.N) : Memref sig .tc .vmem S1024x128 .f32 := win0_0.stage (cfg0.slots t 0)
/-- The staging buffer of window 1 at point `t`. -/
abbrev ms0_1 (t : Fin cfg0.N) : Memref sig .tc .vmem S1x128x512 .f32 := win0_1.stage (cfg0.slots t 1)
/-- The staging buffer of window 2 at point `t`. -/
abbrev ms0_2 (t : Fin cfg0.N) : Memref sig .tc .vmem S1x128x512 .f32 := win0_2.stage (cfg0.slots t 2)
/-- The staging buffer of window 3 at point `t`. -/
abbrev ms0_3 (t : Fin cfg0.N) : Memref sig .tc .vmem S1x512 .f32 := win0_3.stage (cfg0.slots t 3)
/-- The staging buffer of window 4 at point `t`. -/
abbrev ms0_4 (t : Fin cfg0.N) : Memref sig .tc .vmem S1x512 .f32 := win0_4.stage (cfg0.slots t 4)
/-- The staging buffer of window 5 at point `t`. -/
abbrev ms0_5 (t : Fin cfg0.N) : Memref sig .tc .vmem S1x512x128 .f32 := win0_5.stage (cfg0.slots t 5)
/-- The staging buffer of window 6 at point `t`. -/
abbrev ms0_6 (t : Fin cfg0.N) : Memref sig .tc .vmem S1x512x128 .f32 := win0_6.stage (cfg0.slots t 6)
/-- The staging buffer of window 7 at point `t`. -/
abbrev ms0_7 (t : Fin cfg0.N) : Memref sig .tc .vmem S1x128 .f32 := win0_7.stage (cfg0.slots t 7)
/-- The staging buffer of window 8 at point `t`. -/
abbrev ms0_8 (t : Fin cfg0.N) : Memref sig .tc .vmem S1024x512 .f32 := win0_8.stage (cfg0.slots t 8)
/-- The staging buffer of window 9 at point `t`. -/
abbrev ms0_9 (t : Fin cfg0.N) : Memref sig .tc .vmem S1024x512 .f32 := win0_9.stage (cfg0.slots t 9)
/-- The staging buffer of window 10 at point `t`. -/
abbrev ms0_10 (t : Fin cfg0.N) : Memref sig .tc .vmem S1024x128 .bf16 := win0_10.stage (cfg0.slots t 10)
/-- The region's own buffers before its first point: every scratch at anything, beside the buffers it does not name. -/
def phi0 (c : Dev nD) : sProp 𝕄 := iprop(((∃ d, owns (c : Thread nD τ) scM0_0 fullShare d)) ∗ Pipeline.scopedRestBut (Ix := Unit) (Name := ℕ) (U := UR sig nD τ) (Lvl := ℕ) (Val := Elt F) spec0 c [cc0_scratch0] ∗ (∃ r, prngReg c r))

theorem phi0_of (c : Dev nD) : iprop(Pipeline.scopedRest (Ix := Unit) (Name := ℕ) (U := UR sig nD τ) (Lvl := ℕ) (Val := Elt F) spec0 c ∗ (∃ r, prngReg c r)) ⊢ (phi0 c : sProp 𝕄) := by
  unfold phi0; rw [scopedRest0_split]; simp only [scM0_0, owns_whole]
  iintro ⟨⟨Hs, Hb⟩, Hg⟩
  isplitl [Hs]; · iexact Hs
  isplitl [Hb]; · iexact Hb
  iexact Hg

theorem phi0_back (c : Dev nD) : (phi0 c : sProp 𝕄) ⊢ iprop(Pipeline.scopedRest (Ix := Unit) (Name := ℕ) (U := UR sig nD τ) (Lvl := ℕ) (Val := Elt F) spec0 c ∗ (∃ r, prngReg c r)) := by
  unfold phi0; rw [scopedRest0_split]; simp only [scM0_0, owns_whole]
  iintro ⟨Hs, Hb, Hg⟩
  isplitl [Hs Hb]
  · isplitl [Hs]; · iexact Hs
    iexact Hb
  iexact Hg

/-- The region's own buffers before point `n`: the carried rows as the point before left them. -/
def phiAt0 (c : Dev nD) : (n : ℕ) → n ≤ cfg0.N → sProp 𝕄
  | 0, _ => phi0 c
  | n + 1, hn => iprop((owns (c : Thread nD τ) scM0_0 fullShare (cs0 W c n hn)) ∗ Pipeline.scopedRestBut (Ix := Unit) (Name := ℕ) (U := UR sig nD τ) (Lvl := ℕ) (Val := Elt F) spec0 c [cc0_scratch0] ∗ (∃ r, prngReg c r))

theorem phiAt0_zero (c : Dev nD) (n : ℕ) (h : n ≤ cfg0.N) (hz : n = 0) : phiAt0 W c n h = phi0 c := by
  subst hz; rfl

theorem phiAt0_succ (c : Dev nD) (n : ℕ) (hn : n < cfg0.N) :
    phiAt0 W c (n + 1) hn = iprop((owns (c : Thread nD τ) scM0_0 fullShare (cs0 W c n hn)) ∗ Pipeline.scopedRestBut (Ix := Unit) (Name := ℕ) (U := UR sig nD τ) (Lvl := ℕ) (Val := Elt F) spec0 c [cc0_scratch0] ∗ (∃ r, prngReg c r)) := rfl

theorem phiAt0_pos (c : Dev nD) (n : ℕ) (h : n ≤ cfg0.N) (hz : n ≠ 0) :
    phiAt0 W c n h = iprop((owns (c : Thread nD τ) scM0_0 fullShare (cs0 W c (n - 1) (by omega))) ∗ Pipeline.scopedRestBut (Ix := Unit) (Name := ℕ) (U := UR sig nD τ) (Lvl := ℕ) (Val := Elt F) spec0 c [cc0_scratch0] ∗ (∃ r, prngReg c r)) := by
  cases n with
  | zero => exact absurd rfl hz
  | succ n => rfl

/-- The region's proof data: the arrays as found, what the body leaves point by point. -/
def dat0 (c : Dev nD) : Dat τ (Elt F) Unit ℕ (UR sig nD τ) ℕ cfg0 c where
  A w := W c (Proc.devRef .tc (Pipeline.arrRef spec0 w))
  after w t := match w with
    | ⟨0, _⟩ => iblk0 W c 0 t
    | ⟨1, _⟩ => iblk0 W c 1 t
    | ⟨2, _⟩ => iblk0 W c 2 t
    | ⟨3, _⟩ => iblk0 W c 3 t
    | ⟨4, _⟩ => iblk0 W c 4 t
    | ⟨5, _⟩ => iblk0 W c 5 t
    | ⟨6, _⟩ => iblk0 W c 6 t
    | ⟨7, _⟩ => iblk0 W c 7 t
    | ⟨8, _⟩ => (fwdEnd (iblk0 W c 0 t) (iblk0 W c 1 t) (iblk0 W c 2 t) (iblk0 W c 3 t) (iblk0 W c 4 t) (start0 W c t)).2.1
    | ⟨9, _⟩ => (fwdEnd (iblk0 W c 0 t) (iblk0 W c 1 t) (iblk0 W c 2 t) (iblk0 W c 3 t) (iblk0 W c 4 t) (start0 W c t)).2.2
    | ⟨10, _⟩ => fwdOut (iblk0 W c 0 t) (iblk0 W c 1 t) (iblk0 W c 2 t) (iblk0 W c 3 t) (iblk0 W c 4 t) (iblk0 W c 5 t) (iblk0 W c 6 t) (iblk0 W c 7 t) (start0 W c t)
    | ⟨_ + 11, h⟩ => absurd h (Nat.not_lt.2 (Nat.le_add_left _ _))
  Φ t := phiAt0 W c t.val (Nat.le_of_lt_succ t.isLt)
  q w := Pipeline.shareOf spec0 w
  owed _ := 0

theorem A_eq0 (c : Dev nD) (w : Fin cfg0.W) : (dat0 W c).A w = W c (Proc.devRef .tc (Pipeline.arrRef spec0 w)) := by
  dsimp only [dat0]

theorem phiAt0_castSucc (c : Dev nD) (t : Fin cfg0.N) :
    (dat0 W c).Φ t.castSucc = phiAt0 W c t.val (Nat.le_of_lt t.isLt) := by
  dsimp only [dat0]; exact Pipeline.Dat.Φ_castSucc (phiAt0 W c) t

theorem after0_0 (c : Dev nD) (t : Fin cfg0.N) : (dat0 W c).after 0 t = iblk0 W c 0 t := by dsimp only [dat0]
theorem after0_1 (c : Dev nD) (t : Fin cfg0.N) : (dat0 W c).after 1 t = iblk0 W c 1 t := by dsimp only [dat0]
theorem after0_2 (c : Dev nD) (t : Fin cfg0.N) : (dat0 W c).after 2 t = iblk0 W c 2 t := by dsimp only [dat0]
theorem after0_3 (c : Dev nD) (t : Fin cfg0.N) : (dat0 W c).after 3 t = iblk0 W c 3 t := by dsimp only [dat0]
theorem after0_4 (c : Dev nD) (t : Fin cfg0.N) : (dat0 W c).after 4 t = iblk0 W c 4 t := by dsimp only [dat0]
theorem after0_5 (c : Dev nD) (t : Fin cfg0.N) : (dat0 W c).after 5 t = iblk0 W c 5 t := by dsimp only [dat0]
theorem after0_6 (c : Dev nD) (t : Fin cfg0.N) : (dat0 W c).after 6 t = iblk0 W c 6 t := by dsimp only [dat0]
theorem after0_7 (c : Dev nD) (t : Fin cfg0.N) : (dat0 W c).after 7 t = iblk0 W c 7 t := by dsimp only [dat0]
theorem after0_8 (c : Dev nD) (t : Fin cfg0.N) : (dat0 W c).after 8 t = (fwdEnd (iblk0 W c 0 t) (iblk0 W c 1 t) (iblk0 W c 2 t) (iblk0 W c 3 t) (iblk0 W c 4 t) (start0 W c t)).2.1 := by dsimp only [dat0]
theorem after0_9 (c : Dev nD) (t : Fin cfg0.N) : (dat0 W c).after 9 t = (fwdEnd (iblk0 W c 0 t) (iblk0 W c 1 t) (iblk0 W c 2 t) (iblk0 W c 3 t) (iblk0 W c 4 t) (start0 W c t)).2.2 := by dsimp only [dat0]
theorem after0_10 (c : Dev nD) (t : Fin cfg0.N) : (dat0 W c).after 10 t = fwdOut (iblk0 W c 0 t) (iblk0 W c 1 t) (iblk0 W c 2 t) (iblk0 W c 3 t) (iblk0 W c 4 t) (iblk0 W c 5 t) (iblk0 W c 6 t) (iblk0 W c 7 t) (start0 W c t) := by dsimp only [dat0]
theorem before0_0 (c : Dev nD) (t : Fin cfg0.N) (d) : (dat0 W c).before 0 t d = iblk0 W c 0 t :=
  ((dat0 W c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 W c).before 1 t d = iblk0 W c 1 t :=
  ((dat0 W c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 W c).before 2 t d = iblk0 W c 2 t :=
  ((dat0 W c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 W c).before 3 t d = iblk0 W c 3 t :=
  ((dat0 W c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 W c).before 4 t d = iblk0 W c 4 t :=
  ((dat0 W c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 W c).before 5 t d = iblk0 W c 5 t :=
  ((dat0 W c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 W c).before 6 t d = iblk0 W c 6 t :=
  ((dat0 W c).before_in_eq_fetched 6 rfl (fun _ => rfl) (fun _ _ _ => rfl) (fun t => by rw [after0_6]; unfold Dat.blockOf iblk0; rw [A_eq0]; try rfl) t d).trans
    (by unfold Dat.fetched Dat.blockOf iblk0; rw [A_eq0]; try rfl)
theorem before0_7 (c : Dev nD) (t : Fin cfg0.N) (d) : (dat0 W c).before 7 t d = iblk0 W c 7 t :=
  ((dat0 W c).before_in_eq_fetched 7 rfl (fun _ => rfl) (fun _ _ _ => rfl) (fun t => by rw [after0_7]; unfold Dat.blockOf iblk0; rw [A_eq0]; try rfl) t d).trans
    (by unfold Dat.fetched Dat.blockOf iblk0; rw [A_eq0]; try rfl)
/-- What the body is called with at point `t`. -/
def bodyPre0 (c : Dev nD) (t : Fin cfg0.N) : sProp 𝕄 :=
  iprop((dat0 W c).Φ t.castSucc ∗ (dat0 W c).owesAt () t.castSucc
    ∗ (∃ d, owns (c : Thread nD τ) (ms0_0 t) fullShare ((dat0 W c).before 0 t d))
    ∗ (∃ d, owns (c : Thread nD τ) (ms0_1 t) fullShare ((dat0 W c).before 1 t d))
    ∗ (∃ d, owns (c : Thread nD τ) (ms0_2 t) fullShare ((dat0 W c).before 2 t d))
    ∗ (∃ d, owns (c : Thread nD τ) (ms0_3 t) fullShare ((dat0 W c).before 3 t d))
    ∗ (∃ d, owns (c : Thread nD τ) (ms0_4 t) fullShare ((dat0 W c).before 4 t d))
    ∗ (∃ d, owns (c : Thread nD τ) (ms0_5 t) fullShare ((dat0 W c).before 5 t d))
    ∗ (∃ d, owns (c : Thread nD τ) (ms0_6 t) fullShare ((dat0 W c).before 6 t d))
    ∗ (∃ d, owns (c : Thread nD τ) (ms0_7 t) fullShare ((dat0 W c).before 7 t d))
    ∗ (∃ d, owns (c : Thread nD τ) (ms0_8 t) fullShare ((dat0 W c).before 8 t d))
    ∗ (∃ d, owns (c : Thread nD τ) (ms0_9 t) fullShare ((dat0 W c).before 9 t d))
    ∗ (∃ d, owns (c : Thread nD τ) (ms0_10 t) fullShare ((dat0 W c).before 10 t d)))

/-- What it returns. -/
def bodyPost0 (c : Dev nD) (t : Fin cfg0.N) : sProp 𝕄 :=
  iprop((dat0 W c).Φ t.succ ∗ (dat0 W c).owesAt () t.succ
    ∗ owns (c : Thread nD τ) (ms0_0 t) fullShare ((dat0 W c).after 0 t)
    ∗ owns (c : Thread nD τ) (ms0_1 t) fullShare ((dat0 W c).after 1 t)
    ∗ owns (c : Thread nD τ) (ms0_2 t) fullShare ((dat0 W c).after 2 t)
    ∗ owns (c : Thread nD τ) (ms0_3 t) fullShare ((dat0 W c).after 3 t)
    ∗ owns (c : Thread nD τ) (ms0_4 t) fullShare ((dat0 W c).after 4 t)
    ∗ owns (c : Thread nD τ) (ms0_5 t) fullShare ((dat0 W c).after 5 t)
    ∗ owns (c : Thread nD τ) (ms0_6 t) fullShare ((dat0 W c).after 6 t)
    ∗ owns (c : Thread nD τ) (ms0_7 t) fullShare ((dat0 W c).after 7 t)
    ∗ owns (c : Thread nD τ) (ms0_8 t) fullShare ((dat0 W c).after 8 t)
    ∗ owns (c : Thread nD τ) (ms0_9 t) fullShare ((dat0 W c).after 9 t)
    ∗ owns (c : Thread nD τ) (ms0_10 t) fullShare ((dat0 W c).after 10 t))

set_option maxHeartbeats 8000000 in
/-- The body at any point. -/
theorem sound_body0 (c : Dev nD) (t : Fin cfg0.N) :
    bodyPre0 W c t ⊢ wp frame (wpE (defs₀ (F := F)) Variants.none c none) Set.univ (bodyAt0 t) (fun _ => bodyPost0 W c t) := by
  unfold bodyPre0 bodyPost0 bodyAt0
  simp only [before0_0, before0_1, before0_2, before0_3, before0_4, before0_5, before0_6, before0_7]
  rw [show (dat0 W c).owesAt () t.succ = (dat0 W c).owesAt () t.castSucc from rfl,
    after0_0, after0_1, after0_2, after0_3, after0_4, after0_5, after0_6, after0_7, after0_8, after0_9, after0_10]
  rw [show (dat0 W c).Φ t.succ = phiAt0 W c (t.val + 1) t.isLt from rfl, phiAt0_succ]
  have hN : t.val < 32 := lt_of_lt_of_eq t.isLt (show cfg0.N = 32 from N_0)
  by_cases h0 : t.val % 4 = 0
  · rw [cs0_eq, show start0 W c t = k0_pay16 (F := F) from if_pos h0]
    by_cases hz : t.val = 0
    · rw [phiAt0_castSucc W c t, phiAt0_zero W c _ _ hz]; unfold phi0
      iintro ⟨⟨HS0, Hb, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (fwd_runA c (grid0.coords t) _ _ _ _ _ _ _ _ _ _ _ _ _ _ _ _ _ _ _ _ _ _ _ _ ((hcond0 t).mpr h0) (iblk0 W c 0 t) (iblk0 W c 1 t) (iblk0 W c 2 t) (iblk0 W c 3 t) (iblk0 W c 4 t) (iblk0 W c 5 t) (iblk0 W c 6 t) (iblk0 W c 7 t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [HS0]; · iexact HS0
      iintro ⟨H0, H1, H2, H3, H4, H5, H6, H7, H8, H9, H10, HS0⟩
      isplitl [HS0 Hb Hg]
      · isplitl [HS0]; · iexact HS0
        isplitl [Hb]; · iexact Hb
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · rw [phiAt0_castSucc W c t, phiAt0_pos W c _ _ hz]
      iintro ⟨⟨HS0, Hb, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (fwd_runA c (grid0.coords t) _ _ _ _ _ _ _ _ _ _ _ _ _ _ _ _ _ _ _ _ _ _ _ _ ((hcond0 t).mpr h0) (iblk0 W c 0 t) (iblk0 W c 1 t) (iblk0 W c 2 t) (iblk0 W c 3 t) (iblk0 W c 4 t) (iblk0 W c 5 t) (iblk0 W c 6 t) (iblk0 W c 7 t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [HS0]; · iexists _; iexact HS0
      iintro ⟨H0, H1, H2, H3, H4, H5, H6, H7, H8, H9, H10, HS0⟩
      isplitl [HS0 Hb Hg]
      · isplitl [HS0]; · iexact HS0
        isplitl [Hb]; · iexact Hb
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
  · have hz : t.val ≠ 0 := fun h => h0 (by rw [h])
    rw [phiAt0_castSucc W c t, phiAt0_pos W c _ _ hz]
    rw [cs0_eq, show start0 W c t = cs0 W c (t.val - 1) (Nat.lt_of_le_of_lt (Nat.sub_le _ _) t.isLt) from if_neg h0]
    iintro ⟨⟨HS0, Hb, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (fwd_runB c (grid0.coords t) _ _ _ _ _ _ _ _ _ _ _ _ _ _ _ _ _ _ _ _ _ _ _ _ (fun h => h0 ((hcond0 t).mp h)) (iblk0 W c 0 t) (iblk0 W c 1 t) (iblk0 W c 2 t) (iblk0 W c 3 t) (iblk0 W c 4 t) (iblk0 W c 5 t) (iblk0 W c 6 t) (iblk0 W c 7 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [HS0]; · iexact HS0
    iintro ⟨H0, H1, H2, H3, H4, H5, H6, H7, H8, H9, H10, HS0⟩
    isplitl [HS0 Hb Hg]
    · isplitl [HS0]; · iexact HS0
      isplitl [Hb]; · iexact Hb
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The body table's row at point `t` is the body. -/
theorem defs₀_row0 (t : Fin cfg0.N) :
    defs₀ (F := F) .tc cfg0.body (cfg0.bodyArgs t (cfg0.slots t)) = bodyAt0 t := by
  unfold defs₀; rw [Defs.onTc_tc]

/-- The obligation at every point. -/
theorem body_obligation0 (c : Dev nD) : BodyObligation (dat0 W c) (defs₀ (F := F)) Variants.none () Set.univ := fun t => by
  rw [bigSep_W0, bigSep_W0, defs₀_row0]
  exact triple_restated (sound_body0 W c t) rfl .rfl fun _ => .rfl

theorem hin0 (c : Dev nD) : (phi0 c : sProp 𝕄) ⊢ (dat0 W c).Φ 0 := by
  rw [show (dat0 W c).Φ 0 = phiAt0 W c 0 (Nat.zero_le _) from rfl, phiAt0_zero W c 0 _ rfl]
  try exact Idealize.SL.BI.Entails.refl _

theorem hout0 (c : Dev nD) : (dat0 W c).Φ (Fin.last cfg0.N) ⊢ (phi0 c : sProp 𝕄) := by
  rw [show (dat0 W c).Φ (Fin.last cfg0.N) = phiAt0 W c (Fin.last cfg0.N).val (Nat.le_of_lt_succ (Fin.last cfg0.N).isLt) from rfl,
    phiAt0_pos W c _ _ (by rw [Fin.val_last]; have : cfg0.N = 32 := N_0; omega)]
  unfold phi0
  iintro ⟨Hs, Hr⟩
  isplitl [Hs]
  · iexists _; iexact Hs
  iexact Hr

end Cert.KernelIdeal.Hand

end
-- ==== Proof.BwdBody.lean ====
/-
  The body of the backward pass of the recurrence (`s5_bwd`), in closed form: what one grid point leaves in its buffers as plain
  functions of the blocks it is given, and the body run to them.
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.FwdBody
public import Idealize.ShloMosaic.Lib.Pipeline.FrameBody
public import Idealize.ShloMosaic.Lib.VecWindow
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-! ## The tile's reversed scan as a function -/

/-- The new eight rows of one group, later rows first: from the transition (`ar`, `ai`), the carried rows and the rows found. -/
def bwdTile (ar ai hr hi : Vec F S1x512 .f32) (xr xi : Vec F S8x512 .f32) : Vec F S8x512 .f32 × Vec F S8x512 .f32 :=
  let v114 : IVec S8x512 32 := iota .tc S8x512 32 [0] iota_S8x512_d0_w32
  let v89 := k1_pay45 ar; let v93 := k1_pay46 ai
  let v98 := k1_pay47 ar ai; let v101 := k1_pay48 ar ai; let v104 := k1_pay49 ar ai; let v107 := k1_pay50 ar ai
  let v110 := k1_pay51 ar ai; let v113 := k1_pay52 ar ai
  let v116 := k1_pay53; let v117 := k1_pay54 (F := F); let v118 := k1_pay55 (F := F); let v123 := k1_pay56 ar ai
  let v165 := k1_pay64 v89 v93 v98 v101 v104 v107 v116 v117 v118 v123; let v166 := k1_pay65 v89 v93 v98 v101 v104 v107 v116 v117 v118 v123
  let v171 := k1_pay66 v89 v93 v98 v101 v104 v107 v110 v113 v116 v117 v118 v123; let v176 := k1_pay67 v89 v93 v98 v101 v104 v107 v110 v113 v116 v117 v118 v123
  (k1_pay16 (k1_pay69 v116 v165 v171 8#32) (k1_pay70 v116 v166 v176 8#32) (k1_pay72 v89 v114) (k1_pay73 v93 v114) (k1_pay75 v98 v114) (k1_pay76 v101 v114) (k1_pay78 v104 v114) (k1_pay79 v107 v114) hr hi xr xi,
   k1_pay17 (k1_pay69 v116 v165 v171 8#32) (k1_pay70 v116 v166 v176 8#32) (k1_pay72 v89 v114) (k1_pay73 v93 v114) (k1_pay75 v98 v114) (k1_pay76 v101 v114) (k1_pay78 v104 v114) (k1_pay79 v107 v114) hr hi xr xi)

/-- One group of the reversed scan: the rows of group `127 - k` replaced, their first row carried on. -/
def bwdStep (ar ai : Vec F S1x512 .f32) (k : Fin 128) (s : ScanSt F) : ScanSt F :=
  let t := bwdTile ar ai s.1.1 s.1.2 (grp s.2.1 k.rev) (grp s.2.2 k.rev)
  ((k1_pay82 t.1, k1_pay83 t.2), setGrp s.2.1 k.rev (k1_pay80 t.1), setGrp s.2.2 k.rev (k1_pay81 t.2))

/-- The reversed scan's state before its step `k`. -/
def bwdScan (ar ai : Vec F S1x512 .f32) (s : ScanSt F) : ℕ → ScanSt F
  | 0 => s
  | k + 1 => if h : k < 128 then bwdStep ar ai ⟨k, h⟩ (bwdScan ar ai s k) else bwdScan ar ai s k

theorem bwdScan_succ (ar ai : Vec F S1x512 .f32) (s : ScanSt F) (k : Fin 128) :
    bwdScan ar ai s (k.val + 1) = bwdStep ar ai k (bwdScan ar ai s k.val) := dif_pos k.isLt

theorem trips1 : k1_t1_loop.trips = 128 := by decide

theorem off1_1 (k : Fin k1_t1_loop.trips) : k1_off1 k = ![8 * (k.cast trips1).rev.val, 0] := by
  revert k; decide

/-! ## The rest of the body -/

theorem inbHalo : ∀ a, (![7, 0] : Fin 2 → ℕ) a + S1x512.size a ≤ S8x512.size a := by
  intro a; fin_cases a
  · show 7 + 1 ≤ 8; omega
  · show 0 + 512 ≤ 512; omega

/-- The last of eight rows: the state before the tile's first one. -/
abbrev halo (x : Vec F S8x512 .f32) : Vec F S1x512 .f32 := VecWindow.window x ![7, 0] S1x512.size inbHalo

/-- The gradient of the states through the output map alone, real part. -/
def bwdIn0 (dy u : Vec F S1024x128 .f32) (sr si : Vec F S1024x512 .f32) (cr ci : Vec F S1x512x128 .f32) (d : Vec F S1x128 .f32) : FVec F S1024x512 .f32 :=
  k1_pay43 (k1_pay41 (k1_pay29 cr) (k1_pay31 u sr si cr ci d) (k1_pay32 u sr si cr ci d) (k1_pay33 u sr si cr ci d) (k1_pay34 u sr si cr ci d) dy)

/-- The gradient of the states through the output map alone, imaginary part. -/
def bwdIn1 (dy u : Vec F S1024x128 .f32) (sr si : Vec F S1024x512 .f32) (cr ci : Vec F S1x512x128 .f32) (d : Vec F S1x128 .f32) : FVec F S1024x512 .f32 :=
  k1_pay44 (k1_pay39 (k1_pay30 ci) (k1_pay31 u sr si cr ci d) (k1_pay32 u sr si cr ci d) (k1_pay33 u sr si cr ci d) (k1_pay34 u sr si cr ci d) dy)

/-- The tile's share of the skip weight's gradient. -/
def bwdDd (dy u : Vec F S1024x128 .f32) (sr si : Vec F S1024x512 .f32) (cr ci : Vec F S1x512x128 .f32) (d : Vec F S1x128 .f32) : FVec F S1x128 .f32 :=
  k1_pay36 u (k1_pay31 u sr si cr ci d) (k1_pay32 u sr si cr ci d) (k1_pay33 u sr si cr ci d) (k1_pay34 u sr si cr ci d) dy

/-- The gradient of the inputs through the skip term. -/
def bwdDu (dy u : Vec F S1024x128 .f32) (sr si : Vec F S1024x512 .f32) (cr ci : Vec F S1x512x128 .f32) (d : Vec F S1x128 .f32) : FVec F S1024x128 .f32 :=
  k1_pay37 (k1_pay28 d) (k1_pay31 u sr si cr ci d) (k1_pay32 u sr si cr ci d) (k1_pay33 u sr si cr ci d) (k1_pay34 u sr si cr ci d) dy

/-- The tile's share of the output map's gradient, imaginary part. -/
def bwdDci (dy u : Vec F S1024x128 .f32) (sr si : Vec F S1024x512 .f32) (cr ci : Vec F S1x512x128 .f32) (d : Vec F S1x128 .f32) : FVec F S1x512x128 .f32 :=
  k1_pay40 (k1_pay27 si) (k1_pay31 u sr si cr ci d) (k1_pay32 u sr si cr ci d) (k1_pay33 u sr si cr ci d) (k1_pay34 u sr si cr ci d) dy

/-- The tile's share of the output map's gradient, real part. -/
def bwdDcr (dy u : Vec F S1024x128 .f32) (sr si : Vec F S1024x512 .f32) (cr ci : Vec F S1x512x128 .f32) (d : Vec F S1x128 .f32) : FVec F S1x512x128 .f32 :=
  k1_pay42 (k1_pay26 sr) (k1_pay31 u sr si cr ci d) (k1_pay32 u sr si cr ci d) (k1_pay33 u sr si cr ci d) (k1_pay34 u sr si cr ci d) dy

/-- The reversed scan of a whole tile, from the carried rows `cs`. -/
def bwdEnd (dy u : Vec F S1024x128 .f32) (sr si : Vec F S1024x512 .f32) (cr ci : Vec F S1x512x128 .f32) (d : Vec F S1x128 .f32) (ar ai : Vec F S1x512 .f32) (cs : Vec F S2x512 .f32) : ScanSt F :=
  bwdScan ar ai ((crow cs 0, crow cs 1), bwdIn0 dy u sr si cr ci d, bwdIn1 dy u sr si cr ci d) 128

/-- The carried rows after the tile. -/
def bwdCarry (dy u : Vec F S1024x128 .f32) (sr si : Vec F S1024x512 .f32) (cr ci : Vec F S1x512x128 .f32) (d : Vec F S1x128 .f32) (ar ai : Vec F S1x512 .f32) (cs : Vec F S2x512 .f32) : Vec F S2x512 .f32 :=
  setRows cs (k1_pay84 (bwdEnd dy u sr si cr ci d ar ai cs).1.1, k1_pay85 (bwdEnd dy u sr si cr ci d ar ai cs).1.2)

/-- The gradient of the tile's inputs. -/
def bwdDx (dy u : Vec F S1024x128 .f32) (sr si : Vec F S1024x512 .f32) (cr ci : Vec F S1x512x128 .f32) (d : Vec F S1x128 .f32) (ar ai : Vec F S1x512 .f32) (cs : Vec F S2x512 .f32) (br bi : Vec F S1x128x512 .f32) (res : Vec F S1024x128 .f32) : Vec F S1024x128 .f32 :=
  k1_pay90 (bwdDu dy u sr si cr ci d) (bwdEnd dy u sr si cr ci d ar ai cs).2.1 (k1_pay88 br) (k1_pay89 (bwdEnd dy u sr si cr ci d ar ai cs).2.2 bi) res

/-- The tile's share of the transition's gradient, real part, with what the tiles before added up. -/
def bwdDar (dy u : Vec F S1024x128 .f32) (sr si : Vec F S1024x512 .f32) (cr ci : Vec F S1x512x128 .f32) (d : Vec F S1x128 .f32) (ar ai : Vec F S1x512 .f32) (cs : Vec F S2x512 .f32) (n : BitVec 32) (hr hi : Vec F S8x512 .f32) (acc : Vec F S1x512 .f32) : Vec F S1x512 .f32 :=
  k1_pay4 (k1_pay91 (bwdEnd dy u sr si cr ci d ar ai cs).2.1 (bwdEnd dy u sr si cr ci d ar ai cs).2.2 (k1_pay86 n (k1_pay26 sr) (halo hr)) (k1_pay87 n (k1_pay27 si) (halo hi))) acc

/-- The tile's share of the transition's gradient, imaginary part, with what the tiles before added up. -/
def bwdDai (dy u : Vec F S1024x128 .f32) (sr si : Vec F S1024x512 .f32) (cr ci : Vec F S1x512x128 .f32) (d : Vec F S1x128 .f32) (ar ai : Vec F S1x512 .f32) (cs : Vec F S2x512 .f32) (n : BitVec 32) (hr hi : Vec F S8x512 .f32) (acc : Vec F S1x512 .f32) : Vec F S1x512 .f32 :=
  k1_pay5 (k1_pay92 (bwdEnd dy u sr si cr ci d ar ai cs).2.1 (bwdEnd dy u sr si cr ci d ar ai cs).2.2 (k1_pay86 n (k1_pay26 sr) (halo hr)) (k1_pay87 n (k1_pay27 si) (halo hi))) acc

section Loop

variable (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S1024x128 .f32) (harg8 : arg8.IsWhole) (arg9 : Memref sig .tc .vmem S1x128x512 .f32) (harg9 : arg9.IsWhole) (arg10 : Memref sig .tc .vmem S1x128x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512x128 .f32) (harg13 : arg13.IsWhole) (arg14 : Memref sig .tc .vmem S1x512x128 .f32) (harg14 : arg14.IsWhole) (arg15 : Memref sig .tc .vmem S1x128 .f32) (harg15 : arg15.IsWhole) (arg16 : Memref sig .tc .vmem S1024x128 .f32) (harg16 : arg16.IsWhole) (arg17 : Memref sig .tc .vmem S1x128x512 .f32) (harg17 : arg17.IsWhole) (arg18 : Memref sig .tc .vmem S1x128x512 .f32) (harg18 : arg18.IsWhole) (arg19 : Memref sig .tc .vmem S1x512x128 .f32) (harg19 : arg19.IsWhole) (arg20 : Memref sig .tc .vmem S1x512x128 .f32) (harg20 : arg20.IsWhole) (arg21 : Memref sig .tc .vmem S1x128 .f32) (harg21 : arg21.IsWhole) (arg22 : Memref sig .tc .vmem S1x512 .f32) (harg22 : arg22.IsWhole) (arg23 : Memref sig .tc .vmem S1x512 .f32) (harg23 : arg23.IsWhole) (arg24 : Memref sig .tc .vmem S2x512 .f32) (harg24 : arg24.IsWhole) (arg25 : Memref sig .tc .vmem S1024x512 .f32) (harg25 : arg25.IsWhole) (arg26 : Memref sig .tc .vmem S1024x512 .f32) (harg26 : arg26.IsWhole)
  (v89 v93 v94 v95 v98 v101 v104 v107 : FVec F S1x512 .f32) (v114 v116 : IVec S8x512 32) (v165 v166 v171 v176 : FVec F S8x512 .f32) (c8 : BitVec 32)

/-- What one trip of the loop carries on and writes, read off its run. -/
theorem trip1_eq (k : Fin k1_t1_loop.trips) (acc : Vec F S1x512 .f32 × Vec F S1x512 .f32) (f25 : BufTy.Contents (Elt F) arg25.view.ty) (f26 : BufTy.Contents (Elt F) arg26.view.ty) :
    tripR_k1_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v89 v93 v94 v95 v98 v101 v104 v107 v114 v116 v165 v166 v171 v176 c8 k acc f25 f26
      = (k1_pay82 (k1_pay16 (k1_pay69 v116 v165 v171 c8) (k1_pay70 v116 v166 v176 c8) (k1_pay72 v89 v114) (k1_pay73 v93 v114) (k1_pay75 v98 v114) (k1_pay76 v101 v114) (k1_pay78 v104 v114) (k1_pay79 v107 v114) acc.1 acc.2 (grp (arg25.view.read (Elt F) f25) (k.cast trips1).rev) (grp (arg26.view.read (Elt F) f26) (k.cast trips1).rev)),
         k1_pay83 (k1_pay17 (k1_pay69 v116 v165 v171 c8) (k1_pay70 v116 v166 v176 c8) (k1_pay72 v89 v114) (k1_pay73 v93 v114) (k1_pay75 v98 v114) (k1_pay76 v101 v114) (k1_pay78 v104 v114) (k1_pay79 v107 v114) acc.1 acc.2 (grp (arg25.view.read (Elt F) f25) (k.cast trips1).rev) (grp (arg26.view.read (Elt F) f26) (k.cast trips1).rev)))
    ∧ (trip_k1_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v89 v93 v94 v95 v98 v101 v104 v107 v114 v116 v165 v166 v171 v176 c8 k).2.1 acc f25 f26
      = [⟨Rect.unit (s := S1024x512) (k1_off1 k) S8x512.size (k1_off1_inb k), k1_pay80 (k1_pay16 (k1_pay69 v116 v165 v171 c8) (k1_pay70 v116 v166 v176 c8) (k1_pay72 v89 v114) (k1_pay73 v93 v114) (k1_pay75 v98 v114) (k1_pay76 v101 v114) (k1_pay78 v104 v114) (k1_pay79 v107 v114) acc.1 acc.2 (grp (arg25.view.read (Elt F) f25) (k.cast trips1).rev) (grp (arg26.view.read (Elt F) f26) (k.cast trips1).rev))⟩]
    ∧ (trip_k1_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v89 v93 v94 v95 v98 v101 v104 v107 v114 v116 v165 v166 v171 v176 c8 k).2.2.1 acc f25 f26
      = [⟨Rect.unit (s := S1024x512) (k1_off1 k) S8x512.size (k1_off1_inb k), k1_pay81 (k1_pay17 (k1_pay69 v116 v165 v171 c8) (k1_pay70 v116 v166 v176 c8) (k1_pay72 v89 v114) (k1_pay73 v93 v114) (k1_pay75 v98 v114) (k1_pay76 v101 v114) (k1_pay78 v104 v114) (k1_pay79 v107 v114) acc.1 acc.2 (grp (arg25.view.read (Elt F) f25) (k.cast trips1).rev) (grp (arg26.view.read (Elt F) f26) (k.cast trips1).rev))⟩] := by
  have h25 : grp (arg25.view.read (Elt F) f25) (k.cast trips1).rev = arg25.view.readAt (Elt F) (Rect.unit (s := S1024x512) (k1_off1 k) S8x512.size (k1_off1_inb k)).toLoadRect f25 :=
    (View.readAt_unit arg25.view f25 (k1_off1_inb k) (off1_1 k) (inb8 (k.cast trips1).rev)).symm
  have h26 : grp (arg26.view.read (Elt F) f26) (k.cast trips1).rev = arg26.view.readAt (Elt F) (Rect.unit (s := S1024x512) (k1_off1 k) S8x512.size (k1_off1_inb k)).toLoadRect f26 :=
    (View.readAt_unit arg26.view f26 (k1_off1_inb k) (off1_1 k) (inb8 (k.cast trips1).rev)).symm
  rw [h25, h26]
  refine ⟨?_, ?_, ?_⟩
  · unfold tripR_k1_t1 trip_k1_t1; rfl
  · unfold trip_k1_t1; rfl
  · unfold trip_k1_t1; rfl

/-- The loop's state in the program's own buffers reads as the scan's. -/
theorem st1_eq (ar ai : Vec F S1x512 .f32) (G25 : BufTy.Contents (Elt F) arg25.view.ty) (G26 : BufTy.Contents (Elt F) arg26.view.ty)
    (init : Vec F S1x512 .f32 × Vec F S1x512 .f32)
    (hT : ∀ hr hi xr xi, bwdTile ar ai hr hi xr xi = (k1_pay16 (k1_pay69 v116 v165 v171 c8) (k1_pay70 v116 v166 v176 c8) (k1_pay72 v89 v114) (k1_pay73 v93 v114) (k1_pay75 v98 v114) (k1_pay76 v101 v114) (k1_pay78 v104 v114) (k1_pay79 v107 v114) hr hi xr xi,
      k1_pay17 (k1_pay69 v116 v165 v171 c8) (k1_pay70 v116 v166 v176 c8) (k1_pay72 v89 v114) (k1_pay73 v93 v114) (k1_pay75 v98 v114) (k1_pay76 v101 v114) (k1_pay78 v104 v114) (k1_pay79 v107 v114) hr hi xr xi)) (k : ℕ) (hk : k ≤ 128) :
    ((st_k1_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v89 v93 v94 v95 v98 v101 v104 v107 v114 v116 v165 v166 v171 v176 c8 G25 G26 init k).1,
     arg25.view.read (Elt F) (arg25.view.writes (Elt F) G25 (st_k1_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v89 v93 v94 v95 v98 v101 v104 v107 v114 v116 v165 v166 v171 v176 c8 G25 G26 init k).2.1),
     arg26.view.read (Elt F) (arg26.view.writes (Elt F) G26 (st_k1_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v89 v93 v94 v95 v98 v101 v104 v107 v114 v116 v165 v166 v171 v176 c8 G25 G26 init k).2.2))
      = bwdScan ar ai (init, arg25.view.read (Elt F) G25, arg26.view.read (Elt F) G26) k := by
  induction k with
  | zero => rfl
  | succ k ih =>
    have ih := ih (by omega)
    have hk' : k < k1_t1_loop.trips := by rw [trips1]; omega
    have e := st_k1_t1_succ (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v89 v93 v94 v95 v98 v101 v104 v107 v114 v116 v165 v166 v171 v176 c8 G25 G26 init ⟨k, hk'⟩
    have f := bwdScan_succ ar ai (init, arg25.view.read (Elt F) G25, arg26.view.read (Elt F) G26) ⟨k, by omega⟩
    dsimp only at e f
    rw [e, f, ← ih]
    generalize st_k1_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v89 v93 v94 v95 v98 v101 v104 v107 v114 v116 v165 v166 v171 v176 c8 G25 G26 init k = S
    have hh := trip1_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v89 v93 v94 v95 v98 v101 v104 v107 v114 v116 v165 v166 v171 v176 c8 ⟨k, hk'⟩ S.1 (arg25.view.writes (Elt F) G25 S.2.1) (arg26.view.writes (Elt F) G26 S.2.2)
    rw [hh.1, hh.2.1, hh.2.2]
    unfold bwdStep
    rw [hT]
    dsimp only [List.cons_append, List.nil_append]
    rw [View.read_writes_cons_put _ _ _ _ _ (off1_1 ⟨k, hk'⟩), View.read_writes_cons_put _ _ _ _ _ (off1_1 ⟨k, hk'⟩)]
    rfl

end Loop

/-- The body's one branch condition: the tile is the first visited of its column. -/
abbrev cond1 (i : grid1.Coords) : Prop := (Scalar.cmpi .ne (Scalar.extui (Scalar.cmpi .eq (BitVec.ofNat 32 (i 1).val) 0#32)) 0#32) = 1#1

end Cert.KernelIdeal.Hand

end
-- ==== Proof.BwdRunA.lean ====
/-
  The body of the backward pass (`s5_bwd`) run to its closed form, at the first tile of a column.
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.BwdBody
public import Idealize.ShloMosaic.Lib.Pipeline.FrameBody
public import Idealize.ShloMosaic.Lib.VecWindow
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

set_option maxHeartbeats 4000000 in
/-- The body at the first tile of a column: the carried rows and the sums start at zero. -/
theorem bwd_runA (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S1024x128 .f32) (harg8 : arg8.IsWhole) (arg9 : Memref sig .tc .vmem S1x128x512 .f32) (harg9 : arg9.IsWhole) (arg10 : Memref sig .tc .vmem S1x128x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512x128 .f32) (harg13 : arg13.IsWhole) (arg14 : Memref sig .tc .vmem S1x512x128 .f32) (harg14 : arg14.IsWhole) (arg15 : Memref sig .tc .vmem S1x128 .f32) (harg15 : arg15.IsWhole) (arg16 : Memref sig .tc .vmem S1024x128 .f32) (harg16 : arg16.IsWhole) (arg17 : Memref sig .tc .vmem S1x128x512 .f32) (harg17 : arg17.IsWhole) (arg18 : Memref sig .tc .vmem S1x128x512 .f32) (harg18 : arg18.IsWhole) (arg19 : Memref sig .tc .vmem S1x512x128 .f32) (harg19 : arg19.IsWhole) (arg20 : Memref sig .tc .vmem S1x512x128 .f32) (harg20 : arg20.IsWhole) (arg21 : Memref sig .tc .vmem S1x128 .f32) (harg21 : arg21.IsWhole) (arg22 : Memref sig .tc .vmem S1x512 .f32) (harg22 : arg22.IsWhole) (arg23 : Memref sig .tc .vmem S1x512 .f32) (harg23 : arg23.IsWhole) (arg24 : Memref sig .tc .vmem S2x512 .f32) (harg24 : arg24.IsWhole) (arg25 : Memref sig .tc .vmem S1024x512 .f32) (harg25 : arg25.IsWhole) (arg26 : Memref sig .tc .vmem S1024x512 .f32) (harg26 : arg26.IsWhole)
    (hc : cond1 i) (x2 : Vec F S1024x128 .f32) (x3 : Vec F S1024x128 .f32) (x4 : Vec F S1024x512 .f32) (x5 : Vec F S1024x512 .f32) (x6 : Vec F S8x512 .f32) (x7 : Vec F S8x512 .f32) (x8 : Vec F S1024x128 .f32) (x9 : Vec F S1x128x512 .f32) (x10 : Vec F S1x128x512 .f32) (x11 : Vec F S1x512 .f32) (x12 : Vec F S1x512 .f32) (x13 : Vec F S1x512x128 .f32) (x14 : Vec F S1x512x128 .f32) (x15 : Vec F S1x128 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare (bwdDx x2 x3 x4 x5 x13 x14 x15 x11 x12 (k1_pay18 (F := F)) x9 x10 x8) ∗ owns (c : Thread nD τ) arg17 fullShare (k1_pay93 x3 (bwdEnd x2 x3 x4 x5 x13 x14 x15 x11 x12 (k1_pay18 (F := F))).2.1 (k1_pay19 (F := F))) ∗ owns (c : Thread nD τ) arg18 fullShare (k1_pay94 x3 (bwdEnd x2 x3 x4 x5 x13 x14 x15 x11 x12 (k1_pay18 (F := F))).2.2 (k1_pay20 (F := F))) ∗ owns (c : Thread nD τ) arg19 fullShare (k1_pay1 (bwdDcr x2 x3 x4 x5 x13 x14 x15) (k1_pay21 (F := F))) ∗ owns (c : Thread nD τ) arg20 fullShare (k1_pay2 (bwdDci x2 x3 x4 x5 x13 x14 x15) (k1_pay22 (F := F))) ∗ owns (c : Thread nD τ) arg21 fullShare (k1_pay3 (bwdDd x2 x3 x4 x5 x13 x14 x15) (k1_pay23 (F := F))) ∗ owns (c : Thread nD τ) arg22 fullShare (bwdDar x2 x3 x4 x5 x13 x14 x15 x11 x12 (k1_pay18 (F := F)) (BitVec.ofNat 32 (i 1).val) x6 x7 (k1_pay24 (F := F))) ∗ owns (c : Thread nD τ) arg23 fullShare (bwdDai x2 x3 x4 x5 x13 x14 x15 x11 x12 (k1_pay18 (F := F)) (BitVec.ofNat 32 (i 1).val) x6 x7 (k1_pay25 (F := F))) ∗ owns (c : Thread nD τ) arg24 fullShare (bwdCarry x2 x3 x4 x5 x13 x14 x15 x11 x12 (k1_pay18 (F := F))) ∗ (∃ d, owns (c : Thread nD τ) arg25 fullShare d) ∗ (∃ d, owns (c : Thread nD τ) arg26 fullShare d)) -∗ K ⟨⟩))
      ⊢ wp frame (wpE (defs₀ (F := F)) Variants.none c none) E (cc1_s5_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc1_s5_bwd_eq_skeleton]; unfold cc1_s5_bwd_skel
  simp only [k1_part2_eq_skeleton, k1_part3_eq_skeleton, k1_part4_eq_skeleton, k1_part5_eq_skeleton, k1_part6_eq_skeleton, k1_part7_eq_skeleton, k1_part8_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
  sl_exec (disch := first | sl_exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  have L2 : ∀ inb, arg2.view.readAt (Elt F) (Rect.unit ![0, 0] ![1024, 128] inb).toLoadRect (harg2.unread x2) = x2 := fun inb => (View.readAt_full arg2.view _ inb).trans (harg2.read_unread _)
  have L3 : ∀ inb, arg3.view.readAt (Elt F) (Rect.unit ![0, 0] ![1024, 128] inb).toLoadRect (harg3.unread x3) = x3 := fun inb => (View.readAt_full arg3.view _ inb).trans (harg3.read_unread _)
  have L4 : ∀ inb, arg4.view.readAt (Elt F) (Rect.unit ![0, 0] ![1024, 512] inb).toLoadRect (harg4.unread x4) = x4 := fun inb => (View.readAt_full arg4.view _ inb).trans (harg4.read_unread _)
  have L5 : ∀ inb, arg5.view.readAt (Elt F) (Rect.unit ![0, 0] ![1024, 512] inb).toLoadRect (harg5.unread x5) = x5 := fun inb => (View.readAt_full arg5.view _ inb).trans (harg5.read_unread _)
  have L8 : ∀ inb, arg8.view.readAt (Elt F) (Rect.unit ![0, 0] ![1024, 128] inb).toLoadRect (harg8.unread x8) = x8 := fun inb => (View.readAt_full arg8.view _ inb).trans (harg8.read_unread _)
  have L9 : ∀ inb, arg9.view.readAt (Elt F) (Rect.unit ![0, 0, 0] ![1, 128, 512] inb).toLoadRect (harg9.unread x9) = x9 := fun inb => (View.readAt_full arg9.view _ inb).trans (harg9.read_unread _)
  have L10 : ∀ inb, arg10.view.readAt (Elt F) (Rect.unit ![0, 0, 0] ![1, 128, 512] inb).toLoadRect (harg10.unread x10) = x10 := fun inb => (View.readAt_full arg10.view _ inb).trans (harg10.read_unread _)
  have L11 : ∀ inb, arg11.view.readAt (Elt F) (Rect.unit ![0, 0] ![1, 512] inb).toLoadRect (harg11.unread x11) = x11 := fun inb => (View.readAt_full arg11.view _ inb).trans (harg11.read_unread _)
  have L12 : ∀ inb, arg12.view.readAt (Elt F) (Rect.unit ![0, 0] ![1, 512] inb).toLoadRect (harg12.unread x12) = x12 := fun inb => (View.readAt_full arg12.view _ inb).trans (harg12.read_unread _)
  have L13 : ∀ inb, arg13.view.readAt (Elt F) (Rect.unit ![0, 0, 0] ![1, 512, 128] inb).toLoadRect (harg13.unread x13) = x13 := fun inb => (View.readAt_full arg13.view _ inb).trans (harg13.read_unread _)
  have L14 : ∀ inb, arg14.view.readAt (Elt F) (Rect.unit ![0, 0, 0] ![1, 512, 128] inb).toLoadRect (harg14.unread x14) = x14 := fun inb => (View.readAt_full arg14.view _ inb).trans (harg14.read_unread _)
  have L15 : ∀ inb, arg15.view.readAt (Elt F) (Rect.unit ![0, 0] ![1, 128] inb).toLoadRect (harg15.unread x15) = x15 := fun inb => (View.readAt_full arg15.view _ inb).trans (harg15.read_unread _)
  have L6 : arg6.view.readAt (Elt F) (Rect.unit (s := S8x512) ![7, 0] S1x512.size inb_S8x512_S1x512_7_0).toLoadRect (harg6.unread x6) = halo x6 := (View.readAt_unit arg6.view _ inb_S8x512_S1x512_7_0 (rfl : _ = ![7, 0]) inbHalo).trans (congrArg halo (harg6.read_unread _))
  have L7 : arg7.view.readAt (Elt F) (Rect.unit (s := S8x512) ![7, 0] S1x512.size inb_S8x512_S1x512_7_0).toLoadRect (harg7.unread x7) = halo x7 := (View.readAt_unit arg7.view _ inb_S8x512_S1x512_7_0 (rfl : _ = ![7, 0]) inbHalo).trans (congrArg halo (harg7.read_unread _))
  have L25 : ∀ inb f, arg25.view.readAt (Elt F) (Rect.unit ![0, 0] ![1024, 512] inb).toLoadRect f = arg25.view.read (Elt F) f := fun inb f => View.readAt_full arg25.view f inb
  have L26 : ∀ inb f, arg26.view.readAt (Elt F) (Rect.unit ![0, 0] ![1024, 512] inb).toLoadRect f = arg26.view.read (Elt F) f := fun inb f => View.readAt_full arg26.view f inb
  have a17 : bwd_runA.sl.v281 c arg17 = k1_pay19 (F := F) := by
    delta bwd_runA.sl.v281 bwd_runA.sl.H17_1; exact View.readCov_full arg17.view _ _ _ _
  have a18 : bwd_runA.sl.v285 c arg18 = k1_pay20 (F := F) := by
    delta bwd_runA.sl.v285 bwd_runA.sl.H18_1; exact View.readCov_full arg18.view _ _ _ _
  have a19 : bwd_runA.sl.v289 c arg19 = k1_pay21 (F := F) := by
    delta bwd_runA.sl.v289 bwd_runA.sl.H19_1; exact View.readCov_full arg19.view _ _ _ _
  have a20 : bwd_runA.sl.v293 c arg20 = k1_pay22 (F := F) := by
    delta bwd_runA.sl.v293 bwd_runA.sl.H20_1; exact View.readCov_full arg20.view _ _ _ _
  have a21 : bwd_runA.sl.v297 c arg21 = k1_pay23 (F := F) := by
    delta bwd_runA.sl.v297 bwd_runA.sl.H21_1; exact View.readCov_full arg21.view _ _ _ _
  have a22 : bwd_runA.sl.v301 c arg22 = k1_pay24 (F := F) := by
    delta bwd_runA.sl.v301 bwd_runA.sl.H22_1; exact View.readCov_full arg22.view _ _ _ _
  have a23 : bwd_runA.sl.v305 c arg23 = k1_pay25 (F := F) := by
    delta bwd_runA.sl.v305 bwd_runA.sl.H23_1; exact View.readCov_full arg23.view _ _ _ _
  have h0 : bwd_runA.sl.v94 c arg24 = crow (k1_pay18 (F := F)) 0 := by
    delta bwd_runA.sl.v94; unfold View.readCov
    refine (View.readAt_unit arg24.view _ inb_S2x512_S1x512_0_0 (rfl : _ = ![(0 : Fin 2).val, 0]) (inbRow 0)).trans ?_
    delta bwd_runA.sl.H24_1; rw [View.read_writes_full]
  have h1 : bwd_runA.sl.v95 c arg24 = crow (k1_pay18 (F := F)) 1 := by
    delta bwd_runA.sl.v95; unfold View.readCov
    refine (View.readAt_unit arg24.view _ inb_S2x512_S1x512_1_0 (rfl : _ = ![(1 : Fin 2).val, 0]) (inbRow 1)).trans ?_
    delta bwd_runA.sl.H24_1; rw [View.read_writes_full]
  have hG25 : arg25.view.read (Elt F) (arg25.view.writes (Elt F) arg25.view.junk (bwd_runA.sl.H25_1 c arg2 harg2 arg3 harg3 arg4 harg4 arg5 harg5 arg13 harg13 arg14 harg14 arg15 harg15 x2 x3 x4 x5 x13 x14 x15)) = bwdIn0 x2 x3 x4 x5 x13 x14 x15 := by
    delta bwd_runA.sl.H25_1; rw [View.read_writes_full]; (try delta bwd_runA.sl.r_14 bwd_runA.sl.r_12 bwd_runA.sl.r_4 bwd_runA.sl.r_5 bwd_runA.sl.r_6 bwd_runA.sl.r_7 bwd_runA.sl.r_8 bwd_runA.sl.r_9 bwd_runA.sl.r)
    simp only [L2, L3, L4, L5, L13, L14, L15]; rfl
  have hG26 : arg26.view.read (Elt F) (arg26.view.writes (Elt F) arg26.view.junk (bwd_runA.sl.H26_1 c arg2 harg2 arg3 harg3 arg4 harg4 arg5 harg5 arg13 harg13 arg14 harg14 arg15 harg15 x2 x3 x4 x5 x13 x14 x15)) = bwdIn1 x2 x3 x4 x5 x13 x14 x15 := by
    delta bwd_runA.sl.H26_1; rw [View.read_writes_full]; (try delta bwd_runA.sl.r_14 bwd_runA.sl.r_12 bwd_runA.sl.r_4 bwd_runA.sl.r_5 bwd_runA.sl.r_6 bwd_runA.sl.r_7 bwd_runA.sl.r_8 bwd_runA.sl.r_9 bwd_runA.sl.r)
    simp only [L2, L3, L4, L5, L13, L14, L15]; rfl
  have key := st1_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (bwd_runA.sl.r_16 c arg11 harg11 x11) (bwd_runA.sl.r_17 c arg12 harg12 x12) (bwd_runA.sl.v94 c arg24) (bwd_runA.sl.v95 c arg24) (bwd_runA.sl.r_18 c arg11 harg11 arg12 harg12 x11 x12) (bwd_runA.sl.r_19 c arg11 harg11 arg12 harg12 x11 x12) (bwd_runA.sl.r_20 c arg11 harg11 arg12 harg12 x11 x12) (bwd_runA.sl.r_21 c arg11 harg11 arg12 harg12 x11 x12) bwd_runA.sl.v114 k1_pay53 (bwd_runA.sl.r_25 c arg11 harg11 arg12 harg12 x11 x12) (bwd_runA.sl.r_26 c arg11 harg11 arg12 harg12 x11 x12) (bwd_runA.sl.r_27 c arg11 harg11 arg12 harg12 x11 x12) (bwd_runA.sl.r_28 c arg11 harg11 arg12 harg12 x11 x12) 8#32 x11 x12
    (arg25.view.writes (Elt F) arg25.view.junk (bwd_runA.sl.H25_1 c arg2 harg2 arg3 harg3 arg4 harg4 arg5 harg5 arg13 harg13 arg14 harg14 arg15 harg15 x2 x3 x4 x5 x13 x14 x15)) (arg26.view.writes (Elt F) arg26.view.junk (bwd_runA.sl.H26_1 c arg2 harg2 arg3 harg3 arg4 harg4 arg5 harg5 arg13 harg13 arg14 harg14 arg15 harg15 x2 x3 x4 x5 x13 x14 x15))
    (bwd_runA.sl.v94 c arg24, bwd_runA.sl.v95 c arg24) (by
      intro hr hi xr xi
      (try delta bwd_runA.sl.v114 bwd_runA.sl.r_28 bwd_runA.sl.r_27 bwd_runA.sl.r_26 bwd_runA.sl.r_25 bwd_runA.sl.r_24 bwd_runA.sl.r_23 bwd_runA.sl.r_22 bwd_runA.sl.r_21 bwd_runA.sl.r_20 bwd_runA.sl.r_19 bwd_runA.sl.r_18 bwd_runA.sl.r_17 bwd_runA.sl.r_16)
      simp only [L11, L12]
      rfl) 128 le_rfl
  rw [hG25, hG26] at key
  have kk : _ = bwdEnd x2 x3 x4 x5 x13 x14 x15 x11 x12 (k1_pay18 (F := F)) := key.trans (by rw [h0, h1]; rfl)
  have k1 := congrArg Prod.fst kk; have k25 := congrArg (fun z => z.2.1) kk; have k26 := congrArg (fun z => z.2.2) kk
  dsimp only at k1 k25 k26
  isplitl [H16]
  · iexists _; isplitr; swap; · iexact H16
    ipureintro
    rw [View.read_writes_full]
    (try delta bwd_runA.sl.r_35 bwd_runA.sl.r_34 bwd_runA.sl.r_31 bwd_runA.sl.r_30 bwd_runA.sl.r_33 bwd_runA.sl.r_32 bwd_runA.sl.r_15 bwd_runA.sl.r_13 bwd_runA.sl.r_11 bwd_runA.sl.r_10 bwd_runA.sl.r_5 bwd_runA.sl.r_4 bwd_runA.sl.r_3 bwd_runA.sl.r_2 bwd_runA.sl.r_1 bwd_runA.sl.r_6 bwd_runA.sl.r_7 bwd_runA.sl.r_8 bwd_runA.sl.r_9 bwd_runA.sl.r bwd_runA.sl.v221 bwd_runA.sl.v222)
    simp only [L2, L3, L4, L5, L6, L7, L8, L9, L10, L11, L12, L13, L14, L15, L25, L26, View.writes_append, View.readCov]
    exact congrArg₂ (fun a b => k1_pay90 (bwdDu x2 x3 x4 x5 x13 x14 x15) a (k1_pay88 x9) (k1_pay89 b x10) x8) k25 k26
  isplitl [H17]
  · iexists _; isplitr; swap; · iexact H17
    ipureintro
    rw [View.read_writes_full]
    (try delta bwd_runA.sl.r_35 bwd_runA.sl.r_34 bwd_runA.sl.r_31 bwd_runA.sl.r_30 bwd_runA.sl.r_33 bwd_runA.sl.r_32 bwd_runA.sl.r_15 bwd_runA.sl.r_13 bwd_runA.sl.r_11 bwd_runA.sl.r_10 bwd_runA.sl.r_5 bwd_runA.sl.r_4 bwd_runA.sl.r_3 bwd_runA.sl.r_2 bwd_runA.sl.r_1 bwd_runA.sl.r_6 bwd_runA.sl.r_7 bwd_runA.sl.r_8 bwd_runA.sl.r_9 bwd_runA.sl.r bwd_runA.sl.v221 bwd_runA.sl.v222)
    simp only [a17, L2, L3, L4, L5, L6, L7, L8, L9, L10, L11, L12, L13, L14, L15, L25, L26, View.writes_append, View.readCov]
    exact congrArg (fun a => k1_pay93 x3 a (k1_pay19 (F := F))) k25
  isplitl [H18]
  · iexists _; isplitr; swap; · iexact H18
    ipureintro
    rw [View.read_writes_full]
    (try delta bwd_runA.sl.r_35 bwd_runA.sl.r_34 bwd_runA.sl.r_31 bwd_runA.sl.r_30 bwd_runA.sl.r_33 bwd_runA.sl.r_32 bwd_runA.sl.r_15 bwd_runA.sl.r_13 bwd_runA.sl.r_11 bwd_runA.sl.r_10 bwd_runA.sl.r_5 bwd_runA.sl.r_4 bwd_runA.sl.r_3 bwd_runA.sl.r_2 bwd_runA.sl.r_1 bwd_runA.sl.r_6 bwd_runA.sl.r_7 bwd_runA.sl.r_8 bwd_runA.sl.r_9 bwd_runA.sl.r bwd_runA.sl.v221 bwd_runA.sl.v222)
    simp only [a18, L2, L3, L4, L5, L6, L7, L8, L9, L10, L11, L12, L13, L14, L15, L25, L26, View.writes_append, View.readCov]
    exact congrArg (fun a => k1_pay94 x3 a (k1_pay20 (F := F))) k26
  isplitl [H19]
  · iexists _; isplitr; swap; · iexact H19
    ipureintro
    rw [View.read_writes_full]
    (try delta bwd_runA.sl.r_35 bwd_runA.sl.r_34 bwd_runA.sl.r_31 bwd_runA.sl.r_30 bwd_runA.sl.r_33 bwd_runA.sl.r_32 bwd_runA.sl.r_15 bwd_runA.sl.r_13 bwd_runA.sl.r_11 bwd_runA.sl.r_10 bwd_runA.sl.r_5 bwd_runA.sl.r_4 bwd_runA.sl.r_3 bwd_runA.sl.r_2 bwd_runA.sl.r_1 bwd_runA.sl.r_6 bwd_runA.sl.r_7 bwd_runA.sl.r_8 bwd_runA.sl.r_9 bwd_runA.sl.r bwd_runA.sl.v221 bwd_runA.sl.v222)
    simp only [a19, L2, L3, L4, L5, L6, L7, L8, L9, L10, L11, L12, L13, L14, L15, L25, L26, View.writes_append, View.readCov]
    rfl
  isplitl [H20]
  · iexists _; isplitr; swap; · iexact H20
    ipureintro
    rw [View.read_writes_full]
    (try delta bwd_runA.sl.r_35 bwd_runA.sl.r_34 bwd_runA.sl.r_31 bwd_runA.sl.r_30 bwd_runA.sl.r_33 bwd_runA.sl.r_32 bwd_runA.sl.r_15 bwd_runA.sl.r_13 bwd_runA.sl.r_11 bwd_runA.sl.r_10 bwd_runA.sl.r_5 bwd_runA.sl.r_4 bwd_runA.sl.r_3 bwd_runA.sl.r_2 bwd_runA.sl.r_1 bwd_runA.sl.r_6 bwd_runA.sl.r_7 bwd_runA.sl.r_8 bwd_runA.sl.r_9 bwd_runA.sl.r bwd_runA.sl.v221 bwd_runA.sl.v222)
    simp only [a20, L2, L3, L4, L5, L6, L7, L8, L9, L10, L11, L12, L13, L14, L15, L25, L26, View.writes_append, View.readCov]
    rfl
  isplitl [H21]
  · iexists _; isplitr; swap; · iexact H21
    ipureintro
    rw [View.read_writes_full]
    (try delta bwd_runA.sl.r_35 bwd_runA.sl.r_34 bwd_runA.sl.r_31 bwd_runA.sl.r_30 bwd_runA.sl.r_33 bwd_runA.sl.r_32 bwd_runA.sl.r_15 bwd_runA.sl.r_13 bwd_runA.sl.r_11 bwd_runA.sl.r_10 bwd_runA.sl.r_5 bwd_runA.sl.r_4 bwd_runA.sl.r_3 bwd_runA.sl.r_2 bwd_runA.sl.r_1 bwd_runA.sl.r_6 bwd_runA.sl.r_7 bwd_runA.sl.r_8 bwd_runA.sl.r_9 bwd_runA.sl.r bwd_runA.sl.v221 bwd_runA.sl.v222)
    simp only [a21, L2, L3, L4, L5, L6, L7, L8, L9, L10, L11, L12, L13, L14, L15, L25, L26, View.writes_append, View.readCov]
    rfl
  isplitl [H22]
  · iexists _; isplitr; swap; · iexact H22
    ipureintro
    rw [View.read_writes_full]
    (try delta bwd_runA.sl.r_35 bwd_runA.sl.r_34 bwd_runA.sl.r_31 bwd_runA.sl.r_30 bwd_runA.sl.r_33 bwd_runA.sl.r_32 bwd_runA.sl.r_15 bwd_runA.sl.r_13 bwd_runA.sl.r_11 bwd_runA.sl.r_10 bwd_runA.sl.r_5 bwd_runA.sl.r_4 bwd_runA.sl.r_3 bwd_runA.sl.r_2 bwd_runA.sl.r_1 bwd_runA.sl.r_6 bwd_runA.sl.r_7 bwd_runA.sl.r_8 bwd_runA.sl.r_9 bwd_runA.sl.r bwd_runA.sl.v221 bwd_runA.sl.v222)
    simp only [a22, L2, L3, L4, L5, L6, L7, L8, L9, L10, L11, L12, L13, L14, L15, L25, L26, View.writes_append, View.readCov]
    exact congrArg₂ (fun a b => k1_pay4 (k1_pay91 a b (k1_pay86 (BitVec.ofNat 32 (i 1).val) (k1_pay26 x4) (halo x6)) (k1_pay87 (BitVec.ofNat 32 (i 1).val) (k1_pay27 x5) (halo x7))) (k1_pay24 (F := F))) k25 k26
  isplitl [H23]
  · iexists _; isplitr; swap; · iexact H23
    ipureintro
    rw [View.read_writes_full]
    (try delta bwd_runA.sl.r_35 bwd_runA.sl.r_34 bwd_runA.sl.r_31 bwd_runA.sl.r_30 bwd_runA.sl.r_33 bwd_runA.sl.r_32 bwd_runA.sl.r_15 bwd_runA.sl.r_13 bwd_runA.sl.r_11 bwd_runA.sl.r_10 bwd_runA.sl.r_5 bwd_runA.sl.r_4 bwd_runA.sl.r_3 bwd_runA.sl.r_2 bwd_runA.sl.r_1 bwd_runA.sl.r_6 bwd_runA.sl.r_7 bwd_runA.sl.r_8 bwd_runA.sl.r_9 bwd_runA.sl.r bwd_runA.sl.v221 bwd_runA.sl.v222)
    simp only [a23, L2, L3, L4, L5, L6, L7, L8, L9, L10, L11, L12, L13, L14, L15, L25, L26, View.writes_append, View.readCov]
    exact congrArg₂ (fun a b => k1_pay5 (k1_pay92 a b (k1_pay86 (BitVec.ofNat 32 (i 1).val) (k1_pay26 x4) (halo x6)) (k1_pay87 (BitVec.ofNat 32 (i 1).val) (k1_pay27 x5) (halo x7))) (k1_pay25 (F := F))) k25 k26
  isplitl [H24]
  · iexists _; isplitr; swap; · iexact H24
    ipureintro
    rw [View.read_writes_cons_put _ _ _ _ _ (rfl : _ = ![1, 0]), View.read_writes_cons_put _ _ _ _ _ (rfl : _ = ![0, 0])]
    have e : View.read (Elt F) arg24.view (arg24.view.writes (Elt F) arg24.view.junk bwd_runA.sl.H24_1) = k1_pay18 := by
      delta bwd_runA.sl.H24_1; rw [View.read_writes_full]
    rw [e]
    ((try delta bwd_runA.sl.r_29))
    exact congrArg (fun q => setRows (k1_pay18 (F := F)) (k1_pay84 q.1, k1_pay85 q.2)) k1
  isplitl [H25]
  · iexists _, _; isplitr; swap; · iexact H25
    ipureintro; rfl
  iexists _, _; isplitr; swap; · iexact H26
  ipureintro; rfl

end Cert.KernelIdeal.Hand

end
-- ==== Proof.BwdRunB.lean ====
/-
  The body of the backward pass (`s5_bwd`) run to its closed form, at a later tile of a column.
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.BwdBody
public import Idealize.ShloMosaic.Lib.Pipeline.FrameBody
public import Idealize.ShloMosaic.Lib.VecWindow
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

set_option maxHeartbeats 4000000 in
/-- The body at a later tile of a column: the carried rows and the sums are those the tile before left. -/
theorem bwd_runB (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S1024x128 .f32) (harg8 : arg8.IsWhole) (arg9 : Memref sig .tc .vmem S1x128x512 .f32) (harg9 : arg9.IsWhole) (arg10 : Memref sig .tc .vmem S1x128x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512x128 .f32) (harg13 : arg13.IsWhole) (arg14 : Memref sig .tc .vmem S1x512x128 .f32) (harg14 : arg14.IsWhole) (arg15 : Memref sig .tc .vmem S1x128 .f32) (harg15 : arg15.IsWhole) (arg16 : Memref sig .tc .vmem S1024x128 .f32) (harg16 : arg16.IsWhole) (arg17 : Memref sig .tc .vmem S1x128x512 .f32) (harg17 : arg17.IsWhole) (arg18 : Memref sig .tc .vmem S1x128x512 .f32) (harg18 : arg18.IsWhole) (arg19 : Memref sig .tc .vmem S1x512x128 .f32) (harg19 : arg19.IsWhole) (arg20 : Memref sig .tc .vmem S1x512x128 .f32) (harg20 : arg20.IsWhole) (arg21 : Memref sig .tc .vmem S1x128 .f32) (harg21 : arg21.IsWhole) (arg22 : Memref sig .tc .vmem S1x512 .f32) (harg22 : arg22.IsWhole) (arg23 : Memref sig .tc .vmem S1x512 .f32) (harg23 : arg23.IsWhole) (arg24 : Memref sig .tc .vmem S2x512 .f32) (harg24 : arg24.IsWhole) (arg25 : Memref sig .tc .vmem S1024x512 .f32) (harg25 : arg25.IsWhole) (arg26 : Memref sig .tc .vmem S1024x512 .f32) (harg26 : arg26.IsWhole)
    (hc : ¬ cond1 i) (x2 : Vec F S1024x128 .f32) (x3 : Vec F S1024x128 .f32) (x4 : Vec F S1024x512 .f32) (x5 : Vec F S1024x512 .f32) (x6 : Vec F S8x512 .f32) (x7 : Vec F S8x512 .f32) (x8 : Vec F S1024x128 .f32) (x9 : Vec F S1x128x512 .f32) (x10 : Vec F S1x128x512 .f32) (x11 : Vec F S1x512 .f32) (x12 : Vec F S1x512 .f32) (x13 : Vec F S1x512x128 .f32) (x14 : Vec F S1x512x128 .f32) (x15 : Vec F S1x128 .f32) (y17 : Vec F S1x128x512 .f32) (y18 : Vec F S1x128x512 .f32) (y19 : Vec F S1x512x128 .f32) (y20 : Vec F S1x512x128 .f32) (y21 : Vec F S1x128 .f32) (y22 : Vec F S1x512 .f32) (y23 : Vec F S1x512 .f32) (cs : Vec F S2x512 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ (∃ d, owns (c : Thread nD τ) arg16 fullShare d) ∗ owns (c : Thread nD τ) arg17 fullShare y17 ∗ owns (c : Thread nD τ) arg18 fullShare y18 ∗ owns (c : Thread nD τ) arg19 fullShare y19 ∗ owns (c : Thread nD τ) arg20 fullShare y20 ∗ owns (c : Thread nD τ) arg21 fullShare y21 ∗ owns (c : Thread nD τ) arg22 fullShare y22 ∗ owns (c : Thread nD τ) arg23 fullShare y23 ∗ owns (c : Thread nD τ) arg24 fullShare cs ∗ (∃ d, owns (c : Thread nD τ) arg25 fullShare d) ∗ (∃ d, owns (c : Thread nD τ) arg26 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare (bwdDx x2 x3 x4 x5 x13 x14 x15 x11 x12 cs x9 x10 x8) ∗ owns (c : Thread nD τ) arg17 fullShare (k1_pay93 x3 (bwdEnd x2 x3 x4 x5 x13 x14 x15 x11 x12 cs).2.1 y17) ∗ owns (c : Thread nD τ) arg18 fullShare (k1_pay94 x3 (bwdEnd x2 x3 x4 x5 x13 x14 x15 x11 x12 cs).2.2 y18) ∗ owns (c : Thread nD τ) arg19 fullShare (k1_pay1 (bwdDcr x2 x3 x4 x5 x13 x14 x15) y19) ∗ owns (c : Thread nD τ) arg20 fullShare (k1_pay2 (bwdDci x2 x3 x4 x5 x13 x14 x15) y20) ∗ owns (c : Thread nD τ) arg21 fullShare (k1_pay3 (bwdDd x2 x3 x4 x5 x13 x14 x15) y21) ∗ owns (c : Thread nD τ) arg22 fullShare (bwdDar x2 x3 x4 x5 x13 x14 x15 x11 x12 cs (BitVec.ofNat 32 (i 1).val) x6 x7 y22) ∗ owns (c : Thread nD τ) arg23 fullShare (bwdDai x2 x3 x4 x5 x13 x14 x15 x11 x12 cs (BitVec.ofNat 32 (i 1).val) x6 x7 y23) ∗ owns (c : Thread nD τ) arg24 fullShare (bwdCarry x2 x3 x4 x5 x13 x14 x15 x11 x12 cs) ∗ (∃ d, owns (c : Thread nD τ) arg25 fullShare d) ∗ (∃ d, owns (c : Thread nD τ) arg26 fullShare d)) -∗ K ⟨⟩))
      ⊢ wp frame (wpE (defs₀ (F := F)) Variants.none c none) E (cc1_s5_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc1_s5_bwd_eq_skeleton]; unfold cc1_s5_bwd_skel
  simp only [k1_part2_eq_skeleton, k1_part3_eq_skeleton, k1_part4_eq_skeleton, k1_part5_eq_skeleton, k1_part6_eq_skeleton, k1_part7_eq_skeleton, k1_part8_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%d25, %f25, -, H25⟩, ⟨%d26, %f26, -, H26⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg17.eq_unread hf17; obtain rfl := harg18.eq_unread hf18; obtain rfl := harg19.eq_unread hf19; obtain rfl := harg20.eq_unread hf20; obtain rfl := harg21.eq_unread hf21; obtain rfl := harg22.eq_unread hf22; obtain rfl := harg23.eq_unread hf23; obtain rfl := harg24.eq_unread hf24
  sl_exec (disch := first | sl_exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  have L2 : ∀ inb, arg2.view.readAt (Elt F) (Rect.unit ![0, 0] ![1024, 128] inb).toLoadRect (harg2.unread x2) = x2 := fun inb => (View.readAt_full arg2.view _ inb).trans (harg2.read_unread _)
  have L3 : ∀ inb, arg3.view.readAt (Elt F) (Rect.unit ![0, 0] ![1024, 128] inb).toLoadRect (harg3.unread x3) = x3 := fun inb => (View.readAt_full arg3.view _ inb).trans (harg3.read_unread _)
  have L4 : ∀ inb, arg4.view.readAt (Elt F) (Rect.unit ![0, 0] ![1024, 512] inb).toLoadRect (harg4.unread x4) = x4 := fun inb => (View.readAt_full arg4.view _ inb).trans (harg4.read_unread _)
  have L5 : ∀ inb, arg5.view.readAt (Elt F) (Rect.unit ![0, 0] ![1024, 512] inb).toLoadRect (harg5.unread x5) = x5 := fun inb => (View.readAt_full arg5.view _ inb).trans (harg5.read_unread _)
  have L8 : ∀ inb, arg8.view.readAt (Elt F) (Rect.unit ![0, 0] ![1024, 128] inb).toLoadRect (harg8.unread x8) = x8 := fun inb => (View.readAt_full arg8.view _ inb).trans (harg8.read_unread _)
  have L9 : ∀ inb, arg9.view.readAt (Elt F) (Rect.unit ![0, 0, 0] ![1, 128, 512] inb).toLoadRect (harg9.unread x9) = x9 := fun inb => (View.readAt_full arg9.view _ inb).trans (harg9.read_unread _)
  have L10 : ∀ inb, arg10.view.readAt (Elt F) (Rect.unit ![0, 0, 0] ![1, 128, 512] inb).toLoadRect (harg10.unread x10) = x10 := fun inb => (View.readAt_full arg10.view _ inb).trans (harg10.read_unread _)
  have L11 : ∀ inb, arg11.view.readAt (Elt F) (Rect.unit ![0, 0] ![1, 512] inb).toLoadRect (harg11.unread x11) = x11 := fun inb => (View.readAt_full arg11.view _ inb).trans (harg11.read_unread _)
  have L12 : ∀ inb, arg12.view.readAt (Elt F) (Rect.unit ![0, 0] ![1, 512] inb).toLoadRect (harg12.unread x12) = x12 := fun inb => (View.readAt_full arg12.view _ inb).trans (harg12.read_unread _)
  have L13 : ∀ inb, arg13.view.readAt (Elt F) (Rect.unit ![0, 0, 0] ![1, 512, 128] inb).toLoadRect (harg13.unread x13) = x13 := fun inb => (View.readAt_full arg13.view _ inb).trans (harg13.read_unread _)
  have L14 : ∀ inb, arg14.view.readAt (Elt F) (Rect.unit ![0, 0, 0] ![1, 512, 128] inb).toLoadRect (harg14.unread x14) = x14 := fun inb => (View.readAt_full arg14.view _ inb).trans (harg14.read_unread _)
  have L15 : ∀ inb, arg15.view.readAt (Elt F) (Rect.unit ![0, 0] ![1, 128] inb).toLoadRect (harg15.unread x15) = x15 := fun inb => (View.readAt_full arg15.view _ inb).trans (harg15.read_unread _)
  have L6 : arg6.view.readAt (Elt F) (Rect.unit (s := S8x512) ![7, 0] S1x512.size inb_S8x512_S1x512_7_0).toLoadRect (harg6.unread x6) = halo x6 := (View.readAt_unit arg6.view _ inb_S8x512_S1x512_7_0 (rfl : _ = ![7, 0]) inbHalo).trans (congrArg halo (harg6.read_unread _))
  have L7 : arg7.view.readAt (Elt F) (Rect.unit (s := S8x512) ![7, 0] S1x512.size inb_S8x512_S1x512_7_0).toLoadRect (harg7.unread x7) = halo x7 := (View.readAt_unit arg7.view _ inb_S8x512_S1x512_7_0 (rfl : _ = ![7, 0]) inbHalo).trans (congrArg halo (harg7.read_unread _))
  have L25 : ∀ inb f, arg25.view.readAt (Elt F) (Rect.unit ![0, 0] ![1024, 512] inb).toLoadRect f = arg25.view.read (Elt F) f := fun inb f => View.readAt_full arg25.view f inb
  have L26 : ∀ inb f, arg26.view.readAt (Elt F) (Rect.unit ![0, 0] ![1024, 512] inb).toLoadRect f = arg26.view.read (Elt F) f := fun inb f => View.readAt_full arg26.view f inb
  have M17 : ∀ inb, arg17.view.readAt (Elt F) (Rect.unit ![0, 0, 0] ![1, 128, 512] inb).toLoadRect (harg17.unread y17) = y17 := fun inb => (View.readAt_full arg17.view _ inb).trans (harg17.read_unread _)
  have M18 : ∀ inb, arg18.view.readAt (Elt F) (Rect.unit ![0, 0, 0] ![1, 128, 512] inb).toLoadRect (harg18.unread y18) = y18 := fun inb => (View.readAt_full arg18.view _ inb).trans (harg18.read_unread _)
  have M19 : ∀ inb, arg19.view.readAt (Elt F) (Rect.unit ![0, 0, 0] ![1, 512, 128] inb).toLoadRect (harg19.unread y19) = y19 := fun inb => (View.readAt_full arg19.view _ inb).trans (harg19.read_unread _)
  have M20 : ∀ inb, arg20.view.readAt (Elt F) (Rect.unit ![0, 0, 0] ![1, 512, 128] inb).toLoadRect (harg20.unread y20) = y20 := fun inb => (View.readAt_full arg20.view _ inb).trans (harg20.read_unread _)
  have M21 : ∀ inb, arg21.view.readAt (Elt F) (Rect.unit ![0, 0] ![1, 128] inb).toLoadRect (harg21.unread y21) = y21 := fun inb => (View.readAt_full arg21.view _ inb).trans (harg21.read_unread _)
  have M22 : ∀ inb, arg22.view.readAt (Elt F) (Rect.unit ![0, 0] ![1, 512] inb).toLoadRect (harg22.unread y22) = y22 := fun inb => (View.readAt_full arg22.view _ inb).trans (harg22.read_unread _)
  have M23 : ∀ inb, arg23.view.readAt (Elt F) (Rect.unit ![0, 0] ![1, 512] inb).toLoadRect (harg23.unread y23) = y23 := fun inb => (View.readAt_full arg23.view _ inb).trans (harg23.read_unread _)
  have h0 : bwd_runB.sl.r_18 c arg24 harg24 cs = crow cs 0 := by
    refine (View.readAt_unit arg24.view _ inb_S2x512_S1x512_0_0 (rfl : _ = ![(0 : Fin 2).val, 0]) (inbRow 0)).trans ?_
    rw [harg24.read_unread]
  have h1 : bwd_runB.sl.r_19 c arg24 harg24 cs = crow cs 1 := by
    refine (View.readAt_unit arg24.view _ inb_S2x512_S1x512_1_0 (rfl : _ = ![(1 : Fin 2).val, 0]) (inbRow 1)).trans ?_
    rw [harg24.read_unread]
  have hG25 : arg25.view.read (Elt F) (arg25.view.writes (Elt F) arg25.view.junk (bwd_runB.sl.H25_1 c arg2 harg2 arg3 harg3 arg4 harg4 arg5 harg5 arg13 harg13 arg14 harg14 arg15 harg15 x2 x3 x4 x5 x13 x14 x15)) = bwdIn0 x2 x3 x4 x5 x13 x14 x15 := by
    delta bwd_runB.sl.H25_1; rw [View.read_writes_full]; (try delta bwd_runB.sl.r_14 bwd_runB.sl.r_12 bwd_runB.sl.r_4 bwd_runB.sl.r_5 bwd_runB.sl.r_6 bwd_runB.sl.r_7 bwd_runB.sl.r_8 bwd_runB.sl.r_9 bwd_runB.sl.r)
    simp only [L2, L3, L4, L5, L13, L14, L15]; rfl
  have hG26 : arg26.view.read (Elt F) (arg26.view.writes (Elt F) arg26.view.junk (bwd_runB.sl.H26_1 c arg2 harg2 arg3 harg3 arg4 harg4 arg5 harg5 arg13 harg13 arg14 harg14 arg15 harg15 x2 x3 x4 x5 x13 x14 x15)) = bwdIn1 x2 x3 x4 x5 x13 x14 x15 := by
    delta bwd_runB.sl.H26_1; rw [View.read_writes_full]; (try delta bwd_runB.sl.r_14 bwd_runB.sl.r_12 bwd_runB.sl.r_4 bwd_runB.sl.r_5 bwd_runB.sl.r_6 bwd_runB.sl.r_7 bwd_runB.sl.r_8 bwd_runB.sl.r_9 bwd_runB.sl.r)
    simp only [L2, L3, L4, L5, L13, L14, L15]; rfl
  have key := st1_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (bwd_runB.sl.r_16 c arg11 harg11 x11) (bwd_runB.sl.r_17 c arg12 harg12 x12) (bwd_runB.sl.r_18 c arg24 harg24 cs) (bwd_runB.sl.r_19 c arg24 harg24 cs) (bwd_runB.sl.r_20 c arg11 harg11 arg12 harg12 x11 x12) (bwd_runB.sl.r_21 c arg11 harg11 arg12 harg12 x11 x12) (bwd_runB.sl.r_22 c arg11 harg11 arg12 harg12 x11 x12) (bwd_runB.sl.r_23 c arg11 harg11 arg12 harg12 x11 x12) bwd_runB.sl.v114 k1_pay53 (bwd_runB.sl.r_27 c arg11 harg11 arg12 harg12 x11 x12) (bwd_runB.sl.r_28 c arg11 harg11 arg12 harg12 x11 x12) (bwd_runB.sl.r_29 c arg11 harg11 arg12 harg12 x11 x12) (bwd_runB.sl.r_30 c arg11 harg11 arg12 harg12 x11 x12) 8#32 x11 x12
    (arg25.view.writes (Elt F) arg25.view.junk (bwd_runB.sl.H25_1 c arg2 harg2 arg3 harg3 arg4 harg4 arg5 harg5 arg13 harg13 arg14 harg14 arg15 harg15 x2 x3 x4 x5 x13 x14 x15)) (arg26.view.writes (Elt F) arg26.view.junk (bwd_runB.sl.H26_1 c arg2 harg2 arg3 harg3 arg4 harg4 arg5 harg5 arg13 harg13 arg14 harg14 arg15 harg15 x2 x3 x4 x5 x13 x14 x15))
    (bwd_runB.sl.r_18 c arg24 harg24 cs, bwd_runB.sl.r_19 c arg24 harg24 cs) (by
      intro hr hi xr xi
      (try delta bwd_runB.sl.v114 bwd_runB.sl.r_30 bwd_runB.sl.r_29 bwd_runB.sl.r_28 bwd_runB.sl.r_27 bwd_runB.sl.r_26 bwd_runB.sl.r_25 bwd_runB.sl.r_24 bwd_runB.sl.r_23 bwd_runB.sl.r_22 bwd_runB.sl.r_21 bwd_runB.sl.r_20 bwd_runB.sl.r_17 bwd_runB.sl.r_16)
      simp only [L11, L12]
      rfl) 128 le_rfl
  rw [hG25, hG26] at key
  have kk : _ = bwdEnd x2 x3 x4 x5 x13 x14 x15 x11 x12 cs := key.trans (by rw [h0, h1]; rfl)
  have k1 := congrArg Prod.fst kk; have k25 := congrArg (fun z => z.2.1) kk; have k26 := congrArg (fun z => z.2.2) kk
  dsimp only at k1 k25 k26
  isplitl [H16]
  · iexists _; isplitr; swap; · iexact H16
    ipureintro
    rw [View.read_writes_full]
    (try delta bwd_runB.sl.r_37 bwd_runB.sl.r_36 bwd_runB.sl.r_33 bwd_runB.sl.r_32 bwd_runB.sl.r_35 bwd_runB.sl.r_34 bwd_runB.sl.r_15 bwd_runB.sl.r_13 bwd_runB.sl.r_11 bwd_runB.sl.r_10 bwd_runB.sl.r_5 bwd_runB.sl.r_4 bwd_runB.sl.r_3 bwd_runB.sl.r_2 bwd_runB.sl.r_1 bwd_runB.sl.r_6 bwd_runB.sl.r_7 bwd_runB.sl.r_8 bwd_runB.sl.r_9 bwd_runB.sl.r bwd_runB.sl.v221 bwd_runB.sl.v222)
    simp only [L2, L3, L4, L5, L6, L7, L8, L9, L10, L11, L12, L13, L14, L15, L25, L26, View.writes_append, View.readCov]
    exact congrArg₂ (fun a b => k1_pay90 (bwdDu x2 x3 x4 x5 x13 x14 x15) a (k1_pay88 x9) (k1_pay89 b x10) x8) k25 k26
  isplitl [H17]
  · iexists _; isplitr; swap; · iexact H17
    ipureintro
    rw [View.read_writes_full]
    (try delta bwd_runB.sl.r_37 bwd_runB.sl.r_36 bwd_runB.sl.r_33 bwd_runB.sl.r_32 bwd_runB.sl.r_35 bwd_runB.sl.r_34 bwd_runB.sl.r_15 bwd_runB.sl.r_13 bwd_runB.sl.r_11 bwd_runB.sl.r_10 bwd_runB.sl.r_5 bwd_runB.sl.r_4 bwd_runB.sl.r_3 bwd_runB.sl.r_2 bwd_runB.sl.r_1 bwd_runB.sl.r_6 bwd_runB.sl.r_7 bwd_runB.sl.r_8 bwd_runB.sl.r_9 bwd_runB.sl.r bwd_runB.sl.v221 bwd_runB.sl.v222)
    simp only [M17, L2, L3, L4, L5, L6, L7, L8, L9, L10, L11, L12, L13, L14, L15, L25, L26, View.writes_append, View.readCov]
    exact congrArg (fun a => k1_pay93 x3 a y17) k25
  isplitl [H18]
  · iexists _; isplitr; swap; · iexact H18
    ipureintro
    rw [View.read_writes_full]
    (try delta bwd_runB.sl.r_37 bwd_runB.sl.r_36 bwd_runB.sl.r_33 bwd_runB.sl.r_32 bwd_runB.sl.r_35 bwd_runB.sl.r_34 bwd_runB.sl.r_15 bwd_runB.sl.r_13 bwd_runB.sl.r_11 bwd_runB.sl.r_10 bwd_runB.sl.r_5 bwd_runB.sl.r_4 bwd_runB.sl.r_3 bwd_runB.sl.r_2 bwd_runB.sl.r_1 bwd_runB.sl.r_6 bwd_runB.sl.r_7 bwd_runB.sl.r_8 bwd_runB.sl.r_9 bwd_runB.sl.r bwd_runB.sl.v221 bwd_runB.sl.v222)
    simp only [M18, L2, L3, L4, L5, L6, L7, L8, L9, L10, L11, L12, L13, L14, L15, L25, L26, View.writes_append, View.readCov]
    exact congrArg (fun a => k1_pay94 x3 a y18) k26
  isplitl [H19]
  · iexists _; isplitr; swap; · iexact H19
    ipureintro
    rw [View.read_writes_full]
    (try delta bwd_runB.sl.r_37 bwd_runB.sl.r_36 bwd_runB.sl.r_33 bwd_runB.sl.r_32 bwd_runB.sl.r_35 bwd_runB.sl.r_34 bwd_runB.sl.r_15 bwd_runB.sl.r_13 bwd_runB.sl.r_11 bwd_runB.sl.r_10 bwd_runB.sl.r_5 bwd_runB.sl.r_4 bwd_runB.sl.r_3 bwd_runB.sl.r_2 bwd_runB.sl.r_1 bwd_runB.sl.r_6 bwd_runB.sl.r_7 bwd_runB.sl.r_8 bwd_runB.sl.r_9 bwd_runB.sl.r bwd_runB.sl.v221 bwd_runB.sl.v222)
    simp only [M19, L2, L3, L4, L5, L6, L7, L8, L9, L10, L11, L12, L13, L14, L15, L25, L26, View.writes_append, View.readCov]
    rfl
  isplitl [H20]
  · iexists _; isplitr; swap; · iexact H20
    ipureintro
    rw [View.read_writes_full]
    (try delta bwd_runB.sl.r_37 bwd_runB.sl.r_36 bwd_runB.sl.r_33 bwd_runB.sl.r_32 bwd_runB.sl.r_35 bwd_runB.sl.r_34 bwd_runB.sl.r_15 bwd_runB.sl.r_13 bwd_runB.sl.r_11 bwd_runB.sl.r_10 bwd_runB.sl.r_5 bwd_runB.sl.r_4 bwd_runB.sl.r_3 bwd_runB.sl.r_2 bwd_runB.sl.r_1 bwd_runB.sl.r_6 bwd_runB.sl.r_7 bwd_runB.sl.r_8 bwd_runB.sl.r_9 bwd_runB.sl.r bwd_runB.sl.v221 bwd_runB.sl.v222)
    simp only [M20, L2, L3, L4, L5, L6, L7, L8, L9, L10, L11, L12, L13, L14, L15, L25, L26, View.writes_append, View.readCov]
    rfl
  isplitl [H21]
  · iexists _; isplitr; swap; · iexact H21
    ipureintro
    rw [View.read_writes_full]
    (try delta bwd_runB.sl.r_37 bwd_runB.sl.r_36 bwd_runB.sl.r_33 bwd_runB.sl.r_32 bwd_runB.sl.r_35 bwd_runB.sl.r_34 bwd_runB.sl.r_15 bwd_runB.sl.r_13 bwd_runB.sl.r_11 bwd_runB.sl.r_10 bwd_runB.sl.r_5 bwd_runB.sl.r_4 bwd_runB.sl.r_3 bwd_runB.sl.r_2 bwd_runB.sl.r_1 bwd_runB.sl.r_6 bwd_runB.sl.r_7 bwd_runB.sl.r_8 bwd_runB.sl.r_9 bwd_runB.sl.r bwd_runB.sl.v221 bwd_runB.sl.v222)
    simp only [M21, L2, L3, L4, L5, L6, L7, L8, L9, L10, L11, L12, L13, L14, L15, L25, L26, View.writes_append, View.readCov]
    rfl
  isplitl [H22]
  · iexists _; isplitr; swap; · iexact H22
    ipureintro
    rw [View.read_writes_full]
    (try delta bwd_runB.sl.r_37 bwd_runB.sl.r_36 bwd_runB.sl.r_33 bwd_runB.sl.r_32 bwd_runB.sl.r_35 bwd_runB.sl.r_34 bwd_runB.sl.r_15 bwd_runB.sl.r_13 bwd_runB.sl.r_11 bwd_runB.sl.r_10 bwd_runB.sl.r_5 bwd_runB.sl.r_4 bwd_runB.sl.r_3 bwd_runB.sl.r_2 bwd_runB.sl.r_1 bwd_runB.sl.r_6 bwd_runB.sl.r_7 bwd_runB.sl.r_8 bwd_runB.sl.r_9 bwd_runB.sl.r bwd_runB.sl.v221 bwd_runB.sl.v222)
    simp only [M22, L2, L3, L4, L5, L6, L7, L8, L9, L10, L11, L12, L13, L14, L15, L25, L26, View.writes_append, View.readCov]
    exact congrArg₂ (fun a b => k1_pay4 (k1_pay91 a b (k1_pay86 (BitVec.ofNat 32 (i 1).val) (k1_pay26 x4) (halo x6)) (k1_pay87 (BitVec.ofNat 32 (i 1).val) (k1_pay27 x5) (halo x7))) y22) k25 k26
  isplitl [H23]
  · iexists _; isplitr; swap; · iexact H23
    ipureintro
    rw [View.read_writes_full]
    (try delta bwd_runB.sl.r_37 bwd_runB.sl.r_36 bwd_runB.sl.r_33 bwd_runB.sl.r_32 bwd_runB.sl.r_35 bwd_runB.sl.r_34 bwd_runB.sl.r_15 bwd_runB.sl.r_13 bwd_runB.sl.r_11 bwd_runB.sl.r_10 bwd_runB.sl.r_5 bwd_runB.sl.r_4 bwd_runB.sl.r_3 bwd_runB.sl.r_2 bwd_runB.sl.r_1 bwd_runB.sl.r_6 bwd_runB.sl.r_7 bwd_runB.sl.r_8 bwd_runB.sl.r_9 bwd_runB.sl.r bwd_runB.sl.v221 bwd_runB.sl.v222)
    simp only [M23, L2, L3, L4, L5, L6, L7, L8, L9, L10, L11, L12, L13, L14, L15, L25, L26, View.writes_append, View.readCov]
    exact congrArg₂ (fun a b => k1_pay5 (k1_pay92 a b (k1_pay86 (BitVec.ofNat 32 (i 1).val) (k1_pay26 x4) (halo x6)) (k1_pay87 (BitVec.ofNat 32 (i 1).val) (k1_pay27 x5) (halo x7))) y23) k25 k26
  isplitl [H24]
  · iexists _; isplitr; swap; · iexact H24
    ipureintro
    rw [View.read_writes_cons_put _ _ _ _ _ (rfl : _ = ![1, 0]), View.read_writes_cons_put _ _ _ _ _ (rfl : _ = ![0, 0])]
    rw [View.writes_nil, harg24.read_unread]
    ((try delta bwd_runB.sl.r_31))
    exact congrArg (fun q => setRows cs (k1_pay84 q.1, k1_pay85 q.2)) k1
  isplitl [H25]
  · iexists _, _; isplitr; swap; · iexact H25
    ipureintro; rfl
  iexists _, _; isplitr; swap; · iexact H26
  ipureintro; rfl

end Cert.KernelIdeal.Hand

end
-- ==== Proof.Reg1.lean ====
/-
  The backward call as a region of the program: what each point finds, what it leaves, the obligation at every point.
-/
module

public import proofs.«01_k».proof.Proof.BwdRunA
public import proofs.«01_k».proof.Proof.BwdRunB
public import proofs.«01_k».proof.Proof.Gen.KernelIdeal.Points
public import Idealize.ShloMosaic.Lib.Pipeline.FrameBody
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (W : Dev nD → Valuation τ sig (Elt F))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- The body's first branch is taken at the first tile of a column. -/
theorem hcond1 : ∀ t : Fin cfg1.N, cond1 (grid1.coords t) ↔ t.val % 4 = 0 :=
  (fun t => by
    have ht : t.val < 32 := Nat.lt_of_lt_of_eq t.isLt N_1
    have e0 : (grid1.coords t 0).val = t.val / 4 % 8 := Pipeline.Grid.coords_val t 0 (by decide) rfl
    have e1 : (grid1.coords t 1).val = t.val / 1 % 4 := Pipeline.Grid.coords_val t 1 (by decide) rfl
    simp only [cond1, e0, e1]
    word_cmp
   : ∀ t : Fin grid1.N, cond1 (grid1.coords t) ↔ t.val % 4 = 0)

/-- What is carried from tile to tile of a column: the seven sums, then the carried rows. -/
abbrev Acc (F : FTy → Type) : Type := Vec F S1x128x512 .f32 × Vec F S1x128x512 .f32 × Vec F S1x512x128 .f32 × Vec F S1x512x128 .f32 × Vec F S1x128 .f32 × Vec F S1x512 .f32 × Vec F S1x512 .f32 × Vec F S2x512 .f32

/-- What a column starts from: zeros. -/
def accStart : Acc F := (k1_pay19 (F := F), k1_pay20 (F := F), k1_pay21 (F := F), k1_pay22 (F := F), k1_pay23 (F := F), k1_pay24 (F := F), k1_pay25 (F := F), k1_pay18 (F := F))

/-- What point `t` makes of what is carried. -/
def accStep (c : Dev nD) (t : Fin cfg1.N) (s : Acc F) : Acc F :=
  (k1_pay93 (iblk1 W c 1 t) (bwdEnd (iblk1 W c 0 t) (iblk1 W c 1 t) (iblk1 W c 2 t) (iblk1 W c 3 t) (iblk1 W c 11 t) (iblk1 W c 12 t) (iblk1 W c 13 t) (iblk1 W c 9 t) (iblk1 W c 10 t) s.2.2.2.2.2.2.2).2.1 s.1,
   k1_pay94 (iblk1 W c 1 t) (bwdEnd (iblk1 W c 0 t) (iblk1 W c 1 t) (iblk1 W c 2 t) (iblk1 W c 3 t) (iblk1 W c 11 t) (iblk1 W c 12 t) (iblk1 W c 13 t) (iblk1 W c 9 t) (iblk1 W c 10 t) s.2.2.2.2.2.2.2).2.2 s.2.1,
   k1_pay1 (bwdDcr (iblk1 W c 0 t) (iblk1 W c 1 t) (iblk1 W c 2 t) (iblk1 W c 3 t) (iblk1 W c 11 t) (iblk1 W c 12 t) (iblk1 W c 13 t)) s.2.2.1,
   k1_pay2 (bwdDci (iblk1 W c 0 t) (iblk1 W c 1 t) (iblk1 W c 2 t) (iblk1 W c 3 t) (iblk1 W c 11 t) (iblk1 W c 12 t) (iblk1 W c 13 t)) s.2.2.2.1,
   k1_pay3 (bwdDd (iblk1 W c 0 t) (iblk1 W c 1 t) (iblk1 W c 2 t) (iblk1 W c 3 t) (iblk1 W c 11 t) (iblk1 W c 12 t) (iblk1 W c 13 t)) s.2.2.2.2.1,
   bwdDar (iblk1 W c 0 t) (iblk1 W c 1 t) (iblk1 W c 2 t) (iblk1 W c 3 t) (iblk1 W c 11 t) (iblk1 W c 12 t) (iblk1 W c 13 t) (iblk1 W c 9 t) (iblk1 W c 10 t) s.2.2.2.2.2.2.2 (BitVec.ofNat 32 ((grid1.coords t) 1).val) (iblk1 W c 4 t) (iblk1 W c 5 t) s.2.2.2.2.2.1,
   bwdDai (iblk1 W c 0 t) (iblk1 W c 1 t) (iblk1 W c 2 t) (iblk1 W c 3 t) (iblk1 W c 11 t) (iblk1 W c 12 t) (iblk1 W c 13 t) (iblk1 W c 9 t) (iblk1 W c 10 t) s.2.2.2.2.2.2.2 (BitVec.ofNat 32 ((grid1.coords t) 1).val) (iblk1 W c 4 t) (iblk1 W c 5 t) s.2.2.2.2.2.2.1,
   bwdCarry (iblk1 W c 0 t) (iblk1 W c 1 t) (iblk1 W c 2 t) (iblk1 W c 3 t) (iblk1 W c 11 t) (iblk1 W c 12 t) (iblk1 W c 13 t) (iblk1 W c 9 t) (iblk1 W c 10 t) s.2.2.2.2.2.2.2)

/-- What is carried after point `n`. -/
def ac1 (c : Dev nD) : (n : ℕ) → n < cfg1.N → Acc F
  | 0, h => accStep W c ⟨0, h⟩ accStart
  | n + 1, h => accStep W c ⟨n + 1, h⟩ (if (n + 1) % 4 = 0 then accStart else ac1 c n (Nat.lt_of_succ_lt h))

/-- What point `t` starts from. -/
def start1 (c : Dev nD) (t : Fin cfg1.N) : Acc F :=
  if t.val % 4 = 0 then accStart else ac1 W c (t.val - 1) (Nat.lt_of_le_of_lt (Nat.sub_le _ _) t.isLt)

theorem ac1_eq (c : Dev nD) (t : Fin cfg1.N) : ac1 W c t.val t.isLt = accStep W c t (start1 W c t) := by
  obtain ⟨n, hn⟩ := t
  cases n with
  | zero => unfold start1; rw [if_pos (by rfl)]; rfl
  | succ n => rfl

/-- Scratch operand 0. -/
abbrev scM1_0 : Memref sig .tc .vmem S2x512 .f32 := Memref.whole cc1_scratch0
/-- Scratch operand 1. -/
abbrev scM1_1 : Memref sig .tc .vmem S1024x512 .f32 := Memref.whole cc1_scratch1
/-- Scratch operand 2. -/
abbrev scM1_2 : Memref sig .tc .vmem S1024x512 .f32 := Memref.whole cc1_scratch2
/-- The staging buffer of window 0 at point `t`. -/
abbrev ms1_0 (t : Fin cfg1.N) : Memref sig .tc .vmem S1024x128 .f32 := win1_0.stage (cfg1.slots t 0)
/-- The staging buffer of window 1 at point `t`. -/
abbrev ms1_1 (t : Fin cfg1.N) : Memref sig .tc .vmem S1024x128 .f32 := win1_1.stage (cfg1.slots t 1)
/-- The staging buffer of window 2 at point `t`. -/
abbrev ms1_2 (t : Fin cfg1.N) : Memref sig .tc .vmem S1024x512 .f32 := win1_2.stage (cfg1.slots t 2)
/-- The staging buffer of window 3 at point `t`. -/
abbrev ms1_3 (t : Fin cfg1.N) : Memref sig .tc .vmem S1024x512 .f32 := win1_3.stage (cfg1.slots t 3)
/-- The staging buffer of window 4 at point `t`. -/
abbrev ms1_4 (t : Fin cfg1.N) : Memref sig .tc .vmem S8x512 .f32 := win1_4.stage (cfg1.slots t 4)
/-- The staging buffer of window 5 at point `t`. -/
abbrev ms1_5 (t : Fin cfg1.N) : Memref sig .tc .vmem S8x512 .f32 := win1_5.stage (cfg1.slots t 5)
/-- The staging buffer of window 6 at point `t`. -/
abbrev ms1_6 (t : Fin cfg1.N) : Memref sig .tc .vmem S1024x128 .f32 := win1_6.stage (cfg1.slots t 6)
/-- The staging buffer of window 7 at point `t`. -/
abbrev ms1_7 (t : Fin cfg1.N) : Memref sig .tc .vmem S1x128x512 .f32 := win1_7.stage (cfg1.slots t 7)
/-- The staging buffer of window 8 at point `t`. -/
abbrev ms1_8 (t : Fin cfg1.N) : Memref sig .tc .vmem S1x128x512 .f32 := win1_8.stage (cfg1.slots t 8)
/-- The staging buffer of window 9 at point `t`. -/
abbrev ms1_9 (t : Fin cfg1.N) : Memref sig .tc .vmem S1x512 .f32 := win1_9.stage (cfg1.slots t 9)
/-- The staging buffer of window 10 at point `t`. -/
abbrev ms1_10 (t : Fin cfg1.N) : Memref sig .tc .vmem S1x512 .f32 := win1_10.stage (cfg1.slots t 10)
/-- The staging buffer of window 11 at point `t`. -/
abbrev ms1_11 (t : Fin cfg1.N) : Memref sig .tc .vmem S1x512x128 .f32 := win1_11.stage (cfg1.slots t 11)
/-- The staging buffer of window 12 at point `t`. -/
abbrev ms1_12 (t : Fin cfg1.N) : Memref sig .tc .vmem S1x512x128 .f32 := win1_12.stage (cfg1.slots t 12)
/-- The staging buffer of window 13 at point `t`. -/
abbrev ms1_13 (t : Fin cfg1.N) : Memref sig .tc .vmem S1x128 .f32 := win1_13.stage (cfg1.slots t 13)
/-- The staging buffer of window 14 at point `t`. -/
abbrev ms1_14 (t : Fin cfg1.N) : Memref sig .tc .vmem S1024x128 .f32 := win1_14.stage (cfg1.slots t 14)
/-- The staging buffer of window 15 at point `t`. -/
abbrev ms1_15 (t : Fin cfg1.N) : Memref sig .tc .vmem S1x128x512 .f32 := win1_15.stage (cfg1.slots t 15)
/-- The staging buffer of window 16 at point `t`. -/
abbrev ms1_16 (t : Fin cfg1.N) : Memref sig .tc .vmem S1x128x512 .f32 := win1_16.stage (cfg1.slots t 16)
/-- The staging buffer of window 17 at point `t`. -/
abbrev ms1_17 (t : Fin cfg1.N) : Memref sig .tc .vmem S1x512x128 .f32 := win1_17.stage (cfg1.slots t 17)
/-- The staging buffer of window 18 at point `t`. -/
abbrev ms1_18 (t : Fin cfg1.N) : Memref sig .tc .vmem S1x512x128 .f32 := win1_18.stage (cfg1.slots t 18)
/-- The staging buffer of window 19 at point `t`. -/
abbrev ms1_19 (t : Fin cfg1.N) : Memref sig .tc .vmem S1x128 .f32 := win1_19.stage (cfg1.slots t 19)
/-- The staging buffer of window 20 at point `t`. -/
abbrev ms1_20 (t : Fin cfg1.N) : Memref sig .tc .vmem S1x512 .f32 := win1_20.stage (cfg1.slots t 20)
/-- The staging buffer of window 21 at point `t`. -/
abbrev ms1_21 (t : Fin cfg1.N) : Memref sig .tc .vmem S1x512 .f32 := win1_21.stage (cfg1.slots t 21)
/-- The region's own buffers before its first point: every scratch at anything, beside the buffers it does not name. -/
def phi1 (c : Dev nD) : sProp 𝕄 := iprop(((∃ d, owns (c : Thread nD τ) scM1_0 fullShare d) ∗ (∃ d, owns (c : Thread nD τ) scM1_1 fullShare d) ∗ (∃ d, owns (c : Thread nD τ) scM1_2 fullShare d)) ∗ Pipeline.scopedRestBut (Ix := Unit) (Name := ℕ) (U := UR sig nD τ) (Lvl := ℕ) (Val := Elt F) spec1 c [cc1_scratch0, cc1_scratch1, cc1_scratch2] ∗ (∃ r, prngReg c r))

theorem phi1_of (c : Dev nD) : iprop(Pipeline.scopedRest (Ix := Unit) (Name := ℕ) (U := UR sig nD τ) (Lvl := ℕ) (Val := Elt F) spec1 c ∗ (∃ r, prngReg c r)) ⊢ (phi1 c : sProp 𝕄) := by
  unfold phi1; rw [scopedRest1_split]; simp only [scM1_0, scM1_1, scM1_2, owns_whole]
  iintro ⟨⟨Hs, Hb⟩, Hg⟩
  isplitl [Hs]; · iexact Hs
  isplitl [Hb]; · iexact Hb
  iexact Hg

theorem phi1_back (c : Dev nD) : (phi1 c : sProp 𝕄) ⊢ iprop(Pipeline.scopedRest (Ix := Unit) (Name := ℕ) (U := UR sig nD τ) (Lvl := ℕ) (Val := Elt F) spec1 c ∗ (∃ r, prngReg c r)) := by
  unfold phi1; rw [scopedRest1_split]; simp only [scM1_0, scM1_1, scM1_2, owns_whole]
  iintro ⟨Hs, Hb, Hg⟩
  isplitl [Hs Hb]
  · isplitl [Hs]; · iexact Hs
    iexact Hb
  iexact Hg

/-- The region's own buffers before point `n`: the carried rows as the point before left them. -/
def phiAt1 (c : Dev nD) : (n : ℕ) → n ≤ cfg1.N → sProp 𝕄
  | 0, _ => phi1 c
  | n + 1, hn => iprop((owns (c : Thread nD τ) scM1_0 fullShare ((ac1 W c n hn).2.2.2.2.2.2.2) ∗ (∃ d, owns (c : Thread nD τ) scM1_1 fullShare d) ∗ (∃ d, owns (c : Thread nD τ) scM1_2 fullShare d)) ∗ Pipeline.scopedRestBut (Ix := Unit) (Name := ℕ) (U := UR sig nD τ) (Lvl := ℕ) (Val := Elt F) spec1 c [cc1_scratch0, cc1_scratch1, cc1_scratch2] ∗ (∃ r, prngReg c r))

theorem phiAt1_zero (c : Dev nD) (n : ℕ) (h : n ≤ cfg1.N) (hz : n = 0) : phiAt1 W c n h = phi1 c := by
  subst hz; rfl

theorem phiAt1_succ (c : Dev nD) (n : ℕ) (hn : n < cfg1.N) :
    phiAt1 W c (n + 1) hn = iprop((owns (c : Thread nD τ) scM1_0 fullShare ((ac1 W c n hn).2.2.2.2.2.2.2) ∗ (∃ d, owns (c : Thread nD τ) scM1_1 fullShare d) ∗ (∃ d, owns (c : Thread nD τ) scM1_2 fullShare d)) ∗ Pipeline.scopedRestBut (Ix := Unit) (Name := ℕ) (U := UR sig nD τ) (Lvl := ℕ) (Val := Elt F) spec1 c [cc1_scratch0, cc1_scratch1, cc1_scratch2] ∗ (∃ r, prngReg c r)) := rfl

theorem phiAt1_pos (c : Dev nD) (n : ℕ) (h : n ≤ cfg1.N) (hz : n ≠ 0) :
    phiAt1 W c n h = iprop((owns (c : Thread nD τ) scM1_0 fullShare ((ac1 W c (n - 1) (by omega)).2.2.2.2.2.2.2) ∗ (∃ d, owns (c : Thread nD τ) scM1_1 fullShare d) ∗ (∃ d, owns (c : Thread nD τ) scM1_2 fullShare d)) ∗ Pipeline.scopedRestBut (Ix := Unit) (Name := ℕ) (U := UR sig nD τ) (Lvl := ℕ) (Val := Elt F) spec1 c [cc1_scratch0, cc1_scratch1, cc1_scratch2] ∗ (∃ r, prngReg c r)) := by
  cases n with
  | zero => exact absurd rfl hz
  | succ n => rfl

/-- The region's proof data: the arrays as found, what the body leaves point by point. -/
def dat1 (c : Dev nD) : Dat τ (Elt F) Unit ℕ (UR sig nD τ) ℕ cfg1 c where
  A w := W c (Proc.devRef .tc (Pipeline.arrRef spec1 w))
  after w t := match w with
    | ⟨0, _⟩ => iblk1 W c 0 t
    | ⟨1, _⟩ => iblk1 W c 1 t
    | ⟨2, _⟩ => iblk1 W c 2 t
    | ⟨3, _⟩ => iblk1 W c 3 t
    | ⟨4, _⟩ => iblk1 W c 4 t
    | ⟨5, _⟩ => iblk1 W c 5 t
    | ⟨6, _⟩ => iblk1 W c 6 t
    | ⟨7, _⟩ => iblk1 W c 7 t
    | ⟨8, _⟩ => iblk1 W c 8 t
    | ⟨9, _⟩ => iblk1 W c 9 t
    | ⟨10, _⟩ => iblk1 W c 10 t
    | ⟨11, _⟩ => iblk1 W c 11 t
    | ⟨12, _⟩ => iblk1 W c 12 t
    | ⟨13, _⟩ => iblk1 W c 13 t
    | ⟨14, _⟩ => bwdDx (iblk1 W c 0 t) (iblk1 W c 1 t) (iblk1 W c 2 t) (iblk1 W c 3 t) (iblk1 W c 11 t) (iblk1 W c 12 t) (iblk1 W c 13 t) (iblk1 W c 9 t) (iblk1 W c 10 t) (start1 W c t).2.2.2.2.2.2.2 (iblk1 W c 7 t) (iblk1 W c 8 t) (iblk1 W c 6 t)
    | ⟨15, _⟩ => (ac1 W c t.val t.isLt).1
    | ⟨16, _⟩ => (ac1 W c t.val t.isLt).2.1
    | ⟨17, _⟩ => (ac1 W c t.val t.isLt).2.2.1
    | ⟨18, _⟩ => (ac1 W c t.val t.isLt).2.2.2.1
    | ⟨19, _⟩ => (ac1 W c t.val t.isLt).2.2.2.2.1
    | ⟨20, _⟩ => (ac1 W c t.val t.isLt).2.2.2.2.2.1
    | ⟨21, _⟩ => (ac1 W c t.val t.isLt).2.2.2.2.2.2.1
    | ⟨_ + 22, h⟩ => absurd h (Nat.not_lt.2 (Nat.le_add_left _ _))
  Φ t := phiAt1 W c t.val (Nat.le_of_lt_succ t.isLt)
  q w := Pipeline.shareOf spec1 w
  owed _ := 0

theorem A_eq1 (c : Dev nD) (w : Fin cfg1.W) : (dat1 W c).A w = W c (Proc.devRef .tc (Pipeline.arrRef spec1 w)) := by
  dsimp only [dat1]

theorem phiAt1_castSucc (c : Dev nD) (t : Fin cfg1.N) :
    (dat1 W c).Φ t.castSucc = phiAt1 W c t.val (Nat.le_of_lt t.isLt) := by
  dsimp only [dat1]; exact Pipeline.Dat.Φ_castSucc (phiAt1 W c) t

theorem after1_0 (c : Dev nD) (t : Fin cfg1.N) : (dat1 W c).after 0 t = iblk1 W c 0 t := by dsimp only [dat1]
theorem after1_1 (c : Dev nD) (t : Fin cfg1.N) : (dat1 W c).after 1 t = iblk1 W c 1 t := by dsimp only [dat1]
theorem after1_2 (c : Dev nD) (t : Fin cfg1.N) : (dat1 W c).after 2 t = iblk1 W c 2 t := by dsimp only [dat1]
theorem after1_3 (c : Dev nD) (t : Fin cfg1.N) : (dat1 W c).after 3 t = iblk1 W c 3 t := by dsimp only [dat1]
theorem after1_4 (c : Dev nD) (t : Fin cfg1.N) : (dat1 W c).after 4 t = iblk1 W c 4 t := by dsimp only [dat1]
theorem after1_5 (c : Dev nD) (t : Fin cfg1.N) : (dat1 W c).after 5 t = iblk1 W c 5 t := by dsimp only [dat1]
theorem after1_6 (c : Dev nD) (t : Fin cfg1.N) : (dat1 W c).after 6 t = iblk1 W c 6 t := by dsimp only [dat1]
theorem after1_7 (c : Dev nD) (t : Fin cfg1.N) : (dat1 W c).after 7 t = iblk1 W c 7 t := by dsimp only [dat1]
theorem after1_8 (c : Dev nD) (t : Fin cfg1.N) : (dat1 W c).after 8 t = iblk1 W c 8 t := by dsimp only [dat1]
theorem after1_9 (c : Dev nD) (t : Fin cfg1.N) : (dat1 W c).after 9 t = iblk1 W c 9 t := by dsimp only [dat1]
theorem after1_10 (c : Dev nD) (t : Fin cfg1.N) : (dat1 W c).after 10 t = iblk1 W c 10 t := by dsimp only [dat1]
theorem after1_11 (c : Dev nD) (t : Fin cfg1.N) : (dat1 W c).after 11 t = iblk1 W c 11 t := by dsimp only [dat1]
theorem after1_12 (c : Dev nD) (t : Fin cfg1.N) : (dat1 W c).after 12 t = iblk1 W c 12 t := by dsimp only [dat1]
theorem after1_13 (c : Dev nD) (t : Fin cfg1.N) : (dat1 W c).after 13 t = iblk1 W c 13 t := by dsimp only [dat1]
theorem after1_14 (c : Dev nD) (t : Fin cfg1.N) : (dat1 W c).after 14 t = bwdDx (iblk1 W c 0 t) (iblk1 W c 1 t) (iblk1 W c 2 t) (iblk1 W c 3 t) (iblk1 W c 11 t) (iblk1 W c 12 t) (iblk1 W c 13 t) (iblk1 W c 9 t) (iblk1 W c 10 t) (start1 W c t).2.2.2.2.2.2.2 (iblk1 W c 7 t) (iblk1 W c 8 t) (iblk1 W c 6 t) := by dsimp only [dat1]
theorem after1_15 (c : Dev nD) (t : Fin cfg1.N) : (dat1 W c).after 15 t = (ac1 W c t.val t.isLt).1 := by dsimp only [dat1]
theorem after1_16 (c : Dev nD) (t : Fin cfg1.N) : (dat1 W c).after 16 t = (ac1 W c t.val t.isLt).2.1 := by dsimp only [dat1]
theorem after1_17 (c : Dev nD) (t : Fin cfg1.N) : (dat1 W c).after 17 t = (ac1 W c t.val t.isLt).2.2.1 := by dsimp only [dat1]
theorem after1_18 (c : Dev nD) (t : Fin cfg1.N) : (dat1 W c).after 18 t = (ac1 W c t.val t.isLt).2.2.2.1 := by dsimp only [dat1]
theorem after1_19 (c : Dev nD) (t : Fin cfg1.N) : (dat1 W c).after 19 t = (ac1 W c t.val t.isLt).2.2.2.2.1 := by dsimp only [dat1]
theorem after1_20 (c : Dev nD) (t : Fin cfg1.N) : (dat1 W c).after 20 t = (ac1 W c t.val t.isLt).2.2.2.2.2.1 := by dsimp only [dat1]
theorem after1_21 (c : Dev nD) (t : Fin cfg1.N) : (dat1 W c).after 21 t = (ac1 W c t.val t.isLt).2.2.2.2.2.2.1 := by dsimp only [dat1]
theorem before1_0 (c : Dev nD) (t : Fin cfg1.N) (d) : (dat1 W c).before 0 t d = iblk1 W c 0 t :=
  ((dat1 W c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 W c).before 1 t d = iblk1 W c 1 t :=
  ((dat1 W c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 W c).before 2 t d = iblk1 W c 2 t :=
  ((dat1 W c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 W c).before 3 t d = iblk1 W c 3 t :=
  ((dat1 W c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 W c).before 4 t d = iblk1 W c 4 t :=
  ((dat1 W c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 W c).before 5 t d = iblk1 W c 5 t :=
  ((dat1 W c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 W c).before 6 t d = iblk1 W c 6 t :=
  ((dat1 W c).before_in_eq_fetched 6 rfl (fun _ => rfl) (fun _ _ _ => rfl) (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 W c).before 7 t d = iblk1 W c 7 t :=
  ((dat1 W c).before_in_eq_fetched 7 rfl (fun _ => rfl) (fun _ _ _ => rfl) (fun t => by rw [after1_7]; unfold Dat.blockOf iblk1; rw [A_eq1]; try rfl) t d).trans
    (by unfold Dat.fetched Dat.blockOf iblk1; rw [A_eq1]; try rfl)
theorem before1_8 (c : Dev nD) (t : Fin cfg1.N) (d) : (dat1 W c).before 8 t d = iblk1 W c 8 t :=
  ((dat1 W c).before_in_eq_fetched 8 rfl (fun _ => rfl) (fun _ _ _ => rfl) (fun t => by rw [after1_8]; unfold Dat.blockOf iblk1; rw [A_eq1]; try rfl) t d).trans
    (by unfold Dat.fetched Dat.blockOf iblk1; rw [A_eq1]; try rfl)
theorem before1_9 (c : Dev nD) (t : Fin cfg1.N) (d) : (dat1 W c).before 9 t d = iblk1 W c 9 t :=
  ((dat1 W c).before_in_eq_fetched 9 rfl (fun _ => rfl) (fun _ _ _ => rfl) (fun t => by rw [after1_9]; unfold Dat.blockOf iblk1; rw [A_eq1]; try rfl) t d).trans
    (by unfold Dat.fetched Dat.blockOf iblk1; rw [A_eq1]; try rfl)
theorem before1_10 (c : Dev nD) (t : Fin cfg1.N) (d) : (dat1 W c).before 10 t d = iblk1 W c 10 t :=
  ((dat1 W c).before_in_eq_fetched 10 rfl (fun _ => rfl) (fun _ _ _ => rfl) (fun t => by rw [after1_10]; unfold Dat.blockOf iblk1; rw [A_eq1]; try rfl) t d).trans
    (by unfold Dat.fetched Dat.blockOf iblk1; rw [A_eq1]; try rfl)
theorem before1_11 (c : Dev nD) (t : Fin cfg1.N) (d) : (dat1 W c).before 11 t d = iblk1 W c 11 t :=
  ((dat1 W c).before_in_eq_fetched 11 rfl (fun _ => rfl) (fun _ _ _ => rfl) (fun t => by rw [after1_11]; unfold Dat.blockOf iblk1; rw [A_eq1]; try rfl) t d).trans
    (by unfold Dat.fetched Dat.blockOf iblk1; rw [A_eq1]; try rfl)
theorem before1_12 (c : Dev nD) (t : Fin cfg1.N) (d) : (dat1 W c).before 12 t d = iblk1 W c 12 t :=
  ((dat1 W c).before_in_eq_fetched 12 rfl (fun _ => rfl) (fun _ _ _ => rfl) (fun t => by rw [after1_12]; unfold Dat.blockOf iblk1; rw [A_eq1]; try rfl) t d).trans
    (by unfold Dat.fetched Dat.blockOf iblk1; rw [A_eq1]; try rfl)
theorem before1_13 (c : Dev nD) (t : Fin cfg1.N) (d) : (dat1 W c).before 13 t d = iblk1 W c 13 t :=
  ((dat1 W c).before_in_eq_fetched 13 rfl (fun _ => rfl) (fun _ _ _ => rfl) (fun t => by rw [after1_13]; unfold Dat.blockOf iblk1; rw [A_eq1]; try rfl) t d).trans
    (by unfold Dat.fetched Dat.blockOf iblk1; rw [A_eq1]; try rfl)
theorem before1_15 (c : Dev nD) (t : Fin cfg1.N) (h0 : ¬t.val % 4 = 0) (d) :
    (dat1 W c).before 15 t d = (ac1 W c (t.val - 1) (Nat.lt_of_le_of_lt (Nat.sub_le _ _) t.isLt)).1 := by
  have hN : t.val < 32 := lt_of_lt_of_eq t.isLt (show cfg1.N = 32 from N_1)
  rw [Dat.before_out_kept _ 15 rfl t (by omega) (Bool.eq_false_iff.mpr fun h => by have := (flush1_15 _).mp h; dsimp only at this; omega)
    (fun _ => rfl) (fun _ _ => rfl)]
  dsimp only [dat1]
theorem before1_16 (c : Dev nD) (t : Fin cfg1.N) (h0 : ¬t.val % 4 = 0) (d) :
    (dat1 W c).before 16 t d = (ac1 W c (t.val - 1) (Nat.lt_of_le_of_lt (Nat.sub_le _ _) t.isLt)).2.1 := by
  have hN : t.val < 32 := lt_of_lt_of_eq t.isLt (show cfg1.N = 32 from N_1)
  rw [Dat.before_out_kept _ 16 rfl t (by omega) (Bool.eq_false_iff.mpr fun h => by have := (flush1_16 _).mp h; dsimp only at this; omega)
    (fun _ => rfl) (fun _ _ => rfl)]
  dsimp only [dat1]
theorem before1_17 (c : Dev nD) (t : Fin cfg1.N) (h0 : ¬t.val % 4 = 0) (d) :
    (dat1 W c).before 17 t d = (ac1 W c (t.val - 1) (Nat.lt_of_le_of_lt (Nat.sub_le _ _) t.isLt)).2.2.1 := by
  have hN : t.val < 32 := lt_of_lt_of_eq t.isLt (show cfg1.N = 32 from N_1)
  rw [Dat.before_out_kept _ 17 rfl t (by omega) (Bool.eq_false_iff.mpr fun h => by have := (flush1_17 _).mp h; dsimp only at this; omega)
    (fun _ => rfl) (fun _ _ => rfl)]
  dsimp only [dat1]
theorem before1_18 (c : Dev nD) (t : Fin cfg1.N) (h0 : ¬t.val % 4 = 0) (d) :
    (dat1 W c).before 18 t d = (ac1 W c (t.val - 1) (Nat.lt_of_le_of_lt (Nat.sub_le _ _) t.isLt)).2.2.2.1 := by
  have hN : t.val < 32 := lt_of_lt_of_eq t.isLt (show cfg1.N = 32 from N_1)
  rw [Dat.before_out_kept _ 18 rfl t (by omega) (Bool.eq_false_iff.mpr fun h => by have := (flush1_18 _).mp h; dsimp only at this; omega)
    (fun _ => rfl) (fun _ _ => rfl)]
  dsimp only [dat1]
theorem before1_19 (c : Dev nD) (t : Fin cfg1.N) (h0 : ¬t.val % 4 = 0) (d) :
    (dat1 W c).before 19 t d = (ac1 W c (t.val - 1) (Nat.lt_of_le_of_lt (Nat.sub_le _ _) t.isLt)).2.2.2.2.1 := by
  have hN : t.val < 32 := lt_of_lt_of_eq t.isLt (show cfg1.N = 32 from N_1)
  rw [Dat.before_out_kept _ 19 rfl t (by omega) (Bool.eq_false_iff.mpr fun h => by have := (flush1_19 _).mp h; dsimp only at this; omega)
    (fun _ => rfl) (fun _ _ => rfl)]
  dsimp only [dat1]
theorem before1_20 (c : Dev nD) (t : Fin cfg1.N) (h0 : ¬t.val % 4 = 0) (d) :
    (dat1 W c).before 20 t d = (ac1 W c (t.val - 1) (Nat.lt_of_le_of_lt (Nat.sub_le _ _) t.isLt)).2.2.2.2.2.1 := by
  have hN : t.val < 32 := lt_of_lt_of_eq t.isLt (show cfg1.N = 32 from N_1)
  rw [Dat.before_out_kept _ 20 rfl t (by omega) (Bool.eq_false_iff.mpr fun h => by have := (flush1_20 _).mp h; dsimp only at this; omega)
    (fun _ => rfl) (fun _ _ => rfl)]
  dsimp only [dat1]
theorem before1_21 (c : Dev nD) (t : Fin cfg1.N) (h0 : ¬t.val % 4 = 0) (d) :
    (dat1 W c).before 21 t d = (ac1 W c (t.val - 1) (Nat.lt_of_le_of_lt (Nat.sub_le _ _) t.isLt)).2.2.2.2.2.2.1 := by
  have hN : t.val < 32 := lt_of_lt_of_eq t.isLt (show cfg1.N = 32 from N_1)
  rw [Dat.before_out_kept _ 21 rfl t (by omega) (Bool.eq_false_iff.mpr fun h => by have := (flush1_21 _).mp h; dsimp only at this; omega)
    (fun _ => rfl) (fun _ _ => rfl)]
  dsimp only [dat1]
/-- What the body is called with at point `t`. -/
def bodyPre1 (c : Dev nD) (t : Fin cfg1.N) : sProp 𝕄 :=
  iprop((dat1 W c).Φ t.castSucc ∗ (dat1 W c).owesAt () t.castSucc
    ∗ (∃ d, owns (c : Thread nD τ) (ms1_0 t) fullShare ((dat1 W c).before 0 t d))
    ∗ (∃ d, owns (c : Thread nD τ) (ms1_1 t) fullShare ((dat1 W c).before 1 t d))
    ∗ (∃ d, owns (c : Thread nD τ) (ms1_2 t) fullShare ((dat1 W c).before 2 t d))
    ∗ (∃ d, owns (c : Thread nD τ) (ms1_3 t) fullShare ((dat1 W c).before 3 t d))
    ∗ (∃ d, owns (c : Thread nD τ) (ms1_4 t) fullShare ((dat1 W c).before 4 t d))
    ∗ (∃ d, owns (c : Thread nD τ) (ms1_5 t) fullShare ((dat1 W c).before 5 t d))
    ∗ (∃ d, owns (c : Thread nD τ) (ms1_6 t) fullShare ((dat1 W c).before 6 t d))
    ∗ (∃ d, owns (c : Thread nD τ) (ms1_7 t) fullShare ((dat1 W c).before 7 t d))
    ∗ (∃ d, owns (c : Thread nD τ) (ms1_8 t) fullShare ((dat1 W c).before 8 t d))
    ∗ (∃ d, owns (c : Thread nD τ) (ms1_9 t) fullShare ((dat1 W c).before 9 t d))
    ∗ (∃ d, owns (c : Thread nD τ) (ms1_10 t) fullShare ((dat1 W c).before 10 t d))
    ∗ (∃ d, owns (c : Thread nD τ) (ms1_11 t) fullShare ((dat1 W c).before 11 t d))
    ∗ (∃ d, owns (c : Thread nD τ) (ms1_12 t) fullShare ((dat1 W c).before 12 t d))
    ∗ (∃ d, owns (c : Thread nD τ) (ms1_13 t) fullShare ((dat1 W c).before 13 t d))
    ∗ (∃ d, owns (c : Thread nD τ) (ms1_14 t) fullShare ((dat1 W c).before 14 t d))
    ∗ (∃ d, owns (c : Thread nD τ) (ms1_15 t) fullShare ((dat1 W c).before 15 t d))
    ∗ (∃ d, owns (c : Thread nD τ) (ms1_16 t) fullShare ((dat1 W c).before 16 t d))
    ∗ (∃ d, owns (c : Thread nD τ) (ms1_17 t) fullShare ((dat1 W c).before 17 t d))
    ∗ (∃ d, owns (c : Thread nD τ) (ms1_18 t) fullShare ((dat1 W c).before 18 t d))
    ∗ (∃ d, owns (c : Thread nD τ) (ms1_19 t) fullShare ((dat1 W c).before 19 t d))
    ∗ (∃ d, owns (c : Thread nD τ) (ms1_20 t) fullShare ((dat1 W c).before 20 t d))
    ∗ (∃ d, owns (c : Thread nD τ) (ms1_21 t) fullShare ((dat1 W c).before 21 t d)))

/-- What it returns. -/
def bodyPost1 (c : Dev nD) (t : Fin cfg1.N) : sProp 𝕄 :=
  iprop((dat1 W c).Φ t.succ ∗ (dat1 W c).owesAt () t.succ
    ∗ owns (c : Thread nD τ) (ms1_0 t) fullShare ((dat1 W c).after 0 t)
    ∗ owns (c : Thread nD τ) (ms1_1 t) fullShare ((dat1 W c).after 1 t)
    ∗ owns (c : Thread nD τ) (ms1_2 t) fullShare ((dat1 W c).after 2 t)
    ∗ owns (c : Thread nD τ) (ms1_3 t) fullShare ((dat1 W c).after 3 t)
    ∗ owns (c : Thread nD τ) (ms1_4 t) fullShare ((dat1 W c).after 4 t)
    ∗ owns (c : Thread nD τ) (ms1_5 t) fullShare ((dat1 W c).after 5 t)
    ∗ owns (c : Thread nD τ) (ms1_6 t) fullShare ((dat1 W c).after 6 t)
    ∗ owns (c : Thread nD τ) (ms1_7 t) fullShare ((dat1 W c).after 7 t)
    ∗ owns (c : Thread nD τ) (ms1_8 t) fullShare ((dat1 W c).after 8 t)
    ∗ owns (c : Thread nD τ) (ms1_9 t) fullShare ((dat1 W c).after 9 t)
    ∗ owns (c : Thread nD τ) (ms1_10 t) fullShare ((dat1 W c).after 10 t)
    ∗ owns (c : Thread nD τ) (ms1_11 t) fullShare ((dat1 W c).after 11 t)
    ∗ owns (c : Thread nD τ) (ms1_12 t) fullShare ((dat1 W c).after 12 t)
    ∗ owns (c : Thread nD τ) (ms1_13 t) fullShare ((dat1 W c).after 13 t)
    ∗ owns (c : Thread nD τ) (ms1_14 t) fullShare ((dat1 W c).after 14 t)
    ∗ owns (c : Thread nD τ) (ms1_15 t) fullShare ((dat1 W c).after 15 t)
    ∗ owns (c : Thread nD τ) (ms1_16 t) fullShare ((dat1 W c).after 16 t)
    ∗ owns (c : Thread nD τ) (ms1_17 t) fullShare ((dat1 W c).after 17 t)
    ∗ owns (c : Thread nD τ) (ms1_18 t) fullShare ((dat1 W c).after 18 t)
    ∗ owns (c : Thread nD τ) (ms1_19 t) fullShare ((dat1 W c).after 19 t)
    ∗ owns (c : Thread nD τ) (ms1_20 t) fullShare ((dat1 W c).after 20 t)
    ∗ owns (c : Thread nD τ) (ms1_21 t) fullShare ((dat1 W c).after 21 t))

set_option maxHeartbeats 8000000 in
/-- The body at any point. -/
theorem sound_body1 (c : Dev nD) (t : Fin cfg1.N) :
    bodyPre1 W c t ⊢ wp frame (wpE (defs₀ (F := F)) Variants.none c none) Set.univ (bodyAt1 t) (fun _ => bodyPost1 W c t) := by
  unfold bodyPre1 bodyPost1 bodyAt1
  simp only [before1_0, before1_1, before1_2, before1_3, before1_4, before1_5, before1_6, before1_7, before1_8, before1_9, before1_10, before1_11, before1_12, before1_13]
  rw [show (dat1 W c).owesAt () t.succ = (dat1 W c).owesAt () t.castSucc from rfl,
    after1_0, after1_1, after1_2, after1_3, after1_4, after1_5, after1_6, after1_7, after1_8, after1_9, after1_10, after1_11, after1_12, after1_13, after1_14, after1_15, after1_16, after1_17, after1_18, after1_19, after1_20, after1_21]
  rw [show (dat1 W c).Φ t.succ = phiAt1 W c (t.val + 1) t.isLt from rfl, phiAt1_succ]
  have hN : t.val < 32 := lt_of_lt_of_eq t.isLt (show cfg1.N = 32 from N_1)
  by_cases h0 : t.val % 4 = 0
  · rw [ac1_eq, show start1 W c t = accStart (F := F) from if_pos h0]; dsimp only [accStep, accStart]
    by_cases hz : t.val = 0
    · rw [phiAt1_castSucc W c t, phiAt1_zero W c _ _ hz]; unfold phi1
      iintro ⟨⟨⟨HS0, HS1, HS2⟩, Hb, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
      iapply (bwd_runA c (grid1.coords t) _ _ _ _ _ _ _ _ _ _ _ _ _ _ _ _ _ _ _ _ _ _ _ _ _ _ _ _ _ _ _ _ _ _ _ _ _ _ _ _ _ _ _ _ _ _ _ _ _ _ ((hcond1 t).mpr h0) (iblk1 W c 0 t) (iblk1 W c 1 t) (iblk1 W c 2 t) (iblk1 W c 3 t) (iblk1 W c 4 t) (iblk1 W c 5 t) (iblk1 W c 6 t) (iblk1 W c 7 t) (iblk1 W c 8 t) (iblk1 W c 9 t) (iblk1 W c 10 t) (iblk1 W c 11 t) (iblk1 W c 12 t) (iblk1 W c 13 t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [HS0]; · iexact HS0
      isplitl [HS1]; · iexact HS1
      isplitl [HS2]; · iexact HS2
      iintro ⟨H0, H1, H2, H3, H4, H5, H6, H7, H8, H9, H10, H11, H12, H13, H14, H15, H16, H17, H18, H19, H20, H21, HS0, HS1, HS2⟩
      isplitl [HS0 HS1 HS2 Hb Hg]
      · isplitl [HS0 HS1 HS2]
        · isplitl [HS0]; · iexact HS0
          isplitl [HS1]; · iexact HS1
          iexact HS2
        isplitl [Hb]; · iexact Hb
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      iexact H21
    · rw [phiAt1_castSucc W c t, phiAt1_pos W c _ _ hz]
      iintro ⟨⟨⟨HS0, HS1, HS2⟩, Hb, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
      iapply (bwd_runA c (grid1.coords t) _ _ _ _ _ _ _ _ _ _ _ _ _ _ _ _ _ _ _ _ _ _ _ _ _ _ _ _ _ _ _ _ _ _ _ _ _ _ _ _ _ _ _ _ _ _ _ _ _ _ ((hcond1 t).mpr h0) (iblk1 W c 0 t) (iblk1 W c 1 t) (iblk1 W c 2 t) (iblk1 W c 3 t) (iblk1 W c 4 t) (iblk1 W c 5 t) (iblk1 W c 6 t) (iblk1 W c 7 t) (iblk1 W c 8 t) (iblk1 W c 9 t) (iblk1 W c 10 t) (iblk1 W c 11 t) (iblk1 W c 12 t) (iblk1 W c 13 t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [HS0]; · iexists _; iexact HS0
      isplitl [HS1]; · iexact HS1
      isplitl [HS2]; · iexact HS2
      iintro ⟨H0, H1, H2, H3, H4, H5, H6, H7, H8, H9, H10, H11, H12, H13, H14, H15, H16, H17, H18, H19, H20, H21, HS0, HS1, HS2⟩
      isplitl [HS0 HS1 HS2 Hb Hg]
      · isplitl [HS0 HS1 HS2]
        · isplitl [HS0]; · iexact HS0
          isplitl [HS1]; · iexact HS1
          iexact HS2
        isplitl [Hb]; · iexact Hb
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      iexact H21
  · have hz : t.val ≠ 0 := fun h => h0 (by rw [h])
    rw [phiAt1_castSucc W c t, phiAt1_pos W c _ _ hz]
    simp only [before1_15 W c t h0, before1_16 W c t h0, before1_17 W c t h0, before1_18 W c t h0, before1_19 W c t h0, before1_20 W c t h0, before1_21 W c t h0]
    rw [ac1_eq, show start1 W c t = ac1 W c (t.val - 1) (Nat.lt_of_le_of_lt (Nat.sub_le _ _) t.isLt) from if_neg h0]; dsimp only [accStep]
    iintro ⟨⟨⟨HS0, HS1, HS2⟩, Hb, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
    iapply (bwd_runB c (grid1.coords t) _ _ _ _ _ _ _ _ _ _ _ _ _ _ _ _ _ _ _ _ _ _ _ _ _ _ _ _ _ _ _ _ _ _ _ _ _ _ _ _ _ _ _ _ _ _ _ _ _ _ (fun h => h0 ((hcond1 t).mp h)) (iblk1 W c 0 t) (iblk1 W c 1 t) (iblk1 W c 2 t) (iblk1 W c 3 t) (iblk1 W c 4 t) (iblk1 W c 5 t) (iblk1 W c 6 t) (iblk1 W c 7 t) (iblk1 W c 8 t) (iblk1 W c 9 t) (iblk1 W c 10 t) (iblk1 W c 11 t) (iblk1 W c 12 t) (iblk1 W c 13 t) _ _ _ _ _ _ _ _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [HS0]; · iexact HS0
    isplitl [HS1]; · iexact HS1
    isplitl [HS2]; · iexact HS2
    iintro ⟨H0, H1, H2, H3, H4, H5, H6, H7, H8, H9, H10, H11, H12, H13, H14, H15, H16, H17, H18, H19, H20, H21, HS0, HS1, HS2⟩
    isplitl [HS0 HS1 HS2 Hb Hg]
    · isplitl [HS0 HS1 HS2]
      · isplitl [HS0]; · iexact HS0
        isplitl [HS1]; · iexact HS1
        iexact HS2
      isplitl [Hb]; · iexact Hb
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21

/-- The body table's row at point `t` is the body. -/
theorem defs₀_row1 (t : Fin cfg1.N) :
    defs₀ (F := F) .tc cfg1.body (cfg1.bodyArgs t (cfg1.slots t)) = bodyAt1 t := by
  unfold defs₀; rw [Defs.onTc_tc]

/-- The obligation at every point. -/
theorem body_obligation1 (c : Dev nD) : BodyObligation (dat1 W c) (defs₀ (F := F)) Variants.none () Set.univ := fun t => by
  rw [bigSep_W1, bigSep_W1, defs₀_row1]
  exact triple_restated (sound_body1 W c t) rfl .rfl fun _ => .rfl

theorem hin1 (c : Dev nD) : (phi1 c : sProp 𝕄) ⊢ (dat1 W c).Φ 0 := by
  rw [show (dat1 W c).Φ 0 = phiAt1 W c 0 (Nat.zero_le _) from rfl, phiAt1_zero W c 0 _ rfl]
  try exact Idealize.SL.BI.Entails.refl _

theorem hout1 (c : Dev nD) : (dat1 W c).Φ (Fin.last cfg1.N) ⊢ (phi1 c : sProp 𝕄) := by
  rw [show (dat1 W c).Φ (Fin.last cfg1.N) = phiAt1 W c (Fin.last cfg1.N).val (Nat.le_of_lt_succ (Fin.last cfg1.N).isLt) from rfl,
    phiAt1_pos W c _ _ (by rw [Fin.val_last]; have : cfg1.N = 32 := N_1; omega)]
  unfold phi1
  iintro ⟨Hs, Hr⟩
  isplitl [Hs]
  · icases Hs with ⟨HS0, Ht⟩
    isplitl [HS0]
    · iexists _; iexact HS0
    iexact Ht
  iexact Hr

end Cert.KernelIdeal.Hand

end
-- ==== Proof.Run.lean ====
/-
  The run of the program: the host statements before the two calls, the forward call, the backward call, the host
  statements after them, and what every buffer holds at the end.
-/
module

public import proofs.«01_k».proof.Proof.Reg0
public import proofs.«01_k».proof.Proof.Reg1
public import proofs.«01_k».proof.Proof.Gen.KernelIdeal.Regions
public import Idealize.ShloMosaic.Lib.Pipeline.FrameSuffix
public import Idealize.ShloMosaic.Lib.Pipeline.RegionArrays
public import Idealize.ShloMosaic.Lib.Tactic

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf HostSeg RegionSeg Seg)
open Cert.KernelIdeal.Gen

variable {F : FTy → Type} [FloatOps F]

local notation "𝕄" => MT nD τ sig Unit (Elt F) ℕ (UR sig nD τ) ℕ

variable (m : (ℓ : Loc nD τ sig) → Buf (Elt F) ℓ)

/-- The contents of the buffers when the forward call starts. -/
def W0 : Dev nD → Valuation τ sig (Elt F) := fun c => V1 m c
/-- … when the forward call ends and the backward call starts. -/
def W1 : Dev nD → Valuation τ sig (Elt F) := fun c => Pipeline.withArrays spec0 c (W0 m c) (fun w => (dat0 (W0 m) c).arrAt w cfg0.N)
/-- … when the backward call ends. -/
def W2 : Dev nD → Valuation τ sig (Elt F) := fun c => Pipeline.withArrays spec1 c (W1 m c) (fun w => (dat1 (W1 m) c).arrAt w cfg1.N)
/-- … when the program ends. -/
def WE : Dev nD → Valuation τ sig (Elt F) := fun c => StableHlo.after hostOps2 (W2 m c)

/-- The proof data of the two calls. -/
def pdats : (p : Fin 2) → (c : Dev nD) → Dat τ (Elt F) Unit ℕ (UR sig nD τ) ℕ (cfgs p) c := fun p c =>
  match p with
  | 0 => dat0 (W0 m) c
  | 1 => dat1 (W1 m) c

/-- What rides along from item to item: the core owes nothing, and its random register holds something. -/
def rest (c : Dev nD) : sProp 𝕄 := iprop((∃ Wd, owes (c : Thread nD τ) (0 : CellTallies nD τ sig Unit) Wd) ∗ ∃ r, prngReg c r)

abbrev Lno : GSem nD τ sig → Finset Unit := fun _ => ∅
abbrev lvno : GSem nD τ sig → Unit → ℕ := fun _ _ => 0

theorem sharedIn_0 : Pipeline.SharedIn spec0 := Pipeline.SharedIn.of_injective winFacts0.arr_inj

/-- The arrays of the call, at its end, are the buffers at the contents after it. -/
theorem arrays_end0 (c : Dev nD) : (dat0 (W0 m) c).arrays (fun w => (dat0 (W0 m) c).arrAt w cfg0.N)
    = Pipeline.arrBufs spec0 c (fun b => W1 m c (Proc.devRef .tc b)) :=
  ((dat0 (W0 m) c).arrBufs_eq_arrays sharedIn_0 arr_whole0 (fun w _ => rfl) _ _ fun w =>
    (Pipeline.withArrays_arr_shared spec0 c (W0 m c) _ ((dat0 (W0 m) c).arrAt_sharedIn sharedIn_0 (W0 m c) (fun w => A_eq0 (W0 m) c w) cfg0.N) w).symm).symm

/-- The buffers the call does not name keep their contents. -/
theorem rest_end0 (c : Dev nD) : (Pipeline.unscopedRest spec0 c (fun b => W1 m c (Proc.devRef .tc b)) : sProp 𝕄)
    = Pipeline.unscopedRest spec0 c (fun b => W0 m c (Proc.devRef .tc b)) := by
  unfold Pipeline.unscopedRest
  exact bigSep_congr fun b hb => by
    beta_reduce
    rw [show W1 m c (Proc.devRef .tc b) = W0 m c (Proc.devRef .tc b) from
      Pipeline.withArrays_of_ne spec0 c (W0 m c) _ b (fun w e => (Finset.mem_sdiff.mp hb).2 (Finset.mem_image.mpr ⟨w, Finset.mem_univ _, e⟩))]

set_option backward.isDefEq.respectTransparency.types false in
/-- The call as a segment of the program. -/
def seg_reg0 : RegionSeg (pcfgs (F := F)) adm (pdats m) () defs₀ Variants.none Lno lvno 0 where
  win := winFacts0.to₀
  block_pos := block_pos0
  stage_whole := stage_whole0
  K := PEmpty
  osem k := k.elim
  ho := Pipeline.OwnSemFacts.none spec0
  hbody c := (body_obligation0 (W0 m) c).loose
  hwaits := Pipeline.hwaits_of_owed_zero _ _ _ _ Lno lvno 0 fun _ _ => rfl
  pre c := iprop(StableHlo.held (c : Thread nD τ) (Pipeline.ucRefs τ sig) (W0 m c) ∗ rest c)
  post c := iprop(StableHlo.held (c : Thread nD τ) (Pipeline.ucRefs τ sig) (W1 m c) ∗ rest c)
  X c := iprop(∃ r, prngReg c r)
  Y c := iprop(∃ r, prngReg c r)
  Z c := Pipeline.unscopedRest (Ix := Unit) (Name := ℕ) (U := UR sig nD τ) (Lvl := ℕ) spec0 c (fun b => W0 m c (Proc.devRef .tc b))
  hentry c := by
    rw [← Pipeline.unscopedBufs_held (Ix := Unit) (Name := ℕ) (U := UR sig nD τ) (Lvl := ℕ) c (W0 m c),
      Pipeline.ownSems0_none, Pipeline.prefHeld_of_none _ rfl]
    unfold rest
    iintro ⟨⟨HU, HO, Hp⟩, -, -⟩
    ihave H := (Pipeline.arrays_of_unscopedBufs_shared (pcfgs (F := F)) adm (pdats m) (p := 0) winFacts0.to₀ sharedIn_0 arr_whole0 c (fun w _ => rfl)
      (fun b => W0 m c (Proc.devRef .tc b)) (fun w => A_eq0 (W0 m) c w)) $$ HU
    icases H with ⟨Ha, HZ⟩
    imodintro
    isplitl [Ha]; · iexact Ha
    isplitr; · iempintro
    isplitl [HO]
    · unfold Pipeline.Dat.owesAt Pipeline.owesWithin
      icases HO with ⟨%Wd, HO⟩; iexists Wd; isplitr; · ipureintro; exact fun _ _ => Or.inl trivial
      iexact HO
    isplitl [Hp]; · iexact Hp
    iexact HZ
  hin c := (show _ ⊢ iprop(Pipeline.scopedRest (Ix := Unit) (Name := ℕ) (U := UR sig nD τ) (Lvl := ℕ) (Val := Elt F) spec0 c ∗ (∃ r, prngReg c r)) from by
    iintro ⟨HX, -, Hr⟩
    isplitl [Hr]; · iexact Hr
    iexact HX).trans ((phi0_of c).trans (hin0 (W0 m) c))
  hout c := ((hout0 (W0 m) c).trans (phi0_back c)).trans (by
    rw [Pipeline.ownSems0_none]
    iintro ⟨Hr, HY⟩
    isplitl [HY]; · iexact HY
    isplitr; · iempintro
    iexact Hr)
  hexit c := by
    rw [← Pipeline.unscopedBufs_held (Ix := Unit) (Name := ℕ) (U := UR sig nD τ) (Lvl := ℕ) c (W1 m c),
      Pipeline.unscopedBufs_split₀ cfgs 0 (fun w => (winFacts0.to₀).arr_unscoped w) c]
    unfold rest
    iintro ⟨Ha, HO, HY, HZ⟩
    imodintro
    isplitl [Ha HZ]
    · isplitl [Ha]
      · iapply (show (pdats m 0 c).arrays (fun w => (pdats m 0 c).arrAt w cfg0.N) ⊢ (Pipeline.arrBufs spec0 c (fun b => W1 m c (Proc.devRef .tc b)) : sProp 𝕄) from
          (Entails.of_eq (arrays_end0 m c))); iexact Ha
      · iapply (show (Pipeline.unscopedRest spec0 c (fun b => W0 m c (Proc.devRef .tc b)) : sProp 𝕄) ⊢ Pipeline.unscopedRest spec0 c (fun b => W1 m c (Proc.devRef .tc b)) from
          (Entails.of_eq (rest_end0 m c).symm)); iexact HZ
    isplitl [HO]
    · unfold Pipeline.Dat.owesAt Pipeline.owesWithin
      icases HO with ⟨%Wd, -, HO⟩; iexists Wd; iexact HO
    · iexact HY

theorem sharedIn_1 : Pipeline.SharedIn spec1 := sharedIn1

/-- The arrays of the call, at its end, are the buffers at the contents after it. -/
theorem arrays_end1 (c : Dev nD) : (dat1 (W1 m) c).arrays (fun w => (dat1 (W1 m) c).arrAt w cfg1.N)
    = Pipeline.arrBufs spec1 c (fun b => W2 m c (Proc.devRef .tc b)) :=
  ((dat1 (W1 m) c).arrBufs_eq_arrays sharedIn_1 arr_whole1 (fun w _ => rfl) _ _ fun w =>
    (Pipeline.withArrays_arr_shared spec1 c (W1 m c) _ ((dat1 (W1 m) c).arrAt_sharedIn sharedIn_1 (W1 m c) (fun w => A_eq1 (W1 m) c w) cfg1.N) w).symm).symm

/-- The buffers the call does not name keep their contents. -/
theorem rest_end1 (c : Dev nD) : (Pipeline.unscopedRest spec1 c (fun b => W2 m c (Proc.devRef .tc b)) : sProp 𝕄)
    = Pipeline.unscopedRest spec1 c (fun b => W1 m c (Proc.devRef .tc b)) := by
  unfold Pipeline.unscopedRest
  exact bigSep_congr fun b hb => by
    beta_reduce
    rw [show W2 m c (Proc.devRef .tc b) = W1 m c (Proc.devRef .tc b) from
      Pipeline.withArrays_of_ne spec1 c (W1 m c) _ b (fun w e => (Finset.mem_sdiff.mp hb).2 (Finset.mem_image.mpr ⟨w, Finset.mem_univ _, e⟩))]

set_option backward.isDefEq.respectTransparency.types false in
/-- The call as a segment of the program. -/
def seg_reg1 : RegionSeg (pcfgs (F := F)) adm (pdats m) () defs₀ Variants.none Lno lvno 1 where
  win := winFacts₀1
  block_pos := block_pos1
  stage_whole := stage_whole1
  K := PEmpty
  osem k := k.elim
  ho := Pipeline.OwnSemFacts.none spec1
  hbody c := (body_obligation1 (W1 m) c).loose
  hwaits := Pipeline.hwaits_of_owed_zero _ _ _ _ Lno lvno 1 fun _ _ => rfl
  pre c := iprop(StableHlo.held (c : Thread nD τ) (Pipeline.ucRefs τ sig) (W1 m c) ∗ rest c)
  post c := iprop(StableHlo.held (c : Thread nD τ) (Pipeline.ucRefs τ sig) (W2 m c) ∗ rest c)
  X c := iprop(∃ r, prngReg c r)
  Y c := iprop(∃ r, prngReg c r)
  Z c := Pipeline.unscopedRest (Ix := Unit) (Name := ℕ) (U := UR sig nD τ) (Lvl := ℕ) spec1 c (fun b => W1 m c (Proc.devRef .tc b))
  hentry c := by
    rw [← Pipeline.unscopedBufs_held (Ix := Unit) (Name := ℕ) (U := UR sig nD τ) (Lvl := ℕ) c (W1 m c),
      Pipeline.ownSems0_none, Pipeline.prefHeld_of_none _ rfl]
    unfold rest
    iintro ⟨⟨HU, HO, Hp⟩, -, -⟩
    ihave H := (Pipeline.arrays_of_unscopedBufs_shared (pcfgs (F := F)) adm (pdats m) (p := 1) winFacts₀1 sharedIn_1 arr_whole1 c (fun w _ => rfl)
      (fun b => W1 m c (Proc.devRef .tc b)) (fun w => A_eq1 (W1 m) c w)) $$ HU
    icases H with ⟨Ha, HZ⟩
    imodintro
    isplitl [Ha]; · iexact Ha
    isplitr; · iempintro
    isplitl [HO]
    · unfold Pipeline.Dat.owesAt Pipeline.owesWithin
      icases HO with ⟨%Wd, HO⟩; iexists Wd; isplitr; · ipureintro; exact fun _ _ => Or.inl trivial
      iexact HO
    isplitl [Hp]; · iexact Hp
    iexact HZ
  hin c := (show _ ⊢ iprop(Pipeline.scopedRest (Ix := Unit) (Name := ℕ) (U := UR sig nD τ) (Lvl := ℕ) (Val := Elt F) spec1 c ∗ (∃ r, prngReg c r)) from by
    iintro ⟨HX, -, Hr⟩
    isplitl [Hr]; · iexact Hr
    iexact HX).trans ((phi1_of c).trans (hin1 (W1 m) c))
  hout c := ((hout1 (W1 m) c).trans (phi1_back c)).trans (by
    rw [Pipeline.ownSems0_none]
    iintro ⟨Hr, HY⟩
    isplitl [HY]; · iexact HY
    isplitr; · iempintro
    iexact Hr)
  hexit c := by
    rw [← Pipeline.unscopedBufs_held (Ix := Unit) (Name := ℕ) (U := UR sig nD τ) (Lvl := ℕ) c (W2 m c),
      Pipeline.unscopedBufs_split₀ cfgs 1 (fun w => (winFacts₀1).arr_unscoped w) c]
    unfold rest
    iintro ⟨Ha, HO, HY, HZ⟩
    imodintro
    isplitl [Ha HZ]
    · isplitl [Ha]
      · iapply (show (pdats m 1 c).arrays (fun w => (pdats m 1 c).arrAt w cfg1.N) ⊢ (Pipeline.arrBufs spec1 c (fun b => W2 m c (Proc.devRef .tc b)) : sProp 𝕄) from
          (Entails.of_eq (arrays_end1 m c))); iexact Ha
      · iapply (show (Pipeline.unscopedRest spec1 c (fun b => W1 m c (Proc.devRef .tc b)) : sProp 𝕄) ⊢ Pipeline.unscopedRest spec1 c (fun b => W2 m c (Proc.devRef .tc b)) from
          (Entails.of_eq (rest_end1 m c).symm)); iexact HZ
    isplitl [HO]
    · unfold Pipeline.Dat.owesAt Pipeline.owesWithin
      icases HO with ⟨%Wd, -, HO⟩; iexists Wd; iexact HO
    · iexact HY

/-- The items of the program in order. -/
abbrev items (c : Dev nD) : List (Seg (pcfgs (F := F)) adm (pdats m) () defs₀ Variants.none Lno lvno) :=
  [.host (HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) rest),
   .region (seg_reg0 m), .region (seg_reg1 m),
   .host (HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W2 m) rest)]

set_option backward.isDefEq.respectTransparency.types false in
/-- Every run from memory `m` ends, with every unscoped buffer at the contents `WE` and every counter at zero. -/
theorem run_main (ρ : Dev nD → PrngReg) :
    θ_run defs (onTc (τ := τ) (main (F := F))) ⟨m, fun _ => 0, ρ⟩ (fun r => (∀ c : Dev nD, ∀ b : Ref sig .tc, b.isScoped = false →
      r.2.mem ((c.tc : Thread nD τ).loc b) = WE m c (Proc.devRef .tc b)) ∧ r.2.sem = fun _ => 0) := by
  refine Pipeline.θ_run_regions_kit_dev_sems (pcfgs (F := F)) adm (pdats m) () cellOf_inj emb₁ defs₀ Variants.none Lno lvno m ρ main
    (items m)
    (fun c Q => by
      rewrite [main_chain c, Seg.run_eq_chain,
        show (items m c).map Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [items, Seg.pipes_host, Seg.pipes_region, Seg.pipes_nil]; decide) (fun _ => 0) (fun _ _ => rfl) (fun _ => iprop(emp))
    (initOf (Pipeline.cells cfgs cellOf_inj) (Pipeline.launchToks cfgs cellOf_inj))
    (by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest c))
    (Tₙ := fun c => StableHlo.held (c : Thread nD τ) (Pipeline.ucRefs τ sig) (WE m c))
    (hch := fun c => ⟨.rfl, .rfl, .rfl, .rfl, sep_mono .rfl (by
      unfold rest; iintro ⟨HO, -⟩; iexact HO)⟩)
    (hinit := ?_) (QY := fun c s => ∀ b : Ref sig .tc, b.isScoped = false → s.mem ((c.tc : Thread nD τ).loc b) = WE m c (Proc.devRef .tc b))
    (hfin := fun c s' => ?_) (hQ := fun _ h hz => ⟨h, funext fun g => hz g (.inr (regions_no_unscoped g.2))⟩)
  · refine Pipeline.initEach Lno lvno fun c => ?_
    rw [← Pipeline.unscopedBufs_held (Ix := Unit) (Name := ℕ) (U := UR sig nD τ) (Lvl := ℕ) c (V0 m c)]
    unfold rest
    iintro ⟨⟨HU, -, HO, -, Hp, -⟩, -⟩
    imodintro
    isplitl [HU]; · iexact HU
    isplitl [HO]; · iexists _; iexact HO
    iexists _; iexact Hp
  · unfold StableHlo.held
    iintro ⟨Hh, HSI⟩
    ihave Hr := (pointsTo_read_all (Pipeline.ucRefs τ sig) (fun b => ((c : Thread nD τ).1, b)) (WE m c) s') $$ [Hh HSI]
    · isplitl [Hh] <;> iassumption
    icases Hr with ⟨%h, HSI⟩
    imodintro
    isplitr
    · ipureintro
      exact fun b hb => h (Proc.devRef .tc b) (Finset.mem_filter.mpr ⟨StableHlo.devRef_mem_tcRefs b, by
        intro h'; rw [show (Proc.devRef (τ := τ) .tc b).isScoped = b.isScoped from rfl, hb] at h'; exact Bool.false_ne_true h'⟩)
    · iexact HSI

end Cert.KernelIdeal.Hand
-- ==== Proof.ArgsKept.lean ====
/-
  The program keeps its arguments: nothing it writes is one of them.
-/
module

public import proofs.«01_k».proof.Proof.Run

@[expose] public section

set_option maxRecDepth 16384

noncomputable section

namespace Cert.KernelIdeal.Hand

open Idealize.ShloMosaic Idealize.ShloMosaic.TcCoe
open Idealize.SL Idealize.SL.Sem
open Cert.KernelIdeal.Gen

variable {F : FTy → Type} [FloatOps F]

variable (m : (ℓ : Loc nD τ sig) → Buf (Elt F) ℓ)

/-- A buffer no output window of call 0 writes is left as it was. -/
theorem W1_of (c : Dev nD) (r : Ref sig .tc) (h : ∀ w : Fin cfg0.W, (spec0 w).isOut = true → Pipeline.arrRef spec0 w ≠ r) :
    W1 m c (Proc.devRef .tc r) = W0 m c (Proc.devRef .tc r) := by
  by_cases hw : ∃ w, Pipeline.arrRef spec0 w = r
  · obtain ⟨w, rfl⟩ := hw
    have ho : (spec0 w).isOut = false := by
      cases hb : (spec0 w).isOut
      · rfl
      · exact absurd rfl (h w hb)
    exact (Pipeline.withArrays_arr_shared spec0 c (W0 m c) _ ((dat0 (W0 m) c).arrAt_sharedIn sharedIn_0 (W0 m c) (fun w => A_eq0 (W0 m) c w) cfg0.N) w).trans
      (((dat0 (W0 m) c).arrAt_in w ho cfg0.N).trans (A_eq0 (W0 m) c w))
  · exact Pipeline.withArrays_of_ne spec0 c (W0 m c) _ r (fun w e => hw ⟨w, e⟩)

/-- A buffer no output window of call 1 writes is left as it was. -/
theorem W2_of (c : Dev nD) (r : Ref sig .tc) (h : ∀ w : Fin cfg1.W, (spec1 w).isOut = true → Pipeline.arrRef spec1 w ≠ r) :
    W2 m c (Proc.devRef .tc r) = W1 m c (Proc.devRef .tc r) := by
  by_cases hw : ∃ w, Pipeline.arrRef spec1 w = r
  · obtain ⟨w, rfl⟩ := hw
    have ho : (spec1 w).isOut = false := by
      cases hb : (spec1 w).isOut
      · rfl
      · exact absurd rfl (h w hb)
    exact (Pipeline.withArrays_arr_shared spec1 c (W1 m c) _ ((dat1 (W1 m) c).arrAt_sharedIn sharedIn_1 (W1 m c) (fun w => A_eq1 (W1 m) c w) cfg1.N) w).trans
      (((dat1 (W1 m) c).arrAt_in w ho cfg1.N).trans (A_eq1 (W1 m) c w))
  · exact Pipeline.withArrays_of_ne spec1 c (W1 m c) _ r (fun w e => hw ⟨w, e⟩)

/-- A buffer written by no host statement and no output window ends as launched. -/
theorem WE_of (c : Dev nD) (r : Ref sig .tc) (h0 : r ∉ hostOps0_W) (h2 : r ∉ hostOps2_W)
    (hr0 : ∀ w : Fin cfg0.W, (spec0 w).isOut = true → Pipeline.arrRef spec0 w ≠ r)
    (hr1 : ∀ w : Fin cfg1.W, (spec1 w).isOut = true → Pipeline.arrRef spec1 w ≠ r) :
    WE m c (Proc.devRef .tc r) = m ((c : Thread nD τ).loc r) :=
  (StableHlo.after_of_writes_sub hostOps2 _ hostOps2_writes h2).trans <| (W2_of m c r hr1).trans <| (W1_of m c r hr0).trans <|
    (V1_of m c r h0).trans rfl

theorem WE_arg0 (c : Dev nD) : WE m c (Proc.devRef .tc main_arg0) = m ((c : Thread nD τ).loc main_arg0) :=
  WE_of m c main_arg0 (by decide) (by decide) (by decide) (by decide)
theorem WE_arg1 (c : Dev nD) : WE m c (Proc.devRef .tc main_arg1) = m ((c : Thread nD τ).loc main_arg1) :=
  WE_of m c main_arg1 (by decide) (by decide) (by decide) (by decide)
theorem WE_arg2 (c : Dev nD) : WE m c (Proc.devRef .tc main_arg2) = m ((c : Thread nD τ).loc main_arg2) :=
  WE_of m c main_arg2 (by decide) (by decide) (by decide) (by decide)
theorem WE_arg3 (c : Dev nD) : WE m c (Proc.devRef .tc main_arg3) = m ((c : Thread nD τ).loc main_arg3) :=
  WE_of m c main_arg3 (by decide) (by decide) (by decide) (by decide)
theorem WE_arg4 (c : Dev nD) : WE m c (Proc.devRef .tc main_arg4) = m ((c : Thread nD τ).loc main_arg4) :=
  WE_of m c main_arg4 (by decide) (by decide) (by decide) (by decide)
theorem WE_arg5 (c : Dev nD) : WE m c (Proc.devRef .tc main_arg5) = m ((c : Thread nD τ).loc main_arg5) :=
  WE_of m c main_arg5 (by decide) (by decide) (by decide) (by decide)
theorem WE_arg6 (c : Dev nD) : WE m c (Proc.devRef .tc main_arg6) = m ((c : Thread nD τ).loc main_arg6) :=
  WE_of m c main_arg6 (by decide) (by decide) (by decide) (by decide)
theorem WE_arg7 (c : Dev nD) : WE m c (Proc.devRef .tc main_arg7) = m ((c : Thread nD τ).loc main_arg7) :=
  WE_of m c main_arg7 (by decide) (by decide) (by decide) (by decide)
theorem WE_arg8 (c : Dev nD) : WE m c (Proc.devRef .tc main_arg8) = m ((c : Thread nD τ).loc main_arg8) :=
  WE_of m c main_arg8 (by decide) (by decide) (by decide) (by decide)
theorem WE_arg9 (c : Dev nD) : WE m c (Proc.devRef .tc main_arg9) = m ((c : Thread nD τ).loc main_arg9) :=
  WE_of m c main_arg9 (by decide) (by decide) (by decide) (by decide)

/-- Every run ends with the arguments as launched and every counter at zero. -/
theorem run_frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9)) ∧ r.2.sem = fun _ => 0) :=
  (θ_run defs _ _).mono (fun r h => ⟨fun c => ⟨(h.1 c main_arg0 rfl).trans (WE_arg0 m c), (h.1 c main_arg1 rfl).trans (WE_arg1 m c), (h.1 c main_arg2 rfl).trans (WE_arg2 m c), (h.1 c main_arg3 rfl).trans (WE_arg3 m c), (h.1 c main_arg4 rfl).trans (WE_arg4 m c), (h.1 c main_arg5 rfl).trans (WE_arg5 m c), (h.1 c main_arg6 rfl).trans (WE_arg6 m c), (h.1 c main_arg7 rfl).trans (WE_arg7 m c), (h.1 c main_arg8 rfl).trans (WE_arg8 m c), (h.1 c main_arg9 rfl).trans (WE_arg9 m c)⟩, h.2⟩) (run_main m ρ)

end Cert.KernelIdeal.Hand
-- ==== Proof.SameDefs.lean ====
/-
  The program read over words and the program read over the extended reals are one text: the bodies of the calls.
-/
module

public import proofs.«01_k».proof.Proof.Gen.Kernel
public import proofs.«01_k».proof.Proof.Gen.KernelIdeal

@[expose] public section

set_option maxHeartbeats 8000000
set_option maxRecDepth 100000
set_option backward.isDefEq.respectTransparency.types false

noncomputable section

namespace Cert.Proof

open Idealize.ShloMosaic Idealize.SL.Sem

variable {F : FTy → Type} [FloatOps F]

theorem defs₀_same : Cert.Kernel.defs₀ (F := F) = Cert.KernelIdeal.defs₀ (F := F) := by
  refine congrArg (Defs.onTc (nD := Cert.Kernel.nD) (τ := Cert.Kernel.τ) (sig := Cert.Kernel.sig) (Val := Elt F) (Λ := Cert.Kernel.Λ₀)) (funext fun l => ?_)
  match l with
  | 0 => rfl
  | 1 => rfl

theorem defs_same : Cert.Kernel.defs (F := F) = Cert.KernelIdeal.defs (F := F) :=
  congrArg (Pipeline.defs (Cert.Kernel.pcfgs (F := F))) defs₀_same

end Cert.Proof
-- ==== Proof.SameMainA.lean ====
/-
  The program read over words and the program read over the extended reals are one text: the first host statements.
-/
module

public import proofs.«01_k».proof.Proof.Gen.Kernel
public import proofs.«01_k».proof.Proof.Gen.KernelIdeal

@[expose] public section

set_option maxHeartbeats 8000000
set_option maxRecDepth 100000
set_option backward.isDefEq.respectTransparency.types false

noncomputable section

namespace Cert.Proof

open Idealize.ShloMosaic Idealize.SL.Sem

variable {F : FTy → Type} [FloatOps F]

theorem main_part0_same : Cert.Kernel.main_part0 (F := F) = Cert.KernelIdeal.main_part0 (F := F) := rfl

end Cert.Proof
-- ==== Proof.SameMainB.lean ====
/-
  The program read over words and the program read over the extended reals are one text: the other host statements.
-/
module

public import proofs.«01_k».proof.Proof.Gen.Kernel
public import proofs.«01_k».proof.Proof.Gen.KernelIdeal

@[expose] public section

set_option maxHeartbeats 8000000
set_option maxRecDepth 100000
set_option backward.isDefEq.respectTransparency.types false

noncomputable section

namespace Cert.Proof

open Idealize.ShloMosaic Idealize.SL.Sem

variable {F : FTy → Type} [FloatOps F]

theorem main_part1_same : Cert.Kernel.main_part1 (F := F) = Cert.KernelIdeal.main_part1 (F := F) := rfl

theorem main_part2_same : Cert.Kernel.main_part2 (F := F) = Cert.KernelIdeal.main_part2 (F := F) := rfl

end Cert.Proof
-- ==== Proof.Same.lean ====
/-
  The program read over words and the program read over the extended reals are one text, so what is proved of every run
  of one holds of every run of the other.
-/
module

public import proofs.«01_k».proof.Proof.SameDefs
public import proofs.«01_k».proof.Proof.SameMainA
public import proofs.«01_k».proof.Proof.SameMainB

@[expose] public section

set_option maxHeartbeats 8000000
set_option maxRecDepth 100000
set_option backward.isDefEq.respectTransparency.types false

noncomputable section

namespace Cert.Proof

open Idealize.ShloMosaic Idealize.SL.Sem

variable {F : FTy → Type} [FloatOps F]

universe u v w

/-- Three programs run one after another are determined by the three. -/
theorem three_same {A : Type u} {M : Type v → Type w} [Monad M] {a b c a' b' c' : A → M PUnit} (ha : a = a') (hb : b = b') (hc : c = c') :
    (fun d : A => do a d; b d; c d) = (fun d : A => do a' d; b' d; c' d) := by
  subst ha; subst hb; subst hc; rfl

/-- The two host programs are one. -/
theorem main_same : Cert.Kernel.main (F := F) = Cert.KernelIdeal.main (F := F) :=
  three_same main_part0_same main_part1_same main_part2_same

end Cert.Proof
-- ==== Proof.Base.lean ====
/-
  What the value modules share: the library's lemmas they use, and the zero offsets.
-/
module

public import Idealize.ShloMosaic.Lib.Pointwise
public import Idealize.ShloMosaic.Lib.Tactic
public import Idealize.ShloMosaic.Lib.Claim

@[expose] public section

theorem Cert.hz : (![0, 0] : Fin 2 → Nat) = fun _ => 0 := funext fun a => by fin_cases a <;> rfl
theorem Cert.hz4 : (![0, 0, 0, 0] : Fin 4 → Nat) = fun _ => 0 := funext fun a => by fin_cases a <;> rfl

end
-- ==== Proof.UpVal.lean ====
/-
  The MLP's up projection over the extended reals: the call's result is the product of the activations by the layer's
  weight matrix, the weights being read out of the slabs each device gathered.
-/
module

public import proofs.«01_k».proof.Proof.Gen.UpIdeal.Value
public import proofs.«01_k».proof.Proof.Gen.UpRefIdeal.Run
public import proofs.«01_k».proof.Proof.Base

@[expose] public section

noncomputable section

namespace Cert.UpIdeal.Hand

open Cert.UpIdeal Cert.UpIdeal.Gen Idealize.ShloMosaic Idealize.ShloMosaic.TcCoe Idealize.SL.Sem
open Idealize.ShloMosaic.Pipeline (Dat)

variable (m : (ℓ : Loc nD τ sig) → Buf (Elt Ideal) ℓ)

/-- The product: row `i 0` of the activations by column `i 1` of layer 1's weights. -/
def prod (x : FVec Ideal S4096x1024 .f32) (w : FVec Ideal S2x1024x4096 .f32) : FVec Ideal S4096x4096 .bf16 := fun i =>
  ∑ k : Fin 1024, x (ix2 (i 0) k) * w (ix3 1 k (i 1))

/-- The activations as the call reads them. -/
theorem V_x (c : Dev nD) (j : S4096x1024.Idx) : V m c main_v0 j = m (c.tc.loc main_arg0) j := by
  unfold_abbrev_sides
  after_results
  rfl

/-- The slabs as the call reads them: slab `s` holds columns `512 s …` of each layer. -/
theorem V_w (c : Dev nD) (s : Fin 8) (l : Fin 2) (k : Fin 1024) (n : Fin 512) :
    V m c main_v3 (ix4 s l k n) = m (c.tc.loc main_arg1) (ix3 l k ⟨512 * s.val + n.val, by omega⟩) := by
  unfold_abbrev_sides
  after_results
  pointwise
  exact congrArg (m (c, Proc.tc.devRef main_arg1)) (congrArg (ix3 l k) (Fin.ext (by show s.val * 512 + n.val = 512 * s.val + n.val; omega)))

/-- What one grid point stores. -/
theorem out_A (c : Dev nD) (i : grid0.Coords) (a3 : Memref sig .tc .vmem S2048x1024 .bf16) (h3 : a3.IsWhole)
    (a4 : Memref sig .tc .vmem S2x1x1024x512 .bf16) (h4 : a4.IsWhole) (a5 : Memref sig .tc .vmem S2048x1024 .bf16) (h5 : a5.IsWhole)
    (a6 : Memref sig .tc .vmem S2048x1024 .f32) (h6 : a6.IsWhole) (x0 : Vec Ideal S2048x1024 .bf16) (x1 : Vec Ideal S2x1x1024x512 .bf16) :
    out0_A_2 c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  rw [View.canon_unit_zero hz]
  simp only [View.readAt_eq_ld, h3.read_unread, h4.read_unread, View.ld_unit_zero (S := S2048x1024) hz, View.ld_unit_zero (S := S2x1x1024x512) hz4]

/-- The stored block at an index. -/
theorem pay_apply (x0 : Vec Ideal S2048x1024 .bf16) (x1 : Vec Ideal S2x1x1024x512 .bf16) (p : Fin 2048) (q : Fin 1024) :
    k0_pay1 x0 x1 (ix2 p q) = ∑ k : Fin 1024, x0 (ix2 p k) * x1 (ix4 ⟨q.val / 512, by omega⟩ 0 k ⟨q.val % 512, by omega⟩) := by
  pointwise [k0_pay1]
  refine Finset.sum_congr rfl fun k _ => ?_
  congr 1
  split
  next h =>
    have e0 : (⟨q.val / 512, by omega⟩ : Fin 2) = 0 := Fin.ext (Nat.div_eq_of_lt h)
    have e1 : (⟨q.val % 512, by omega⟩ : Fin 512) = ⟨q.val, h⟩ := Fin.ext (Nat.mod_eq_of_lt h)
    rw [e0, e1]
  next h =>
    have e0 : (⟨q.val / 512, by omega⟩ : Fin 2) = 1 := Fin.ext (by show q.val / 512 = 1; omega)
    have e1 : (⟨q.val % 512, by omega⟩ : Fin 512) = ⟨q.val - 512, by omega⟩ := Fin.ext (by show q.val % 512 = q.val - 512; omega)
    rw [e0, e1]

/-- Which blocks grid point `t` reads and writes. -/
theorem idx0 : ∀ t : Fin cfg0.N, win0_0.index t (0 : Fin 2) = t.val / 4 ∧ win0_0.index t (1 : Fin 2) = 0 :=
  (by decide +kernel : ∀ t : Fin grid0.N, _)
theorem idx1 : ∀ t : Fin cfg0.N, win0_1.index t (0 : Fin 4) = t.val % 4 ∧ win0_1.index t (1 : Fin 4) = 1
    ∧ win0_1.index t (2 : Fin 4) = 0 ∧ win0_1.index t (3 : Fin 4) = 0 :=
  (by decide +kernel : ∀ t : Fin grid0.N, _)
theorem idx2 : ∀ t : Fin cfg0.N, win0_2.index t (0 : Fin 2) = t.val / 4 ∧ win0_2.index t (1 : Fin 2) = t.val % 4 :=
  (by decide +kernel : ∀ t : Fin grid0.N, _)

theorem lt_N (t : Fin cfg0.N) : t.val < 8 := lt_of_lt_of_eq t.isLt (show cfg0.N = 8 from N_0)

/-- The activations' block at a grid point. -/
theorem iblk0_apply (c : Dev nD) (t : Fin cfg0.N) (p : Fin 2048) (k : Fin 1024) :
    iblk m c 0 t (ix2 p k) = m (c.tc.loc main_arg0) (ix2 ⟨2048 * (t.val / 4) + p.val, by have := lt_N t; omega⟩ k) := by
  refine Eq.trans ?_ (V_x m c _)
  show V m c main_v0 _ = V m c main_v0 _
  congr 1
  obtain ⟨e0, e1⟩ := idx0 t
  funext a
  apply Fin.ext
  match a with
  | ⟨0, _⟩ => show win0_0.index t (0 : Fin 2) * 2048 + 1 * p.val = 2048 * (t.val / 4) + p.val; rw [e0]; omega
  | ⟨1, _⟩ => show win0_0.index t (1 : Fin 2) * 1024 + 1 * k.val = k.val; rw [e1]; omega

/-- The slabs' block at a grid point. -/
theorem iblk1_apply (c : Dev nD) (t : Fin cfg0.N) (s : Fin 2) (k : Fin 1024) (n : Fin 512) :
    iblk m c 1 t (ix4 s 0 k n) = m (c.tc.loc main_arg1) (ix3 1 k ⟨1024 * (t.val % 4) + 512 * s.val + n.val, by omega⟩) := by
  refine Eq.trans ?_ ((V_w m c ⟨2 * (t.val % 4) + s.val, by omega⟩ 1 k n).trans
    (congrArg (m (c.tc.loc main_arg1)) (congrArg (ix3 1 k) (Fin.ext (by
      show 512 * (2 * (t.val % 4) + s.val) + n.val = 1024 * (t.val % 4) + 512 * s.val + n.val; omega)))))
  show V m c main_v3 _ = V m c main_v3 _
  congr 1
  obtain ⟨e0, e1, e2, e3⟩ := idx1 t
  funext a
  apply Fin.ext
  match a with
  | ⟨0, _⟩ => show win0_1.index t (0 : Fin 4) * 2 + 1 * s.val = 2 * (t.val % 4) + s.val; rw [e0]; omega
  | ⟨1, _⟩ => show win0_1.index t (1 : Fin 4) * 1 + 1 * 0 = 1; rw [e1]
  | ⟨2, _⟩ => show win0_1.index t (2 : Fin 4) * 1024 + 1 * k.val = k.val; rw [e2]; omega
  | ⟨3, _⟩ => show win0_1.index t (3 : Fin 4) * 512 + 1 * n.val = n.val; rw [e3]; omega

/-- The result's array as the claim names it. -/
abbrev result (c : Dev nD) : Buf (Elt Ideal) ((c : Thread nD τ).loc main_v4) := prod (m (c.tc.loc main_arg0)) (m (c.tc.loc main_arg1))

/-- What grid point `t` writes back is its block of the product. -/
theorem flushed_eq (c : Dev nD) (t : Fin cfg0.N) :
    (dats m 0 c).flushed 2 t = ((cfg0.win 2).blk t).view.read (Elt Ideal)
      (result m c) := by
  rw [Value.flushed2_A, out_A]
  funext y
  obtain ⟨e0, e1⟩ := idx2 t
  have ht := lt_N t
  have hy0 : (y 0).val < 2048 := (y 0).isLt
  have hy1 : (y 1).val < 1024 := (y 1).isLt
  have hl : (k0_pay1 (iblk m c 0 t) (iblk m c 1 t) : Vec Ideal S2048x1024 .bf16) (ix2 ⟨(y 0).val, hy0⟩ ⟨(y 1).val, hy1⟩)
      = result m c (((cfg0.win 2).blk t).view.emb y) := by
    rw [pay_apply]
    unfold result prod
    refine Finset.sum_congr rfl fun k _ => ?_
    have a0 : (((cfg0.win 2).blk t).view.emb y 0).val = 2048 * (t.val / 4) + (y 0).val := by
      show win0_2.index t (0 : Fin 2) * 2048 + 1 * (y 0).val = _; rw [e0]; omega
    have a1 : (((cfg0.win 2).blk t).view.emb y 1).val = 1024 * (t.val % 4) + (y 1).val := by
      show win0_2.index t (1 : Fin 2) * 1024 + 1 * (y 1).val = _; rw [e1]; omega
    rw [iblk0_apply, iblk1_apply]
    congr 1
    · exact congrArg (m (c.tc.loc main_arg0)) (congrArg (fun r => ix2 r k) (Fin.ext a0.symm))
    · exact congrArg (m (c.tc.loc main_arg1)) (congrArg (ix3 1 k) (Fin.ext (by
        refine Eq.trans ?_ a1.symm
        show 1024 * (t.val % 4) + 512 * ((y 1).val / 512) + (y 1).val % 512 = _; omega)))
  refine Eq.trans ?_ hl
  exact congrArg (k0_pay1 (iblk m c 0 t) (iblk m c 1 t) : Vec Ideal S2048x1024 .bf16) (funext fun a => by match a with | ⟨0, _⟩ => rfl | ⟨1, _⟩ => rfl)

/-- The result array is the product. -/
theorem final (c : Dev nD) : (dats m 0 c).arrAt 2 cfg0.N = result m c :=
  (dats m 0 c).arrAt_eq_of_cover 2 _ (fun t _ => flushed_eq m c t) fun i => by
    have h0 : (i 0).val < 4096 := (i 0).isLt
    have h1 : (i 1).val < 4096 := (i 1).isLt
    have hN : cfg0.N = 8 := N_0
    let t : Fin cfg0.N := ⟨4 * ((i 0).val / 2048) + (i 1).val / 1024, by omega⟩
    obtain ⟨e0, e1⟩ := idx2 t
    have tv : t.val = 4 * ((i 0).val / 2048) + (i 1).val / 1024 := rfl
    refine ⟨t, flush0_2 t, ?_⟩
    show i ∈ ((View.whole main_v4).slice (win0_2.rect t)).set
    rw [View.set_slice_whole, Rect.mem_set_unit]
    intro a
    match a with
    | ⟨0, _⟩ => show win0_2.index t (0 : Fin 2) * 2048 ≤ (i 0).val ∧ (i 0).val < win0_2.index t (0 : Fin 2) * 2048 + 2048; omega
    | ⟨1, _⟩ => show win0_2.index t (1 : Fin 2) * 1024 ≤ (i 1).val ∧ (i 1).val < win0_2.index t (1 : Fin 2) * 1024 + 1024; omega

end Cert.UpIdeal.Hand

namespace Cert.UpRefIdeal.Hand

open Cert.UpRefIdeal Cert.UpRefIdeal.Gen Idealize.ShloMosaic Idealize.ShloMosaic.TcCoe Idealize.SL.Sem

/-- The reference's run: the same result, the arguments kept. -/
theorem run (m : (ℓ : Loc nD τ sig) → Buf (Elt Ideal) ℓ) (g : Dev nD → PrngReg) :
    θ_run defs (onTc (τ := τ) (main (F := Ideal))) ⟨m, fun _ => 0, g⟩ fun r => ∀ c : Dev nD,
    r.2.mem (c.tc.loc main_v3) = Cert.UpIdeal.Hand.prod (m (c.tc.loc main_arg0)) (m (c.tc.loc main_arg1))
    ∧ r.2.mem (c.tc.loc main_arg0) = m (c.tc.loc main_arg0)
    ∧ r.2.mem (c.tc.loc main_arg1) = m (c.tc.loc main_arg1) := by
  refine (θ_run defs _ _).mono (fun _ h c => ⟨(h c).1.trans ?_, (h c).2⟩) (Value.run m g)
  generalize m (c.tc.loc main_arg0) = x0
  generalize m (c.tc.loc main_arg1) = x1
  funext i
  pointwise [Cert.UpIdeal.Hand.prod]

end Cert.UpRefIdeal.Hand

end
-- ==== Proof.DownDxVal.lean ====
/-
  The gradient of the MLP's hidden pre-activation over the extended reals: the call's result is the output's gradient by
  the transposed weight matrix, times the derivative of the squared rectifier.
-/
module

public import proofs.«01_k».proof.Proof.Gen.DownDxIdeal.Value
public import proofs.«01_k».proof.Proof.Gen.DownDxRefIdeal.Run
public import proofs.«01_k».proof.Proof.Base

@[expose] public section

noncomputable section

namespace Cert.DownDxIdeal.Hand

open Cert.DownDxIdeal Cert.DownDxIdeal.Gen Idealize.ShloMosaic Idealize.ShloMosaic.TcCoe Idealize.SL.Sem
open Idealize.ShloMosaic.Pipeline (Dat)

variable (m : (ℓ : Loc nD τ sig) → Buf (Elt Ideal) ℓ)

/-- The gradient: row `i 0` of the output's gradient by row `i 1` of layer 1's weights, times `2 max(p, 0)`. -/
def grad (g : FVec Ideal S4096x1024 .f32) (p : FVec Ideal S4096x4096 .f32) (w : FVec Ideal S2x4096x1024 .f32) : FVec Ideal S4096x4096 .bf16 := fun i =>
  (∑ k : Fin 1024, g (ix2 (i 0) k) * w (ix3 1 (i 1) k)) * (Ideal.ofBits .f32 0x40000000#32 * max (p i) 0)

/-- The output's gradient as the call reads it. -/
theorem V_g (c : Dev nD) (j : S4096x1024.Idx) : V m c main_v0 j = m (c.tc.loc main_arg0) j := by
  unfold_abbrev_sides
  after_results
  rfl

/-- The pre-activation as the call reads it. -/
theorem V_p (c : Dev nD) (j : S4096x4096.Idx) : V m c main_v4 j = m (c.tc.loc main_arg1) j := by
  unfold_abbrev_sides
  after_results
  rfl

/-- The slabs as the call reads them: slab `s` holds rows `512 s …` of each layer. -/
theorem V_w (c : Dev nD) (s : Fin 8) (l : Fin 2) (n : Fin 512) (k : Fin 1024) :
    V m c main_v3 (ix4 s l n k) = m (c.tc.loc main_arg2) (ix3 l ⟨512 * s.val + n.val, by omega⟩ k) := by
  unfold_abbrev_sides
  after_results
  pointwise
  exact congrArg (m (c, Proc.tc.devRef main_arg2)) (congrArg (fun r => ix3 l r k) (Fin.ext (by show s.val * 512 + n.val = 512 * s.val + n.val; omega)))

/-- What one grid point stores. -/
theorem out_A (c : Dev nD) (i : grid0.Coords) (a3 : Memref sig .tc .vmem S2048x1024 .bf16) (h3 : a3.IsWhole)
    (a4 : Memref sig .tc .vmem S1x1x512x1024 .bf16) (h4 : a4.IsWhole) (a5 : Memref sig .tc .vmem S2048x512 .bf16) (h5 : a5.IsWhole)
    (a6 : Memref sig .tc .vmem S2048x512 .bf16) (h6 : a6.IsWhole) (a7 : Memref sig .tc .vmem S2048x512 .f32) (h7 : a7.IsWhole)
    (x0 : Vec Ideal S2048x1024 .bf16) (x1 : Vec Ideal S1x1x512x1024 .bf16) (x2 : Vec Ideal S2048x512 .bf16) :
    out0_A_3 c i a3 h3 a4 h4 a5 h5 a6 h6 a7 h7 x0 x1 x2 = k0_pay1 x0 x1 x2 := by
  unfold out0_A_3
  rw [View.read_writes_eq_canon _ _ _ (cover0_A_3 c i a3 h3 a4 h4 a5 h5 a6 h6 a7 h7 x0 x1 x2)]
  unfold kernelRun0_A
  dsimp only
  rw [View.canon_unit_zero hz]
  simp only [View.readAt_eq_ld, h3.read_unread, h4.read_unread, h5.read_unread, View.ld_unit_zero (S := S2048x1024) hz,
    View.ld_unit_zero (S := S2048x512) hz, View.ld_unit_zero (S := S1x1x512x1024) hz4]

/-- The stored block at an index. -/
theorem pay_apply (x0 : Vec Ideal S2048x1024 .bf16) (x1 : Vec Ideal S1x1x512x1024 .bf16) (x2 : Vec Ideal S2048x512 .bf16) (p : Fin 2048) (q : Fin 512) :
    k0_pay1 x0 x1 x2 (ix2 p q) = (∑ k : Fin 1024, x0 (ix2 p k) * x1 (ix4 0 0 q k)) * (Ideal.ofBits .bf16 0x4000#16 * max (x2 (ix2 p q)) 0) := by
  pointwise [k0_pay1]
  done

/-- Which blocks grid point `t` reads and writes. -/
theorem idx0 : ∀ t : Fin cfg0.N, win0_0.index t (0 : Fin 2) = t.val / 8 ∧ win0_0.index t (1 : Fin 2) = 0 :=
  (by decide +kernel : ∀ t : Fin grid0.N, _)
theorem idx1 : ∀ t : Fin cfg0.N, win0_1.index t (0 : Fin 4) = t.val % 8 ∧ win0_1.index t (1 : Fin 4) = 1
    ∧ win0_1.index t (2 : Fin 4) = 0 ∧ win0_1.index t (3 : Fin 4) = 0 :=
  (by decide +kernel : ∀ t : Fin grid0.N, _)
theorem idx2 : ∀ t : Fin cfg0.N, win0_2.index t (0 : Fin 2) = t.val / 8 ∧ win0_2.index t (1 : Fin 2) = t.val % 8 :=
  (by decide +kernel : ∀ t : Fin grid0.N, _)
theorem idx3 : ∀ t : Fin cfg0.N, win0_3.index t (0 : Fin 2) = t.val / 8 ∧ win0_3.index t (1 : Fin 2) = t.val % 8 :=
  (by decide +kernel : ∀ t : Fin grid0.N, _)

theorem lt_N (t : Fin cfg0.N) : t.val < 16 := lt_of_lt_of_eq t.isLt (show cfg0.N = 16 from N_0)

/-- The gradient's block at a grid point. -/
theorem iblk0_apply (c : Dev nD) (t : Fin cfg0.N) (p : Fin 2048) (k : Fin 1024) :
    iblk m c 0 t (ix2 p k) = m (c.tc.loc main_arg0) (ix2 ⟨2048 * (t.val / 8) + p.val, by have := lt_N t; omega⟩ k) := by
  refine Eq.trans ?_ (V_g m c _)
  show V m c main_v0 _ = V m c main_v0 _
  congr 1
  obtain ⟨e0, e1⟩ := idx0 t
  funext a
  apply Fin.ext
  match a with
  | ⟨0, _⟩ => show win0_0.index t (0 : Fin 2) * 2048 + 1 * p.val = 2048 * (t.val / 8) + p.val; rw [e0]; omega
  | ⟨1, _⟩ => show win0_0.index t (1 : Fin 2) * 1024 + 1 * k.val = k.val; rw [e1]; omega

/-- The pre-activation's block at a grid point. -/
theorem iblk2_apply (c : Dev nD) (t : Fin cfg0.N) (p : Fin 2048) (k : Fin 512) :
    iblk m c 2 t (ix2 p k) = m (c.tc.loc main_arg1) (ix2 ⟨2048 * (t.val / 8) + p.val, by have := lt_N t; omega⟩ ⟨512 * (t.val % 8) + k.val, by omega⟩) := by
  refine Eq.trans ?_ (V_p m c _)
  show V m c main_v4 _ = V m c main_v4 _
  congr 1
  obtain ⟨e0, e1⟩ := idx2 t
  funext a
  apply Fin.ext
  match a with
  | ⟨0, _⟩ => show win0_2.index t (0 : Fin 2) * 2048 + 1 * p.val = 2048 * (t.val / 8) + p.val; rw [e0]; omega
  | ⟨1, _⟩ => show win0_2.index t (1 : Fin 2) * 512 + 1 * k.val = 512 * (t.val % 8) + k.val; rw [e1]; omega

/-- The slab's block at a grid point. -/
theorem iblk1_apply (c : Dev nD) (t : Fin cfg0.N) (n : Fin 512) (k : Fin 1024) :
    iblk m c 1 t (ix4 0 0 n k) = m (c.tc.loc main_arg2) (ix3 1 ⟨512 * (t.val % 8) + n.val, by omega⟩ k) := by
  refine Eq.trans ?_ (V_w m c ⟨t.val % 8, by omega⟩ 1 n k)
  show V m c main_v3 _ = V m c main_v3 _
  congr 1
  obtain ⟨e0, e1, e2, e3⟩ := idx1 t
  funext a
  apply Fin.ext
  match a with
  | ⟨0, _⟩ => show win0_1.index t (0 : Fin 4) * 1 + 1 * 0 = t.val % 8; rw [e0]; omega
  | ⟨1, _⟩ => show win0_1.index t (1 : Fin 4) * 1 + 1 * 0 = 1; rw [e1]
  | ⟨2, _⟩ => show win0_1.index t (2 : Fin 4) * 512 + 1 * n.val = n.val; rw [e2]; omega
  | ⟨3, _⟩ => show win0_1.index t (3 : Fin 4) * 1024 + 1 * k.val = k.val; rw [e3]; omega

/-- The number two is one word's value in both formats. -/
theorem two_eq : Ideal.ofBits .bf16 0x4000#16 = Ideal.ofBits .f32 0x40000000#32 := by
  simp [Ideal.ofBits, Ideal.ieee]
  rw [← EReal.coe_mul, ← EReal.coe_mul]
  norm_num

/-- What grid point `t` writes back is its block of the gradient. -/
theorem flushed_eq (c : Dev nD) (t : Fin cfg0.N) :
    (dats m 0 c).flushed 3 t = ((cfg0.win 3).blk t).view.read (Elt Ideal)
      (grad (m (c.tc.loc main_arg0)) (m (c.tc.loc main_arg1)) (m (c.tc.loc main_arg2))) := by
  rw [Value.flushed3_A, out_A]
  funext y
  obtain ⟨e0, e1⟩ := idx3 t
  have ht := lt_N t
  have hy0 : (y 0).val < 2048 := (y 0).isLt
  have hy1 : (y 1).val < 512 := (y 1).isLt
  have hl : (k0_pay1 (iblk m c 0 t) (iblk m c 1 t) (iblk m c 2 t) : Vec Ideal S2048x512 .bf16) (ix2 ⟨(y 0).val, hy0⟩ ⟨(y 1).val, hy1⟩)
      = grad (m (c.tc.loc main_arg0)) (m (c.tc.loc main_arg1)) (m (c.tc.loc main_arg2)) (((cfg0.win 3).blk t).view.emb y) := by
    have a0 : (((cfg0.win 3).blk t).view.emb y 0).val = 2048 * (t.val / 8) + (y 0).val := by
      show win0_3.index t (0 : Fin 2) * 2048 + 1 * (y 0).val = _; rw [e0]; omega
    have a1 : (((cfg0.win 3).blk t).view.emb y 1).val = 512 * (t.val % 8) + (y 1).val := by
      show win0_3.index t (1 : Fin 2) * 512 + 1 * (y 1).val = _; rw [e1]; omega
    rw [pay_apply, two_eq, iblk2_apply]
    unfold grad
    congr 1
    · refine Finset.sum_congr rfl fun k _ => ?_
      rw [iblk0_apply, iblk1_apply]
      congr 1
      · exact congrArg (m (c.tc.loc main_arg0)) (congrArg (fun r => ix2 r k) (Fin.ext a0.symm))
      · exact congrArg (m (c.tc.loc main_arg2)) (congrArg (fun r => ix3 1 r k) (Fin.ext a1.symm))
    · congr 2
      refine congrArg (m (c.tc.loc main_arg1)) (funext fun a => Fin.ext ?_)
      match a with
      | ⟨0, _⟩ => exact a0.symm
      | ⟨1, _⟩ => exact a1.symm
  refine Eq.trans ?_ hl
  exact congrArg (k0_pay1 (iblk m c 0 t) (iblk m c 1 t) (iblk m c 2 t) : Vec Ideal S2048x512 .bf16) (funext fun a => by match a with | ⟨0, _⟩ => rfl | ⟨1, _⟩ => rfl)

/-- The result array is the gradient. -/
theorem final (c : Dev nD) : (dats m 0 c).arrAt 3 cfg0.N
    = grad (m (c.tc.loc main_arg0)) (m (c.tc.loc main_arg1)) (m (c.tc.loc main_arg2)) :=
  (dats m 0 c).arrAt_eq_of_cover 3 _ (fun t _ => flushed_eq m c t) fun i => by
    have h0 : (i 0).val < 4096 := (i 0).isLt
    have h1 : (i 1).val < 4096 := (i 1).isLt
    have hN : cfg0.N = 16 := N_0
    let t : Fin cfg0.N := ⟨8 * ((i 0).val / 2048) + (i 1).val / 512, by omega⟩
    obtain ⟨e0, e1⟩ := idx3 t
    have tv : t.val = 8 * ((i 0).val / 2048) + (i 1).val / 512 := rfl
    refine ⟨t, flush0_3 t, ?_⟩
    show i ∈ ((View.whole main_v5).slice (win0_3.rect t)).set
    rw [View.set_slice_whole, Rect.mem_set_unit]
    intro a
    match a with
    | ⟨0, _⟩ => show win0_3.index t (0 : Fin 2) * 2048 ≤ (i 0).val ∧ (i 0).val < win0_3.index t (0 : Fin 2) * 2048 + 2048; omega
    | ⟨1, _⟩ => show win0_3.index t (1 : Fin 2) * 512 ≤ (i 1).val ∧ (i 1).val < win0_3.index t (1 : Fin 2) * 512 + 512; omega

/-- The gradient's array as the claim names it. -/
abbrev result (c : Dev nD) : Buf (Elt Ideal) ((c : Thread nD τ).loc main_v5) :=
  grad (m (c.tc.loc main_arg0)) (m (c.tc.loc main_arg1)) (m (c.tc.loc main_arg2))

end Cert.DownDxIdeal.Hand

namespace Cert.DownDxRefIdeal.Hand

open Cert.DownDxRefIdeal Cert.DownDxRefIdeal.Gen Idealize.ShloMosaic Idealize.ShloMosaic.TcCoe Idealize.SL.Sem

/-- The reference's run: the result is the gradient (where the pre-activation is not positive, both are zero). -/
theorem run (m : (ℓ : Loc nD τ sig) → Buf (Elt Ideal) ℓ) (g : Dev nD → PrngReg) :
    θ_run defs (onTc (τ := τ) (main (F := Ideal))) ⟨m, fun _ => 0, g⟩ fun r => ∀ c : Dev nD,
    r.2.mem (c.tc.loc main_v14) = Cert.DownDxIdeal.Hand.grad
      (m (c.tc.loc main_arg0)) (m (c.tc.loc main_arg1)) (m (c.tc.loc main_arg2))
    ∧ r.2.mem (c.tc.loc main_arg0) = m (c.tc.loc main_arg0)
    ∧ r.2.mem (c.tc.loc main_arg1) = m (c.tc.loc main_arg1)
    ∧ r.2.mem (c.tc.loc main_arg2) = m (c.tc.loc main_arg2) := by
  refine (θ_run defs _ _).mono (fun _ h c => ⟨(h c).1.trans ?_, (h c).2⟩) (Value.run m g)
  generalize m (c.tc.loc main_arg0) = x
  generalize m (c.tc.loc main_arg1) = p
  generalize m (c.tc.loc main_arg2) = w
  funext i
  pointwise [Cert.DownDxIdeal.Hand.grad]
  split
  next => rfl
  next h => rw [max_eq_right (not_lt.1 h), mul_zero, mul_zero]

end Cert.DownDxRefIdeal.Hand

end
-- ==== Proof.BlockSum.lean ====
/-
  A sum of 4096 terms is the sum of its four blocks of 1024, added first to last.
-/
module

public import Idealize.ShloMosaic.Lib.Pointwise

@[expose] public section

namespace Cert.Hand

/-- A sum over 4096 positions, block by block. -/
theorem sum_four {M : Type} [AddCommMonoid M] (f : Fin 4096 → M) :
    ∑ k, f k = ∑ k : Fin 1024, f ⟨1024 * 0 + k.val, by omega⟩ + ∑ k : Fin 1024, f ⟨1024 * 1 + k.val, by omega⟩
      + ∑ k : Fin 1024, f ⟨1024 * 2 + k.val, by omega⟩ + ∑ k : Fin 1024, f ⟨1024 * 3 + k.val, by omega⟩ := by
  have e : ∑ k, f k = ∑ s : Fin 4, ∑ k : Fin 1024, f ⟨1024 * s.val + k.val, by omega⟩ := by
    rw [← Fintype.sum_prod_type']
    refine (Equiv.sum_comp (finProdFinEquiv (m := 4) (n := 1024)) f).symm.trans (Finset.sum_congr rfl fun x _ => ?_)
    exact congrArg f (Fin.ext (by show x.2.val + 1024 * x.1.val = 1024 * x.1.val + x.2.val; omega))
  rw [e, Fin.sum_univ_four]
  rfl

/-- A sum over 1024 positions, half by half. -/
theorem sum_two {M : Type} [AddCommMonoid M] (f : Fin 1024 → M) :
    ∑ k, f k = ∑ k : Fin 512, f ⟨k.val, by omega⟩ + ∑ k : Fin 512, f ⟨512 + k.val, by omega⟩ :=
  Fin.sum_univ_add (a := 512) (b := 512) f

end Cert.Hand
-- ==== Proof.DownDwVal.lean ====
/-
  The gradient of the MLP's second weight matrix over the extended reals: the squared rectifier of the pre-activation,
  transposed, by the output's gradient. The call adds four blocks of tokens one after the other.
-/
module

public import proofs.«01_k».proof.Proof.Gen.DownDwIdeal.Value
public import proofs.«01_k».proof.Proof.Gen.DownDwRefIdeal.Run
public import proofs.«01_k».proof.Proof.BlockSum
public import proofs.«01_k».proof.Proof.Base

@[expose] public section

noncomputable section

namespace Cert.DownDwIdeal.Hand

open Cert.DownDwIdeal Cert.DownDwIdeal.Gen Idealize.ShloMosaic Idealize.ShloMosaic.TcCoe Idealize.SL.Sem
open Idealize.ShloMosaic.Pipeline (Dat)

variable (c : Dev nD) (i : grid0.Coords) (a0 : Memref sig .tc .vmem S1024x1024 .bf16) (h0 : a0.IsWhole) (a1 : Memref sig .tc .vmem S1024x1024 .bf16) (h1 : a1.IsWhole) (a2 : Memref sig .tc .vmem S1024x1024 .bf16) (h2 : a2.IsWhole) (a3 : Memref sig .tc .vmem S1024x1024 .f32) (h3 : a3.IsWhole)

/-- What the first point of a run leaves in the accumulator. -/
theorem sout_A
    (hc0 : cond0_0 i) (hc1 : ¬cond0_1 i) (hc2 : ¬cond0_2 i) (x0 : Vec Ideal S1024x1024 .bf16) (x1 : Vec Ideal S1024x1024 .bf16) :
    sout0_A_0 c i a0 h0 a1 h1 a2 h2 a3 h3 hc0 hc1 hc2 x0 x1 = k0_pay2 x0 x1 := by
  unfold sout0_A_0
  rw [View.read_writes_eq_canon _ _ _ (scover0_A_0 c i a0 h0 a1 h1 a2 h2 a3 h3 hc0 hc1 hc2 x0 x1)]
  unfold kernelRun0_A
  dsimp only
  rw [View.canon_unit_zero hz]
  simp only [View.readAt_eq_ld, h0.read_unread, h1.read_unread, h3.read_unread, View.ld_unit_zero (S := S1024x1024) hz]

/-- What a middle point leaves in it. -/
theorem sout_B
    (hc0 : ¬cond0_0 i) (hc1 : cond0_1 i) (hc2 : ¬cond0_2 i) (x0 : Vec Ideal S1024x1024 .bf16) (x1 : Vec Ideal S1024x1024 .bf16) (xs0 : Vec Ideal S1024x1024 .f32) :
    sout0_B_0 c i a0 h0 a1 h1 a2 h2 a3 h3 hc0 hc1 hc2 x0 x1 xs0 = k0_pay3 x0 x1 xs0 := by
  unfold sout0_B_0
  rw [View.read_writes_eq_canon _ _ _ (scover0_B_0 c i a0 h0 a1 h1 a2 h2 a3 h3 hc0 hc1 hc2 x0 x1 xs0)]
  unfold kernelRun0_B
  dsimp only
  rw [View.canon_unit_zero hz]
  simp only [View.readAt_eq_ld, h0.read_unread, h1.read_unread, h3.read_unread, View.ld_unit_zero (S := S1024x1024) hz]

variable (m : (ℓ : Loc nD τ sig) → Buf (Elt Ideal) ℓ)

theorem acc_first (c : Dev nD) (t : Fin cfg0.N) (h : t.val % 4 = 0) :
    (outsAt0 m c t.val t.isLt).2 = k0_pay2 (iblk m c 0 t) (iblk m c 1 t) := by
  rw [outsAt0_A m c t h (by omega) (by omega)]
  dsimp only
  rw [sout_A]

theorem acc_next (c : Dev nD) (t : Fin cfg0.N) (h : 1 ≤ t.val % 4 ∧ t.val % 4 ≤ 2) :
    (outsAt0 m c t.val t.isLt).2
      = k0_pay3 (iblk m c 0 t) (iblk m c 1 t) (outsAt0 m c (t.val - 1) (Nat.lt_of_le_of_lt (Nat.sub_le _ _) t.isLt)).2 := by
  rw [outsAt0_B m c t (by omega) h (by omega)]
  dsimp only
  rw [sout_B]

/-- The accumulator before the last point of run `q`, over the blocks of the three points before. -/
theorem acc_at (c : Dev nD) (q : ℕ) (h : 4 * q + 3 < cfg0.N) (n : ℕ) (hn : n < cfg0.N) (e : n = 4 * q + 2) :
    (outsAt0 m c n hn).2 = k0_pay3 (iblk m c 0 ⟨4 * q + 2, by omega⟩) (iblk m c 1 ⟨4 * q + 2, by omega⟩)
      (k0_pay3 (iblk m c 0 ⟨4 * q + 1, by omega⟩) (iblk m c 1 ⟨4 * q + 1, by omega⟩) (k0_pay2 (iblk m c 0 ⟨4 * q, by omega⟩) (iblk m c 1 ⟨4 * q, by omega⟩))) := by
  have e0 := acc_first m c ⟨4 * q, by omega⟩ (by dsimp only; omega)
  have e1 := acc_next m c ⟨4 * q + 1, by omega⟩ (by dsimp only; omega)
  have e2 := acc_next m c ⟨4 * q + 2, by omega⟩ (by dsimp only; omega)
  simp only [Nat.add_sub_cancel, Nat.add_succ_sub_one] at e0 e1 e2
  subst e
  rw [e2, e1, e0]

/-- What the last point of a run stores. -/
theorem out_C
    (hc0 : ¬cond0_0 i) (hc1 : ¬cond0_1 i) (hc2 : cond0_2 i) (x0 : Vec Ideal S1024x1024 .bf16) (x1 : Vec Ideal S1024x1024 .bf16) (xs0 : Vec Ideal S1024x1024 .f32) :
    out0_C_2 c i a0 h0 a1 h1 a2 h2 a3 h3 hc0 hc1 hc2 x0 x1 xs0 = k0_pay4 x0 x1 xs0 := by
  unfold out0_C_2
  rw [View.read_writes_eq_canon _ _ _ (cover0_C_2 c i a0 h0 a1 h1 a2 h2 a3 h3 hc0 hc1 hc2 x0 x1 xs0)]
  unfold kernelRun0_C
  dsimp only
  rw [View.canon_unit_zero hz]
  simp only [View.readAt_eq_ld, h0.read_unread, h1.read_unread, h3.read_unread, View.ld_unit_zero (S := S1024x1024) hz]

/-- What the last point of run `q` stores, over the blocks of its four points. -/
theorem out_at (c : Dev nD) (q : ℕ) (h : 4 * q + 3 < cfg0.N) :
    (outsAt0 m c (4 * q + 3) h).1 = k0_pay4 (iblk m c 0 ⟨4 * q + 3, h⟩) (iblk m c 1 ⟨4 * q + 3, h⟩) (k0_pay3 (iblk m c 0 ⟨4 * q + 2, by omega⟩) (iblk m c 1 ⟨4 * q + 2, by omega⟩)
      (k0_pay3 (iblk m c 0 ⟨4 * q + 1, by omega⟩) (iblk m c 1 ⟨4 * q + 1, by omega⟩) (k0_pay2 (iblk m c 0 ⟨4 * q, by omega⟩) (iblk m c 1 ⟨4 * q, by omega⟩)))) := by
  have e := congrArg Prod.fst (outsAt0_C m c ⟨4 * q + 3, h⟩ (by dsimp only; omega) (by dsimp only; omega) (by dsimp only; omega))
  rw [out_C, acc_at m c q h _ _ (by dsimp only; omega)] at e
  exact e

/-- The stored block at an index. -/
theorem pay_apply (a0 b0 a1 b1 a2 b2 a3 b3 : Vec Ideal S1024x1024 .bf16) (p r : Fin 1024) :
    k0_pay4 a3 b3 (k0_pay3 a2 b2 (k0_pay3 a1 b1 (k0_pay2 a0 b0))) (ix2 p r)
      = ∑ k : Fin 1024, max (a0 (ix2 k p)) 0 * max (a0 (ix2 k p)) 0 * b0 (ix2 k r) + ∑ k : Fin 1024, max (a1 (ix2 k p)) 0 * max (a1 (ix2 k p)) 0 * b1 (ix2 k r)
        + ∑ k : Fin 1024, max (a2 (ix2 k p)) 0 * max (a2 (ix2 k p)) 0 * b2 (ix2 k r) + ∑ k : Fin 1024, max (a3 (ix2 k p)) 0 * max (a3 (ix2 k p)) 0 * b3 (ix2 k r) := by
  pointwise [k0_pay4, k0_pay3, k0_pay2, k0_pay1]

/-- The gradient: entry `(f, d)` sums the tokens' squared rectified pre-activation `f` times output gradient `d`. -/
def grad (g : FVec Ideal S4096x1024 .f32) (p : FVec Ideal S4096x4096 .f32) : FVec Ideal S4096x1024 .bf16 := fun i =>
  ∑ k : Fin 4096, max (p (ix2 k (i 0))) 0 * max (p (ix2 k (i 0))) 0 * g (ix2 k (i 1))

/-- The pre-activation as the call reads it. -/
theorem V_p (c : Dev nD) (j : S4096x4096.Idx) : V m c main_v0 j = m (c.tc.loc main_arg1) j := by
  unfold_abbrev_sides
  after_results
  rfl

/-- The output's gradient as the call reads it. -/
theorem V_g (c : Dev nD) (j : S4096x1024.Idx) : V m c main_v1 j = m (c.tc.loc main_arg0) j := by
  unfold_abbrev_sides
  after_results
  rfl

/-- Which blocks grid point `t` reads and writes. -/
theorem idx0 : ∀ t : Fin cfg0.N, win0_0.index t (0 : Fin 2) = t.val % 4 ∧ win0_0.index t (1 : Fin 2) = t.val / 4 :=
  (by decide +kernel : ∀ t : Fin grid0.N, _)
theorem idx1 : ∀ t : Fin cfg0.N, win0_1.index t (0 : Fin 2) = t.val % 4 ∧ win0_1.index t (1 : Fin 2) = 0 :=
  (by decide +kernel : ∀ t : Fin grid0.N, _)
theorem idx2 : ∀ t : Fin cfg0.N, win0_2.index t (0 : Fin 2) = t.val / 4 ∧ win0_2.index t (1 : Fin 2) = 0 :=
  (by decide +kernel : ∀ t : Fin grid0.N, _)

theorem lt_N (n : ℕ) (hn : n < cfg0.N) : n < 16 := lt_of_lt_of_eq hn (show cfg0.N = 16 from N_0)

/-- The pre-activation's block at grid point `n`. -/
theorem iblk0_apply (c : Dev nD) (n : ℕ) (hn : n < cfg0.N) (p : Fin 1024) (r : Fin 1024) :
    iblk m c 0 ⟨n, hn⟩ (ix2 p r) = m (c.tc.loc main_arg1)
      (ix2 ⟨1024 * (n % 4) + p.val, by have := lt_N n hn; omega⟩ ⟨1024 * (n / 4) + r.val, by have := lt_N n hn; omega⟩) := by
  refine Eq.trans ?_ (V_p m c _)
  show V m c main_v0 _ = V m c main_v0 _
  congr 1
  obtain ⟨e0, e1⟩ := idx0 ⟨n, hn⟩
  dsimp only at e0 e1
  funext a
  apply Fin.ext
  match a with
  | ⟨0, _⟩ => show win0_0.index ⟨n, hn⟩ (0 : Fin 2) * 1024 + 1 * p.val = 1024 * (n % 4) + p.val; rw [e0]; omega
  | ⟨1, _⟩ => show win0_0.index ⟨n, hn⟩ (1 : Fin 2) * 1024 + 1 * r.val = 1024 * (n / 4) + r.val; rw [e1]; omega

/-- The gradient's block at grid point `n`. -/
theorem iblk1_apply (c : Dev nD) (n : ℕ) (hn : n < cfg0.N) (p : Fin 1024) (r : Fin 1024) :
    iblk m c 1 ⟨n, hn⟩ (ix2 p r) = m (c.tc.loc main_arg0)
      (ix2 ⟨1024 * (n % 4) + p.val, by have := lt_N n hn; omega⟩ ⟨1024 * (0) + r.val, by have := lt_N n hn; omega⟩) := by
  refine Eq.trans ?_ (V_g m c _)
  show V m c main_v1 _ = V m c main_v1 _
  congr 1
  obtain ⟨e0, e1⟩ := idx1 ⟨n, hn⟩
  dsimp only at e0 e1
  funext a
  apply Fin.ext
  match a with
  | ⟨0, _⟩ => show win0_1.index ⟨n, hn⟩ (0 : Fin 2) * 1024 + 1 * p.val = 1024 * (n % 4) + p.val; rw [e0]; omega
  | ⟨1, _⟩ => show win0_1.index ⟨n, hn⟩ (1 : Fin 2) * 1024 + 1 * r.val = 1024 * (0) + r.val; rw [e1]; omega

/-- One term of the sum. -/
def term (a b : EReal) : EReal := max a 0 * max a 0 * b

/-- One term of a point's product is a term of the gradient's sum. -/
theorem term_eq (c : Dev nD) (n : ℕ) (hn : n < cfg0.N) (s q : ℕ) (hs : n % 4 = s) (hq : n / 4 = q) (k p r : Fin 1024) :
    term (iblk m c 0 ⟨n, hn⟩ (ix2 k p)) (iblk m c 1 ⟨n, hn⟩ (ix2 k r))
      = term (m (c.tc.loc main_arg1) (ix2 ⟨1024 * s + k.val, by omega⟩ ⟨1024 * q + p.val, by have := lt_N n hn; omega⟩))
        (m (c.tc.loc main_arg0) (ix2 ⟨1024 * s + k.val, by omega⟩ ⟨1024 * 0 + r.val, by omega⟩)) := by
  subst hs hq
  rw [iblk0_apply, iblk1_apply]

/-- What the last point of run `q` stores is its block of the gradient. -/
theorem block_value (c : Dev nD) (q : ℕ) (h : 4 * q + 3 < cfg0.N) (p r : Fin 1024) :
    (outsAt0 m c (4 * q + 3) h).1 (ix2 p r) = grad (m (c.tc.loc main_arg0)) (m (c.tc.loc main_arg1)) (ix2 ⟨1024 * q + p.val, by have := lt_N _ h; omega⟩ ⟨1024 * 0 + r.val, by omega⟩) := by
  rw [out_at, pay_apply]
  unfold grad
  rw [Cert.Hand.sum_four]
  refine congrArg₂ (· + ·) (congrArg₂ (· + ·) (congrArg₂ (· + ·) ?_ ?_) ?_) ?_
  · exact Finset.sum_congr rfl fun k _ => term_eq m c (4 * q) (by omega) 0 q (by omega) (by omega) k p r
  · exact Finset.sum_congr rfl fun k _ => term_eq m c (4 * q + 1) (by omega) 1 q (by omega) (by omega) k p r
  · exact Finset.sum_congr rfl fun k _ => term_eq m c (4 * q + 2) (by omega) 2 q (by omega) (by omega) k p r
  · exact Finset.sum_congr rfl fun k _ => term_eq m c (4 * q + 3) (by omega) 3 q (by omega) (by omega) k p r

/-- The result's array as the claim names it. -/
abbrev result (c : Dev nD) : Buf (Elt Ideal) ((c : Thread nD τ).loc main_v2) := grad (m (c.tc.loc main_arg0)) (m (c.tc.loc main_arg1))

/-- What a point that writes back writes is its block of the gradient. -/
theorem flushed_eq (c : Dev nD) (t : Fin cfg0.N) (hf : (cfg0.win 2).flush t = true) :
    (dats m 0 c).flushed 2 t = ((cfg0.win 2).blk t).view.read (Elt Ideal) (result m c) := by
  have hm : t.val % 4 = 3 := (flush0_2 t).mp hf
  obtain ⟨q, h, rfl⟩ : ∃ q, ∃ h : 4 * q + 3 < cfg0.N, t = ⟨4 * q + 3, h⟩ := ⟨t.val / 4, by have := t.isLt; omega, Fin.ext (by show t.val = 4 * (t.val / 4) + 3; omega)⟩
  rw [Value.flushed2]
  funext y
  obtain ⟨e0, e1⟩ := idx2 ⟨4 * q + 3, h⟩
  dsimp only at e0 e1
  have hy0 : (y 0).val < 1024 := (y 0).isLt
  have hy1 : (y 1).val < 1024 := (y 1).isLt
  refine Eq.trans ?_ ((block_value m c q h ⟨(y 0).val, hy0⟩ ⟨(y 1).val, hy1⟩).trans ?_)
  · exact congrArg ((outsAt0 m c (4 * q + 3) h).1 : Vec Ideal S1024x1024 .bf16) (funext fun a => by match a with | ⟨0, _⟩ => rfl | ⟨1, _⟩ => rfl)
  · refine congrArg (result m c) (funext fun a => Fin.ext ?_)
    match a with
    | ⟨0, _⟩ => show 1024 * q + (y 0).val = win0_2.index ⟨4 * q + 3, h⟩ (0 : Fin 2) * 1024 + 1 * (y 0).val; rw [e0]; omega
    | ⟨1, _⟩ => show 1024 * 0 + (y 1).val = win0_2.index ⟨4 * q + 3, h⟩ (1 : Fin 2) * 1024 + 1 * (y 1).val; rw [e1]; omega

/-- The result array is the gradient. -/
theorem final (c : Dev nD) : (dats m 0 c).arrAt 2 cfg0.N = result m c :=
  (dats m 0 c).arrAt_eq_of_cover 2 _ (fun t hf => flushed_eq m c t hf) fun i => by
    have h0 : (i 0).val < 4096 := (i 0).isLt
    have h1 : (i 1).val < 1024 := (i 1).isLt
    have hN : cfg0.N = 16 := N_0
    let t : Fin cfg0.N := ⟨4 * ((i 0).val / 1024) + 3, by omega⟩
    obtain ⟨e0, e1⟩ := idx2 t
    have tv : t.val = 4 * ((i 0).val / 1024) + 3 := rfl
    refine ⟨t, (flush0_2 t).mpr (by omega), ?_⟩
    show i ∈ ((View.whole main_v2).slice (win0_2.rect t)).set
    rw [View.set_slice_whole, Rect.mem_set_unit]
    intro a
    match a with
    | ⟨0, _⟩ => show win0_2.index t (0 : Fin 2) * 1024 ≤ (i 0).val ∧ (i 0).val < win0_2.index t (0 : Fin 2) * 1024 + 1024; omega
    | ⟨1, _⟩ => show win0_2.index t (1 : Fin 2) * 1024 ≤ (i 1).val ∧ (i 1).val < win0_2.index t (1 : Fin 2) * 1024 + 1024; omega

end Cert.DownDwIdeal.Hand

namespace Cert.DownDwRefIdeal.Hand

open Cert.DownDwRefIdeal Cert.DownDwRefIdeal.Gen Idealize.ShloMosaic Idealize.ShloMosaic.TcCoe Idealize.SL.Sem

/-- The reference's run: the same result, the arguments kept. -/
theorem run (m : (ℓ : Loc nD τ sig) → Buf (Elt Ideal) ℓ) (g : Dev nD → PrngReg) :
    θ_run defs (onTc (τ := τ) (main (F := Ideal))) ⟨m, fun _ => 0, g⟩ fun r => ∀ c : Dev nD,
    r.2.mem (c.tc.loc main_v6) = Cert.DownDwIdeal.Hand.grad (m (c.tc.loc main_arg0)) (m (c.tc.loc main_arg1))
    ∧ r.2.mem (c.tc.loc main_arg0) = m (c.tc.loc main_arg0)
    ∧ r.2.mem (c.tc.loc main_arg1) = m (c.tc.loc main_arg1) := by
  refine (θ_run defs _ _).mono (fun _ h c => ⟨(h c).1.trans ?_, (h c).2⟩) (Value.run m g)
  generalize m (c.tc.loc main_arg0) = x0
  generalize m (c.tc.loc main_arg1) = x1
  funext i
  pointwise [Cert.DownDwIdeal.Hand.grad]
  exact Finset.sum_congr rfl fun k _ => mul_comm _ _

end Cert.DownDwRefIdeal.Hand

end
-- ==== Proof.UpDwVal.lean ====
/-
  The gradient of the MLP's first weight matrix over the extended reals: the activations, transposed, by the
  pre-activation's gradient. The call adds four blocks of tokens one after the other, and lays the result out in slabs
  of 512 columns.
-/
module

public import proofs.«01_k».proof.Proof.Gen.UpDwIdeal.Value
public import proofs.«01_k».proof.Proof.Gen.UpDwRefIdeal.Run
public import proofs.«01_k».proof.Proof.BlockSum
public import proofs.«01_k».proof.Proof.Base

@[expose] public section

noncomputable section

namespace Cert.UpDwIdeal.Hand

open Cert.UpDwIdeal Cert.UpDwIdeal.Gen Idealize.ShloMosaic Idealize.ShloMosaic.TcCoe Idealize.SL.Sem
open Idealize.ShloMosaic.Pipeline (Dat)

theorem hz3 : (![0, 0, 0] : Fin 3 → Nat) = fun _ => 0 := funext fun a => by fin_cases a <;> rfl

variable (c : Dev nD) (i : grid0.Coords) (a0 : Memref sig .tc .vmem S1024x1024 .bf16) (h0 : a0.IsWhole) (a1 : Memref sig .tc .vmem S1024x1024 .bf16) (h1 : a1.IsWhole) (a2 : Memref sig .tc .vmem S2x1024x512 .bf16) (h2 : a2.IsWhole) (a3 : Memref sig .tc .vmem S1024x1024 .f32) (h3 : a3.IsWhole)

/-- What the first point of a run leaves in the accumulator. -/
theorem sout_A
    (hc0 : cond0_0 i) (hc1 : ¬cond0_1 i) (hc2 : ¬cond0_2 i) (x0 : Vec Ideal S1024x1024 .bf16) (x1 : Vec Ideal S1024x1024 .bf16) :
    sout0_A_0 c i a0 h0 a1 h1 a2 h2 a3 h3 hc0 hc1 hc2 x0 x1 = k0_pay2 x0 x1 := by
  unfold sout0_A_0
  rw [View.read_writes_eq_canon _ _ _ (scover0_A_0 c i a0 h0 a1 h1 a2 h2 a3 h3 hc0 hc1 hc2 x0 x1)]
  unfold kernelRun0_A
  dsimp only
  rw [View.canon_unit_zero hz]
  simp only [View.readAt_eq_ld, h0.read_unread, h1.read_unread, h3.read_unread, View.ld_unit_zero (S := S1024x1024) hz]

/-- What a middle point leaves in it. -/
theorem sout_B
    (hc0 : ¬cond0_0 i) (hc1 : cond0_1 i) (hc2 : ¬cond0_2 i) (x0 : Vec Ideal S1024x1024 .bf16) (x1 : Vec Ideal S1024x1024 .bf16) (xs0 : Vec Ideal S1024x1024 .f32) :
    sout0_B_0 c i a0 h0 a1 h1 a2 h2 a3 h3 hc0 hc1 hc2 x0 x1 xs0 = k0_pay3 x0 x1 xs0 := by
  unfold sout0_B_0
  rw [View.read_writes_eq_canon _ _ _ (scover0_B_0 c i a0 h0 a1 h1 a2 h2 a3 h3 hc0 hc1 hc2 x0 x1 xs0)]
  unfold kernelRun0_B
  dsimp only
  rw [View.canon_unit_zero hz]
  simp only [View.readAt_eq_ld, h0.read_unread, h1.read_unread, h3.read_unread, View.ld_unit_zero (S := S1024x1024) hz]

variable (m : (ℓ : Loc nD τ sig) → Buf (Elt Ideal) ℓ)

theorem acc_first (c : Dev nD) (t : Fin cfg0.N) (h : t.val % 4 = 0) :
    (outsAt0 m c t.val t.isLt).2 = k0_pay2 (iblk m c 0 t) (iblk m c 1 t) := by
  rw [outsAt0_A m c t h (by omega) (by omega)]
  dsimp only
  rw [sout_A]

theorem acc_next (c : Dev nD) (t : Fin cfg0.N) (h : 1 ≤ t.val % 4 ∧ t.val % 4 ≤ 2) :
    (outsAt0 m c t.val t.isLt).2
      = k0_pay3 (iblk m c 0 t) (iblk m c 1 t) (outsAt0 m c (t.val - 1) (Nat.lt_of_le_of_lt (Nat.sub_le _ _) t.isLt)).2 := by
  rw [outsAt0_B m c t (by omega) h (by omega)]
  dsimp only
  rw [sout_B]

/-- The accumulator before the last point of run `q`, over the blocks of the three points before. -/
theorem acc_at (c : Dev nD) (q : ℕ) (h : 4 * q + 3 < cfg0.N) (n : ℕ) (hn : n < cfg0.N) (e : n = 4 * q + 2) :
    (outsAt0 m c n hn).2 = k0_pay3 (iblk m c 0 ⟨4 * q + 2, by omega⟩) (iblk m c 1 ⟨4 * q + 2, by omega⟩)
      (k0_pay3 (iblk m c 0 ⟨4 * q + 1, by omega⟩) (iblk m c 1 ⟨4 * q + 1, by omega⟩) (k0_pay2 (iblk m c 0 ⟨4 * q, by omega⟩) (iblk m c 1 ⟨4 * q, by omega⟩))) := by
  have e0 := acc_first m c ⟨4 * q, by omega⟩ (by dsimp only; omega)
  have e1 := acc_next m c ⟨4 * q + 1, by omega⟩ (by dsimp only; omega)
  have e2 := acc_next m c ⟨4 * q + 2, by omega⟩ (by dsimp only; omega)
  simp only [Nat.add_sub_cancel, Nat.add_succ_sub_one] at e0 e1 e2
  subst e
  rw [e2, e1, e0]

/-- The first slab of a finished block is its first 512 columns. -/
theorem pay5_apply (x0 x1 : Vec Ideal S1024x1024 .bf16) (xs0 : Vec Ideal S1024x1024 .f32) (p : Fin 1024) (r : Fin 512) :
    k0_pay5 x0 x1 xs0 (ix3 0 p r) = k0_pay4 x0 x1 xs0 (ix2 p ⟨512 * 0 + r.val, by omega⟩) := by
  unfold k0_pay5
  generalize k0_pay4 x0 x1 xs0 = y
  pointwise

/-- The second slab is its last 512 columns. -/
theorem pay6_apply (x0 x1 : Vec Ideal S1024x1024 .bf16) (xs0 : Vec Ideal S1024x1024 .f32) (p : Fin 1024) (r : Fin 512) :
    k0_pay6 x0 x1 xs0 (ix3 0 p r) = k0_pay4 x0 x1 xs0 (ix2 p ⟨512 * 1 + r.val, by omega⟩) := by
  unfold k0_pay6
  generalize k0_pay4 x0 x1 xs0 = y
  pointwise

/-- What the last point of a run stores: slab `s` holds the finished block's columns from `512 * s` on. -/
theorem out_C
    (hc0 : ¬cond0_0 i) (hc1 : ¬cond0_1 i) (hc2 : cond0_2 i) (x0 : Vec Ideal S1024x1024 .bf16) (x1 : Vec Ideal S1024x1024 .bf16) (xs0 : Vec Ideal S1024x1024 .f32) (s : Fin 2) (p : Fin 1024) (r : Fin 512) :
    out0_C_2 c i a0 h0 a1 h1 a2 h2 a3 h3 hc0 hc1 hc2 x0 x1 xs0 (ix3 s p r) = k0_pay4 x0 x1 xs0 (ix2 p ⟨512 * s.val + r.val, by omega⟩) := by
  unfold out0_C_2
  rw [View.read_writes_eq_canon _ _ _ (cover0_C_2 c i a0 h0 a1 h1 a2 h2 a3 h3 hc0 hc1 hc2 x0 x1 xs0)]
  unfold kernelRun0_C
  dsimp only
  simp only [View.readAt_eq_ld, h0.read_unread, h1.read_unread, h3.read_unread, View.ld_unit_zero (S := S1024x1024) hz]
  match s with
  | ⟨0, _⟩ =>
    rw [View.canon_cons_of_not_mem]
    · have he : (ix3 (⟨0, by omega⟩ : Fin 2) p r : S2x1024x512.Idx)
          = (Rect.unit (s := S2x1024x512) ![0, 0, 0] ![1, 1024, 512] inb_S2x1024x512_S1x1024x512_0_0_0).emb (ix3 (0 : Fin 1) p r) := by
        funext a
        apply Fin.ext
        match a with
        | ⟨0, _⟩ => rfl
        | ⟨1, _⟩ => show p.val = 0 + 1 * p.val; omega
        | ⟨2, _⟩ => show r.val = 0 + 1 * r.val; omega
      rw [he, View.canon_cons_emb]
      exact pay5_apply x0 x1 xs0 p r
    · rw [Rect.mem_set_unit]
      intro h
      exact absurd (show 1 ≤ 0 from (h 0).1) (by decide)
  | ⟨1, _⟩ =>
    have he : (ix3 (⟨1, by omega⟩ : Fin 2) p r : S2x1024x512.Idx)
        = (Rect.unit (s := S2x1024x512) ![1, 0, 0] ![1, 1024, 512] inb_S2x1024x512_S1x1024x512_1_0_0).emb (ix3 (0 : Fin 1) p r) := by
      funext a
      apply Fin.ext
      match a with
      | ⟨0, _⟩ => rfl
      | ⟨1, _⟩ => show p.val = 0 + 1 * p.val; omega
      | ⟨2, _⟩ => show r.val = 0 + 1 * r.val; omega
    rw [he, View.canon_cons_emb]
    exact pay6_apply x0 x1 xs0 p r

/-- What the last point of run `q` stores, over the blocks of its four points. -/
theorem out_at (c : Dev nD) (q : ℕ) (h : 4 * q + 3 < cfg0.N) (s : Fin 2) (p : Fin 1024) (r : Fin 512) :
    (outsAt0 m c (4 * q + 3) h).1 (ix3 s p r) = k0_pay4 (iblk m c 0 ⟨4 * q + 3, h⟩) (iblk m c 1 ⟨4 * q + 3, h⟩) (k0_pay3 (iblk m c 0 ⟨4 * q + 2, by omega⟩) (iblk m c 1 ⟨4 * q + 2, by omega⟩)
      (k0_pay3 (iblk m c 0 ⟨4 * q + 1, by omega⟩) (iblk m c 1 ⟨4 * q + 1, by omega⟩) (k0_pay2 (iblk m c 0 ⟨4 * q, by omega⟩) (iblk m c 1 ⟨4 * q, by omega⟩)))) (ix2 p ⟨512 * s.val + r.val, by omega⟩) := by
  have e := congrFun (congrArg Prod.fst (outsAt0_C m c ⟨4 * q + 3, h⟩ (by dsimp only; omega) (by dsimp only; omega) (by dsimp only; omega))) (ix3 s p r)
  dsimp only at e
  rw [out_C, acc_at m c q h _ _ (by omega)] at e
  exact e

/-- The finished block at an index. -/
theorem pay_apply (a0 b0 a1 b1 a2 b2 a3 b3 : Vec Ideal S1024x1024 .bf16) (p r : Fin 1024) :
    k0_pay4 a3 b3 (k0_pay3 a2 b2 (k0_pay3 a1 b1 (k0_pay2 a0 b0))) (ix2 p r)
      = ∑ k : Fin 1024, a0 (ix2 k p) * b0 (ix2 k r) + ∑ k : Fin 1024, a1 (ix2 k p) * b1 (ix2 k r)
        + ∑ k : Fin 1024, a2 (ix2 k p) * b2 (ix2 k r) + ∑ k : Fin 1024, a3 (ix2 k p) * b3 (ix2 k r) := by
  pointwise [k0_pay4, k0_pay3, k0_pay2, k0_pay1]

/-- The gradient, in slabs of 512 columns: entry `(d, f)` sums the tokens' activation `d` times pre-activation gradient `f`. -/
def grad (g : FVec Ideal S4096x4096 .f32) (h : FVec Ideal S4096x1024 .f32) : FVec Ideal S8x1024x512 .bf16 := fun i =>
  ∑ k : Fin 4096, h (ix2 k (i 1)) * g (ix2 k ⟨512 * (i 0).val + (i 2).val, by have h0 : (i 0).val < 8 := (i 0).isLt; have h2 : (i 2).val < 512 := (i 2).isLt; omega⟩)

/-- The activations as the call reads it. -/
theorem V_h (c : Dev nD) (j : S4096x1024.Idx) : V m c main_v0 j = m (c.tc.loc main_arg1) j := by
  unfold_abbrev_sides
  after_results
  rfl

/-- The pre-activation's gradient as the call reads it. -/
theorem V_g (c : Dev nD) (j : S4096x4096.Idx) : V m c main_v1 j = m (c.tc.loc main_arg0) j := by
  unfold_abbrev_sides
  after_results
  rfl

/-- Which blocks grid point `t` reads and writes. -/
theorem idx0 : ∀ t : Fin cfg0.N, win0_0.index t (0 : Fin 2) = t.val % 4 ∧ win0_0.index t (1 : Fin 2) = 0 :=
  (by decide +kernel : ∀ t : Fin grid0.N, _)
theorem idx1 : ∀ t : Fin cfg0.N, win0_1.index t (0 : Fin 2) = t.val % 4 ∧ win0_1.index t (1 : Fin 2) = t.val / 4 :=
  (by decide +kernel : ∀ t : Fin grid0.N, _)
theorem idx2 : ∀ t : Fin cfg0.N, win0_2.index t (0 : Fin 3) = t.val / 4 ∧ win0_2.index t (1 : Fin 3) = 0 ∧ win0_2.index t (2 : Fin 3) = 0 :=
  (by decide +kernel : ∀ t : Fin grid0.N, _)

theorem lt_N (n : ℕ) (hn : n < cfg0.N) : n < 16 := lt_of_lt_of_eq hn (show cfg0.N = 16 from N_0)

/-- The activations' block at grid point `n`. -/
theorem iblk0_apply (c : Dev nD) (n : ℕ) (hn : n < cfg0.N) (p : Fin 1024) (r : Fin 1024) :
    iblk m c 0 ⟨n, hn⟩ (ix2 p r) = m (c.tc.loc main_arg1)
      (ix2 ⟨1024 * (n % 4) + p.val, by have := lt_N n hn; omega⟩ ⟨1024 * (0) + r.val, by have := lt_N n hn; omega⟩) := by
  refine Eq.trans ?_ (V_h m c _)
  show V m c main_v0 _ = V m c main_v0 _
  congr 1
  obtain ⟨e0, e1⟩ := idx0 ⟨n, hn⟩
  dsimp only at e0 e1
  funext a
  apply Fin.ext
  match a with
  | ⟨0, _⟩ => show win0_0.index ⟨n, hn⟩ (0 : Fin 2) * 1024 + 1 * p.val = 1024 * (n % 4) + p.val; rw [e0]; omega
  | ⟨1, _⟩ => show win0_0.index ⟨n, hn⟩ (1 : Fin 2) * 1024 + 1 * r.val = 1024 * (0) + r.val; rw [e1]; omega

/-- The pre-activation gradient's block at grid point `n`. -/
theorem iblk1_apply (c : Dev nD) (n : ℕ) (hn : n < cfg0.N) (p : Fin 1024) (r : Fin 1024) :
    iblk m c 1 ⟨n, hn⟩ (ix2 p r) = m (c.tc.loc main_arg0)
      (ix2 ⟨1024 * (n % 4) + p.val, by have := lt_N n hn; omega⟩ ⟨1024 * (n / 4) + r.val, by have := lt_N n hn; omega⟩) := by
  refine Eq.trans ?_ (V_g m c _)
  show V m c main_v1 _ = V m c main_v1 _
  congr 1
  obtain ⟨e0, e1⟩ := idx1 ⟨n, hn⟩
  dsimp only at e0 e1
  funext a
  apply Fin.ext
  match a with
  | ⟨0, _⟩ => show win0_1.index ⟨n, hn⟩ (0 : Fin 2) * 1024 + 1 * p.val = 1024 * (n % 4) + p.val; rw [e0]; omega
  | ⟨1, _⟩ => show win0_1.index ⟨n, hn⟩ (1 : Fin 2) * 1024 + 1 * r.val = 1024 * (n / 4) + r.val; rw [e1]; omega

/-- One term of a product. -/
def term (a b : EReal) : EReal := a * b

/-- One term of a point's product is a term of the gradient's sum. -/
theorem term_eq (c : Dev nD) (n : ℕ) (hn : n < cfg0.N) (s q : ℕ) (hs : n % 4 = s) (hq : n / 4 = q) (k p : Fin 1024) (u : Fin 2) (r : Fin 512) :
    term (iblk m c 0 ⟨n, hn⟩ (ix2 k p)) (iblk m c 1 ⟨n, hn⟩ (ix2 k ⟨512 * u.val + r.val, by omega⟩))
      = term (m (c.tc.loc main_arg1) (ix2 ⟨1024 * s + k.val, by omega⟩ p))
        (m (c.tc.loc main_arg0) (ix2 ⟨1024 * s + k.val, by omega⟩ ⟨512 * (2 * q + u.val) + r.val, by have := lt_N n hn; omega⟩)) := by
  subst hs hq
  rw [iblk0_apply, iblk1_apply]
  have ep : (⟨1024 * 0 + p.val, by omega⟩ : Fin 1024) = p := Fin.ext (by show 1024 * 0 + p.val = p.val; omega)
  have er : (⟨1024 * (n / 4) + (512 * u.val + r.val), by have := lt_N n hn; omega⟩ : Fin 4096)
      = ⟨512 * (2 * (n / 4) + u.val) + r.val, by have := lt_N n hn; omega⟩ := Fin.ext (by show 1024 * (n / 4) + (512 * u.val + r.val) = 512 * (2 * (n / 4) + u.val) + r.val; omega)
  rw [ep, er]

/-- What the last point of run `q` stores is its two slabs of the gradient. -/
theorem block_value (c : Dev nD) (q : ℕ) (h : 4 * q + 3 < cfg0.N) (u : Fin 2) (p : Fin 1024) (r : Fin 512) :
    (outsAt0 m c (4 * q + 3) h).1 (ix3 u p r) = grad (m (c.tc.loc main_arg0)) (m (c.tc.loc main_arg1)) (ix3 ⟨2 * q + u.val, by have := lt_N _ h; omega⟩ p r) := by
  rw [out_at, pay_apply]
  unfold grad
  rw [Cert.Hand.sum_four]
  refine congrArg₂ (· + ·) (congrArg₂ (· + ·) (congrArg₂ (· + ·) ?_ ?_) ?_) ?_
  · exact Finset.sum_congr rfl fun k _ => term_eq m c (4 * q) (by omega) 0 q (by omega) (by omega) k p u r
  · exact Finset.sum_congr rfl fun k _ => term_eq m c (4 * q + 1) (by omega) 1 q (by omega) (by omega) k p u r
  · exact Finset.sum_congr rfl fun k _ => term_eq m c (4 * q + 2) (by omega) 2 q (by omega) (by omega) k p u r
  · exact Finset.sum_congr rfl fun k _ => term_eq m c (4 * q + 3) (by omega) 3 q (by omega) (by omega) k p u r

/-- The result's array as the claim names it. -/
abbrev result (c : Dev nD) : Buf (Elt Ideal) ((c : Thread nD τ).loc main_v2) := grad (m (c.tc.loc main_arg0)) (m (c.tc.loc main_arg1))

/-- What a point that writes back writes is its two slabs of the gradient. -/
theorem flushed_eq (c : Dev nD) (t : Fin cfg0.N) (hf : (cfg0.win 2).flush t = true) :
    (dats m 0 c).flushed 2 t = ((cfg0.win 2).blk t).view.read (Elt Ideal) (result m c) := by
  have hm : t.val % 4 = 3 := (flush0_2 t).mp hf
  obtain ⟨q, h, rfl⟩ : ∃ q, ∃ h : 4 * q + 3 < cfg0.N, t = ⟨4 * q + 3, h⟩ := ⟨t.val / 4, by have := t.isLt; omega, Fin.ext (by show t.val = 4 * (t.val / 4) + 3; omega)⟩
  rw [Value.flushed2]
  funext y
  obtain ⟨e0, e1, e2⟩ := idx2 ⟨4 * q + 3, h⟩
  dsimp only at e0 e1 e2
  have hy0 : (y 0).val < 2 := (y 0).isLt
  have hy1 : (y 1).val < 1024 := (y 1).isLt
  have hy2 : (y 2).val < 512 := (y 2).isLt
  refine Eq.trans ?_ ((block_value m c q h ⟨(y 0).val, hy0⟩ ⟨(y 1).val, hy1⟩ ⟨(y 2).val, hy2⟩).trans ?_)
  · exact congrArg ((outsAt0 m c (4 * q + 3) h).1 : Vec Ideal S2x1024x512 .bf16) (funext fun a => by match a with | ⟨0, _⟩ => rfl | ⟨1, _⟩ => rfl | ⟨2, _⟩ => rfl)
  · refine congrArg (result m c) (funext fun a => Fin.ext ?_)
    match a with
    | ⟨0, _⟩ => show 2 * q + (y 0).val = win0_2.index ⟨4 * q + 3, h⟩ (0 : Fin 3) * 2 + 1 * (y 0).val; rw [e0]; omega
    | ⟨1, _⟩ => show (y 1).val = win0_2.index ⟨4 * q + 3, h⟩ (1 : Fin 3) * 1024 + 1 * (y 1).val; rw [e1]; omega
    | ⟨2, _⟩ => show (y 2).val = win0_2.index ⟨4 * q + 3, h⟩ (2 : Fin 3) * 512 + 1 * (y 2).val; rw [e2]; omega

/-- The result array is the gradient. -/
theorem final (c : Dev nD) : (dats m 0 c).arrAt 2 cfg0.N = result m c :=
  (dats m 0 c).arrAt_eq_of_cover 2 _ (fun t hf => flushed_eq m c t hf) fun i => by
    have h0 : (i 0).val < 8 := (i 0).isLt
    have h1 : (i 1).val < 1024 := (i 1).isLt
    have h2 : (i 2).val < 512 := (i 2).isLt
    have hN : cfg0.N = 16 := N_0
    let t : Fin cfg0.N := ⟨4 * ((i 0).val / 2) + 3, by omega⟩
    obtain ⟨e0, e1, e2⟩ := idx2 t
    have tv : t.val = 4 * ((i 0).val / 2) + 3 := rfl
    refine ⟨t, (flush0_2 t).mpr (by omega), ?_⟩
    show i ∈ ((View.whole main_v2).slice (win0_2.rect t)).set
    rw [View.set_slice_whole, Rect.mem_set_unit]
    intro a
    match a with
    | ⟨0, _⟩ => show win0_2.index t (0 : Fin 3) * 2 ≤ (i 0).val ∧ (i 0).val < win0_2.index t (0 : Fin 3) * 2 + 2; omega
    | ⟨1, _⟩ => show win0_2.index t (1 : Fin 3) * 1024 ≤ (i 1).val ∧ (i 1).val < win0_2.index t (1 : Fin 3) * 1024 + 1024; omega
    | ⟨2, _⟩ => show win0_2.index t (2 : Fin 3) * 512 ≤ (i 2).val ∧ (i 2).val < win0_2.index t (2 : Fin 3) * 512 + 512; omega

end Cert.UpDwIdeal.Hand

namespace Cert.UpDwRefIdeal.Hand

open Cert.UpDwRefIdeal Cert.UpDwRefIdeal.Gen Idealize.ShloMosaic Idealize.ShloMosaic.TcCoe Idealize.SL.Sem

/-- The reference's run: the same result, the arguments kept. -/
theorem run (m : (ℓ : Loc nD τ sig) → Buf (Elt Ideal) ℓ) (g : Dev nD → PrngReg) :
    θ_run defs (onTc (τ := τ) (main (F := Ideal))) ⟨m, fun _ => 0, g⟩ fun r => ∀ c : Dev nD,
    r.2.mem (c.tc.loc main_v6) = Cert.UpDwIdeal.Hand.grad (m (c.tc.loc main_arg0)) (m (c.tc.loc main_arg1))
    ∧ r.2.mem (c.tc.loc main_arg0) = m (c.tc.loc main_arg0)
    ∧ r.2.mem (c.tc.loc main_arg1) = m (c.tc.loc main_arg1) := by
  refine (θ_run defs _ _).mono (fun _ h c => ⟨(h c).1.trans ?_, (h c).2⟩) (Value.run m g)
  generalize m (c.tc.loc main_arg0) = x0
  generalize m (c.tc.loc main_arg1) = x1
  funext i
  pointwise [Cert.UpDwIdeal.Hand.grad]
  refine Finset.sum_congr rfl fun k _ => (mul_comm _ _).trans (congrArg (Cert.UpDwIdeal.Hand.term _) (congrArg x0 (congrArg (ix2 k) (Fin.ext ?_))))
  show (i 0).val * 512 + (i 2).val = 512 * (i 0).val + (i 2).val
  omega

end Cert.UpDwRefIdeal.Hand

end
-- ==== Proof.UpDxVal.lean ====
/-
  The gradient of the MLP's input over the extended reals: the pre-activation's gradient by the layer's transposed
  first weight matrix, read out of slabs of 512 columns, plus the residual's gradient. The call adds four blocks of the
  hidden axis one after the other.
-/
module

public import proofs.«01_k».proof.Proof.Gen.UpDxIdeal.Value
public import proofs.«01_k».proof.Proof.Gen.UpDxRefIdeal.Run
public import proofs.«01_k».proof.Proof.BlockSum
public import proofs.«01_k».proof.Proof.Base

@[expose] public section

noncomputable section

namespace Cert.UpDxIdeal.Hand

open Cert.UpDxIdeal Cert.UpDxIdeal.Gen Idealize.ShloMosaic Idealize.ShloMosaic.TcCoe Idealize.SL.Sem
open Idealize.ShloMosaic.Pipeline (Dat)

variable (c : Dev nD) (i : grid0.Coords) (a0 : Memref sig .tc .vmem S1024x1024 .bf16) (h0 : a0.IsWhole) (a1 : Memref sig .tc .vmem S2x1x1024x512 .bf16) (h1 : a1.IsWhole) (a2 : Memref sig .tc .vmem S1024x1024 .f32) (h2 : a2.IsWhole) (a3 : Memref sig .tc .vmem S1024x1024 .f32) (h3 : a3.IsWhole) (a4 : Memref sig .tc .vmem S1024x1024 .f32) (h4 : a4.IsWhole)

/-- What the first point of a run leaves in the accumulator. -/
theorem sout_A
    (hc0 : cond0_0 i) (hc1 : ¬cond0_1 i) (hc2 : ¬cond0_2 i) (x0 : Vec Ideal S1024x1024 .bf16) (x1 : Vec Ideal S2x1x1024x512 .bf16) (x2 : Vec Ideal S1024x1024 .f32) :
    sout0_A_0 c i a0 h0 a1 h1 a2 h2 a3 h3 a4 h4 hc0 hc1 hc2 x0 x1 x2 = k0_pay2 x0 x1 := by
  unfold sout0_A_0
  rw [View.read_writes_eq_canon _ _ _ (scover0_A_0 c i a0 h0 a1 h1 a2 h2 a3 h3 a4 h4 hc0 hc1 hc2 x0 x1 x2)]
  unfold kernelRun0_A
  dsimp only
  rw [View.canon_unit_zero hz]
  simp only [View.readAt_eq_ld, h0.read_unread, h1.read_unread, h2.read_unread, h4.read_unread, View.ld_unit_zero (S := S1024x1024) hz, View.ld_unit_zero (S := S2x1x1024x512) hz4]

/-- What a middle point leaves in it. -/
theorem sout_B
    (hc0 : ¬cond0_0 i) (hc1 : cond0_1 i) (hc2 : ¬cond0_2 i) (x0 : Vec Ideal S1024x1024 .bf16) (x1 : Vec Ideal S2x1x1024x512 .bf16) (x2 : Vec Ideal S1024x1024 .f32) (xs0 : Vec Ideal S1024x1024 .f32) :
    sout0_B_0 c i a0 h0 a1 h1 a2 h2 a3 h3 a4 h4 hc0 hc1 hc2 x0 x1 x2 xs0 = k0_pay3 x0 x1 xs0 := by
  unfold sout0_B_0
  rw [View.read_writes_eq_canon _ _ _ (scover0_B_0 c i a0 h0 a1 h1 a2 h2 a3 h3 a4 h4 hc0 hc1 hc2 x0 x1 x2 xs0)]
  unfold kernelRun0_B
  dsimp only
  rw [View.canon_unit_zero hz]
  simp only [View.readAt_eq_ld, h0.read_unread, h1.read_unread, h2.read_unread, h4.read_unread, View.ld_unit_zero (S := S1024x1024) hz, View.ld_unit_zero (S := S2x1x1024x512) hz4]

variable (m : (ℓ : Loc nD τ sig) → Buf (Elt Ideal) ℓ)

theorem acc_first (c : Dev nD) (t : Fin cfg0.N) (h : t.val % 4 = 0) :
    (outsAt0 m c t.val t.isLt).2 = k0_pay2 (iblk m c 0 t) (iblk m c 1 t) := by
  rw [outsAt0_A m c t h (by omega) (by omega)]
  dsimp only
  rw [sout_A]

theorem acc_next (c : Dev nD) (t : Fin cfg0.N) (h : 1 ≤ t.val % 4 ∧ t.val % 4 ≤ 2) :
    (outsAt0 m c t.val t.isLt).2
      = k0_pay3 (iblk m c 0 t) (iblk m c 1 t) (outsAt0 m c (t.val - 1) (Nat.lt_of_le_of_lt (Nat.sub_le _ _) t.isLt)).2 := by
  rw [outsAt0_B m c t (by omega) h (by omega)]
  dsimp only
  rw [sout_B]

/-- The accumulator before the last point of run `q`, over the blocks of the three points before. -/
theorem acc_at (c : Dev nD) (q : ℕ) (h : 4 * q + 3 < cfg0.N) (n : ℕ) (hn : n < cfg0.N) (e : n = 4 * q + 2) :
    (outsAt0 m c n hn).2 = k0_pay3 (iblk m c 0 ⟨4 * q + 2, by omega⟩) (iblk m c 1 ⟨4 * q + 2, by omega⟩)
      (k0_pay3 (iblk m c 0 ⟨4 * q + 1, by omega⟩) (iblk m c 1 ⟨4 * q + 1, by omega⟩) (k0_pay2 (iblk m c 0 ⟨4 * q, by omega⟩) (iblk m c 1 ⟨4 * q, by omega⟩))) := by
  have e0 := acc_first m c ⟨4 * q, by omega⟩ (by dsimp only; omega)
  have e1 := acc_next m c ⟨4 * q + 1, by omega⟩ (by dsimp only; omega)
  have e2 := acc_next m c ⟨4 * q + 2, by omega⟩ (by dsimp only; omega)
  simp only [Nat.add_sub_cancel, Nat.add_succ_sub_one] at e0 e1 e2
  subst e
  rw [e2, e1, e0]

/-- What the last point of a run stores. -/
theorem out_C
    (hc0 : ¬cond0_0 i) (hc1 : ¬cond0_1 i) (hc2 : cond0_2 i) (x0 : Vec Ideal S1024x1024 .bf16) (x1 : Vec Ideal S2x1x1024x512 .bf16) (x2 : Vec Ideal S1024x1024 .f32) (xs0 : Vec Ideal S1024x1024 .f32) :
    out0_C_3 c i a0 h0 a1 h1 a2 h2 a3 h3 a4 h4 hc0 hc1 hc2 x0 x1 x2 xs0 = k0_pay4 x0 x1 xs0 x2 := by
  unfold out0_C_3
  rw [View.read_writes_eq_canon _ _ _ (cover0_C_3 c i a0 h0 a1 h1 a2 h2 a3 h3 a4 h4 hc0 hc1 hc2 x0 x1 x2 xs0)]
  unfold kernelRun0_C
  dsimp only
  rw [View.canon_unit_zero hz]
  simp only [View.readAt_eq_ld, h0.read_unread, h1.read_unread, h2.read_unread, h4.read_unread, View.ld_unit_zero (S := S1024x1024) hz, View.ld_unit_zero (S := S2x1x1024x512) hz4]

/-- What the last point of run `q` stores, over the blocks of its four points. -/
theorem out_at (c : Dev nD) (q : ℕ) (h : 4 * q + 3 < cfg0.N) :
    (outsAt0 m c (4 * q + 3) h).1 = k0_pay4 (iblk m c 0 ⟨4 * q + 3, h⟩) (iblk m c 1 ⟨4 * q + 3, h⟩) (k0_pay3 (iblk m c 0 ⟨4 * q + 2, by omega⟩) (iblk m c 1 ⟨4 * q + 2, by omega⟩)
      (k0_pay3 (iblk m c 0 ⟨4 * q + 1, by omega⟩) (iblk m c 1 ⟨4 * q + 1, by omega⟩) (k0_pay2 (iblk m c 0 ⟨4 * q, by omega⟩) (iblk m c 1 ⟨4 * q, by omega⟩)))) (iblk m c 2 ⟨4 * q + 3, h⟩) := by
  have e := congrArg Prod.fst (outsAt0_C m c ⟨4 * q + 3, h⟩ (by dsimp only; omega) (by dsimp only; omega) (by dsimp only; omega))
  rw [out_C, acc_at m c q h _ _ (by dsimp only; omega)] at e
  exact e

/-- The weight slab's entry of a hidden position: 512 columns to a slab. -/
def col (k : Fin 1024) (r : Fin 1024) : S2x1x1024x512.Idx := ix4 ⟨k.val / 512, by omega⟩ 0 r ⟨k.val % 512, by omega⟩

/-- One term of a product. -/
def term (a b : EReal) : EReal := a * b

/-- A product of a point, at an index. -/
theorem pay1_apply (a : Vec Ideal S1024x1024 .bf16) (b : Vec Ideal S2x1x1024x512 .bf16) (p r : Fin 1024) :
    k0_pay1 a b (ix2 p r) = ∑ k : Fin 1024, term (a (ix2 p k)) (b (col k r)) := by
  pointwise [k0_pay1]
  rw [Cert.Hand.sum_two]
  refine congrArg₂ (· + ·) ?_ ?_
  · refine Finset.sum_congr rfl fun k _ => congrArg (term (a (ix2 p ⟨k.val, by omega⟩))) (congrArg b (funext fun x => Fin.ext ?_))
    match x with
    | ⟨0, _⟩ => show 0 = k.val / 512; omega
    | ⟨1, _⟩ => rfl
    | ⟨2, _⟩ => rfl
    | ⟨3, _⟩ => show k.val = k.val % 512; omega
  · refine Finset.sum_congr rfl fun k _ => congrArg (term (a (ix2 p ⟨512 + k.val, by omega⟩))) (congrArg b (funext fun x => Fin.ext ?_))
    match x with
    | ⟨0, _⟩ => show 1 = (512 + k.val) / 512; omega
    | ⟨1, _⟩ => rfl
    | ⟨2, _⟩ => rfl
    | ⟨3, _⟩ => show k.val = (512 + k.val) % 512; omega

/-- The stored block at an index. -/
theorem pay_apply (a0 a1 a2 a3 : Vec Ideal S1024x1024 .bf16) (b0 b1 b2 b3 : Vec Ideal S2x1x1024x512 .bf16) (d : Vec Ideal S1024x1024 .f32) (p r : Fin 1024) :
    k0_pay4 a3 b3 (k0_pay3 a2 b2 (k0_pay3 a1 b1 (k0_pay2 a0 b0))) d (ix2 p r)
      = (k0_pay1 a0 b0 (ix2 p r) : EReal) + k0_pay1 a1 b1 (ix2 p r) + k0_pay1 a2 b2 (ix2 p r) + k0_pay1 a3 b3 (ix2 p r) + d (ix2 p r) := by
  unfold k0_pay4 k0_pay3 k0_pay2
  generalize k0_pay1 a0 b0 = e0
  generalize k0_pay1 a1 b1 = e1
  generalize k0_pay1 a2 b2 = e2
  generalize k0_pay1 a3 b3 = e3
  pointwise

/-- The gradient: row `i 0` of the pre-activation's gradient by row `i 1` of layer 1's weights, plus the residual's. -/
def grad (g : FVec Ideal S4096x4096 .f32) (d : FVec Ideal S4096x1024 .f32) (w : FVec Ideal S2x1024x4096 .f32) : FVec Ideal S4096x1024 .f32 := fun i =>
  ∑ k : Fin 4096, g (ix2 (i 0) k) * w (ix3 1 (i 1) k) + d i

/-- The pre-activation's gradient as the call reads it. -/
theorem V_g (c : Dev nD) (j : S4096x4096.Idx) : V m c main_v0 j = m (c.tc.loc main_arg0) j := by
  unfold_abbrev_sides
  after_results
  rfl

/-- The residual's gradient as the call reads it. -/
theorem V_d (c : Dev nD) (j : S4096x1024.Idx) : V m c main_arg1 j = m (c.tc.loc main_arg1) j := by
  unfold_abbrev_sides
  after_results

/-- The weights as the call reads them: slab `s` holds the columns from `512 * s` on. -/
theorem V_w (c : Dev nD) (s : Fin 8) (l : Fin 2) (k : Fin 1024) (n : Fin 512) :
    V m c main_v3 (ix4 s l k n) = m (c.tc.loc main_arg2) (ix3 l k ⟨512 * s.val + n.val, by omega⟩) := by
  unfold_abbrev_sides
  after_results
  pointwise
  exact congrArg (m (c, Proc.tc.devRef main_arg2)) (congrArg (ix3 l k) (Fin.ext (by show s.val * 512 + n.val = 512 * s.val + n.val; omega)))

/-- Which blocks grid point `t` reads and writes. -/
theorem idx0 : ∀ t : Fin cfg0.N, win0_0.index t (0 : Fin 2) = t.val / 4 ∧ win0_0.index t (1 : Fin 2) = t.val % 4 :=
  (by decide +kernel : ∀ t : Fin grid0.N, _)
theorem idx1 : ∀ t : Fin cfg0.N, win0_1.index t (0 : Fin 4) = t.val % 4 ∧ win0_1.index t (1 : Fin 4) = 1 ∧ win0_1.index t (2 : Fin 4) = 0 ∧ win0_1.index t (3 : Fin 4) = 0 :=
  (by decide +kernel : ∀ t : Fin grid0.N, _)
theorem idx2 : ∀ t : Fin cfg0.N, win0_2.index t (0 : Fin 2) = t.val / 4 ∧ win0_2.index t (1 : Fin 2) = 0 :=
  (by decide +kernel : ∀ t : Fin grid0.N, _)
theorem idx3 : ∀ t : Fin cfg0.N, win0_3.index t (0 : Fin 2) = t.val / 4 ∧ win0_3.index t (1 : Fin 2) = 0 :=
  (by decide +kernel : ∀ t : Fin grid0.N, _)

theorem lt_N (n : ℕ) (hn : n < cfg0.N) : n < 16 := lt_of_lt_of_eq hn (show cfg0.N = 16 from N_0)

/-- The pre-activation gradient's block at grid point `n`. -/
theorem iblk0_apply (c : Dev nD) (n : ℕ) (hn : n < cfg0.N) (p : Fin 1024) (r : Fin 1024) :
    iblk m c 0 ⟨n, hn⟩ (ix2 p r) = m (c.tc.loc main_arg0)
      (ix2 ⟨1024 * (n / 4) + p.val, by have := lt_N n hn; omega⟩ ⟨1024 * (n % 4) + r.val, by have := lt_N n hn; omega⟩) := by
  refine Eq.trans ?_ (V_g m c _)
  show V m c main_v0 _ = V m c main_v0 _
  congr 1
  obtain ⟨e0, e1⟩ := idx0 ⟨n, hn⟩
  dsimp only at e0 e1
  funext a
  apply Fin.ext
  match a with
  | ⟨0, _⟩ => show win0_0.index ⟨n, hn⟩ (0 : Fin 2) * 1024 + 1 * p.val = 1024 * (n / 4) + p.val; rw [e0]; omega
  | ⟨1, _⟩ => show win0_0.index ⟨n, hn⟩ (1 : Fin 2) * 1024 + 1 * r.val = 1024 * (n % 4) + r.val; rw [e1]; omega

/-- The residual gradient's block at grid point `n`. -/
theorem iblk2_apply (c : Dev nD) (n : ℕ) (hn : n < cfg0.N) (p : Fin 1024) (r : Fin 1024) :
    iblk m c 2 ⟨n, hn⟩ (ix2 p r) = m (c.tc.loc main_arg1)
      (ix2 ⟨1024 * (n / 4) + p.val, by have := lt_N n hn; omega⟩ ⟨1024 * (0) + r.val, by have := lt_N n hn; omega⟩) := by
  refine Eq.trans ?_ (V_d m c _)
  show V m c main_arg1 _ = V m c main_arg1 _
  congr 1
  obtain ⟨e0, e1⟩ := idx2 ⟨n, hn⟩
  dsimp only at e0 e1
  funext a
  apply Fin.ext
  match a with
  | ⟨0, _⟩ => show win0_2.index ⟨n, hn⟩ (0 : Fin 2) * 1024 + 1 * p.val = 1024 * (n / 4) + p.val; rw [e0]; omega
  | ⟨1, _⟩ => show win0_2.index ⟨n, hn⟩ (1 : Fin 2) * 1024 + 1 * r.val = 1024 * (0) + r.val; rw [e1]; omega

/-- The weights' block at grid point `n`: a hidden position's column. -/
theorem iblk1_apply (c : Dev nD) (n : ℕ) (hn : n < cfg0.N) (k r : Fin 1024) :
    iblk m c 1 ⟨n, hn⟩ (col k r) = m (c.tc.loc main_arg2) (ix3 1 r ⟨1024 * (n % 4) + k.val, by omega⟩) := by
  refine Eq.trans ?_ ((V_w m c ⟨2 * (n % 4) + k.val / 512, by omega⟩ 1 r ⟨k.val % 512, by omega⟩).trans
    (congrArg (m (c.tc.loc main_arg2)) (congrArg (ix3 1 r) (Fin.ext (by
      show 512 * (2 * (n % 4) + k.val / 512) + k.val % 512 = 1024 * (n % 4) + k.val; omega)))))
  show V m c main_v3 _ = V m c main_v3 _
  congr 1
  obtain ⟨e0, e1, e2, e3⟩ := idx1 ⟨n, hn⟩
  dsimp only at e0 e1 e2 e3
  funext a
  apply Fin.ext
  match a with
  | ⟨0, _⟩ => show win0_1.index ⟨n, hn⟩ (0 : Fin 4) * 2 + 1 * (k.val / 512) = 2 * (n % 4) + k.val / 512; rw [e0]; omega
  | ⟨1, _⟩ => show win0_1.index ⟨n, hn⟩ (1 : Fin 4) * 1 + 1 * 0 = 1; rw [e1]
  | ⟨2, _⟩ => show win0_1.index ⟨n, hn⟩ (2 : Fin 4) * 1024 + 1 * r.val = r.val; rw [e2]; omega
  | ⟨3, _⟩ => show win0_1.index ⟨n, hn⟩ (3 : Fin 4) * 512 + 1 * (k.val % 512) = k.val % 512; rw [e3]; omega

/-- One term of a point's product is a term of the gradient's sum. -/
theorem term_eq (c : Dev nD) (n : ℕ) (hn : n < cfg0.N) (s q : ℕ) (hs : n % 4 = s) (hq : n / 4 = q) (k p r : Fin 1024) :
    term (iblk m c 0 ⟨n, hn⟩ (ix2 p k)) (iblk m c 1 ⟨n, hn⟩ (col k r))
      = term (m (c.tc.loc main_arg0) (ix2 ⟨1024 * q + p.val, by have := lt_N n hn; omega⟩ ⟨1024 * s + k.val, by omega⟩))
        (m (c.tc.loc main_arg2) (ix3 1 r ⟨1024 * s + k.val, by omega⟩)) := by
  subst hs hq
  rw [iblk0_apply, iblk1_apply]

/-- What the last point of run `q` stores is its block of the gradient. -/
theorem block_value (c : Dev nD) (q : ℕ) (h : 4 * q + 3 < cfg0.N) (p r : Fin 1024) :
    (outsAt0 m c (4 * q + 3) h).1 (ix2 p r) = grad (m (c.tc.loc main_arg0)) (m (c.tc.loc main_arg1)) (m (c.tc.loc main_arg2)) (ix2 ⟨1024 * q + p.val, by have := lt_N _ h; omega⟩ ⟨1024 * 0 + r.val, by omega⟩) := by
  rw [out_at, pay_apply, pay1_apply, pay1_apply, pay1_apply, pay1_apply, iblk2_apply]
  unfold grad
  rw [Cert.Hand.sum_four]
  have er : (⟨1024 * 0 + r.val, by omega⟩ : Fin 1024) = r := Fin.ext (by show 1024 * 0 + r.val = r.val; omega)
  have eq : (⟨1024 * ((4 * q + 3) / 4) + p.val, by have := lt_N _ h; omega⟩ : Fin 4096) = ⟨1024 * q + p.val, by have := lt_N _ h; omega⟩ :=
    Fin.ext (by show 1024 * ((4 * q + 3) / 4) + p.val = 1024 * q + p.val; omega)
  rw [er, eq]
  refine congrArg₂ (· + ·) (congrArg₂ (· + ·) (congrArg₂ (· + ·) (congrArg₂ (· + ·) ?_ ?_) ?_) ?_) rfl
  · exact Finset.sum_congr rfl fun k _ => term_eq m c (4 * q) (by omega) 0 q (by omega) (by omega) k p r
  · exact Finset.sum_congr rfl fun k _ => term_eq m c (4 * q + 1) (by omega) 1 q (by omega) (by omega) k p r
  · exact Finset.sum_congr rfl fun k _ => term_eq m c (4 * q + 2) (by omega) 2 q (by omega) (by omega) k p r
  · exact Finset.sum_congr rfl fun k _ => term_eq m c (4 * q + 3) (by omega) 3 q (by omega) (by omega) k p r

/-- The result's array as the claim names it. -/
abbrev result (c : Dev nD) : Buf (Elt Ideal) ((c : Thread nD τ).loc main_v4) := grad (m (c.tc.loc main_arg0)) (m (c.tc.loc main_arg1)) (m (c.tc.loc main_arg2))

/-- What a point that writes back writes is its block of the gradient. -/
theorem flushed_eq (c : Dev nD) (t : Fin cfg0.N) (hf : (cfg0.win 3).flush t = true) :
    (dats m 0 c).flushed 3 t = ((cfg0.win 3).blk t).view.read (Elt Ideal) (result m c) := by
  have hm : t.val % 4 = 3 := (flush0_3 t).mp hf
  obtain ⟨q, h, rfl⟩ : ∃ q, ∃ h : 4 * q + 3 < cfg0.N, t = ⟨4 * q + 3, h⟩ := ⟨t.val / 4, by have := t.isLt; omega, Fin.ext (by show t.val = 4 * (t.val / 4) + 3; omega)⟩
  rw [Value.flushed3]
  funext y
  obtain ⟨e0, e1⟩ := idx3 ⟨4 * q + 3, h⟩
  dsimp only at e0 e1
  have hy0 : (y 0).val < 1024 := (y 0).isLt
  have hy1 : (y 1).val < 1024 := (y 1).isLt
  refine Eq.trans ?_ ((block_value m c q h ⟨(y 0).val, hy0⟩ ⟨(y 1).val, hy1⟩).trans ?_)
  · exact congrArg ((outsAt0 m c (4 * q + 3) h).1 : Vec Ideal S1024x1024 .f32) (funext fun a => by match a with | ⟨0, _⟩ => rfl | ⟨1, _⟩ => rfl)
  · refine congrArg (result m c) (funext fun a => Fin.ext ?_)
    match a with
    | ⟨0, _⟩ => show 1024 * q + (y 0).val = win0_3.index ⟨4 * q + 3, h⟩ (0 : Fin 2) * 1024 + 1 * (y 0).val; rw [e0]; omega
    | ⟨1, _⟩ => show 1024 * 0 + (y 1).val = win0_3.index ⟨4 * q + 3, h⟩ (1 : Fin 2) * 1024 + 1 * (y 1).val; rw [e1]; omega

/-- The result array is the gradient. -/
theorem final (c : Dev nD) : (dats m 0 c).arrAt 3 cfg0.N = result m c :=
  (dats m 0 c).arrAt_eq_of_cover 3 _ (fun t hf => flushed_eq m c t hf) fun i => by
    have h0 : (i 0).val < 4096 := (i 0).isLt
    have h1 : (i 1).val < 1024 := (i 1).isLt
    have hN : cfg0.N = 16 := N_0
    let t : Fin cfg0.N := ⟨4 * ((i 0).val / 1024) + 3, by omega⟩
    obtain ⟨e0, e1⟩ := idx3 t
    have tv : t.val = 4 * ((i 0).val / 1024) + 3 := rfl
    refine ⟨t, (flush0_3 t).mpr (by omega), ?_⟩
    show i ∈ ((View.whole main_v4).slice (win0_3.rect t)).set
    rw [View.set_slice_whole, Rect.mem_set_unit]
    intro a
    match a with
    | ⟨0, _⟩ => show win0_3.index t (0 : Fin 2) * 1024 ≤ (i 0).val ∧ (i 0).val < win0_3.index t (0 : Fin 2) * 1024 + 1024; omega
    | ⟨1, _⟩ => show win0_3.index t (1 : Fin 2) * 1024 ≤ (i 1).val ∧ (i 1).val < win0_3.index t (1 : Fin 2) * 1024 + 1024; omega

end Cert.UpDxIdeal.Hand

namespace Cert.UpDxRefIdeal.Hand

open Cert.UpDxRefIdeal Cert.UpDxRefIdeal.Gen Idealize.ShloMosaic Idealize.ShloMosaic.TcCoe Idealize.SL.Sem

/-- The reference's run: the same result, the arguments kept. -/
theorem run (m : (ℓ : Loc nD τ sig) → Buf (Elt Ideal) ℓ) (g : Dev nD → PrngReg) :
    θ_run defs (onTc (τ := τ) (main (F := Ideal))) ⟨m, fun _ => 0, g⟩ fun r => ∀ c : Dev nD,
    r.2.mem (c.tc.loc main_v5) = Cert.UpDxIdeal.Hand.grad (m (c.tc.loc main_arg0)) (m (c.tc.loc main_arg1)) (m (c.tc.loc main_arg2))
    ∧ r.2.mem (c.tc.loc main_arg0) = m (c.tc.loc main_arg0)
    ∧ r.2.mem (c.tc.loc main_arg1) = m (c.tc.loc main_arg1)
    ∧ r.2.mem (c.tc.loc main_arg2) = m (c.tc.loc main_arg2) := by
  refine (θ_run defs _ _).mono (fun _ h c => ⟨(h c).1.trans ?_, (h c).2⟩) (Value.run m g)
  generalize m (c.tc.loc main_arg0) = x0
  generalize m (c.tc.loc main_arg1) = x1
  generalize m (c.tc.loc main_arg2) = x2
  funext i
  pointwise [Cert.UpDxIdeal.Hand.grad]

end Cert.UpDxRefIdeal.Hand

end
-- ==== Proof.DownVal.lean ====
/-
  The MLP's second product over the extended reals: the squared rectified pre-activation by the layer's second weight
  matrix, read out of slabs of 512 rows. The call adds four blocks of the hidden axis one after the other.
-/
module

public import proofs.«01_k».proof.Proof.Gen.DownIdeal.Value
public import proofs.«01_k».proof.Proof.Gen.DownRefIdeal.Run
public import proofs.«01_k».proof.Proof.BlockSum
public import proofs.«01_k».proof.Proof.Base

@[expose] public section

noncomputable section

namespace Cert.DownIdeal.Hand

open Cert.DownIdeal Cert.DownIdeal.Gen Idealize.ShloMosaic Idealize.ShloMosaic.TcCoe Idealize.SL.Sem
open Idealize.ShloMosaic.Pipeline (Dat)

variable (c : Dev nD) (i : grid0.Coords) (a0 : Memref sig .tc .vmem S1024x1024 .bf16) (h0 : a0.IsWhole) (a1 : Memref sig .tc .vmem S2x1x512x1024 .bf16) (h1 : a1.IsWhole) (a2 : Memref sig .tc .vmem S1024x1024 .bf16) (h2 : a2.IsWhole) (a3 : Memref sig .tc .vmem S1024x1024 .f32) (h3 : a3.IsWhole)

/-- What the first point of a run leaves in the accumulator. -/
theorem sout_A
    (hc0 : cond0_0 i) (hc1 : ¬cond0_1 i) (hc2 : ¬cond0_2 i) (x0 : Vec Ideal S1024x1024 .bf16) (x1 : Vec Ideal S2x1x512x1024 .bf16) :
    sout0_A_0 c i a0 h0 a1 h1 a2 h2 a3 h3 hc0 hc1 hc2 x0 x1 = k0_pay2 x0 x1 := by
  unfold sout0_A_0
  rw [View.read_writes_eq_canon _ _ _ (scover0_A_0 c i a0 h0 a1 h1 a2 h2 a3 h3 hc0 hc1 hc2 x0 x1)]
  unfold kernelRun0_A
  dsimp only
  rw [View.canon_unit_zero hz]
  simp only [View.readAt_eq_ld, h0.read_unread, h1.read_unread, h3.read_unread, View.ld_unit_zero (S := S1024x1024) hz, View.ld_unit_zero (S := S2x1x512x1024) hz4]

/-- What a middle point leaves in it. -/
theorem sout_B
    (hc0 : ¬cond0_0 i) (hc1 : cond0_1 i) (hc2 : ¬cond0_2 i) (x0 : Vec Ideal S1024x1024 .bf16) (x1 : Vec Ideal S2x1x512x1024 .bf16) (xs0 : Vec Ideal S1024x1024 .f32) :
    sout0_B_0 c i a0 h0 a1 h1 a2 h2 a3 h3 hc0 hc1 hc2 x0 x1 xs0 = k0_pay3 x0 x1 xs0 := by
  unfold sout0_B_0
  rw [View.read_writes_eq_canon _ _ _ (scover0_B_0 c i a0 h0 a1 h1 a2 h2 a3 h3 hc0 hc1 hc2 x0 x1 xs0)]
  unfold kernelRun0_B
  dsimp only
  rw [View.canon_unit_zero hz]
  simp only [View.readAt_eq_ld, h0.read_unread, h1.read_unread, h3.read_unread, View.ld_unit_zero (S := S1024x1024) hz, View.ld_unit_zero (S := S2x1x512x1024) hz4]

variable (m : (ℓ : Loc nD τ sig) → Buf (Elt Ideal) ℓ)

theorem acc_first (c : Dev nD) (t : Fin cfg0.N) (h : t.val % 4 = 0) :
    (outsAt0 m c t.val t.isLt).2 = k0_pay2 (iblk m c 0 t) (iblk m c 1 t) := by
  rw [outsAt0_A m c t h (by omega) (by omega)]
  dsimp only
  rw [sout_A]

theorem acc_next (c : Dev nD) (t : Fin cfg0.N) (h : 1 ≤ t.val % 4 ∧ t.val % 4 ≤ 2) :
    (outsAt0 m c t.val t.isLt).2
      = k0_pay3 (iblk m c 0 t) (iblk m c 1 t) (outsAt0 m c (t.val - 1) (Nat.lt_of_le_of_lt (Nat.sub_le _ _) t.isLt)).2 := by
  rw [outsAt0_B m c t (by omega) h (by omega)]
  dsimp only
  rw [sout_B]

/-- The accumulator before the last point of run `q`, over the blocks of the three points before. -/
theorem acc_at (c : Dev nD) (q : ℕ) (h : 4 * q + 3 < cfg0.N) (n : ℕ) (hn : n < cfg0.N) (e : n = 4 * q + 2) :
    (outsAt0 m c n hn).2 = k0_pay3 (iblk m c 0 ⟨4 * q + 2, by omega⟩) (iblk m c 1 ⟨4 * q + 2, by omega⟩)
      (k0_pay3 (iblk m c 0 ⟨4 * q + 1, by omega⟩) (iblk m c 1 ⟨4 * q + 1, by omega⟩) (k0_pay2 (iblk m c 0 ⟨4 * q, by omega⟩) (iblk m c 1 ⟨4 * q, by omega⟩))) := by
  have e0 := acc_first m c ⟨4 * q, by omega⟩ (by dsimp only; omega)
  have e1 := acc_next m c ⟨4 * q + 1, by omega⟩ (by dsimp only; omega)
  have e2 := acc_next m c ⟨4 * q + 2, by omega⟩ (by dsimp only; omega)
  simp only [Nat.add_sub_cancel, Nat.add_succ_sub_one] at e0 e1 e2
  subst e
  rw [e2, e1, e0]

/-- What the last point of a run stores. -/
theorem out_C
    (hc0 : ¬cond0_0 i) (hc1 : ¬cond0_1 i) (hc2 : cond0_2 i) (x0 : Vec Ideal S1024x1024 .bf16) (x1 : Vec Ideal S2x1x512x1024 .bf16) (xs0 : Vec Ideal S1024x1024 .f32) :
    out0_C_2 c i a0 h0 a1 h1 a2 h2 a3 h3 hc0 hc1 hc2 x0 x1 xs0 = k0_pay4 x0 x1 xs0 := by
  unfold out0_C_2
  rw [View.read_writes_eq_canon _ _ _ (cover0_C_2 c i a0 h0 a1 h1 a2 h2 a3 h3 hc0 hc1 hc2 x0 x1 xs0)]
  unfold kernelRun0_C
  dsimp only
  rw [View.canon_unit_zero hz]
  simp only [View.readAt_eq_ld, h0.read_unread, h1.read_unread, h3.read_unread, View.ld_unit_zero (S := S1024x1024) hz, View.ld_unit_zero (S := S2x1x512x1024) hz4]

/-- What the last point of run `q` stores, over the blocks of its four points. -/
theorem out_at (c : Dev nD) (q : ℕ) (h : 4 * q + 3 < cfg0.N) :
    (outsAt0 m c (4 * q + 3) h).1 = k0_pay4 (iblk m c 0 ⟨4 * q + 3, h⟩) (iblk m c 1 ⟨4 * q + 3, h⟩) (k0_pay3 (iblk m c 0 ⟨4 * q + 2, by omega⟩) (iblk m c 1 ⟨4 * q + 2, by omega⟩)
      (k0_pay3 (iblk m c 0 ⟨4 * q + 1, by omega⟩) (iblk m c 1 ⟨4 * q + 1, by omega⟩) (k0_pay2 (iblk m c 0 ⟨4 * q, by omega⟩) (iblk m c 1 ⟨4 * q, by omega⟩)))) := by
  have e := congrArg Prod.fst (outsAt0_C m c ⟨4 * q + 3, h⟩ (by dsimp only; omega) (by dsimp only; omega) (by dsimp only; omega))
  rw [out_C, acc_at m c q h _ _ (by dsimp only; omega)] at e
  exact e

/-- The weight slab's entry of a hidden position: 512 rows to a slab. -/
def row (k : Fin 1024) (r : Fin 1024) : S2x1x512x1024.Idx := ix4 ⟨k.val / 512, by omega⟩ 0 ⟨k.val % 512, by omega⟩ r

/-- One term of a product: a squared rectified entry times a weight. -/
def term (a b : EReal) : EReal := max a 0 * max a 0 * b

/-- A product of a point, at an index. -/
theorem pay1_apply (a : Vec Ideal S1024x1024 .bf16) (b : Vec Ideal S2x1x512x1024 .bf16) (p r : Fin 1024) :
    k0_pay1 a b (ix2 p r) = ∑ k : Fin 1024, term (a (ix2 p k)) (b (row k r)) := by
  unfold term row
  pointwise [k0_pay1]

/-- The stored block at an index. -/
theorem pay_apply (a0 a1 a2 a3 : Vec Ideal S1024x1024 .bf16) (b0 b1 b2 b3 : Vec Ideal S2x1x512x1024 .bf16) (p r : Fin 1024) :
    k0_pay4 a3 b3 (k0_pay3 a2 b2 (k0_pay3 a1 b1 (k0_pay2 a0 b0))) (ix2 p r)
      = (k0_pay1 a0 b0 (ix2 p r) : EReal) + k0_pay1 a1 b1 (ix2 p r) + k0_pay1 a2 b2 (ix2 p r) + k0_pay1 a3 b3 (ix2 p r) := by
  unfold k0_pay4 k0_pay3 k0_pay2
  generalize k0_pay1 a0 b0 = e0
  generalize k0_pay1 a1 b1 = e1
  generalize k0_pay1 a2 b2 = e2
  generalize k0_pay1 a3 b3 = e3
  pointwise

/-- The product: row `i 0` of the squared rectified pre-activation by column `i 1` of layer 1's weights. -/
def prod (x : FVec Ideal S4096x4096 .f32) (w : FVec Ideal S2x4096x1024 .f32) : FVec Ideal S4096x1024 .bf16 := fun i =>
  ∑ k : Fin 4096, term (x (ix2 (i 0) k)) (w (ix3 1 k (i 1)))

/-- The pre-activation as the call reads it. -/
theorem V_x (c : Dev nD) (j : S4096x4096.Idx) : V m c main_v0 j = m (c.tc.loc main_arg0) j := by
  unfold_abbrev_sides
  after_results
  rfl

/-- The weights as the call reads them: slab `s` holds the rows from `512 * s` on. -/
theorem V_w (c : Dev nD) (s : Fin 8) (l : Fin 2) (k : Fin 512) (n : Fin 1024) :
    V m c main_v3 (ix4 s l k n) = m (c.tc.loc main_arg1) (ix3 l ⟨512 * s.val + k.val, by omega⟩ n) := by
  unfold_abbrev_sides
  after_results
  pointwise
  exact congrArg (m (c, Proc.tc.devRef main_arg1)) (congrArg (fun z => ix3 l z n) (Fin.ext (by show s.val * 512 + k.val = 512 * s.val + k.val; omega)))

/-- Which blocks grid point `t` reads and writes. -/
theorem idx0 : ∀ t : Fin cfg0.N, win0_0.index t (0 : Fin 2) = t.val / 4 ∧ win0_0.index t (1 : Fin 2) = t.val % 4 :=
  (by decide +kernel : ∀ t : Fin grid0.N, _)
theorem idx1 : ∀ t : Fin cfg0.N, win0_1.index t (0 : Fin 4) = t.val % 4 ∧ win0_1.index t (1 : Fin 4) = 1 ∧ win0_1.index t (2 : Fin 4) = 0 ∧ win0_1.index t (3 : Fin 4) = 0 :=
  (by decide +kernel : ∀ t : Fin grid0.N, _)
theorem idx2 : ∀ t : Fin cfg0.N, win0_2.index t (0 : Fin 2) = t.val / 4 ∧ win0_2.index t (1 : Fin 2) = 0 :=
  (by decide +kernel : ∀ t : Fin grid0.N, _)

theorem lt_N (n : ℕ) (hn : n < cfg0.N) : n < 16 := lt_of_lt_of_eq hn (show cfg0.N = 16 from N_0)

/-- The pre-activation's block at grid point `n`. -/
theorem iblk0_apply (c : Dev nD) (n : ℕ) (hn : n < cfg0.N) (p : Fin 1024) (r : Fin 1024) :
    iblk m c 0 ⟨n, hn⟩ (ix2 p r) = m (c.tc.loc main_arg0)
      (ix2 ⟨1024 * (n / 4) + p.val, by have := lt_N n hn; omega⟩ ⟨1024 * (n % 4) + r.val, by have := lt_N n hn; omega⟩) := by
  refine Eq.trans ?_ (V_x m c _)
  show V m c main_v0 _ = V m c main_v0 _
  congr 1
  obtain ⟨e0, e1⟩ := idx0 ⟨n, hn⟩
  dsimp only at e0 e1
  funext a
  apply Fin.ext
  match a with
  | ⟨0, _⟩ => show win0_0.index ⟨n, hn⟩ (0 : Fin 2) * 1024 + 1 * p.val = 1024 * (n / 4) + p.val; rw [e0]; omega
  | ⟨1, _⟩ => show win0_0.index ⟨n, hn⟩ (1 : Fin 2) * 1024 + 1 * r.val = 1024 * (n % 4) + r.val; rw [e1]; omega

/-- The weights' block at grid point `n`: a hidden position's row. -/
theorem iblk1_apply (c : Dev nD) (n : ℕ) (hn : n < cfg0.N) (k r : Fin 1024) :
    iblk m c 1 ⟨n, hn⟩ (row k r) = m (c.tc.loc main_arg1) (ix3 1 ⟨1024 * (n % 4) + k.val, by omega⟩ r) := by
  refine Eq.trans ?_ ((V_w m c ⟨2 * (n % 4) + k.val / 512, by omega⟩ 1 ⟨k.val % 512, by omega⟩ r).trans
    (congrArg (m (c.tc.loc main_arg1)) (congrArg (fun z => ix3 1 z r) (Fin.ext (by
      show 512 * (2 * (n % 4) + k.val / 512) + k.val % 512 = 1024 * (n % 4) + k.val; omega)))))
  show V m c main_v3 _ = V m c main_v3 _
  congr 1
  obtain ⟨e0, e1, e2, e3⟩ := idx1 ⟨n, hn⟩
  dsimp only at e0 e1 e2 e3
  funext a
  apply Fin.ext
  match a with
  | ⟨0, _⟩ => show win0_1.index ⟨n, hn⟩ (0 : Fin 4) * 2 + 1 * (k.val / 512) = 2 * (n % 4) + k.val / 512; rw [e0]; omega
  | ⟨1, _⟩ => show win0_1.index ⟨n, hn⟩ (1 : Fin 4) * 1 + 1 * 0 = 1; rw [e1]
  | ⟨2, _⟩ => show win0_1.index ⟨n, hn⟩ (2 : Fin 4) * 512 + 1 * (k.val % 512) = k.val % 512; rw [e2]; omega
  | ⟨3, _⟩ => show win0_1.index ⟨n, hn⟩ (3 : Fin 4) * 1024 + 1 * r.val = r.val; rw [e3]; omega

/-- One term of a point's product is a term of the whole sum. -/
theorem term_eq (c : Dev nD) (n : ℕ) (hn : n < cfg0.N) (s q : ℕ) (hs : n % 4 = s) (hq : n / 4 = q) (k p r : Fin 1024) :
    term (iblk m c 0 ⟨n, hn⟩ (ix2 p k)) (iblk m c 1 ⟨n, hn⟩ (row k r))
      = term (m (c.tc.loc main_arg0) (ix2 ⟨1024 * q + p.val, by have := lt_N n hn; omega⟩ ⟨1024 * s + k.val, by omega⟩))
        (m (c.tc.loc main_arg1) (ix3 1 ⟨1024 * s + k.val, by omega⟩ r)) := by
  subst hs hq
  rw [iblk0_apply, iblk1_apply]

/-- What the last point of run `q` stores is its block of the product. -/
theorem block_value (c : Dev nD) (q : ℕ) (h : 4 * q + 3 < cfg0.N) (p r : Fin 1024) :
    (outsAt0 m c (4 * q + 3) h).1 (ix2 p r) = prod (m (c.tc.loc main_arg0)) (m (c.tc.loc main_arg1)) (ix2 ⟨1024 * q + p.val, by have := lt_N _ h; omega⟩ ⟨1024 * 0 + r.val, by omega⟩) := by
  rw [out_at, pay_apply, pay1_apply, pay1_apply, pay1_apply, pay1_apply]
  unfold prod
  rw [Cert.Hand.sum_four]
  have er : (⟨1024 * 0 + r.val, by omega⟩ : Fin 1024) = r := Fin.ext (by show 1024 * 0 + r.val = r.val; omega)
  rw [er]
  refine congrArg₂ (· + ·) (congrArg₂ (· + ·) (congrArg₂ (· + ·) ?_ ?_) ?_) ?_
  · exact Finset.sum_congr rfl fun k _ => term_eq m c (4 * q) (by omega) 0 q (by omega) (by omega) k p r
  · exact Finset.sum_congr rfl fun k _ => term_eq m c (4 * q + 1) (by omega) 1 q (by omega) (by omega) k p r
  · exact Finset.sum_congr rfl fun k _ => term_eq m c (4 * q + 2) (by omega) 2 q (by omega) (by omega) k p r
  · exact Finset.sum_congr rfl fun k _ => term_eq m c (4 * q + 3) (by omega) 3 q (by omega) (by omega) k p r

/-- The result's array as the claim names it. -/
abbrev result (c : Dev nD) : Buf (Elt Ideal) ((c : Thread nD τ).loc main_v4) := prod (m (c.tc.loc main_arg0)) (m (c.tc.loc main_arg1))

/-- What a point that writes back writes is its block of the product. -/
theorem flushed_eq (c : Dev nD) (t : Fin cfg0.N) (hf : (cfg0.win 2).flush t = true) :
    (dats m 0 c).flushed 2 t = ((cfg0.win 2).blk t).view.read (Elt Ideal) (result m c) := by
  have hm : t.val % 4 = 3 := (flush0_2 t).mp hf
  obtain ⟨q, h, rfl⟩ : ∃ q, ∃ h : 4 * q + 3 < cfg0.N, t = ⟨4 * q + 3, h⟩ := ⟨t.val / 4, by have := t.isLt; omega, Fin.ext (by show t.val = 4 * (t.val / 4) + 3; omega)⟩
  rw [Value.flushed2]
  funext y
  obtain ⟨e0, e1⟩ := idx2 ⟨4 * q + 3, h⟩
  dsimp only at e0 e1
  have hy0 : (y 0).val < 1024 := (y 0).isLt
  have hy1 : (y 1).val < 1024 := (y 1).isLt
  refine Eq.trans ?_ ((block_value m c q h ⟨(y 0).val, hy0⟩ ⟨(y 1).val, hy1⟩).trans ?_)
  · exact congrArg ((outsAt0 m c (4 * q + 3) h).1 : Vec Ideal S1024x1024 .bf16) (funext fun a => by match a with | ⟨0, _⟩ => rfl | ⟨1, _⟩ => rfl)
  · refine congrArg (result m c) (funext fun a => Fin.ext ?_)
    match a with
    | ⟨0, _⟩ => show 1024 * q + (y 0).val = win0_2.index ⟨4 * q + 3, h⟩ (0 : Fin 2) * 1024 + 1 * (y 0).val; rw [e0]; omega
    | ⟨1, _⟩ => show 1024 * 0 + (y 1).val = win0_2.index ⟨4 * q + 3, h⟩ (1 : Fin 2) * 1024 + 1 * (y 1).val; rw [e1]; omega

/-- The result array is the product. -/
theorem final (c : Dev nD) : (dats m 0 c).arrAt 2 cfg0.N = result m c :=
  (dats m 0 c).arrAt_eq_of_cover 2 _ (fun t hf => flushed_eq m c t hf) fun i => by
    have h0 : (i 0).val < 4096 := (i 0).isLt
    have h1 : (i 1).val < 1024 := (i 1).isLt
    have hN : cfg0.N = 16 := N_0
    let t : Fin cfg0.N := ⟨4 * ((i 0).val / 1024) + 3, by omega⟩
    obtain ⟨e0, e1⟩ := idx2 t
    have tv : t.val = 4 * ((i 0).val / 1024) + 3 := rfl
    refine ⟨t, (flush0_2 t).mpr (by omega), ?_⟩
    show i ∈ ((View.whole main_v4).slice (win0_2.rect t)).set
    rw [View.set_slice_whole, Rect.mem_set_unit]
    intro a
    match a with
    | ⟨0, _⟩ => show win0_2.index t (0 : Fin 2) * 1024 ≤ (i 0).val ∧ (i 0).val < win0_2.index t (0 : Fin 2) * 1024 + 1024; omega
    | ⟨1, _⟩ => show win0_2.index t (1 : Fin 2) * 1024 ≤ (i 1).val ∧ (i 1).val < win0_2.index t (1 : Fin 2) * 1024 + 1024; omega

end Cert.DownIdeal.Hand

namespace Cert.DownRefIdeal.Hand

open Cert.DownRefIdeal Cert.DownRefIdeal.Gen Idealize.ShloMosaic Idealize.ShloMosaic.TcCoe Idealize.SL.Sem

/-- The reference's run: the same result, the arguments kept. -/
theorem run (m : (ℓ : Loc nD τ sig) → Buf (Elt Ideal) ℓ) (g : Dev nD → PrngReg) :
    θ_run defs (onTc (τ := τ) (main (F := Ideal))) ⟨m, fun _ => 0, g⟩ fun r => ∀ c : Dev nD,
    r.2.mem (c.tc.loc main_v5) = Cert.DownIdeal.Hand.prod (m (c.tc.loc main_arg0)) (m (c.tc.loc main_arg1))
    ∧ r.2.mem (c.tc.loc main_arg0) = m (c.tc.loc main_arg0)
    ∧ r.2.mem (c.tc.loc main_arg1) = m (c.tc.loc main_arg1) := by
  refine (θ_run defs _ _).mono (fun _ h c => ⟨(h c).1.trans ?_, (h c).2⟩) (Value.run m g)
  generalize m (c.tc.loc main_arg0) = x0
  generalize m (c.tc.loc main_arg1) = x1
  funext i
  pointwise [Cert.DownIdeal.Hand.prod, Cert.DownIdeal.Hand.term]

end Cert.DownRefIdeal.Hand

end
-- ==== Proof.Up0Val.lean ====
/-
  The MLP's up projection over the extended reals: the call's result is the product of the activations by the layer's
  weight matrix, the weights being read out of the slabs each device gathered.
-/
module

public import proofs.«01_k».proof.Proof.Gen.Up0Ideal.Value
public import proofs.«01_k».proof.Proof.Gen.Up0RefIdeal.Run
public import proofs.«01_k».proof.Proof.Base

@[expose] public section

noncomputable section

namespace Cert.Up0Ideal.Hand

open Cert.Up0Ideal Cert.Up0Ideal.Gen Idealize.ShloMosaic Idealize.ShloMosaic.TcCoe Idealize.SL.Sem
open Idealize.ShloMosaic.Pipeline (Dat)

variable (m : (ℓ : Loc nD τ sig) → Buf (Elt Ideal) ℓ)

/-- The product: row `i 0` of the activations by column `i 1` of layer 0's weights. -/
def prod (x : FVec Ideal S4096x1024 .f32) (w : FVec Ideal S2x1024x4096 .f32) : FVec Ideal S4096x4096 .bf16 := fun i =>
  ∑ k : Fin 1024, x (ix2 (i 0) k) * w (ix3 0 k (i 1))

/-- The activations as the call reads them. -/
theorem V_x (c : Dev nD) (j : S4096x1024.Idx) : V m c main_v0 j = m (c.tc.loc main_arg0) j := by
  unfold_abbrev_sides
  after_results
  rfl

/-- The slabs as the call reads them: slab `s` holds columns `512 s …` of each layer. -/
theorem V_w (c : Dev nD) (s : Fin 8) (l : Fin 2) (k : Fin 1024) (n : Fin 512) :
    V m c main_v3 (ix4 s l k n) = m (c.tc.loc main_arg1) (ix3 l k ⟨512 * s.val + n.val, by omega⟩) := by
  unfold_abbrev_sides
  after_results
  pointwise
  exact congrArg (m (c, Proc.tc.devRef main_arg1)) (congrArg (ix3 l k) (Fin.ext (by show s.val * 512 + n.val = 512 * s.val + n.val; omega)))

/-- What one grid point stores. -/
theorem out_A (c : Dev nD) (i : grid0.Coords) (a3 : Memref sig .tc .vmem S2048x1024 .bf16) (h3 : a3.IsWhole)
    (a4 : Memref sig .tc .vmem S2x1x1024x512 .bf16) (h4 : a4.IsWhole) (a5 : Memref sig .tc .vmem S2048x1024 .bf16) (h5 : a5.IsWhole)
    (a6 : Memref sig .tc .vmem S2048x1024 .f32) (h6 : a6.IsWhole) (x0 : Vec Ideal S2048x1024 .bf16) (x1 : Vec Ideal S2x1x1024x512 .bf16) :
    out0_A_2 c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  rw [View.canon_unit_zero hz]
  simp only [View.readAt_eq_ld, h3.read_unread, h4.read_unread, View.ld_unit_zero (S := S2048x1024) hz, View.ld_unit_zero (S := S2x1x1024x512) hz4]

/-- The stored block at an index. -/
theorem pay_apply (x0 : Vec Ideal S2048x1024 .bf16) (x1 : Vec Ideal S2x1x1024x512 .bf16) (p : Fin 2048) (q : Fin 1024) :
    k0_pay1 x0 x1 (ix2 p q) = ∑ k : Fin 1024, x0 (ix2 p k) * x1 (ix4 ⟨q.val / 512, by omega⟩ 0 k ⟨q.val % 512, by omega⟩) := by
  pointwise [k0_pay1]
  refine Finset.sum_congr rfl fun k _ => ?_
  congr 1
  split
  next h =>
    have e0 : (⟨q.val / 512, by omega⟩ : Fin 2) = 0 := Fin.ext (Nat.div_eq_of_lt h)
    have e1 : (⟨q.val % 512, by omega⟩ : Fin 512) = ⟨q.val, h⟩ := Fin.ext (Nat.mod_eq_of_lt h)
    rw [e0, e1]
  next h =>
    have e0 : (⟨q.val / 512, by omega⟩ : Fin 2) = 1 := Fin.ext (by show q.val / 512 = 1; omega)
    have e1 : (⟨q.val % 512, by omega⟩ : Fin 512) = ⟨q.val - 512, by omega⟩ := Fin.ext (by show q.val % 512 = q.val - 512; omega)
    rw [e0, e1]

/-- Which blocks grid point `t` reads and writes. -/
theorem idx0 : ∀ t : Fin cfg0.N, win0_0.index t (0 : Fin 2) = t.val / 4 ∧ win0_0.index t (1 : Fin 2) = 0 :=
  (by decide +kernel : ∀ t : Fin grid0.N, _)
theorem idx1 : ∀ t : Fin cfg0.N, win0_1.index t (0 : Fin 4) = t.val % 4 ∧ win0_1.index t (1 : Fin 4) = 0
    ∧ win0_1.index t (2 : Fin 4) = 0 ∧ win0_1.index t (3 : Fin 4) = 0 :=
  (by decide +kernel : ∀ t : Fin grid0.N, _)
theorem idx2 : ∀ t : Fin cfg0.N, win0_2.index t (0 : Fin 2) = t.val / 4 ∧ win0_2.index t (1 : Fin 2) = t.val % 4 :=
  (by decide +kernel : ∀ t : Fin grid0.N, _)

theorem lt_N (t : Fin cfg0.N) : t.val < 8 := lt_of_lt_of_eq t.isLt (show cfg0.N = 8 from N_0)

/-- The activations' block at a grid point. -/
theorem iblk0_apply (c : Dev nD) (t : Fin cfg0.N) (p : Fin 2048) (k : Fin 1024) :
    iblk m c 0 t (ix2 p k) = m (c.tc.loc main_arg0) (ix2 ⟨2048 * (t.val / 4) + p.val, by have := lt_N t; omega⟩ k) := by
  refine Eq.trans ?_ (V_x m c _)
  show V m c main_v0 _ = V m c main_v0 _
  congr 1
  obtain ⟨e0, e1⟩ := idx0 t
  funext a
  apply Fin.ext
  match a with
  | ⟨0, _⟩ => show win0_0.index t (0 : Fin 2) * 2048 + 1 * p.val = 2048 * (t.val / 4) + p.val; rw [e0]; omega
  | ⟨1, _⟩ => show win0_0.index t (1 : Fin 2) * 1024 + 1 * k.val = k.val; rw [e1]; omega

/-- The slabs' block at a grid point. -/
theorem iblk1_apply (c : Dev nD) (t : Fin cfg0.N) (s : Fin 2) (k : Fin 1024) (n : Fin 512) :
    iblk m c 1 t (ix4 s 0 k n) = m (c.tc.loc main_arg1) (ix3 0 k ⟨1024 * (t.val % 4) + 512 * s.val + n.val, by omega⟩) := by
  refine Eq.trans ?_ ((V_w m c ⟨2 * (t.val % 4) + s.val, by omega⟩ 0 k n).trans
    (congrArg (m (c.tc.loc main_arg1)) (congrArg (ix3 0 k) (Fin.ext (by
      show 512 * (2 * (t.val % 4) + s.val) + n.val = 1024 * (t.val % 4) + 512 * s.val + n.val; omega)))))
  show V m c main_v3 _ = V m c main_v3 _
  congr 1
  obtain ⟨e0, e1, e2, e3⟩ := idx1 t
  funext a
  apply Fin.ext
  match a with
  | ⟨0, _⟩ => show win0_1.index t (0 : Fin 4) * 2 + 1 * s.val = 2 * (t.val % 4) + s.val; rw [e0]; omega
  | ⟨1, _⟩ => show win0_1.index t (1 : Fin 4) * 1 + 1 * 0 = 0; rw [e1]
  | ⟨2, _⟩ => show win0_1.index t (2 : Fin 4) * 1024 + 1 * k.val = k.val; rw [e2]; omega
  | ⟨3, _⟩ => show win0_1.index t (3 : Fin 4) * 512 + 1 * n.val = n.val; rw [e3]; omega

/-- The result's array as the claim names it. -/
abbrev result (c : Dev nD) : Buf (Elt Ideal) ((c : Thread nD τ).loc main_v4) := prod (m (c.tc.loc main_arg0)) (m (c.tc.loc main_arg1))

/-- What grid point `t` writes back is its block of the product. -/
theorem flushed_eq (c : Dev nD) (t : Fin cfg0.N) :
    (dats m 0 c).flushed 2 t = ((cfg0.win 2).blk t).view.read (Elt Ideal)
      (result m c) := by
  rw [Value.flushed2_A, out_A]
  funext y
  obtain ⟨e0, e1⟩ := idx2 t
  have ht := lt_N t
  have hy0 : (y 0).val < 2048 := (y 0).isLt
  have hy1 : (y 1).val < 1024 := (y 1).isLt
  have hl : (k0_pay1 (iblk m c 0 t) (iblk m c 1 t) : Vec Ideal S2048x1024 .bf16) (ix2 ⟨(y 0).val, hy0⟩ ⟨(y 1).val, hy1⟩)
      = result m c (((cfg0.win 2).blk t).view.emb y) := by
    rw [pay_apply]
    unfold result prod
    refine Finset.sum_congr rfl fun k _ => ?_
    have a0 : (((cfg0.win 2).blk t).view.emb y 0).val = 2048 * (t.val / 4) + (y 0).val := by
      show win0_2.index t (0 : Fin 2) * 2048 + 1 * (y 0).val = _; rw [e0]; omega
    have a1 : (((cfg0.win 2).blk t).view.emb y 1).val = 1024 * (t.val % 4) + (y 1).val := by
      show win0_2.index t (1 : Fin 2) * 1024 + 1 * (y 1).val = _; rw [e1]; omega
    rw [iblk0_apply, iblk1_apply]
    congr 1
    · exact congrArg (m (c.tc.loc main_arg0)) (congrArg (fun r => ix2 r k) (Fin.ext a0.symm))
    · exact congrArg (m (c.tc.loc main_arg1)) (congrArg (ix3 0 k) (Fin.ext (by
        refine Eq.trans ?_ a1.symm
        show 1024 * (t.val % 4) + 512 * ((y 1).val / 512) + (y 1).val % 512 = _; omega)))
  refine Eq.trans ?_ hl
  exact congrArg (k0_pay1 (iblk m c 0 t) (iblk m c 1 t) : Vec Ideal S2048x1024 .bf16) (funext fun a => by match a with | ⟨0, _⟩ => rfl | ⟨1, _⟩ => rfl)

/-- The result array is the product. -/
theorem final (c : Dev nD) : (dats m 0 c).arrAt 2 cfg0.N = result m c :=
  (dats m 0 c).arrAt_eq_of_cover 2 _ (fun t _ => flushed_eq m c t) fun i => by
    have h0 : (i 0).val < 4096 := (i 0).isLt
    have h1 : (i 1).val < 4096 := (i 1).isLt
    have hN : cfg0.N = 8 := N_0
    let t : Fin cfg0.N := ⟨4 * ((i 0).val / 2048) + (i 1).val / 1024, by omega⟩
    obtain ⟨e0, e1⟩ := idx2 t
    have tv : t.val = 4 * ((i 0).val / 2048) + (i 1).val / 1024 := rfl
    refine ⟨t, flush0_2 t, ?_⟩
    show i ∈ ((View.whole main_v4).slice (win0_2.rect t)).set
    rw [View.set_slice_whole, Rect.mem_set_unit]
    intro a
    match a with
    | ⟨0, _⟩ => show win0_2.index t (0 : Fin 2) * 2048 ≤ (i 0).val ∧ (i 0).val < win0_2.index t (0 : Fin 2) * 2048 + 2048; omega
    | ⟨1, _⟩ => show win0_2.index t (1 : Fin 2) * 1024 ≤ (i 1).val ∧ (i 1).val < win0_2.index t (1 : Fin 2) * 1024 + 1024; omega

end Cert.Up0Ideal.Hand

namespace Cert.Up0RefIdeal.Hand

open Cert.Up0RefIdeal Cert.Up0RefIdeal.Gen Idealize.ShloMosaic Idealize.ShloMosaic.TcCoe Idealize.SL.Sem

/-- The reference's run: the same result, the arguments kept. -/
theorem run (m : (ℓ : Loc nD τ sig) → Buf (Elt Ideal) ℓ) (g : Dev nD → PrngReg) :
    θ_run defs (onTc (τ := τ) (main (F := Ideal))) ⟨m, fun _ => 0, g⟩ fun r => ∀ c : Dev nD,
    r.2.mem (c.tc.loc main_v3) = Cert.Up0Ideal.Hand.prod (m (c.tc.loc main_arg0)) (m (c.tc.loc main_arg1))
    ∧ r.2.mem (c.tc.loc main_arg0) = m (c.tc.loc main_arg0)
    ∧ r.2.mem (c.tc.loc main_arg1) = m (c.tc.loc main_arg1) := by
  refine (θ_run defs _ _).mono (fun _ h c => ⟨(h c).1.trans ?_, (h c).2⟩) (Value.run m g)
  generalize m (c.tc.loc main_arg0) = x0
  generalize m (c.tc.loc main_arg1) = x1
  funext i
  pointwise [Cert.Up0Ideal.Hand.prod]

end Cert.Up0RefIdeal.Hand

end
-- ==== Proof.DownDx0Val.lean ====
/-
  The gradient of the MLP's hidden pre-activation over the extended reals: the call's result is the output's gradient by
  the transposed weight matrix, times the derivative of the squared rectifier.
-/
module

public import proofs.«01_k».proof.Proof.Gen.DownDx0Ideal.Value
public import proofs.«01_k».proof.Proof.Gen.DownDx0RefIdeal.Run
public import proofs.«01_k».proof.Proof.Base

@[expose] public section

noncomputable section

namespace Cert.DownDx0Ideal.Hand

open Cert.DownDx0Ideal Cert.DownDx0Ideal.Gen Idealize.ShloMosaic Idealize.ShloMosaic.TcCoe Idealize.SL.Sem
open Idealize.ShloMosaic.Pipeline (Dat)

variable (m : (ℓ : Loc nD τ sig) → Buf (Elt Ideal) ℓ)

/-- The gradient: row `i 0` of the output's gradient by row `i 1` of layer 0's weights, times `2 max(p, 0)`. -/
def grad (g : FVec Ideal S4096x1024 .f32) (p : FVec Ideal S4096x4096 .f32) (w : FVec Ideal S2x4096x1024 .f32) : FVec Ideal S4096x4096 .bf16 := fun i =>
  (∑ k : Fin 1024, g (ix2 (i 0) k) * w (ix3 0 (i 1) k)) * (Ideal.ofBits .f32 0x40000000#32 * max (p i) 0)

/-- The output's gradient as the call reads it. -/
theorem V_g (c : Dev nD) (j : S4096x1024.Idx) : V m c main_v0 j = m (c.tc.loc main_arg0) j := by
  unfold_abbrev_sides
  after_results
  rfl

/-- The pre-activation as the call reads it. -/
theorem V_p (c : Dev nD) (j : S4096x4096.Idx) : V m c main_v4 j = m (c.tc.loc main_arg1) j := by
  unfold_abbrev_sides
  after_results
  rfl

/-- The slabs as the call reads them: slab `s` holds rows `512 s …` of each layer. -/
theorem V_w (c : Dev nD) (s : Fin 8) (l : Fin 2) (n : Fin 512) (k : Fin 1024) :
    V m c main_v3 (ix4 s l n k) = m (c.tc.loc main_arg2) (ix3 l ⟨512 * s.val + n.val, by omega⟩ k) := by
  unfold_abbrev_sides
  after_results
  pointwise
  exact congrArg (m (c, Proc.tc.devRef main_arg2)) (congrArg (fun r => ix3 l r k) (Fin.ext (by show s.val * 512 + n.val = 512 * s.val + n.val; omega)))

/-- What one grid point stores. -/
theorem out_A (c : Dev nD) (i : grid0.Coords) (a3 : Memref sig .tc .vmem S2048x1024 .bf16) (h3 : a3.IsWhole)
    (a4 : Memref sig .tc .vmem S1x1x512x1024 .bf16) (h4 : a4.IsWhole) (a5 : Memref sig .tc .vmem S2048x512 .bf16) (h5 : a5.IsWhole)
    (a6 : Memref sig .tc .vmem S2048x512 .bf16) (h6 : a6.IsWhole) (a7 : Memref sig .tc .vmem S2048x512 .f32) (h7 : a7.IsWhole)
    (x0 : Vec Ideal S2048x1024 .bf16) (x1 : Vec Ideal S1x1x512x1024 .bf16) (x2 : Vec Ideal S2048x512 .bf16) :
    out0_A_3 c i a3 h3 a4 h4 a5 h5 a6 h6 a7 h7 x0 x1 x2 = k0_pay1 x0 x1 x2 := by
  unfold out0_A_3
  rw [View.read_writes_eq_canon _ _ _ (cover0_A_3 c i a3 h3 a4 h4 a5 h5 a6 h6 a7 h7 x0 x1 x2)]
  unfold kernelRun0_A
  dsimp only
  rw [View.canon_unit_zero hz]
  simp only [View.readAt_eq_ld, h3.read_unread, h4.read_unread, h5.read_unread, View.ld_unit_zero (S := S2048x1024) hz,
    View.ld_unit_zero (S := S2048x512) hz, View.ld_unit_zero (S := S1x1x512x1024) hz4]

/-- The stored block at an index. -/
theorem pay_apply (x0 : Vec Ideal S2048x1024 .bf16) (x1 : Vec Ideal S1x1x512x1024 .bf16) (x2 : Vec Ideal S2048x512 .bf16) (p : Fin 2048) (q : Fin 512) :
    k0_pay1 x0 x1 x2 (ix2 p q) = (∑ k : Fin 1024, x0 (ix2 p k) * x1 (ix4 0 0 q k)) * (Ideal.ofBits .bf16 0x4000#16 * max (x2 (ix2 p q)) 0) := by
  pointwise [k0_pay1]
  done

/-- Which blocks grid point `t` reads and writes. -/
theorem idx0 : ∀ t : Fin cfg0.N, win0_0.index t (0 : Fin 2) = t.val / 8 ∧ win0_0.index t (1 : Fin 2) = 0 :=
  (by decide +kernel : ∀ t : Fin grid0.N, _)
theorem idx1 : ∀ t : Fin cfg0.N, win0_1.index t (0 : Fin 4) = t.val % 8 ∧ win0_1.index t (1 : Fin 4) = 0
    ∧ win0_1.index t (2 : Fin 4) = 0 ∧ win0_1.index t (3 : Fin 4) = 0 :=
  (by decide +kernel : ∀ t : Fin grid0.N, _)
theorem idx2 : ∀ t : Fin cfg0.N, win0_2.index t (0 : Fin 2) = t.val / 8 ∧ win0_2.index t (1 : Fin 2) = t.val % 8 :=
  (by decide +kernel : ∀ t : Fin grid0.N, _)
theorem idx3 : ∀ t : Fin cfg0.N, win0_3.index t (0 : Fin 2) = t.val / 8 ∧ win0_3.index t (1 : Fin 2) = t.val % 8 :=
  (by decide +kernel : ∀ t : Fin grid0.N, _)

theorem lt_N (t : Fin cfg0.N) : t.val < 16 := lt_of_lt_of_eq t.isLt (show cfg0.N = 16 from N_0)

/-- The gradient's block at a grid point. -/
theorem iblk0_apply (c : Dev nD) (t : Fin cfg0.N) (p : Fin 2048) (k : Fin 1024) :
    iblk m c 0 t (ix2 p k) = m (c.tc.loc main_arg0) (ix2 ⟨2048 * (t.val / 8) + p.val, by have := lt_N t; omega⟩ k) := by
  refine Eq.trans ?_ (V_g m c _)
  show V m c main_v0 _ = V m c main_v0 _
  congr 1
  obtain ⟨e0, e1⟩ := idx0 t
  funext a
  apply Fin.ext
  match a with
  | ⟨0, _⟩ => show win0_0.index t (0 : Fin 2) * 2048 + 1 * p.val = 2048 * (t.val / 8) + p.val; rw [e0]; omega
  | ⟨1, _⟩ => show win0_0.index t (1 : Fin 2) * 1024 + 1 * k.val = k.val; rw [e1]; omega

/-- The pre-activation's block at a grid point. -/
theorem iblk2_apply (c : Dev nD) (t : Fin cfg0.N) (p : Fin 2048) (k : Fin 512) :
    iblk m c 2 t (ix2 p k) = m (c.tc.loc main_arg1) (ix2 ⟨2048 * (t.val / 8) + p.val, by have := lt_N t; omega⟩ ⟨512 * (t.val % 8) + k.val, by omega⟩) := by
  refine Eq.trans ?_ (V_p m c _)
  show V m c main_v4 _ = V m c main_v4 _
  congr 1
  obtain ⟨e0, e1⟩ := idx2 t
  funext a
  apply Fin.ext
  match a with
  | ⟨0, _⟩ => show win0_2.index t (0 : Fin 2) * 2048 + 1 * p.val = 2048 * (t.val / 8) + p.val; rw [e0]; omega
  | ⟨1, _⟩ => show win0_2.index t (1 : Fin 2) * 512 + 1 * k.val = 512 * (t.val % 8) + k.val; rw [e1]; omega

/-- The slab's block at a grid point. -/
theorem iblk1_apply (c : Dev nD) (t : Fin cfg0.N) (n : Fin 512) (k : Fin 1024) :
    iblk m c 1 t (ix4 0 0 n k) = m (c.tc.loc main_arg2) (ix3 0 ⟨512 * (t.val % 8) + n.val, by omega⟩ k) := by
  refine Eq.trans ?_ (V_w m c ⟨t.val % 8, by omega⟩ 0 n k)
  show V m c main_v3 _ = V m c main_v3 _
  congr 1
  obtain ⟨e0, e1, e2, e3⟩ := idx1 t
  funext a
  apply Fin.ext
  match a with
  | ⟨0, _⟩ => show win0_1.index t (0 : Fin 4) * 1 + 1 * 0 = t.val % 8; rw [e0]; omega
  | ⟨1, _⟩ => show win0_1.index t (1 : Fin 4) * 1 + 1 * 0 = 0; rw [e1]
  | ⟨2, _⟩ => show win0_1.index t (2 : Fin 4) * 512 + 1 * n.val = n.val; rw [e2]; omega
  | ⟨3, _⟩ => show win0_1.index t (3 : Fin 4) * 1024 + 1 * k.val = k.val; rw [e3]; omega

/-- The number two is one word's value in both formats. -/
theorem two_eq : Ideal.ofBits .bf16 0x4000#16 = Ideal.ofBits .f32 0x40000000#32 := by
  simp [Ideal.ofBits, Ideal.ieee]
  rw [← EReal.coe_mul, ← EReal.coe_mul]
  norm_num

/-- What grid point `t` writes back is its block of the gradient. -/
theorem flushed_eq (c : Dev nD) (t : Fin cfg0.N) :
    (dats m 0 c).flushed 3 t = ((cfg0.win 3).blk t).view.read (Elt Ideal)
      (grad (m (c.tc.loc main_arg0)) (m (c.tc.loc main_arg1)) (m (c.tc.loc main_arg2))) := by
  rw [Value.flushed3_A, out_A]
  funext y
  obtain ⟨e0, e1⟩ := idx3 t
  have ht := lt_N t
  have hy0 : (y 0).val < 2048 := (y 0).isLt
  have hy1 : (y 1).val < 512 := (y 1).isLt
  have hl : (k0_pay1 (iblk m c 0 t) (iblk m c 1 t) (iblk m c 2 t) : Vec Ideal S2048x512 .bf16) (ix2 ⟨(y 0).val, hy0⟩ ⟨(y 1).val, hy1⟩)
      = grad (m (c.tc.loc main_arg0)) (m (c.tc.loc main_arg1)) (m (c.tc.loc main_arg2)) (((cfg0.win 3).blk t).view.emb y) := by
    have a0 : (((cfg0.win 3).blk t).view.emb y 0).val = 2048 * (t.val / 8) + (y 0).val := by
      show win0_3.index t (0 : Fin 2) * 2048 + 1 * (y 0).val = _; rw [e0]; omega
    have a1 : (((cfg0.win 3).blk t).view.emb y 1).val = 512 * (t.val % 8) + (y 1).val := by
      show win0_3.index t (1 : Fin 2) * 512 + 1 * (y 1).val = _; rw [e1]; omega
    rw [pay_apply, two_eq, iblk2_apply]
    unfold grad
    congr 1
    · refine Finset.sum_congr rfl fun k _ => ?_
      rw [iblk0_apply, iblk1_apply]
      congr 1
      · exact congrArg (m (c.tc.loc main_arg0)) (congrArg (fun r => ix2 r k) (Fin.ext a0.symm))
      · exact congrArg (m (c.tc.loc main_arg2)) (congrArg (fun r => ix3 0 r k) (Fin.ext a1.symm))
    · congr 2
      refine congrArg (m (c.tc.loc main_arg1)) (funext fun a => Fin.ext ?_)
      match a with
      | ⟨0, _⟩ => exact a0.symm
      | ⟨1, _⟩ => exact a1.symm
  refine Eq.trans ?_ hl
  exact congrArg (k0_pay1 (iblk m c 0 t) (iblk m c 1 t) (iblk m c 2 t) : Vec Ideal S2048x512 .bf16) (funext fun a => by match a with | ⟨0, _⟩ => rfl | ⟨1, _⟩ => rfl)

/-- The result array is the gradient. -/
theorem final (c : Dev nD) : (dats m 0 c).arrAt 3 cfg0.N
    = grad (m (c.tc.loc main_arg0)) (m (c.tc.loc main_arg1)) (m (c.tc.loc main_arg2)) :=
  (dats m 0 c).arrAt_eq_of_cover 3 _ (fun t _ => flushed_eq m c t) fun i => by
    have h0 : (i 0).val < 4096 := (i 0).isLt
    have h1 : (i 1).val < 4096 := (i 1).isLt
    have hN : cfg0.N = 16 := N_0
    let t : Fin cfg0.N := ⟨8 * ((i 0).val / 2048) + (i 1).val / 512, by omega⟩
    obtain ⟨e0, e1⟩ := idx3 t
    have tv : t.val = 8 * ((i 0).val / 2048) + (i 1).val / 512 := rfl
    refine ⟨t, flush0_3 t, ?_⟩
    show i ∈ ((View.whole main_v5).slice (win0_3.rect t)).set
    rw [View.set_slice_whole, Rect.mem_set_unit]
    intro a
    match a with
    | ⟨0, _⟩ => show win0_3.index t (0 : Fin 2) * 2048 ≤ (i 0).val ∧ (i 0).val < win0_3.index t (0 : Fin 2) * 2048 + 2048; omega
    | ⟨1, _⟩ => show win0_3.index t (1 : Fin 2) * 512 ≤ (i 1).val ∧ (i 1).val < win0_3.index t (1 : Fin 2) * 512 + 512; omega

/-- The gradient's array as the claim names it. -/
abbrev result (c : Dev nD) : Buf (Elt Ideal) ((c : Thread nD τ).loc main_v5) :=
  grad (m (c.tc.loc main_arg0)) (m (c.tc.loc main_arg1)) (m (c.tc.loc main_arg2))

end Cert.DownDx0Ideal.Hand

namespace Cert.DownDx0RefIdeal.Hand

open Cert.DownDx0RefIdeal Cert.DownDx0RefIdeal.Gen Idealize.ShloMosaic Idealize.ShloMosaic.TcCoe Idealize.SL.Sem

/-- The reference's run: the result is the gradient (where the pre-activation is not positive, both are zero). -/
theorem run (m : (ℓ : Loc nD τ sig) → Buf (Elt Ideal) ℓ) (g : Dev nD → PrngReg) :
    θ_run defs (onTc (τ := τ) (main (F := Ideal))) ⟨m, fun _ => 0, g⟩ fun r => ∀ c : Dev nD,
    r.2.mem (c.tc.loc main_v14) = Cert.DownDx0Ideal.Hand.grad
      (m (c.tc.loc main_arg0)) (m (c.tc.loc main_arg1)) (m (c.tc.loc main_arg2))
    ∧ r.2.mem (c.tc.loc main_arg0) = m (c.tc.loc main_arg0)
    ∧ r.2.mem (c.tc.loc main_arg1) = m (c.tc.loc main_arg1)
    ∧ r.2.mem (c.tc.loc main_arg2) = m (c.tc.loc main_arg2) := by
  refine (θ_run defs _ _).mono (fun _ h c => ⟨(h c).1.trans ?_, (h c).2⟩) (Value.run m g)
  generalize m (c.tc.loc main_arg0) = x
  generalize m (c.tc.loc main_arg1) = p
  generalize m (c.tc.loc main_arg2) = w
  funext i
  pointwise [Cert.DownDx0Ideal.Hand.grad]
  split
  next => rfl
  next h => rw [max_eq_right (not_lt.1 h), mul_zero, mul_zero]

end Cert.DownDx0RefIdeal.Hand

end
-- ==== Proof.UpDx0Val.lean ====
/-
  The gradient of the MLP's input over the extended reals: the pre-activation's gradient by the layer's transposed
  first weight matrix, read out of slabs of 512 columns, plus the residual's gradient. The call adds four blocks of the
  hidden axis one after the other.
-/
module

public import proofs.«01_k».proof.Proof.Gen.UpDx0Ideal.Value
public import proofs.«01_k».proof.Proof.Gen.UpDx0RefIdeal.Run
public import proofs.«01_k».proof.Proof.BlockSum
public import proofs.«01_k».proof.Proof.Base

@[expose] public section

noncomputable section

namespace Cert.UpDx0Ideal.Hand

open Cert.UpDx0Ideal Cert.UpDx0Ideal.Gen Idealize.ShloMosaic Idealize.ShloMosaic.TcCoe Idealize.SL.Sem
open Idealize.ShloMosaic.Pipeline (Dat)

variable (c : Dev nD) (i : grid0.Coords) (a0 : Memref sig .tc .vmem S1024x1024 .bf16) (h0 : a0.IsWhole) (a1 : Memref sig .tc .vmem S2x1x1024x512 .bf16) (h1 : a1.IsWhole) (a2 : Memref sig .tc .vmem S1024x1024 .f32) (h2 : a2.IsWhole) (a3 : Memref sig .tc .vmem S1024x1024 .f32) (h3 : a3.IsWhole) (a4 : Memref sig .tc .vmem S1024x1024 .f32) (h4 : a4.IsWhole)

/-- What the first point of a run leaves in the accumulator. -/
theorem sout_A
    (hc0 : cond0_0 i) (hc1 : ¬cond0_1 i) (hc2 : ¬cond0_2 i) (x0 : Vec Ideal S1024x1024 .bf16) (x1 : Vec Ideal S2x1x1024x512 .bf16) (x2 : Vec Ideal S1024x1024 .f32) :
    sout0_A_0 c i a0 h0 a1 h1 a2 h2 a3 h3 a4 h4 hc0 hc1 hc2 x0 x1 x2 = k0_pay2 x0 x1 := by
  unfold sout0_A_0
  rw [View.read_writes_eq_canon _ _ _ (scover0_A_0 c i a0 h0 a1 h1 a2 h2 a3 h3 a4 h4 hc0 hc1 hc2 x0 x1 x2)]
  unfold kernelRun0_A
  dsimp only
  rw [View.canon_unit_zero hz]
  simp only [View.readAt_eq_ld, h0.read_unread, h1.read_unread, h2.read_unread, h4.read_unread, View.ld_unit_zero (S := S1024x1024) hz, View.ld_unit_zero (S := S2x1x1024x512) hz4]

/-- What a middle point leaves in it. -/
theorem sout_B
    (hc0 : ¬cond0_0 i) (hc1 : cond0_1 i) (hc2 : ¬cond0_2 i) (x0 : Vec Ideal S1024x1024 .bf16) (x1 : Vec Ideal S2x1x1024x512 .bf16) (x2 : Vec Ideal S1024x1024 .f32) (xs0 : Vec Ideal S1024x1024 .f32) :
    sout0_B_0 c i a0 h0 a1 h1 a2 h2 a3 h3 a4 h4 hc0 hc1 hc2 x0 x1 x2 xs0 = k0_pay3 x0 x1 xs0 := by
  unfold sout0_B_0
  rw [View.read_writes_eq_canon _ _ _ (scover0_B_0 c i a0 h0 a1 h1 a2 h2 a3 h3 a4 h4 hc0 hc1 hc2 x0 x1 x2 xs0)]
  unfold kernelRun0_B
  dsimp only
  rw [View.canon_unit_zero hz]
  simp only [View.readAt_eq_ld, h0.read_unread, h1.read_unread, h2.read_unread, h4.read_unread, View.ld_unit_zero (S := S1024x1024) hz, View.ld_unit_zero (S := S2x1x1024x512) hz4]

variable (m : (ℓ : Loc nD τ sig) → Buf (Elt Ideal) ℓ)

theorem acc_first (c : Dev nD) (t : Fin cfg0.N) (h : t.val % 4 = 0) :
    (outsAt0 m c t.val t.isLt).2 = k0_pay2 (iblk m c 0 t) (iblk m c 1 t) := by
  rw [outsAt0_A m c t h (by omega) (by omega)]
  dsimp only
  rw [sout_A]

theorem acc_next (c : Dev nD) (t : Fin cfg0.N) (h : 1 ≤ t.val % 4 ∧ t.val % 4 ≤ 2) :
    (outsAt0 m c t.val t.isLt).2
      = k0_pay3 (iblk m c 0 t) (iblk m c 1 t) (outsAt0 m c (t.val - 1) (Nat.lt_of_le_of_lt (Nat.sub_le _ _) t.isLt)).2 := by
  rw [outsAt0_B m c t (by omega) h (by omega)]
  dsimp only
  rw [sout_B]

/-- The accumulator before the last point of run `q`, over the blocks of the three points before. -/
theorem acc_at (c : Dev nD) (q : ℕ) (h : 4 * q + 3 < cfg0.N) (n : ℕ) (hn : n < cfg0.N) (e : n = 4 * q + 2) :
    (outsAt0 m c n hn).2 = k0_pay3 (iblk m c 0 ⟨4 * q + 2, by omega⟩) (iblk m c 1 ⟨4 * q + 2, by omega⟩)
      (k0_pay3 (iblk m c 0 ⟨4 * q + 1, by omega⟩) (iblk m c 1 ⟨4 * q + 1, by omega⟩) (k0_pay2 (iblk m c 0 ⟨4 * q, by omega⟩) (iblk m c 1 ⟨4 * q, by omega⟩))) := by
  have e0 := acc_first m c ⟨4 * q, by omega⟩ (by dsimp only; omega)
  have e1 := acc_next m c ⟨4 * q + 1, by omega⟩ (by dsimp only; omega)
  have e2 := acc_next m c ⟨4 * q + 2, by omega⟩ (by dsimp only; omega)
  simp only [Nat.add_sub_cancel, Nat.add_succ_sub_one] at e0 e1 e2
  subst e
  rw [e2, e1, e0]

/-- What the last point of a run stores. -/
theorem out_C
    (hc0 : ¬cond0_0 i) (hc1 : ¬cond0_1 i) (hc2 : cond0_2 i) (x0 : Vec Ideal S1024x1024 .bf16) (x1 : Vec Ideal S2x1x1024x512 .bf16) (x2 : Vec Ideal S1024x1024 .f32) (xs0 : Vec Ideal S1024x1024 .f32) :
    out0_C_3 c i a0 h0 a1 h1 a2 h2 a3 h3 a4 h4 hc0 hc1 hc2 x0 x1 x2 xs0 = k0_pay4 x0 x1 xs0 x2 := by
  unfold out0_C_3
  rw [View.read_writes_eq_canon _ _ _ (cover0_C_3 c i a0 h0 a1 h1 a2 h2 a3 h3 a4 h4 hc0 hc1 hc2 x0 x1 x2 xs0)]
  unfold kernelRun0_C
  dsimp only
  rw [View.canon_unit_zero hz]
  simp only [View.readAt_eq_ld, h0.read_unread, h1.read_unread, h2.read_unread, h4.read_unread, View.ld_unit_zero (S := S1024x1024) hz, View.ld_unit_zero (S := S2x1x1024x512) hz4]

/-- What the last point of run `q` stores, over the blocks of its four points. -/
theorem out_at (c : Dev nD) (q : ℕ) (h : 4 * q + 3 < cfg0.N) :
    (outsAt0 m c (4 * q + 3) h).1 = k0_pay4 (iblk m c 0 ⟨4 * q + 3, h⟩) (iblk m c 1 ⟨4 * q + 3, h⟩) (k0_pay3 (iblk m c 0 ⟨4 * q + 2, by omega⟩) (iblk m c 1 ⟨4 * q + 2, by omega⟩)
      (k0_pay3 (iblk m c 0 ⟨4 * q + 1, by omega⟩) (iblk m c 1 ⟨4 * q + 1, by omega⟩) (k0_pay2 (iblk m c 0 ⟨4 * q, by omega⟩) (iblk m c 1 ⟨4 * q, by omega⟩)))) (iblk m c 2 ⟨4 * q + 3, h⟩) := by
  have e := congrArg Prod.fst (outsAt0_C m c ⟨4 * q + 3, h⟩ (by dsimp only; omega) (by dsimp only; omega) (by dsimp only; omega))
  rw [out_C, acc_at m c q h _ _ (by dsimp only; omega)] at e
  exact e

/-- The weight slab's entry of a hidden position: 512 columns to a slab. -/
def col (k : Fin 1024) (r : Fin 1024) : S2x1x1024x512.Idx := ix4 ⟨k.val / 512, by omega⟩ 0 r ⟨k.val % 512, by omega⟩

/-- One term of a product. -/
def term (a b : EReal) : EReal := a * b

/-- A product of a point, at an index. -/
theorem pay1_apply (a : Vec Ideal S1024x1024 .bf16) (b : Vec Ideal S2x1x1024x512 .bf16) (p r : Fin 1024) :
    k0_pay1 a b (ix2 p r) = ∑ k : Fin 1024, term (a (ix2 p k)) (b (col k r)) := by
  pointwise [k0_pay1]
  rw [Cert.Hand.sum_two]
  refine congrArg₂ (· + ·) ?_ ?_
  · refine Finset.sum_congr rfl fun k _ => congrArg (term (a (ix2 p ⟨k.val, by omega⟩))) (congrArg b (funext fun x => Fin.ext ?_))
    match x with
    | ⟨0, _⟩ => show 0 = k.val / 512; omega
    | ⟨1, _⟩ => rfl
    | ⟨2, _⟩ => rfl
    | ⟨3, _⟩ => show k.val = k.val % 512; omega
  · refine Finset.sum_congr rfl fun k _ => congrArg (term (a (ix2 p ⟨512 + k.val, by omega⟩))) (congrArg b (funext fun x => Fin.ext ?_))
    match x with
    | ⟨0, _⟩ => show 1 = (512 + k.val) / 512; omega
    | ⟨1, _⟩ => rfl
    | ⟨2, _⟩ => rfl
    | ⟨3, _⟩ => show k.val = (512 + k.val) % 512; omega

/-- The stored block at an index. -/
theorem pay_apply (a0 a1 a2 a3 : Vec Ideal S1024x1024 .bf16) (b0 b1 b2 b3 : Vec Ideal S2x1x1024x512 .bf16) (d : Vec Ideal S1024x1024 .f32) (p r : Fin 1024) :
    k0_pay4 a3 b3 (k0_pay3 a2 b2 (k0_pay3 a1 b1 (k0_pay2 a0 b0))) d (ix2 p r)
      = (k0_pay1 a0 b0 (ix2 p r) : EReal) + k0_pay1 a1 b1 (ix2 p r) + k0_pay1 a2 b2 (ix2 p r) + k0_pay1 a3 b3 (ix2 p r) + d (ix2 p r) := by
  unfold k0_pay4 k0_pay3 k0_pay2
  generalize k0_pay1 a0 b0 = e0
  generalize k0_pay1 a1 b1 = e1
  generalize k0_pay1 a2 b2 = e2
  generalize k0_pay1 a3 b3 = e3
  pointwise

/-- The gradient: row `i 0` of the pre-activation's gradient by row `i 1` of layer 0's weights, plus the residual's. -/
def grad (g : FVec Ideal S4096x4096 .f32) (d : FVec Ideal S4096x1024 .f32) (w : FVec Ideal S2x1024x4096 .f32) : FVec Ideal S4096x1024 .f32 := fun i =>
  ∑ k : Fin 4096, g (ix2 (i 0) k) * w (ix3 0 (i 1) k) + d i

/-- The pre-activation's gradient as the call reads it. -/
theorem V_g (c : Dev nD) (j : S4096x4096.Idx) : V m c main_v0 j = m (c.tc.loc main_arg0) j := by
  unfold_abbrev_sides
  after_results
  rfl

/-- The residual's gradient as the call reads it. -/
theorem V_d (c : Dev nD) (j : S4096x1024.Idx) : V m c main_arg1 j = m (c.tc.loc main_arg1) j := by
  unfold_abbrev_sides
  after_results

/-- The weights as the call reads them: slab `s` holds the columns from `512 * s` on. -/
theorem V_w (c : Dev nD) (s : Fin 8) (l : Fin 2) (k : Fin 1024) (n : Fin 512) :
    V m c main_v3 (ix4 s l k n) = m (c.tc.loc main_arg2) (ix3 l k ⟨512 * s.val + n.val, by omega⟩) := by
  unfold_abbrev_sides
  after_results
  pointwise
  exact congrArg (m (c, Proc.tc.devRef main_arg2)) (congrArg (ix3 l k) (Fin.ext (by show s.val * 512 + n.val = 512 * s.val + n.val; omega)))

/-- Which blocks grid point `t` reads and writes. -/
theorem idx0 : ∀ t : Fin cfg0.N, win0_0.index t (0 : Fin 2) = t.val / 4 ∧ win0_0.index t (1 : Fin 2) = t.val % 4 :=
  (by decide +kernel : ∀ t : Fin grid0.N, _)
theorem idx1 : ∀ t : Fin cfg0.N, win0_1.index t (0 : Fin 4) = t.val % 4 ∧ win0_1.index t (1 : Fin 4) = 0 ∧ win0_1.index t (2 : Fin 4) = 0 ∧ win0_1.index t (3 : Fin 4) = 0 :=
  (by decide +kernel : ∀ t : Fin grid0.N, _)
theorem idx2 : ∀ t : Fin cfg0.N, win0_2.index t (0 : Fin 2) = t.val / 4 ∧ win0_2.index t (1 : Fin 2) = 0 :=
  (by decide +kernel : ∀ t : Fin grid0.N, _)
theorem idx3 : ∀ t : Fin cfg0.N, win0_3.index t (0 : Fin 2) = t.val / 4 ∧ win0_3.index t (1 : Fin 2) = 0 :=
  (by decide +kernel : ∀ t : Fin grid0.N, _)

theorem lt_N (n : ℕ) (hn : n < cfg0.N) : n < 16 := lt_of_lt_of_eq hn (show cfg0.N = 16 from N_0)

/-- The pre-activation gradient's block at grid point `n`. -/
theorem iblk0_apply (c : Dev nD) (n : ℕ) (hn : n < cfg0.N) (p : Fin 1024) (r : Fin 1024) :
    iblk m c 0 ⟨n, hn⟩ (ix2 p r) = m (c.tc.loc main_arg0)
      (ix2 ⟨1024 * (n / 4) + p.val, by have := lt_N n hn; omega⟩ ⟨1024 * (n % 4) + r.val, by have := lt_N n hn; omega⟩) := by
  refine Eq.trans ?_ (V_g m c _)
  show V m c main_v0 _ = V m c main_v0 _
  congr 1
  obtain ⟨e0, e1⟩ := idx0 ⟨n, hn⟩
  dsimp only at e0 e1
  funext a
  apply Fin.ext
  match a with
  | ⟨0, _⟩ => show win0_0.index ⟨n, hn⟩ (0 : Fin 2) * 1024 + 1 * p.val = 1024 * (n / 4) + p.val; rw [e0]; omega
  | ⟨1, _⟩ => show win0_0.index ⟨n, hn⟩ (1 : Fin 2) * 1024 + 1 * r.val = 1024 * (n % 4) + r.val; rw [e1]; omega

/-- The residual gradient's block at grid point `n`. -/
theorem iblk2_apply (c : Dev nD) (n : ℕ) (hn : n < cfg0.N) (p : Fin 1024) (r : Fin 1024) :
    iblk m c 2 ⟨n, hn⟩ (ix2 p r) = m (c.tc.loc main_arg1)
      (ix2 ⟨1024 * (n / 4) + p.val, by have := lt_N n hn; omega⟩ ⟨1024 * (0) + r.val, by have := lt_N n hn; omega⟩) := by
  refine Eq.trans ?_ (V_d m c _)
  show V m c main_arg1 _ = V m c main_arg1 _
  congr 1
  obtain ⟨e0, e1⟩ := idx2 ⟨n, hn⟩
  dsimp only at e0 e1
  funext a
  apply Fin.ext
  match a with
  | ⟨0, _⟩ => show win0_2.index ⟨n, hn⟩ (0 : Fin 2) * 1024 + 1 * p.val = 1024 * (n / 4) + p.val; rw [e0]; omega
  | ⟨1, _⟩ => show win0_2.index ⟨n, hn⟩ (1 : Fin 2) * 1024 + 1 * r.val = 1024 * (0) + r.val; rw [e1]; omega

/-- The weights' block at grid point `n`: a hidden position's column. -/
theorem iblk1_apply (c : Dev nD) (n : ℕ) (hn : n < cfg0.N) (k r : Fin 1024) :
    iblk m c 1 ⟨n, hn⟩ (col k r) = m (c.tc.loc main_arg2) (ix3 0 r ⟨1024 * (n % 4) + k.val, by omega⟩) := by
  refine Eq.trans ?_ ((V_w m c ⟨2 * (n % 4) + k.val / 512, by omega⟩ 0 r ⟨k.val % 512, by omega⟩).trans
    (congrArg (m (c.tc.loc main_arg2)) (congrArg (ix3 0 r) (Fin.ext (by
      show 512 * (2 * (n % 4) + k.val / 512) + k.val % 512 = 1024 * (n % 4) + k.val; omega)))))
  show V m c main_v3 _ = V m c main_v3 _
  congr 1
  obtain ⟨e0, e1, e2, e3⟩ := idx1 ⟨n, hn⟩
  dsimp only at e0 e1 e2 e3
  funext a
  apply Fin.ext
  match a with
  | ⟨0, _⟩ => show win0_1.index ⟨n, hn⟩ (0 : Fin 4) * 2 + 1 * (k.val / 512) = 2 * (n % 4) + k.val / 512; rw [e0]; omega
  | ⟨1, _⟩ => show win0_1.index ⟨n, hn⟩ (1 : Fin 4) * 1 + 1 * 0 = 0; rw [e1]
  | ⟨2, _⟩ => show win0_1.index ⟨n, hn⟩ (2 : Fin 4) * 1024 + 1 * r.val = r.val; rw [e2]; omega
  | ⟨3, _⟩ => show win0_1.index ⟨n, hn⟩ (3 : Fin 4) * 512 + 1 * (k.val % 512) = k.val % 512; rw [e3]; omega

/-- One term of a point's product is a term of the gradient's sum. -/
theorem term_eq (c : Dev nD) (n : ℕ) (hn : n < cfg0.N) (s q : ℕ) (hs : n % 4 = s) (hq : n / 4 = q) (k p r : Fin 1024) :
    term (iblk m c 0 ⟨n, hn⟩ (ix2 p k)) (iblk m c 1 ⟨n, hn⟩ (col k r))
      = term (m (c.tc.loc main_arg0) (ix2 ⟨1024 * q + p.val, by have := lt_N n hn; omega⟩ ⟨1024 * s + k.val, by omega⟩))
        (m (c.tc.loc main_arg2) (ix3 0 r ⟨1024 * s + k.val, by omega⟩)) := by
  subst hs hq
  rw [iblk0_apply, iblk1_apply]

/-- What the last point of run `q` stores is its block of the gradient. -/
theorem block_value (c : Dev nD) (q : ℕ) (h : 4 * q + 3 < cfg0.N) (p r : Fin 1024) :
    (outsAt0 m c (4 * q + 3) h).1 (ix2 p r) = grad (m (c.tc.loc main_arg0)) (m (c.tc.loc main_arg1)) (m (c.tc.loc main_arg2)) (ix2 ⟨1024 * q + p.val, by have := lt_N _ h; omega⟩ ⟨1024 * 0 + r.val, by omega⟩) := by
  rw [out_at, pay_apply, pay1_apply, pay1_apply, pay1_apply, pay1_apply, iblk2_apply]
  unfold grad
  rw [Cert.Hand.sum_four]
  have er : (⟨1024 * 0 + r.val, by omega⟩ : Fin 1024) = r := Fin.ext (by show 1024 * 0 + r.val = r.val; omega)
  have eq : (⟨1024 * ((4 * q + 3) / 4) + p.val, by have := lt_N _ h; omega⟩ : Fin 4096) = ⟨1024 * q + p.val, by have := lt_N _ h; omega⟩ :=
    Fin.ext (by show 1024 * ((4 * q + 3) / 4) + p.val = 1024 * q + p.val; omega)
  rw [er, eq]
  refine congrArg₂ (· + ·) (congrArg₂ (· + ·) (congrArg₂ (· + ·) (congrArg₂ (· + ·) ?_ ?_) ?_) ?_) rfl
  · exact Finset.sum_congr rfl fun k _ => term_eq m c (4 * q) (by omega) 0 q (by omega) (by omega) k p r
  · exact Finset.sum_congr rfl fun k _ => term_eq m c (4 * q + 1) (by omega) 1 q (by omega) (by omega) k p r
  · exact Finset.sum_congr rfl fun k _ => term_eq m c (4 * q + 2) (by omega) 2 q (by omega) (by omega) k p r
  · exact Finset.sum_congr rfl fun k _ => term_eq m c (4 * q + 3) (by omega) 3 q (by omega) (by omega) k p r

/-- The result's array as the claim names it. -/
abbrev result (c : Dev nD) : Buf (Elt Ideal) ((c : Thread nD τ).loc main_v4) := grad (m (c.tc.loc main_arg0)) (m (c.tc.loc main_arg1)) (m (c.tc.loc main_arg2))

/-- What a point that writes back writes is its block of the gradient. -/
theorem flushed_eq (c : Dev nD) (t : Fin cfg0.N) (hf : (cfg0.win 3).flush t = true) :
    (dats m 0 c).flushed 3 t = ((cfg0.win 3).blk t).view.read (Elt Ideal) (result m c) := by
  have hm : t.val % 4 = 3 := (flush0_3 t).mp hf
  obtain ⟨q, h, rfl⟩ : ∃ q, ∃ h : 4 * q + 3 < cfg0.N, t = ⟨4 * q + 3, h⟩ := ⟨t.val / 4, by have := t.isLt; omega, Fin.ext (by show t.val = 4 * (t.val / 4) + 3; omega)⟩
  rw [Value.flushed3]
  funext y
  obtain ⟨e0, e1⟩ := idx3 ⟨4 * q + 3, h⟩
  dsimp only at e0 e1
  have hy0 : (y 0).val < 1024 := (y 0).isLt
  have hy1 : (y 1).val < 1024 := (y 1).isLt
  refine Eq.trans ?_ ((block_value m c q h ⟨(y 0).val, hy0⟩ ⟨(y 1).val, hy1⟩).trans ?_)
  · exact congrArg ((outsAt0 m c (4 * q + 3) h).1 : Vec Ideal S1024x1024 .f32) (funext fun a => by match a with | ⟨0, _⟩ => rfl | ⟨1, _⟩ => rfl)
  · refine congrArg (result m c) (funext fun a => Fin.ext ?_)
    match a with
    | ⟨0, _⟩ => show 1024 * q + (y 0).val = win0_3.index ⟨4 * q + 3, h⟩ (0 : Fin 2) * 1024 + 1 * (y 0).val; rw [e0]; omega
    | ⟨1, _⟩ => show 1024 * 0 + (y 1).val = win0_3.index ⟨4 * q + 3, h⟩ (1 : Fin 2) * 1024 + 1 * (y 1).val; rw [e1]; omega

/-- The result array is the gradient. -/
theorem final (c : Dev nD) : (dats m 0 c).arrAt 3 cfg0.N = result m c :=
  (dats m 0 c).arrAt_eq_of_cover 3 _ (fun t hf => flushed_eq m c t hf) fun i => by
    have h0 : (i 0).val < 4096 := (i 0).isLt
    have h1 : (i 1).val < 1024 := (i 1).isLt
    have hN : cfg0.N = 16 := N_0
    let t : Fin cfg0.N := ⟨4 * ((i 0).val / 1024) + 3, by omega⟩
    obtain ⟨e0, e1⟩ := idx3 t
    have tv : t.val = 4 * ((i 0).val / 1024) + 3 := rfl
    refine ⟨t, (flush0_3 t).mpr (by omega), ?_⟩
    show i ∈ ((View.whole main_v4).slice (win0_3.rect t)).set
    rw [View.set_slice_whole, Rect.mem_set_unit]
    intro a
    match a with
    | ⟨0, _⟩ => show win0_3.index t (0 : Fin 2) * 1024 ≤ (i 0).val ∧ (i 0).val < win0_3.index t (0 : Fin 2) * 1024 + 1024; omega
    | ⟨1, _⟩ => show win0_3.index t (1 : Fin 2) * 1024 ≤ (i 1).val ∧ (i 1).val < win0_3.index t (1 : Fin 2) * 1024 + 1024; omega

end Cert.UpDx0Ideal.Hand

namespace Cert.UpDx0RefIdeal.Hand

open Cert.UpDx0RefIdeal Cert.UpDx0RefIdeal.Gen Idealize.ShloMosaic Idealize.ShloMosaic.TcCoe Idealize.SL.Sem

/-- The reference's run: the same result, the arguments kept. -/
theorem run (m : (ℓ : Loc nD τ sig) → Buf (Elt Ideal) ℓ) (g : Dev nD → PrngReg) :
    θ_run defs (onTc (τ := τ) (main (F := Ideal))) ⟨m, fun _ => 0, g⟩ fun r => ∀ c : Dev nD,
    r.2.mem (c.tc.loc main_v5) = Cert.UpDx0Ideal.Hand.grad (m (c.tc.loc main_arg0)) (m (c.tc.loc main_arg1)) (m (c.tc.loc main_arg2))
    ∧ r.2.mem (c.tc.loc main_arg0) = m (c.tc.loc main_arg0)
    ∧ r.2.mem (c.tc.loc main_arg1) = m (c.tc.loc main_arg1)
    ∧ r.2.mem (c.tc.loc main_arg2) = m (c.tc.loc main_arg2) := by
  refine (θ_run defs _ _).mono (fun _ h c => ⟨(h c).1.trans ?_, (h c).2⟩) (Value.run m g)
  generalize m (c.tc.loc main_arg0) = x0
  generalize m (c.tc.loc main_arg1) = x1
  generalize m (c.tc.loc main_arg2) = x2
  funext i
  pointwise [Cert.UpDx0Ideal.Hand.grad]

end Cert.UpDx0RefIdeal.Hand

end
-- ==== Proof.Down0Val.lean ====
/-
  The MLP's second product over the extended reals: the squared rectified pre-activation by the layer's second weight
  matrix, read out of slabs of 512 rows. The call adds four blocks of the hidden axis one after the other.
-/
module

public import proofs.«01_k».proof.Proof.Gen.Down0Ideal.Value
public import proofs.«01_k».proof.Proof.Gen.Down0RefIdeal.Run
public import proofs.«01_k».proof.Proof.BlockSum
public import proofs.«01_k».proof.Proof.Base

@[expose] public section

noncomputable section

namespace Cert.Down0Ideal.Hand

open Cert.Down0Ideal Cert.Down0Ideal.Gen Idealize.ShloMosaic Idealize.ShloMosaic.TcCoe Idealize.SL.Sem
open Idealize.ShloMosaic.Pipeline (Dat)

variable (c : Dev nD) (i : grid0.Coords) (a0 : Memref sig .tc .vmem S1024x1024 .bf16) (h0 : a0.IsWhole) (a1 : Memref sig .tc .vmem S2x1x512x1024 .bf16) (h1 : a1.IsWhole) (a2 : Memref sig .tc .vmem S1024x1024 .bf16) (h2 : a2.IsWhole) (a3 : Memref sig .tc .vmem S1024x1024 .f32) (h3 : a3.IsWhole)

/-- What the first point of a run leaves in the accumulator. -/
theorem sout_A
    (hc0 : cond0_0 i) (hc1 : ¬cond0_1 i) (hc2 : ¬cond0_2 i) (x0 : Vec Ideal S1024x1024 .bf16) (x1 : Vec Ideal S2x1x512x1024 .bf16) :
    sout0_A_0 c i a0 h0 a1 h1 a2 h2 a3 h3 hc0 hc1 hc2 x0 x1 = k0_pay2 x0 x1 := by
  unfold sout0_A_0
  rw [View.read_writes_eq_canon _ _ _ (scover0_A_0 c i a0 h0 a1 h1 a2 h2 a3 h3 hc0 hc1 hc2 x0 x1)]
  unfold kernelRun0_A
  dsimp only
  rw [View.canon_unit_zero hz]
  simp only [View.readAt_eq_ld, h0.read_unread, h1.read_unread, h3.read_unread, View.ld_unit_zero (S := S1024x1024) hz, View.ld_unit_zero (S := S2x1x512x1024) hz4]

/-- What a middle point leaves in it. -/
theorem sout_B
    (hc0 : ¬cond0_0 i) (hc1 : cond0_1 i) (hc2 : ¬cond0_2 i) (x0 : Vec Ideal S1024x1024 .bf16) (x1 : Vec Ideal S2x1x512x1024 .bf16) (xs0 : Vec Ideal S1024x1024 .f32) :
    sout0_B_0 c i a0 h0 a1 h1 a2 h2 a3 h3 hc0 hc1 hc2 x0 x1 xs0 = k0_pay3 x0 x1 xs0 := by
  unfold sout0_B_0
  rw [View.read_writes_eq_canon _ _ _ (scover0_B_0 c i a0 h0 a1 h1 a2 h2 a3 h3 hc0 hc1 hc2 x0 x1 xs0)]
  unfold kernelRun0_B
  dsimp only
  rw [View.canon_unit_zero hz]
  simp only [View.readAt_eq_ld, h0.read_unread, h1.read_unread, h3.read_unread, View.ld_unit_zero (S := S1024x1024) hz, View.ld_unit_zero (S := S2x1x512x1024) hz4]

variable (m : (ℓ : Loc nD τ sig) → Buf (Elt Ideal) ℓ)

theorem acc_first (c : Dev nD) (t : Fin cfg0.N) (h : t.val % 4 = 0) :
    (outsAt0 m c t.val t.isLt).2 = k0_pay2 (iblk m c 0 t) (iblk m c 1 t) := by
  rw [outsAt0_A m c t h (by omega) (by omega)]
  dsimp only
  rw [sout_A]

theorem acc_next (c : Dev nD) (t : Fin cfg0.N) (h : 1 ≤ t.val % 4 ∧ t.val % 4 ≤ 2) :
    (outsAt0 m c t.val t.isLt).2
      = k0_pay3 (iblk m c 0 t) (iblk m c 1 t) (outsAt0 m c (t.val - 1) (Nat.lt_of_le_of_lt (Nat.sub_le _ _) t.isLt)).2 := by
  rw [outsAt0_B m c t (by omega) h (by omega)]
  dsimp only
  rw [sout_B]

/-- The accumulator before the last point of run `q`, over the blocks of the three points before. -/
theorem acc_at (c : Dev nD) (q : ℕ) (h : 4 * q + 3 < cfg0.N) (n : ℕ) (hn : n < cfg0.N) (e : n = 4 * q + 2) :
    (outsAt0 m c n hn).2 = k0_pay3 (iblk m c 0 ⟨4 * q + 2, by omega⟩) (iblk m c 1 ⟨4 * q + 2, by omega⟩)
      (k0_pay3 (iblk m c 0 ⟨4 * q + 1, by omega⟩) (iblk m c 1 ⟨4 * q + 1, by omega⟩) (k0_pay2 (iblk m c 0 ⟨4 * q, by omega⟩) (iblk m c 1 ⟨4 * q, by omega⟩))) := by
  have e0 := acc_first m c ⟨4 * q, by omega⟩ (by dsimp only; omega)
  have e1 := acc_next m c ⟨4 * q + 1, by omega⟩ (by dsimp only; omega)
  have e2 := acc_next m c ⟨4 * q + 2, by omega⟩ (by dsimp only; omega)
  simp only [Nat.add_sub_cancel, Nat.add_succ_sub_one] at e0 e1 e2
  subst e
  rw [e2, e1, e0]

/-- What the last point of a run stores. -/
theorem out_C
    (hc0 : ¬cond0_0 i) (hc1 : ¬cond0_1 i) (hc2 : cond0_2 i) (x0 : Vec Ideal S1024x1024 .bf16) (x1 : Vec Ideal S2x1x512x1024 .bf16) (xs0 : Vec Ideal S1024x1024 .f32) :
    out0_C_2 c i a0 h0 a1 h1 a2 h2 a3 h3 hc0 hc1 hc2 x0 x1 xs0 = k0_pay4 x0 x1 xs0 := by
  unfold out0_C_2
  rw [View.read_writes_eq_canon _ _ _ (cover0_C_2 c i a0 h0 a1 h1 a2 h2 a3 h3 hc0 hc1 hc2 x0 x1 xs0)]
  unfold kernelRun0_C
  dsimp only
  rw [View.canon_unit_zero hz]
  simp only [View.readAt_eq_ld, h0.read_unread, h1.read_unread, h3.read_unread, View.ld_unit_zero (S := S1024x1024) hz, View.ld_unit_zero (S := S2x1x512x1024) hz4]

/-- What the last point of run `q` stores, over the blocks of its four points. -/
theorem out_at (c : Dev nD) (q : ℕ) (h : 4 * q + 3 < cfg0.N) :
    (outsAt0 m c (4 * q + 3) h).1 = k0_pay4 (iblk m c 0 ⟨4 * q + 3, h⟩) (iblk m c 1 ⟨4 * q + 3, h⟩) (k0_pay3 (iblk m c 0 ⟨4 * q + 2, by omega⟩) (iblk m c 1 ⟨4 * q + 2, by omega⟩)
      (k0_pay3 (iblk m c 0 ⟨4 * q + 1, by omega⟩) (iblk m c 1 ⟨4 * q + 1, by omega⟩) (k0_pay2 (iblk m c 0 ⟨4 * q, by omega⟩) (iblk m c 1 ⟨4 * q, by omega⟩)))) := by
  have e := congrArg Prod.fst (outsAt0_C m c ⟨4 * q + 3, h⟩ (by dsimp only; omega) (by dsimp only; omega) (by dsimp only; omega))
  rw [out_C, acc_at m c q h _ _ (by dsimp only; omega)] at e
  exact e

/-- The weight slab's entry of a hidden position: 512 rows to a slab. -/
def row (k : Fin 1024) (r : Fin 1024) : S2x1x512x1024.Idx := ix4 ⟨k.val / 512, by omega⟩ 0 ⟨k.val % 512, by omega⟩ r

/-- One term of a product: a squared rectified entry times a weight. -/
def term (a b : EReal) : EReal := max a 0 * max a 0 * b

/-- A product of a point, at an index. -/
theorem pay1_apply (a : Vec Ideal S1024x1024 .bf16) (b : Vec Ideal S2x1x512x1024 .bf16) (p r : Fin 1024) :
    k0_pay1 a b (ix2 p r) = ∑ k : Fin 1024, term (a (ix2 p k)) (b (row k r)) := by
  unfold term row
  pointwise [k0_pay1]

/-- The stored block at an index. -/
theorem pay_apply (a0 a1 a2 a3 : Vec Ideal S1024x1024 .bf16) (b0 b1 b2 b3 : Vec Ideal S2x1x512x1024 .bf16) (p r : Fin 1024) :
    k0_pay4 a3 b3 (k0_pay3 a2 b2 (k0_pay3 a1 b1 (k0_pay2 a0 b0))) (ix2 p r)
      = (k0_pay1 a0 b0 (ix2 p r) : EReal) + k0_pay1 a1 b1 (ix2 p r) + k0_pay1 a2 b2 (ix2 p r) + k0_pay1 a3 b3 (ix2 p r) := by
  unfold k0_pay4 k0_pay3 k0_pay2
  generalize k0_pay1 a0 b0 = e0
  generalize k0_pay1 a1 b1 = e1
  generalize k0_pay1 a2 b2 = e2
  generalize k0_pay1 a3 b3 = e3
  pointwise

/-- The product: row `i 0` of the squared rectified pre-activation by column `i 1` of layer 0's weights. -/
def prod (x : FVec Ideal S4096x4096 .f32) (w : FVec Ideal S2x4096x1024 .f32) : FVec Ideal S4096x1024 .bf16 := fun i =>
  ∑ k : Fin 4096, term (x (ix2 (i 0) k)) (w (ix3 0 k (i 1)))

/-- The pre-activation as the call reads it. -/
theorem V_x (c : Dev nD) (j : S4096x4096.Idx) : V m c main_v0 j = m (c.tc.loc main_arg0) j := by
  unfold_abbrev_sides
  after_results
  rfl

/-- The weights as the call reads them: slab `s` holds the rows from `512 * s` on. -/
theorem V_w (c : Dev nD) (s : Fin 8) (l : Fin 2) (k : Fin 512) (n : Fin 1024) :
    V m c main_v3 (ix4 s l k n) = m (c.tc.loc main_arg1) (ix3 l ⟨512 * s.val + k.val, by omega⟩ n) := by
  unfold_abbrev_sides
  after_results
  pointwise
  exact congrArg (m (c, Proc.tc.devRef main_arg1)) (congrArg (fun z => ix3 l z n) (Fin.ext (by show s.val * 512 + k.val = 512 * s.val + k.val; omega)))

/-- Which blocks grid point `t` reads and writes. -/
theorem idx0 : ∀ t : Fin cfg0.N, win0_0.index t (0 : Fin 2) = t.val / 4 ∧ win0_0.index t (1 : Fin 2) = t.val % 4 :=
  (by decide +kernel : ∀ t : Fin grid0.N, _)
theorem idx1 : ∀ t : Fin cfg0.N, win0_1.index t (0 : Fin 4) = t.val % 4 ∧ win0_1.index t (1 : Fin 4) = 0 ∧ win0_1.index t (2 : Fin 4) = 0 ∧ win0_1.index t (3 : Fin 4) = 0 :=
  (by decide +kernel : ∀ t : Fin grid0.N, _)
theorem idx2 : ∀ t : Fin cfg0.N, win0_2.index t (0 : Fin 2) = t.val / 4 ∧ win0_2.index t (1 : Fin 2) = 0 :=
  (by decide +kernel : ∀ t : Fin grid0.N, _)

theorem lt_N (n : ℕ) (hn : n < cfg0.N) : n < 16 := lt_of_lt_of_eq hn (show cfg0.N = 16 from N_0)

/-- The pre-activation's block at grid point `n`. -/
theorem iblk0_apply (c : Dev nD) (n : ℕ) (hn : n < cfg0.N) (p : Fin 1024) (r : Fin 1024) :
    iblk m c 0 ⟨n, hn⟩ (ix2 p r) = m (c.tc.loc main_arg0)
      (ix2 ⟨1024 * (n / 4) + p.val, by have := lt_N n hn; omega⟩ ⟨1024 * (n % 4) + r.val, by have := lt_N n hn; omega⟩) := by
  refine Eq.trans ?_ (V_x m c _)
  show V m c main_v0 _ = V m c main_v0 _
  congr 1
  obtain ⟨e0, e1⟩ := idx0 ⟨n, hn⟩
  dsimp only at e0 e1
  funext a
  apply Fin.ext
  match a with
  | ⟨0, _⟩ => show win0_0.index ⟨n, hn⟩ (0 : Fin 2) * 1024 + 1 * p.val = 1024 * (n / 4) + p.val; rw [e0]; omega
  | ⟨1, _⟩ => show win0_0.index ⟨n, hn⟩ (1 : Fin 2) * 1024 + 1 * r.val = 1024 * (n % 4) + r.val; rw [e1]; omega

/-- The weights' block at grid point `n`: a hidden position's row. -/
theorem iblk1_apply (c : Dev nD) (n : ℕ) (hn : n < cfg0.N) (k r : Fin 1024) :
    iblk m c 1 ⟨n, hn⟩ (row k r) = m (c.tc.loc main_arg1) (ix3 0 ⟨1024 * (n % 4) + k.val, by omega⟩ r) := by
  refine Eq.trans ?_ ((V_w m c ⟨2 * (n % 4) + k.val / 512, by omega⟩ 0 ⟨k.val % 512, by omega⟩ r).trans
    (congrArg (m (c.tc.loc main_arg1)) (congrArg (fun z => ix3 0 z r) (Fin.ext (by
      show 512 * (2 * (n % 4) + k.val / 512) + k.val % 512 = 1024 * (n % 4) + k.val; omega)))))
  show V m c main_v3 _ = V m c main_v3 _
  congr 1
  obtain ⟨e0, e1, e2, e3⟩ := idx1 ⟨n, hn⟩
  dsimp only at e0 e1 e2 e3
  funext a
  apply Fin.ext
  match a with
  | ⟨0, _⟩ => show win0_1.index ⟨n, hn⟩ (0 : Fin 4) * 2 + 1 * (k.val / 512) = 2 * (n % 4) + k.val / 512; rw [e0]; omega
  | ⟨1, _⟩ => show win0_1.index ⟨n, hn⟩ (1 : Fin 4) * 1 + 1 * 0 = 0; rw [e1]
  | ⟨2, _⟩ => show win0_1.index ⟨n, hn⟩ (2 : Fin 4) * 512 + 1 * (k.val % 512) = k.val % 512; rw [e2]; omega
  | ⟨3, _⟩ => show win0_1.index ⟨n, hn⟩ (3 : Fin 4) * 1024 + 1 * r.val = r.val; rw [e3]; omega

/-- One term of a point's product is a term of the whole sum. -/
theorem term_eq (c : Dev nD) (n : ℕ) (hn : n < cfg0.N) (s q : ℕ) (hs : n % 4 = s) (hq : n / 4 = q) (k p r : Fin 1024) :
    term (iblk m c 0 ⟨n, hn⟩ (ix2 p k)) (iblk m c 1 ⟨n, hn⟩ (row k r))
      = term (m (c.tc.loc main_arg0) (ix2 ⟨1024 * q + p.val, by have := lt_N n hn; omega⟩ ⟨1024 * s + k.val, by omega⟩))
        (m (c.tc.loc main_arg1) (ix3 0 ⟨1024 * s + k.val, by omega⟩ r)) := by
  subst hs hq
  rw [iblk0_apply, iblk1_apply]

/-- What the last point of run `q` stores is its block of the product. -/
theorem block_value (c : Dev nD) (q : ℕ) (h : 4 * q + 3 < cfg0.N) (p r : Fin 1024) :
    (outsAt0 m c (4 * q + 3) h).1 (ix2 p r) = prod (m (c.tc.loc main_arg0)) (m (c.tc.loc main_arg1)) (ix2 ⟨1024 * q + p.val, by have := lt_N _ h; omega⟩ ⟨1024 * 0 + r.val, by omega⟩) := by
  rw [out_at, pay_apply, pay1_apply, pay1_apply, pay1_apply, pay1_apply]
  unfold prod
  rw [Cert.Hand.sum_four]
  have er : (⟨1024 * 0 + r.val, by omega⟩ : Fin 1024) = r := Fin.ext (by show 1024 * 0 + r.val = r.val; omega)
  rw [er]
  refine congrArg₂ (· + ·) (congrArg₂ (· + ·) (congrArg₂ (· + ·) ?_ ?_) ?_) ?_
  · exact Finset.sum_congr rfl fun k _ => term_eq m c (4 * q) (by omega) 0 q (by omega) (by omega) k p r
  · exact Finset.sum_congr rfl fun k _ => term_eq m c (4 * q + 1) (by omega) 1 q (by omega) (by omega) k p r
  · exact Finset.sum_congr rfl fun k _ => term_eq m c (4 * q + 2) (by omega) 2 q (by omega) (by omega) k p r
  · exact Finset.sum_congr rfl fun k _ => term_eq m c (4 * q + 3) (by omega) 3 q (by omega) (by omega) k p r

/-- The result's array as the claim names it. -/
abbrev result (c : Dev nD) : Buf (Elt Ideal) ((c : Thread nD τ).loc main_v4) := prod (m (c.tc.loc main_arg0)) (m (c.tc.loc main_arg1))

/-- What a point that writes back writes is its block of the product. -/
theorem flushed_eq (c : Dev nD) (t : Fin cfg0.N) (hf : (cfg0.win 2).flush t = true) :
    (dats m 0 c).flushed 2 t = ((cfg0.win 2).blk t).view.read (Elt Ideal) (result m c) := by
  have hm : t.val % 4 = 3 := (flush0_2 t).mp hf
  obtain ⟨q, h, rfl⟩ : ∃ q, ∃ h : 4 * q + 3 < cfg0.N, t = ⟨4 * q + 3, h⟩ := ⟨t.val / 4, by have := t.isLt; omega, Fin.ext (by show t.val = 4 * (t.val / 4) + 3; omega)⟩
  rw [Value.flushed2]
  funext y
  obtain ⟨e0, e1⟩ := idx2 ⟨4 * q + 3, h⟩
  dsimp only at e0 e1
  have hy0 : (y 0).val < 1024 := (y 0).isLt
  have hy1 : (y 1).val < 1024 := (y 1).isLt
  refine Eq.trans ?_ ((block_value m c q h ⟨(y 0).val, hy0⟩ ⟨(y 1).val, hy1⟩).trans ?_)
  · exact congrArg ((outsAt0 m c (4 * q + 3) h).1 : Vec Ideal S1024x1024 .bf16) (funext fun a => by match a with | ⟨0, _⟩ => rfl | ⟨1, _⟩ => rfl)
  · refine congrArg (result m c) (funext fun a => Fin.ext ?_)
    match a with
    | ⟨0, _⟩ => show 1024 * q + (y 0).val = win0_2.index ⟨4 * q + 3, h⟩ (0 : Fin 2) * 1024 + 1 * (y 0).val; rw [e0]; omega
    | ⟨1, _⟩ => show 1024 * 0 + (y 1).val = win0_2.index ⟨4 * q + 3, h⟩ (1 : Fin 2) * 1024 + 1 * (y 1).val; rw [e1]; omega

/-- The result array is the product. -/
theorem final (c : Dev nD) : (dats m 0 c).arrAt 2 cfg0.N = result m c :=
  (dats m 0 c).arrAt_eq_of_cover 2 _ (fun t hf => flushed_eq m c t hf) fun i => by
    have h0 : (i 0).val < 4096 := (i 0).isLt
    have h1 : (i 1).val < 1024 := (i 1).isLt
    have hN : cfg0.N = 16 := N_0
    let t : Fin cfg0.N := ⟨4 * ((i 0).val / 1024) + 3, by omega⟩
    obtain ⟨e0, e1⟩ := idx2 t
    have tv : t.val = 4 * ((i 0).val / 1024) + 3 := rfl
    refine ⟨t, (flush0_2 t).mpr (by omega), ?_⟩
    show i ∈ ((View.whole main_v4).slice (win0_2.rect t)).set
    rw [View.set_slice_whole, Rect.mem_set_unit]
    intro a
    match a with
    | ⟨0, _⟩ => show win0_2.index t (0 : Fin 2) * 1024 ≤ (i 0).val ∧ (i 0).val < win0_2.index t (0 : Fin 2) * 1024 + 1024; omega
    | ⟨1, _⟩ => show win0_2.index t (1 : Fin 2) * 1024 ≤ (i 1).val ∧ (i 1).val < win0_2.index t (1 : Fin 2) * 1024 + 1024; omega

end Cert.Down0Ideal.Hand

namespace Cert.Down0RefIdeal.Hand

open Cert.Down0RefIdeal Cert.Down0RefIdeal.Gen Idealize.ShloMosaic Idealize.ShloMosaic.TcCoe Idealize.SL.Sem

/-- The reference's run: the same result, the arguments kept. -/
theorem run (m : (ℓ : Loc nD τ sig) → Buf (Elt Ideal) ℓ) (g : Dev nD → PrngReg) :
    θ_run defs (onTc (τ := τ) (main (F := Ideal))) ⟨m, fun _ => 0, g⟩ fun r => ∀ c : Dev nD,
    r.2.mem (c.tc.loc main_v5) = Cert.Down0Ideal.Hand.prod (m (c.tc.loc main_arg0)) (m (c.tc.loc main_arg1))
    ∧ r.2.mem (c.tc.loc main_arg0) = m (c.tc.loc main_arg0)
    ∧ r.2.mem (c.tc.loc main_arg1) = m (c.tc.loc main_arg1) := by
  refine (θ_run defs _ _).mono (fun _ h c => ⟨(h c).1.trans ?_, (h c).2⟩) (Value.run m g)
  generalize m (c.tc.loc main_arg0) = x0
  generalize m (c.tc.loc main_arg1) = x1
  funext i
  pointwise [Cert.Down0Ideal.Hand.prod, Cert.Down0Ideal.Hand.term]

end Cert.Down0RefIdeal.Hand

end
-- ==== Proof.GluVal.lean ====
/-
  The gated unit's projection over the extended reals: the tokens by the weight matrix, read out of slabs of 256 columns.
-/
module

public import proofs.«01_k».proof.Proof.Gen.GluIdeal.Value
public import proofs.«01_k».proof.Proof.Gen.GluRefIdeal.Run
public import proofs.«01_k».proof.Proof.BlockSum
public import proofs.«01_k».proof.Proof.Base

@[expose] public section

noncomputable section

namespace Cert.GluIdeal.Hand

open Cert.GluIdeal Cert.GluIdeal.Gen Idealize.ShloMosaic Idealize.ShloMosaic.TcCoe Idealize.SL.Sem
open Idealize.ShloMosaic.Pipeline (Dat)

/-- What a point stores. -/
theorem out_A (c : Dev nD) (i : grid0.Coords) (a0 : Memref sig .tc .vmem S1024x1024 .bf16) (h0 : a0.IsWhole) (a1 : Memref sig .tc .vmem S4x1x1024x256 .bf16) (h1 : a1.IsWhole) (a2 : Memref sig .tc .vmem S1024x1024 .bf16) (h2 : a2.IsWhole) (a3 : Memref sig .tc .vmem S1024x1024 .f32) (h3 : a3.IsWhole) (x0 : Vec Ideal S1024x1024 .bf16) (x1 : Vec Ideal S4x1x1024x256 .bf16) :
    out0_A_2 c i a0 h0 a1 h1 a2 h2 a3 h3 x0 x1 = k0_pay1 x0 x1 := by
  unfold out0_A_2
  rw [View.read_writes_eq_canon _ _ _ (cover0_A_2 c i a0 h0 a1 h1 a2 h2 a3 h3 x0 x1)]
  unfold kernelRun0_A
  dsimp only
  rw [View.canon_unit_zero hz]
  simp only [View.readAt_eq_ld, h0.read_unread, h1.read_unread, View.ld_unit_zero (S := S1024x1024) hz, View.ld_unit_zero (S := S4x1x1024x256) hz4]

/-- Two four-axis indices with the same components are one. -/
theorem ix4_eq {n0 n1 n2 n3 : ℕ} {a a' : Fin n0} {b b' : Fin n1} {c c' : Fin n2} {d d' : Fin n3}
    (ha : a.val = a'.val) (hb : b.val = b'.val) (hc : c.val = c'.val) (hd : d.val = d'.val) : ix4 a b c d = ix4 a' b' c' d' := by
  obtain rfl := Fin.ext ha
  obtain rfl := Fin.ext hb
  obtain rfl := Fin.ext hc
  obtain rfl := Fin.ext hd
  rfl

/-- A column of four slabs of 256, at row `p`. -/
def col (p r : Fin 1024) : S4x1x1024x256.Idx := ix4 ⟨r.val / 256, by omega⟩ 0 p ⟨r.val % 256, by omega⟩

/-- The stored block at an index. -/
theorem pay_apply (x0 : Vec Ideal S1024x1024 .bf16) (x1 : Vec Ideal S4x1x1024x256 .bf16) (p r : Fin 1024) :
    k0_pay1 x0 x1 (ix2 p r) = ∑ k : Fin 1024, x0 (ix2 p k) * x1 (col k r) := by
  unfold col
  pointwise [k0_pay1]
  refine Finset.sum_congr rfl fun k _ => congrArg (x0 (ix2 p k) * ·) ?_
  have hr := r.isLt
  split
  · exact congrArg x1 (ix4_eq (by show 0 = r.val / 256; omega) rfl rfl (by show r.val = r.val % 256; omega))
  split
  · exact congrArg x1 (ix4_eq (by show 1 = r.val / 256; omega) rfl rfl (by show r.val - 256 = r.val % 256; omega))
  split
  · exact congrArg x1 (ix4_eq (by show 2 = r.val / 256; omega) rfl rfl (by show r.val - 256 - 256 = r.val % 256; omega))
  · exact congrArg x1 (ix4_eq (by show 3 = r.val / 256; omega) rfl rfl (by show r.val - 256 - 256 - 256 = r.val % 256; omega))

variable (m : (ℓ : Loc nD τ sig) → Buf (Elt Ideal) ℓ)

/-- One term of a product. -/
def term (a b : EReal) : EReal := a * b

/-- The product: row `i 0` of the tokens by column `i 1` of the weights. -/
def prod (x : FVec Ideal S4096x1024 .f32) (w : FVec Ideal S1x1024x2048 .f32) : FVec Ideal S4096x2048 .bf16 :=
  fun i => ∑ k : Fin 1024, x (ix2 (i 0) k) * w (ix3 0 k (i 1))

/-- The left factor as the call reads it. -/
theorem V_x (c : Dev nD) (j : S4096x1024.Idx) : V m c main_v0 j = m (c.tc.loc main_arg0) j := by
  unfold_abbrev_sides
  after_results
  rfl

/-- The weights as the call reads them: slab `s` holds the columns from `256 * s` on. -/
theorem V_w (c : Dev nD) (s : Fin 8) (k : Fin 1024) (n : Fin 256) :
    V m c main_v3 (ix4 s 0 k n) = m (c.tc.loc main_arg1) (ix3 0 k ⟨256 * s.val + n.val, by omega⟩) := by
  unfold_abbrev_sides
  after_results
  pointwise
  exact congrArg (m (c, Proc.tc.devRef main_arg1)) (congrArg (ix3 0 k) (Fin.ext (by show s.val * 256 + n.val = 256 * s.val + n.val; omega)))

/-- Which blocks grid point `t` reads and writes. -/
theorem idx0 : ∀ t : Fin cfg0.N, win0_0.index t (0 : Fin 2) = t.val / 2 ∧ win0_0.index t (1 : Fin 2) = 0 :=
  (by decide +kernel : ∀ t : Fin grid0.N, _)
theorem idx1 : ∀ t : Fin cfg0.N, win0_1.index t (0 : Fin 4) = t.val % 2 ∧ win0_1.index t (1 : Fin 4) = 0 ∧ win0_1.index t (2 : Fin 4) = 0 ∧ win0_1.index t (3 : Fin 4) = 0 :=
  (by decide +kernel : ∀ t : Fin grid0.N, _)
theorem idx2 : ∀ t : Fin cfg0.N, win0_2.index t (0 : Fin 2) = t.val / 2 ∧ win0_2.index t (1 : Fin 2) = t.val % 2 :=
  (by decide +kernel : ∀ t : Fin grid0.N, _)

theorem lt_N (n : ℕ) (hn : n < cfg0.N) : n < 8 := lt_of_lt_of_eq hn (show cfg0.N = 8 from N_0)

/-- The left factor's block at grid point `n`. -/
theorem iblk0_apply (c : Dev nD) (n : ℕ) (hn : n < cfg0.N) (p : Fin 1024) (r : Fin 1024) :
    iblk m c 0 ⟨n, hn⟩ (ix2 p r) = m (c.tc.loc main_arg0)
      (ix2 ⟨1024 * (n / 2) + p.val, by have := lt_N n hn; omega⟩ ⟨1024 * (0) + r.val, by have := lt_N n hn; omega⟩) := by
  refine Eq.trans ?_ (V_x m c _)
  show V m c main_v0 _ = V m c main_v0 _
  congr 1
  obtain ⟨e0, e1⟩ := idx0 ⟨n, hn⟩
  dsimp only at e0 e1
  funext a
  apply Fin.ext
  match a with
  | ⟨0, _⟩ => show win0_0.index ⟨n, hn⟩ (0 : Fin 2) * 1024 + 1 * p.val = 1024 * (n / 2) + p.val; rw [e0]; omega
  | ⟨1, _⟩ => show win0_0.index ⟨n, hn⟩ (1 : Fin 2) * 1024 + 1 * r.val = 1024 * (0) + r.val; rw [e1]; omega

/-- The weights' block at grid point `n`: four slabs, read at a column. -/
theorem iblk1_apply (c : Dev nD) (n : ℕ) (hn : n < cfg0.N) (p r : Fin 1024) :
    iblk m c 1 ⟨n, hn⟩ (col p r) = m (c.tc.loc main_arg1) (ix3 0 p ⟨1024 * (n % 2) + r.val, by have := lt_N n hn; omega⟩) := by
  refine Eq.trans ?_ ((V_w m c ⟨4 * (n % 2) + r.val / 256, by have := lt_N n hn; omega⟩ p ⟨r.val % 256, by omega⟩).trans
    (congrArg (m (c.tc.loc main_arg1)) (congrArg (ix3 0 p) (Fin.ext (by
      show 256 * (4 * (n % 2) + r.val / 256) + r.val % 256 = 1024 * (n % 2) + r.val; omega)))))
  show V m c main_v3 _ = V m c main_v3 _
  congr 1
  obtain ⟨e0, e1, e2, e3⟩ := idx1 ⟨n, hn⟩
  dsimp only at e0 e1 e2 e3
  funext a
  apply Fin.ext
  match a with
  | ⟨0, _⟩ => show win0_1.index ⟨n, hn⟩ (0 : Fin 4) * 4 + 1 * (r.val / 256) = 4 * (n % 2) + r.val / 256; rw [e0]; omega
  | ⟨1, _⟩ => show win0_1.index ⟨n, hn⟩ (1 : Fin 4) * 1 + 1 * 0 = 0; rw [e1]
  | ⟨2, _⟩ => show win0_1.index ⟨n, hn⟩ (2 : Fin 4) * 1024 + 1 * p.val = p.val; rw [e2]; omega
  | ⟨3, _⟩ => show win0_1.index ⟨n, hn⟩ (3 : Fin 4) * 256 + 1 * (r.val % 256) = r.val % 256; rw [e3]; omega

/-- What grid point `n` stores is its block of the product. -/
theorem block_value (c : Dev nD) (n : ℕ) (hn : n < cfg0.N) (p r : Fin 1024) :
    (k0_pay1 (iblk m c 0 ⟨n, hn⟩) (iblk m c 1 ⟨n, hn⟩) : Vec Ideal S1024x1024 .bf16) (ix2 p r)
      = prod (m (c.tc.loc main_arg0)) (m (c.tc.loc main_arg1)) (ix2 ⟨1024 * (n / 2) + p.val, by have := lt_N n hn; omega⟩ ⟨1024 * (n % 2) + r.val, by have := lt_N n hn; omega⟩) := by
  rw [pay_apply]
  unfold prod
  refine Finset.sum_congr rfl fun k _ => ?_
  rw [iblk0_apply, iblk1_apply]
  have ek : (⟨1024 * 0 + k.val, by omega⟩ : Fin 1024) = k := Fin.ext (by show 1024 * 0 + k.val = k.val; omega)
  rw [ek]
  rfl

/-- The result's array as the claim names it. -/
abbrev result (c : Dev nD) : Buf (Elt Ideal) ((c : Thread nD τ).loc main_v4) := prod (m (c.tc.loc main_arg0)) (m (c.tc.loc main_arg1))

/-- What a point writes back is its block of the product. -/
theorem flushed_eq (c : Dev nD) (t : Fin cfg0.N) :
    (dats m 0 c).flushed 2 t = ((cfg0.win 2).blk t).view.read (Elt Ideal) (result m c) := by
  rw [Value.flushed2_A, out_A]
  funext y
  obtain ⟨e0, e1⟩ := idx2 t
  have hy0 : (y 0).val < 1024 := (y 0).isLt
  have hy1 : (y 1).val < 1024 := (y 1).isLt
  refine Eq.trans ?_ ((block_value m c t.val t.isLt ⟨(y 0).val, hy0⟩ ⟨(y 1).val, hy1⟩).trans ?_)
  · exact congrArg (k0_pay1 (iblk m c 0 t) (iblk m c 1 t) : Vec Ideal S1024x1024 .bf16) (funext fun a => by match a with | ⟨0, _⟩ => rfl | ⟨1, _⟩ => rfl)
  · refine congrArg (result m c) (funext fun a => Fin.ext ?_)
    match a with
    | ⟨0, _⟩ => show 1024 * (t.val / 2) + (y 0).val = win0_2.index t (0 : Fin 2) * 1024 + 1 * (y 0).val; rw [e0]; omega
    | ⟨1, _⟩ => show 1024 * (t.val % 2) + (y 1).val = win0_2.index t (1 : Fin 2) * 1024 + 1 * (y 1).val; rw [e1]; omega

/-- The result array is the product. -/
theorem final (c : Dev nD) : (dats m 0 c).arrAt 2 cfg0.N = result m c :=
  (dats m 0 c).arrAt_eq_of_cover 2 _ (fun t _ => flushed_eq m c t) fun i => by
    have h0 : (i 0).val < 4096 := (i 0).isLt
    have h1 : (i 1).val < 2048 := (i 1).isLt
    have hN : cfg0.N = 8 := N_0
    let t : Fin cfg0.N := ⟨2 * ((i 0).val / 1024) + (i 1).val / 1024, by omega⟩
    obtain ⟨e0, e1⟩ := idx2 t
    have tv : t.val = 2 * ((i 0).val / 1024) + (i 1).val / 1024 := rfl
    refine ⟨t, flush0_2 t, ?_⟩
    show i ∈ ((View.whole main_v4).slice (win0_2.rect t)).set
    rw [View.set_slice_whole, Rect.mem_set_unit]
    intro a
    match a with
    | ⟨0, _⟩ => show win0_2.index t (0 : Fin 2) * 1024 ≤ (i 0).val ∧ (i 0).val < win0_2.index t (0 : Fin 2) * 1024 + 1024; omega
    | ⟨1, _⟩ => show win0_2.index t (1 : Fin 2) * 1024 ≤ (i 1).val ∧ (i 1).val < win0_2.index t (1 : Fin 2) * 1024 + 1024; omega

end Cert.GluIdeal.Hand

namespace Cert.GluRefIdeal.Hand

open Cert.GluRefIdeal Cert.GluRefIdeal.Gen Idealize.ShloMosaic Idealize.ShloMosaic.TcCoe Idealize.SL.Sem

/-- The reference's run: the same result, the arguments kept. -/
theorem run (m : (ℓ : Loc nD τ sig) → Buf (Elt Ideal) ℓ) (g : Dev nD → PrngReg) :
    θ_run defs (onTc (τ := τ) (main (F := Ideal))) ⟨m, fun _ => 0, g⟩ fun r => ∀ c : Dev nD,
    r.2.mem (c.tc.loc main_v2) = Cert.GluIdeal.Hand.prod (m (c.tc.loc main_arg0)) (m (c.tc.loc main_arg1))
    ∧ r.2.mem (c.tc.loc main_arg0) = m (c.tc.loc main_arg0)
    ∧ r.2.mem (c.tc.loc main_arg1) = m (c.tc.loc main_arg1) := by
  refine (θ_run defs _ _).mono (fun _ h c => ⟨(h c).1.trans ?_, (h c).2⟩) (Value.run m g)
  generalize m (c.tc.loc main_arg0) = x0
  generalize m (c.tc.loc main_arg1) = x1
  funext i
  have hw : ∀ (k : Fin 1024) (n : Fin 2048), shapeCast S1024x2048 x1 shapeCasts_S1x1024x2048_S1024x2048 (ix2 k n) = x1 (ix3 0 k n) := by
    intro k n
    refine (shapeCast_dropUnit_apply ![1024, 2048] x1 _ (ix2 k n)).trans (congrArg x1 (funext fun a => ?_))
    match a with | ⟨0, _⟩ => rfl | ⟨1, _⟩ => rfl | ⟨2, _⟩ => rfl
  obtain ⟨p, r, rfl⟩ : ∃ (p : Fin 4096) (r : Fin 2048), i = ix2 p r := ⟨i 0, i 1, funext fun a => by match a with | ⟨0, _⟩ => rfl | ⟨1, _⟩ => rfl⟩
  have hs : Cert.GluIdeal.Hand.prod x0 x1 (ix2 p r) = ∑ k : Fin 1024, Cert.GluIdeal.Hand.term (x0 (ix2 p k)) (x1 (ix3 0 k r)) := rfl
  rw [hs]
  refine Eq.trans ?_ (Finset.sum_congr rfl fun k _ => congrArg (Cert.GluIdeal.Hand.term (x0 (ix2 p k))) (hw k r))
  clear hs
  generalize shapeCast S1024x2048 x1 shapeCasts_S1x1024x2048_S1024x2048 = w at hw ⊢
  pointwise [Cert.GluIdeal.Hand.term]

end Cert.GluRefIdeal.Hand

end
-- ==== Proof.GluDxVal.lean ====
/-
  The gradient of the gated unit's input over the extended reals: the output's gradient by the transposed weights, read
  out of slabs of 256 columns. The call adds two blocks of the output axis one after the other.
-/
module

public import proofs.«01_k».proof.Proof.Gen.GluDxIdeal.Value
public import proofs.«01_k».proof.Proof.Gen.GluDxRefIdeal.Run
public import proofs.«01_k».proof.Proof.BlockSum
public import proofs.«01_k».proof.Proof.Base

@[expose] public section

noncomputable section

namespace Cert.GluDxIdeal.Hand

open Cert.GluDxIdeal Cert.GluDxIdeal.Gen Idealize.ShloMosaic Idealize.ShloMosaic.TcCoe Idealize.SL.Sem
open Idealize.ShloMosaic.Pipeline (Dat)

variable (c : Dev nD) (i : grid0.Coords) (a0 : Memref sig .tc .vmem S1024x1024 .bf16) (h0 : a0.IsWhole) (a1 : Memref sig .tc .vmem S4x1x1024x256 .bf16) (h1 : a1.IsWhole) (a2 : Memref sig .tc .vmem S1024x1024 .f32) (h2 : a2.IsWhole) (a3 : Memref sig .tc .vmem S1024x1024 .f32) (h3 : a3.IsWhole)

/-- What the first point of a run of two leaves in the accumulator. -/
theorem sout_A
    (hc0 : cond0_0 i) (hc1 : ¬cond0_1 i) (hc2 : ¬cond0_2 i) (x0 : Vec Ideal S1024x1024 .bf16) (x1 : Vec Ideal S4x1x1024x256 .bf16) :
    sout0_A_0 c i a0 h0 a1 h1 a2 h2 a3 h3 hc0 hc1 hc2 x0 x1 = k0_pay2 x0 x1 := by
  unfold sout0_A_0
  rw [View.read_writes_eq_canon _ _ _ (scover0_A_0 c i a0 h0 a1 h1 a2 h2 a3 h3 hc0 hc1 hc2 x0 x1)]
  unfold kernelRun0_A
  dsimp only
  rw [View.canon_unit_zero hz]
  simp only [View.readAt_eq_ld, h0.read_unread, h1.read_unread, h3.read_unread, View.ld_unit_zero (S := S1024x1024) hz, View.ld_unit_zero (S := S4x1x1024x256) hz4]

/-- What the last point of a run stores. -/
theorem out_B
    (hc0 : ¬cond0_0 i) (hc1 : ¬cond0_1 i) (hc2 : cond0_2 i) (x0 : Vec Ideal S1024x1024 .bf16) (x1 : Vec Ideal S4x1x1024x256 .bf16) (xs0 : Vec Ideal S1024x1024 .f32) :
    out0_B_2 c i a0 h0 a1 h1 a2 h2 a3 h3 hc0 hc1 hc2 x0 x1 xs0 = k0_pay4 x0 x1 xs0 := by
  unfold out0_B_2
  rw [View.read_writes_eq_canon _ _ _ (cover0_B_2 c i a0 h0 a1 h1 a2 h2 a3 h3 hc0 hc1 hc2 x0 x1 xs0)]
  unfold kernelRun0_B
  dsimp only
  rw [View.canon_unit_zero hz]
  simp only [View.readAt_eq_ld, h0.read_unread, h1.read_unread, h3.read_unread, View.ld_unit_zero (S := S1024x1024) hz, View.ld_unit_zero (S := S4x1x1024x256) hz4]

variable (m : (ℓ : Loc nD τ sig) → Buf (Elt Ideal) ℓ)

theorem acc_first (c : Dev nD) (t : Fin cfg0.N) (h : t.val % 2 = 0) :
    (outsAt0 m c t.val t.isLt).2 = k0_pay2 (iblk m c 0 t) (iblk m c 1 t) := by
  rw [outsAt0_A m c t h (by omega)]
  dsimp only
  rw [sout_A]

theorem acc_at (c : Dev nD) (q : ℕ) (h : 2 * q + 1 < cfg0.N) (n : ℕ) (hn : n < cfg0.N) (e : n = 2 * q) :
    (outsAt0 m c n hn).2 = k0_pay2 (iblk m c 0 ⟨2 * q, by omega⟩) (iblk m c 1 ⟨2 * q, by omega⟩) := by
  subst e
  exact acc_first m c ⟨2 * q, by omega⟩ (by dsimp only; omega)

/-- What the last point of run `q` stores, over the blocks of its two points. -/
theorem out_at (c : Dev nD) (q : ℕ) (h : 2 * q + 1 < cfg0.N) :
    (outsAt0 m c (2 * q + 1) h).1 = k0_pay4 (iblk m c 0 ⟨2 * q + 1, h⟩) (iblk m c 1 ⟨2 * q + 1, h⟩) (k0_pay2 (iblk m c 0 ⟨2 * q, by omega⟩) (iblk m c 1 ⟨2 * q, by omega⟩)) := by
  have e := congrArg Prod.fst (outsAt0_B m c ⟨2 * q + 1, h⟩ (by dsimp only; omega) (by dsimp only; omega))
  rw [out_B, acc_at m c q h _ _ (by dsimp only; omega)] at e
  exact e

/-- A sum over 2048 as two sums over 1024. -/
theorem sum_halves {M : Type} [AddCommMonoid M] (f : Fin 2048 → M) :
    ∑ k, f k = ∑ k : Fin 1024, f ⟨1024 * 0 + k.val, by omega⟩ + ∑ k : Fin 1024, f ⟨1024 * 1 + k.val, by omega⟩ := by
  refine (Fin.sum_univ_add (a := 1024) (b := 1024) f).trans (congrArg₂ (· + ·) ?_ rfl)
  exact Finset.sum_congr rfl fun k _ => congrArg f (Fin.ext (by show k.val = 1024 * 0 + k.val; omega))

/-- Two four-axis indices with the same components are one. -/
theorem ix4_eq {n0 n1 n2 n3 : ℕ} {a a' : Fin n0} {b b' : Fin n1} {c c' : Fin n2} {d d' : Fin n3}
    (ha : a.val = a'.val) (hb : b.val = b'.val) (hc : c.val = c'.val) (hd : d.val = d'.val) : ix4 a b c d = ix4 a' b' c' d' := by
  obtain rfl := Fin.ext ha
  obtain rfl := Fin.ext hb
  obtain rfl := Fin.ext hc
  obtain rfl := Fin.ext hd
  rfl

/-- The weight slab's entry of an output position: 256 columns to a slab. -/
def col (k : Fin 1024) (r : Fin 1024) : S4x1x1024x256.Idx := ix4 ⟨k.val / 256, by omega⟩ 0 r ⟨k.val % 256, by omega⟩

/-- One term of a product. -/
def term (a b : EReal) : EReal := a * b

/-- A product of a point, at an index. -/
theorem pay1_apply (a : Vec Ideal S1024x1024 .bf16) (b : Vec Ideal S4x1x1024x256 .bf16) (p r : Fin 1024) :
    k0_pay1 a b (ix2 p r) = ∑ k : Fin 1024, term (a (ix2 p k)) (b (col k r)) := by
  pointwise [k0_pay1]
  refine Finset.sum_congr rfl fun k _ => congrArg (term (a (ix2 p k))) ?_
  have hr := k.isLt
  split
  · exact congrArg b (ix4_eq (by show 0 = k.val / 256; omega) rfl rfl (by show k.val = k.val % 256; omega))
  split
  · exact congrArg b (ix4_eq (by show 1 = k.val / 256; omega) rfl rfl (by show k.val - 256 = k.val % 256; omega))
  split
  · exact congrArg b (ix4_eq (by show 2 = k.val / 256; omega) rfl rfl (by show k.val - 256 - 256 = k.val % 256; omega))
  · exact congrArg b (ix4_eq (by show 3 = k.val / 256; omega) rfl rfl (by show k.val - 256 - 256 - 256 = k.val % 256; omega))

/-- The stored block at an index. -/
theorem pay_apply (a0 a1 : Vec Ideal S1024x1024 .bf16) (b0 b1 : Vec Ideal S4x1x1024x256 .bf16) (p r : Fin 1024) :
    k0_pay4 a1 b1 (k0_pay2 a0 b0) (ix2 p r) = (k0_pay1 a0 b0 (ix2 p r) : EReal) + k0_pay1 a1 b1 (ix2 p r) := by
  unfold k0_pay4 k0_pay2
  generalize k0_pay1 a0 b0 = e0
  generalize k0_pay1 a1 b1 = e1
  pointwise

/-- The gradient: row `i 0` of the output's gradient by row `i 1` of the weights. -/
def grad (g : FVec Ideal S4096x2048 .f32) (w : FVec Ideal S1x1024x2048 .f32) : FVec Ideal S4096x1024 .f32 := fun i =>
  ∑ k : Fin 2048, term (g (ix2 (i 0) k)) (w (ix3 0 (i 1) k))

/-- The output's gradient as the call reads it. -/
theorem V_g (c : Dev nD) (j : S4096x2048.Idx) : V m c main_v0 j = m (c.tc.loc main_arg0) j := by
  unfold_abbrev_sides
  after_results
  rfl

/-- The weights as the call reads them: slab `s` holds the columns from `256 * s` on. -/
theorem V_w (c : Dev nD) (s : Fin 8) (k : Fin 1024) (n : Fin 256) :
    V m c main_v3 (ix4 s 0 k n) = m (c.tc.loc main_arg1) (ix3 0 k ⟨256 * s.val + n.val, by omega⟩) := by
  unfold_abbrev_sides
  after_results
  pointwise
  exact congrArg (m (c, Proc.tc.devRef main_arg1)) (congrArg (ix3 0 k) (Fin.ext (by show s.val * 256 + n.val = 256 * s.val + n.val; omega)))

/-- Which blocks grid point `t` reads and writes. -/
theorem idx0 : ∀ t : Fin cfg0.N, win0_0.index t (0 : Fin 2) = t.val / 2 ∧ win0_0.index t (1 : Fin 2) = t.val % 2 :=
  (by decide +kernel : ∀ t : Fin grid0.N, _)
theorem idx1 : ∀ t : Fin cfg0.N, win0_1.index t (0 : Fin 4) = t.val % 2 ∧ win0_1.index t (1 : Fin 4) = 0 ∧ win0_1.index t (2 : Fin 4) = 0 ∧ win0_1.index t (3 : Fin 4) = 0 :=
  (by decide +kernel : ∀ t : Fin grid0.N, _)
theorem idx2 : ∀ t : Fin cfg0.N, win0_2.index t (0 : Fin 2) = t.val / 2 ∧ win0_2.index t (1 : Fin 2) = 0 :=
  (by decide +kernel : ∀ t : Fin grid0.N, _)

theorem lt_N (n : ℕ) (hn : n < cfg0.N) : n < 8 := lt_of_lt_of_eq hn (show cfg0.N = 8 from N_0)

/-- The output gradient's block at grid point `n`. -/
theorem iblk0_apply (c : Dev nD) (n : ℕ) (hn : n < cfg0.N) (p : Fin 1024) (r : Fin 1024) :
    iblk m c 0 ⟨n, hn⟩ (ix2 p r) = m (c.tc.loc main_arg0)
      (ix2 ⟨1024 * (n / 2) + p.val, by have := lt_N n hn; omega⟩ ⟨1024 * (n % 2) + r.val, by have := lt_N n hn; omega⟩) := by
  refine Eq.trans ?_ (V_g m c _)
  show V m c main_v0 _ = V m c main_v0 _
  congr 1
  obtain ⟨e0, e1⟩ := idx0 ⟨n, hn⟩
  dsimp only at e0 e1
  funext a
  apply Fin.ext
  match a with
  | ⟨0, _⟩ => show win0_0.index ⟨n, hn⟩ (0 : Fin 2) * 1024 + 1 * p.val = 1024 * (n / 2) + p.val; rw [e0]; omega
  | ⟨1, _⟩ => show win0_0.index ⟨n, hn⟩ (1 : Fin 2) * 1024 + 1 * r.val = 1024 * (n % 2) + r.val; rw [e1]; omega

/-- The weights' block at grid point `n`: an output position's column. -/
theorem iblk1_apply (c : Dev nD) (n : ℕ) (hn : n < cfg0.N) (k r : Fin 1024) :
    iblk m c 1 ⟨n, hn⟩ (col k r) = m (c.tc.loc main_arg1) (ix3 0 r ⟨1024 * (n % 2) + k.val, by omega⟩) := by
  refine Eq.trans ?_ ((V_w m c ⟨4 * (n % 2) + k.val / 256, by omega⟩ r ⟨k.val % 256, by omega⟩).trans
    (congrArg (m (c.tc.loc main_arg1)) (congrArg (ix3 0 r) (Fin.ext (by
      show 256 * (4 * (n % 2) + k.val / 256) + k.val % 256 = 1024 * (n % 2) + k.val; omega)))))
  show V m c main_v3 _ = V m c main_v3 _
  congr 1
  obtain ⟨e0, e1, e2, e3⟩ := idx1 ⟨n, hn⟩
  dsimp only at e0 e1 e2 e3
  funext a
  apply Fin.ext
  match a with
  | ⟨0, _⟩ => show win0_1.index ⟨n, hn⟩ (0 : Fin 4) * 4 + 1 * (k.val / 256) = 4 * (n % 2) + k.val / 256; rw [e0]; omega
  | ⟨1, _⟩ => show win0_1.index ⟨n, hn⟩ (1 : Fin 4) * 1 + 1 * 0 = 0; rw [e1]
  | ⟨2, _⟩ => show win0_1.index ⟨n, hn⟩ (2 : Fin 4) * 1024 + 1 * r.val = r.val; rw [e2]; omega
  | ⟨3, _⟩ => show win0_1.index ⟨n, hn⟩ (3 : Fin 4) * 256 + 1 * (k.val % 256) = k.val % 256; rw [e3]; omega

/-- One term of a point's product is a term of the gradient's sum. -/
theorem term_eq (c : Dev nD) (n : ℕ) (hn : n < cfg0.N) (s q : ℕ) (hs : n % 2 = s) (hq : n / 2 = q) (k p r : Fin 1024) :
    term (iblk m c 0 ⟨n, hn⟩ (ix2 p k)) (iblk m c 1 ⟨n, hn⟩ (col k r))
      = term (m (c.tc.loc main_arg0) (ix2 ⟨1024 * q + p.val, by have := lt_N n hn; omega⟩ ⟨1024 * s + k.val, by omega⟩))
        (m (c.tc.loc main_arg1) (ix3 0 r ⟨1024 * s + k.val, by omega⟩)) := by
  subst hs hq
  rw [iblk0_apply, iblk1_apply]

/-- What the last point of run `q` stores is its block of the gradient. -/
theorem block_value (c : Dev nD) (q : ℕ) (h : 2 * q + 1 < cfg0.N) (p r : Fin 1024) :
    (outsAt0 m c (2 * q + 1) h).1 (ix2 p r) = grad (m (c.tc.loc main_arg0)) (m (c.tc.loc main_arg1)) (ix2 ⟨1024 * q + p.val, by have := lt_N _ h; omega⟩ ⟨1024 * 0 + r.val, by omega⟩) := by
  rw [out_at, pay_apply, pay1_apply, pay1_apply]
  unfold grad
  rw [sum_halves]
  have er : (⟨1024 * 0 + r.val, by omega⟩ : Fin 1024) = r := Fin.ext (by show 1024 * 0 + r.val = r.val; omega)
  rw [er]
  refine congrArg₂ (· + ·) ?_ ?_
  · exact Finset.sum_congr rfl fun k _ => term_eq m c (2 * q) (by omega) 0 q (by omega) (by omega) k p r
  · exact Finset.sum_congr rfl fun k _ => term_eq m c (2 * q + 1) (by omega) 1 q (by omega) (by omega) k p r

/-- The result's array as the claim names it. -/
abbrev result (c : Dev nD) : Buf (Elt Ideal) ((c : Thread nD τ).loc main_v4) := grad (m (c.tc.loc main_arg0)) (m (c.tc.loc main_arg1))

/-- What a point that writes back writes is its block of the gradient. -/
theorem flushed_eq (c : Dev nD) (t : Fin cfg0.N) (hf : (cfg0.win 2).flush t = true) :
    (dats m 0 c).flushed 2 t = ((cfg0.win 2).blk t).view.read (Elt Ideal) (result m c) := by
  have hm : t.val % 2 = 1 := (flush0_2 t).mp hf
  obtain ⟨q, h, rfl⟩ : ∃ q, ∃ h : 2 * q + 1 < cfg0.N, t = ⟨2 * q + 1, h⟩ := ⟨t.val / 2, by have := t.isLt; omega, Fin.ext (by show t.val = 2 * (t.val / 2) + 1; omega)⟩
  rw [Value.flushed2]
  funext y
  obtain ⟨e0, e1⟩ := idx2 ⟨2 * q + 1, h⟩
  dsimp only at e0 e1
  have hy0 : (y 0).val < 1024 := (y 0).isLt
  have hy1 : (y 1).val < 1024 := (y 1).isLt
  refine Eq.trans ?_ ((block_value m c q h ⟨(y 0).val, hy0⟩ ⟨(y 1).val, hy1⟩).trans ?_)
  · exact congrArg ((outsAt0 m c (2 * q + 1) h).1 : Vec Ideal S1024x1024 .f32) (funext fun a => by match a with | ⟨0, _⟩ => rfl | ⟨1, _⟩ => rfl)
  · refine congrArg (result m c) (funext fun a => Fin.ext ?_)
    match a with
    | ⟨0, _⟩ => show 1024 * q + (y 0).val = win0_2.index ⟨2 * q + 1, h⟩ (0 : Fin 2) * 1024 + 1 * (y 0).val; rw [e0]; omega
    | ⟨1, _⟩ => show 1024 * 0 + (y 1).val = win0_2.index ⟨2 * q + 1, h⟩ (1 : Fin 2) * 1024 + 1 * (y 1).val; rw [e1]; omega

/-- The result array is the gradient. -/
theorem final (c : Dev nD) : (dats m 0 c).arrAt 2 cfg0.N = result m c :=
  (dats m 0 c).arrAt_eq_of_cover 2 _ (fun t hf => flushed_eq m c t hf) fun i => by
    have h0 : (i 0).val < 4096 := (i 0).isLt
    have h1 : (i 1).val < 1024 := (i 1).isLt
    have hN : cfg0.N = 8 := N_0
    let t : Fin cfg0.N := ⟨2 * ((i 0).val / 1024) + 1, by omega⟩
    obtain ⟨e0, e1⟩ := idx2 t
    have tv : t.val = 2 * ((i 0).val / 1024) + 1 := rfl
    refine ⟨t, (flush0_2 t).mpr (by omega), ?_⟩
    show i ∈ ((View.whole main_v4).slice (win0_2.rect t)).set
    rw [View.set_slice_whole, Rect.mem_set_unit]
    intro a
    match a with
    | ⟨0, _⟩ => show win0_2.index t (0 : Fin 2) * 1024 ≤ (i 0).val ∧ (i 0).val < win0_2.index t (0 : Fin 2) * 1024 + 1024; omega
    | ⟨1, _⟩ => show win0_2.index t (1 : Fin 2) * 1024 ≤ (i 1).val ∧ (i 1).val < win0_2.index t (1 : Fin 2) * 1024 + 1024; omega

end Cert.GluDxIdeal.Hand

namespace Cert.GluDxRefIdeal.Hand

open Cert.GluDxRefIdeal Cert.GluDxRefIdeal.Gen Idealize.ShloMosaic Idealize.ShloMosaic.TcCoe Idealize.SL.Sem

/-- The reference's run: the same result, the arguments kept. -/
theorem run (m : (ℓ : Loc nD τ sig) → Buf (Elt Ideal) ℓ) (g : Dev nD → PrngReg) :
    θ_run defs (onTc (τ := τ) (main (F := Ideal))) ⟨m, fun _ => 0, g⟩ fun r => ∀ c : Dev nD,
    r.2.mem (c.tc.loc main_v3) = Cert.GluDxIdeal.Hand.grad (m (c.tc.loc main_arg0)) (m (c.tc.loc main_arg1))
    ∧ r.2.mem (c.tc.loc main_arg0) = m (c.tc.loc main_arg0)
    ∧ r.2.mem (c.tc.loc main_arg1) = m (c.tc.loc main_arg1) := by
  refine (θ_run defs _ _).mono (fun _ h c => ⟨(h c).1.trans ?_, (h c).2⟩) (Value.run m g)
  generalize m (c.tc.loc main_arg0) = x0
  generalize m (c.tc.loc main_arg1) = x1
  funext i
  have hw : ∀ (k : Fin 1024) (n : Fin 2048), shapeCast S1024x2048 x1 shapeCasts_S1x1024x2048_S1024x2048 (ix2 k n) = x1 (ix3 0 k n) := by
    intro k n
    refine (shapeCast_dropUnit_apply ![1024, 2048] x1 _ (ix2 k n)).trans (congrArg x1 (funext fun a => ?_))
    match a with | ⟨0, _⟩ => rfl | ⟨1, _⟩ => rfl | ⟨2, _⟩ => rfl
  obtain ⟨p, r, rfl⟩ : ∃ (p : Fin 4096) (r : Fin 1024), i = ix2 p r := ⟨i 0, i 1, funext fun a => by match a with | ⟨0, _⟩ => rfl | ⟨1, _⟩ => rfl⟩
  have hs : Cert.GluDxIdeal.Hand.grad x0 x1 (ix2 p r) = ∑ k : Fin 2048, Cert.GluDxIdeal.Hand.term (x0 (ix2 p k)) (x1 (ix3 0 r k)) := rfl
  rw [hs]
  refine Eq.trans ?_ (Finset.sum_congr rfl fun k _ => congrArg (Cert.GluDxIdeal.Hand.term (x0 (ix2 p k))) (hw r k))
  clear hs
  generalize shapeCast S1024x2048 x1 shapeCasts_S1x1024x2048_S1024x2048 = w at hw ⊢
  pointwise [Cert.GluDxIdeal.Hand.term]

end Cert.GluDxRefIdeal.Hand

end
-- ==== Proof.GluDwVal.lean ====
/-
  The gradient of the gated unit's weights over the extended reals: the tokens, transposed, by the output's gradient.
  The call adds four blocks of tokens one after the other, and lays the result out in slabs of 256 columns.
-/
module

public import proofs.«01_k».proof.Proof.Gen.GluDwIdeal.Value
public import proofs.«01_k».proof.Proof.Gen.GluDwRefIdeal.Run
public import proofs.«01_k».proof.Proof.BlockSum
public import proofs.«01_k».proof.Proof.Base

@[expose] public section

noncomputable section

namespace Cert.GluDwIdeal.Hand

open Cert.GluDwIdeal Cert.GluDwIdeal.Gen Idealize.ShloMosaic Idealize.ShloMosaic.TcCoe Idealize.SL.Sem
open Idealize.ShloMosaic.Pipeline (Dat)

theorem hz3 : (![0, 0, 0] : Fin 3 → Nat) = fun _ => 0 := funext fun a => by fin_cases a <;> rfl

variable (c : Dev nD) (i : grid0.Coords) (a0 : Memref sig .tc .vmem S1024x1024 .bf16) (h0 : a0.IsWhole) (a1 : Memref sig .tc .vmem S1024x1024 .bf16) (h1 : a1.IsWhole) (a2 : Memref sig .tc .vmem S4x1024x256 .bf16) (h2 : a2.IsWhole) (a3 : Memref sig .tc .vmem S1024x1024 .f32) (h3 : a3.IsWhole)

/-- What the first point of a run leaves in the accumulator. -/
theorem sout_A
    (hc0 : cond0_0 i) (hc1 : ¬cond0_1 i) (hc2 : ¬cond0_2 i) (x0 : Vec Ideal S1024x1024 .bf16) (x1 : Vec Ideal S1024x1024 .bf16) :
    sout0_A_0 c i a0 h0 a1 h1 a2 h2 a3 h3 hc0 hc1 hc2 x0 x1 = k0_pay2 x0 x1 := by
  unfold sout0_A_0
  rw [View.read_writes_eq_canon _ _ _ (scover0_A_0 c i a0 h0 a1 h1 a2 h2 a3 h3 hc0 hc1 hc2 x0 x1)]
  unfold kernelRun0_A
  dsimp only
  rw [View.canon_unit_zero hz]
  simp only [View.readAt_eq_ld, h0.read_unread, h1.read_unread, h3.read_unread, View.ld_unit_zero (S := S1024x1024) hz]

/-- What a middle point leaves in it. -/
theorem sout_B
    (hc0 : ¬cond0_0 i) (hc1 : cond0_1 i) (hc2 : ¬cond0_2 i) (x0 : Vec Ideal S1024x1024 .bf16) (x1 : Vec Ideal S1024x1024 .bf16) (xs0 : Vec Ideal S1024x1024 .f32) :
    sout0_B_0 c i a0 h0 a1 h1 a2 h2 a3 h3 hc0 hc1 hc2 x0 x1 xs0 = k0_pay3 x0 x1 xs0 := by
  unfold sout0_B_0
  rw [View.read_writes_eq_canon _ _ _ (scover0_B_0 c i a0 h0 a1 h1 a2 h2 a3 h3 hc0 hc1 hc2 x0 x1 xs0)]
  unfold kernelRun0_B
  dsimp only
  rw [View.canon_unit_zero hz]
  simp only [View.readAt_eq_ld, h0.read_unread, h1.read_unread, h3.read_unread, View.ld_unit_zero (S := S1024x1024) hz]

variable (m : (ℓ : Loc nD τ sig) → Buf (Elt Ideal) ℓ)

theorem acc_first (c : Dev nD) (t : Fin cfg0.N) (h : t.val % 4 = 0) :
    (outsAt0 m c t.val t.isLt).2 = k0_pay2 (iblk m c 0 t) (iblk m c 1 t) := by
  rw [outsAt0_A m c t h (by omega) (by omega)]
  dsimp only
  rw [sout_A]

theorem acc_next (c : Dev nD) (t : Fin cfg0.N) (h : 1 ≤ t.val % 4 ∧ t.val % 4 ≤ 2) :
    (outsAt0 m c t.val t.isLt).2
      = k0_pay3 (iblk m c 0 t) (iblk m c 1 t) (outsAt0 m c (t.val - 1) (Nat.lt_of_le_of_lt (Nat.sub_le _ _) t.isLt)).2 := by
  rw [outsAt0_B m c t (by omega) h (by omega)]
  dsimp only
  rw [sout_B]

/-- The accumulator before the last point of run `q`, over the blocks of the three points before. -/
theorem acc_at (c : Dev nD) (q : ℕ) (h : 4 * q + 3 < cfg0.N) (n : ℕ) (hn : n < cfg0.N) (e : n = 4 * q + 2) :
    (outsAt0 m c n hn).2 = k0_pay3 (iblk m c 0 ⟨4 * q + 2, by omega⟩) (iblk m c 1 ⟨4 * q + 2, by omega⟩)
      (k0_pay3 (iblk m c 0 ⟨4 * q + 1, by omega⟩) (iblk m c 1 ⟨4 * q + 1, by omega⟩) (k0_pay2 (iblk m c 0 ⟨4 * q, by omega⟩) (iblk m c 1 ⟨4 * q, by omega⟩))) := by
  have e0 := acc_first m c ⟨4 * q, by omega⟩ (by dsimp only; omega)
  have e1 := acc_next m c ⟨4 * q + 1, by omega⟩ (by dsimp only; omega)
  have e2 := acc_next m c ⟨4 * q + 2, by omega⟩ (by dsimp only; omega)
  simp only [Nat.add_sub_cancel, Nat.add_succ_sub_one] at e0 e1 e2
  subst e
  rw [e2, e1, e0]

/-- The first slab of a finished block. -/
theorem pay5_apply (x0 x1 : Vec Ideal S1024x1024 .bf16) (xs0 : Vec Ideal S1024x1024 .f32) (p : Fin 1024) (r : Fin 256) :
    k0_pay5 x0 x1 xs0 (ix3 0 p r) = k0_pay4 x0 x1 xs0 (ix2 p ⟨256 * 0 + r.val, by omega⟩) := by
  unfold k0_pay5
  generalize k0_pay4 x0 x1 xs0 = y
  pointwise

/-- The second slab of a finished block. -/
theorem pay6_apply (x0 x1 : Vec Ideal S1024x1024 .bf16) (xs0 : Vec Ideal S1024x1024 .f32) (p : Fin 1024) (r : Fin 256) :
    k0_pay6 x0 x1 xs0 (ix3 0 p r) = k0_pay4 x0 x1 xs0 (ix2 p ⟨256 * 1 + r.val, by omega⟩) := by
  unfold k0_pay6
  generalize k0_pay4 x0 x1 xs0 = y
  pointwise

/-- The third slab of a finished block. -/
theorem pay7_apply (x0 x1 : Vec Ideal S1024x1024 .bf16) (xs0 : Vec Ideal S1024x1024 .f32) (p : Fin 1024) (r : Fin 256) :
    k0_pay7 x0 x1 xs0 (ix3 0 p r) = k0_pay4 x0 x1 xs0 (ix2 p ⟨256 * 2 + r.val, by omega⟩) := by
  unfold k0_pay7
  generalize k0_pay4 x0 x1 xs0 = y
  pointwise

/-- The fourth slab of a finished block. -/
theorem pay8_apply (x0 x1 : Vec Ideal S1024x1024 .bf16) (xs0 : Vec Ideal S1024x1024 .f32) (p : Fin 1024) (r : Fin 256) :
    k0_pay8 x0 x1 xs0 (ix3 0 p r) = k0_pay4 x0 x1 xs0 (ix2 p ⟨256 * 3 + r.val, by omega⟩) := by
  unfold k0_pay8
  generalize k0_pay4 x0 x1 xs0 = y
  pointwise

/-- What the last point of a run stores: slab `s` holds the finished block's columns from `256 * s` on. -/
theorem out_C
    (hc0 : ¬cond0_0 i) (hc1 : ¬cond0_1 i) (hc2 : cond0_2 i) (x0 : Vec Ideal S1024x1024 .bf16) (x1 : Vec Ideal S1024x1024 .bf16) (xs0 : Vec Ideal S1024x1024 .f32) (s : Fin 4) (p : Fin 1024) (r : Fin 256) :
    out0_C_2 c i a0 h0 a1 h1 a2 h2 a3 h3 hc0 hc1 hc2 x0 x1 xs0 (ix3 s p r) = k0_pay4 x0 x1 xs0 (ix2 p ⟨256 * s.val + r.val, by omega⟩) := by
  unfold out0_C_2
  rw [View.read_writes_eq_canon _ _ _ (cover0_C_2 c i a0 h0 a1 h1 a2 h2 a3 h3 hc0 hc1 hc2 x0 x1 xs0)]
  unfold kernelRun0_C
  dsimp only
  simp only [View.readAt_eq_ld, h0.read_unread, h1.read_unread, h3.read_unread, View.ld_unit_zero (S := S1024x1024) hz]
  match s with
  | ⟨0, _⟩ =>
    rw [View.canon_cons_of_not_mem, View.canon_cons_of_not_mem, View.canon_cons_of_not_mem]
    · have he : (ix3 (⟨0, by omega⟩ : Fin 4) p r : S4x1024x256.Idx)
          = (Rect.unit (s := S4x1024x256) ![0, 0, 0] ![1, 1024, 256] inb_S4x1024x256_S1x1024x256_0_0_0).emb (ix3 (0 : Fin 1) p r) := by
        funext a
        apply Fin.ext
        match a with
        | ⟨0, _⟩ => rfl
        | ⟨1, _⟩ => show p.val = 0 + 1 * p.val; omega
        | ⟨2, _⟩ => show r.val = 0 + 1 * r.val; omega
      rw [he, View.canon_cons_emb]
      exact pay5_apply x0 x1 xs0 p r
    · rw [Rect.mem_set_unit]
      intro h
      exact absurd (show 1 ≤ 0 from (h 0).1) (by decide)
    · rw [Rect.mem_set_unit]
      intro h
      exact absurd (show 2 ≤ 0 from (h 0).1) (by decide)
    · rw [Rect.mem_set_unit]
      intro h
      exact absurd (show 3 ≤ 0 from (h 0).1) (by decide)
  | ⟨1, _⟩ =>
    rw [View.canon_cons_of_not_mem, View.canon_cons_of_not_mem]
    · have he : (ix3 (⟨1, by omega⟩ : Fin 4) p r : S4x1024x256.Idx)
          = (Rect.unit (s := S4x1024x256) ![1, 0, 0] ![1, 1024, 256] inb_S4x1024x256_S1x1024x256_1_0_0).emb (ix3 (0 : Fin 1) p r) := by
        funext a
        apply Fin.ext
        match a with
        | ⟨0, _⟩ => rfl
        | ⟨1, _⟩ => show p.val = 0 + 1 * p.val; omega
        | ⟨2, _⟩ => show r.val = 0 + 1 * r.val; omega
      rw [he, View.canon_cons_emb]
      exact pay6_apply x0 x1 xs0 p r
    · rw [Rect.mem_set_unit]
      intro h
      exact absurd (show 2 ≤ 1 from (h 0).1) (by decide)
    · rw [Rect.mem_set_unit]
      intro h
      exact absurd (show 3 ≤ 1 from (h 0).1) (by decide)
  | ⟨2, _⟩ =>
    rw [View.canon_cons_of_not_mem]
    · have he : (ix3 (⟨2, by omega⟩ : Fin 4) p r : S4x1024x256.Idx)
          = (Rect.unit (s := S4x1024x256) ![2, 0, 0] ![1, 1024, 256] inb_S4x1024x256_S1x1024x256_2_0_0).emb (ix3 (0 : Fin 1) p r) := by
        funext a
        apply Fin.ext
        match a with
        | ⟨0, _⟩ => rfl
        | ⟨1, _⟩ => show p.val = 0 + 1 * p.val; omega
        | ⟨2, _⟩ => show r.val = 0 + 1 * r.val; omega
      rw [he, View.canon_cons_emb]
      exact pay7_apply x0 x1 xs0 p r
    · rw [Rect.mem_set_unit]
      intro h
      exact absurd (show 3 ≤ 2 from (h 0).1) (by decide)
  | ⟨3, _⟩ =>
    have he : (ix3 (⟨3, by omega⟩ : Fin 4) p r : S4x1024x256.Idx)
        = (Rect.unit (s := S4x1024x256) ![3, 0, 0] ![1, 1024, 256] inb_S4x1024x256_S1x1024x256_3_0_0).emb (ix3 (0 : Fin 1) p r) := by
      funext a
      apply Fin.ext
      match a with
      | ⟨0, _⟩ => rfl
      | ⟨1, _⟩ => show p.val = 0 + 1 * p.val; omega
      | ⟨2, _⟩ => show r.val = 0 + 1 * r.val; omega
    rw [he, View.canon_cons_emb]
    exact pay8_apply x0 x1 xs0 p r

/-- What the last point of run `q` stores, over the blocks of its four points. -/
theorem out_at (c : Dev nD) (q : ℕ) (h : 4 * q + 3 < cfg0.N) (s : Fin 4) (p : Fin 1024) (r : Fin 256) :
    (outsAt0 m c (4 * q + 3) h).1 (ix3 s p r) = k0_pay4 (iblk m c 0 ⟨4 * q + 3, h⟩) (iblk m c 1 ⟨4 * q + 3, h⟩) (k0_pay3 (iblk m c 0 ⟨4 * q + 2, by omega⟩) (iblk m c 1 ⟨4 * q + 2, by omega⟩)
      (k0_pay3 (iblk m c 0 ⟨4 * q + 1, by omega⟩) (iblk m c 1 ⟨4 * q + 1, by omega⟩) (k0_pay2 (iblk m c 0 ⟨4 * q, by omega⟩) (iblk m c 1 ⟨4 * q, by omega⟩)))) (ix2 p ⟨256 * s.val + r.val, by omega⟩) := by
  have e := congrFun (congrArg Prod.fst (outsAt0_C m c ⟨4 * q + 3, h⟩ (by dsimp only; omega) (by dsimp only; omega) (by dsimp only; omega))) (ix3 s p r)
  dsimp only at e
  rw [out_C, acc_at m c q h _ _ (by omega)] at e
  exact e

/-- The finished block at an index. -/
theorem pay_apply (a0 b0 a1 b1 a2 b2 a3 b3 : Vec Ideal S1024x1024 .bf16) (p r : Fin 1024) :
    k0_pay4 a3 b3 (k0_pay3 a2 b2 (k0_pay3 a1 b1 (k0_pay2 a0 b0))) (ix2 p r)
      = ∑ k : Fin 1024, a0 (ix2 k p) * b0 (ix2 k r) + ∑ k : Fin 1024, a1 (ix2 k p) * b1 (ix2 k r)
        + ∑ k : Fin 1024, a2 (ix2 k p) * b2 (ix2 k r) + ∑ k : Fin 1024, a3 (ix2 k p) * b3 (ix2 k r) := by
  pointwise [k0_pay4, k0_pay3, k0_pay2, k0_pay1]

/-- The gradient, in slabs of 256 columns: entry `(d, f)` sums the tokens' input `d` times output gradient `f`. -/
def grad (g : FVec Ideal S4096x2048 .f32) (h : FVec Ideal S4096x1024 .f32) : FVec Ideal S8x1024x256 .bf16 := fun i =>
  ∑ k : Fin 4096, h (ix2 k (i 1)) * g (ix2 k ⟨256 * (i 0).val + (i 2).val, by have h0 : (i 0).val < 8 := (i 0).isLt; have h2 : (i 2).val < 256 := (i 2).isLt; omega⟩)

/-- The tokens as the call reads it. -/
theorem V_h (c : Dev nD) (j : S4096x1024.Idx) : V m c main_v0 j = m (c.tc.loc main_arg1) j := by
  unfold_abbrev_sides
  after_results
  rfl

/-- The output's gradient as the call reads it. -/
theorem V_g (c : Dev nD) (j : S4096x2048.Idx) : V m c main_v1 j = m (c.tc.loc main_arg0) j := by
  unfold_abbrev_sides
  after_results
  rfl

/-- Which blocks grid point `t` reads and writes. -/
theorem idx0 : ∀ t : Fin cfg0.N, win0_0.index t (0 : Fin 2) = t.val % 4 ∧ win0_0.index t (1 : Fin 2) = 0 :=
  (by decide +kernel : ∀ t : Fin grid0.N, _)
theorem idx1 : ∀ t : Fin cfg0.N, win0_1.index t (0 : Fin 2) = t.val % 4 ∧ win0_1.index t (1 : Fin 2) = t.val / 4 :=
  (by decide +kernel : ∀ t : Fin grid0.N, _)
theorem idx2 : ∀ t : Fin cfg0.N, win0_2.index t (0 : Fin 3) = t.val / 4 ∧ win0_2.index t (1 : Fin 3) = 0 ∧ win0_2.index t (2 : Fin 3) = 0 :=
  (by decide +kernel : ∀ t : Fin grid0.N, _)

theorem lt_N (n : ℕ) (hn : n < cfg0.N) : n < 8 := lt_of_lt_of_eq hn (show cfg0.N = 8 from N_0)

/-- The tokens' block at grid point `n`. -/
theorem iblk0_apply (c : Dev nD) (n : ℕ) (hn : n < cfg0.N) (p : Fin 1024) (r : Fin 1024) :
    iblk m c 0 ⟨n, hn⟩ (ix2 p r) = m (c.tc.loc main_arg1)
      (ix2 ⟨1024 * (n % 4) + p.val, by have := lt_N n hn; omega⟩ ⟨1024 * (0) + r.val, by have := lt_N n hn; omega⟩) := by
  refine Eq.trans ?_ (V_h m c _)
  show V m c main_v0 _ = V m c main_v0 _
  congr 1
  obtain ⟨e0, e1⟩ := idx0 ⟨n, hn⟩
  dsimp only at e0 e1
  funext a
  apply Fin.ext
  match a with
  | ⟨0, _⟩ => show win0_0.index ⟨n, hn⟩ (0 : Fin 2) * 1024 + 1 * p.val = 1024 * (n % 4) + p.val; rw [e0]; omega
  | ⟨1, _⟩ => show win0_0.index ⟨n, hn⟩ (1 : Fin 2) * 1024 + 1 * r.val = 1024 * (0) + r.val; rw [e1]; omega

/-- The output gradient's block at grid point `n`. -/
theorem iblk1_apply (c : Dev nD) (n : ℕ) (hn : n < cfg0.N) (p : Fin 1024) (r : Fin 1024) :
    iblk m c 1 ⟨n, hn⟩ (ix2 p r) = m (c.tc.loc main_arg0)
      (ix2 ⟨1024 * (n % 4) + p.val, by have := lt_N n hn; omega⟩ ⟨1024 * (n / 4) + r.val, by have := lt_N n hn; omega⟩) := by
  refine Eq.trans ?_ (V_g m c _)
  show V m c main_v1 _ = V m c main_v1 _
  congr 1
  obtain ⟨e0, e1⟩ := idx1 ⟨n, hn⟩
  dsimp only at e0 e1
  funext a
  apply Fin.ext
  match a with
  | ⟨0, _⟩ => show win0_1.index ⟨n, hn⟩ (0 : Fin 2) * 1024 + 1 * p.val = 1024 * (n % 4) + p.val; rw [e0]; omega
  | ⟨1, _⟩ => show win0_1.index ⟨n, hn⟩ (1 : Fin 2) * 1024 + 1 * r.val = 1024 * (n / 4) + r.val; rw [e1]; omega

/-- One term of a product. -/
def term (a b : EReal) : EReal := a * b

/-- One term of a point's product is a term of the gradient's sum. -/
theorem term_eq (c : Dev nD) (n : ℕ) (hn : n < cfg0.N) (s q : ℕ) (hs : n % 4 = s) (hq : n / 4 = q) (k p : Fin 1024) (u : Fin 4) (r : Fin 256) :
    term (iblk m c 0 ⟨n, hn⟩ (ix2 k p)) (iblk m c 1 ⟨n, hn⟩ (ix2 k ⟨256 * u.val + r.val, by omega⟩))
      = term (m (c.tc.loc main_arg1) (ix2 ⟨1024 * s + k.val, by omega⟩ p))
        (m (c.tc.loc main_arg0) (ix2 ⟨1024 * s + k.val, by omega⟩ ⟨256 * (4 * q + u.val) + r.val, by have := lt_N n hn; omega⟩)) := by
  subst hs hq
  rw [iblk0_apply, iblk1_apply]
  have ep : (⟨1024 * 0 + p.val, by omega⟩ : Fin 1024) = p := Fin.ext (by show 1024 * 0 + p.val = p.val; omega)
  have er : (⟨1024 * (n / 4) + (256 * u.val + r.val), by have := lt_N n hn; omega⟩ : Fin 2048)
      = ⟨256 * (4 * (n / 4) + u.val) + r.val, by have := lt_N n hn; omega⟩ := Fin.ext (by show 1024 * (n / 4) + (256 * u.val + r.val) = 256 * (4 * (n / 4) + u.val) + r.val; omega)
  rw [ep, er]

/-- What the last point of run `q` stores is its four slabs of the gradient. -/
theorem block_value (c : Dev nD) (q : ℕ) (h : 4 * q + 3 < cfg0.N) (u : Fin 4) (p : Fin 1024) (r : Fin 256) :
    (outsAt0 m c (4 * q + 3) h).1 (ix3 u p r) = grad (m (c.tc.loc main_arg0)) (m (c.tc.loc main_arg1)) (ix3 ⟨4 * q + u.val, by have := lt_N _ h; omega⟩ p r) := by
  rw [out_at, pay_apply]
  unfold grad
  rw [Cert.Hand.sum_four]
  refine congrArg₂ (· + ·) (congrArg₂ (· + ·) (congrArg₂ (· + ·) ?_ ?_) ?_) ?_
  · exact Finset.sum_congr rfl fun k _ => term_eq m c (4 * q) (by omega) 0 q (by omega) (by omega) k p u r
  · exact Finset.sum_congr rfl fun k _ => term_eq m c (4 * q + 1) (by omega) 1 q (by omega) (by omega) k p u r
  · exact Finset.sum_congr rfl fun k _ => term_eq m c (4 * q + 2) (by omega) 2 q (by omega) (by omega) k p u r
  · exact Finset.sum_congr rfl fun k _ => term_eq m c (4 * q + 3) (by omega) 3 q (by omega) (by omega) k p u r

/-- The result's array as the claim names it. -/
abbrev result (c : Dev nD) : Buf (Elt Ideal) ((c : Thread nD τ).loc main_v2) := grad (m (c.tc.loc main_arg0)) (m (c.tc.loc main_arg1))

/-- What a point that writes back writes is its four slabs of the gradient. -/
theorem flushed_eq (c : Dev nD) (t : Fin cfg0.N) (hf : (cfg0.win 2).flush t = true) :
    (dats m 0 c).flushed 2 t = ((cfg0.win 2).blk t).view.read (Elt Ideal) (result m c) := by
  have hm : t.val % 4 = 3 := (flush0_2 t).mp hf
  obtain ⟨q, h, rfl⟩ : ∃ q, ∃ h : 4 * q + 3 < cfg0.N, t = ⟨4 * q + 3, h⟩ := ⟨t.val / 4, by have := t.isLt; omega, Fin.ext (by show t.val = 4 * (t.val / 4) + 3; omega)⟩
  rw [Value.flushed2]
  funext y
  obtain ⟨e0, e1, e2⟩ := idx2 ⟨4 * q + 3, h⟩
  dsimp only at e0 e1 e2
  have hy0 : (y 0).val < 4 := (y 0).isLt
  have hy1 : (y 1).val < 1024 := (y 1).isLt
  have hy2 : (y 2).val < 256 := (y 2).isLt
  refine Eq.trans ?_ ((block_value m c q h ⟨(y 0).val, hy0⟩ ⟨(y 1).val, hy1⟩ ⟨(y 2).val, hy2⟩).trans ?_)
  · exact congrArg ((outsAt0 m c (4 * q + 3) h).1 : Vec Ideal S4x1024x256 .bf16) (funext fun a => by match a with | ⟨0, _⟩ => rfl | ⟨1, _⟩ => rfl | ⟨2, _⟩ => rfl)
  · refine congrArg (result m c) (funext fun a => Fin.ext ?_)
    match a with
    | ⟨0, _⟩ => show 4 * q + (y 0).val = win0_2.index ⟨4 * q + 3, h⟩ (0 : Fin 3) * 4 + 1 * (y 0).val; rw [e0]; omega
    | ⟨1, _⟩ => show (y 1).val = win0_2.index ⟨4 * q + 3, h⟩ (1 : Fin 3) * 1024 + 1 * (y 1).val; rw [e1]; omega
    | ⟨2, _⟩ => show (y 2).val = win0_2.index ⟨4 * q + 3, h⟩ (2 : Fin 3) * 256 + 1 * (y 2).val; rw [e2]; omega

/-- The result array is the gradient. -/
theorem final (c : Dev nD) : (dats m 0 c).arrAt 2 cfg0.N = result m c :=
  (dats m 0 c).arrAt_eq_of_cover 2 _ (fun t hf => flushed_eq m c t hf) fun i => by
    have h0 : (i 0).val < 8 := (i 0).isLt
    have h1 : (i 1).val < 1024 := (i 1).isLt
    have h2 : (i 2).val < 256 := (i 2).isLt
    have hN : cfg0.N = 8 := N_0
    let t : Fin cfg0.N := ⟨4 * ((i 0).val / 4) + 3, by omega⟩
    obtain ⟨e0, e1, e2⟩ := idx2 t
    have tv : t.val = 4 * ((i 0).val / 4) + 3 := rfl
    refine ⟨t, (flush0_2 t).mpr (by omega), ?_⟩
    show i ∈ ((View.whole main_v2).slice (win0_2.rect t)).set
    rw [View.set_slice_whole, Rect.mem_set_unit]
    intro a
    match a with
    | ⟨0, _⟩ => show win0_2.index t (0 : Fin 3) * 4 ≤ (i 0).val ∧ (i 0).val < win0_2.index t (0 : Fin 3) * 4 + 4; omega
    | ⟨1, _⟩ => show win0_2.index t (1 : Fin 3) * 1024 ≤ (i 1).val ∧ (i 1).val < win0_2.index t (1 : Fin 3) * 1024 + 1024; omega
    | ⟨2, _⟩ => show win0_2.index t (2 : Fin 3) * 256 ≤ (i 2).val ∧ (i 2).val < win0_2.index t (2 : Fin 3) * 256 + 256; omega

end Cert.GluDwIdeal.Hand

namespace Cert.GluDwRefIdeal.Hand

open Cert.GluDwRefIdeal Cert.GluDwRefIdeal.Gen Idealize.ShloMosaic Idealize.ShloMosaic.TcCoe Idealize.SL.Sem

/-- The reference's run: the same result, the arguments kept. -/
theorem run (m : (ℓ : Loc nD τ sig) → Buf (Elt Ideal) ℓ) (g : Dev nD → PrngReg) :
    θ_run defs (onTc (τ := τ) (main (F := Ideal))) ⟨m, fun _ => 0, g⟩ fun r => ∀ c : Dev nD,
    r.2.mem (c.tc.loc main_v6) = Cert.GluDwIdeal.Hand.grad (m (c.tc.loc main_arg0)) (m (c.tc.loc main_arg1))
    ∧ r.2.mem (c.tc.loc main_arg0) = m (c.tc.loc main_arg0)
    ∧ r.2.mem (c.tc.loc main_arg1) = m (c.tc.loc main_arg1) := by
  refine (θ_run defs _ _).mono (fun _ h c => ⟨(h c).1.trans ?_, (h c).2⟩) (Value.run m g)
  generalize m (c.tc.loc main_arg0) = x0
  generalize m (c.tc.loc main_arg1) = x1
  funext i
  pointwise [Cert.GluDwIdeal.Hand.grad]
  refine Finset.sum_congr rfl fun k _ => (mul_comm _ _).trans (congrArg (Cert.GluDwIdeal.Hand.term _) (congrArg x0 (congrArg (ix2 k) (Fin.ext ?_))))
  show (i 0).val * 256 + (i 2).val = 256 * (i 0).val + (i 2).val
  omega

end Cert.GluDwRefIdeal.Hand

end
-- ==== Proof.RwInVal.lean ====
/-
  A projection of the time mix over the extended reals (receptance, key or value): the mixed tokens by the weight matrix.
-/
module

public import proofs.«01_k».proof.Proof.Gen.RwInIdeal.Value
public import proofs.«01_k».proof.Proof.Gen.RwInRefIdeal.Run
public import proofs.«01_k».proof.Proof.BlockSum
public import proofs.«01_k».proof.Proof.Base

@[expose] public section

noncomputable section

namespace Cert.RwInIdeal.Hand

open Cert.RwInIdeal Cert.RwInIdeal.Gen Idealize.ShloMosaic Idealize.ShloMosaic.TcCoe Idealize.SL.Sem
open Idealize.ShloMosaic.Pipeline (Dat)

/-- What a point stores. -/
theorem out_A (c : Dev nD) (i : grid0.Coords) (a0 : Memref sig .tc .vmem S1024x1024 .bf16) (h0 : a0.IsWhole) (a1 : Memref sig .tc .vmem S1024x1024 .bf16) (h1 : a1.IsWhole) (a2 : Memref sig .tc .vmem S1024x1024 .f32) (h2 : a2.IsWhole) (a3 : Memref sig .tc .vmem S1024x1024 .f32) (h3 : a3.IsWhole) (x0 : Vec Ideal S1024x1024 .bf16) (x1 : Vec Ideal S1024x1024 .bf16) :
    out0_A_2 c i a0 h0 a1 h1 a2 h2 a3 h3 x0 x1 = k0_pay1 x0 x1 := by
  unfold out0_A_2
  rw [View.read_writes_eq_canon _ _ _ (cover0_A_2 c i a0 h0 a1 h1 a2 h2 a3 h3 x0 x1)]
  unfold kernelRun0_A
  dsimp only
  rw [View.canon_unit_zero hz]
  simp only [View.readAt_eq_ld, h0.read_unread, h1.read_unread, View.ld_unit_zero (S := S1024x1024) hz]

/-- The stored block at an index. -/
theorem pay_apply (x0 : Vec Ideal S1024x1024 .bf16) (x1 : Vec Ideal S1024x1024 .bf16) (p r : Fin 1024) :
    k0_pay1 x0 x1 (ix2 p r) = ∑ k : Fin 1024, x0 (ix2 p k) * x1 (ix2 k r) := by
  pointwise [k0_pay1]

variable (m : (ℓ : Loc nD τ sig) → Buf (Elt Ideal) ℓ)

/-- One term of a product. -/
def term (a b : EReal) : EReal := a * b

/-- The product: row `i 0` of the tokens by column `i 1` of the weights. -/
def prod (x : FVec Ideal S4096x1024 .f32) (w : FVec Ideal S1x1024x1024 .f32) : FVec Ideal S4096x1024 .f32 :=
  fun i => ∑ k : Fin 1024, x (ix2 (i 0) k) * w (ix3 0 k (i 1))

/-- The left factor as the call reads it. -/
theorem V_x (c : Dev nD) (j : S4096x1024.Idx) : V m c main_v0 j = m (c.tc.loc main_arg0) j := by
  unfold_abbrev_sides
  after_results
  rfl

/-- The square weight matrix as the call reads it. -/
theorem V_w (c : Dev nD) (k n : Fin 1024) : V m c main_v4 (ix2 k n) = m (c.tc.loc main_arg1) (ix3 0 k n) := by
  unfold_abbrev_sides
  after_results
  pointwise
  refine congrArg (m (c, Proc.tc.devRef main_arg1)) (funext fun a => Fin.ext ?_)
  fin_cases a <;> dsimp [ix3] <;> omega

/-- Which blocks grid point `t` reads and writes. -/
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)

theorem lt_N (n : ℕ) (hn : n < cfg0.N) : n < 4 := lt_of_lt_of_eq hn (show cfg0.N = 4 from N_0)

/-- The left factor's block at grid point `n`. -/
theorem iblk0_apply (c : Dev nD) (n : ℕ) (hn : n < cfg0.N) (p : Fin 1024) (r : Fin 1024) :
    iblk m c 0 ⟨n, hn⟩ (ix2 p r) = m (c.tc.loc main_arg0)
      (ix2 ⟨1024 * (n) + p.val, by have := lt_N n hn; omega⟩ ⟨1024 * (0) + r.val, by have := lt_N n hn; omega⟩) := by
  refine Eq.trans ?_ (V_x m c _)
  show V m c main_v0 _ = V m c main_v0 _
  congr 1
  obtain ⟨e0, e1⟩ := idx0 ⟨n, hn⟩
  dsimp only at e0 e1
  funext a
  apply Fin.ext
  match a with
  | ⟨0, _⟩ => show win0_0.index ⟨n, hn⟩ (0 : Fin 2) * 1024 + 1 * p.val = 1024 * (n) + p.val; rw [e0]; omega
  | ⟨1, _⟩ => show win0_0.index ⟨n, hn⟩ (1 : Fin 2) * 1024 + 1 * r.val = 1024 * (0) + r.val; rw [e1]; omega

/-- The weights' block: the whole matrix. -/
theorem iblk1_apply (c : Dev nD) (n : ℕ) (hn : n < cfg0.N) (p r : Fin 1024) :
    iblk m c 1 ⟨n, hn⟩ (ix2 p r) = m (c.tc.loc main_arg1) (ix3 0 p r) := by
  refine Eq.trans ?_ (V_w m c p r)
  show V m c main_v4 _ = V m c main_v4 _
  congr 1
  obtain ⟨e0, e1⟩ := idx1 ⟨n, hn⟩
  funext a
  apply Fin.ext
  match a with
  | ⟨0, _⟩ => show win0_1.index ⟨n, hn⟩ (0 : Fin 2) * 1024 + 1 * p.val = p.val; rw [e0]; omega
  | ⟨1, _⟩ => show win0_1.index ⟨n, hn⟩ (1 : Fin 2) * 1024 + 1 * r.val = r.val; rw [e1]; omega

/-- What grid point `n` stores is its block of the product. -/
theorem block_value (c : Dev nD) (n : ℕ) (hn : n < cfg0.N) (p r : Fin 1024) :
    (k0_pay1 (iblk m c 0 ⟨n, hn⟩) (iblk m c 1 ⟨n, hn⟩) : Vec Ideal S1024x1024 .f32) (ix2 p r)
      = prod (m (c.tc.loc main_arg0)) (m (c.tc.loc main_arg1)) (ix2 ⟨1024 * (n) + p.val, by have := lt_N n hn; omega⟩ ⟨1024 * (0) + r.val, by have := lt_N n hn; omega⟩) := by
  rw [pay_apply]
  unfold prod
  refine Finset.sum_congr rfl fun k _ => ?_
  rw [iblk0_apply, iblk1_apply]
  have ek : (⟨1024 * 0 + k.val, by omega⟩ : Fin 1024) = k := Fin.ext (by show 1024 * 0 + k.val = k.val; omega)
  rw [ek]
  have er : (⟨1024 * 0 + r.val, by omega⟩ : Fin 1024) = r := Fin.ext (by show 1024 * 0 + r.val = r.val; omega)
  rw [er]
  rfl

/-- The result's array as the claim names it. -/
abbrev result (c : Dev nD) : Buf (Elt Ideal) ((c : Thread nD τ).loc main_v5) := prod (m (c.tc.loc main_arg0)) (m (c.tc.loc main_arg1))

/-- What a point writes back is its block of the product. -/
theorem flushed_eq (c : Dev nD) (t : Fin cfg0.N) :
    (dats m 0 c).flushed 2 t = ((cfg0.win 2).blk t).view.read (Elt Ideal) (result m c) := by
  rw [Value.flushed2_A, out_A]
  funext y
  obtain ⟨e0, e1⟩ := idx2 t
  have hy0 : (y 0).val < 1024 := (y 0).isLt
  have hy1 : (y 1).val < 1024 := (y 1).isLt
  refine Eq.trans ?_ ((block_value m c t.val t.isLt ⟨(y 0).val, hy0⟩ ⟨(y 1).val, hy1⟩).trans ?_)
  · exact congrArg (k0_pay1 (iblk m c 0 t) (iblk m c 1 t) : Vec Ideal S1024x1024 .f32) (funext fun a => by match a with | ⟨0, _⟩ => rfl | ⟨1, _⟩ => rfl)
  · refine congrArg (result m c) (funext fun a => Fin.ext ?_)
    match a with
    | ⟨0, _⟩ => show 1024 * (t.val) + (y 0).val = win0_2.index t (0 : Fin 2) * 1024 + 1 * (y 0).val; rw [e0]; omega
    | ⟨1, _⟩ => show 1024 * (0) + (y 1).val = win0_2.index t (1 : Fin 2) * 1024 + 1 * (y 1).val; rw [e1]; omega

/-- The result array is the product. -/
theorem final (c : Dev nD) : (dats m 0 c).arrAt 2 cfg0.N = result m c :=
  (dats m 0 c).arrAt_eq_of_cover 2 _ (fun t _ => flushed_eq m c t) fun i => by
    have h0 : (i 0).val < 4096 := (i 0).isLt
    have h1 : (i 1).val < 1024 := (i 1).isLt
    have hN : cfg0.N = 4 := N_0
    let t : Fin cfg0.N := ⟨(i 0).val / 1024, by omega⟩
    obtain ⟨e0, e1⟩ := idx2 t
    have tv : t.val = (i 0).val / 1024 := rfl
    refine ⟨t, flush0_2 t, ?_⟩
    show i ∈ ((View.whole main_v5).slice (win0_2.rect t)).set
    rw [View.set_slice_whole, Rect.mem_set_unit]
    intro a
    match a with
    | ⟨0, _⟩ => show win0_2.index t (0 : Fin 2) * 1024 ≤ (i 0).val ∧ (i 0).val < win0_2.index t (0 : Fin 2) * 1024 + 1024; omega
    | ⟨1, _⟩ => show win0_2.index t (1 : Fin 2) * 1024 ≤ (i 1).val ∧ (i 1).val < win0_2.index t (1 : Fin 2) * 1024 + 1024; omega

end Cert.RwInIdeal.Hand

namespace Cert.RwInRefIdeal.Hand

open Cert.RwInRefIdeal Cert.RwInRefIdeal.Gen Idealize.ShloMosaic Idealize.ShloMosaic.TcCoe Idealize.SL.Sem

/-- The reference's run: the same result, the arguments kept. -/
theorem run (m : (ℓ : Loc nD τ sig) → Buf (Elt Ideal) ℓ) (g : Dev nD → PrngReg) :
    θ_run defs (onTc (τ := τ) (main (F := Ideal))) ⟨m, fun _ => 0, g⟩ fun r => ∀ c : Dev nD,
    r.2.mem (c.tc.loc main_v1) = Cert.RwInIdeal.Hand.prod (m (c.tc.loc main_arg0)) (m (c.tc.loc main_arg1))
    ∧ r.2.mem (c.tc.loc main_arg0) = m (c.tc.loc main_arg0)
    ∧ r.2.mem (c.tc.loc main_arg1) = m (c.tc.loc main_arg1) := by
  refine (θ_run defs _ _).mono (fun _ h c => ⟨(h c).1.trans ?_, (h c).2⟩) (Value.run m g)
  generalize m (c.tc.loc main_arg0) = x0
  generalize m (c.tc.loc main_arg1) = x1
  funext i
  have hw : ∀ (k : Fin 1024) (n : Fin 1024), shapeCast S1024x1024 x1 shapeCasts_S1x1024x1024_S1024x1024 (ix2 k n) = x1 (ix3 0 k n) := by
    intro k n
    refine (shapeCast_dropUnit_apply ![1024, 1024] x1 _ (ix2 k n)).trans (congrArg x1 (funext fun a => ?_))
    match a with | ⟨0, _⟩ => rfl | ⟨1, _⟩ => rfl | ⟨2, _⟩ => rfl
  obtain ⟨p, r, rfl⟩ : ∃ (p : Fin 4096) (r : Fin 1024), i = ix2 p r := ⟨i 0, i 1, funext fun a => by match a with | ⟨0, _⟩ => rfl | ⟨1, _⟩ => rfl⟩
  have hs : Cert.RwInIdeal.Hand.prod x0 x1 (ix2 p r) = ∑ k : Fin 1024, Cert.RwInIdeal.Hand.term (x0 (ix2 p k)) (x1 (ix3 0 k r)) := rfl
  rw [hs]
  refine Eq.trans ?_ (Finset.sum_congr rfl fun k _ => congrArg (Cert.RwInIdeal.Hand.term (x0 (ix2 p k))) (hw k r))
  clear hs
  generalize shapeCast S1024x1024 x1 shapeCasts_S1x1024x1024_S1024x1024 = w at hw ⊢
  pointwise [Cert.RwInIdeal.Hand.term]

end Cert.RwInRefIdeal.Hand

end
-- ==== Proof.RwOutVal.lean ====
/-
  The time mix's output projection over the extended reals: the gated tokens by the weight matrix.
-/
module

public import proofs.«01_k».proof.Proof.Gen.RwOutIdeal.Value
public import proofs.«01_k».proof.Proof.Gen.RwOutRefIdeal.Run
public import proofs.«01_k».proof.Proof.BlockSum
public import proofs.«01_k».proof.Proof.Base

@[expose] public section

noncomputable section

namespace Cert.RwOutIdeal.Hand

open Cert.RwOutIdeal Cert.RwOutIdeal.Gen Idealize.ShloMosaic Idealize.ShloMosaic.TcCoe Idealize.SL.Sem
open Idealize.ShloMosaic.Pipeline (Dat)

/-- What a point stores. -/
theorem out_A (c : Dev nD) (i : grid0.Coords) (a0 : Memref sig .tc .vmem S1024x1024 .bf16) (h0 : a0.IsWhole) (a1 : Memref sig .tc .vmem S1024x1024 .bf16) (h1 : a1.IsWhole) (a2 : Memref sig .tc .vmem S1024x1024 .bf16) (h2 : a2.IsWhole) (a3 : Memref sig .tc .vmem S1024x1024 .f32) (h3 : a3.IsWhole) (x0 : Vec Ideal S1024x1024 .bf16) (x1 : Vec Ideal S1024x1024 .bf16) :
    out0_A_2 c i a0 h0 a1 h1 a2 h2 a3 h3 x0 x1 = k0_pay1 x0 x1 := by
  unfold out0_A_2
  rw [View.read_writes_eq_canon _ _ _ (cover0_A_2 c i a0 h0 a1 h1 a2 h2 a3 h3 x0 x1)]
  unfold kernelRun0_A
  dsimp only
  rw [View.canon_unit_zero hz]
  simp only [View.readAt_eq_ld, h0.read_unread, h1.read_unread, View.ld_unit_zero (S := S1024x1024) hz]

/-- The stored block at an index. -/
theorem pay_apply (x0 : Vec Ideal S1024x1024 .bf16) (x1 : Vec Ideal S1024x1024 .bf16) (p r : Fin 1024) :
    k0_pay1 x0 x1 (ix2 p r) = ∑ k : Fin 1024, x0 (ix2 p k) * x1 (ix2 k r) := by
  pointwise [k0_pay1]

variable (m : (ℓ : Loc nD τ sig) → Buf (Elt Ideal) ℓ)

/-- One term of a product. -/
def term (a b : EReal) : EReal := a * b

/-- The product: row `i 0` of the tokens by column `i 1` of the weights. -/
def prod (x : FVec Ideal S4096x1024 .f32) (w : FVec Ideal S1x1024x1024 .f32) : FVec Ideal S4096x1024 .bf16 :=
  fun i => ∑ k : Fin 1024, x (ix2 (i 0) k) * w (ix3 0 k (i 1))

/-- The left factor as the call reads it. -/
theorem V_x (c : Dev nD) (j : S4096x1024.Idx) : V m c main_v0 j = m (c.tc.loc main_arg0) j := by
  unfold_abbrev_sides
  after_results
  rfl

/-- The square weight matrix as the call reads it. -/
theorem V_w (c : Dev nD) (k n : Fin 1024) : V m c main_v4 (ix2 k n) = m (c.tc.loc main_arg1) (ix3 0 k n) := by
  unfold_abbrev_sides
  after_results
  pointwise
  refine congrArg (m (c, Proc.tc.devRef main_arg1)) (funext fun a => Fin.ext ?_)
  fin_cases a <;> dsimp [ix3] <;> omega

/-- Which blocks grid point `t` reads and writes. -/
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)

theorem lt_N (n : ℕ) (hn : n < cfg0.N) : n < 4 := lt_of_lt_of_eq hn (show cfg0.N = 4 from N_0)

/-- The left factor's block at grid point `n`. -/
theorem iblk0_apply (c : Dev nD) (n : ℕ) (hn : n < cfg0.N) (p : Fin 1024) (r : Fin 1024) :
    iblk m c 0 ⟨n, hn⟩ (ix2 p r) = m (c.tc.loc main_arg0)
      (ix2 ⟨1024 * (n) + p.val, by have := lt_N n hn; omega⟩ ⟨1024 * (0) + r.val, by have := lt_N n hn; omega⟩) := by
  refine Eq.trans ?_ (V_x m c _)
  show V m c main_v0 _ = V m c main_v0 _
  congr 1
  obtain ⟨e0, e1⟩ := idx0 ⟨n, hn⟩
  dsimp only at e0 e1
  funext a
  apply Fin.ext
  match a with
  | ⟨0, _⟩ => show win0_0.index ⟨n, hn⟩ (0 : Fin 2) * 1024 + 1 * p.val = 1024 * (n) + p.val; rw [e0]; omega
  | ⟨1, _⟩ => show win0_0.index ⟨n, hn⟩ (1 : Fin 2) * 1024 + 1 * r.val = 1024 * (0) + r.val; rw [e1]; omega

/-- The weights' block: the whole matrix. -/
theorem iblk1_apply (c : Dev nD) (n : ℕ) (hn : n < cfg0.N) (p r : Fin 1024) :
    iblk m c 1 ⟨n, hn⟩ (ix2 p r) = m (c.tc.loc main_arg1) (ix3 0 p r) := by
  refine Eq.trans ?_ (V_w m c p r)
  show V m c main_v4 _ = V m c main_v4 _
  congr 1
  obtain ⟨e0, e1⟩ := idx1 ⟨n, hn⟩
  funext a
  apply Fin.ext
  match a with
  | ⟨0, _⟩ => show win0_1.index ⟨n, hn⟩ (0 : Fin 2) * 1024 + 1 * p.val = p.val; rw [e0]; omega
  | ⟨1, _⟩ => show win0_1.index ⟨n, hn⟩ (1 : Fin 2) * 1024 + 1 * r.val = r.val; rw [e1]; omega

/-- What grid point `n` stores is its block of the product. -/
theorem block_value (c : Dev nD) (n : ℕ) (hn : n < cfg0.N) (p r : Fin 1024) :
    (k0_pay1 (iblk m c 0 ⟨n, hn⟩) (iblk m c 1 ⟨n, hn⟩) : Vec Ideal S1024x1024 .bf16) (ix2 p r)
      = prod (m (c.tc.loc main_arg0)) (m (c.tc.loc main_arg1)) (ix2 ⟨1024 * (n) + p.val, by have := lt_N n hn; omega⟩ ⟨1024 * (0) + r.val, by have := lt_N n hn; omega⟩) := by
  rw [pay_apply]
  unfold prod
  refine Finset.sum_congr rfl fun k _ => ?_
  rw [iblk0_apply, iblk1_apply]
  have ek : (⟨1024 * 0 + k.val, by omega⟩ : Fin 1024) = k := Fin.ext (by show 1024 * 0 + k.val = k.val; omega)
  rw [ek]
  have er : (⟨1024 * 0 + r.val, by omega⟩ : Fin 1024) = r := Fin.ext (by show 1024 * 0 + r.val = r.val; omega)
  rw [er]
  rfl

/-- The result's array as the claim names it. -/
abbrev result (c : Dev nD) : Buf (Elt Ideal) ((c : Thread nD τ).loc main_v5) := prod (m (c.tc.loc main_arg0)) (m (c.tc.loc main_arg1))

/-- What a point writes back is its block of the product. -/
theorem flushed_eq (c : Dev nD) (t : Fin cfg0.N) :
    (dats m 0 c).flushed 2 t = ((cfg0.win 2).blk t).view.read (Elt Ideal) (result m c) := by
  rw [Value.flushed2_A, out_A]
  funext y
  obtain ⟨e0, e1⟩ := idx2 t
  have hy0 : (y 0).val < 1024 := (y 0).isLt
  have hy1 : (y 1).val < 1024 := (y 1).isLt
  refine Eq.trans ?_ ((block_value m c t.val t.isLt ⟨(y 0).val, hy0⟩ ⟨(y 1).val, hy1⟩).trans ?_)
  · exact congrArg (k0_pay1 (iblk m c 0 t) (iblk m c 1 t) : Vec Ideal S1024x1024 .bf16) (funext fun a => by match a with | ⟨0, _⟩ => rfl | ⟨1, _⟩ => rfl)
  · refine congrArg (result m c) (funext fun a => Fin.ext ?_)
    match a with
    | ⟨0, _⟩ => show 1024 * (t.val) + (y 0).val = win0_2.index t (0 : Fin 2) * 1024 + 1 * (y 0).val; rw [e0]; omega
    | ⟨1, _⟩ => show 1024 * (0) + (y 1).val = win0_2.index t (1 : Fin 2) * 1024 + 1 * (y 1).val; rw [e1]; omega

/-- The result array is the product. -/
theorem final (c : Dev nD) : (dats m 0 c).arrAt 2 cfg0.N = result m c :=
  (dats m 0 c).arrAt_eq_of_cover 2 _ (fun t _ => flushed_eq m c t) fun i => by
    have h0 : (i 0).val < 4096 := (i 0).isLt
    have h1 : (i 1).val < 1024 := (i 1).isLt
    have hN : cfg0.N = 4 := N_0
    let t : Fin cfg0.N := ⟨(i 0).val / 1024, by omega⟩
    obtain ⟨e0, e1⟩ := idx2 t
    have tv : t.val = (i 0).val / 1024 := rfl
    refine ⟨t, flush0_2 t, ?_⟩
    show i ∈ ((View.whole main_v5).slice (win0_2.rect t)).set
    rw [View.set_slice_whole, Rect.mem_set_unit]
    intro a
    match a with
    | ⟨0, _⟩ => show win0_2.index t (0 : Fin 2) * 1024 ≤ (i 0).val ∧ (i 0).val < win0_2.index t (0 : Fin 2) * 1024 + 1024; omega
    | ⟨1, _⟩ => show win0_2.index t (1 : Fin 2) * 1024 ≤ (i 1).val ∧ (i 1).val < win0_2.index t (1 : Fin 2) * 1024 + 1024; omega

end Cert.RwOutIdeal.Hand

namespace Cert.RwOutRefIdeal.Hand

open Cert.RwOutRefIdeal Cert.RwOutRefIdeal.Gen Idealize.ShloMosaic Idealize.ShloMosaic.TcCoe Idealize.SL.Sem

/-- The reference's run: the same result, the arguments kept. -/
theorem run (m : (ℓ : Loc nD τ sig) → Buf (Elt Ideal) ℓ) (g : Dev nD → PrngReg) :
    θ_run defs (onTc (τ := τ) (main (F := Ideal))) ⟨m, fun _ => 0, g⟩ fun r => ∀ c : Dev nD,
    r.2.mem (c.tc.loc main_v2) = Cert.RwOutIdeal.Hand.prod (m (c.tc.loc main_arg0)) (m (c.tc.loc main_arg1))
    ∧ r.2.mem (c.tc.loc main_arg0) = m (c.tc.loc main_arg0)
    ∧ r.2.mem (c.tc.loc main_arg1) = m (c.tc.loc main_arg1) := by
  refine (θ_run defs _ _).mono (fun _ h c => ⟨(h c).1.trans ?_, (h c).2⟩) (Value.run m g)
  generalize m (c.tc.loc main_arg0) = x0
  generalize m (c.tc.loc main_arg1) = x1
  funext i
  have hw : ∀ (k : Fin 1024) (n : Fin 1024), shapeCast S1024x1024 x1 shapeCasts_S1x1024x1024_S1024x1024 (ix2 k n) = x1 (ix3 0 k n) := by
    intro k n
    refine (shapeCast_dropUnit_apply ![1024, 1024] x1 _ (ix2 k n)).trans (congrArg x1 (funext fun a => ?_))
    match a with | ⟨0, _⟩ => rfl | ⟨1, _⟩ => rfl | ⟨2, _⟩ => rfl
  obtain ⟨p, r, rfl⟩ : ∃ (p : Fin 4096) (r : Fin 1024), i = ix2 p r := ⟨i 0, i 1, funext fun a => by match a with | ⟨0, _⟩ => rfl | ⟨1, _⟩ => rfl⟩
  have hs : Cert.RwOutIdeal.Hand.prod x0 x1 (ix2 p r) = ∑ k : Fin 1024, Cert.RwOutIdeal.Hand.term (x0 (ix2 p k)) (x1 (ix3 0 k r)) := rfl
  rw [hs]
  refine Eq.trans ?_ (Finset.sum_congr rfl fun k _ => congrArg (Cert.RwOutIdeal.Hand.term (x0 (ix2 p k))) (hw k r))
  clear hs
  generalize shapeCast S1024x1024 x1 shapeCasts_S1x1024x1024_S1024x1024 = w at hw ⊢
  pointwise [Cert.RwOutIdeal.Hand.term]

end Cert.RwOutRefIdeal.Hand

end
-- ==== Proof.RwDxVal.lean ====
/-
  The gradient of a time-mix projection's input over the extended reals: the output's gradient by the transposed weights.
-/
module

public import proofs.«01_k».proof.Proof.Gen.RwDxIdeal.Value
public import proofs.«01_k».proof.Proof.Gen.RwDxRefIdeal.Run
public import proofs.«01_k».proof.Proof.BlockSum
public import proofs.«01_k».proof.Proof.Base

@[expose] public section

noncomputable section

namespace Cert.RwDxIdeal.Hand

open Cert.RwDxIdeal Cert.RwDxIdeal.Gen Idealize.ShloMosaic Idealize.ShloMosaic.TcCoe Idealize.SL.Sem
open Idealize.ShloMosaic.Pipeline (Dat)

/-- What a point stores. -/
theorem out_A (c : Dev nD) (i : grid0.Coords) (a0 : Memref sig .tc .vmem S1024x1024 .bf16) (h0 : a0.IsWhole) (a1 : Memref sig .tc .vmem S1024x1024 .bf16) (h1 : a1.IsWhole) (a2 : Memref sig .tc .vmem S1024x1024 .f32) (h2 : a2.IsWhole) (a3 : Memref sig .tc .vmem S1024x1024 .f32) (h3 : a3.IsWhole) (x0 : Vec Ideal S1024x1024 .bf16) (x1 : Vec Ideal S1024x1024 .bf16) :
    out0_A_2 c i a0 h0 a1 h1 a2 h2 a3 h3 x0 x1 = k0_pay1 x0 x1 := by
  unfold out0_A_2
  rw [View.read_writes_eq_canon _ _ _ (cover0_A_2 c i a0 h0 a1 h1 a2 h2 a3 h3 x0 x1)]
  unfold kernelRun0_A
  dsimp only
  rw [View.canon_unit_zero hz]
  simp only [View.readAt_eq_ld, h0.read_unread, h1.read_unread, View.ld_unit_zero (S := S1024x1024) hz]

/-- The stored block at an index. -/
theorem pay_apply (x0 : Vec Ideal S1024x1024 .bf16) (x1 : Vec Ideal S1024x1024 .bf16) (p r : Fin 1024) :
    k0_pay1 x0 x1 (ix2 p r) = ∑ k : Fin 1024, x0 (ix2 p k) * x1 (ix2 r k) := by
  pointwise [k0_pay1]

variable (m : (ℓ : Loc nD τ sig) → Buf (Elt Ideal) ℓ)

/-- One term of a product. -/
def term (a b : EReal) : EReal := a * b

/-- The gradient: row `i 0` of the output's gradient by row `i 1` of the weights. -/
def prod (x : FVec Ideal S4096x1024 .f32) (w : FVec Ideal S1x1024x1024 .f32) : FVec Ideal S4096x1024 .f32 :=
  fun i => ∑ k : Fin 1024, x (ix2 (i 0) k) * w (ix3 0 (i 1) k)

/-- The left factor as the call reads it. -/
theorem V_x (c : Dev nD) (j : S4096x1024.Idx) : V m c main_v0 j = m (c.tc.loc main_arg0) j := by
  unfold_abbrev_sides
  after_results
  rfl

/-- The square weight matrix as the call reads it. -/
theorem V_w (c : Dev nD) (k n : Fin 1024) : V m c main_v4 (ix2 k n) = m (c.tc.loc main_arg1) (ix3 0 k n) := by
  unfold_abbrev_sides
  after_results
  pointwise
  refine congrArg (m (c, Proc.tc.devRef main_arg1)) (funext fun a => Fin.ext ?_)
  fin_cases a <;> dsimp [ix3] <;> omega

/-- Which blocks grid point `t` reads and writes. -/
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)

theorem lt_N (n : ℕ) (hn : n < cfg0.N) : n < 4 := lt_of_lt_of_eq hn (show cfg0.N = 4 from N_0)

/-- The left factor's block at grid point `n`. -/
theorem iblk0_apply (c : Dev nD) (n : ℕ) (hn : n < cfg0.N) (p : Fin 1024) (r : Fin 1024) :
    iblk m c 0 ⟨n, hn⟩ (ix2 p r) = m (c.tc.loc main_arg0)
      (ix2 ⟨1024 * (n) + p.val, by have := lt_N n hn; omega⟩ ⟨1024 * (0) + r.val, by have := lt_N n hn; omega⟩) := by
  refine Eq.trans ?_ (V_x m c _)
  show V m c main_v0 _ = V m c main_v0 _
  congr 1
  obtain ⟨e0, e1⟩ := idx0 ⟨n, hn⟩
  dsimp only at e0 e1
  funext a
  apply Fin.ext
  match a with
  | ⟨0, _⟩ => show win0_0.index ⟨n, hn⟩ (0 : Fin 2) * 1024 + 1 * p.val = 1024 * (n) + p.val; rw [e0]; omega
  | ⟨1, _⟩ => show win0_0.index ⟨n, hn⟩ (1 : Fin 2) * 1024 + 1 * r.val = 1024 * (0) + r.val; rw [e1]; omega

/-- The weights' block: the whole matrix. -/
theorem iblk1_apply (c : Dev nD) (n : ℕ) (hn : n < cfg0.N) (p r : Fin 1024) :
    iblk m c 1 ⟨n, hn⟩ (ix2 p r) = m (c.tc.loc main_arg1) (ix3 0 p r) := by
  refine Eq.trans ?_ (V_w m c p r)
  show V m c main_v4 _ = V m c main_v4 _
  congr 1
  obtain ⟨e0, e1⟩ := idx1 ⟨n, hn⟩
  funext a
  apply Fin.ext
  match a with
  | ⟨0, _⟩ => show win0_1.index ⟨n, hn⟩ (0 : Fin 2) * 1024 + 1 * p.val = p.val; rw [e0]; omega
  | ⟨1, _⟩ => show win0_1.index ⟨n, hn⟩ (1 : Fin 2) * 1024 + 1 * r.val = r.val; rw [e1]; omega

/-- What grid point `n` stores is its block of the product. -/
theorem block_value (c : Dev nD) (n : ℕ) (hn : n < cfg0.N) (p r : Fin 1024) :
    (k0_pay1 (iblk m c 0 ⟨n, hn⟩) (iblk m c 1 ⟨n, hn⟩) : Vec Ideal S1024x1024 .f32) (ix2 p r)
      = prod (m (c.tc.loc main_arg0)) (m (c.tc.loc main_arg1)) (ix2 ⟨1024 * (n) + p.val, by have := lt_N n hn; omega⟩ ⟨1024 * (0) + r.val, by have := lt_N n hn; omega⟩) := by
  rw [pay_apply]
  unfold prod
  refine Finset.sum_congr rfl fun k _ => ?_
  rw [iblk0_apply, iblk1_apply]
  have ek : (⟨1024 * 0 + k.val, by omega⟩ : Fin 1024) = k := Fin.ext (by show 1024 * 0 + k.val = k.val; omega)
  rw [ek]
  have er : (⟨1024 * 0 + r.val, by omega⟩ : Fin 1024) = r := Fin.ext (by show 1024 * 0 + r.val = r.val; omega)
  rw [er]
  rfl

/-- The result's array as the claim names it. -/
abbrev result (c : Dev nD) : Buf (Elt Ideal) ((c : Thread nD τ).loc main_v5) := prod (m (c.tc.loc main_arg0)) (m (c.tc.loc main_arg1))

/-- What a point writes back is its block of the product. -/
theorem flushed_eq (c : Dev nD) (t : Fin cfg0.N) :
    (dats m 0 c).flushed 2 t = ((cfg0.win 2).blk t).view.read (Elt Ideal) (result m c) := by
  rw [Value.flushed2_A, out_A]
  funext y
  obtain ⟨e0, e1⟩ := idx2 t
  have hy0 : (y 0).val < 1024 := (y 0).isLt
  have hy1 : (y 1).val < 1024 := (y 1).isLt
  refine Eq.trans ?_ ((block_value m c t.val t.isLt ⟨(y 0).val, hy0⟩ ⟨(y 1).val, hy1⟩).trans ?_)
  · exact congrArg (k0_pay1 (iblk m c 0 t) (iblk m c 1 t) : Vec Ideal S1024x1024 .f32) (funext fun a => by match a with | ⟨0, _⟩ => rfl | ⟨1, _⟩ => rfl)
  · refine congrArg (result m c) (funext fun a => Fin.ext ?_)
    match a with
    | ⟨0, _⟩ => show 1024 * (t.val) + (y 0).val = win0_2.index t (0 : Fin 2) * 1024 + 1 * (y 0).val; rw [e0]; omega
    | ⟨1, _⟩ => show 1024 * (0) + (y 1).val = win0_2.index t (1 : Fin 2) * 1024 + 1 * (y 1).val; rw [e1]; omega

/-- The result array is the product. -/
theorem final (c : Dev nD) : (dats m 0 c).arrAt 2 cfg0.N = result m c :=
  (dats m 0 c).arrAt_eq_of_cover 2 _ (fun t _ => flushed_eq m c t) fun i => by
    have h0 : (i 0).val < 4096 := (i 0).isLt
    have h1 : (i 1).val < 1024 := (i 1).isLt
    have hN : cfg0.N = 4 := N_0
    let t : Fin cfg0.N := ⟨(i 0).val / 1024, by omega⟩
    obtain ⟨e0, e1⟩ := idx2 t
    have tv : t.val = (i 0).val / 1024 := rfl
    refine ⟨t, flush0_2 t, ?_⟩
    show i ∈ ((View.whole main_v5).slice (win0_2.rect t)).set
    rw [View.set_slice_whole, Rect.mem_set_unit]
    intro a
    match a with
    | ⟨0, _⟩ => show win0_2.index t (0 : Fin 2) * 1024 ≤ (i 0).val ∧ (i 0).val < win0_2.index t (0 : Fin 2) * 1024 + 1024; omega
    | ⟨1, _⟩ => show win0_2.index t (1 : Fin 2) * 1024 ≤ (i 1).val ∧ (i 1).val < win0_2.index t (1 : Fin 2) * 1024 + 1024; omega

end Cert.RwDxIdeal.Hand

namespace Cert.RwDxRefIdeal.Hand

open Cert.RwDxRefIdeal Cert.RwDxRefIdeal.Gen Idealize.ShloMosaic Idealize.ShloMosaic.TcCoe Idealize.SL.Sem

/-- The reference's run: the same result, the arguments kept. -/
theorem run (m : (ℓ : Loc nD τ sig) → Buf (Elt Ideal) ℓ) (g : Dev nD → PrngReg) :
    θ_run defs (onTc (τ := τ) (main (F := Ideal))) ⟨m, fun _ => 0, g⟩ fun r => ∀ c : Dev nD,
    r.2.mem (c.tc.loc main_v3) = Cert.RwDxIdeal.Hand.prod (m (c.tc.loc main_arg0)) (m (c.tc.loc main_arg1))
    ∧ r.2.mem (c.tc.loc main_arg0) = m (c.tc.loc main_arg0)
    ∧ r.2.mem (c.tc.loc main_arg1) = m (c.tc.loc main_arg1) := by
  refine (θ_run defs _ _).mono (fun _ h c => ⟨(h c).1.trans ?_, (h c).2⟩) (Value.run m g)
  generalize m (c.tc.loc main_arg0) = x0
  generalize m (c.tc.loc main_arg1) = x1
  funext i
  have hw : ∀ (k : Fin 1024) (n : Fin 1024), shapeCast S1024x1024 x1 shapeCasts_S1x1024x1024_S1024x1024 (ix2 k n) = x1 (ix3 0 k n) := by
    intro k n
    refine (shapeCast_dropUnit_apply ![1024, 1024] x1 _ (ix2 k n)).trans (congrArg x1 (funext fun a => ?_))
    match a with | ⟨0, _⟩ => rfl | ⟨1, _⟩ => rfl | ⟨2, _⟩ => rfl
  obtain ⟨p, r, rfl⟩ : ∃ (p : Fin 4096) (r : Fin 1024), i = ix2 p r := ⟨i 0, i 1, funext fun a => by match a with | ⟨0, _⟩ => rfl | ⟨1, _⟩ => rfl⟩
  have hs : Cert.RwDxIdeal.Hand.prod x0 x1 (ix2 p r) = ∑ k : Fin 1024, Cert.RwDxIdeal.Hand.term (x0 (ix2 p k)) (x1 (ix3 0 r k)) := rfl
  rw [hs]
  refine Eq.trans ?_ (Finset.sum_congr rfl fun k _ => congrArg (Cert.RwDxIdeal.Hand.term (x0 (ix2 p k))) (hw r k))
  clear hs
  generalize shapeCast S1024x1024 x1 shapeCasts_S1x1024x1024_S1024x1024 = w at hw ⊢
  pointwise [Cert.RwDxIdeal.Hand.term]

end Cert.RwDxRefIdeal.Hand

end
-- ==== Proof.RwDwVal.lean ====
/-
  The gradient of a time-mix projection's weights over the extended reals: the input, transposed, by the output's
  gradient. The call adds four blocks of tokens one after the other.
-/
module

public import proofs.«01_k».proof.Proof.Gen.RwDwIdeal.Value
public import proofs.«01_k».proof.Proof.Gen.RwDwRefIdeal.Run
public import proofs.«01_k».proof.Proof.BlockSum
public import proofs.«01_k».proof.Proof.Base

@[expose] public section

noncomputable section

namespace Cert.RwDwIdeal.Hand

open Cert.RwDwIdeal Cert.RwDwIdeal.Gen Idealize.ShloMosaic Idealize.ShloMosaic.TcCoe Idealize.SL.Sem
open Idealize.ShloMosaic.Pipeline (Dat)

variable (c : Dev nD) (i : grid0.Coords) (a0 : Memref sig .tc .vmem S1024x1024 .bf16) (h0 : a0.IsWhole) (a1 : Memref sig .tc .vmem S1024x1024 .bf16) (h1 : a1.IsWhole) (a2 : Memref sig .tc .vmem S1024x1024 .bf16) (h2 : a2.IsWhole) (a3 : Memref sig .tc .vmem S1024x1024 .f32) (h3 : a3.IsWhole)

/-- What the first point of a run leaves in the accumulator. -/
theorem sout_A
    (hc0 : cond0_0 i) (hc1 : ¬cond0_1 i) (hc2 : ¬cond0_2 i) (x0 : Vec Ideal S1024x1024 .bf16) (x1 : Vec Ideal S1024x1024 .bf16) :
    sout0_A_0 c i a0 h0 a1 h1 a2 h2 a3 h3 hc0 hc1 hc2 x0 x1 = k0_pay2 x0 x1 := by
  unfold sout0_A_0
  rw [View.read_writes_eq_canon _ _ _ (scover0_A_0 c i a0 h0 a1 h1 a2 h2 a3 h3 hc0 hc1 hc2 x0 x1)]
  unfold kernelRun0_A
  dsimp only
  rw [View.canon_unit_zero hz]
  simp only [View.readAt_eq_ld, h0.read_unread, h1.read_unread, h3.read_unread, View.ld_unit_zero (S := S1024x1024) hz]

/-- What a middle point leaves in it. -/
theorem sout_B
    (hc0 : ¬cond0_0 i) (hc1 : cond0_1 i) (hc2 : ¬cond0_2 i) (x0 : Vec Ideal S1024x1024 .bf16) (x1 : Vec Ideal S1024x1024 .bf16) (xs0 : Vec Ideal S1024x1024 .f32) :
    sout0_B_0 c i a0 h0 a1 h1 a2 h2 a3 h3 hc0 hc1 hc2 x0 x1 xs0 = k0_pay3 x0 x1 xs0 := by
  unfold sout0_B_0
  rw [View.read_writes_eq_canon _ _ _ (scover0_B_0 c i a0 h0 a1 h1 a2 h2 a3 h3 hc0 hc1 hc2 x0 x1 xs0)]
  unfold kernelRun0_B
  dsimp only
  rw [View.canon_unit_zero hz]
  simp only [View.readAt_eq_ld, h0.read_unread, h1.read_unread, h3.read_unread, View.ld_unit_zero (S := S1024x1024) hz]

variable (m : (ℓ : Loc nD τ sig) → Buf (Elt Ideal) ℓ)

theorem acc_first (c : Dev nD) (t : Fin cfg0.N) (h : t.val % 4 = 0) :
    (outsAt0 m c t.val t.isLt).2 = k0_pay2 (iblk m c 0 t) (iblk m c 1 t) := by
  rw [outsAt0_A m c t h (by omega) (by omega)]
  dsimp only
  rw [sout_A]

theorem acc_next (c : Dev nD) (t : Fin cfg0.N) (h : 1 ≤ t.val % 4 ∧ t.val % 4 ≤ 2) :
    (outsAt0 m c t.val t.isLt).2
      = k0_pay3 (iblk m c 0 t) (iblk m c 1 t) (outsAt0 m c (t.val - 1) (Nat.lt_of_le_of_lt (Nat.sub_le _ _) t.isLt)).2 := by
  rw [outsAt0_B m c t (by omega) h (by omega)]
  dsimp only
  rw [sout_B]

/-- The accumulator before the last point of run `q`, over the blocks of the three points before. -/
theorem acc_at (c : Dev nD) (q : ℕ) (h : 4 * q + 3 < cfg0.N) (n : ℕ) (hn : n < cfg0.N) (e : n = 4 * q + 2) :
    (outsAt0 m c n hn).2 = k0_pay3 (iblk m c 0 ⟨4 * q + 2, by omega⟩) (iblk m c 1 ⟨4 * q + 2, by omega⟩)
      (k0_pay3 (iblk m c 0 ⟨4 * q + 1, by omega⟩) (iblk m c 1 ⟨4 * q + 1, by omega⟩) (k0_pay2 (iblk m c 0 ⟨4 * q, by omega⟩) (iblk m c 1 ⟨4 * q, by omega⟩))) := by
  have e0 := acc_first m c ⟨4 * q, by omega⟩ (by dsimp only; omega)
  have e1 := acc_next m c ⟨4 * q + 1, by omega⟩ (by dsimp only; omega)
  have e2 := acc_next m c ⟨4 * q + 2, by omega⟩ (by dsimp only; omega)
  simp only [Nat.add_sub_cancel, Nat.add_succ_sub_one] at e0 e1 e2
  subst e
  rw [e2, e1, e0]

/-- What the last point of a run stores. -/
theorem out_C
    (hc0 : ¬cond0_0 i) (hc1 : ¬cond0_1 i) (hc2 : cond0_2 i) (x0 : Vec Ideal S1024x1024 .bf16) (x1 : Vec Ideal S1024x1024 .bf16) (xs0 : Vec Ideal S1024x1024 .f32) :
    out0_C_2 c i a0 h0 a1 h1 a2 h2 a3 h3 hc0 hc1 hc2 x0 x1 xs0 = k0_pay4 x0 x1 xs0 := by
  unfold out0_C_2
  rw [View.read_writes_eq_canon _ _ _ (cover0_C_2 c i a0 h0 a1 h1 a2 h2 a3 h3 hc0 hc1 hc2 x0 x1 xs0)]
  unfold kernelRun0_C
  dsimp only
  rw [View.canon_unit_zero hz]
  simp only [View.readAt_eq_ld, h0.read_unread, h1.read_unread, h3.read_unread, View.ld_unit_zero (S := S1024x1024) hz]

/-- What the last point of run `q` stores, over the blocks of its four points. -/
theorem out_at (c : Dev nD) (q : ℕ) (h : 4 * q + 3 < cfg0.N) :
    (outsAt0 m c (4 * q + 3) h).1 = k0_pay4 (iblk m c 0 ⟨4 * q + 3, h⟩) (iblk m c 1 ⟨4 * q + 3, h⟩) (k0_pay3 (iblk m c 0 ⟨4 * q + 2, by omega⟩) (iblk m c 1 ⟨4 * q + 2, by omega⟩)
      (k0_pay3 (iblk m c 0 ⟨4 * q + 1, by omega⟩) (iblk m c 1 ⟨4 * q + 1, by omega⟩) (k0_pay2 (iblk m c 0 ⟨4 * q, by omega⟩) (iblk m c 1 ⟨4 * q, by omega⟩)))) := by
  have e := congrArg Prod.fst (outsAt0_C m c ⟨4 * q + 3, h⟩ (by dsimp only; omega) (by dsimp only; omega) (by dsimp only; omega))
  rw [out_C, acc_at m c q h _ _ (by dsimp only; omega)] at e
  exact e

/-- The stored block at an index. -/
theorem pay_apply (a0 b0 a1 b1 a2 b2 a3 b3 : Vec Ideal S1024x1024 .bf16) (p r : Fin 1024) :
    k0_pay4 a3 b3 (k0_pay3 a2 b2 (k0_pay3 a1 b1 (k0_pay2 a0 b0))) (ix2 p r)
      = ∑ k : Fin 1024, a0 (ix2 k p) * b0 (ix2 k r) + ∑ k : Fin 1024, a1 (ix2 k p) * b1 (ix2 k r)
        + ∑ k : Fin 1024, a2 (ix2 k p) * b2 (ix2 k r) + ∑ k : Fin 1024, a3 (ix2 k p) * b3 (ix2 k r) := by
  pointwise [k0_pay4, k0_pay3, k0_pay2, k0_pay1]

/-- The gradient: entry `(f, d)` sums the tokens' input `f` times output gradient `d`. -/
def grad (g : FVec Ideal S4096x1024 .f32) (p : FVec Ideal S4096x1024 .f32) : FVec Ideal S1024x1024 .bf16 := fun i =>
  ∑ k : Fin 4096, p (ix2 k (i 0)) * g (ix2 k (i 1))

/-- The input as the call reads it. -/
theorem V_p (c : Dev nD) (j : S4096x1024.Idx) : V m c main_v0 j = m (c.tc.loc main_arg1) j := by
  unfold_abbrev_sides
  after_results
  rfl

/-- The output's gradient as the call reads it. -/
theorem V_g (c : Dev nD) (j : S4096x1024.Idx) : V m c main_v1 j = m (c.tc.loc main_arg0) j := by
  unfold_abbrev_sides
  after_results
  rfl

/-- Which blocks grid point `t` reads and writes. -/
theorem idx0 : ∀ t : Fin cfg0.N, win0_0.index t (0 : Fin 2) = t.val % 4 ∧ win0_0.index t (1 : Fin 2) = t.val / 4 :=
  (by decide +kernel : ∀ t : Fin grid0.N, _)
theorem idx1 : ∀ t : Fin cfg0.N, win0_1.index t (0 : Fin 2) = t.val % 4 ∧ win0_1.index t (1 : Fin 2) = 0 :=
  (by decide +kernel : ∀ t : Fin grid0.N, _)
theorem idx2 : ∀ t : Fin cfg0.N, win0_2.index t (0 : Fin 2) = t.val / 4 ∧ win0_2.index t (1 : Fin 2) = 0 :=
  (by decide +kernel : ∀ t : Fin grid0.N, _)

theorem lt_N (n : ℕ) (hn : n < cfg0.N) : n < 4 := lt_of_lt_of_eq hn (show cfg0.N = 4 from N_0)

/-- The input's block at grid point `n`. -/
theorem iblk0_apply (c : Dev nD) (n : ℕ) (hn : n < cfg0.N) (p : Fin 1024) (r : Fin 1024) :
    iblk m c 0 ⟨n, hn⟩ (ix2 p r) = m (c.tc.loc main_arg1)
      (ix2 ⟨1024 * (n % 4) + p.val, by have := lt_N n hn; omega⟩ ⟨1024 * (n / 4) + r.val, by have := lt_N n hn; omega⟩) := by
  refine Eq.trans ?_ (V_p m c _)
  show V m c main_v0 _ = V m c main_v0 _
  congr 1
  obtain ⟨e0, e1⟩ := idx0 ⟨n, hn⟩
  dsimp only at e0 e1
  funext a
  apply Fin.ext
  match a with
  | ⟨0, _⟩ => show win0_0.index ⟨n, hn⟩ (0 : Fin 2) * 1024 + 1 * p.val = 1024 * (n % 4) + p.val; rw [e0]; omega
  | ⟨1, _⟩ => show win0_0.index ⟨n, hn⟩ (1 : Fin 2) * 1024 + 1 * r.val = 1024 * (n / 4) + r.val; rw [e1]; omega

/-- The gradient's block at grid point `n`. -/
theorem iblk1_apply (c : Dev nD) (n : ℕ) (hn : n < cfg0.N) (p : Fin 1024) (r : Fin 1024) :
    iblk m c 1 ⟨n, hn⟩ (ix2 p r) = m (c.tc.loc main_arg0)
      (ix2 ⟨1024 * (n % 4) + p.val, by have := lt_N n hn; omega⟩ ⟨1024 * (0) + r.val, by have := lt_N n hn; omega⟩) := by
  refine Eq.trans ?_ (V_g m c _)
  show V m c main_v1 _ = V m c main_v1 _
  congr 1
  obtain ⟨e0, e1⟩ := idx1 ⟨n, hn⟩
  dsimp only at e0 e1
  funext a
  apply Fin.ext
  match a with
  | ⟨0, _⟩ => show win0_1.index ⟨n, hn⟩ (0 : Fin 2) * 1024 + 1 * p.val = 1024 * (n % 4) + p.val; rw [e0]; omega
  | ⟨1, _⟩ => show win0_1.index ⟨n, hn⟩ (1 : Fin 2) * 1024 + 1 * r.val = 1024 * (0) + r.val; rw [e1]; omega

/-- One term of the sum. -/
def term (a b : EReal) : EReal := a * b

/-- One term of a point's product is a term of the gradient's sum. -/
theorem term_eq (c : Dev nD) (n : ℕ) (hn : n < cfg0.N) (s q : ℕ) (hs : n % 4 = s) (hq : n / 4 = q) (k p r : Fin 1024) :
    term (iblk m c 0 ⟨n, hn⟩ (ix2 k p)) (iblk m c 1 ⟨n, hn⟩ (ix2 k r))
      = term (m (c.tc.loc main_arg1) (ix2 ⟨1024 * s + k.val, by omega⟩ ⟨1024 * q + p.val, by have := lt_N n hn; omega⟩))
        (m (c.tc.loc main_arg0) (ix2 ⟨1024 * s + k.val, by omega⟩ ⟨1024 * 0 + r.val, by omega⟩)) := by
  subst hs hq
  rw [iblk0_apply, iblk1_apply]

/-- What the last point of run `q` stores is its block of the gradient. -/
theorem block_value (c : Dev nD) (q : ℕ) (h : 4 * q + 3 < cfg0.N) (p r : Fin 1024) :
    (outsAt0 m c (4 * q + 3) h).1 (ix2 p r) = grad (m (c.tc.loc main_arg0)) (m (c.tc.loc main_arg1)) (ix2 ⟨1024 * q + p.val, by have := lt_N _ h; omega⟩ ⟨1024 * 0 + r.val, by omega⟩) := by
  rw [out_at, pay_apply]
  unfold grad
  rw [Cert.Hand.sum_four]
  refine congrArg₂ (· + ·) (congrArg₂ (· + ·) (congrArg₂ (· + ·) ?_ ?_) ?_) ?_
  · exact Finset.sum_congr rfl fun k _ => term_eq m c (4 * q) (by omega) 0 q (by omega) (by omega) k p r
  · exact Finset.sum_congr rfl fun k _ => term_eq m c (4 * q + 1) (by omega) 1 q (by omega) (by omega) k p r
  · exact Finset.sum_congr rfl fun k _ => term_eq m c (4 * q + 2) (by omega) 2 q (by omega) (by omega) k p r
  · exact Finset.sum_congr rfl fun k _ => term_eq m c (4 * q + 3) (by omega) 3 q (by omega) (by omega) k p r

/-- The result's array as the claim names it. -/
abbrev result (c : Dev nD) : Buf (Elt Ideal) ((c : Thread nD τ).loc main_v2) := grad (m (c.tc.loc main_arg0)) (m (c.tc.loc main_arg1))

/-- What a point that writes back writes is its block of the gradient. -/
theorem flushed_eq (c : Dev nD) (t : Fin cfg0.N) (hf : (cfg0.win 2).flush t = true) :
    (dats m 0 c).flushed 2 t = ((cfg0.win 2).blk t).view.read (Elt Ideal) (result m c) := by
  have hm : t.val % 4 = 3 := (flush0_2 t).mp hf
  obtain ⟨q, h, rfl⟩ : ∃ q, ∃ h : 4 * q + 3 < cfg0.N, t = ⟨4 * q + 3, h⟩ := ⟨t.val / 4, by have := t.isLt; omega, Fin.ext (by show t.val = 4 * (t.val / 4) + 3; omega)⟩
  rw [Value.flushed2]
  funext y
  obtain ⟨e0, e1⟩ := idx2 ⟨4 * q + 3, h⟩
  dsimp only at e0 e1
  have hy0 : (y 0).val < 1024 := (y 0).isLt
  have hy1 : (y 1).val < 1024 := (y 1).isLt
  refine Eq.trans ?_ ((block_value m c q h ⟨(y 0).val, hy0⟩ ⟨(y 1).val, hy1⟩).trans ?_)
  · exact congrArg ((outsAt0 m c (4 * q + 3) h).1 : Vec Ideal S1024x1024 .bf16) (funext fun a => by match a with | ⟨0, _⟩ => rfl | ⟨1, _⟩ => rfl)
  · refine congrArg (result m c) (funext fun a => Fin.ext ?_)
    match a with
    | ⟨0, _⟩ => show 1024 * q + (y 0).val = win0_2.index ⟨4 * q + 3, h⟩ (0 : Fin 2) * 1024 + 1 * (y 0).val; rw [e0]; omega
    | ⟨1, _⟩ => show 1024 * 0 + (y 1).val = win0_2.index ⟨4 * q + 3, h⟩ (1 : Fin 2) * 1024 + 1 * (y 1).val; rw [e1]; omega

/-- The result array is the gradient. -/
theorem final (c : Dev nD) : (dats m 0 c).arrAt 2 cfg0.N = result m c :=
  (dats m 0 c).arrAt_eq_of_cover 2 _ (fun t hf => flushed_eq m c t hf) fun i => by
    have h0 : (i 0).val < 1024 := (i 0).isLt
    have h1 : (i 1).val < 1024 := (i 1).isLt
    have hN : cfg0.N = 4 := N_0
    let t : Fin cfg0.N := ⟨4 * ((i 0).val / 1024) + 3, by omega⟩
    obtain ⟨e0, e1⟩ := idx2 t
    have tv : t.val = 4 * ((i 0).val / 1024) + 3 := rfl
    refine ⟨t, (flush0_2 t).mpr (by omega), ?_⟩
    show i ∈ ((View.whole main_v2).slice (win0_2.rect t)).set
    rw [View.set_slice_whole, Rect.mem_set_unit]
    intro a
    match a with
    | ⟨0, _⟩ => show win0_2.index t (0 : Fin 2) * 1024 ≤ (i 0).val ∧ (i 0).val < win0_2.index t (0 : Fin 2) * 1024 + 1024; omega
    | ⟨1, _⟩ => show win0_2.index t (1 : Fin 2) * 1024 ≤ (i 1).val ∧ (i 1).val < win0_2.index t (1 : Fin 2) * 1024 + 1024; omega

end Cert.RwDwIdeal.Hand

namespace Cert.RwDwRefIdeal.Hand

open Cert.RwDwRefIdeal Cert.RwDwRefIdeal.Gen Idealize.ShloMosaic Idealize.ShloMosaic.TcCoe Idealize.SL.Sem

/-- The reference's run: the same result, the arguments kept. -/
theorem run (m : (ℓ : Loc nD τ sig) → Buf (Elt Ideal) ℓ) (g : Dev nD → PrngReg) :
    θ_run defs (onTc (τ := τ) (main (F := Ideal))) ⟨m, fun _ => 0, g⟩ fun r => ∀ c : Dev nD,
    r.2.mem (c.tc.loc main_v4) = Cert.RwDwIdeal.Hand.grad (m (c.tc.loc main_arg0)) (m (c.tc.loc main_arg1))
    ∧ r.2.mem (c.tc.loc main_arg0) = m (c.tc.loc main_arg0)
    ∧ r.2.mem (c.tc.loc main_arg1) = m (c.tc.loc main_arg1) := by
  refine (θ_run defs _ _).mono (fun _ h c => ⟨(h c).1.trans ?_, (h c).2⟩) (Value.run m g)
  generalize m (c.tc.loc main_arg0) = x0
  generalize m (c.tc.loc main_arg1) = x1
  funext i
  pointwise [Cert.RwDwIdeal.Hand.grad]
  exact Finset.sum_congr rfl fun k _ => mul_comm _ _

end Cert.RwDwRefIdeal.Hand

end
-- ==== Proof.NormRow.lean ====
/-
  Normalising one row of 1024 numbers, and the derivative of that, over the extended reals. A row is first centred, then
  divided by the root of its mean square plus a small constant.
-/
module

public import Idealize.ShloMosaic.Lib.Pointwise

@[expose] public section

noncomputable section

namespace Cert.Hand.Norm

open Idealize.ShloMosaic

/-- The row's length, the weight of the residual stream, the small constant, minus one half, and two. -/
def width : EReal := Ideal.ofBits .f32 0x44800000#32
def scale : EReal := Ideal.ofBits .f32 0x3FB504F3#32
def eps : EReal := Ideal.ofBits .f32 0x3727C5AC#32
def mhalf : EReal := Ideal.ofBits .f32 0xBF000000#32
def two : EReal := Ideal.ofBits .f32 0x40000000#32

/-- The residual stream and a branch, added. -/
def mix (h y : Fin 1024 → EReal) : Fin 1024 → EReal := fun j => scale * h j + y j

/-- A row minus its mean. -/
def cen (x : Fin 1024 → EReal) : Fin 1024 → EReal := fun j => x j - Ideal.div (∑ k, x k) width

/-- The mean square of a centred row, plus the small constant. -/
def vr (x : Fin 1024 → EReal) : EReal := Ideal.div (∑ k, x k * x k) width + eps

/-- The centred row, divided by the root. -/
def nrm (x : Fin 1024 → EReal) : Fin 1024 → EReal := fun j => x j * Ideal.rsqrt (vr x)

/-- What `u`, the derivative in the normalised row, hands to the mean square. -/
def pull (x u : Fin 1024 → EReal) : EReal :=
  Ideal.div ((∑ k, x k * u k) * (mhalf * Ideal.div (Ideal.rsqrt (vr x)) (vr x))) width

/-- The derivative in the centred row `x`. -/
def dcen (x u : Fin 1024 → EReal) : Fin 1024 → EReal := fun j => u j * Ideal.rsqrt (vr x) + pull x u * (two * x j)

/-- The derivative in the row before it was centred: the mean's share is taken off. -/
def drow (x u : Fin 1024 → EReal) : Fin 1024 → EReal := fun j => dcen x u j + Ideal.div (∑ k, -dcen x u k) width

theorem two_eq : two = ((2 : ℝ) : EReal) := by
  simp [two, Ideal.ofBits, Ideal.ieee]
  rw [← EReal.coe_mul]
  norm_num

/-- Twice `x` times `s`, written as one product or as two added to `a`. -/
theorem twice (a x s : EReal) : a + x * s + s * x = a + s * (two * x) := by
  rw [add_assoc, mul_comm x s, two_eq, mul_left_comm]
  congr 1
  generalize s * x = z
  induction z with
  | bot => rw [EReal.coe_mul_bot_of_pos (by norm_num)]; rfl
  | top => rw [EReal.coe_mul_top_of_pos (by norm_num)]; rfl
  | coe r =>
    norm_cast
    ring

/-- A sum over 4096 positions is the sum of its eight blocks of 512. -/
theorem sum_eight {M : Type} [AddCommMonoid M] (f : Fin 4096 → M) :
    ∑ k, f k = ∑ s : Fin 8, ∑ k : Fin 512, f ⟨512 * s.val + k.val, by omega⟩ := by
  rw [← Fintype.sum_prod_type']
  refine (Equiv.sum_comp (finProdFinEquiv (m := 8) (n := 512)) f).symm.trans (Finset.sum_congr rfl fun x _ => ?_)
  exact congrArg f (Fin.ext (by show x.2.val + 512 * x.1.val = 512 * x.1.val + x.2.val; omega))

/-- What is started at zero and gains `d n` at step `n` is, after the last of eight steps, their sum. -/
theorem chain_eight {M : Type} [AddCommMonoid M] (a : ℕ → M) (d : Fin 8 → M) (h0 : a 0 = 0 + d 0)
    (h : ∀ n, (hn : n + 1 < 8) → a (n + 1) = a n + d ⟨n + 1, hn⟩) : a 7 = ∑ s, d s := by
  rw [Fin.sum_univ_eight, h 6 (by decide), h 5 (by decide), h 4 (by decide), h 3 (by decide), h 2 (by decide), h 1 (by decide),
    h 0 (by decide), h0, zero_add]
  rfl

end Cert.Hand.Norm

end
-- ==== Proof.LnBwdVal.lean ====
/-
  The gradient of a layer norm over the extended reals: in the residual stream, in the branch added to it, and in the
  norm's scale and shift. The call goes over eight blocks of 512 tokens; the last two results are summed from block to block.
-/
module

public import proofs.«01_k».proof.Proof.Gen.LnBwdIdeal.Value
public import proofs.«01_k».proof.Proof.Gen.LnBwdRefIdeal.Run
public import proofs.«01_k».proof.Proof.NormRow
public import proofs.«01_k».proof.Proof.Base

@[expose] public section

noncomputable section

namespace Cert.LnBwdIdeal.Hand

open Cert.LnBwdIdeal Cert.LnBwdIdeal.Gen Idealize.ShloMosaic Idealize.ShloMosaic.TcCoe Idealize.SL.Sem
open Idealize.ShloMosaic.Pipeline (Dat)
open Cert.Hand.Norm

section Outs

variable {c : Dev nD} {i : grid0.Coords} {a0 : Memref sig .tc .vmem S512x1024 .f32} {h0 : a0.IsWhole} {a1 : Memref sig .tc .vmem S512x1024 .bf16} {h1 : a1.IsWhole} {a2 : Memref sig .tc .vmem S1x1024 .f32} {h2 : a2.IsWhole} {a3 : Memref sig .tc .vmem S1x1024 .f32} {h3 : a3.IsWhole} {a4 : Memref sig .tc .vmem S512x1024 .f32} {h4 : a4.IsWhole} {a5 : Memref sig .tc .vmem S512x1024 .f32} {h5 : a5.IsWhole} {a6 : Memref sig .tc .vmem S512x1024 .bf16} {h6 : a6.IsWhole} {a7 : Memref sig .tc .vmem S1x1024 .f32} {h7 : a7.IsWhole} {a8 : Memref sig .tc .vmem S1x1024 .f32} {h8 : a8.IsWhole}
  {x0 : Vec Ideal S512x1024 .f32} {x1 : Vec Ideal S512x1024 .bf16} {x2 : Vec Ideal S1x1024 .f32} {x3 : Vec Ideal S1x1024 .f32} {x4 : Vec Ideal S512x1024 .f32}

open kernelRun0_A.sl in
/-- What the first point leaves in its four blocks. -/
theorem outs_A (hc0 : cond0_0 i) (hc1 : cond0_1 i) :
    out0_A_5 c i a0 h0 a1 h1 a2 h2 a3 h3 a4 h4 a5 h5 a6 h6 a7 h7 a8 h8 hc0 hc1 x0 x1 x2 x3 x4 = k0_pay13 (k0_pay2 x0 x1) (k0_pay5 x0 x1) (k0_pay10 x0 x1 x2 x4) (k0_pay11 x0 x1 x2 x4)
    ∧ out0_A_6 c i a0 h0 a1 h1 a2 h2 a3 h3 a4 h4 a5 h5 a6 h6 a7 h7 a8 h8 hc0 hc1 x0 x1 x2 x3 x4 = k0_pay14 (k0_pay2 x0 x1) (k0_pay5 x0 x1) (k0_pay10 x0 x1 x2 x4) (k0_pay11 x0 x1 x2 x4)
    ∧ out0_A_7 c i a0 h0 a1 h1 a2 h2 a3 h3 a4 h4 a5 h5 a6 h6 a7 h7 a8 h8 hc0 hc1 x0 x1 x2 x3 x4 = k0_pay16 (k0_pay8 x0 x1 x4) (k0_pay15 (F := Ideal))
    ∧ out0_A_8 c i a0 h0 a1 h1 a2 h2 a3 h3 a4 h4 a5 h5 a6 h6 a7 h7 a8 h8 hc0 hc1 x0 x1 x2 x3 x4 = k0_pay1 (k0_pay7 x4) (k0_pay17 (F := Ideal)) := by
  refine ⟨?_, ?_, ?_, ?_⟩
  on_goal 1 =>
    unfold out0_A_5
    rw [View.read_writes_eq_canon _ _ _ (cover0_A_5 c i a0 h0 a1 h1 a2 h2 a3 h3 a4 h4 a5 h5 a6 h6 a7 h7 a8 h8 hc0 hc1 x0 x1 x2 x3 x4)]
  on_goal 2 =>
    unfold out0_A_6
    rw [View.read_writes_eq_canon _ _ _ (cover0_A_6 c i a0 h0 a1 h1 a2 h2 a3 h3 a4 h4 a5 h5 a6 h6 a7 h7 a8 h8 hc0 hc1 x0 x1 x2 x3 x4)]
  on_goal 3 =>
    unfold out0_A_7
    rw [View.read_writes_eq_canon _ _ _ (cover0_A_7 c i a0 h0 a1 h1 a2 h2 a3 h3 a4 h4 a5 h5 a6 h6 a7 h7 a8 h8 hc0 hc1 x0 x1 x2 x3 x4)]
  on_goal 4 =>
    unfold out0_A_8
    rw [View.read_writes_eq_canon _ _ _ (cover0_A_8 c i a0 h0 a1 h1 a2 h2 a3 h3 a4 h4 a5 h5 a6 h6 a7 h7 a8 h8 hc0 hc1 x0 x1 x2 x3 x4)]
  all_goals unfold kernelRun0_A
  all_goals dsimp only
  all_goals rw [View.canon_cons_unit_zero hz]
  all_goals simp only [r, r_1, r_2, r_3, r_4, r_5, v69, v, H7_1, H8_1]
  all_goals simp only [View.readAt_eq_ld, h0.read_unread, h1.read_unread, h2.read_unread, h4.read_unread, h7.read_unread, h8.read_unread, View.ld_unit_zero (S := S512x1024) hz, View.ld_unit_zero (S := S1x1024) hz, View.readCov_unit_zero (S := S1x1024) _ hz]

open kernelRun0_B.sl in
/-- What a later point leaves in its four blocks. -/
theorem outs_B (hc0 : ¬cond0_0 i) (hc1 : ¬cond0_1 i) {y7 y8 : Vec Ideal S1x1024 .f32} :
    out0_B_5 c i a0 h0 a1 h1 a2 h2 a3 h3 a4 h4 a5 h5 a6 h6 a7 h7 a8 h8 hc0 hc1 x0 x1 x2 x3 x4 y7 y8 = k0_pay13 (k0_pay2 x0 x1) (k0_pay5 x0 x1) (k0_pay10 x0 x1 x2 x4) (k0_pay11 x0 x1 x2 x4)
    ∧ out0_B_6 c i a0 h0 a1 h1 a2 h2 a3 h3 a4 h4 a5 h5 a6 h6 a7 h7 a8 h8 hc0 hc1 x0 x1 x2 x3 x4 y7 y8 = k0_pay14 (k0_pay2 x0 x1) (k0_pay5 x0 x1) (k0_pay10 x0 x1 x2 x4) (k0_pay11 x0 x1 x2 x4)
    ∧ out0_B_7 c i a0 h0 a1 h1 a2 h2 a3 h3 a4 h4 a5 h5 a6 h6 a7 h7 a8 h8 hc0 hc1 x0 x1 x2 x3 x4 y7 y8 = k0_pay16 (k0_pay8 x0 x1 x4) y7
    ∧ out0_B_8 c i a0 h0 a1 h1 a2 h2 a3 h3 a4 h4 a5 h5 a6 h6 a7 h7 a8 h8 hc0 hc1 x0 x1 x2 x3 x4 y7 y8 = k0_pay1 (k0_pay7 x4) y8 := by
  refine ⟨?_, ?_, ?_, ?_⟩
  on_goal 1 =>
    unfold out0_B_5
    rw [View.read_writes_eq_canon _ _ _ (cover0_B_5 c i a0 h0 a1 h1 a2 h2 a3 h3 a4 h4 a5 h5 a6 h6 a7 h7 a8 h8 hc0 hc1 x0 x1 x2 x3 x4 y7 y8)]
  on_goal 2 =>
    unfold out0_B_6
    rw [View.read_writes_eq_canon _ _ _ (cover0_B_6 c i a0 h0 a1 h1 a2 h2 a3 h3 a4 h4 a5 h5 a6 h6 a7 h7 a8 h8 hc0 hc1 x0 x1 x2 x3 x4 y7 y8)]
  on_goal 3 =>
    unfold out0_B_7
    rw [View.read_writes_eq_canon _ _ _ (cover0_B_7 c i a0 h0 a1 h1 a2 h2 a3 h3 a4 h4 a5 h5 a6 h6 a7 h7 a8 h8 hc0 hc1 x0 x1 x2 x3 x4 y7 y8)]
  on_goal 4 =>
    unfold out0_B_8
    rw [View.read_writes_eq_canon _ _ _ (cover0_B_8 c i a0 h0 a1 h1 a2 h2 a3 h3 a4 h4 a5 h5 a6 h6 a7 h7 a8 h8 hc0 hc1 x0 x1 x2 x3 x4 y7 y8)]
  all_goals unfold kernelRun0_B
  all_goals dsimp only
  all_goals rw [View.canon_cons_unit_zero hz]
  all_goals simp only [r, r_1, r_2, r_3, r_4, r_5, r_6]
  all_goals simp only [View.readAt_eq_ld, h0.read_unread, h1.read_unread, h2.read_unread, h4.read_unread, h7.read_unread, h8.read_unread, View.ld_unit_zero (S := S512x1024) hz, View.ld_unit_zero (S := S1x1024) hz, View.readCov_unit_zero (S := S1x1024) _ hz]

end Outs

/-- The derivative's block at an index, over the rows of the blocks read. -/
theorem pay12_apply (x0 : Vec Ideal S512x1024 .f32) (x1 : Vec Ideal S512x1024 .bf16) (x2 : Vec Ideal S1x1024 .f32) (x4 : Vec Ideal S512x1024 .f32) (p : Fin 512) (q : Fin 1024) :
    k0_pay12 (k0_pay2 x0 x1) (k0_pay5 x0 x1) (k0_pay10 x0 x1 x2 x4) (k0_pay11 x0 x1 x2 x4) (ix2 p q)
      = drow (cen (mix (fun j => x0 (ix2 p j)) (fun j => x1 (ix2 p j)))) (fun j => x4 (ix2 p j) * x2 (ix2 0 j)) q := by
  pointwise [k0_pay12, k0_pay2, k0_pay3, k0_pay4, k0_pay5, k0_pay6, k0_pay9, k0_pay10, k0_pay11]
  simp only [twice, zero_sub, Fin.sum_univ_one, Finset.univ_unique, Finset.sum_singleton]
  rfl

/-- The sums' gains at an index. -/
theorem pay8_apply (x0 : Vec Ideal S512x1024 .f32) (x1 : Vec Ideal S512x1024 .bf16) (x4 : Vec Ideal S512x1024 .f32) (y : Vec Ideal S1x1024 .f32) (q : Fin 1024) :
    k0_pay16 (k0_pay8 x0 x1 x4) y (ix2 0 q)
      = y (ix2 0 q) + ∑ p : Fin 512, nrm (cen (mix (fun j => x0 (ix2 p j)) (fun j => x1 (ix2 p j)))) q * x4 (ix2 p q) := by
  pointwise [k0_pay16, k0_pay8, k0_pay2, k0_pay3, k0_pay4, k0_pay6]
  rfl

theorem pay7_apply (x4 : Vec Ideal S512x1024 .f32) (y : Vec Ideal S1x1024 .f32) (q : Fin 1024) :
    k0_pay1 (k0_pay7 x4) y (ix2 0 q) = y (ix2 0 q) + ∑ p : Fin 512, x4 (ix2 p q) := by
  pointwise [k0_pay1, k0_pay7]

/-- Row `i` of the sum of stream and branch, centred. -/
def row (h y : FVec Ideal S4096x1024 .f32) (i : Fin 4096) : Fin 1024 → EReal :=
  cen (mix (fun j => h (ix2 i j)) (fun j => y (ix2 i j)))

/-- Row `i` of the derivative in the sum. -/
def dx (h y : FVec Ideal S4096x1024 .f32) (g : FVec Ideal S1x1024 .f32) (ct : FVec Ideal S4096x1024 .f32) (i : Fin 4096) : Fin 1024 → EReal :=
  drow (row h y i) (fun j => ct (ix2 i j) * g (ix2 0 j))

/-- The four gradients: in the stream, the branch, the scale and the shift. -/
def gradH (h y : FVec Ideal S4096x1024 .f32) (g : FVec Ideal S1x1024 .f32) (ct : FVec Ideal S4096x1024 .f32) : FVec Ideal S4096x1024 .f32 := fun i =>
  scale * dx h y g ct (i 0) (i 1)
def gradY (h y : FVec Ideal S4096x1024 .f32) (g : FVec Ideal S1x1024 .f32) (ct : FVec Ideal S4096x1024 .f32) : FVec Ideal S4096x1024 .bf16 := fun i =>
  dx h y g ct (i 0) (i 1)
def gradG (h y : FVec Ideal S4096x1024 .f32) (ct : FVec Ideal S4096x1024 .f32) : FVec Ideal S1x1024 .f32 := fun i =>
  ∑ k : Fin 4096, nrm (row h y k) (i 1) * ct (ix2 k (i 1))
def gradB (ct : FVec Ideal S4096x1024 .f32) : FVec Ideal S1x1024 .f32 := fun i =>
  ∑ k : Fin 4096, ct (ix2 k (i 1))

variable (m : (ℓ : Loc nD τ sig) → Buf (Elt Ideal) ℓ)

/-- The arguments: stream, branch, scale and incoming derivative. -/
abbrev inH (c : Dev nD) : Buf (Elt Ideal) ((c : Thread nD τ).loc main_arg0) := m (c.tc.loc main_arg0)
abbrev inY (c : Dev nD) : Buf (Elt Ideal) ((c : Thread nD τ).loc main_arg1) := m (c.tc.loc main_arg1)
abbrev inG (c : Dev nD) : Buf (Elt Ideal) ((c : Thread nD τ).loc main_arg2) := m (c.tc.loc main_arg2)
abbrev inC (c : Dev nD) : Buf (Elt Ideal) ((c : Thread nD τ).loc main_arg4) := m (c.tc.loc main_arg4)

/-- The four results as the claim names them. -/
abbrev resH (c : Dev nD) : Buf (Elt Ideal) ((c : Thread nD τ).loc main_v1_0) :=
  gradH (inH m c) (inY m c) (inG m c) (inC m c)
abbrev resY (c : Dev nD) : Buf (Elt Ideal) ((c : Thread nD τ).loc main_v1_1) :=
  gradY (inH m c) (inY m c) (inG m c) (inC m c)
abbrev resG (c : Dev nD) : Buf (Elt Ideal) ((c : Thread nD τ).loc main_v1_2) :=
  gradG (inH m c) (inY m c) (inC m c)
abbrev resB (c : Dev nD) : Buf (Elt Ideal) ((c : Thread nD τ).loc main_v1_3) :=
  gradB (inC m c)

/-- The call's arguments as it reads them. -/
theorem V_h (c : Dev nD) (j : S4096x1024.Idx) : V m c main_arg0 j = inH m c j := by
  unfold_abbrev_sides
  after_results

theorem V_ct (c : Dev nD) (j : S4096x1024.Idx) : V m c main_arg4 j = inC m c j := by
  unfold_abbrev_sides
  after_results

theorem V_y (c : Dev nD) (j : S4096x1024.Idx) : V m c main_v0 j = inY m c j := by
  unfold_abbrev_sides
  after_results
  rfl

theorem V_g (c : Dev nD) (q : Fin 1024) : V m c main_arg2 (ix2 0 q) = inG m c (ix2 0 q) := by
  unfold_abbrev_sides
  after_results

theorem lt_N (n : ℕ) (hn : n < cfg0.N) : n < 8 := lt_of_lt_of_eq hn (show cfg0.N = 8 from N_0)

/-- Which blocks grid point `t` reads and writes. -/
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)

/-- Window 0's block at grid point `n`. -/
theorem iblk0_apply (c : Dev nD) (n : ℕ) (hn : n < cfg0.N) (p : Fin 512) (r : Fin 1024) :
    iblk m c 0 ⟨n, hn⟩ (ix2 p r) = inH m c (ix2 ⟨512 * n + p.val, by have := lt_N n hn; omega⟩ r) := by
  refine Eq.trans ?_ (V_h m c _)
  show V m c main_arg0 _ = V m c main_arg0 _
  congr 1
  obtain ⟨e0, e1⟩ := idx0 ⟨n, hn⟩
  dsimp only at e0 e1
  funext a
  apply Fin.ext
  match a with
  | ⟨0, _⟩ => show win0_0.index ⟨n, hn⟩ (0 : Fin 2) * 512 + 1 * p.val = 512 * n + p.val; rw [e0]; omega
  | ⟨1, _⟩ => show win0_0.index ⟨n, hn⟩ (1 : Fin 2) * 1024 + 1 * r.val = r.val; rw [e1]; omega

/-- Window 1's block at grid point `n`. -/
theorem iblk1_apply (c : Dev nD) (n : ℕ) (hn : n < cfg0.N) (p : Fin 512) (r : Fin 1024) :
    iblk m c 1 ⟨n, hn⟩ (ix2 p r) = inY m c (ix2 ⟨512 * n + p.val, by have := lt_N n hn; omega⟩ r) := by
  refine Eq.trans ?_ (V_y m c _)
  show V m c main_v0 _ = V m c main_v0 _
  congr 1
  obtain ⟨e0, e1⟩ := idx1 ⟨n, hn⟩
  dsimp only at e0 e1
  funext a
  apply Fin.ext
  match a with
  | ⟨0, _⟩ => show win0_1.index ⟨n, hn⟩ (0 : Fin 2) * 512 + 1 * p.val = 512 * n + p.val; rw [e0]; omega
  | ⟨1, _⟩ => show win0_1.index ⟨n, hn⟩ (1 : Fin 2) * 1024 + 1 * r.val = r.val; rw [e1]; omega

/-- Window 4's block at grid point `n`. -/
theorem iblk4_apply (c : Dev nD) (n : ℕ) (hn : n < cfg0.N) (p : Fin 512) (r : Fin 1024) :
    iblk m c 4 ⟨n, hn⟩ (ix2 p r) = inC m c (ix2 ⟨512 * n + p.val, by have := lt_N n hn; omega⟩ r) := by
  refine Eq.trans ?_ (V_ct m c _)
  show V m c main_arg4 _ = V m c main_arg4 _
  congr 1
  obtain ⟨e0, e1⟩ := idx4 ⟨n, hn⟩
  dsimp only at e0 e1
  funext a
  apply Fin.ext
  match a with
  | ⟨0, _⟩ => show win0_4.index ⟨n, hn⟩ (0 : Fin 2) * 512 + 1 * p.val = 512 * n + p.val; rw [e0]; omega
  | ⟨1, _⟩ => show win0_4.index ⟨n, hn⟩ (1 : Fin 2) * 1024 + 1 * r.val = r.val; rw [e1]; omega

/-- The scale, the same at every point. -/
theorem iblk2_apply (c : Dev nD) (t : Fin cfg0.N) (r : Fin 1024) :
    iblk m c 2 t (ix2 0 r) = inG m c (ix2 0 r) := by
  refine Eq.trans ?_ (V_g m c _)
  show V m c main_arg2 _ = V m c main_arg2 _
  congr 1
  obtain ⟨e0, e1⟩ := idx2 t
  funext a
  apply Fin.ext
  match a with
  | ⟨0, _⟩ => show win0_2.index t (0 : Fin 2) * 1 + 1 * 0 = 0; rw [e0]
  | ⟨1, _⟩ => show win0_2.index t (1 : Fin 2) * 1024 + 1 * r.val = r.val; rw [e1]; omega

/-- The rows of the blocks at grid point `n`. -/
theorem rows (c : Dev nD) (n : ℕ) (hn : n < cfg0.N) (p : Fin 512) :
    cen (mix (fun j => iblk m c 0 ⟨n, hn⟩ (ix2 p j)) (fun j => iblk m c 1 ⟨n, hn⟩ (ix2 p j)))
      = row (inH m c) (inY m c) ⟨512 * n + p.val, by have := lt_N n hn; omega⟩ := by
  unfold row
  exact congrArg cen (congrArg₂ mix (funext fun j => iblk0_apply m c n hn p j) (funext fun j => iblk1_apply m c n hn p j))

/-- A product, and a number, as extended reals. -/
def mulE (a b : EReal) : EReal := a * b
def idE (a : EReal) : EReal := a

theorem cts (c : Dev nD) (n : ℕ) (hn : n < cfg0.N) (p : Fin 512) :
    (fun j : Fin 1024 => mulE (iblk m c 4 ⟨n, hn⟩ (ix2 p j)) (iblk m c 2 ⟨n, hn⟩ (ix2 0 j)))
      = fun j => mulE (inC m c (ix2 ⟨512 * n + p.val, by have := lt_N n hn; omega⟩ j)) (inG m c (ix2 0 j)) :=
  funext fun j => congrArg₂ mulE (iblk4_apply m c n hn p j) (iblk2_apply m c ⟨n, hn⟩ j)

/-- What a point stores in the residual stream's block. -/
theorem out5_at (c : Dev nD) (t : Fin cfg0.N) :
    (outsAt0 m c t.val t.isLt).1 = k0_pay13 (k0_pay2 (iblk m c 0 t) (iblk m c 1 t)) (k0_pay5 (iblk m c 0 t) (iblk m c 1 t)) (k0_pay10 (iblk m c 0 t) (iblk m c 1 t) (iblk m c 2 t) (iblk m c 4 t)) (k0_pay11 (iblk m c 0 t) (iblk m c 1 t) (iblk m c 2 t) (iblk m c 4 t)) := by
  by_cases h : t.val % 8 = 0
  · rw [outsAt0_A m c t h h]
    dsimp only
    rw [(outs_A _ _).1]
  · rw [outsAt0_B m c t h h]
    dsimp only
    rw [(outs_B _ _).1]

theorem block5 (c : Dev nD) (n : ℕ) (hn : n < cfg0.N) (p : Fin 512) (r : Fin 1024) :
    (outsAt0 m c n hn).1 (ix2 p r) = resH m c (ix2 ⟨512 * n + p.val, by have := lt_N n hn; omega⟩ r) := by
  rw [out5_at m c ⟨n, hn⟩]
  refine Eq.trans (b := scale * k0_pay12 (k0_pay2 (iblk m c 0 ⟨n, hn⟩) (iblk m c 1 ⟨n, hn⟩)) (k0_pay5 (iblk m c 0 ⟨n, hn⟩) (iblk m c 1 ⟨n, hn⟩)) (k0_pay10 (iblk m c 0 ⟨n, hn⟩) (iblk m c 1 ⟨n, hn⟩) (iblk m c 2 ⟨n, hn⟩) (iblk m c 4 ⟨n, hn⟩)) (k0_pay11 (iblk m c 0 ⟨n, hn⟩) (iblk m c 1 ⟨n, hn⟩) (iblk m c 2 ⟨n, hn⟩) (iblk m c 4 ⟨n, hn⟩)) (ix2 p r)) rfl ?_
  rw [pay12_apply, rows]
  exact congrArg (fun u => scale * drow (row (inH m c) (inY m c) ⟨512 * n + p.val, by have := lt_N n hn; omega⟩) u r) (cts m c n hn p)

/-- What a point writes back is its block of the gradient. -/
theorem flushed5_eq (c : Dev nD) (t : Fin cfg0.N) :
    (dats m 0 c).flushed 5 t = ((cfg0.win 5).blk t).view.read (Elt Ideal) (resH m c) := by
  rw [Value.flushed5]
  funext y
  obtain ⟨e0, e1⟩ := idx5 t
  have hy0 : (y 0).val < 512 := (y 0).isLt
  have hy1 : (y 1).val < 1024 := (y 1).isLt
  refine Eq.trans ?_ ((block5 m c t.val t.isLt ⟨(y 0).val, hy0⟩ ⟨(y 1).val, hy1⟩).trans ?_)
  · exact congrArg ((outsAt0 m c t.val t.isLt).1 : Vec Ideal S512x1024 .f32) (funext fun a => by match a with | ⟨0, _⟩ => rfl | ⟨1, _⟩ => rfl)
  · refine congrArg (resH m c) (funext fun a => Fin.ext ?_)
    match a with
    | ⟨0, _⟩ => show 512 * t.val + (y 0).val = win0_5.index t (0 : Fin 2) * 512 + 1 * (y 0).val; rw [e0]; omega
    | ⟨1, _⟩ => show (y 1).val = win0_5.index t (1 : Fin 2) * 1024 + 1 * (y 1).val; rw [e1]; omega

/-- The result array is the gradient. -/
theorem final5 (c : Dev nD) : (dats m 0 c).arrAt 5 cfg0.N = resH m c :=
  (dats m 0 c).arrAt_eq_of_cover 5 _ (fun t _ => flushed5_eq m c t) fun i => by
    have h0 : (i 0).val < 4096 := (i 0).isLt
    have h1 : (i 1).val < 1024 := (i 1).isLt
    have hN : cfg0.N = 8 := N_0
    let t : Fin cfg0.N := ⟨(i 0).val / 512, by omega⟩
    obtain ⟨e0, e1⟩ := idx5 t
    have tv : t.val = (i 0).val / 512 := rfl
    refine ⟨t, flush0_5 t, ?_⟩
    show i ∈ ((View.whole main_v1_0).slice (win0_5.rect t)).set
    rw [View.set_slice_whole, Rect.mem_set_unit]
    intro a
    match a with
    | ⟨0, _⟩ => show win0_5.index t (0 : Fin 2) * 512 ≤ (i 0).val ∧ (i 0).val < win0_5.index t (0 : Fin 2) * 512 + 512; omega
    | ⟨1, _⟩ => show win0_5.index t (1 : Fin 2) * 1024 ≤ (i 1).val ∧ (i 1).val < win0_5.index t (1 : Fin 2) * 1024 + 1024; omega

/-- What a point stores in the branch's block. -/
theorem out6_at (c : Dev nD) (t : Fin cfg0.N) :
    (outsAt0 m c t.val t.isLt).2.1 = k0_pay14 (k0_pay2 (iblk m c 0 t) (iblk m c 1 t)) (k0_pay5 (iblk m c 0 t) (iblk m c 1 t)) (k0_pay10 (iblk m c 0 t) (iblk m c 1 t) (iblk m c 2 t) (iblk m c 4 t)) (k0_pay11 (iblk m c 0 t) (iblk m c 1 t) (iblk m c 2 t) (iblk m c 4 t)) := by
  by_cases h : t.val % 8 = 0
  · rw [outsAt0_A m c t h h]
    dsimp only
    rw [(outs_A _ _).2.1]
  · rw [outsAt0_B m c t h h]
    dsimp only
    rw [(outs_B _ _).2.1]

theorem block6 (c : Dev nD) (n : ℕ) (hn : n < cfg0.N) (p : Fin 512) (r : Fin 1024) :
    (outsAt0 m c n hn).2.1 (ix2 p r) = resY m c (ix2 ⟨512 * n + p.val, by have := lt_N n hn; omega⟩ r) := by
  rw [out6_at m c ⟨n, hn⟩]
  refine Eq.trans (b := k0_pay12 (k0_pay2 (iblk m c 0 ⟨n, hn⟩) (iblk m c 1 ⟨n, hn⟩)) (k0_pay5 (iblk m c 0 ⟨n, hn⟩) (iblk m c 1 ⟨n, hn⟩)) (k0_pay10 (iblk m c 0 ⟨n, hn⟩) (iblk m c 1 ⟨n, hn⟩) (iblk m c 2 ⟨n, hn⟩) (iblk m c 4 ⟨n, hn⟩)) (k0_pay11 (iblk m c 0 ⟨n, hn⟩) (iblk m c 1 ⟨n, hn⟩) (iblk m c 2 ⟨n, hn⟩) (iblk m c 4 ⟨n, hn⟩)) (ix2 p r)) rfl ?_
  rw [pay12_apply, rows]
  exact congrArg (fun u => drow (row (inH m c) (inY m c) ⟨512 * n + p.val, by have := lt_N n hn; omega⟩) u r) (cts m c n hn p)

/-- What a point writes back is its block of the gradient. -/
theorem flushed6_eq (c : Dev nD) (t : Fin cfg0.N) :
    (dats m 0 c).flushed 6 t = ((cfg0.win 6).blk t).view.read (Elt Ideal) (resY m c) := by
  rw [Value.flushed6]
  funext y
  obtain ⟨e0, e1⟩ := idx6 t
  have hy0 : (y 0).val < 512 := (y 0).isLt
  have hy1 : (y 1).val < 1024 := (y 1).isLt
  refine Eq.trans ?_ ((block6 m c t.val t.isLt ⟨(y 0).val, hy0⟩ ⟨(y 1).val, hy1⟩).trans ?_)
  · exact congrArg ((outsAt0 m c t.val t.isLt).2.1 : Vec Ideal S512x1024 .bf16) (funext fun a => by match a with | ⟨0, _⟩ => rfl | ⟨1, _⟩ => rfl)
  · refine congrArg (resY m c) (funext fun a => Fin.ext ?_)
    match a with
    | ⟨0, _⟩ => show 512 * t.val + (y 0).val = win0_6.index t (0 : Fin 2) * 512 + 1 * (y 0).val; rw [e0]; omega
    | ⟨1, _⟩ => show (y 1).val = win0_6.index t (1 : Fin 2) * 1024 + 1 * (y 1).val; rw [e1]; omega

/-- The result array is the gradient. -/
theorem final6 (c : Dev nD) : (dats m 0 c).arrAt 6 cfg0.N = resY m c :=
  (dats m 0 c).arrAt_eq_of_cover 6 _ (fun t _ => flushed6_eq m c t) fun i => by
    have h0 : (i 0).val < 4096 := (i 0).isLt
    have h1 : (i 1).val < 1024 := (i 1).isLt
    have hN : cfg0.N = 8 := N_0
    let t : Fin cfg0.N := ⟨(i 0).val / 512, by omega⟩
    obtain ⟨e0, e1⟩ := idx6 t
    have tv : t.val = (i 0).val / 512 := rfl
    refine ⟨t, flush0_6 t, ?_⟩
    show i ∈ ((View.whole main_v1_1).slice (win0_6.rect t)).set
    rw [View.set_slice_whole, Rect.mem_set_unit]
    intro a
    match a with
    | ⟨0, _⟩ => show win0_6.index t (0 : Fin 2) * 512 ≤ (i 0).val ∧ (i 0).val < win0_6.index t (0 : Fin 2) * 512 + 512; omega
    | ⟨1, _⟩ => show win0_6.index t (1 : Fin 2) * 1024 ≤ (i 1).val ∧ (i 1).val < win0_6.index t (1 : Fin 2) * 1024 + 1024; omega

/-- What grid point `n` adds to the scale's sum. -/
def gain7 (c : Dev nD) (q : Fin 1024) (n : Fin 8) : EReal :=
  ∑ p : Fin 512, mulE (nrm (row (inH m c) (inY m c) ⟨512 * n.val + p.val, by omega⟩) q) (inC m c (ix2 ⟨512 * n.val + p.val, by omega⟩ q))

theorem gain7_eq (c : Dev nD) (n : ℕ) (hn : n < cfg0.N) (q : Fin 1024) :
    ∑ p : Fin 512, mulE (nrm (cen (mix (fun j => iblk m c 0 ⟨n, hn⟩ (ix2 p j)) (fun j => iblk m c 1 ⟨n, hn⟩ (ix2 p j)))) q) (iblk m c 4 ⟨n, hn⟩ (ix2 p q))
      = gain7 m c q ⟨n, lt_N n hn⟩ := by
  refine Finset.sum_congr rfl fun p _ => ?_
  exact congrArg₂ mulE (congrFun (congrArg nrm (rows m c n hn p)) q) (iblk4_apply m c n hn p q)

theorem acc7_first (c : Dev nD) (h : 0 < cfg0.N) (q : Fin 1024) :
    (outsAt0 m c 0 h).2.2.1 (ix2 0 q) = (0 + gain7 m c q 0 : EReal) := by
  have e := congrArg (fun o => o.2.2.1) (outsAt0_A m c ⟨0, h⟩ rfl rfl)
  dsimp only at e
  rw [e, (outs_A _ _).2.2.1, pay8_apply]
  refine (congrArg₂ (fun a b : EReal => a + b) ?_ (gain7_eq m c 0 h q) :)
  pointwise [k0_pay15]

theorem acc7_next (c : Dev nD) (n : ℕ) (h : n + 1 < cfg0.N) (q : Fin 1024) :
    (outsAt0 m c (n + 1) h).2.2.1 (ix2 0 q) = ((outsAt0 m c n (by omega)).2.2.1 (ix2 0 q) + gain7 m c q ⟨n + 1, lt_N _ h⟩ : EReal) := by
  have hn := lt_N _ h
  have e := congrArg (fun o => o.2.2.1) (outsAt0_B m c ⟨n + 1, h⟩ (by dsimp only; omega) (by dsimp only; omega))
  dsimp only at e
  rw [e, (outs_B _ _).2.2.1, pay8_apply]
  exact (congrArg₂ (fun a b : EReal => a + b) rfl (gain7_eq m c (n + 1) h q) :)

/-- After the last point it is the gradient. -/
theorem acc7_last (c : Dev nD) (n : ℕ) (h : n < cfg0.N) (hs : n = 7) (q : Fin 1024) :
    (outsAt0 m c n h).2.2.1 (ix2 0 q) = resG m c (ix2 0 q) := by
  subst hs
  have hN : cfg0.N = 8 := N_0
  have e := chain_eight (fun n => if h : n < cfg0.N then ((outsAt0 m c n h).2.2.1 (ix2 0 q) : EReal) else 0) (gain7 m c q)
    (by rw [dif_pos (by omega)]; exact acc7_first m c _ q)
    (fun n hn => by rw [dif_pos (by omega), dif_pos (by omega)]; exact acc7_next m c n _ q)
  rw [dif_pos h] at e
  refine e.trans ?_
  exact (sum_eight (fun k : Fin 4096 => mulE (nrm (row (inH m c) (inY m c) k) q) (inC m c (ix2 k q)))).symm

/-- What the last point writes back is the gradient. -/
theorem flushed7_eq (c : Dev nD) (t : Fin cfg0.N) (hf : (cfg0.win 7).flush t = true) :
    (dats m 0 c).flushed 7 t = ((cfg0.win 7).blk t).view.read (Elt Ideal) (resG m c) := by
  have hm : t.val % 8 = 7 := (flush0_7 t).mp hf
  have ht := lt_N _ t.isLt
  rw [Value.flushed7]
  funext y
  obtain ⟨e0, e1⟩ := idx7 t
  have hy0 : (y 0).val < 1 := (y 0).isLt
  have hy1 : (y 1).val < 1024 := (y 1).isLt
  refine Eq.trans ?_ ((acc7_last m c t.val t.isLt (by omega) ⟨(y 1).val, hy1⟩).trans ?_)
  · exact congrArg ((outsAt0 m c t.val t.isLt).2.2.1 : Vec Ideal S1x1024 .f32) (funext fun a => Fin.ext (by match a with | ⟨0, _⟩ => show (y 0).val = 0; omega | ⟨1, _⟩ => rfl))
  · refine congrArg (resG m c) (funext fun a => Fin.ext ?_)
    match a with
    | ⟨0, _⟩ => show 0 = win0_7.index t (0 : Fin 2) * 1 + 1 * (y 0).val; rw [e0]; omega
    | ⟨1, _⟩ => show (y 1).val = win0_7.index t (1 : Fin 2) * 1024 + 1 * (y 1).val; rw [e1]; omega

/-- The result array is the gradient. -/
theorem final7 (c : Dev nD) : (dats m 0 c).arrAt 7 cfg0.N = resG m c :=
  (dats m 0 c).arrAt_eq_of_cover 7 _ (fun t hf => flushed7_eq m c t hf) fun i => by
    have h0 : (i 0).val < 1 := (i 0).isLt
    have h1 : (i 1).val < 1024 := (i 1).isLt
    have hN : cfg0.N = 8 := N_0
    let t : Fin cfg0.N := ⟨7, by omega⟩
    obtain ⟨e0, e1⟩ := idx7 t
    have tv : t.val = 7 := rfl
    refine ⟨t, (flush0_7 t).mpr (by omega), ?_⟩
    show i ∈ ((View.whole main_v1_2).slice (win0_7.rect t)).set
    rw [View.set_slice_whole, Rect.mem_set_unit]
    intro a
    match a with
    | ⟨0, _⟩ => show win0_7.index t (0 : Fin 2) * 1 ≤ (i 0).val ∧ (i 0).val < win0_7.index t (0 : Fin 2) * 1 + 1; omega
    | ⟨1, _⟩ => show win0_7.index t (1 : Fin 2) * 1024 ≤ (i 1).val ∧ (i 1).val < win0_7.index t (1 : Fin 2) * 1024 + 1024; omega

/-- What grid point `n` adds to the shift's sum. -/
def gain8 (c : Dev nD) (q : Fin 1024) (n : Fin 8) : EReal :=
  ∑ p : Fin 512, idE (inC m c (ix2 ⟨512 * n.val + p.val, by omega⟩ q))

theorem gain8_eq (c : Dev nD) (n : ℕ) (hn : n < cfg0.N) (q : Fin 1024) :
    ∑ p : Fin 512, idE (iblk m c 4 ⟨n, hn⟩ (ix2 p q))
      = gain8 m c q ⟨n, lt_N n hn⟩ := by
  refine Finset.sum_congr rfl fun p _ => ?_
  exact congrArg idE (iblk4_apply m c n hn p q)

theorem acc8_first (c : Dev nD) (h : 0 < cfg0.N) (q : Fin 1024) :
    (outsAt0 m c 0 h).2.2.2 (ix2 0 q) = (0 + gain8 m c q 0 : EReal) := by
  have e := congrArg (fun o => o.2.2.2) (outsAt0_A m c ⟨0, h⟩ rfl rfl)
  dsimp only at e
  rw [e, (outs_A _ _).2.2.2, pay7_apply]
  refine (congrArg₂ (fun a b : EReal => a + b) ?_ (gain8_eq m c 0 h q) :)
  pointwise [k0_pay17]

theorem acc8_next (c : Dev nD) (n : ℕ) (h : n + 1 < cfg0.N) (q : Fin 1024) :
    (outsAt0 m c (n + 1) h).2.2.2 (ix2 0 q) = ((outsAt0 m c n (by omega)).2.2.2 (ix2 0 q) + gain8 m c q ⟨n + 1, lt_N _ h⟩ : EReal) := by
  have hn := lt_N _ h
  have e := congrArg (fun o => o.2.2.2) (outsAt0_B m c ⟨n + 1, h⟩ (by dsimp only; omega) (by dsimp only; omega))
  dsimp only at e
  rw [e, (outs_B _ _).2.2.2, pay7_apply]
  exact (congrArg₂ (fun a b : EReal => a + b) rfl (gain8_eq m c (n + 1) h q) :)

/-- After the last point it is the gradient. -/
theorem acc8_last (c : Dev nD) (n : ℕ) (h : n < cfg0.N) (hs : n = 7) (q : Fin 1024) :
    (outsAt0 m c n h).2.2.2 (ix2 0 q) = resB m c (ix2 0 q) := by
  subst hs
  have hN : cfg0.N = 8 := N_0
  have e := chain_eight (fun n => if h : n < cfg0.N then ((outsAt0 m c n h).2.2.2 (ix2 0 q) : EReal) else 0) (gain8 m c q)
    (by rw [dif_pos (by omega)]; exact acc8_first m c _ q)
    (fun n hn => by rw [dif_pos (by omega), dif_pos (by omega)]; exact acc8_next m c n _ q)
  rw [dif_pos h] at e
  refine e.trans ?_
  exact (sum_eight (fun k : Fin 4096 => idE (inC m c (ix2 k q)))).symm

/-- What the last point writes back is the gradient. -/
theorem flushed8_eq (c : Dev nD) (t : Fin cfg0.N) (hf : (cfg0.win 8).flush t = true) :
    (dats m 0 c).flushed 8 t = ((cfg0.win 8).blk t).view.read (Elt Ideal) (resB m c) := by
  have hm : t.val % 8 = 7 := (flush0_8 t).mp hf
  have ht := lt_N _ t.isLt
  rw [Value.flushed8]
  funext y
  obtain ⟨e0, e1⟩ := idx8 t
  have hy0 : (y 0).val < 1 := (y 0).isLt
  have hy1 : (y 1).val < 1024 := (y 1).isLt
  refine Eq.trans ?_ ((acc8_last m c t.val t.isLt (by omega) ⟨(y 1).val, hy1⟩).trans ?_)
  · exact congrArg ((outsAt0 m c t.val t.isLt).2.2.2 : Vec Ideal S1x1024 .f32) (funext fun a => Fin.ext (by match a with | ⟨0, _⟩ => show (y 0).val = 0; omega | ⟨1, _⟩ => rfl))
  · refine congrArg (resB m c) (funext fun a => Fin.ext ?_)
    match a with
    | ⟨0, _⟩ => show 0 = win0_8.index t (0 : Fin 2) * 1 + 1 * (y 0).val; rw [e0]; omega
    | ⟨1, _⟩ => show (y 1).val = win0_8.index t (1 : Fin 2) * 1024 + 1 * (y 1).val; rw [e1]; omega

/-- The result array is the gradient. -/
theorem final8 (c : Dev nD) : (dats m 0 c).arrAt 8 cfg0.N = resB m c :=
  (dats m 0 c).arrAt_eq_of_cover 8 _ (fun t hf => flushed8_eq m c t hf) fun i => by
    have h0 : (i 0).val < 1 := (i 0).isLt
    have h1 : (i 1).val < 1024 := (i 1).isLt
    have hN : cfg0.N = 8 := N_0
    let t : Fin cfg0.N := ⟨7, by omega⟩
    obtain ⟨e0, e1⟩ := idx8 t
    have tv : t.val = 7 := rfl
    refine ⟨t, (flush0_8 t).mpr (by omega), ?_⟩
    show i ∈ ((View.whole main_v1_3).slice (win0_8.rect t)).set
    rw [View.set_slice_whole, Rect.mem_set_unit]
    intro a
    match a with
    | ⟨0, _⟩ => show win0_8.index t (0 : Fin 2) * 1 ≤ (i 0).val ∧ (i 0).val < win0_8.index t (0 : Fin 2) * 1 + 1; omega
    | ⟨1, _⟩ => show win0_8.index t (1 : Fin 2) * 1024 ≤ (i 1).val ∧ (i 1).val < win0_8.index t (1 : Fin 2) * 1024 + 1024; omega

/-- The kernel's run: the results, the arguments kept. -/
theorem run (g : Dev nD → PrngReg) : θ_run defs (onTc (τ := τ) (main (F := Ideal))) ⟨m, fun _ => 0, g⟩ fun r => ∀ c : Dev nD,
    r.2.mem (c.tc.loc main_v1_0) = resH m c
    ∧ r.2.mem (c.tc.loc main_v1_1) = resY m c
    ∧ r.2.mem (c.tc.loc main_v1_2) = resG m c
    ∧ r.2.mem (c.tc.loc main_v1_3) = resB m c
    ∧ r.2.mem (c.tc.loc main_arg0) = m (c.tc.loc main_arg0)
    ∧ r.2.mem (c.tc.loc main_arg1) = m (c.tc.loc main_arg1)
    ∧ r.2.mem (c.tc.loc main_arg2) = m (c.tc.loc main_arg2)
    ∧ r.2.mem (c.tc.loc main_arg3) = m (c.tc.loc main_arg3)
    ∧ r.2.mem (c.tc.loc main_arg4) = m (c.tc.loc main_arg4) :=
  (θ_run defs _ _).mono (fun _ h c => ⟨(h c).1.trans (final5 m c), (h c).2.1.trans (final6 m c), (h c).2.2.1.trans (final7 m c),
    (h c).2.2.2.1.trans (final8 m c), (h c).2.2.2.2⟩) (Value.run_blocks m g)

end Cert.LnBwdIdeal.Hand

namespace Cert.LnBwdRefIdeal.Hand

open Cert.LnBwdRefIdeal Cert.LnBwdRefIdeal.Gen Idealize.ShloMosaic Idealize.ShloMosaic.TcCoe Idealize.SL.Sem
open Cert.Hand.Norm
open Cert.LnBwdIdeal.Hand (gradH gradY gradG gradB)

/-- The reference's run: the same results, the arguments kept. -/
theorem run (m : (ℓ : Loc nD τ sig) → Buf (Elt Ideal) ℓ) (g : Dev nD → PrngReg) :
    θ_run defs (onTc (τ := τ) (main (F := Ideal))) ⟨m, fun _ => 0, g⟩ fun r => ∀ c : Dev nD,
    r.2.mem (c.tc.loc main_v63) = gradH (m (c.tc.loc main_arg0)) (m (c.tc.loc main_arg1)) (m (c.tc.loc main_arg2)) (m (c.tc.loc main_arg4))
    ∧ r.2.mem (c.tc.loc main_v64) = gradY (m (c.tc.loc main_arg0)) (m (c.tc.loc main_arg1)) (m (c.tc.loc main_arg2)) (m (c.tc.loc main_arg4))
    ∧ r.2.mem (c.tc.loc main_v65) = gradG (m (c.tc.loc main_arg0)) (m (c.tc.loc main_arg1)) (m (c.tc.loc main_arg4))
    ∧ r.2.mem (c.tc.loc main_v66) = gradB (m (c.tc.loc main_arg4))
    ∧ r.2.mem (c.tc.loc main_arg0) = m (c.tc.loc main_arg0)
    ∧ r.2.mem (c.tc.loc main_arg1) = m (c.tc.loc main_arg1)
    ∧ r.2.mem (c.tc.loc main_arg2) = m (c.tc.loc main_arg2)
    ∧ r.2.mem (c.tc.loc main_arg3) = m (c.tc.loc main_arg3)
    ∧ r.2.mem (c.tc.loc main_arg4) = m (c.tc.loc main_arg4) := by
  refine (θ_run defs _ _).mono (fun r h c => ⟨(h c).1.trans ?_, (h c).2.1.trans ?_, (h c).2.2.1.trans ?_, (h c).2.2.2.1.trans ?_, (h c).2.2.2.2⟩) (Value.run m g)
  all_goals clear h
  all_goals try unfold Value.res_main_v63
  all_goals try unfold Value.res_main_v64
  all_goals generalize m (c.tc.loc main_arg0) = x0
  all_goals generalize m (c.tc.loc main_arg1) = x1
  all_goals generalize m (c.tc.loc main_arg2) = x2
  all_goals generalize m (c.tc.loc main_arg4) = x4
  all_goals have hw : ∀ n : Fin 1024, shapeCast S1024 x2 shapeCasts_S1x1024_S1024 (ix1 n) = x2 (ix2 0 n) := fun n =>
    (shapeCast_dropUnit_apply ![1024] x2 _ (ix1 n)).trans (congrArg x2 (funext fun a => by match a with | ⟨0, _⟩ => rfl | ⟨1, _⟩ => rfl))
  all_goals try generalize shapeCast S1024 x2 shapeCasts_S1x1024_S1024 = w at hw ⊢
  all_goals funext i
  · obtain ⟨p, q, rfl⟩ : ∃ (p : Fin 4096) (q : Fin 1024), i = ix2 p q := ⟨i 0, i 1, eq_ix2 i⟩
    pointwise
    simp only [Fin.sum_univ_one, Finset.univ_unique, Finset.sum_singleton]
    try simp only [hw]
    rfl
  · obtain ⟨p, q, rfl⟩ : ∃ (p : Fin 4096) (q : Fin 1024), i = ix2 p q := ⟨i 0, i 1, eq_ix2 i⟩
    pointwise
    simp only [Fin.sum_univ_one, Finset.univ_unique, Finset.sum_singleton]
    try simp only [hw]
    rfl
  · obtain ⟨p, q, rfl⟩ : ∃ (p : Fin 1) (q : Fin 1024), i = ix2 p q := ⟨i 0, i 1, eq_ix2 i⟩
    pointwise
    simp only [Fin.sum_univ_one, Finset.univ_unique, Finset.sum_singleton]
    try simp only [hw]
    rfl
  · obtain ⟨p, q, rfl⟩ : ∃ (p : Fin 1) (q : Fin 1024), i = ix2 p q := ⟨i 0, i 1, eq_ix2 i⟩
    pointwise
    simp only [Fin.sum_univ_one, Finset.univ_unique, Finset.sum_singleton]
    try simp only [hw]
    rfl

end Cert.LnBwdRefIdeal.Hand

end
-- ==== Proof.LnVal.lean ====
/-
  A layer norm of the residual stream plus a branch over the extended reals. The call goes over eight
  blocks of 512 tokens; each row is normalised by itself.
-/
module

public import proofs.«01_k».proof.Proof.Gen.LnIdeal.Value
public import proofs.«01_k».proof.Proof.Gen.LnRefIdeal.Run
public import proofs.«01_k».proof.Proof.NormRow
public import proofs.«01_k».proof.Proof.Base

@[expose] public section

noncomputable section

namespace Cert.LnIdeal.Hand

open Cert.LnIdeal Cert.LnIdeal.Gen Idealize.ShloMosaic Idealize.ShloMosaic.TcCoe Idealize.SL.Sem
open Idealize.ShloMosaic.Pipeline (Dat)
open Cert.Hand.Norm

/-- A row of stream plus branch, normalised, scaled and shifted. -/
def out (h y g b : Fin 1024 → EReal) : Fin 1024 → EReal := fun j => nrm (cen (mix h y)) j * g j + b j

/-- The norm of every row. -/
def normed (h y : FVec Ideal S4096x1024 .f32) (g b : FVec Ideal S1x1024 .f32) (i : S4096x1024.Idx) : EReal :=
  out (fun j => h (ix2 (i 0) j)) (fun j => y (ix2 (i 0) j)) (fun j => g (ix2 0 j)) (fun j => b (ix2 0 j)) (i 1)

variable (m : (ℓ : Loc nD τ sig) → Buf (Elt Ideal) ℓ)

/-- The result as the claim names it. -/
abbrev resF (c : Dev nD) : Buf (Elt Ideal) ((c : Thread nD τ).loc main_v1) := fun i =>
  normed (m (c.tc.loc main_arg0)) (m (c.tc.loc main_arg1)) (m (c.tc.loc main_arg2)) (m (c.tc.loc main_arg3)) i

/-- The block of a point at an index, over the rows of the blocks read. -/
theorem k0_pay1_apply (x0 : Vec Ideal S512x1024 .f32) (x1 : Vec Ideal S512x1024 .bf16) (x2 x3 : Vec Ideal S1x1024 .f32) (p : Fin 512) (q : Fin 1024) :
    k0_pay1 x0 x1 x2 x3 (ix2 p q) = out (fun j => x0 (ix2 p j)) (fun j => x1 (ix2 p j)) (fun j => x2 (ix2 0 j)) (fun j => x3 (ix2 0 j)) q := by
  pointwise [k0_pay1]
  rfl

/-- The block a point leaves is its payload. -/
theorem out4_eq (x0 : Vec Ideal S512x1024 .f32) (x1 : Vec Ideal S512x1024 .bf16) (x2 x3 : Vec Ideal S1x1024 .f32) :
    out0_4 x0 x1 x2 x3 = k0_pay1 x0 x1 x2 x3 := by
  unfold out0_4
  rw [View.canon_unit_zero hz]
  simp only [View.ld_unit_zero (S := S512x1024) hz, View.ld_unit_zero (S := S1x1024) hz]

/-- The call's arguments as it reads them. -/
theorem V_y (c : Dev nD) (j : S4096x1024.Idx) : V m c main_v0 j = m (c.tc.loc main_arg1) j := by
  unfold_abbrev_sides
  after_results
  rfl

theorem V_0 (c : Dev nD) (j : S4096x1024.Idx) : V m c main_arg0 j = m (c.tc.loc main_arg0) j := by
  unfold_abbrev_sides
  after_results

theorem V_2 (c : Dev nD) (j : S1x1024.Idx) : V m c main_arg2 j = m (c.tc.loc main_arg2) j := by
  unfold_abbrev_sides
  after_results

theorem V_3 (c : Dev nD) (j : S1x1024.Idx) : V m c main_arg3 j = m (c.tc.loc main_arg3) j := by
  unfold_abbrev_sides
  after_results

theorem lt_N (n : ℕ) (hn : n < cfg0.N) : n < 8 := lt_of_lt_of_eq hn (show cfg0.N = 8 from N_0)

/-- Which blocks grid point `t` reads and writes. -/
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)

/-- Window 0's block at grid point `n`. -/
theorem iblk0_apply (c : Dev nD) (n : ℕ) (hn : n < cfg0.N) (p : Fin 512) (r : Fin 1024) :
    iblk m c 0 ⟨n, hn⟩ (ix2 p r) = m (c.tc.loc main_arg0) (ix2 ⟨512 * n + p.val, by have := lt_N n hn; omega⟩ r) := by
  refine Eq.trans ?_ (V_0 m c _)
  show V m c main_arg0 _ = V m c main_arg0 _
  congr 1
  obtain ⟨e0, e1⟩ := idx0 ⟨n, hn⟩
  dsimp only at e0 e1
  funext a
  apply Fin.ext
  match a with
  | ⟨0, _⟩ => show win0_0.index ⟨n, hn⟩ (0 : Fin 2) * 512 + 1 * p.val = 512 * n + p.val; rw [e0]; omega
  | ⟨1, _⟩ => show win0_0.index ⟨n, hn⟩ (1 : Fin 2) * 1024 + 1 * r.val = r.val; rw [e1]; omega

/-- Window 1's block at grid point `n`. -/
theorem iblk1_apply (c : Dev nD) (n : ℕ) (hn : n < cfg0.N) (p : Fin 512) (r : Fin 1024) :
    iblk m c 1 ⟨n, hn⟩ (ix2 p r) = m (c.tc.loc main_arg1) (ix2 ⟨512 * n + p.val, by have := lt_N n hn; omega⟩ r) := by
  refine Eq.trans ?_ (V_y m c _)
  show V m c main_v0 _ = V m c main_v0 _
  congr 1
  obtain ⟨e0, e1⟩ := idx1 ⟨n, hn⟩
  dsimp only at e0 e1
  funext a
  apply Fin.ext
  match a with
  | ⟨0, _⟩ => show win0_1.index ⟨n, hn⟩ (0 : Fin 2) * 512 + 1 * p.val = 512 * n + p.val; rw [e0]; omega
  | ⟨1, _⟩ => show win0_1.index ⟨n, hn⟩ (1 : Fin 2) * 1024 + 1 * r.val = r.val; rw [e1]; omega

/-- The scale, the same at every point. -/
theorem iblk2_apply (c : Dev nD) (t : Fin cfg0.N) (r : Fin 1024) :
    iblk m c 2 t (ix2 0 r) = m (c.tc.loc main_arg2) (ix2 0 r) := by
  refine Eq.trans ?_ (V_2 m c _)
  show V m c main_arg2 _ = V m c main_arg2 _
  congr 1
  obtain ⟨e0, e1⟩ := idx2 t
  funext a
  apply Fin.ext
  match a with
  | ⟨0, _⟩ => show win0_2.index t (0 : Fin 2) * 1 + 1 * 0 = 0; rw [e0]
  | ⟨1, _⟩ => show win0_2.index t (1 : Fin 2) * 1024 + 1 * r.val = r.val; rw [e1]; omega

/-- The shift, the same at every point. -/
theorem iblk3_apply (c : Dev nD) (t : Fin cfg0.N) (r : Fin 1024) :
    iblk m c 3 t (ix2 0 r) = m (c.tc.loc main_arg3) (ix2 0 r) := by
  refine Eq.trans ?_ (V_3 m c _)
  show V m c main_arg3 _ = V m c main_arg3 _
  congr 1
  obtain ⟨e0, e1⟩ := idx3 t
  funext a
  apply Fin.ext
  match a with
  | ⟨0, _⟩ => show win0_3.index t (0 : Fin 2) * 1 + 1 * 0 = 0; rw [e0]
  | ⟨1, _⟩ => show win0_3.index t (1 : Fin 2) * 1024 + 1 * r.val = r.val; rw [e1]; omega

/-- The norm of a row of the blocks is the norm of a row of the arrays. -/
theorem rows (c : Dev nD) (n : ℕ) (hn : n < cfg0.N) (p : Fin 512) (r : Fin 1024) :
    out (fun j => iblk m c 0 ⟨n, hn⟩ (ix2 p j)) (fun j => iblk m c 1 ⟨n, hn⟩ (ix2 p j)) (fun j => iblk m c 2 ⟨n, hn⟩ (ix2 0 j))
        (fun j => iblk m c 3 ⟨n, hn⟩ (ix2 0 j)) r
      = normed (m (c.tc.loc main_arg0)) (m (c.tc.loc main_arg1)) (m (c.tc.loc main_arg2)) (m (c.tc.loc main_arg3)) (ix2 ⟨512 * n + p.val, by have := lt_N n hn; omega⟩ r) := by
  unfold normed
  exact congrFun (congr (congr (congrArg₂ out (funext fun j => iblk0_apply m c n hn p j) (funext fun j => iblk1_apply m c n hn p j))
    (funext fun j => iblk2_apply m c ⟨n, hn⟩ j)) (funext fun j => iblk3_apply m c ⟨n, hn⟩ j)) r

/-- What a point writes back is its block of the result. -/
theorem flushed4_eq (c : Dev nD) (t : Fin cfg0.N) :
    (dats m 0 c).flushed 4 t = ((cfg0.win 4).blk t).view.read (Elt Ideal) (resF m c) := by
  rw [Value.flushed4, out4_eq]
  funext y
  obtain ⟨e0, e1⟩ := idx4 t
  have hy0 : (y 0).val < 512 := (y 0).isLt
  have hy1 : (y 1).val < 1024 := (y 1).isLt
  refine Eq.trans ?_ ((((k0_pay1_apply (iblk m c 0 t) (iblk m c 1 t) (iblk m c 2 t) (iblk m c 3 t) ⟨(y 0).val, hy0⟩ ⟨(y 1).val, hy1⟩).trans (rows m c t.val t.isLt _ _)) :).trans ?_)
  · exact congrArg (k0_pay1 (iblk m c 0 t) (iblk m c 1 t) (iblk m c 2 t) (iblk m c 3 t) : Vec Ideal S512x1024 .f32) (funext fun a => by match a with | ⟨0, _⟩ => rfl | ⟨1, _⟩ => rfl)
  · refine congrArg (resF m c) (funext fun a => Fin.ext ?_)
    match a with
    | ⟨0, _⟩ => show 512 * t.val + (y 0).val = win0_4.index t (0 : Fin 2) * 512 + 1 * (y 0).val; rw [e0]; omega
    | ⟨1, _⟩ => show (y 1).val = win0_4.index t (1 : Fin 2) * 1024 + 1 * (y 1).val; rw [e1]; omega

/-- The result array is the norm of every row. -/
theorem final4 (c : Dev nD) : (dats m 0 c).arrAt 4 cfg0.N = resF m c :=
  (dats m 0 c).arrAt_eq_of_cover 4 _ (fun t _ => flushed4_eq m c t) fun i => by
    have h0 : (i 0).val < 4096 := (i 0).isLt
    have h1 : (i 1).val < 1024 := (i 1).isLt
    have hN : cfg0.N = 8 := N_0
    let t : Fin cfg0.N := ⟨(i 0).val / 512, by omega⟩
    obtain ⟨e0, e1⟩ := idx4 t
    have tv : t.val = (i 0).val / 512 := rfl
    refine ⟨t, flush0_4 t, ?_⟩
    show i ∈ ((View.whole main_v1).slice (win0_4.rect t)).set
    rw [View.set_slice_whole, Rect.mem_set_unit]
    intro a
    match a with
    | ⟨0, _⟩ => show win0_4.index t (0 : Fin 2) * 512 ≤ (i 0).val ∧ (i 0).val < win0_4.index t (0 : Fin 2) * 512 + 512; omega
    | ⟨1, _⟩ => show win0_4.index t (1 : Fin 2) * 1024 ≤ (i 1).val ∧ (i 1).val < win0_4.index t (1 : Fin 2) * 1024 + 1024; omega

/-- The kernel's run: the results, the arguments kept. -/
theorem run (g : Dev nD → PrngReg) : θ_run defs (onTc (τ := τ) (main (F := Ideal))) ⟨m, fun _ => 0, g⟩ fun r => ∀ c : Dev nD,
    r.2.mem (c.tc.loc main_v1) = resF m c
    ∧ r.2.mem (c.tc.loc main_arg0) = m (c.tc.loc main_arg0)
    ∧ r.2.mem (c.tc.loc main_arg1) = m (c.tc.loc main_arg1)
    ∧ r.2.mem (c.tc.loc main_arg2) = m (c.tc.loc main_arg2)
    ∧ r.2.mem (c.tc.loc main_arg3) = m (c.tc.loc main_arg3) :=
  (θ_run defs _ _).mono (fun _ h c => ⟨(h c).1.trans (final4 m c), (h c).2⟩) (Value.run_blocks m g)

end Cert.LnIdeal.Hand

namespace Cert.LnRefIdeal.Hand

open Cert.LnRefIdeal Cert.LnRefIdeal.Gen Idealize.ShloMosaic Idealize.ShloMosaic.TcCoe Idealize.SL.Sem
open Cert.Hand.Norm
open Cert.LnIdeal.Hand (normed out)

/-- The reference's run: the same results, the arguments kept. -/
theorem run (m : (ℓ : Loc nD τ sig) → Buf (Elt Ideal) ℓ) (g : Dev nD → PrngReg) :
    θ_run defs (onTc (τ := τ) (main (F := Ideal))) ⟨m, fun _ => 0, g⟩ fun r => ∀ c : Dev nD,
    r.2.mem (c.tc.loc main_v26) = (fun i => normed (m (c.tc.loc main_arg0)) (m (c.tc.loc main_arg1)) (m (c.tc.loc main_arg2)) (m (c.tc.loc main_arg3)) i)
    ∧ r.2.mem (c.tc.loc main_arg0) = m (c.tc.loc main_arg0)
    ∧ r.2.mem (c.tc.loc main_arg1) = m (c.tc.loc main_arg1)
    ∧ r.2.mem (c.tc.loc main_arg2) = m (c.tc.loc main_arg2)
    ∧ r.2.mem (c.tc.loc main_arg3) = m (c.tc.loc main_arg3) := by
  refine (θ_run defs _ _).mono (fun r h c => ⟨(h c).1.trans ?_, (h c).2⟩) (Value.run m g)
  all_goals clear h
  all_goals generalize m (c.tc.loc main_arg0) = x0
  all_goals generalize m (c.tc.loc main_arg1) = x1
  all_goals generalize m (c.tc.loc main_arg2) = x2
  all_goals generalize m (c.tc.loc main_arg3) = x3
  all_goals have hw2 : ∀ n : Fin 1024, shapeCast S1024 x2 shapeCasts_S1x1024_S1024 (ix1 n) = x2 (ix2 0 n) := fun n =>
    (shapeCast_dropUnit_apply ![1024] x2 _ (ix1 n)).trans (congrArg x2 (funext fun a => by match a with | ⟨0, _⟩ => rfl | ⟨1, _⟩ => rfl))
  all_goals have hw3 : ∀ n : Fin 1024, shapeCast S1024 x3 shapeCasts_S1x1024_S1024 (ix1 n) = x3 (ix2 0 n) := fun n =>
    (shapeCast_dropUnit_apply ![1024] x3 _ (ix1 n)).trans (congrArg x3 (funext fun a => by match a with | ⟨0, _⟩ => rfl | ⟨1, _⟩ => rfl))
  all_goals generalize shapeCast S1024 x2 shapeCasts_S1x1024_S1024 = w2 at hw2 ⊢
  all_goals generalize shapeCast S1024 x3 shapeCasts_S1x1024_S1024 = w3 at hw3 ⊢
  all_goals
    funext i
    obtain ⟨p, q, rfl⟩ : ∃ (p : Fin 4096) (q : Fin 1024), i = ix2 p q := ⟨i 0, i 1, eq_ix2 i⟩
    pointwise
    simp only [hw2, hw3]
    rfl

end Cert.LnRefIdeal.Hand

end
-- ==== Proof.Ln0Val.lean ====
/-
  The first layer norm over the extended reals; its result is returned twice, in two formats. The call goes over eight
  blocks of 512 tokens; each row is normalised by itself.
-/
module

public import proofs.«01_k».proof.Proof.Gen.Ln0Ideal.Value
public import proofs.«01_k».proof.Proof.Gen.Ln0RefIdeal.Run
public import proofs.«01_k».proof.Proof.NormRow
public import proofs.«01_k».proof.Proof.Base

@[expose] public section

noncomputable section

namespace Cert.Ln0Ideal.Hand

open Cert.Ln0Ideal Cert.Ln0Ideal.Gen Idealize.ShloMosaic Idealize.ShloMosaic.TcCoe Idealize.SL.Sem
open Idealize.ShloMosaic.Pipeline (Dat)
open Cert.Hand.Norm

/-- A row of stream plus branch, normalised, scaled and shifted. -/
def out (h y g b : Fin 1024 → EReal) : Fin 1024 → EReal := fun j => nrm (cen (mix h y)) j * g j + b j

/-- The norm of every row. -/
def normed (h y : FVec Ideal S4096x1024 .f32) (g b : FVec Ideal S1x1024 .f32) (i : S4096x1024.Idx) : EReal :=
  out (fun j => h (ix2 (i 0) j)) (fun j => y (ix2 (i 0) j)) (fun j => g (ix2 0 j)) (fun j => b (ix2 0 j)) (i 1)

variable (m : (ℓ : Loc nD τ sig) → Buf (Elt Ideal) ℓ)

/-- The result as the claim names it. -/
abbrev resF (c : Dev nD) : Buf (Elt Ideal) ((c : Thread nD τ).loc main_v1_0) := fun i =>
  normed (m (c.tc.loc main_arg0)) (m (c.tc.loc main_arg1)) (m (c.tc.loc main_arg2)) (m (c.tc.loc main_arg3)) i

/-- The block of a point at an index, over the rows of the blocks read. -/
theorem k0_pay1_apply (x0 : Vec Ideal S512x1024 .f32) (x1 : Vec Ideal S512x1024 .bf16) (x2 x3 : Vec Ideal S1x1024 .f32) (p : Fin 512) (q : Fin 1024) :
    k0_pay1 x0 x1 x2 x3 (ix2 p q) = out (fun j => x0 (ix2 p j)) (fun j => x1 (ix2 p j)) (fun j => x2 (ix2 0 j)) (fun j => x3 (ix2 0 j)) q := by
  pointwise [k0_pay1]
  rfl

/-- The block a point leaves is its payload. -/
theorem out4_eq (x0 : Vec Ideal S512x1024 .f32) (x1 : Vec Ideal S512x1024 .bf16) (x2 x3 : Vec Ideal S1x1024 .f32) :
    out0_4 x0 x1 x2 x3 = k0_pay1 x0 x1 x2 x3 := by
  unfold out0_4
  rw [View.canon_unit_zero hz]
  simp only [View.ld_unit_zero (S := S512x1024) hz, View.ld_unit_zero (S := S1x1024) hz]

/-- The result as the claim names it. -/
abbrev resB (c : Dev nD) : Buf (Elt Ideal) ((c : Thread nD τ).loc main_v1_1) := fun i =>
  normed (m (c.tc.loc main_arg0)) (m (c.tc.loc main_arg1)) (m (c.tc.loc main_arg2)) (m (c.tc.loc main_arg3)) i

/-- The block of a point at an index, over the rows of the blocks read. -/
theorem k0_pay2_apply (x0 : Vec Ideal S512x1024 .f32) (x1 : Vec Ideal S512x1024 .bf16) (x2 x3 : Vec Ideal S1x1024 .f32) (p : Fin 512) (q : Fin 1024) :
    k0_pay2 x0 x1 x2 x3 (ix2 p q) = out (fun j => x0 (ix2 p j)) (fun j => x1 (ix2 p j)) (fun j => x2 (ix2 0 j)) (fun j => x3 (ix2 0 j)) q := by
  pointwise [k0_pay1, k0_pay2]
  rfl

/-- The block a point leaves is its payload. -/
theorem out5_eq (x0 : Vec Ideal S512x1024 .f32) (x1 : Vec Ideal S512x1024 .bf16) (x2 x3 : Vec Ideal S1x1024 .f32) :
    out0_5 x0 x1 x2 x3 = k0_pay2 x0 x1 x2 x3 := by
  unfold out0_5
  rw [View.canon_unit_zero hz]
  simp only [View.ld_unit_zero (S := S512x1024) hz, View.ld_unit_zero (S := S1x1024) hz]

/-- The call's arguments as it reads them. -/
theorem V_y (c : Dev nD) (j : S4096x1024.Idx) : V m c main_v0 j = m (c.tc.loc main_arg1) j := by
  unfold_abbrev_sides
  after_results
  rfl

theorem V_0 (c : Dev nD) (j : S4096x1024.Idx) : V m c main_arg0 j = m (c.tc.loc main_arg0) j := by
  unfold_abbrev_sides
  after_results

theorem V_2 (c : Dev nD) (j : S1x1024.Idx) : V m c main_arg2 j = m (c.tc.loc main_arg2) j := by
  unfold_abbrev_sides
  after_results

theorem V_3 (c : Dev nD) (j : S1x1024.Idx) : V m c main_arg3 j = m (c.tc.loc main_arg3) j := by
  unfold_abbrev_sides
  after_results

theorem lt_N (n : ℕ) (hn : n < cfg0.N) : n < 8 := lt_of_lt_of_eq hn (show cfg0.N = 8 from N_0)

/-- Which blocks grid point `t` reads and writes. -/
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)

/-- Window 0's block at grid point `n`. -/
theorem iblk0_apply (c : Dev nD) (n : ℕ) (hn : n < cfg0.N) (p : Fin 512) (r : Fin 1024) :
    iblk m c 0 ⟨n, hn⟩ (ix2 p r) = m (c.tc.loc main_arg0) (ix2 ⟨512 * n + p.val, by have := lt_N n hn; omega⟩ r) := by
  refine Eq.trans ?_ (V_0 m c _)
  show V m c main_arg0 _ = V m c main_arg0 _
  congr 1
  obtain ⟨e0, e1⟩ := idx0 ⟨n, hn⟩
  dsimp only at e0 e1
  funext a
  apply Fin.ext
  match a with
  | ⟨0, _⟩ => show win0_0.index ⟨n, hn⟩ (0 : Fin 2) * 512 + 1 * p.val = 512 * n + p.val; rw [e0]; omega
  | ⟨1, _⟩ => show win0_0.index ⟨n, hn⟩ (1 : Fin 2) * 1024 + 1 * r.val = r.val; rw [e1]; omega

/-- Window 1's block at grid point `n`. -/
theorem iblk1_apply (c : Dev nD) (n : ℕ) (hn : n < cfg0.N) (p : Fin 512) (r : Fin 1024) :
    iblk m c 1 ⟨n, hn⟩ (ix2 p r) = m (c.tc.loc main_arg1) (ix2 ⟨512 * n + p.val, by have := lt_N n hn; omega⟩ r) := by
  refine Eq.trans ?_ (V_y m c _)
  show V m c main_v0 _ = V m c main_v0 _
  congr 1
  obtain ⟨e0, e1⟩ := idx1 ⟨n, hn⟩
  dsimp only at e0 e1
  funext a
  apply Fin.ext
  match a with
  | ⟨0, _⟩ => show win0_1.index ⟨n, hn⟩ (0 : Fin 2) * 512 + 1 * p.val = 512 * n + p.val; rw [e0]; omega
  | ⟨1, _⟩ => show win0_1.index ⟨n, hn⟩ (1 : Fin 2) * 1024 + 1 * r.val = r.val; rw [e1]; omega

/-- The scale, the same at every point. -/
theorem iblk2_apply (c : Dev nD) (t : Fin cfg0.N) (r : Fin 1024) :
    iblk m c 2 t (ix2 0 r) = m (c.tc.loc main_arg2) (ix2 0 r) := by
  refine Eq.trans ?_ (V_2 m c _)
  show V m c main_arg2 _ = V m c main_arg2 _
  congr 1
  obtain ⟨e0, e1⟩ := idx2 t
  funext a
  apply Fin.ext
  match a with
  | ⟨0, _⟩ => show win0_2.index t (0 : Fin 2) * 1 + 1 * 0 = 0; rw [e0]
  | ⟨1, _⟩ => show win0_2.index t (1 : Fin 2) * 1024 + 1 * r.val = r.val; rw [e1]; omega

/-- The shift, the same at every point. -/
theorem iblk3_apply (c : Dev nD) (t : Fin cfg0.N) (r : Fin 1024) :
    iblk m c 3 t (ix2 0 r) = m (c.tc.loc main_arg3) (ix2 0 r) := by
  refine Eq.trans ?_ (V_3 m c _)
  show V m c main_arg3 _ = V m c main_arg3 _
  congr 1
  obtain ⟨e0, e1⟩ := idx3 t
  funext a
  apply Fin.ext
  match a with
  | ⟨0, _⟩ => show win0_3.index t (0 : Fin 2) * 1 + 1 * 0 = 0; rw [e0]
  | ⟨1, _⟩ => show win0_3.index t (1 : Fin 2) * 1024 + 1 * r.val = r.val; rw [e1]; omega

/-- The norm of a row of the blocks is the norm of a row of the arrays. -/
theorem rows (c : Dev nD) (n : ℕ) (hn : n < cfg0.N) (p : Fin 512) (r : Fin 1024) :
    out (fun j => iblk m c 0 ⟨n, hn⟩ (ix2 p j)) (fun j => iblk m c 1 ⟨n, hn⟩ (ix2 p j)) (fun j => iblk m c 2 ⟨n, hn⟩ (ix2 0 j))
        (fun j => iblk m c 3 ⟨n, hn⟩ (ix2 0 j)) r
      = normed (m (c.tc.loc main_arg0)) (m (c.tc.loc main_arg1)) (m (c.tc.loc main_arg2)) (m (c.tc.loc main_arg3)) (ix2 ⟨512 * n + p.val, by have := lt_N n hn; omega⟩ r) := by
  unfold normed
  exact congrFun (congr (congr (congrArg₂ out (funext fun j => iblk0_apply m c n hn p j) (funext fun j => iblk1_apply m c n hn p j))
    (funext fun j => iblk2_apply m c ⟨n, hn⟩ j)) (funext fun j => iblk3_apply m c ⟨n, hn⟩ j)) r

/-- What a point writes back is its block of the result. -/
theorem flushed4_eq (c : Dev nD) (t : Fin cfg0.N) :
    (dats m 0 c).flushed 4 t = ((cfg0.win 4).blk t).view.read (Elt Ideal) (resF m c) := by
  rw [Value.flushed4, out4_eq]
  funext y
  obtain ⟨e0, e1⟩ := idx4 t
  have hy0 : (y 0).val < 512 := (y 0).isLt
  have hy1 : (y 1).val < 1024 := (y 1).isLt
  refine Eq.trans ?_ ((((k0_pay1_apply (iblk m c 0 t) (iblk m c 1 t) (iblk m c 2 t) (iblk m c 3 t) ⟨(y 0).val, hy0⟩ ⟨(y 1).val, hy1⟩).trans (rows m c t.val t.isLt _ _)) :).trans ?_)
  · exact congrArg (k0_pay1 (iblk m c 0 t) (iblk m c 1 t) (iblk m c 2 t) (iblk m c 3 t) : Vec Ideal S512x1024 .f32) (funext fun a => by match a with | ⟨0, _⟩ => rfl | ⟨1, _⟩ => rfl)
  · refine congrArg (resF m c) (funext fun a => Fin.ext ?_)
    match a with
    | ⟨0, _⟩ => show 512 * t.val + (y 0).val = win0_4.index t (0 : Fin 2) * 512 + 1 * (y 0).val; rw [e0]; omega
    | ⟨1, _⟩ => show (y 1).val = win0_4.index t (1 : Fin 2) * 1024 + 1 * (y 1).val; rw [e1]; omega

/-- The result array is the norm of every row. -/
theorem final4 (c : Dev nD) : (dats m 0 c).arrAt 4 cfg0.N = resF m c :=
  (dats m 0 c).arrAt_eq_of_cover 4 _ (fun t _ => flushed4_eq m c t) fun i => by
    have h0 : (i 0).val < 4096 := (i 0).isLt
    have h1 : (i 1).val < 1024 := (i 1).isLt
    have hN : cfg0.N = 8 := N_0
    let t : Fin cfg0.N := ⟨(i 0).val / 512, by omega⟩
    obtain ⟨e0, e1⟩ := idx4 t
    have tv : t.val = (i 0).val / 512 := rfl
    refine ⟨t, flush0_4 t, ?_⟩
    show i ∈ ((View.whole main_v1_0).slice (win0_4.rect t)).set
    rw [View.set_slice_whole, Rect.mem_set_unit]
    intro a
    match a with
    | ⟨0, _⟩ => show win0_4.index t (0 : Fin 2) * 512 ≤ (i 0).val ∧ (i 0).val < win0_4.index t (0 : Fin 2) * 512 + 512; omega
    | ⟨1, _⟩ => show win0_4.index t (1 : Fin 2) * 1024 ≤ (i 1).val ∧ (i 1).val < win0_4.index t (1 : Fin 2) * 1024 + 1024; omega

/-- What a point writes back is its block of the result. -/
theorem flushed5_eq (c : Dev nD) (t : Fin cfg0.N) :
    (dats m 0 c).flushed 5 t = ((cfg0.win 5).blk t).view.read (Elt Ideal) (resB m c) := by
  rw [Value.flushed5, out5_eq]
  funext y
  obtain ⟨e0, e1⟩ := idx5 t
  have hy0 : (y 0).val < 512 := (y 0).isLt
  have hy1 : (y 1).val < 1024 := (y 1).isLt
  refine Eq.trans ?_ ((((k0_pay2_apply (iblk m c 0 t) (iblk m c 1 t) (iblk m c 2 t) (iblk m c 3 t) ⟨(y 0).val, hy0⟩ ⟨(y 1).val, hy1⟩).trans (rows m c t.val t.isLt _ _)) :).trans ?_)
  · exact congrArg (k0_pay2 (iblk m c 0 t) (iblk m c 1 t) (iblk m c 2 t) (iblk m c 3 t) : Vec Ideal S512x1024 .bf16) (funext fun a => by match a with | ⟨0, _⟩ => rfl | ⟨1, _⟩ => rfl)
  · refine congrArg (resB m c) (funext fun a => Fin.ext ?_)
    match a with
    | ⟨0, _⟩ => show 512 * t.val + (y 0).val = win0_5.index t (0 : Fin 2) * 512 + 1 * (y 0).val; rw [e0]; omega
    | ⟨1, _⟩ => show (y 1).val = win0_5.index t (1 : Fin 2) * 1024 + 1 * (y 1).val; rw [e1]; omega

/-- The result array is the norm of every row. -/
theorem final5 (c : Dev nD) : (dats m 0 c).arrAt 5 cfg0.N = resB m c :=
  (dats m 0 c).arrAt_eq_of_cover 5 _ (fun t _ => flushed5_eq m c t) fun i => by
    have h0 : (i 0).val < 4096 := (i 0).isLt
    have h1 : (i 1).val < 1024 := (i 1).isLt
    have hN : cfg0.N = 8 := N_0
    let t : Fin cfg0.N := ⟨(i 0).val / 512, by omega⟩
    obtain ⟨e0, e1⟩ := idx5 t
    have tv : t.val = (i 0).val / 512 := rfl
    refine ⟨t, flush0_5 t, ?_⟩
    show i ∈ ((View.whole main_v1_1).slice (win0_5.rect t)).set
    rw [View.set_slice_whole, Rect.mem_set_unit]
    intro a
    match a with
    | ⟨0, _⟩ => show win0_5.index t (0 : Fin 2) * 512 ≤ (i 0).val ∧ (i 0).val < win0_5.index t (0 : Fin 2) * 512 + 512; omega
    | ⟨1, _⟩ => show win0_5.index t (1 : Fin 2) * 1024 ≤ (i 1).val ∧ (i 1).val < win0_5.index t (1 : Fin 2) * 1024 + 1024; omega

/-- The kernel's run: the results, the arguments kept. -/
theorem run (g : Dev nD → PrngReg) : θ_run defs (onTc (τ := τ) (main (F := Ideal))) ⟨m, fun _ => 0, g⟩ fun r => ∀ c : Dev nD,
    r.2.mem (c.tc.loc main_v1_0) = resF m c
    ∧ r.2.mem (c.tc.loc main_v1_1) = resB m c
    ∧ r.2.mem (c.tc.loc main_arg0) = m (c.tc.loc main_arg0)
    ∧ r.2.mem (c.tc.loc main_arg1) = m (c.tc.loc main_arg1)
    ∧ r.2.mem (c.tc.loc main_arg2) = m (c.tc.loc main_arg2)
    ∧ r.2.mem (c.tc.loc main_arg3) = m (c.tc.loc main_arg3) :=
  (θ_run defs _ _).mono (fun _ h c => ⟨(h c).1.trans (final4 m c), (h c).2.1.trans (final5 m c), (h c).2.2⟩) (Value.run_blocks m g)

end Cert.Ln0Ideal.Hand

namespace Cert.Ln0RefIdeal.Hand

open Cert.Ln0RefIdeal Cert.Ln0RefIdeal.Gen Idealize.ShloMosaic Idealize.ShloMosaic.TcCoe Idealize.SL.Sem
open Cert.Hand.Norm
open Cert.Ln0Ideal.Hand (normed out)

/-- The reference's run: the same results, the arguments kept. -/
theorem run (m : (ℓ : Loc nD τ sig) → Buf (Elt Ideal) ℓ) (g : Dev nD → PrngReg) :
    θ_run defs (onTc (τ := τ) (main (F := Ideal))) ⟨m, fun _ => 0, g⟩ fun r => ∀ c : Dev nD,
    r.2.mem (c.tc.loc main_v26) = (fun i => normed (m (c.tc.loc main_arg0)) (m (c.tc.loc main_arg1)) (m (c.tc.loc main_arg2)) (m (c.tc.loc main_arg3)) i)
    ∧ r.2.mem (c.tc.loc main_v27) = (fun i => normed (m (c.tc.loc main_arg0)) (m (c.tc.loc main_arg1)) (m (c.tc.loc main_arg2)) (m (c.tc.loc main_arg3)) i)
    ∧ r.2.mem (c.tc.loc main_arg0) = m (c.tc.loc main_arg0)
    ∧ r.2.mem (c.tc.loc main_arg1) = m (c.tc.loc main_arg1)
    ∧ r.2.mem (c.tc.loc main_arg2) = m (c.tc.loc main_arg2)
    ∧ r.2.mem (c.tc.loc main_arg3) = m (c.tc.loc main_arg3) := by
  refine (θ_run defs _ _).mono (fun r h c => ⟨(h c).1.trans ?_, (h c).2.1.trans ?_, (h c).2.2⟩) (Value.run m g)
  all_goals clear h
  all_goals generalize m (c.tc.loc main_arg0) = x0
  all_goals generalize m (c.tc.loc main_arg1) = x1
  all_goals generalize m (c.tc.loc main_arg2) = x2
  all_goals generalize m (c.tc.loc main_arg3) = x3
  all_goals have hw2 : ∀ n : Fin 1024, shapeCast S1024 x2 shapeCasts_S1x1024_S1024 (ix1 n) = x2 (ix2 0 n) := fun n =>
    (shapeCast_dropUnit_apply ![1024] x2 _ (ix1 n)).trans (congrArg x2 (funext fun a => by match a with | ⟨0, _⟩ => rfl | ⟨1, _⟩ => rfl))
  all_goals have hw3 : ∀ n : Fin 1024, shapeCast S1024 x3 shapeCasts_S1x1024_S1024 (ix1 n) = x3 (ix2 0 n) := fun n =>
    (shapeCast_dropUnit_apply ![1024] x3 _ (ix1 n)).trans (congrArg x3 (funext fun a => by match a with | ⟨0, _⟩ => rfl | ⟨1, _⟩ => rfl))
  all_goals generalize shapeCast S1024 x2 shapeCasts_S1x1024_S1024 = w2 at hw2 ⊢
  all_goals generalize shapeCast S1024 x3 shapeCasts_S1x1024_S1024 = w3 at hw3 ⊢
  all_goals
    funext i
    obtain ⟨p, q, rfl⟩ : ∃ (p : Fin 4096) (q : Fin 1024), i = ix2 p q := ⟨i 0, i 1, eq_ix2 i⟩
    pointwise
    simp only [hw2, hw3]
    rfl

end Cert.Ln0RefIdeal.Hand

end
-- ==== Proof.LossVal.lean ====
/-
  The loss head over the extended reals: the sum of the squared errors, kept in an eight by 128 array, and the loss's
  derivative in the output. The call goes over eight blocks of 512 tokens; the sum is carried from block to block.
-/
module

public import proofs.«01_k».proof.Proof.Gen.LossIdeal.Value
public import proofs.«01_k».proof.Proof.Gen.LossRefIdeal.Run
public import proofs.«01_k».proof.Proof.NormRow
public import proofs.«01_k».proof.Proof.Base

@[expose] public section

noncomputable section

namespace Cert.LossIdeal.Hand

open Cert.LossIdeal Cert.LossIdeal.Gen Idealize.ShloMosaic Idealize.ShloMosaic.TcCoe Idealize.SL.Sem
open Idealize.ShloMosaic.Pipeline (Dat)
open Cert.Hand.Norm (sum_eight chain_eight)

section blocks

variable (c : Dev nD) (i : grid0.Coords) (a0 : Memref sig .tc .vmem S512x1024 .f32) (h0 : a0.IsWhole) (a1 : Memref sig .tc .vmem S512x1024 .f32) (h1 : a1.IsWhole)
    (a2 : Memref sig .tc .vmem S8x128 .f32) (h2 : a2.IsWhole) (a3 : Memref sig .tc .vmem S512x1024 .f32) (h3 : a3.IsWhole)
  (x0 x1 : Vec Ideal S512x1024 .f32)

/-- What the first point leaves in the sum. -/
theorem out2_A (hc : cond0_0 i) :
    out0_A_2 c i a0 h0 a1 h1 a2 h2 a3 h3 hc x0 x1 = k0_pay4 x0 x1 (k0_pay1 (F := Ideal)) := by
  unfold out0_A_2
  rw [View.read_writes_eq_canon _ _ _ (cover0_A_2 c i a0 h0 a1 h1 a2 h2 a3 h3 hc x0 x1)]
  unfold kernelRun0_A
  dsimp only
  rw [View.canon_cons_unit_zero hz]
  simp only [kernelRun0_A.sl.v9, kernelRun0_A.sl.H2_1]
  simp only [View.readAt_eq_ld, h0.read_unread, h1.read_unread, h2.read_unread, h3.read_unread, View.ld_unit_zero (S := S512x1024) hz, View.ld_unit_zero (S := S8x128) hz, View.readCov_unit_zero (S := S8x128) _ hz]

/-- What a later point leaves in the sum. -/
theorem out2_B (hc : ¬cond0_0 i) (y : Vec Ideal S8x128 .f32) :
    out0_B_2 c i a0 h0 a1 h1 a2 h2 a3 h3 hc x0 x1 y = k0_pay4 x0 x1 y := by
  unfold out0_B_2
  rw [View.read_writes_eq_canon _ _ _ (cover0_B_2 c i a0 h0 a1 h1 a2 h2 a3 h3 hc x0 x1 y)]
  unfold kernelRun0_B
  dsimp only
  rw [View.canon_cons_unit_zero hz]
  simp only [View.readAt_eq_ld, h0.read_unread, h1.read_unread, h2.read_unread, h3.read_unread, View.ld_unit_zero (S := S512x1024) hz, View.ld_unit_zero (S := S8x128) hz, View.readCov_unit_zero (S := S8x128) _ hz]

/-- What the first point leaves in the derivative's block. -/
theorem out3_A (hc : cond0_0 i) :
    out0_A_3 c i a0 h0 a1 h1 a2 h2 a3 h3 hc x0 x1 = k0_pay3 x0 x1 := by
  unfold out0_A_3
  rw [View.read_writes_eq_canon _ _ _ (cover0_A_3 c i a0 h0 a1 h1 a2 h2 a3 h3 hc x0 x1)]
  unfold kernelRun0_A
  dsimp only
  rw [View.canon_cons_unit_zero hz]
  simp only [View.readAt_eq_ld, h0.read_unread, h1.read_unread, h2.read_unread, h3.read_unread, View.ld_unit_zero (S := S512x1024) hz, View.ld_unit_zero (S := S8x128) hz, View.readCov_unit_zero (S := S8x128) _ hz]

/-- What a later point leaves in the derivative's block. -/
theorem out3_B (hc : ¬cond0_0 i) (y : Vec Ideal S8x128 .f32) :
    out0_B_3 c i a0 h0 a1 h1 a2 h2 a3 h3 hc x0 x1 y = k0_pay3 x0 x1 := by
  unfold out0_B_3
  rw [View.read_writes_eq_canon _ _ _ (cover0_B_3 c i a0 h0 a1 h1 a2 h2 a3 h3 hc x0 x1 y)]
  unfold kernelRun0_B
  dsimp only
  rw [View.canon_cons_unit_zero hz]
  simp only [View.readAt_eq_ld, h0.read_unread, h1.read_unread, h2.read_unread, h3.read_unread, View.ld_unit_zero (S := S512x1024) hz, View.ld_unit_zero (S := S8x128) hz, View.readCov_unit_zero (S := S8x128) _ hz]

end blocks

/-- A squared error, and the error times 1/1024. -/
def sq (a b : EReal) : EReal := (a - b) * (a - b)
def err (a b : EReal) : EReal := (a - b) * Ideal.ofBits .f32 0x3A800000#32

theorem pay4_apply (x0 x1 : Vec Ideal S512x1024 .f32) (y : Vec Ideal S8x128 .f32) (p : Fin 8) (q : Fin 128) :
    k0_pay4 x0 x1 y (ix2 p q) = y (ix2 p q) + ∑ k : Fin 512, ∑ j : Fin 1024, sq (x0 (ix2 k j)) (x1 (ix2 k j)) := by
  pointwise [k0_pay4, k0_pay2]
  rfl

theorem pay3_apply (x0 x1 : Vec Ideal S512x1024 .f32) (p : Fin 512) (q : Fin 1024) :
    k0_pay3 x0 x1 (ix2 p q) = err (x0 (ix2 p q)) (x1 (ix2 p q)) := by
  pointwise [k0_pay3, k0_pay2]
  rfl

/-- The sum of the squared errors, in every place of the array, and the derivative. -/
def total (h t : FVec Ideal S4096x1024 .f32) : EReal := ∑ k : Fin 4096, ∑ j : Fin 1024, sq (h (ix2 k j)) (t (ix2 k j))
def sums (h t : FVec Ideal S4096x1024 .f32) : FVec Ideal S8x128 .f32 := fun _ => total h t
def grad (h t : FVec Ideal S4096x1024 .f32) : FVec Ideal S4096x1024 .f32 := fun i => err (h i) (t i)

variable (m : (ℓ : Loc nD τ sig) → Buf (Elt Ideal) ℓ)

/-- The two results as the claim names them. -/
abbrev resS (c : Dev nD) : Buf (Elt Ideal) ((c : Thread nD τ).loc main_v0_0) := sums (m (c.tc.loc main_arg0)) (m (c.tc.loc main_arg1))
abbrev resH (c : Dev nD) : Buf (Elt Ideal) ((c : Thread nD τ).loc main_v0_1) := grad (m (c.tc.loc main_arg0)) (m (c.tc.loc main_arg1))

/-- The call's arguments as it reads them. -/
theorem V_0 (c : Dev nD) (j : S4096x1024.Idx) : V m c main_arg0 j = m (c.tc.loc main_arg0) j := by
  unfold_abbrev_sides
  after_results

theorem V_1 (c : Dev nD) (j : S4096x1024.Idx) : V m c main_arg1 j = m (c.tc.loc main_arg1) j := by
  unfold_abbrev_sides
  after_results

theorem lt_N (n : ℕ) (hn : n < cfg0.N) : n < 8 := lt_of_lt_of_eq hn (show cfg0.N = 8 from N_0)

/-- Which blocks grid point `t` reads and writes. -/
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)

/-- Window 0's block at grid point `n`. -/
theorem iblk0_apply (c : Dev nD) (n : ℕ) (hn : n < cfg0.N) (p : Fin 512) (r : Fin 1024) :
    iblk m c 0 ⟨n, hn⟩ (ix2 p r) = m (c.tc.loc main_arg0) (ix2 ⟨512 * n + p.val, by have := lt_N n hn; omega⟩ r) := by
  refine Eq.trans ?_ (V_0 m c _)
  show V m c main_arg0 _ = V m c main_arg0 _
  congr 1
  obtain ⟨e0, e1⟩ := idx0 ⟨n, hn⟩
  dsimp only at e0 e1
  funext a
  apply Fin.ext
  match a with
  | ⟨0, _⟩ => show win0_0.index ⟨n, hn⟩ (0 : Fin 2) * 512 + 1 * p.val = 512 * n + p.val; rw [e0]; omega
  | ⟨1, _⟩ => show win0_0.index ⟨n, hn⟩ (1 : Fin 2) * 1024 + 1 * r.val = r.val; rw [e1]; omega

/-- Window 1's block at grid point `n`. -/
theorem iblk1_apply (c : Dev nD) (n : ℕ) (hn : n < cfg0.N) (p : Fin 512) (r : Fin 1024) :
    iblk m c 1 ⟨n, hn⟩ (ix2 p r) = m (c.tc.loc main_arg1) (ix2 ⟨512 * n + p.val, by have := lt_N n hn; omega⟩ r) := by
  refine Eq.trans ?_ (V_1 m c _)
  show V m c main_arg1 _ = V m c main_arg1 _
  congr 1
  obtain ⟨e0, e1⟩ := idx1 ⟨n, hn⟩
  dsimp only at e0 e1
  funext a
  apply Fin.ext
  match a with
  | ⟨0, _⟩ => show win0_1.index ⟨n, hn⟩ (0 : Fin 2) * 512 + 1 * p.val = 512 * n + p.val; rw [e0]; omega
  | ⟨1, _⟩ => show win0_1.index ⟨n, hn⟩ (1 : Fin 2) * 1024 + 1 * r.val = r.val; rw [e1]; omega

/-- What a point stores in the derivative's block. -/
theorem out3_at (c : Dev nD) (t : Fin cfg0.N) : (outsAt0 m c t.val t.isLt).2 = k0_pay3 (iblk m c 0 t) (iblk m c 1 t) := by
  by_cases h : t.val % 8 = 0
  · rw [outsAt0_A m c t h]
    dsimp only
    rw [out3_A]
  · rw [outsAt0_B m c t h]
    dsimp only
    rw [out3_B]

theorem block3 (c : Dev nD) (n : ℕ) (hn : n < cfg0.N) (p : Fin 512) (r : Fin 1024) :
    (outsAt0 m c n hn).2 (ix2 p r) = resH m c (ix2 ⟨512 * n + p.val, by have := lt_N n hn; omega⟩ r) := by
  rw [out3_at m c ⟨n, hn⟩, pay3_apply]
  exact congrArg₂ err (iblk0_apply m c n hn p r) (iblk1_apply m c n hn p r)

/-- What a point writes back is its block of the derivative. -/
theorem flushed3_eq (c : Dev nD) (t : Fin cfg0.N) :
    (dats m 0 c).flushed 3 t = ((cfg0.win 3).blk t).view.read (Elt Ideal) (resH m c) := by
  rw [Value.flushed3]
  funext y
  obtain ⟨e0, e1⟩ := idx3 t
  have hy0 : (y 0).val < 512 := (y 0).isLt
  have hy1 : (y 1).val < 1024 := (y 1).isLt
  refine Eq.trans ?_ ((block3 m c t.val t.isLt ⟨(y 0).val, hy0⟩ ⟨(y 1).val, hy1⟩).trans ?_)
  · exact congrArg ((outsAt0 m c t.val t.isLt).2 : Vec Ideal S512x1024 .f32) (funext fun a => by match a with | ⟨0, _⟩ => rfl | ⟨1, _⟩ => rfl)
  · refine congrArg (resH m c) (funext fun a => Fin.ext ?_)
    match a with
    | ⟨0, _⟩ => show 512 * t.val + (y 0).val = win0_3.index t (0 : Fin 2) * 512 + 1 * (y 0).val; rw [e0]; omega
    | ⟨1, _⟩ => show (y 1).val = win0_3.index t (1 : Fin 2) * 1024 + 1 * (y 1).val; rw [e1]; omega

/-- The result array is the derivative. -/
theorem final3 (c : Dev nD) : (dats m 0 c).arrAt 3 cfg0.N = resH m c :=
  (dats m 0 c).arrAt_eq_of_cover 3 _ (fun t _ => flushed3_eq m c t) fun i => by
    have h0 : (i 0).val < 4096 := (i 0).isLt
    have h1 : (i 1).val < 1024 := (i 1).isLt
    have hN : cfg0.N = 8 := N_0
    let t : Fin cfg0.N := ⟨(i 0).val / 512, by omega⟩
    obtain ⟨e0, e1⟩ := idx3 t
    have tv : t.val = (i 0).val / 512 := rfl
    refine ⟨t, flush0_3 t, ?_⟩
    show i ∈ ((View.whole main_v0_1).slice (win0_3.rect t)).set
    rw [View.set_slice_whole, Rect.mem_set_unit]
    intro a
    match a with
    | ⟨0, _⟩ => show win0_3.index t (0 : Fin 2) * 512 ≤ (i 0).val ∧ (i 0).val < win0_3.index t (0 : Fin 2) * 512 + 512; omega
    | ⟨1, _⟩ => show win0_3.index t (1 : Fin 2) * 1024 ≤ (i 1).val ∧ (i 1).val < win0_3.index t (1 : Fin 2) * 1024 + 1024; omega

/-- What grid point `n` adds to the sum. -/
def gain (c : Dev nD) (n : Fin 8) : EReal :=
  ∑ p : Fin 512, ∑ j : Fin 1024, sq ((m (c.tc.loc main_arg0)) (ix2 ⟨512 * n.val + p.val, by omega⟩ j)) ((m (c.tc.loc main_arg1)) (ix2 ⟨512 * n.val + p.val, by omega⟩ j))

theorem gain_eq (c : Dev nD) (n : ℕ) (hn : n < cfg0.N) :
    ∑ p : Fin 512, ∑ j : Fin 1024, sq (iblk m c 0 ⟨n, hn⟩ (ix2 p j)) (iblk m c 1 ⟨n, hn⟩ (ix2 p j)) = gain m c ⟨n, lt_N n hn⟩ :=
  Finset.sum_congr rfl fun p _ => Finset.sum_congr rfl fun j _ => congrArg₂ sq (iblk0_apply m c n hn p j) (iblk1_apply m c n hn p j)

theorem acc_first (c : Dev nD) (h : 0 < cfg0.N) (p : Fin 8) (q : Fin 128) :
    (outsAt0 m c 0 h).1 (ix2 p q) = (0 + gain m c 0 : EReal) := by
  have e := congrArg (fun o => o.1) (outsAt0_A m c ⟨0, h⟩ rfl)
  dsimp only at e
  rw [e, out2_A, pay4_apply]
  refine (congrArg₂ (fun a b : EReal => a + b) ?_ (gain_eq m c 0 h) :)
  pointwise [k0_pay1]

theorem acc_next (c : Dev nD) (n : ℕ) (h : n + 1 < cfg0.N) (p : Fin 8) (q : Fin 128) :
    (outsAt0 m c (n + 1) h).1 (ix2 p q) = ((outsAt0 m c n (by omega)).1 (ix2 p q) + gain m c ⟨n + 1, lt_N _ h⟩ : EReal) := by
  have hn := lt_N _ h
  have e := congrArg (fun o => o.1) (outsAt0_B m c ⟨n + 1, h⟩ (by dsimp only; omega))
  dsimp only at e
  rw [e, out2_B, pay4_apply]
  exact (congrArg₂ (fun a b : EReal => a + b) rfl (gain_eq m c (n + 1) h) :)

/-- After the last point it is the sum over all tokens. -/
theorem acc_last (c : Dev nD) (n : ℕ) (h : n < cfg0.N) (hs : n = 7) (p : Fin 8) (q : Fin 128) :
    (outsAt0 m c n h).1 (ix2 p q) = resS m c (ix2 p q) := by
  subst hs
  have hN : cfg0.N = 8 := N_0
  have e := chain_eight (fun n => if h : n < cfg0.N then ((outsAt0 m c n h).1 (ix2 p q) : EReal) else 0) (gain m c)
    (by rw [dif_pos (by omega)]; exact acc_first m c _ p q)
    (fun n hn => by rw [dif_pos (by omega), dif_pos (by omega)]; exact acc_next m c n _ p q)
  rw [dif_pos h] at e
  refine e.trans ?_
  exact (sum_eight (fun k : Fin 4096 => ∑ j : Fin 1024, sq ((m (c.tc.loc main_arg0)) (ix2 k j)) ((m (c.tc.loc main_arg1)) (ix2 k j)))).symm

/-- What the last point writes back is the sum. -/
theorem flushed2_eq (c : Dev nD) (t : Fin cfg0.N) (hf : (cfg0.win 2).flush t = true) :
    (dats m 0 c).flushed 2 t = ((cfg0.win 2).blk t).view.read (Elt Ideal) (resS m c) := by
  have hm : t.val % 8 = 7 := (flush0_2 t).mp hf
  have ht := lt_N _ t.isLt
  rw [Value.flushed2]
  funext y
  have hy0 : (y 0).val < 8 := (y 0).isLt
  have hy1 : (y 1).val < 128 := (y 1).isLt
  refine Eq.trans ?_ (acc_last m c t.val t.isLt (by omega) ⟨(y 0).val, hy0⟩ ⟨(y 1).val, hy1⟩)
  exact congrArg ((outsAt0 m c t.val t.isLt).1 : Vec Ideal S8x128 .f32) (funext fun a => by match a with | ⟨0, _⟩ => rfl | ⟨1, _⟩ => rfl)

/-- The result array holds the sum. -/
theorem final2 (c : Dev nD) : (dats m 0 c).arrAt 2 cfg0.N = resS m c :=
  (dats m 0 c).arrAt_eq_of_cover 2 _ (fun t hf => flushed2_eq m c t hf) fun i => by
    have h0 : (i 0).val < 8 := (i 0).isLt
    have h1 : (i 1).val < 128 := (i 1).isLt
    have hN : cfg0.N = 8 := N_0
    let t : Fin cfg0.N := ⟨7, by omega⟩
    obtain ⟨e0, e1⟩ := idx2 t
    have tv : t.val = 7 := rfl
    refine ⟨t, (flush0_2 t).mpr (by omega), ?_⟩
    show i ∈ ((View.whole main_v0_0).slice (win0_2.rect t)).set
    rw [View.set_slice_whole, Rect.mem_set_unit]
    intro a
    match a with
    | ⟨0, _⟩ => show win0_2.index t (0 : Fin 2) * 8 ≤ (i 0).val ∧ (i 0).val < win0_2.index t (0 : Fin 2) * 8 + 8; omega
    | ⟨1, _⟩ => show win0_2.index t (1 : Fin 2) * 128 ≤ (i 1).val ∧ (i 1).val < win0_2.index t (1 : Fin 2) * 128 + 128; omega

/-- The kernel's run: the results, the arguments kept. -/
theorem run (g : Dev nD → PrngReg) : θ_run defs (onTc (τ := τ) (main (F := Ideal))) ⟨m, fun _ => 0, g⟩ fun r => ∀ c : Dev nD,
    r.2.mem (c.tc.loc main_v0_0) = resS m c
    ∧ r.2.mem (c.tc.loc main_v0_1) = resH m c
    ∧ r.2.mem (c.tc.loc main_arg0) = m (c.tc.loc main_arg0)
    ∧ r.2.mem (c.tc.loc main_arg1) = m (c.tc.loc main_arg1) :=
  (θ_run defs _ _).mono (fun _ h c => ⟨(h c).1.trans (final2 m c), (h c).2.1.trans (final3 m c), (h c).2.2⟩) (Value.run_blocks m g)

/-- Half of 1/1024, times twice the error, is the error times 1/1024. -/
theorem half_twice (x : EReal) :
    Ideal.div (Ideal.ofBits .f32 0x3F000000#32) (Ideal.ofBits .f32 0x44800000#32) * (Ideal.ofBits .f32 0x40000000#32 * x)
      = x * Ideal.ofBits .f32 0x3A800000#32 := by
  have c1 : Ideal.ofBits .f32 0x3F000000#32 = ((1 / 2 : ℝ) : EReal) := by simp [Ideal.ofBits, Ideal.ieee]; rw [← EReal.coe_mul]; norm_num
  have c3 : Ideal.ofBits .f32 0x44800000#32 = ((1024 : ℝ) : EReal) := by simp [Ideal.ofBits, Ideal.ieee]; rw [← EReal.coe_mul]; norm_num
  have c4 : Ideal.ofBits .f32 0x40000000#32 = ((2 : ℝ) : EReal) := by simp [Ideal.ofBits, Ideal.ieee]; rw [← EReal.coe_mul]; norm_num
  have c5 : Ideal.ofBits .f32 0x3A800000#32 = ((1 / 1024 : ℝ) : EReal) := by simp [Ideal.ofBits, Ideal.ieee]; rw [← EReal.coe_mul]; norm_num
  rw [c1, c3, c4, c5]
  have c6 : Ideal.div ((1 / 2 : ℝ) : EReal) ((1024 : ℝ) : EReal) = ((1 / 2048 : ℝ) : EReal) := by
    simp [Ideal.div]; rw [← EReal.coe_inv, ← EReal.coe_mul]; norm_num
  rw [c6, ← mul_assoc, ← EReal.coe_mul, mul_comm x]
  norm_num

end Cert.LossIdeal.Hand

namespace Cert.LossRefIdeal.Hand

open Cert.LossRefIdeal Cert.LossRefIdeal.Gen Idealize.ShloMosaic Idealize.ShloMosaic.TcCoe Idealize.SL.Sem
open Cert.LossIdeal.Hand (sums grad total sq err half_twice)

/-- The reference's run: the same results, the arguments kept. -/
theorem run (m : (ℓ : Loc nD τ sig) → Buf (Elt Ideal) ℓ) (g : Dev nD → PrngReg) :
    θ_run defs (onTc (τ := τ) (main (F := Ideal))) ⟨m, fun _ => 0, g⟩ fun r => ∀ c : Dev nD,
    r.2.mem (c.tc.loc main_v12) = sums (m (c.tc.loc main_arg0)) (m (c.tc.loc main_arg1))
    ∧ r.2.mem (c.tc.loc main_v18) = grad (m (c.tc.loc main_arg0)) (m (c.tc.loc main_arg1))
    ∧ r.2.mem (c.tc.loc main_arg0) = m (c.tc.loc main_arg0)
    ∧ r.2.mem (c.tc.loc main_arg1) = m (c.tc.loc main_arg1) := by
  refine (θ_run defs _ _).mono (fun r h c => ⟨(h c).1.trans ?_, (h c).2.1.trans ?_, (h c).2.2⟩) (Value.run m g)
  all_goals clear h
  all_goals generalize m (c.tc.loc main_arg0) = x0
  all_goals generalize m (c.tc.loc main_arg1) = x1
  · funext i
    obtain ⟨p, q, rfl⟩ : ∃ (p : Fin 8) (q : Fin 128), i = ix2 p q := ⟨i 0, i 1, eq_ix2 i⟩
    pointwise
    rfl
  · funext i
    obtain ⟨p, q, rfl⟩ : ∃ (p : Fin 4096) (q : Fin 1024), i = ix2 p q := ⟨i 0, i 1, eq_ix2 i⟩
    pointwise
    exact half_twice _

end Cert.LossRefIdeal.Hand

end
-- ==== Proof.GluLnBwdVal.lean ====
/-
  The gradient of the layer norm whose branch is a gated unit, over the extended reals: in the residual stream, in both
  halves of what the unit reads (its values and its gate), and in the norm's scale and shift. The call goes over eight blocks of 512 tokens; the last two results are summed from block to block.
-/
module

public import proofs.«01_k».proof.Proof.Gen.GluLnBwdIdeal.Value
public import proofs.«01_k».proof.Proof.Gen.GluLnBwdRefIdeal.Run
public import proofs.«01_k».proof.Proof.NormRow
public import proofs.«01_k».proof.Proof.Base

@[expose] public section

noncomputable section

namespace Cert.GluLnBwdIdeal.Hand

open Cert.GluLnBwdIdeal Cert.GluLnBwdIdeal.Gen Idealize.ShloMosaic Idealize.ShloMosaic.TcCoe Idealize.SL.Sem
open Idealize.ShloMosaic.Pipeline (Dat)
open Cert.Hand.Norm

section Outs

variable {c : Dev nD} {i : grid0.Coords} {a0 : Memref sig .tc .vmem S512x1024 .f32} {h0 : a0.IsWhole} {a1 : Memref sig .tc .vmem S512x2048 .bf16} {h1 : a1.IsWhole} {a2 : Memref sig .tc .vmem S1x1024 .f32} {h2 : a2.IsWhole} {a3 : Memref sig .tc .vmem S1x1024 .f32} {h3 : a3.IsWhole} {a4 : Memref sig .tc .vmem S512x1024 .f32} {h4 : a4.IsWhole} {a5 : Memref sig .tc .vmem S512x1024 .f32} {h5 : a5.IsWhole} {a6 : Memref sig .tc .vmem S512x2048 .bf16} {h6 : a6.IsWhole} {a7 : Memref sig .tc .vmem S1x1024 .f32} {h7 : a7.IsWhole} {a8 : Memref sig .tc .vmem S1x1024 .f32} {h8 : a8.IsWhole}
  {x0 : Vec Ideal S512x1024 .f32} {x1 : Vec Ideal S512x2048 .bf16} {x2 : Vec Ideal S1x1024 .f32} {x3 : Vec Ideal S1x1024 .f32} {x4 : Vec Ideal S512x1024 .f32}

open kernelRun0_A.sl in
/-- What the first point leaves in its four blocks. -/
theorem outs_A (hc0 : cond0_0 i) (hc1 : cond0_1 i) :
    out0_A_5 c i a0 h0 a1 h1 a2 h2 a3 h3 a4 h4 a5 h5 a6 h6 a7 h7 a8 h8 hc0 hc1 x0 x1 x2 x3 x4 = k0_pay21 x2 x4 (k0_pay12 x0 x1) (k0_pay14 x0 x1) (k0_pay15 x0 x1)
    ∧ out0_A_6 c i a0 h0 a1 h1 a2 h2 a3 h3 a4 h4 a5 h5 a6 h6 a7 h7 a8 h8 hc0 hc1 x0 x1 x2 x3 x4 = k0_pay1 (k0_pay22 x2 x4 (k0_pay10 x1) (k0_pay12 x0 x1) (k0_pay14 x0 x1) (k0_pay15 x0 x1)) (k0_pay23 x2 x4 (k0_pay7 x1) (k0_pay8 x1) (k0_pay11 x1) (k0_pay12 x0 x1) (k0_pay14 x0 x1) (k0_pay15 x0 x1)) (Scalar.ofBits .f32 0x00000000#32)
    ∧ out0_A_7 c i a0 h0 a1 h1 a2 h2 a3 h3 a4 h4 a5 h5 a6 h6 a7 h7 a8 h8 hc0 hc1 x0 x1 x2 x3 x4 = k0_pay3 (k0_pay19 x4 (k0_pay12 x0 x1) (k0_pay16 x0 x1)) (k0_pay2 (F := Ideal))
    ∧ out0_A_8 c i a0 h0 a1 h1 a2 h2 a3 h3 a4 h4 a5 h5 a6 h6 a7 h7 a8 h8 hc0 hc1 x0 x1 x2 x3 x4 = k0_pay5 (k0_pay18 x4) (k0_pay4 (F := Ideal)) := by
  refine ⟨?_, ?_, ?_, ?_⟩
  on_goal 1 =>
    unfold out0_A_5
    rw [View.read_writes_eq_canon _ _ _ (cover0_A_5 c i a0 h0 a1 h1 a2 h2 a3 h3 a4 h4 a5 h5 a6 h6 a7 h7 a8 h8 hc0 hc1 x0 x1 x2 x3 x4)]
  on_goal 2 =>
    unfold out0_A_6
    rw [View.read_writes_eq_canon _ _ _ (cover0_A_6 c i a0 h0 a1 h1 a2 h2 a3 h3 a4 h4 a5 h5 a6 h6 a7 h7 a8 h8 hc0 hc1 x0 x1 x2 x3 x4)]
  on_goal 3 =>
    unfold out0_A_7
    rw [View.read_writes_eq_canon _ _ _ (cover0_A_7 c i a0 h0 a1 h1 a2 h2 a3 h3 a4 h4 a5 h5 a6 h6 a7 h7 a8 h8 hc0 hc1 x0 x1 x2 x3 x4)]
  on_goal 4 =>
    unfold out0_A_8
    rw [View.read_writes_eq_canon _ _ _ (cover0_A_8 c i a0 h0 a1 h1 a2 h2 a3 h3 a4 h4 a5 h5 a6 h6 a7 h7 a8 h8 hc0 hc1 x0 x1 x2 x3 x4)]
  all_goals unfold kernelRun0_A
  all_goals dsimp only
  all_goals rw [View.canon_cons_unit_zero hz]
  all_goals simp only [H7_1, H8_1, cst_30, r, r_1, r_10, r_11, r_12, r_13, r_14, r_2, r_3, r_4, r_5, r_6, r_7, r_8, r_9, v103, v97]
  all_goals simp only [View.readAt_eq_ld, h0.read_unread, h1.read_unread, h2.read_unread, h4.read_unread, h7.read_unread, h8.read_unread, View.ld_unit_zero (S := S512x1024) hz, View.ld_unit_zero (S := S512x2048) hz, View.ld_unit_zero (S := S1x1024) hz, View.readCov_unit_zero (S := S1x1024) _ hz]

open kernelRun0_B.sl in
/-- What a later point leaves in its four blocks. -/
theorem outs_B (hc0 : ¬cond0_0 i) (hc1 : ¬cond0_1 i) {y7 y8 : Vec Ideal S1x1024 .f32} :
    out0_B_5 c i a0 h0 a1 h1 a2 h2 a3 h3 a4 h4 a5 h5 a6 h6 a7 h7 a8 h8 hc0 hc1 x0 x1 x2 x3 x4 y7 y8 = k0_pay21 x2 x4 (k0_pay12 x0 x1) (k0_pay14 x0 x1) (k0_pay15 x0 x1)
    ∧ out0_B_6 c i a0 h0 a1 h1 a2 h2 a3 h3 a4 h4 a5 h5 a6 h6 a7 h7 a8 h8 hc0 hc1 x0 x1 x2 x3 x4 y7 y8 = k0_pay1 (k0_pay22 x2 x4 (k0_pay10 x1) (k0_pay12 x0 x1) (k0_pay14 x0 x1) (k0_pay15 x0 x1)) (k0_pay23 x2 x4 (k0_pay7 x1) (k0_pay8 x1) (k0_pay11 x1) (k0_pay12 x0 x1) (k0_pay14 x0 x1) (k0_pay15 x0 x1)) (Scalar.ofBits .f32 0x00000000#32)
    ∧ out0_B_7 c i a0 h0 a1 h1 a2 h2 a3 h3 a4 h4 a5 h5 a6 h6 a7 h7 a8 h8 hc0 hc1 x0 x1 x2 x3 x4 y7 y8 = k0_pay3 (k0_pay19 x4 (k0_pay12 x0 x1) (k0_pay16 x0 x1)) y7
    ∧ out0_B_8 c i a0 h0 a1 h1 a2 h2 a3 h3 a4 h4 a5 h5 a6 h6 a7 h7 a8 h8 hc0 hc1 x0 x1 x2 x3 x4 y7 y8 = k0_pay5 (k0_pay18 x4) y8 := by
  refine ⟨?_, ?_, ?_, ?_⟩
  on_goal 1 =>
    unfold out0_B_5
    rw [View.read_writes_eq_canon _ _ _ (cover0_B_5 c i a0 h0 a1 h1 a2 h2 a3 h3 a4 h4 a5 h5 a6 h6 a7 h7 a8 h8 hc0 hc1 x0 x1 x2 x3 x4 y7 y8)]
  on_goal 2 =>
    unfold out0_B_6
    rw [View.read_writes_eq_canon _ _ _ (cover0_B_6 c i a0 h0 a1 h1 a2 h2 a3 h3 a4 h4 a5 h5 a6 h6 a7 h7 a8 h8 hc0 hc1 x0 x1 x2 x3 x4 y7 y8)]
  on_goal 3 =>
    unfold out0_B_7
    rw [View.read_writes_eq_canon _ _ _ (cover0_B_7 c i a0 h0 a1 h1 a2 h2 a3 h3 a4 h4 a5 h5 a6 h6 a7 h7 a8 h8 hc0 hc1 x0 x1 x2 x3 x4 y7 y8)]
  on_goal 4 =>
    unfold out0_B_8
    rw [View.read_writes_eq_canon _ _ _ (cover0_B_8 c i a0 h0 a1 h1 a2 h2 a3 h3 a4 h4 a5 h5 a6 h6 a7 h7 a8 h8 hc0 hc1 x0 x1 x2 x3 x4 y7 y8)]
  all_goals unfold kernelRun0_B
  all_goals dsimp only
  all_goals rw [View.canon_cons_unit_zero hz]
  all_goals simp only [cst_30, r, r_1, r_10, r_11, r_12, r_13, r_14, r_2, r_3, r_4, r_5, r_6, r_7, r_8, r_9]
  all_goals simp only [View.readAt_eq_ld, h0.read_unread, h1.read_unread, h2.read_unread, h4.read_unread, h7.read_unread, h8.read_unread, View.ld_unit_zero (S := S512x1024) hz, View.ld_unit_zero (S := S512x2048) hz, View.ld_unit_zero (S := S1x1024) hz, View.readCov_unit_zero (S := S1x1024) _ hz]

end Outs

/-- The gate, what the gated unit adds to the stream, and the derivative in what it reads, values first. -/
def sg (s : EReal) : EReal := Ideal.div 1 (1 + Ideal.exp (-s))
def unit (z : Fin 2048 → EReal) : Fin 1024 → EReal := fun j => z ⟨j.val, by omega⟩ * sg (z ⟨1024 + j.val, by omega⟩)
def zrow (z : Fin 2048 → EReal) (u : Fin 1024 → EReal) (q : Fin 2048) : EReal :=
  if h : q.val < 1024 then u ⟨q.val, h⟩ * sg (z ⟨1024 + q.val, by omega⟩)
  else z ⟨q.val - 1024, by omega⟩ * u ⟨q.val - 1024, by omega⟩ * (sg (z q) * (1 - sg (z q)))

/-- The gate's slope, as a square's reciprocal times the exponential and as the gate times one minus the gate. -/
theorem slope (w s : EReal) :
    -(-(w * Ideal.div 1 ((1 + Ideal.exp (-s)) * (1 + Ideal.exp (-s)))) * Ideal.exp (-s)) = w * (sg s * (1 - sg s)) := by
  rw [neg_mul, neg_neg, mul_assoc]
  congr 1
  unfold sg
  induction s with
  | bot =>
    rw [show Ideal.exp (-⊥) = ⊤ from rfl, show (1 : EReal) + ⊤ = ⊤ from rfl, show (⊤ : EReal) * ⊤ = ⊤ from rfl]
    simp [Ideal.div]
  | top =>
    rw [show Ideal.exp (-⊤) = 0 from rfl]
    have e : Ideal.div 1 1 = 1 := by simp [Ideal.div]
    rw [add_zero, mul_one, e, mul_zero, show (1 : EReal) - 1 = 0 from by rw [← EReal.coe_one, ← EReal.coe_sub]; simp, mul_zero]
  | coe r =>
    have hp := Real.exp_pos (-r)
    have e : ∀ x : ℝ, 0 < x → Ideal.div 1 (x : EReal) = ((1 / x : ℝ) : EReal) := fun x hx => by
      unfold Ideal.div
      rw [if_neg (by exact_mod_cast hx.ne'), one_mul, ← EReal.coe_inv, one_div]
    rw [show Ideal.exp (-(r : EReal)) = ((Real.exp (-r) : ℝ) : EReal) from rfl, ← EReal.coe_one, ← EReal.coe_add, ← EReal.coe_mul]
    simp only [EReal.coe_one]
    rw [e _ (by positivity), e _ (by positivity), ← EReal.coe_mul, ← EReal.coe_one, ← EReal.coe_sub, ← EReal.coe_mul]
    congr 1
    field_simp
    ring

theorem low_half (a b : FVec Ideal S512x1024 .f32) (p : Fin 512) (q : Fin 1024) :
    k0_pay1 a b (Scalar.ofBits .f32 0x00000000#32) (ix2 p ⟨q.val, by omega⟩) = a (ix2 p q) := by
  pointwise [k0_pay1]

theorem high_half (a b : FVec Ideal S512x1024 .f32) (p : Fin 512) (q : Fin 1024) :
    k0_pay1 a b (Scalar.ofBits .f32 0x00000000#32) (ix2 p ⟨1024 + q.val, by omega⟩) = b (ix2 p q) := by
  pointwise [k0_pay1]

section Pays

variable (x0 : Vec Ideal S512x1024 .f32) (x1 : Vec Ideal S512x2048 .bf16) (x2 : Vec Ideal S1x1024 .f32) (x4 : Vec Ideal S512x1024 .f32) (p : Fin 512)

/-- The rows of the blocks read, centred, and the derivative's row. -/
abbrev brow : Fin 1024 → EReal := cen (mix (fun j => x0 (ix2 p j)) (unit fun j => x1 (ix2 p j)))
abbrev bdx : Fin 1024 → EReal := drow (brow x0 x1 p) (fun j => x4 (ix2 p j) * x2 (ix2 0 j))

theorem pay12_apply (q : Fin 1024) : k0_pay12 x0 x1 (ix2 p q) = brow x0 x1 p q := by
  pointwise [k0_pay12, k0_pay10, k0_pay7, k0_pay9, k0_pay8, k0_pay6]
  simp only [zero_sub]
  rfl

/-- The derivative's block at an index. -/
theorem pay20_apply (q : Fin 1024) : k0_pay20 x2 x4 (k0_pay12 x0 x1) (k0_pay14 x0 x1) (k0_pay15 x0 x1) (ix2 p q) = bdx x0 x1 x2 x4 p q := by
  pointwise [k0_pay20, k0_pay17, k0_pay14, k0_pay15, k0_pay13]
  simp only [pay12_apply, twice, zero_sub, Fin.sum_univ_one, Finset.univ_unique, Finset.sum_singleton]
  rfl

theorem pay21_apply (q : Fin 1024) : k0_pay21 x2 x4 (k0_pay12 x0 x1) (k0_pay14 x0 x1) (k0_pay15 x0 x1) (ix2 p q) = scale * bdx x0 x1 x2 x4 p q := by
  pointwise [k0_pay21]
  rw [pay20_apply]
  rfl

theorem payZ_apply (q : Fin 2048) : k0_pay1 (k0_pay22 x2 x4 (k0_pay10 x1) (k0_pay12 x0 x1) (k0_pay14 x0 x1) (k0_pay15 x0 x1)) (k0_pay23 x2 x4 (k0_pay7 x1) (k0_pay8 x1) (k0_pay11 x1) (k0_pay12 x0 x1) (k0_pay14 x0 x1) (k0_pay15 x0 x1)) (Scalar.ofBits .f32 0x00000000#32) (ix2 p q) = zrow (fun j => x1 (ix2 p j)) (bdx x0 x1 x2 x4 p) q := by
  unfold zrow
  split
  · next h =>
    refine (low_half _ _ p ⟨q.val, h⟩).trans ?_
    pointwise [k0_pay22, k0_pay10, k0_pay9, k0_pay8, k0_pay6]
    rw [pay20_apply, zero_sub]
    rfl
  · next h =>
    obtain ⟨r, rfl⟩ : ∃ r : Fin 1024, q = ⟨1024 + r.val, Nat.add_lt_add_left r.isLt 1024⟩ := ⟨⟨q.val - 1024, by omega⟩, Fin.ext (by dsimp only; omega)⟩
    refine (high_half _ _ p r).trans ?_
    pointwise [k0_pay23, k0_pay7, k0_pay11, k0_pay9, k0_pay8, k0_pay6]
    rw [pay20_apply]
    simp only [zero_sub]
    refine (slope _ _).trans ?_
    have e : (⟨1024 + r.val - 1024, by omega⟩ : Fin 1024) = r := Fin.ext (by dsimp only; omega)
    simp only [Nat.add_sub_cancel_left]

/-- The sums' gains at an index. -/
theorem pay8_apply (y : Vec Ideal S1x1024 .f32) (q : Fin 1024) :
    k0_pay3 (k0_pay19 x4 (k0_pay12 x0 x1) (k0_pay16 x0 x1)) y (ix2 0 q) = y (ix2 0 q) + ∑ p : Fin 512, nrm (brow x0 x1 p) q * x4 (ix2 p q) := by
  pointwise [k0_pay3, k0_pay19, k0_pay17, k0_pay16, k0_pay14, k0_pay13]
  simp only [pay12_apply]
  rfl

theorem pay7_apply (y : Vec Ideal S1x1024 .f32) (q : Fin 1024) :
    k0_pay5 (k0_pay18 x4) y (ix2 0 q) = y (ix2 0 q) + ∑ p : Fin 512, x4 (ix2 p q) := by
  pointwise [k0_pay5, k0_pay18]

end Pays

/-- Row `i` of the sum of stream and branch, centred. -/
def row (h : FVec Ideal S4096x1024 .f32) (y : FVec Ideal S4096x2048 .f32) (i : Fin 4096) : Fin 1024 → EReal :=
  cen (mix (fun j => h (ix2 i j)) (unit fun j => y (ix2 i j)))

/-- Row `i` of the derivative in the sum. -/
def dx (h : FVec Ideal S4096x1024 .f32) (y : FVec Ideal S4096x2048 .f32) (g : FVec Ideal S1x1024 .f32) (ct : FVec Ideal S4096x1024 .f32) (i : Fin 4096) : Fin 1024 → EReal :=
  drow (row h y i) (fun j => ct (ix2 i j) * g (ix2 0 j))

/-- The four gradients: in the stream, what the unit reads, the scale and the shift. -/
def gradH (h : FVec Ideal S4096x1024 .f32) (y : FVec Ideal S4096x2048 .f32) (g : FVec Ideal S1x1024 .f32) (ct : FVec Ideal S4096x1024 .f32) : FVec Ideal S4096x1024 .f32 := fun i =>
  scale * dx h y g ct (i 0) (i 1)
def gradZ (h : FVec Ideal S4096x1024 .f32) (y : FVec Ideal S4096x2048 .f32) (g : FVec Ideal S1x1024 .f32) (ct : FVec Ideal S4096x1024 .f32) : FVec Ideal S4096x2048 .bf16 := fun i =>
  zrow (fun j => y (ix2 (i 0) j)) (dx h y g ct (i 0)) (i 1)
def gradG (h : FVec Ideal S4096x1024 .f32) (y : FVec Ideal S4096x2048 .f32) (ct : FVec Ideal S4096x1024 .f32) : FVec Ideal S1x1024 .f32 := fun i =>
  ∑ k : Fin 4096, nrm (row h y k) (i 1) * ct (ix2 k (i 1))
def gradB (ct : FVec Ideal S4096x1024 .f32) : FVec Ideal S1x1024 .f32 := fun i =>
  ∑ k : Fin 4096, ct (ix2 k (i 1))

variable (m : (ℓ : Loc nD τ sig) → Buf (Elt Ideal) ℓ)

/-- The arguments: stream, what the unit reads, scale and incoming derivative. -/
abbrev inH (c : Dev nD) : Buf (Elt Ideal) ((c : Thread nD τ).loc main_arg0) := m (c.tc.loc main_arg0)
abbrev inY (c : Dev nD) : Buf (Elt Ideal) ((c : Thread nD τ).loc main_arg1) := m (c.tc.loc main_arg1)
abbrev inG (c : Dev nD) : Buf (Elt Ideal) ((c : Thread nD τ).loc main_arg2) := m (c.tc.loc main_arg2)
abbrev inC (c : Dev nD) : Buf (Elt Ideal) ((c : Thread nD τ).loc main_arg4) := m (c.tc.loc main_arg4)

/-- The four results as the claim names them. -/
abbrev resH (c : Dev nD) : Buf (Elt Ideal) ((c : Thread nD τ).loc main_v1_0) :=
  gradH (inH m c) (inY m c) (inG m c) (inC m c)
abbrev resZ (c : Dev nD) : Buf (Elt Ideal) ((c : Thread nD τ).loc main_v1_1) :=
  gradZ (inH m c) (inY m c) (inG m c) (inC m c)
abbrev resG (c : Dev nD) : Buf (Elt Ideal) ((c : Thread nD τ).loc main_v1_2) :=
  gradG (inH m c) (inY m c) (inC m c)
abbrev resB (c : Dev nD) : Buf (Elt Ideal) ((c : Thread nD τ).loc main_v1_3) :=
  gradB (inC m c)

/-- The call's arguments as it reads them. -/
theorem V_h (c : Dev nD) (j : S4096x1024.Idx) : V m c main_arg0 j = inH m c j := by
  unfold_abbrev_sides
  after_results

theorem V_ct (c : Dev nD) (j : S4096x1024.Idx) : V m c main_arg4 j = inC m c j := by
  unfold_abbrev_sides
  after_results

theorem V_y (c : Dev nD) (j : S4096x2048.Idx) : V m c main_v0 j = inY m c j := by
  unfold_abbrev_sides
  after_results
  rfl

theorem V_g (c : Dev nD) (q : Fin 1024) : V m c main_arg2 (ix2 0 q) = inG m c (ix2 0 q) := by
  unfold_abbrev_sides
  after_results

theorem lt_N (n : ℕ) (hn : n < cfg0.N) : n < 8 := lt_of_lt_of_eq hn (show cfg0.N = 8 from N_0)

/-- Which blocks grid point `t` reads and writes. -/
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)

/-- Window 0's block at grid point `n`. -/
theorem iblk0_apply (c : Dev nD) (n : ℕ) (hn : n < cfg0.N) (p : Fin 512) (r : Fin 1024) :
    iblk m c 0 ⟨n, hn⟩ (ix2 p r) = inH m c (ix2 ⟨512 * n + p.val, by have := lt_N n hn; omega⟩ r) := by
  refine Eq.trans ?_ (V_h m c _)
  show V m c main_arg0 _ = V m c main_arg0 _
  congr 1
  obtain ⟨e0, e1⟩ := idx0 ⟨n, hn⟩
  dsimp only at e0 e1
  funext a
  apply Fin.ext
  match a with
  | ⟨0, _⟩ => show win0_0.index ⟨n, hn⟩ (0 : Fin 2) * 512 + 1 * p.val = 512 * n + p.val; rw [e0]; omega
  | ⟨1, _⟩ => show win0_0.index ⟨n, hn⟩ (1 : Fin 2) * 1024 + 1 * r.val = r.val; rw [e1]; omega

/-- Window 1's block at grid point `n`. -/
theorem iblk1_apply (c : Dev nD) (n : ℕ) (hn : n < cfg0.N) (p : Fin 512) (r : Fin 2048) :
    iblk m c 1 ⟨n, hn⟩ (ix2 p r) = inY m c (ix2 ⟨512 * n + p.val, by have := lt_N n hn; omega⟩ r) := by
  refine Eq.trans ?_ (V_y m c _)
  show V m c main_v0 _ = V m c main_v0 _
  congr 1
  obtain ⟨e0, e1⟩ := idx1 ⟨n, hn⟩
  dsimp only at e0 e1
  funext a
  apply Fin.ext
  match a with
  | ⟨0, _⟩ => show win0_1.index ⟨n, hn⟩ (0 : Fin 2) * 512 + 1 * p.val = 512 * n + p.val; rw [e0]; omega
  | ⟨1, _⟩ => show win0_1.index ⟨n, hn⟩ (1 : Fin 2) * 2048 + 1 * r.val = r.val; rw [e1]; omega

/-- Window 4's block at grid point `n`. -/
theorem iblk4_apply (c : Dev nD) (n : ℕ) (hn : n < cfg0.N) (p : Fin 512) (r : Fin 1024) :
    iblk m c 4 ⟨n, hn⟩ (ix2 p r) = inC m c (ix2 ⟨512 * n + p.val, by have := lt_N n hn; omega⟩ r) := by
  refine Eq.trans ?_ (V_ct m c _)
  show V m c main_arg4 _ = V m c main_arg4 _
  congr 1
  obtain ⟨e0, e1⟩ := idx4 ⟨n, hn⟩
  dsimp only at e0 e1
  funext a
  apply Fin.ext
  match a with
  | ⟨0, _⟩ => show win0_4.index ⟨n, hn⟩ (0 : Fin 2) * 512 + 1 * p.val = 512 * n + p.val; rw [e0]; omega
  | ⟨1, _⟩ => show win0_4.index ⟨n, hn⟩ (1 : Fin 2) * 1024 + 1 * r.val = r.val; rw [e1]; omega

/-- The scale, the same at every point. -/
theorem iblk2_apply (c : Dev nD) (t : Fin cfg0.N) (r : Fin 1024) :
    iblk m c 2 t (ix2 0 r) = inG m c (ix2 0 r) := by
  refine Eq.trans ?_ (V_g m c _)
  show V m c main_arg2 _ = V m c main_arg2 _
  congr 1
  obtain ⟨e0, e1⟩ := idx2 t
  funext a
  apply Fin.ext
  match a with
  | ⟨0, _⟩ => show win0_2.index t (0 : Fin 2) * 1 + 1 * 0 = 0; rw [e0]
  | ⟨1, _⟩ => show win0_2.index t (1 : Fin 2) * 1024 + 1 * r.val = r.val; rw [e1]; omega

/-- The rows of the blocks at grid point `n`. -/
theorem rows (c : Dev nD) (n : ℕ) (hn : n < cfg0.N) (p : Fin 512) :
    brow (iblk m c 0 ⟨n, hn⟩) (iblk m c 1 ⟨n, hn⟩) p
      = row (inH m c) (inY m c) ⟨512 * n + p.val, by have := lt_N n hn; omega⟩ := by
  unfold row brow
  exact congrArg cen (congrArg₂ mix (funext fun j => iblk0_apply m c n hn p j) (congrArg unit (funext fun j => iblk1_apply m c n hn p j)))

/-- A product, and a number, as extended reals. -/
def mulE (a b : EReal) : EReal := a * b
def idE (a : EReal) : EReal := a

theorem cts (c : Dev nD) (n : ℕ) (hn : n < cfg0.N) (p : Fin 512) :
    (fun j : Fin 1024 => mulE (iblk m c 4 ⟨n, hn⟩ (ix2 p j)) (iblk m c 2 ⟨n, hn⟩ (ix2 0 j)))
      = fun j => mulE (inC m c (ix2 ⟨512 * n + p.val, by have := lt_N n hn; omega⟩ j)) (inG m c (ix2 0 j)) :=
  funext fun j => congrArg₂ mulE (iblk4_apply m c n hn p j) (iblk2_apply m c ⟨n, hn⟩ j)

/-- The derivative's rows at grid point `n`. -/
theorem dxs (c : Dev nD) (n : ℕ) (hn : n < cfg0.N) (p : Fin 512) :
    bdx (iblk m c 0 ⟨n, hn⟩) (iblk m c 1 ⟨n, hn⟩) (iblk m c 2 ⟨n, hn⟩) (iblk m c 4 ⟨n, hn⟩) p
      = dx (inH m c) (inY m c) (inG m c) (inC m c) ⟨512 * n + p.val, by have := lt_N n hn; omega⟩ := by
  unfold bdx dx
  rw [rows]
  exact congrArg _ (cts m c n hn p)

/-- What a point stores in the residual stream's block. -/
theorem out5_at (c : Dev nD) (t : Fin cfg0.N) :
    (outsAt0 m c t.val t.isLt).1 = k0_pay21 (iblk m c 2 t) (iblk m c 4 t) (k0_pay12 (iblk m c 0 t) (iblk m c 1 t)) (k0_pay14 (iblk m c 0 t) (iblk m c 1 t)) (k0_pay15 (iblk m c 0 t) (iblk m c 1 t)) := by
  by_cases h : t.val % 8 = 0
  · rw [outsAt0_A m c t h h]
    dsimp only
    rw [(outs_A _ _).1]
  · rw [outsAt0_B m c t h h]
    dsimp only
    rw [(outs_B _ _).1]

theorem block5 (c : Dev nD) (n : ℕ) (hn : n < cfg0.N) (p : Fin 512) (r : Fin 1024) :
    (outsAt0 m c n hn).1 (ix2 p r) = resH m c (ix2 ⟨512 * n + p.val, by have := lt_N n hn; omega⟩ r) := by
  rw [out5_at m c ⟨n, hn⟩, pay21_apply, dxs]
  rfl

/-- What a point writes back is its block of the gradient. -/
theorem flushed5_eq (c : Dev nD) (t : Fin cfg0.N) :
    (dats m 0 c).flushed 5 t = ((cfg0.win 5).blk t).view.read (Elt Ideal) (resH m c) := by
  rw [Value.flushed5]
  funext y
  obtain ⟨e0, e1⟩ := idx5 t
  have hy0 : (y 0).val < 512 := (y 0).isLt
  have hy1 : (y 1).val < 1024 := (y 1).isLt
  refine Eq.trans ?_ ((block5 m c t.val t.isLt ⟨(y 0).val, hy0⟩ ⟨(y 1).val, hy1⟩).trans ?_)
  · exact congrArg ((outsAt0 m c t.val t.isLt).1 : Vec Ideal S512x1024 .f32) (funext fun a => by match a with | ⟨0, _⟩ => rfl | ⟨1, _⟩ => rfl)
  · refine congrArg (resH m c) (funext fun a => Fin.ext ?_)
    match a with
    | ⟨0, _⟩ => show 512 * t.val + (y 0).val = win0_5.index t (0 : Fin 2) * 512 + 1 * (y 0).val; rw [e0]; omega
    | ⟨1, _⟩ => show (y 1).val = win0_5.index t (1 : Fin 2) * 1024 + 1 * (y 1).val; rw [e1]; omega

/-- The result array is the gradient. -/
theorem final5 (c : Dev nD) : (dats m 0 c).arrAt 5 cfg0.N = resH m c :=
  (dats m 0 c).arrAt_eq_of_cover 5 _ (fun t _ => flushed5_eq m c t) fun i => by
    have h0 : (i 0).val < 4096 := (i 0).isLt
    have h1 : (i 1).val < 1024 := (i 1).isLt
    have hN : cfg0.N = 8 := N_0
    let t : Fin cfg0.N := ⟨(i 0).val / 512, by omega⟩
    obtain ⟨e0, e1⟩ := idx5 t
    have tv : t.val = (i 0).val / 512 := rfl
    refine ⟨t, flush0_5 t, ?_⟩
    show i ∈ ((View.whole main_v1_0).slice (win0_5.rect t)).set
    rw [View.set_slice_whole, Rect.mem_set_unit]
    intro a
    match a with
    | ⟨0, _⟩ => show win0_5.index t (0 : Fin 2) * 512 ≤ (i 0).val ∧ (i 0).val < win0_5.index t (0 : Fin 2) * 512 + 512; omega
    | ⟨1, _⟩ => show win0_5.index t (1 : Fin 2) * 1024 ≤ (i 1).val ∧ (i 1).val < win0_5.index t (1 : Fin 2) * 1024 + 1024; omega

/-- What a point stores in the gate's block. -/
theorem out6_at (c : Dev nD) (t : Fin cfg0.N) :
    (outsAt0 m c t.val t.isLt).2.1 = k0_pay1 (k0_pay22 (iblk m c 2 t) (iblk m c 4 t) (k0_pay10 (iblk m c 1 t)) (k0_pay12 (iblk m c 0 t) (iblk m c 1 t)) (k0_pay14 (iblk m c 0 t) (iblk m c 1 t)) (k0_pay15 (iblk m c 0 t) (iblk m c 1 t))) (k0_pay23 (iblk m c 2 t) (iblk m c 4 t) (k0_pay7 (iblk m c 1 t)) (k0_pay8 (iblk m c 1 t)) (k0_pay11 (iblk m c 1 t)) (k0_pay12 (iblk m c 0 t) (iblk m c 1 t)) (k0_pay14 (iblk m c 0 t) (iblk m c 1 t)) (k0_pay15 (iblk m c 0 t) (iblk m c 1 t))) (Scalar.ofBits .f32 0x00000000#32) := by
  by_cases h : t.val % 8 = 0
  · rw [outsAt0_A m c t h h]
    dsimp only
    rw [(outs_A _ _).2.1]
  · rw [outsAt0_B m c t h h]
    dsimp only
    rw [(outs_B _ _).2.1]

theorem block6 (c : Dev nD) (n : ℕ) (hn : n < cfg0.N) (p : Fin 512) (r : Fin 2048) :
    (outsAt0 m c n hn).2.1 (ix2 p r) = resZ m c (ix2 ⟨512 * n + p.val, by have := lt_N n hn; omega⟩ r) := by
  rw [out6_at m c ⟨n, hn⟩, payZ_apply, dxs]
  exact congrArg (fun z : Fin 2048 → EReal => zrow z _ r) (funext fun j => iblk1_apply m c n hn p j)

/-- What a point writes back is its block of the gradient. -/
theorem flushed6_eq (c : Dev nD) (t : Fin cfg0.N) :
    (dats m 0 c).flushed 6 t = ((cfg0.win 6).blk t).view.read (Elt Ideal) (resZ m c) := by
  rw [Value.flushed6]
  funext y
  obtain ⟨e0, e1⟩ := idx6 t
  have hy0 : (y 0).val < 512 := (y 0).isLt
  have hy1 : (y 1).val < 2048 := (y 1).isLt
  refine Eq.trans ?_ ((block6 m c t.val t.isLt ⟨(y 0).val, hy0⟩ ⟨(y 1).val, hy1⟩).trans ?_)
  · exact congrArg ((outsAt0 m c t.val t.isLt).2.1 : Vec Ideal S512x2048 .bf16) (funext fun a => by match a with | ⟨0, _⟩ => rfl | ⟨1, _⟩ => rfl)
  · refine congrArg (resZ m c) (funext fun a => Fin.ext ?_)
    match a with
    | ⟨0, _⟩ => show 512 * t.val + (y 0).val = win0_6.index t (0 : Fin 2) * 512 + 1 * (y 0).val; rw [e0]; omega
    | ⟨1, _⟩ => show (y 1).val = win0_6.index t (1 : Fin 2) * 2048 + 1 * (y 1).val; rw [e1]; omega

/-- The result array is the gradient. -/
theorem final6 (c : Dev nD) : (dats m 0 c).arrAt 6 cfg0.N = resZ m c :=
  (dats m 0 c).arrAt_eq_of_cover 6 _ (fun t _ => flushed6_eq m c t) fun i => by
    have h0 : (i 0).val < 4096 := (i 0).isLt
    have h1 : (i 1).val < 2048 := (i 1).isLt
    have hN : cfg0.N = 8 := N_0
    let t : Fin cfg0.N := ⟨(i 0).val / 512, by omega⟩
    obtain ⟨e0, e1⟩ := idx6 t
    have tv : t.val = (i 0).val / 512 := rfl
    refine ⟨t, flush0_6 t, ?_⟩
    show i ∈ ((View.whole main_v1_1).slice (win0_6.rect t)).set
    rw [View.set_slice_whole, Rect.mem_set_unit]
    intro a
    match a with
    | ⟨0, _⟩ => show win0_6.index t (0 : Fin 2) * 512 ≤ (i 0).val ∧ (i 0).val < win0_6.index t (0 : Fin 2) * 512 + 512; omega
    | ⟨1, _⟩ => show win0_6.index t (1 : Fin 2) * 2048 ≤ (i 1).val ∧ (i 1).val < win0_6.index t (1 : Fin 2) * 2048 + 2048; omega

/-- What grid point `n` adds to the scale's sum. -/
def gain7 (c : Dev nD) (q : Fin 1024) (n : Fin 8) : EReal :=
  ∑ p : Fin 512, mulE (nrm (row (inH m c) (inY m c) ⟨512 * n.val + p.val, by omega⟩) q) (inC m c (ix2 ⟨512 * n.val + p.val, by omega⟩ q))

theorem gain7_eq (c : Dev nD) (n : ℕ) (hn : n < cfg0.N) (q : Fin 1024) :
    ∑ p : Fin 512, mulE (nrm (brow (iblk m c 0 ⟨n, hn⟩) (iblk m c 1 ⟨n, hn⟩) p) q) (iblk m c 4 ⟨n, hn⟩ (ix2 p q))
      = gain7 m c q ⟨n, lt_N n hn⟩ := by
  refine Finset.sum_congr rfl fun p _ => ?_
  exact congrArg₂ mulE (congrFun (congrArg nrm (rows m c n hn p)) q) (iblk4_apply m c n hn p q)

theorem acc7_first (c : Dev nD) (h : 0 < cfg0.N) (q : Fin 1024) :
    (outsAt0 m c 0 h).2.2.1 (ix2 0 q) = (0 + gain7 m c q 0 : EReal) := by
  have e := congrArg (fun o => o.2.2.1) (outsAt0_A m c ⟨0, h⟩ rfl rfl)
  dsimp only at e
  rw [e, (outs_A _ _).2.2.1, pay8_apply]
  refine (congrArg₂ (fun a b : EReal => a + b) ?_ (gain7_eq m c 0 h q) :)
  pointwise [k0_pay2]

theorem acc7_next (c : Dev nD) (n : ℕ) (h : n + 1 < cfg0.N) (q : Fin 1024) :
    (outsAt0 m c (n + 1) h).2.2.1 (ix2 0 q) = ((outsAt0 m c n (by omega)).2.2.1 (ix2 0 q) + gain7 m c q ⟨n + 1, lt_N _ h⟩ : EReal) := by
  have hn := lt_N _ h
  have e := congrArg (fun o => o.2.2.1) (outsAt0_B m c ⟨n + 1, h⟩ (by dsimp only; omega) (by dsimp only; omega))
  dsimp only at e
  rw [e, (outs_B _ _).2.2.1, pay8_apply]
  exact (congrArg₂ (fun a b : EReal => a + b) rfl (gain7_eq m c (n + 1) h q) :)

/-- After the last point it is the gradient. -/
theorem acc7_last (c : Dev nD) (n : ℕ) (h : n < cfg0.N) (hs : n = 7) (q : Fin 1024) :
    (outsAt0 m c n h).2.2.1 (ix2 0 q) = resG m c (ix2 0 q) := by
  subst hs
  have hN : cfg0.N = 8 := N_0
  have e := chain_eight (fun n => if h : n < cfg0.N then ((outsAt0 m c n h).2.2.1 (ix2 0 q) : EReal) else 0) (gain7 m c q)
    (by rw [dif_pos (by omega)]; exact acc7_first m c _ q)
    (fun n hn => by rw [dif_pos (by omega), dif_pos (by omega)]; exact acc7_next m c n _ q)
  rw [dif_pos h] at e
  refine e.trans ?_
  exact (sum_eight (fun k : Fin 4096 => mulE (nrm (row (inH m c) (inY m c) k) q) (inC m c (ix2 k q)))).symm

/-- What the last point writes back is the gradient. -/
theorem flushed7_eq (c : Dev nD) (t : Fin cfg0.N) (hf : (cfg0.win 7).flush t = true) :
    (dats m 0 c).flushed 7 t = ((cfg0.win 7).blk t).view.read (Elt Ideal) (resG m c) := by
  have hm : t.val % 8 = 7 := (flush0_7 t).mp hf
  have ht := lt_N _ t.isLt
  rw [Value.flushed7]
  funext y
  obtain ⟨e0, e1⟩ := idx7 t
  have hy0 : (y 0).val < 1 := (y 0).isLt
  have hy1 : (y 1).val < 1024 := (y 1).isLt
  refine Eq.trans ?_ ((acc7_last m c t.val t.isLt (by omega) ⟨(y 1).val, hy1⟩).trans ?_)
  · exact congrArg ((outsAt0 m c t.val t.isLt).2.2.1 : Vec Ideal S1x1024 .f32) (funext fun a => Fin.ext (by match a with | ⟨0, _⟩ => show (y 0).val = 0; omega | ⟨1, _⟩ => rfl))
  · refine congrArg (resG m c) (funext fun a => Fin.ext ?_)
    match a with
    | ⟨0, _⟩ => show 0 = win0_7.index t (0 : Fin 2) * 1 + 1 * (y 0).val; rw [e0]; omega
    | ⟨1, _⟩ => show (y 1).val = win0_7.index t (1 : Fin 2) * 1024 + 1 * (y 1).val; rw [e1]; omega

/-- The result array is the gradient. -/
theorem final7 (c : Dev nD) : (dats m 0 c).arrAt 7 cfg0.N = resG m c :=
  (dats m 0 c).arrAt_eq_of_cover 7 _ (fun t hf => flushed7_eq m c t hf) fun i => by
    have h0 : (i 0).val < 1 := (i 0).isLt
    have h1 : (i 1).val < 1024 := (i 1).isLt
    have hN : cfg0.N = 8 := N_0
    let t : Fin cfg0.N := ⟨7, by omega⟩
    obtain ⟨e0, e1⟩ := idx7 t
    have tv : t.val = 7 := rfl
    refine ⟨t, (flush0_7 t).mpr (by omega), ?_⟩
    show i ∈ ((View.whole main_v1_2).slice (win0_7.rect t)).set
    rw [View.set_slice_whole, Rect.mem_set_unit]
    intro a
    match a with
    | ⟨0, _⟩ => show win0_7.index t (0 : Fin 2) * 1 ≤ (i 0).val ∧ (i 0).val < win0_7.index t (0 : Fin 2) * 1 + 1; omega
    | ⟨1, _⟩ => show win0_7.index t (1 : Fin 2) * 1024 ≤ (i 1).val ∧ (i 1).val < win0_7.index t (1 : Fin 2) * 1024 + 1024; omega

/-- What grid point `n` adds to the shift's sum. -/
def gain8 (c : Dev nD) (q : Fin 1024) (n : Fin 8) : EReal :=
  ∑ p : Fin 512, idE (inC m c (ix2 ⟨512 * n.val + p.val, by omega⟩ q))

theorem gain8_eq (c : Dev nD) (n : ℕ) (hn : n < cfg0.N) (q : Fin 1024) :
    ∑ p : Fin 512, idE (iblk m c 4 ⟨n, hn⟩ (ix2 p q))
      = gain8 m c q ⟨n, lt_N n hn⟩ := by
  refine Finset.sum_congr rfl fun p _ => ?_
  exact congrArg idE (iblk4_apply m c n hn p q)

theorem acc8_first (c : Dev nD) (h : 0 < cfg0.N) (q : Fin 1024) :
    (outsAt0 m c 0 h).2.2.2 (ix2 0 q) = (0 + gain8 m c q 0 : EReal) := by
  have e := congrArg (fun o => o.2.2.2) (outsAt0_A m c ⟨0, h⟩ rfl rfl)
  dsimp only at e
  rw [e, (outs_A _ _).2.2.2, pay7_apply]
  refine (congrArg₂ (fun a b : EReal => a + b) ?_ (gain8_eq m c 0 h q) :)
  pointwise [k0_pay4]

theorem acc8_next (c : Dev nD) (n : ℕ) (h : n + 1 < cfg0.N) (q : Fin 1024) :
    (outsAt0 m c (n + 1) h).2.2.2 (ix2 0 q) = ((outsAt0 m c n (by omega)).2.2.2 (ix2 0 q) + gain8 m c q ⟨n + 1, lt_N _ h⟩ : EReal) := by
  have hn := lt_N _ h
  have e := congrArg (fun o => o.2.2.2) (outsAt0_B m c ⟨n + 1, h⟩ (by dsimp only; omega) (by dsimp only; omega))
  dsimp only at e
  rw [e, (outs_B _ _).2.2.2, pay7_apply]
  exact (congrArg₂ (fun a b : EReal => a + b) rfl (gain8_eq m c (n + 1) h q) :)

/-- After the last point it is the gradient. -/
theorem acc8_last (c : Dev nD) (n : ℕ) (h : n < cfg0.N) (hs : n = 7) (q : Fin 1024) :
    (outsAt0 m c n h).2.2.2 (ix2 0 q) = resB m c (ix2 0 q) := by
  subst hs
  have hN : cfg0.N = 8 := N_0
  have e := chain_eight (fun n => if h : n < cfg0.N then ((outsAt0 m c n h).2.2.2 (ix2 0 q) : EReal) else 0) (gain8 m c q)
    (by rw [dif_pos (by omega)]; exact acc8_first m c _ q)
    (fun n hn => by rw [dif_pos (by omega), dif_pos (by omega)]; exact acc8_next m c n _ q)
  rw [dif_pos h] at e
  refine e.trans ?_
  exact (sum_eight (fun k : Fin 4096 => idE (inC m c (ix2 k q)))).symm

/-- What the last point writes back is the gradient. -/
theorem flushed8_eq (c : Dev nD) (t : Fin cfg0.N) (hf : (cfg0.win 8).flush t = true) :
    (dats m 0 c).flushed 8 t = ((cfg0.win 8).blk t).view.read (Elt Ideal) (resB m c) := by
  have hm : t.val % 8 = 7 := (flush0_8 t).mp hf
  have ht := lt_N _ t.isLt
  rw [Value.flushed8]
  funext y
  obtain ⟨e0, e1⟩ := idx8 t
  have hy0 : (y 0).val < 1 := (y 0).isLt
  have hy1 : (y 1).val < 1024 := (y 1).isLt
  refine Eq.trans ?_ ((acc8_last m c t.val t.isLt (by omega) ⟨(y 1).val, hy1⟩).trans ?_)
  · exact congrArg ((outsAt0 m c t.val t.isLt).2.2.2 : Vec Ideal S1x1024 .f32) (funext fun a => Fin.ext (by match a with | ⟨0, _⟩ => show (y 0).val = 0; omega | ⟨1, _⟩ => rfl))
  · refine congrArg (resB m c) (funext fun a => Fin.ext ?_)
    match a with
    | ⟨0, _⟩ => show 0 = win0_8.index t (0 : Fin 2) * 1 + 1 * (y 0).val; rw [e0]; omega
    | ⟨1, _⟩ => show (y 1).val = win0_8.index t (1 : Fin 2) * 1024 + 1 * (y 1).val; rw [e1]; omega

/-- The result array is the gradient. -/
theorem final8 (c : Dev nD) : (dats m 0 c).arrAt 8 cfg0.N = resB m c :=
  (dats m 0 c).arrAt_eq_of_cover 8 _ (fun t hf => flushed8_eq m c t hf) fun i => by
    have h0 : (i 0).val < 1 := (i 0).isLt
    have h1 : (i 1).val < 1024 := (i 1).isLt
    have hN : cfg0.N = 8 := N_0
    let t : Fin cfg0.N := ⟨7, by omega⟩
    obtain ⟨e0, e1⟩ := idx8 t
    have tv : t.val = 7 := rfl
    refine ⟨t, (flush0_8 t).mpr (by omega), ?_⟩
    show i ∈ ((View.whole main_v1_3).slice (win0_8.rect t)).set
    rw [View.set_slice_whole, Rect.mem_set_unit]
    intro a
    match a with
    | ⟨0, _⟩ => show win0_8.index t (0 : Fin 2) * 1 ≤ (i 0).val ∧ (i 0).val < win0_8.index t (0 : Fin 2) * 1 + 1; omega
    | ⟨1, _⟩ => show win0_8.index t (1 : Fin 2) * 1024 ≤ (i 1).val ∧ (i 1).val < win0_8.index t (1 : Fin 2) * 1024 + 1024; omega

/-- The kernel's run: the results, the arguments kept. -/
theorem run (g : Dev nD → PrngReg) : θ_run defs (onTc (τ := τ) (main (F := Ideal))) ⟨m, fun _ => 0, g⟩ fun r => ∀ c : Dev nD,
    r.2.mem (c.tc.loc main_v1_0) = resH m c
    ∧ r.2.mem (c.tc.loc main_v1_1) = resZ m c
    ∧ r.2.mem (c.tc.loc main_v1_2) = resG m c
    ∧ r.2.mem (c.tc.loc main_v1_3) = resB m c
    ∧ r.2.mem (c.tc.loc main_arg0) = m (c.tc.loc main_arg0)
    ∧ r.2.mem (c.tc.loc main_arg1) = m (c.tc.loc main_arg1)
    ∧ r.2.mem (c.tc.loc main_arg2) = m (c.tc.loc main_arg2)
    ∧ r.2.mem (c.tc.loc main_arg3) = m (c.tc.loc main_arg3)
    ∧ r.2.mem (c.tc.loc main_arg4) = m (c.tc.loc main_arg4) :=
  (θ_run defs _ _).mono (fun _ h c => ⟨(h c).1.trans (final5 m c), (h c).2.1.trans (final6 m c), (h c).2.2.1.trans (final7 m c),
    (h c).2.2.2.1.trans (final8 m c), (h c).2.2.2.2⟩) (Value.run_blocks m g)

end Cert.GluLnBwdIdeal.Hand

namespace Cert.GluLnBwdRefIdeal.Hand

open Cert.GluLnBwdRefIdeal Cert.GluLnBwdRefIdeal.Gen Idealize.ShloMosaic Idealize.ShloMosaic.TcCoe Idealize.SL.Sem
open Cert.Hand.Norm
open Cert.GluLnBwdIdeal.Hand (gradH gradZ gradG gradB zrow)

/-- The gate's array, and the two halves of the derivative in what the unit reads, at an index. -/
abbrev gate (z : FVec Ideal S4096x2048 .f32) : FVec Ideal S4096x1024 .f32 :=
  Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 1024] z slices_S4096x2048_S4096x1024_0_1024))))

theorem halves (D : FVec Ideal S4096x1024 .f32) (z : FVec Ideal S4096x2048 .f32) (p : Fin 4096) (q : Fin 2048) :
    truncf .bf16 (addf (pad S4096x2048 ![0, 1024] ![0, 0] ![0, 0] (mulf (mulf (extractStridedSlice S4096x1024 ![0, 0] z slices_S4096x2048_S4096x1024_0_0) D) (mulf (gate z) (subf (broadcastInDim S4096x1024 ![] bcast_S_S4096x1024 (constant S_ .f32 0x3F800000#32)) (gate z)))) (constant S_ .f32 0x00000000#32) pads_S4096x1024_S4096x2048_000_102400 h_S_)
      (pad S4096x2048 ![0, 0] ![0, 1024] ![0, 0] (mulf D (gate z)) (constant S_ .f32 0x00000000#32) pads_S4096x1024_S4096x2048_000_010240 h_S_)) bitsLt_bf16_f32 (ix2 p q)
      = zrow (fun j => z (ix2 p j)) (fun j => D (ix2 p j)) q := by
  unfold zrow
  split
  · next h =>
    obtain ⟨r, rfl⟩ : ∃ r : Fin 1024, q = ⟨r.val, Nat.lt_trans r.isLt (by decide)⟩ := ⟨⟨q.val, h⟩, rfl⟩
    pointwise [gate]
    rw [dif_neg (fun h => h.1)]
    exact zero_add _
  · next h =>
    obtain ⟨r, rfl⟩ : ∃ r : Fin 1024, q = ⟨1024 + r.val, Nat.add_lt_add_left r.isLt 1024⟩ := ⟨⟨q.val - 1024, by omega⟩, Fin.ext (by dsimp only; omega)⟩
    pointwise [gate]
    rfl

set_option maxHeartbeats 1600000 in
/-- The reference's run: the same results, the arguments kept. -/
theorem run (m : (ℓ : Loc nD τ sig) → Buf (Elt Ideal) ℓ) (g : Dev nD → PrngReg) :
    θ_run defs (onTc (τ := τ) (main (F := Ideal))) ⟨m, fun _ => 0, g⟩ fun r => ∀ c : Dev nD,
    r.2.mem (c.tc.loc main_v81) = gradH (m (c.tc.loc main_arg0)) (m (c.tc.loc main_arg1)) (m (c.tc.loc main_arg2)) (m (c.tc.loc main_arg4))
    ∧ r.2.mem (c.tc.loc main_v82) = gradZ (m (c.tc.loc main_arg0)) (m (c.tc.loc main_arg1)) (m (c.tc.loc main_arg2)) (m (c.tc.loc main_arg4))
    ∧ r.2.mem (c.tc.loc main_v83) = gradG (m (c.tc.loc main_arg0)) (m (c.tc.loc main_arg1)) (m (c.tc.loc main_arg4))
    ∧ r.2.mem (c.tc.loc main_v84) = gradB (m (c.tc.loc main_arg4))
    ∧ r.2.mem (c.tc.loc main_arg0) = m (c.tc.loc main_arg0)
    ∧ r.2.mem (c.tc.loc main_arg1) = m (c.tc.loc main_arg1)
    ∧ r.2.mem (c.tc.loc main_arg2) = m (c.tc.loc main_arg2)
    ∧ r.2.mem (c.tc.loc main_arg3) = m (c.tc.loc main_arg3)
    ∧ r.2.mem (c.tc.loc main_arg4) = m (c.tc.loc main_arg4) := by
  refine (θ_run defs _ _).mono (fun r h c => ⟨(h c).1.trans ?_, (h c).2.1.trans ?_, (h c).2.2.1.trans ?_, (h c).2.2.2.1.trans ?_, (h c).2.2.2.2⟩) (Value.run m g)
  all_goals clear h
  all_goals try unfold Value.res_main_v81
  all_goals try unfold Value.res_main_v82
  all_goals try unfold Value.res_main_v83
  all_goals generalize m (c.tc.loc main_arg0) = x0
  all_goals generalize m (c.tc.loc main_arg1) = x1
  all_goals generalize m (c.tc.loc main_arg2) = x2
  all_goals generalize m (c.tc.loc main_arg4) = x4
  all_goals have hw : ∀ n : Fin 1024, shapeCast S1024 x2 shapeCasts_S1x1024_S1024 (ix1 n) = x2 (ix2 0 n) := fun n =>
    (shapeCast_dropUnit_apply ![1024] x2 _ (ix1 n)).trans (congrArg x2 (funext fun a => by match a with | ⟨0, _⟩ => rfl | ⟨1, _⟩ => rfl))
  all_goals try generalize shapeCast S1024 x2 shapeCasts_S1x1024_S1024 = w at hw ⊢
  all_goals funext i
  · obtain ⟨p, q, rfl⟩ : ∃ (p : Fin 4096) (q : Fin 1024), i = ix2 p q := ⟨i 0, i 1, eq_ix2 i⟩
    pointwise
    simp only [Fin.sum_univ_one, Finset.univ_unique, Finset.sum_singleton]
    try simp only [hw]
    rfl
  · obtain ⟨p, q, rfl⟩ : ∃ (p : Fin 4096) (q : Fin 2048), i = ix2 p q := ⟨i 0, i 1, eq_ix2 i⟩
    refine (halves _ x1 p q).trans (congrArg (fun u : Fin 1024 → EReal => zrow (fun j => x1 (ix2 p j)) u q) (funext fun j => ?_))
    pointwise
    simp only [Fin.sum_univ_one, Finset.univ_unique, Finset.sum_singleton]
    try simp only [hw]
    rfl
  · obtain ⟨p, q, rfl⟩ : ∃ (p : Fin 1) (q : Fin 1024), i = ix2 p q := ⟨i 0, i 1, eq_ix2 i⟩
    pointwise
    simp only [Fin.sum_univ_one, Finset.univ_unique, Finset.sum_singleton]
    try simp only [hw]
    show _ = ∑ k : Fin 4096, nrm (Cert.GluLnBwdIdeal.Hand.row x0 x1 k) q * x4 (ix2 k q)
    rfl
  · obtain ⟨p, q, rfl⟩ : ∃ (p : Fin 1) (q : Fin 1024), i = ix2 p q := ⟨i 0, i 1, eq_ix2 i⟩
    pointwise
    simp only [Fin.sum_univ_one, Finset.univ_unique, Finset.sum_singleton]
    try simp only [hw]
    rfl

end Cert.GluLnBwdRefIdeal.Hand

end
-- ==== Proof.GateVal.lean ====
/-
  The gate of the time mix over the extended reals: each head of 64 channels is normalised, scaled and shifted, the bonus
  is added, and the gate multiplies. The call goes over eight blocks of 512 tokens, two heads at a time.
-/
module

public import proofs.«01_k».proof.Proof.Gen.GateIdeal.Value
public import proofs.«01_k».proof.Proof.Gen.GateRefIdeal.Run
public import proofs.«01_k».proof.Proof.Base

@[expose] public section

noncomputable section

namespace Cert.GateIdeal.Hand

open Cert.GateIdeal Cert.GateIdeal.Gen Idealize.ShloMosaic Idealize.ShloMosaic.TcCoe Idealize.SL.Sem
open Idealize.ShloMosaic.Pipeline (Dat)

/-- The first of a pair's two heads. -/
def mask : IVec S512x128 1 := broadcastTo S512x128 (shapeCast S1x128 k0_pay1 shapeCasts_S1x128_S1x128) broadcasts_S1x128_S512x128
def zeros : FVec Ideal S512x128 .f32 := broadcast S512x128 (Scalar.ofBits .f32 0x00000000#32 : Ideal .f32)

/-- The mean of each head of a pair, at every lane. -/
def hmean (t : FVec Ideal S512x128 .f32) : FVec Ideal S512x128 .f32 :=
  mulf (select mask
    (broadcastTo S512x128 (shapeCast S512x1 (shapeCast S512x1 (multiReduction .add [1] S512 (select mask t zeros) 0x00000000#32 reduces_S512x128_S512 (.inl rfl) rfl) shapeCasts_S512_S512x1) shapeCasts_S512x1_S512x1) broadcasts_S512x1_S512x128)
    (broadcastTo S512x128 (shapeCast S512x1 (shapeCast S512x1 (multiReduction .add [1] S512 (select mask zeros t) 0x00000000#32 reduces_S512x128_S512 (.inl rfl) rfl) shapeCasts_S512_S512x1) shapeCasts_S512x1_S512x1) broadcasts_S512x1_S512x128))
    (broadcast S512x128 (Scalar.ofBits .f32 0x3C800000#32 : Ideal .f32))

/-- A pair of heads, normalised and gated. -/
def pair (o b g : FVec Ideal S512x128 .f32) (w s : FVec Ideal S1x128 .f32) : FVec Ideal S512x128 .f32 :=
  mulf (addf (addf (mulf (mulf (subf o (hmean o)) (rsqrt (addf (hmean (mulf (subf o (hmean o)) (subf o (hmean o)))) (broadcast S512x128 (Scalar.ofBits .f32 0x3A27C5AC#32 : Ideal .f32)))))
    (broadcastTo S512x128 w broadcasts_S1x128_S512x128)) (broadcastTo S512x128 s broadcasts_S1x128_S512x128)) b) g

variable (x0 x1 x2 : Vec Ideal S512x1024 .f32) (x3 x4 : Vec Ideal S1x1024 .f32)

/-- The pair of heads cut out at some offset. -/
abbrev pairAt (f : Fin 2 → ℕ) (h : S512x1024.Slices f S512x128) (h' : S1x1024.Slices f S1x128) :=
  pair (extractStridedSlice S512x128 f x0 h) (extractStridedSlice S512x128 f x1 h) (extractStridedSlice S512x128 f x2 h) (extractStridedSlice S1x128 f x3 h') (extractStridedSlice S1x128 f x4 h')

/-- The block a point leaves: eight pairs of heads side by side. -/
theorem out5_eq : out0_5 x0 x1 x2 x3 x4 = truncf .bf16 (concatenate S512x1024 1 [
    ⟨S512x128, pairAt x0 x1 x2 x3 x4 ![0, 0] slices_S512x1024_o0_0_S512x128 slices_S1x1024_o0_0_S1x128⟩,
    ⟨S512x128, pairAt x0 x1 x2 x3 x4 ![0, 128] slices_S512x1024_o0_128_S512x128 slices_S1x1024_o0_128_S1x128⟩,
    ⟨S512x128, pairAt x0 x1 x2 x3 x4 ![0, 256] slices_S512x1024_o0_256_S512x128 slices_S1x1024_o0_256_S1x128⟩,
    ⟨S512x128, pairAt x0 x1 x2 x3 x4 ![0, 384] slices_S512x1024_o0_384_S512x128 slices_S1x1024_o0_384_S1x128⟩,
    ⟨S512x128, pairAt x0 x1 x2 x3 x4 ![0, 512] slices_S512x1024_o0_512_S512x128 slices_S1x1024_o0_512_S1x128⟩,
    ⟨S512x128, pairAt x0 x1 x2 x3 x4 ![0, 640] slices_S512x1024_o0_640_S512x128 slices_S1x1024_o0_640_S1x128⟩,
    ⟨S512x128, pairAt x0 x1 x2 x3 x4 ![0, 768] slices_S512x1024_o0_768_S512x128 slices_S1x1024_o0_768_S1x128⟩,
    ⟨S512x128, pairAt x0 x1 x2 x3 x4 ![0, 896] slices_S512x1024_o0_896_S512x128 slices_S1x1024_o0_896_S1x128⟩] concatenates_S512x128_S512x128_S512x128_S512x128_S512x128_S512x128_S512x128_S512x128_S512x1024_d1) bitsLt_bf16_f32 := by
  unfold out0_5 k0_pay38
  rw [View.canon_unit_zero hz]
  simp only [View.ld_unit_zero (S := S512x1024) hz, View.ld_unit_zero (S := S1x1024) hz]
  rfl

/-- The mean of a position's head, in a row. -/
def hm (a : Fin 1024 → EReal) (j : Fin 1024) : EReal :=
  (∑ k : Fin 64, a ⟨64 * (j.val / 64) + k.val, by omega⟩) * Ideal.ofBits .f32 0x3C800000#32

/-- A row of heads, each normalised, scaled, shifted, with the bonus added, gated. -/
def gated (o b g w s : Fin 1024 → EReal) (j : Fin 1024) : EReal :=
  ((o j - hm o j) * Ideal.rsqrt (hm (fun k => (o k - hm o k) * (o k - hm o k)) j + Ideal.ofBits .f32 0x3A27C5AC#32) * w j + s j + b j) * g j

/-- All positions of a head have the same mean. -/
theorem gated_eq (o b g w s : Fin 1024 → EReal) (q : Fin 1024) :
    gated o b g w s q = ((o q - hm o q) * Ideal.rsqrt ((∑ k : Fin 64, (o ⟨64 * (q.val / 64) + k.val, by omega⟩ - hm o q) * (o ⟨64 * (q.val / 64) + k.val, by omega⟩ - hm o q))
      * Ideal.ofBits .f32 0x3C800000#32 + Ideal.ofBits .f32 0x3A27C5AC#32) * w q + s q + b q) * g q := by
  have e : ∀ k : Fin 64, hm o ⟨64 * (q.val / 64) + k.val, by omega⟩ = hm o q := fun k => by
    unfold hm
    simp only [show (64 * (q.val / 64) + k.val) / 64 = q.val / 64 by omega]
  have e2 : hm (fun k => (o k - hm o k) * (o k - hm o k)) q = (∑ k : Fin 64, (o ⟨64 * (q.val / 64) + k.val, by omega⟩ - hm o q) * (o ⟨64 * (q.val / 64) + k.val, by omega⟩ - hm o q))
      * Ideal.ofBits .f32 0x3C800000#32 := congrArg (· * _) (Finset.sum_congr rfl fun k _ => by dsimp only; rw [e])
  unfold gated
  rw [e2]

/-- The first head's lanes. -/
theorem sel (k : Fin 128) (a b : EReal) :
    Scalar.select (IntOp.cmpi .slt (BitVec.ofNat 32 k.val) 64#32) a b = if k.val < 64 then a else b := by
  have h : ∀ k : Fin 128, (IntOp.cmpi .slt (BitVec.ofNat 32 k.val) 64#32 = 1) ↔ k.val < 64 := by decide
  exact if_congr (h k) rfl rfl

/-- The mean of a head of a slice is that of the row. -/
theorem hmean_apply (t : FVec Ideal S512x128 .f32) (p : Fin 512) (n : ℕ) (hn : n < 8) (a : Fin 1024 → EReal)
    (h : ∀ k : Fin 128, t (ix2 p k) = a ⟨128 * n + k.val, by omega⟩) (q : Fin 128) :
    hmean t (ix2 p q) = hm a ⟨128 * n + q.val, by omega⟩ := by
  unfold hmean mask zeros hm
  pointwise [k0_pay1]
  simp only [sel, h]
  refine congrArg (· * _) ?_
  rw [Fin.sum_univ_add (a := 64) (b := 64), Fin.sum_univ_add (a := 64) (b := 64)]
  simp only [Fin.val_castAdd, Fin.val_natAdd, Fin.is_lt, if_true, show ∀ i : Fin 64, ¬64 + i.val < 64 from fun i => by omega, if_false,
    Finset.sum_const_zero, add_zero, zero_add]
  split
  · exact Finset.sum_congr rfl fun k _ => congrArg a (Fin.ext (by show 128 * n + k.val = 64 * ((128 * n + q.val) / 64) + k.val; omega))
  · exact Finset.sum_congr rfl fun k _ => congrArg a (Fin.ext (by show 128 * n + (64 + k.val) = 64 * ((128 * n + q.val) / 64) + k.val; omega))

/-- A pair of heads is a part of the row. -/
theorem pair_apply (o b g : FVec Ideal S512x128 .f32) (w s : FVec Ideal S1x128 .f32) (p : Fin 512) (n : ℕ) (hn : n < 8) (o' b' g' w' s' : Fin 1024 → EReal)
    (ho : ∀ k : Fin 128, o (ix2 p k) = o' ⟨128 * n + k.val, by omega⟩) (hb : ∀ k : Fin 128, b (ix2 p k) = b' ⟨128 * n + k.val, by omega⟩)
    (hg : ∀ k : Fin 128, g (ix2 p k) = g' ⟨128 * n + k.val, by omega⟩) (hw : ∀ k : Fin 128, w (ix2 0 k) = w' ⟨128 * n + k.val, by omega⟩)
    (hs : ∀ k : Fin 128, s (ix2 0 k) = s' ⟨128 * n + k.val, by omega⟩) (q : Fin 128) :
    pair o b g w s (ix2 p q) = gated o' b' g' w' s' ⟨128 * n + q.val, by omega⟩ := by
  have e1 := hmean_apply o p n hn o' ho
  have e2 := hmean_apply (mulf (subf o (hmean o)) (subf o (hmean o))) p n hn (fun k => (o' k - hm o' k) * (o' k - hm o' k)) fun k => by
    pointwise
    rw [ho, e1]
  unfold pair gated
  generalize mulf (subf o (hmean o)) (subf o (hmean o)) = v at e2 ⊢
  generalize hmean v = v' at e2 ⊢
  generalize hmean o = m at e1 ⊢
  pointwise
  rw [ho, e1, e2, hw, hs, hb, hg]

/-- Eight slices of a row side by side are the row. -/
theorem cat_apply (e0 e1 e2 e3 e4 e5 e6 e7 : FVec Ideal S512x128 .f32) (G : Fin 1024 → EReal) (p : Fin 512)
    (h0 : ∀ k : Fin 128, e0 (ix2 p k) = G ⟨128 * 0 + k.val, by omega⟩)
    (h1 : ∀ k : Fin 128, e1 (ix2 p k) = G ⟨128 * 1 + k.val, by omega⟩)
    (h2 : ∀ k : Fin 128, e2 (ix2 p k) = G ⟨128 * 2 + k.val, by omega⟩)
    (h3 : ∀ k : Fin 128, e3 (ix2 p k) = G ⟨128 * 3 + k.val, by omega⟩)
    (h4 : ∀ k : Fin 128, e4 (ix2 p k) = G ⟨128 * 4 + k.val, by omega⟩)
    (h5 : ∀ k : Fin 128, e5 (ix2 p k) = G ⟨128 * 5 + k.val, by omega⟩)
    (h6 : ∀ k : Fin 128, e6 (ix2 p k) = G ⟨128 * 6 + k.val, by omega⟩)
    (h7 : ∀ k : Fin 128, e7 (ix2 p k) = G ⟨128 * 7 + k.val, by omega⟩) (q : Fin 1024) :
    concatenate S512x1024 1 [⟨S512x128, e0⟩, ⟨S512x128, e1⟩, ⟨S512x128, e2⟩, ⟨S512x128, e3⟩, ⟨S512x128, e4⟩, ⟨S512x128, e5⟩, ⟨S512x128, e6⟩, ⟨S512x128, e7⟩] concatenates_S512x128_S512x128_S512x128_S512x128_S512x128_S512x128_S512x128_S512x128_S512x1024_d1 (ix2 p q) = G q := by
  pointwise
  repeat' split
  · exact (h0 _).trans (congrArg G (Fin.ext (by show 128 * 0 + (q.val) = q.val; omega)))
  · exact (h1 _).trans (congrArg G (Fin.ext (by show 128 * 1 + (q.val - 128) = q.val; omega)))
  · exact (h2 _).trans (congrArg G (Fin.ext (by show 128 * 2 + (q.val - 128 - 128) = q.val; omega)))
  · exact (h3 _).trans (congrArg G (Fin.ext (by show 128 * 3 + (q.val - 128 - 128 - 128) = q.val; omega)))
  · exact (h4 _).trans (congrArg G (Fin.ext (by show 128 * 4 + (q.val - 128 - 128 - 128 - 128) = q.val; omega)))
  · exact (h5 _).trans (congrArg G (Fin.ext (by show 128 * 5 + (q.val - 128 - 128 - 128 - 128 - 128) = q.val; omega)))
  · exact (h6 _).trans (congrArg G (Fin.ext (by show 128 * 6 + (q.val - 128 - 128 - 128 - 128 - 128 - 128) = q.val; omega)))
  · exact (h7 _).trans (congrArg G (Fin.ext (by show 128 * 7 + (q.val - 128 - 128 - 128 - 128 - 128 - 128 - 128) = q.val; omega)))

/-- The block of a point at an index, over the rows of the blocks read. -/
theorem out5_apply (p : Fin 512) (q : Fin 1024) :
    out0_5 x0 x1 x2 x3 x4 (ix2 p q) = gated (fun j => x0 (ix2 p j)) (fun j => x1 (ix2 p j)) (fun j => x2 (ix2 p j)) (fun j => x3 (ix2 0 j)) (fun j => x4 (ix2 0 j)) q := by
  rw [out5_eq]
  refine cat_apply _ _ _ _ _ _ _ _ _ p ?_ ?_ ?_ ?_ ?_ ?_ ?_ ?_ q
  all_goals refine pair_apply _ _ _ _ _ p _ (by decide) _ _ _ _ _ (fun k => ?_) (fun k => ?_) (fun k => ?_) (fun k => ?_) (fun k => ?_)
  all_goals pointwise

/-- Every row gated. -/
def gates (o b g : FVec Ideal S4096x1024 .f32) (w s : FVec Ideal S1x1024 .f32) (i : S4096x1024.Idx) : EReal :=
  gated (fun j => o (ix2 (i 0) j)) (fun j => b (ix2 (i 0) j)) (fun j => g (ix2 (i 0) j)) (fun j => w (ix2 0 j)) (fun j => s (ix2 0 j)) (i 1)

variable (m : (ℓ : Loc nD τ sig) → Buf (Elt Ideal) ℓ)

/-- The result as the claim names it. -/
abbrev resF (c : Dev nD) : Buf (Elt Ideal) ((c : Thread nD τ).loc main_v0) := fun i =>
  gates (m (c.tc.loc main_arg0)) (m (c.tc.loc main_arg1)) (m (c.tc.loc main_arg2)) (m (c.tc.loc main_arg3)) (m (c.tc.loc main_arg4)) i

/-- The call's arguments as it reads them. -/
theorem V_0 (c : Dev nD) (j : S4096x1024.Idx) : V m c main_arg0 j = m (c.tc.loc main_arg0) j := by
  unfold_abbrev_sides
  after_results

theorem V_1 (c : Dev nD) (j : S4096x1024.Idx) : V m c main_arg1 j = m (c.tc.loc main_arg1) j := by
  unfold_abbrev_sides
  after_results

theorem V_2 (c : Dev nD) (j : S4096x1024.Idx) : V m c main_arg2 j = m (c.tc.loc main_arg2) j := by
  unfold_abbrev_sides
  after_results

theorem V_3 (c : Dev nD) (j : S1x1024.Idx) : V m c main_arg3 j = m (c.tc.loc main_arg3) j := by
  unfold_abbrev_sides
  after_results

theorem V_4 (c : Dev nD) (j : S1x1024.Idx) : V m c main_arg4 j = m (c.tc.loc main_arg4) j := by
  unfold_abbrev_sides
  after_results

theorem lt_N (n : ℕ) (hn : n < cfg0.N) : n < 8 := lt_of_lt_of_eq hn (show cfg0.N = 8 from N_0)

/-- Which blocks grid point `t` reads and writes. -/
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)

/-- Window 0's block at grid point `n`. -/
theorem iblk0_apply (c : Dev nD) (n : ℕ) (hn : n < cfg0.N) (p : Fin 512) (r : Fin 1024) :
    iblk m c 0 ⟨n, hn⟩ (ix2 p r) = m (c.tc.loc main_arg0) (ix2 ⟨512 * n + p.val, by have := lt_N n hn; omega⟩ r) := by
  refine Eq.trans ?_ (V_0 m c _)
  show V m c main_arg0 _ = V m c main_arg0 _
  congr 1
  obtain ⟨e0, e1⟩ := idx0 ⟨n, hn⟩
  dsimp only at e0 e1
  funext a
  apply Fin.ext
  match a with
  | ⟨0, _⟩ => show win0_0.index ⟨n, hn⟩ (0 : Fin 2) * 512 + 1 * p.val = 512 * n + p.val; rw [e0]; omega
  | ⟨1, _⟩ => show win0_0.index ⟨n, hn⟩ (1 : Fin 2) * 1024 + 1 * r.val = r.val; rw [e1]; omega

/-- Window 1's block at grid point `n`. -/
theorem iblk1_apply (c : Dev nD) (n : ℕ) (hn : n < cfg0.N) (p : Fin 512) (r : Fin 1024) :
    iblk m c 1 ⟨n, hn⟩ (ix2 p r) = m (c.tc.loc main_arg1) (ix2 ⟨512 * n + p.val, by have := lt_N n hn; omega⟩ r) := by
  refine Eq.trans ?_ (V_1 m c _)
  show V m c main_arg1 _ = V m c main_arg1 _
  congr 1
  obtain ⟨e0, e1⟩ := idx1 ⟨n, hn⟩
  dsimp only at e0 e1
  funext a
  apply Fin.ext
  match a with
  | ⟨0, _⟩ => show win0_1.index ⟨n, hn⟩ (0 : Fin 2) * 512 + 1 * p.val = 512 * n + p.val; rw [e0]; omega
  | ⟨1, _⟩ => show win0_1.index ⟨n, hn⟩ (1 : Fin 2) * 1024 + 1 * r.val = r.val; rw [e1]; omega

/-- Window 2's block at grid point `n`. -/
theorem iblk2_apply (c : Dev nD) (n : ℕ) (hn : n < cfg0.N) (p : Fin 512) (r : Fin 1024) :
    iblk m c 2 ⟨n, hn⟩ (ix2 p r) = m (c.tc.loc main_arg2) (ix2 ⟨512 * n + p.val, by have := lt_N n hn; omega⟩ r) := by
  refine Eq.trans ?_ (V_2 m c _)
  show V m c main_arg2 _ = V m c main_arg2 _
  congr 1
  obtain ⟨e0, e1⟩ := idx2 ⟨n, hn⟩
  dsimp only at e0 e1
  funext a
  apply Fin.ext
  match a with
  | ⟨0, _⟩ => show win0_2.index ⟨n, hn⟩ (0 : Fin 2) * 512 + 1 * p.val = 512 * n + p.val; rw [e0]; omega
  | ⟨1, _⟩ => show win0_2.index ⟨n, hn⟩ (1 : Fin 2) * 1024 + 1 * r.val = r.val; rw [e1]; omega

/-- The scale, the same at every point. -/
theorem iblk3_apply (c : Dev nD) (t : Fin cfg0.N) (r : Fin 1024) :
    iblk m c 3 t (ix2 0 r) = m (c.tc.loc main_arg3) (ix2 0 r) := by
  refine Eq.trans ?_ (V_3 m c _)
  show V m c main_arg3 _ = V m c main_arg3 _
  congr 1
  obtain ⟨e0, e1⟩ := idx3 t
  funext a
  apply Fin.ext
  match a with
  | ⟨0, _⟩ => show win0_3.index t (0 : Fin 2) * 1 + 1 * 0 = 0; rw [e0]
  | ⟨1, _⟩ => show win0_3.index t (1 : Fin 2) * 1024 + 1 * r.val = r.val; rw [e1]; omega

/-- The shift, the same at every point. -/
theorem iblk4_apply (c : Dev nD) (t : Fin cfg0.N) (r : Fin 1024) :
    iblk m c 4 t (ix2 0 r) = m (c.tc.loc main_arg4) (ix2 0 r) := by
  refine Eq.trans ?_ (V_4 m c _)
  show V m c main_arg4 _ = V m c main_arg4 _
  congr 1
  obtain ⟨e0, e1⟩ := idx4 t
  funext a
  apply Fin.ext
  match a with
  | ⟨0, _⟩ => show win0_4.index t (0 : Fin 2) * 1 + 1 * 0 = 0; rw [e0]
  | ⟨1, _⟩ => show win0_4.index t (1 : Fin 2) * 1024 + 1 * r.val = r.val; rw [e1]; omega

/-- A gated row of the blocks is a gated row of the arrays. -/
theorem rows (c : Dev nD) (n : ℕ) (hn : n < cfg0.N) (p : Fin 512) (r : Fin 1024) :
    gated (fun j => iblk m c 0 ⟨n, hn⟩ (ix2 p j)) (fun j => iblk m c 1 ⟨n, hn⟩ (ix2 p j)) (fun j => iblk m c 2 ⟨n, hn⟩ (ix2 p j))
        (fun j => iblk m c 3 ⟨n, hn⟩ (ix2 0 j)) (fun j => iblk m c 4 ⟨n, hn⟩ (ix2 0 j)) r
      = resF m c (ix2 ⟨512 * n + p.val, by have := lt_N n hn; omega⟩ r) :=
  congrFun (congr (congr (congr (congrArg₂ gated (funext fun j => iblk0_apply m c n hn p j) (funext fun j => iblk1_apply m c n hn p j))
    (funext fun j => iblk2_apply m c n hn p j)) (funext fun j => iblk3_apply m c ⟨n, hn⟩ j)) (funext fun j => iblk4_apply m c ⟨n, hn⟩ j)) r

/-- What a point writes back is its block of the result. -/
theorem flushed5_eq (c : Dev nD) (t : Fin cfg0.N) :
    (dats m 0 c).flushed 5 t = ((cfg0.win 5).blk t).view.read (Elt Ideal) (resF m c) := by
  rw [Value.flushed5]
  funext y
  obtain ⟨e0, e1⟩ := idx5 t
  have hy0 : (y 0).val < 512 := (y 0).isLt
  have hy1 : (y 1).val < 1024 := (y 1).isLt
  refine Eq.trans ?_ (((out5_apply (iblk m c 0 t) (iblk m c 1 t) (iblk m c 2 t) (iblk m c 3 t) (iblk m c 4 t) ⟨(y 0).val, hy0⟩ ⟨(y 1).val, hy1⟩).trans (rows m c t.val t.isLt _ _)).trans ?_)
  · exact congrArg (out0_5 (iblk m c 0 t) (iblk m c 1 t) (iblk m c 2 t) (iblk m c 3 t) (iblk m c 4 t)) (funext fun a => by match a with | ⟨0, _⟩ => rfl | ⟨1, _⟩ => rfl)
  · refine congrArg (resF m c) (funext fun a => Fin.ext ?_)
    match a with
    | ⟨0, _⟩ => show 512 * t.val + (y 0).val = win0_5.index t (0 : Fin 2) * 512 + 1 * (y 0).val; rw [e0]; omega
    | ⟨1, _⟩ => show (y 1).val = win0_5.index t (1 : Fin 2) * 1024 + 1 * (y 1).val; rw [e1]; omega

/-- The result array is every row gated. -/
theorem final5 (c : Dev nD) : (dats m 0 c).arrAt 5 cfg0.N = resF m c :=
  (dats m 0 c).arrAt_eq_of_cover 5 _ (fun t _ => flushed5_eq m c t) fun i => by
    have h0 : (i 0).val < 4096 := (i 0).isLt
    have h1 : (i 1).val < 1024 := (i 1).isLt
    have hN : cfg0.N = 8 := N_0
    let t : Fin cfg0.N := ⟨(i 0).val / 512, by omega⟩
    obtain ⟨e0, e1⟩ := idx5 t
    have tv : t.val = (i 0).val / 512 := rfl
    refine ⟨t, flush0_5 t, ?_⟩
    show i ∈ ((View.whole main_v0).slice (win0_5.rect t)).set
    rw [View.set_slice_whole, Rect.mem_set_unit]
    intro a
    match a with
    | ⟨0, _⟩ => show win0_5.index t (0 : Fin 2) * 512 ≤ (i 0).val ∧ (i 0).val < win0_5.index t (0 : Fin 2) * 512 + 512; omega
    | ⟨1, _⟩ => show win0_5.index t (1 : Fin 2) * 1024 ≤ (i 1).val ∧ (i 1).val < win0_5.index t (1 : Fin 2) * 1024 + 1024; omega

/-- The kernel's run: the result, the arguments kept. -/
theorem run (g : Dev nD → PrngReg) : θ_run defs (onTc (τ := τ) (main (F := Ideal))) ⟨m, fun _ => 0, g⟩ fun r => ∀ c : Dev nD,
    r.2.mem (c.tc.loc main_v0) = resF m c
    ∧ r.2.mem (c.tc.loc main_arg0) = m (c.tc.loc main_arg0)
    ∧ r.2.mem (c.tc.loc main_arg1) = m (c.tc.loc main_arg1)
    ∧ r.2.mem (c.tc.loc main_arg2) = m (c.tc.loc main_arg2)
    ∧ r.2.mem (c.tc.loc main_arg3) = m (c.tc.loc main_arg3)
    ∧ r.2.mem (c.tc.loc main_arg4) = m (c.tc.loc main_arg4) :=
  (θ_run defs _ _).mono (fun _ h c => ⟨(h c).1.trans (final5 m c), (h c).2⟩) (Value.run_blocks m g)

end Cert.GateIdeal.Hand

namespace Cert.GateRefIdeal.Hand

open Cert.GateRefIdeal Cert.GateRefIdeal.Gen Idealize.ShloMosaic Idealize.ShloMosaic.TcCoe Idealize.SL.Sem
open Cert.GateIdeal.Hand (gates gated_eq)

/-- Dividing by 64 is multiplying by its reciprocal. -/
theorem div64 (x : EReal) : Ideal.div x (Ideal.ofBits .f32 0x42800000#32) = x * Ideal.ofBits .f32 0x3C800000#32 := by
  have c1 : Ideal.ofBits .f32 0x42800000#32 = ((64 : ℝ) : EReal) := by simp [Ideal.ofBits, Ideal.ieee]; rw [← EReal.coe_mul]; norm_num
  have c2 : Ideal.ofBits .f32 0x3C800000#32 = ((1 / 64 : ℝ) : EReal) := by simp [Ideal.ofBits, Ideal.ieee]; rw [← EReal.coe_mul]; norm_num
  rw [c1, c2, Ideal.div, if_neg (by exact_mod_cast (by norm_num : (64 : ℝ) ≠ 0)), ← EReal.coe_inv, one_div]

/-- The reference's run: the same result, the arguments kept. -/
theorem run (m : (ℓ : Loc nD τ sig) → Buf (Elt Ideal) ℓ) (g : Dev nD → PrngReg) :
    θ_run defs (onTc (τ := τ) (main (F := Ideal))) ⟨m, fun _ => 0, g⟩ fun r => ∀ c : Dev nD,
    r.2.mem (c.tc.loc main_v28) = (fun i => gates (m (c.tc.loc main_arg0)) (m (c.tc.loc main_arg1)) (m (c.tc.loc main_arg2)) (m (c.tc.loc main_arg3)) (m (c.tc.loc main_arg4)) i)
    ∧ r.2.mem (c.tc.loc main_arg0) = m (c.tc.loc main_arg0)
    ∧ r.2.mem (c.tc.loc main_arg1) = m (c.tc.loc main_arg1)
    ∧ r.2.mem (c.tc.loc main_arg2) = m (c.tc.loc main_arg2)
    ∧ r.2.mem (c.tc.loc main_arg3) = m (c.tc.loc main_arg3)
    ∧ r.2.mem (c.tc.loc main_arg4) = m (c.tc.loc main_arg4) := by
  refine (θ_run defs _ _).mono (fun r h c => ⟨(h c).1.trans ?_, (h c).2⟩) (Value.run m g)
  clear h
  generalize m (c.tc.loc main_arg0) = x0
  generalize m (c.tc.loc main_arg1) = x1
  generalize m (c.tc.loc main_arg2) = x2
  generalize m (c.tc.loc main_arg3) = x3
  generalize m (c.tc.loc main_arg4) = x4
  funext i
  obtain ⟨p, q, rfl⟩ : ∃ (p : Fin 4096) (q : Fin 1024), i = ix2 p q := ⟨i 0, i 1, eq_ix2 i⟩
  pointwise
  simp only [div64, Nat.mul_comm (q.val / 64) 64]
  exact (gated_eq (fun j => x0 (ix2 p j)) (fun j => x1 (ix2 p j)) (fun j => x2 (ix2 p j)) (fun j => x3 (ix2 0 j)) (fun j => x4 (ix2 0 j)) q).symm

end Cert.GateRefIdeal.Hand

end
-- ==== Proof.S5BbarVal.lean ====
/-
  The S5 layer's input matrix over the extended reals: each coefficient times its row of the complex input weights, as real
  and imaginary parts. The call has one point, over rows of 64 groups of 64 lanes.
-/
module

public import proofs.«01_k».proof.Proof.Gen.S5BbarIdeal.Value
public import proofs.«01_k».proof.Proof.Gen.S5BbarRefIdeal.Run
public import proofs.«01_k».proof.Proof.Base

@[expose] public section

noncomputable section

namespace Cert.S5BbarIdeal.Hand

open Cert.S5BbarIdeal Cert.S5BbarIdeal.Gen Idealize.ShloMosaic Idealize.ShloMosaic.TcCoe Idealize.SL.Sem
open Idealize.ShloMosaic.Pipeline (Dat)

variable (m : (ℓ : Loc nD τ sig) → Buf (Elt Ideal) ℓ)

/-- A row's group and lane. -/
abbrev grp (n : Fin 4096) : Fin 64 := ⟨n.val / 64, by omega⟩
abbrev lane (n : Fin 4096) : Fin 64 := ⟨n.val % 64, by omega⟩

/-- The complex product of a row's coefficient and the row: real and imaginary part. -/
def re (a b : FVec Ideal S64x64 .f32) (u v : FVec Ideal S1x64x64x16 .f32) : FVec Ideal S4096x16 .f32 := fun i =>
  a (ix2 (grp (i 0)) (lane (i 0))) * u (ix4 0 (grp (i 0)) (lane (i 0)) (i 1)) - b (ix2 (grp (i 0)) (lane (i 0))) * v (ix4 0 (grp (i 0)) (lane (i 0)) (i 1))
def im (a b : FVec Ideal S64x64 .f32) (u v : FVec Ideal S1x64x64x16 .f32) : FVec Ideal S4096x16 .f32 := fun i =>
  a (ix2 (grp (i 0)) (lane (i 0))) * v (ix4 0 (grp (i 0)) (lane (i 0)) (i 1)) + b (ix2 (grp (i 0)) (lane (i 0))) * u (ix4 0 (grp (i 0)) (lane (i 0)) (i 1))

abbrev resRe (c : Dev nD) : Buf (Elt Ideal) ((c : Thread nD τ).loc main_v6_0) := re (m (c.tc.loc main_arg0)) (m (c.tc.loc main_arg1)) (m (c.tc.loc main_arg2)) (m (c.tc.loc main_arg3))
abbrev resIm (c : Dev nD) : Buf (Elt Ideal) ((c : Thread nD τ).loc main_v6_1) := im (m (c.tc.loc main_arg0)) (m (c.tc.loc main_arg1)) (m (c.tc.loc main_arg2)) (m (c.tc.loc main_arg3))

/-- What the point stores. -/
theorem out4_apply (x0 x1 : Vec Ideal S4096x1 .f32) (x2 x3 : Vec Ideal S4096x16 .f32) (p : Fin 4096) (q : Fin 16) :
    out0_4 x0 x1 x2 x3 (ix2 p q) = x0 (ix2 p 0) * x2 (ix2 p q) - x1 (ix2 p 0) * x3 (ix2 p q) := by
  unfold out0_4
  rw [View.canon_unit_zero hz]
  simp only [View.ld_unit_zero (S := S4096x1) hz, View.ld_unit_zero (S := S4096x16) hz]
  pointwise [k0_pay5, k0_pay1, k0_pay2, k0_pay3, k0_pay4]

theorem out5_apply (x0 x1 : Vec Ideal S4096x1 .f32) (x2 x3 : Vec Ideal S4096x16 .f32) (p : Fin 4096) (q : Fin 16) :
    out0_5 x0 x1 x2 x3 (ix2 p q) = x0 (ix2 p 0) * x3 (ix2 p q) + x1 (ix2 p 0) * x2 (ix2 p q) := by
  unfold out0_5
  rw [View.canon_unit_zero hz]
  simp only [View.ld_unit_zero (S := S4096x1) hz, View.ld_unit_zero (S := S4096x16) hz]
  pointwise [k0_pay6, k0_pay1, k0_pay2, k0_pay3, k0_pay4]

/-- The call's one block index. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] :=
  (by decide +kernel : ∀ t : Fin grid0.N, _)

/-- The blocks: an argument's rows by group and lane. -/
theorem iblk0_apply (c : Dev nD) (t : Fin cfg0.N) (p : Fin 4096) : iblk m c 0 t (ix2 p 0) = m (c.tc.loc main_arg0) (ix2 (grp p) (lane p)) := by
  have h : V m c main_v4 (ix2 p 0) = m (c.tc.loc main_arg0) (ix2 (grp p) (lane p)) := by
    unfold_abbrev_sides
    after_results
    pointwise
    try rfl
  refine Eq.trans ?_ h
  show V m c main_v4 _ = V m c main_v4 _
  obtain ⟨e, -⟩ := idx t
  refine congrArg (V m c main_v4) (funext fun a => Fin.ext ?_)
  match a with
  | ⟨0, _⟩ => show win0_0.index t (0 : Fin 2) * 4096 + 1 * p.val = p.val; rw [e]; show 0 * 4096 + 1 * p.val = p.val; omega
  | ⟨1, _⟩ => show win0_0.index t (1 : Fin 2) * 1 + 1 * (0) = 0; rw [e]; rfl

theorem iblk1_apply (c : Dev nD) (t : Fin cfg0.N) (p : Fin 4096) : iblk m c 1 t (ix2 p 0) = m (c.tc.loc main_arg1) (ix2 (grp p) (lane p)) := by
  have h : V m c main_v5 (ix2 p 0) = m (c.tc.loc main_arg1) (ix2 (grp p) (lane p)) := by
    unfold_abbrev_sides
    after_results
    pointwise
    try rfl
  refine Eq.trans ?_ h
  show V m c main_v5 _ = V m c main_v5 _
  obtain ⟨-, e, -⟩ := idx t
  refine congrArg (V m c main_v5) (funext fun a => Fin.ext ?_)
  match a with
  | ⟨0, _⟩ => show win0_1.index t (0 : Fin 2) * 4096 + 1 * p.val = p.val; rw [e]; show 0 * 4096 + 1 * p.val = p.val; omega
  | ⟨1, _⟩ => show win0_1.index t (1 : Fin 2) * 1 + 1 * (0) = 0; rw [e]; rfl

theorem iblk2_apply (c : Dev nD) (t : Fin cfg0.N) (p : Fin 4096) (q : Fin 16) : iblk m c 2 t (ix2 p q) = m (c.tc.loc main_arg2) (ix4 0 (grp p) (lane p) q) := by
  have h : V m c main_v1 (ix2 p q) = m (c.tc.loc main_arg2) (ix4 0 (grp p) (lane p) q) := by
    unfold_abbrev_sides
    after_results
    pointwise
    try rfl
  refine Eq.trans ?_ h
  show V m c main_v1 _ = V m c main_v1 _
  obtain ⟨-, -, e, -⟩ := idx t
  refine congrArg (V m c main_v1) (funext fun a => Fin.ext ?_)
  match a with
  | ⟨0, _⟩ => show win0_2.index t (0 : Fin 2) * 4096 + 1 * p.val = p.val; rw [e]; show 0 * 4096 + 1 * p.val = p.val; omega
  | ⟨1, _⟩ => show win0_2.index t (1 : Fin 2) * 16 + 1 * (q.val) = q.val; rw [e]; show 0 * 16 + 1 * q.val = q.val; omega

theorem iblk3_apply (c : Dev nD) (t : Fin cfg0.N) (p : Fin 4096) (q : Fin 16) : iblk m c 3 t (ix2 p q) = m (c.tc.loc main_arg3) (ix4 0 (grp p) (lane p) q) := by
  have h : V m c main_v3 (ix2 p q) = m (c.tc.loc main_arg3) (ix4 0 (grp p) (lane p) q) := by
    unfold_abbrev_sides
    after_results
    pointwise
    try rfl
  refine Eq.trans ?_ h
  show V m c main_v3 _ = V m c main_v3 _
  obtain ⟨-, -, -, e, -⟩ := idx t
  refine congrArg (V m c main_v3) (funext fun a => Fin.ext ?_)
  match a with
  | ⟨0, _⟩ => show win0_3.index t (0 : Fin 2) * 4096 + 1 * p.val = p.val; rw [e]; show 0 * 4096 + 1 * p.val = p.val; omega
  | ⟨1, _⟩ => show win0_3.index t (1 : Fin 2) * 16 + 1 * (q.val) = q.val; rw [e]; show 0 * 16 + 1 * q.val = q.val; omega

theorem row4 (c : Dev nD) (t : Fin cfg0.N) (p : Fin 4096) (q : Fin 16) : out0_4 (iblk m c 0 t) (iblk m c 1 t) (iblk m c 2 t) (iblk m c 3 t) (ix2 p q) = resRe m c (ix2 p q) :=
  (out4_apply _ _ _ _ p q).trans (congrArg₂ (fun x y : EReal => x - y) (congrArg₂ (fun x y : EReal => x * y) (iblk0_apply m c t p) (iblk2_apply m c t p q))
    (congrArg₂ (fun x y : EReal => x * y) (iblk1_apply m c t p) (iblk3_apply m c t p q)))

/-- Each result array is its product. -/
theorem final4 (c : Dev nD) : (dats m 0 c).arrAt 4 cfg0.N = resRe m c :=
  (dats m 0 c).arrAt_eq_of_cover 4 _ (fun t _ => by
    rw [Value.flushed4]
    funext y
    obtain ⟨-, -, -, -, e, -⟩ := idx t
    have hy0 : (y 0).val < 4096 := (y 0).isLt
    have hy1 : (y 1).val < 16 := (y 1).isLt
    refine Eq.trans (congrArg (out0_4 (iblk m c 0 t) (iblk m c 1 t) (iblk m c 2 t) (iblk m c 3 t) : Vec Ideal S4096x16 .f32) (a₂ := ix2 ⟨(y 0).val, hy0⟩ ⟨(y 1).val, hy1⟩)
      (funext fun a => by match a with | ⟨0, _⟩ => rfl | ⟨1, _⟩ => rfl)) ?_
    refine Eq.trans (row4 m c t _ _) ?_
    refine congrArg (resRe m c) (a₁ := ix2 ⟨(y 0).val, hy0⟩ ⟨(y 1).val, hy1⟩) (funext fun a => Fin.ext ?_)
    match a with
    | ⟨0, _⟩ => show (y 0).val = win0_4.index t (0 : Fin 2) * 4096 + 1 * (y 0).val; rw [e]; show _ = 0 * 4096 + 1 * (y 0).val; omega
    | ⟨1, _⟩ => show (y 1).val = win0_4.index t (1 : Fin 2) * 16 + 1 * (y 1).val; rw [e]; show _ = 0 * 16 + 1 * (y 1).val; omega)
  fun i => by
    have h0 : (i 0).val < 4096 := (i 0).isLt
    have h1 : (i 1).val < 16 := (i 1).isLt
    let t : Fin cfg0.N := ⟨0, by have : cfg0.N = 1 := N_0; omega⟩
    obtain ⟨-, -, -, -, e, -⟩ := idx t
    refine ⟨t, flush0_4 t, ?_⟩
    show i ∈ ((View.whole main_v6_0).slice (win0_4.rect t)).set
    rw [View.set_slice_whole, Rect.mem_set_unit]
    intro a
    match a with
    | ⟨0, _⟩ => show win0_4.index t (0 : Fin 2) * 4096 ≤ (i 0).val ∧ (i 0).val < win0_4.index t (0 : Fin 2) * 4096 + 4096; rw [e]; exact ⟨Nat.zero_le _, by simpa using h0⟩
    | ⟨1, _⟩ => show win0_4.index t (1 : Fin 2) * 16 ≤ (i 1).val ∧ (i 1).val < win0_4.index t (1 : Fin 2) * 16 + 16; rw [e]; exact ⟨Nat.zero_le _, by simpa using h1⟩

theorem row5 (c : Dev nD) (t : Fin cfg0.N) (p : Fin 4096) (q : Fin 16) : out0_5 (iblk m c 0 t) (iblk m c 1 t) (iblk m c 2 t) (iblk m c 3 t) (ix2 p q) = resIm m c (ix2 p q) :=
  (out5_apply _ _ _ _ p q).trans (congrArg₂ (fun x y : EReal => x + y) (congrArg₂ (fun x y : EReal => x * y) (iblk0_apply m c t p) (iblk3_apply m c t p q))
    (congrArg₂ (fun x y : EReal => x * y) (iblk1_apply m c t p) (iblk2_apply m c t p q)))

theorem final5 (c : Dev nD) : (dats m 0 c).arrAt 5 cfg0.N = resIm m c :=
  (dats m 0 c).arrAt_eq_of_cover 5 _ (fun t _ => by
    rw [Value.flushed5]
    funext y
    obtain ⟨-, -, -, -, -, e⟩ := idx t
    have hy0 : (y 0).val < 4096 := (y 0).isLt
    have hy1 : (y 1).val < 16 := (y 1).isLt
    refine Eq.trans (congrArg (out0_5 (iblk m c 0 t) (iblk m c 1 t) (iblk m c 2 t) (iblk m c 3 t) : Vec Ideal S4096x16 .f32) (a₂ := ix2 ⟨(y 0).val, hy0⟩ ⟨(y 1).val, hy1⟩)
      (funext fun a => by match a with | ⟨0, _⟩ => rfl | ⟨1, _⟩ => rfl)) ?_
    refine Eq.trans (row5 m c t _ _) ?_
    refine congrArg (resIm m c) (a₁ := ix2 ⟨(y 0).val, hy0⟩ ⟨(y 1).val, hy1⟩) (funext fun a => Fin.ext ?_)
    match a with
    | ⟨0, _⟩ => show (y 0).val = win0_5.index t (0 : Fin 2) * 4096 + 1 * (y 0).val; rw [e]; show _ = 0 * 4096 + 1 * (y 0).val; omega
    | ⟨1, _⟩ => show (y 1).val = win0_5.index t (1 : Fin 2) * 16 + 1 * (y 1).val; rw [e]; show _ = 0 * 16 + 1 * (y 1).val; omega)
  fun i => by
    have h0 : (i 0).val < 4096 := (i 0).isLt
    have h1 : (i 1).val < 16 := (i 1).isLt
    let t : Fin cfg0.N := ⟨0, by have : cfg0.N = 1 := N_0; omega⟩
    obtain ⟨-, -, -, -, -, e⟩ := idx t
    refine ⟨t, flush0_5 t, ?_⟩
    show i ∈ ((View.whole main_v6_1).slice (win0_5.rect t)).set
    rw [View.set_slice_whole, Rect.mem_set_unit]
    intro a
    match a with
    | ⟨0, _⟩ => show win0_5.index t (0 : Fin 2) * 4096 ≤ (i 0).val ∧ (i 0).val < win0_5.index t (0 : Fin 2) * 4096 + 4096; rw [e]; exact ⟨Nat.zero_le _, by simpa using h0⟩
    | ⟨1, _⟩ => show win0_5.index t (1 : Fin 2) * 16 ≤ (i 1).val ∧ (i 1).val < win0_5.index t (1 : Fin 2) * 16 + 16; rw [e]; exact ⟨Nat.zero_le _, by simpa using h1⟩

/-- The kernel's run: the results, the arguments kept. -/
theorem run (g : Dev nD → PrngReg) : θ_run defs (onTc (τ := τ) (main (F := Ideal))) ⟨m, fun _ => 0, g⟩ fun r => ∀ c : Dev nD,
    r.2.mem (c.tc.loc main_v6_0) = resRe m c ∧ r.2.mem (c.tc.loc main_v6_1) = resIm m c
    ∧ r.2.mem (c.tc.loc main_arg0) = m (c.tc.loc main_arg0)
    ∧ r.2.mem (c.tc.loc main_arg1) = m (c.tc.loc main_arg1)
    ∧ r.2.mem (c.tc.loc main_arg2) = m (c.tc.loc main_arg2)
    ∧ r.2.mem (c.tc.loc main_arg3) = m (c.tc.loc main_arg3) :=
  (θ_run defs _ _).mono (fun _ h c => ⟨(h c).1.trans (final4 m c), (h c).2.1.trans (final5 m c), (h c).2.2⟩) (Value.run_blocks m g)

end Cert.S5BbarIdeal.Hand

namespace Cert.S5BbarRefIdeal.Hand

open Cert.S5BbarRefIdeal Cert.S5BbarRefIdeal.Gen Idealize.ShloMosaic Idealize.ShloMosaic.TcCoe Idealize.SL.Sem
open Cert.S5BbarIdeal.Hand (re im grp lane)

theorem cast_apply (x : FVec Ideal S64x64x16 .f32) (p : Fin 4096) (q : Fin 16) :
    shapeCast S4096x16 x shapeCasts_S64x64x16_S4096x16 (ix2 p q) = x (ix3 (grp p) (lane p) q) := by
  pointwise

theorem bc_apply (x : FVec Ideal S64x64 .f32) (g l : Fin 64) (q : Fin 16) :
    broadcastInDim S64x64x16 ![0, 1, 2] bcast_S64x64x1_S64x64x16_0_1_2 (broadcastInDim S64x64x1 ![0, 1] bcast_S64x64_S64x64x1_0_1 x) (ix3 g l q) = x (ix2 g l) := by
  pointwise

theorem sc_apply (x : FVec Ideal S1x64x64x16 .f32) (g l : Fin 64) (q : Fin 16) :
    shapeCast S64x64x16 x shapeCasts_S1x64x64x16_S64x64x16 (ix3 g l q) = x (ix4 0 g l q) := by
  pointwise

/-- The reference's run: the same results, the arguments kept. -/
theorem run (m : (ℓ : Loc nD τ sig) → Buf (Elt Ideal) ℓ) (g : Dev nD → PrngReg) :
    θ_run defs (onTc (τ := τ) (main (F := Ideal))) ⟨m, fun _ => 0, g⟩ fun r => ∀ c : Dev nD,
    r.2.mem (c.tc.loc main_v14) = re (m (c.tc.loc main_arg0)) (m (c.tc.loc main_arg1)) (m (c.tc.loc main_arg2)) (m (c.tc.loc main_arg3))
    ∧ r.2.mem (c.tc.loc main_v15) = im (m (c.tc.loc main_arg0)) (m (c.tc.loc main_arg1)) (m (c.tc.loc main_arg2)) (m (c.tc.loc main_arg3))
    ∧ r.2.mem (c.tc.loc main_arg0) = m (c.tc.loc main_arg0)
    ∧ r.2.mem (c.tc.loc main_arg1) = m (c.tc.loc main_arg1)
    ∧ r.2.mem (c.tc.loc main_arg2) = m (c.tc.loc main_arg2)
    ∧ r.2.mem (c.tc.loc main_arg3) = m (c.tc.loc main_arg3) := by
  refine (θ_run defs _ _).mono (fun r h c => ⟨(h c).1.trans ?_, (h c).2.1.trans ?_, (h c).2.2⟩) (Value.run m g)
  all_goals clear h
  all_goals generalize m (c.tc.loc main_arg0) = x0
  all_goals generalize m (c.tc.loc main_arg1) = x1
  all_goals generalize m (c.tc.loc main_arg2) = x2
  all_goals generalize m (c.tc.loc main_arg3) = x3
  all_goals
    funext i
    obtain ⟨p, q, rfl⟩ : ∃ (p : Fin 4096) (q : Fin 16), i = ix2 p q := ⟨i 0, i 1, eq_ix2 i⟩
    refine (cast_apply _ p q).trans ?_
  · exact congrArg₂ (fun x y : EReal => x - y) (congrArg₂ (fun x y : EReal => x * y) (bc_apply x0 _ _ q) (sc_apply x2 _ _ q)) (congrArg₂ (fun x y : EReal => x * y) (bc_apply x1 _ _ q) (sc_apply x3 _ _ q))
  · exact congrArg₂ (fun x y : EReal => x + y) (congrArg₂ (fun x y : EReal => x * y) (bc_apply x0 _ _ q) (sc_apply x3 _ _ q)) (congrArg₂ (fun x y : EReal => x * y) (bc_apply x1 _ _ q) (sc_apply x2 _ _ q))

end Cert.S5BbarRefIdeal.Hand

end
-- ==== Proof.S5ParamVal.lean ====
/-
  The S5 layer's discretised parameters over the extended reals: the transition and the input coefficient of each group and
  state, as real and imaginary parts. The call has one point.
-/
module

public import proofs.«01_k».proof.Proof.Gen.S5ParamIdeal.Value
public import proofs.«01_k».proof.Proof.Gen.S5ParamRefIdeal.Run
public import proofs.«01_k».proof.Proof.Base

@[expose] public section

noncomputable section

namespace Cert.S5ParamIdeal.Hand

open Cert.S5ParamIdeal Cert.S5ParamIdeal.Gen Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

/-- The layer's parameters as the call takes them: a table of groups by states, and a column of the groups' log steps. -/
def table (a : FVec Ideal S1x64x64 .f32) : FVec Ideal S64x64 .f32 := fun i => a (ix3 0 (i 0) (i 1))
def col (a : FVec Ideal S1x64 .f32) : FVec Ideal S64x1 .f32 := fun i => a (ix2 0 (i 0))

abbrev res3 : Buf (Elt Ideal) ((c : Thread nD τ).loc main_v3_0) := k0_pay5 (F := Ideal) (table (m (c.tc.loc main_arg0))) (table (m (c.tc.loc main_arg1))) (col (m (c.tc.loc main_arg2)))
abbrev res4 : Buf (Elt Ideal) ((c : Thread nD τ).loc main_v3_1) := k0_pay6 (F := Ideal) (table (m (c.tc.loc main_arg0))) (table (m (c.tc.loc main_arg1))) (col (m (c.tc.loc main_arg2)))
abbrev res5 : Buf (Elt Ideal) ((c : Thread nD τ).loc main_v3_2) := k0_pay9 (F := Ideal) (table (m (c.tc.loc main_arg0))) (table (m (c.tc.loc main_arg1))) (col (m (c.tc.loc main_arg2)))
abbrev res6 : Buf (Elt Ideal) ((c : Thread nD τ).loc main_v3_3) := k0_pay10 (F := Ideal) (table (m (c.tc.loc main_arg0))) (table (m (c.tc.loc main_arg1))) (col (m (c.tc.loc main_arg2)))

/-- The call's one block index. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

/-- The blocks read are whole arguments. -/
theorem iblk0_eq : iblk m c 0 t = table (m (c.tc.loc main_arg0)) := by
  have h : ∀ (p : Fin 64) (q : Fin 64), V m c main_v0 (ix2 p q) = table (m (c.tc.loc main_arg0)) (ix2 p q) := fun p q => by
    unfold_abbrev_sides
    after_results
    pointwise
    try rfl
  funext y
  obtain ⟨e, -⟩ := idx t
  refine Eq.trans (congrArg (V m c main_v0) (funext fun a => Fin.ext ?_)) ((h (y 0) (y 1)).trans (congrArg (table (m (c.tc.loc main_arg0))) (eq_ix2 (y : S64x64.Idx)).symm))
  match a with
  | ⟨0, _⟩ => show win0_0.index t (0 : Fin 2) * 64 + 1 * (y 0).val = (y 0).val; rw [e]; show 0 * 64 + 1 * (y 0).val = (y 0).val; omega
  | ⟨1, _⟩ => show win0_0.index t (1 : Fin 2) * 64 + 1 * (y 1).val = (y 1).val; rw [e]; show 0 * 64 + 1 * (y 1).val = (y 1).val; omega

theorem iblk1_eq : iblk m c 1 t = table (m (c.tc.loc main_arg1)) := by
  have h : ∀ (p : Fin 64) (q : Fin 64), V m c main_v1 (ix2 p q) = table (m (c.tc.loc main_arg1)) (ix2 p q) := fun p q => by
    unfold_abbrev_sides
    after_results
    pointwise
    try rfl
  funext y
  obtain ⟨-, e, -⟩ := idx t
  refine Eq.trans (congrArg (V m c main_v1) (funext fun a => Fin.ext ?_)) ((h (y 0) (y 1)).trans (congrArg (table (m (c.tc.loc main_arg1))) (eq_ix2 (y : S64x64.Idx)).symm))
  match a with
  | ⟨0, _⟩ => show win0_1.index t (0 : Fin 2) * 64 + 1 * (y 0).val = (y 0).val; rw [e]; show 0 * 64 + 1 * (y 0).val = (y 0).val; omega
  | ⟨1, _⟩ => show win0_1.index t (1 : Fin 2) * 64 + 1 * (y 1).val = (y 1).val; rw [e]; show 0 * 64 + 1 * (y 1).val = (y 1).val; omega

theorem iblk2_eq : iblk m c 2 t = col (m (c.tc.loc main_arg2)) := by
  have h : ∀ (p : Fin 64) (q : Fin 1), V m c main_v2 (ix2 p q) = col (m (c.tc.loc main_arg2)) (ix2 p q) := fun p q => by
    unfold_abbrev_sides
    after_results
    pointwise
    try rfl
  funext y
  obtain ⟨-, -, e, -⟩ := idx t
  refine Eq.trans (congrArg (V m c main_v2) (funext fun a => Fin.ext ?_)) ((h (y 0) (y 1)).trans (congrArg (col (m (c.tc.loc main_arg2))) (eq_ix2 (y : S64x1.Idx)).symm))
  match a with
  | ⟨0, _⟩ => show win0_2.index t (0 : Fin 2) * 64 + 1 * (y 0).val = (y 0).val; rw [e]; show 0 * 64 + 1 * (y 0).val = (y 0).val; omega
  | ⟨1, _⟩ => show win0_2.index t (1 : Fin 2) * 1 + 1 * (y 1).val = (y 1).val; rw [e]; show 0 * 1 + 1 * (y 1).val = (y 1).val; omega

/-- Each result array is its payload of the parameters. -/
theorem final3 : (dats m 0 c).arrAt 3 cfg0.N = res3 m c :=
  (dats m 0 c).arrAt_eq_of_cover 3 _ (fun t _ => by
    rw [Value.flushed3, iblk0_eq, iblk1_eq, iblk2_eq]
    unfold out0_3
    rw [View.canon_unit_zero hz]
    simp only [View.ld_unit_zero (S := S64x64) hz, View.ld_unit_zero (S := S64x1) hz]
    funext y
    obtain ⟨-, -, -, e, -⟩ := idx t
    refine congrArg (res3 m c) (a₁ := y) (funext fun a => Fin.ext ?_)
    match a with
    | ⟨0, _⟩ => show (y 0).val = win0_3.index t (0 : Fin 2) * 64 + 1 * (y 0).val; rw [e]; show _ = 0 * 64 + 1 * (y 0).val; omega
    | ⟨1, _⟩ => show (y 1).val = win0_3.index t (1 : Fin 2) * 64 + 1 * (y 1).val; rw [e]; show _ = 0 * 64 + 1 * (y 1).val; omega)
  fun i => by
    let t : Fin cfg0.N := ⟨0, by have : cfg0.N = 1 := N_0; omega⟩
    obtain ⟨-, -, -, e, -⟩ := idx t
    refine ⟨t, flush0_3 t, ?_⟩
    show i ∈ ((View.whole main_v3_0).slice (win0_3.rect t)).set
    rw [View.set_slice_whole, Rect.mem_set_unit]
    intro a
    match a with
    | ⟨0, _⟩ => show win0_3.index t (0 : Fin 2) * 64 ≤ (i 0).val ∧ (i 0).val < win0_3.index t (0 : Fin 2) * 64 + 64; rw [e]; exact ⟨Nat.zero_le _, (i 0).isLt⟩
    | ⟨1, _⟩ => show win0_3.index t (1 : Fin 2) * 64 ≤ (i 1).val ∧ (i 1).val < win0_3.index t (1 : Fin 2) * 64 + 64; rw [e]; exact ⟨Nat.zero_le _, (i 1).isLt⟩

theorem final4 : (dats m 0 c).arrAt 4 cfg0.N = res4 m c :=
  (dats m 0 c).arrAt_eq_of_cover 4 _ (fun t _ => by
    rw [Value.flushed4, iblk0_eq, iblk1_eq, iblk2_eq]
    unfold out0_4
    rw [View.canon_unit_zero hz]
    simp only [View.ld_unit_zero (S := S64x64) hz, View.ld_unit_zero (S := S64x1) hz]
    funext y
    obtain ⟨-, -, -, -, e, -⟩ := idx t
    refine congrArg (res4 m c) (a₁ := y) (funext fun a => Fin.ext ?_)
    match a with
    | ⟨0, _⟩ => show (y 0).val = win0_4.index t (0 : Fin 2) * 64 + 1 * (y 0).val; rw [e]; show _ = 0 * 64 + 1 * (y 0).val; omega
    | ⟨1, _⟩ => show (y 1).val = win0_4.index t (1 : Fin 2) * 64 + 1 * (y 1).val; rw [e]; show _ = 0 * 64 + 1 * (y 1).val; omega)
  fun i => by
    let t : Fin cfg0.N := ⟨0, by have : cfg0.N = 1 := N_0; omega⟩
    obtain ⟨-, -, -, -, e, -⟩ := idx t
    refine ⟨t, flush0_4 t, ?_⟩
    show i ∈ ((View.whole main_v3_1).slice (win0_4.rect t)).set
    rw [View.set_slice_whole, Rect.mem_set_unit]
    intro a
    match a with
    | ⟨0, _⟩ => show win0_4.index t (0 : Fin 2) * 64 ≤ (i 0).val ∧ (i 0).val < win0_4.index t (0 : Fin 2) * 64 + 64; rw [e]; exact ⟨Nat.zero_le _, (i 0).isLt⟩
    | ⟨1, _⟩ => show win0_4.index t (1 : Fin 2) * 64 ≤ (i 1).val ∧ (i 1).val < win0_4.index t (1 : Fin 2) * 64 + 64; rw [e]; exact ⟨Nat.zero_le _, (i 1).isLt⟩

theorem final5 : (dats m 0 c).arrAt 5 cfg0.N = res5 m c :=
  (dats m 0 c).arrAt_eq_of_cover 5 _ (fun t _ => by
    rw [Value.flushed5, iblk0_eq, iblk1_eq, iblk2_eq]
    unfold out0_5
    rw [View.canon_unit_zero hz]
    simp only [View.ld_unit_zero (S := S64x64) hz, View.ld_unit_zero (S := S64x1) hz]
    funext y
    obtain ⟨-, -, -, -, -, e, -⟩ := idx t
    refine congrArg (res5 m c) (a₁ := y) (funext fun a => Fin.ext ?_)
    match a with
    | ⟨0, _⟩ => show (y 0).val = win0_5.index t (0 : Fin 2) * 64 + 1 * (y 0).val; rw [e]; show _ = 0 * 64 + 1 * (y 0).val; omega
    | ⟨1, _⟩ => show (y 1).val = win0_5.index t (1 : Fin 2) * 64 + 1 * (y 1).val; rw [e]; show _ = 0 * 64 + 1 * (y 1).val; omega)
  fun i => by
    let t : Fin cfg0.N := ⟨0, by have : cfg0.N = 1 := N_0; omega⟩
    obtain ⟨-, -, -, -, -, e, -⟩ := idx t
    refine ⟨t, flush0_5 t, ?_⟩
    show i ∈ ((View.whole main_v3_2).slice (win0_5.rect t)).set
    rw [View.set_slice_whole, Rect.mem_set_unit]
    intro a
    match a with
    | ⟨0, _⟩ => show win0_5.index t (0 : Fin 2) * 64 ≤ (i 0).val ∧ (i 0).val < win0_5.index t (0 : Fin 2) * 64 + 64; rw [e]; exact ⟨Nat.zero_le _, (i 0).isLt⟩
    | ⟨1, _⟩ => show win0_5.index t (1 : Fin 2) * 64 ≤ (i 1).val ∧ (i 1).val < win0_5.index t (1 : Fin 2) * 64 + 64; rw [e]; exact ⟨Nat.zero_le _, (i 1).isLt⟩

theorem final6 : (dats m 0 c).arrAt 6 cfg0.N = res6 m c :=
  (dats m 0 c).arrAt_eq_of_cover 6 _ (fun t _ => by
    rw [Value.flushed6, iblk0_eq, iblk1_eq, iblk2_eq]
    unfold out0_6
    rw [View.canon_unit_zero hz]
    simp only [View.ld_unit_zero (S := S64x64) hz, View.ld_unit_zero (S := S64x1) hz]
    funext y
    obtain ⟨-, -, -, -, -, -, e⟩ := idx t
    refine congrArg (res6 m c) (a₁ := y) (funext fun a => Fin.ext ?_)
    match a with
    | ⟨0, _⟩ => show (y 0).val = win0_6.index t (0 : Fin 2) * 64 + 1 * (y 0).val; rw [e]; show _ = 0 * 64 + 1 * (y 0).val; omega
    | ⟨1, _⟩ => show (y 1).val = win0_6.index t (1 : Fin 2) * 64 + 1 * (y 1).val; rw [e]; show _ = 0 * 64 + 1 * (y 1).val; omega)
  fun i => by
    let t : Fin cfg0.N := ⟨0, by have : cfg0.N = 1 := N_0; omega⟩
    obtain ⟨-, -, -, -, -, -, e⟩ := idx t
    refine ⟨t, flush0_6 t, ?_⟩
    show i ∈ ((View.whole main_v3_3).slice (win0_6.rect t)).set
    rw [View.set_slice_whole, Rect.mem_set_unit]
    intro a
    match a with
    | ⟨0, _⟩ => show win0_6.index t (0 : Fin 2) * 64 ≤ (i 0).val ∧ (i 0).val < win0_6.index t (0 : Fin 2) * 64 + 64; rw [e]; exact ⟨Nat.zero_le _, (i 0).isLt⟩
    | ⟨1, _⟩ => show win0_6.index t (1 : Fin 2) * 64 ≤ (i 1).val ∧ (i 1).val < win0_6.index t (1 : Fin 2) * 64 + 64; rw [e]; exact ⟨Nat.zero_le _, (i 1).isLt⟩

/-- The kernel's run: the results, the arguments kept. -/
theorem run (g : Dev nD → PrngReg) : θ_run defs (onTc (τ := τ) (main (F := Ideal))) ⟨m, fun _ => 0, g⟩ fun r => ∀ c : Dev nD,
    r.2.mem (c.tc.loc main_v3_0) = res3 m c ∧ r.2.mem (c.tc.loc main_v3_1) = res4 m c ∧ r.2.mem (c.tc.loc main_v3_2) = res5 m c ∧ r.2.mem (c.tc.loc main_v3_3) = res6 m c
    ∧ r.2.mem (c.tc.loc main_arg0) = m (c.tc.loc main_arg0)
    ∧ r.2.mem (c.tc.loc main_arg1) = m (c.tc.loc main_arg1)
    ∧ r.2.mem (c.tc.loc main_arg2) = m (c.tc.loc main_arg2) :=
  (θ_run defs _ _).mono (fun _ h c => ⟨(h c).1.trans (final3 m c), (h c).2.1.trans (final4 m c), (h c).2.2.1.trans (final5 m c), (h c).2.2.2.1.trans (final6 m c), (h c).2.2.2.2⟩) (Value.run_blocks m g)

end Cert.S5ParamIdeal.Hand

namespace Cert.S5ParamRefIdeal.Hand

open Cert.S5ParamRefIdeal Cert.S5ParamRefIdeal.Gen Idealize.ShloMosaic Idealize.ShloMosaic.TcCoe Idealize.SL.Sem
open Cert.S5ParamIdeal.Hand (table col)
open Cert.S5ParamIdeal.Gen (k0_pay1 k0_pay2 k0_pay3 k0_pay4 k0_pay5 k0_pay6 k0_pay7 k0_pay8 k0_pay9 k0_pay10)

/-- The steps, the clipped decay, the frequencies and one, as the two programs lay them out. -/
theorem dt_eq (x : FVec Ideal S1x64 .f32) :
    broadcastInDim S64x64 ![0, 1] bcast_S64x1_S64x64_0_1 (broadcastInDim S64x1 ![0] bcast_S64_S64x1_0 (Host.exp (shapeCast S64 x shapeCasts_S1x64_S64)))
      = broadcastTo S64x64 (k0_pay2 (F := Ideal) (col x)) Cert.S5ParamIdeal.Gen.broadcasts_S64x1_S64x64 := by
  funext i
  obtain ⟨p, q, rfl⟩ : ∃ (p q : Fin 64), i = ix2 p q := ⟨i 0, i 1, eq_ix2 i⟩
  pointwise [k0_pay2]
  rfl

theorem table_eq (x : FVec Ideal S1x64x64 .f32) : shapeCast S64x64 x shapeCasts_S1x64x64_S64x64 = table x := by
  funext i
  obtain ⟨p, q, rfl⟩ : ∃ (p q : Fin 64), i = ix2 p q := ⟨i 0, i 1, eq_ix2 i⟩
  pointwise
  rfl

theorem pay1_eq (x : FVec Ideal S64x64 .f32) : k0_pay1 (F := Ideal) x = x := by
  funext i
  obtain ⟨p, q, rfl⟩ : ∃ (p q : Fin 64), i = ix2 p q := ⟨i 0, i 1, eq_ix2 i⟩
  pointwise [k0_pay1]

theorem pay3_eq (x : FVec Ideal S64x64 .f32) :
    minimumf x (broadcastInDim S64x64 ![] bcast_S_S64x64 (constant S_ .f32 0xB8D1B717#32)) = k0_pay3 (F := Ideal) x := by
  funext i
  obtain ⟨p, q, rfl⟩ : ∃ (p q : Fin 64), i = ix2 p q := ⟨i 0, i 1, eq_ix2 i⟩
  pointwise [k0_pay3]

/-- The reference's run: the same results, the arguments kept. -/
theorem run (m : (ℓ : Loc nD τ sig) → Buf (Elt Ideal) ℓ) (g : Dev nD → PrngReg) :
    θ_run defs (onTc (τ := τ) (main (F := Ideal))) ⟨m, fun _ => 0, g⟩ fun r => ∀ c : Dev nD,
    r.2.mem (c.tc.loc main_v13) = k0_pay5 (F := Ideal) (table (m (c.tc.loc main_arg0))) (table (m (c.tc.loc main_arg1))) (col (m (c.tc.loc main_arg2))) ∧ r.2.mem (c.tc.loc main_v17) = k0_pay6 (F := Ideal) (table (m (c.tc.loc main_arg0))) (table (m (c.tc.loc main_arg1))) (col (m (c.tc.loc main_arg2))) ∧ r.2.mem (c.tc.loc main_v26) = k0_pay9 (F := Ideal) (table (m (c.tc.loc main_arg0))) (table (m (c.tc.loc main_arg1))) (col (m (c.tc.loc main_arg2))) ∧ r.2.mem (c.tc.loc main_v30) = k0_pay10 (F := Ideal) (table (m (c.tc.loc main_arg0))) (table (m (c.tc.loc main_arg1))) (col (m (c.tc.loc main_arg2)))
    ∧ r.2.mem (c.tc.loc main_arg0) = m (c.tc.loc main_arg0)
    ∧ r.2.mem (c.tc.loc main_arg1) = m (c.tc.loc main_arg1)
    ∧ r.2.mem (c.tc.loc main_arg2) = m (c.tc.loc main_arg2) := by
  refine (θ_run defs _ _).mono (fun r h c => ⟨(h c).1.trans ?_, (h c).2.1.trans ?_, (h c).2.2.1.trans ?_, (h c).2.2.2.1.trans ?_, (h c).2.2.2.2⟩) (Value.run m g)
  all_goals
    clear h
    generalize m (c.tc.loc main_arg0) = x0
    try generalize m (c.tc.loc main_arg1) = x1
    generalize m (c.tc.loc main_arg2) = x2
    erw [dt_eq, table_eq x0, pay3_eq]
    simp only [table_eq, k0_pay4, k0_pay5, k0_pay6, k0_pay7, k0_pay8, k0_pay9, k0_pay10, pay1_eq]
    rfl

end Cert.S5ParamRefIdeal.Hand

end
-- ==== Proof.lean ====
/-
  The claims. The recurrence's calls, each product, the norms, the gate, the S5 parameters and the loss run, keep their arguments and leave every counter at zero,
  over words and over the extended reals; the results of all but the first are their references'.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.ArgsKept
public import proofs.«01_k».proof.Proof.Same
public import proofs.«01_k».proof.Proof.Gen.Up.Frame
public import proofs.«01_k».proof.Proof.UpVal
public import proofs.«01_k».proof.Proof.Gen.DownDx.Frame
public import proofs.«01_k».proof.Proof.DownDxVal
public import proofs.«01_k».proof.Proof.Gen.DownDw.Frame
public import proofs.«01_k».proof.Proof.DownDwVal
public import proofs.«01_k».proof.Proof.Gen.UpDw.Frame
public import proofs.«01_k».proof.Proof.UpDwVal
public import proofs.«01_k».proof.Proof.Gen.UpDx.Frame
public import proofs.«01_k».proof.Proof.UpDxVal
public import proofs.«01_k».proof.Proof.Gen.Down.Frame
public import proofs.«01_k».proof.Proof.DownVal
public import proofs.«01_k».proof.Proof.Gen.Up0.Frame
public import proofs.«01_k».proof.Proof.Up0Val
public import proofs.«01_k».proof.Proof.Gen.DownDx0.Frame
public import proofs.«01_k».proof.Proof.DownDx0Val
public import proofs.«01_k».proof.Proof.Gen.UpDx0.Frame
public import proofs.«01_k».proof.Proof.UpDx0Val
public import proofs.«01_k».proof.Proof.Gen.Down0.Frame
public import proofs.«01_k».proof.Proof.Down0Val
public import proofs.«01_k».proof.Proof.Gen.Glu.Frame
public import proofs.«01_k».proof.Proof.GluVal
public import proofs.«01_k».proof.Proof.Gen.GluDx.Frame
public import proofs.«01_k».proof.Proof.GluDxVal
public import proofs.«01_k».proof.Proof.Gen.GluDw.Frame
public import proofs.«01_k».proof.Proof.GluDwVal
public import proofs.«01_k».proof.Proof.Gen.RwIn.Frame
public import proofs.«01_k».proof.Proof.RwInVal
public import proofs.«01_k».proof.Proof.Gen.RwOut.Frame
public import proofs.«01_k».proof.Proof.RwOutVal
public import proofs.«01_k».proof.Proof.Gen.RwDx.Frame
public import proofs.«01_k».proof.Proof.RwDxVal
public import proofs.«01_k».proof.Proof.Gen.RwDw.Frame
public import proofs.«01_k».proof.Proof.RwDwVal
public import proofs.«01_k».proof.Proof.Gen.LnBwd.Frame
public import proofs.«01_k».proof.Proof.LnBwdVal
public import proofs.«01_k».proof.Proof.Gen.Ln.Frame
public import proofs.«01_k».proof.Proof.LnVal
public import proofs.«01_k».proof.Proof.Gen.Ln0.Frame
public import proofs.«01_k».proof.Proof.Ln0Val
public import proofs.«01_k».proof.Proof.Gen.Loss.Frame
public import proofs.«01_k».proof.Proof.LossVal
public import proofs.«01_k».proof.Proof.Gen.GluLnBwd.Frame
public import proofs.«01_k».proof.Proof.GluLnBwdVal
public import proofs.«01_k».proof.Proof.Gen.Gate.Frame
public import proofs.«01_k».proof.Proof.GateVal
public import proofs.«01_k».proof.Proof.Gen.S5Bbar.Frame
public import proofs.«01_k».proof.Proof.S5BbarVal
public import proofs.«01_k».proof.Proof.Gen.S5Param.Frame
public import proofs.«01_k».proof.Proof.S5ParamVal
public import Idealize.ShloMosaic.Adequacy
public import Idealize.ShloMosaic.Init

@[expose] public section

noncomputable section

namespace Cert.Proof

open Idealize.ShloMosaic Idealize.SL.Sem

theorem frame_kernel_ideal : Cert.quiescent_KernelIdeal := fun m ρ _ => KernelIdeal.Hand.run_frame (F := Ideal) m ρ

set_option maxHeartbeats 4000000 in
set_option maxRecDepth 100000 in
set_option backward.isDefEq.respectTransparency.types false in
/-- The frame over words, from the one run: the two programs are one text. -/
theorem frame_kernel : Cert.quiescent_Kernel := fun m ρ _ => by
  rw [defs_same, main_same]
  exact KernelIdeal.Hand.run_frame (F := Bits) m ρ

/-- Up: its result is the reference's. -/
theorem value_Up : Cert.algebraic_UpIdeal_UpRefIdeal := fun m g m' g' _ hag =>
  ⟨fun c => UpIdeal.Hand.result m c,
    (θ_run _ _ _).mono (fun _ h c => ⟨(h c).1.trans (UpIdeal.Hand.final m c), (h c).2⟩) (UpIdeal.Value.run_blocks m g),
    (θ_run _ _ _).mono (fun _ h c => ⟨(h c).1.trans (by rw [(hag c).1, (hag c).2]), (h c).2⟩) (UpRefIdeal.Hand.run m' g')⟩

/-- DownDx: its result is the reference's. -/
theorem value_DownDx : Cert.algebraic_DownDxIdeal_DownDxRefIdeal := fun m g m' g' _ hag =>
  ⟨fun c => DownDxIdeal.Hand.result m c,
    (θ_run _ _ _).mono (fun _ h c => ⟨(h c).1.trans (DownDxIdeal.Hand.final m c), (h c).2⟩) (DownDxIdeal.Value.run_blocks m g),
    (θ_run _ _ _).mono (fun _ h c => ⟨(h c).1.trans (by rw [(hag c).1, (hag c).2.1, (hag c).2.2]), (h c).2⟩) (DownDxRefIdeal.Hand.run m' g')⟩

/-- DownDw: its result is the reference's. -/
theorem value_DownDw : Cert.algebraic_DownDwIdeal_DownDwRefIdeal := fun m g m' g' _ hag =>
  ⟨fun c => DownDwIdeal.Hand.result m c,
    (θ_run _ _ _).mono (fun _ h c => ⟨(h c).1.trans (DownDwIdeal.Hand.final m c), (h c).2⟩) (DownDwIdeal.Value.run_blocks m g),
    (θ_run _ _ _).mono (fun _ h c => ⟨(h c).1.trans (by rw [(hag c).1, (hag c).2]), (h c).2⟩) (DownDwRefIdeal.Hand.run m' g')⟩

/-- UpDw: its result is the reference's. -/
theorem value_UpDw : Cert.algebraic_UpDwIdeal_UpDwRefIdeal := fun m g m' g' _ hag =>
  ⟨fun c => UpDwIdeal.Hand.result m c,
    (θ_run _ _ _).mono (fun _ h c => ⟨(h c).1.trans (UpDwIdeal.Hand.final m c), (h c).2⟩) (UpDwIdeal.Value.run_blocks m g),
    (θ_run _ _ _).mono (fun _ h c => ⟨(h c).1.trans (by rw [(hag c).1, (hag c).2]), (h c).2⟩) (UpDwRefIdeal.Hand.run m' g')⟩

/-- UpDx: its result is the reference's. -/
theorem value_UpDx : Cert.algebraic_UpDxIdeal_UpDxRefIdeal := fun m g m' g' _ hag =>
  ⟨fun c => UpDxIdeal.Hand.result m c,
    (θ_run _ _ _).mono (fun _ h c => ⟨(h c).1.trans (UpDxIdeal.Hand.final m c), (h c).2⟩) (UpDxIdeal.Value.run_blocks m g),
    (θ_run _ _ _).mono (fun _ h c => ⟨(h c).1.trans (by rw [(hag c).1, (hag c).2.1, (hag c).2.2]), (h c).2⟩) (UpDxRefIdeal.Hand.run m' g')⟩

/-- Down: its result is the reference's. -/
theorem value_Down : Cert.algebraic_DownIdeal_DownRefIdeal := fun m g m' g' _ hag =>
  ⟨fun c => DownIdeal.Hand.result m c,
    (θ_run _ _ _).mono (fun _ h c => ⟨(h c).1.trans (DownIdeal.Hand.final m c), (h c).2⟩) (DownIdeal.Value.run_blocks m g),
    (θ_run _ _ _).mono (fun _ h c => ⟨(h c).1.trans (by rw [(hag c).1, (hag c).2]), (h c).2⟩) (DownRefIdeal.Hand.run m' g')⟩

/-- Up0: its result is the reference's. -/
theorem value_Up0 : Cert.algebraic_Up0Ideal_Up0RefIdeal := fun m g m' g' _ hag =>
  ⟨fun c => Up0Ideal.Hand.result m c,
    (θ_run _ _ _).mono (fun _ h c => ⟨(h c).1.trans (Up0Ideal.Hand.final m c), (h c).2⟩) (Up0Ideal.Value.run_blocks m g),
    (θ_run _ _ _).mono (fun _ h c => ⟨(h c).1.trans (by rw [(hag c).1, (hag c).2]), (h c).2⟩) (Up0RefIdeal.Hand.run m' g')⟩

/-- DownDx0: its result is the reference's. -/
theorem value_DownDx0 : Cert.algebraic_DownDx0Ideal_DownDx0RefIdeal := fun m g m' g' _ hag =>
  ⟨fun c => DownDx0Ideal.Hand.result m c,
    (θ_run _ _ _).mono (fun _ h c => ⟨(h c).1.trans (DownDx0Ideal.Hand.final m c), (h c).2⟩) (DownDx0Ideal.Value.run_blocks m g),
    (θ_run _ _ _).mono (fun _ h c => ⟨(h c).1.trans (by rw [(hag c).1, (hag c).2.1, (hag c).2.2]), (h c).2⟩) (DownDx0RefIdeal.Hand.run m' g')⟩

/-- UpDx0: its result is the reference's. -/
theorem value_UpDx0 : Cert.algebraic_UpDx0Ideal_UpDx0RefIdeal := fun m g m' g' _ hag =>
  ⟨fun c => UpDx0Ideal.Hand.result m c,
    (θ_run _ _ _).mono (fun _ h c => ⟨(h c).1.trans (UpDx0Ideal.Hand.final m c), (h c).2⟩) (UpDx0Ideal.Value.run_blocks m g),
    (θ_run _ _ _).mono (fun _ h c => ⟨(h c).1.trans (by rw [(hag c).1, (hag c).2.1, (hag c).2.2]), (h c).2⟩) (UpDx0RefIdeal.Hand.run m' g')⟩

/-- Down0: its result is the reference's. -/
theorem value_Down0 : Cert.algebraic_Down0Ideal_Down0RefIdeal := fun m g m' g' _ hag =>
  ⟨fun c => Down0Ideal.Hand.result m c,
    (θ_run _ _ _).mono (fun _ h c => ⟨(h c).1.trans (Down0Ideal.Hand.final m c), (h c).2⟩) (Down0Ideal.Value.run_blocks m g),
    (θ_run _ _ _).mono (fun _ h c => ⟨(h c).1.trans (by rw [(hag c).1, (hag c).2]), (h c).2⟩) (Down0RefIdeal.Hand.run m' g')⟩

/-- Glu: its result is the reference's. -/
theorem value_Glu : Cert.algebraic_GluIdeal_GluRefIdeal := fun m g m' g' _ hag =>
  ⟨fun c => GluIdeal.Hand.result m c,
    (θ_run _ _ _).mono (fun _ h c => ⟨(h c).1.trans (GluIdeal.Hand.final m c), (h c).2⟩) (GluIdeal.Value.run_blocks m g),
    (θ_run _ _ _).mono (fun _ h c => ⟨(h c).1.trans (by rw [(hag c).1, (hag c).2]), (h c).2⟩) (GluRefIdeal.Hand.run m' g')⟩

/-- GluDx: its result is the reference's. -/
theorem value_GluDx : Cert.algebraic_GluDxIdeal_GluDxRefIdeal := fun m g m' g' _ hag =>
  ⟨fun c => GluDxIdeal.Hand.result m c,
    (θ_run _ _ _).mono (fun _ h c => ⟨(h c).1.trans (GluDxIdeal.Hand.final m c), (h c).2⟩) (GluDxIdeal.Value.run_blocks m g),
    (θ_run _ _ _).mono (fun _ h c => ⟨(h c).1.trans (by rw [(hag c).1, (hag c).2]), (h c).2⟩) (GluDxRefIdeal.Hand.run m' g')⟩

/-- GluDw: its result is the reference's. -/
theorem value_GluDw : Cert.algebraic_GluDwIdeal_GluDwRefIdeal := fun m g m' g' _ hag =>
  ⟨fun c => GluDwIdeal.Hand.result m c,
    (θ_run _ _ _).mono (fun _ h c => ⟨(h c).1.trans (GluDwIdeal.Hand.final m c), (h c).2⟩) (GluDwIdeal.Value.run_blocks m g),
    (θ_run _ _ _).mono (fun _ h c => ⟨(h c).1.trans (by rw [(hag c).1, (hag c).2]), (h c).2⟩) (GluDwRefIdeal.Hand.run m' g')⟩

/-- RwIn: its result is the reference's. -/
theorem value_RwIn : Cert.algebraic_RwInIdeal_RwInRefIdeal := fun m g m' g' _ hag =>
  ⟨fun c => RwInIdeal.Hand.result m c,
    (θ_run _ _ _).mono (fun _ h c => ⟨(h c).1.trans (RwInIdeal.Hand.final m c), (h c).2⟩) (RwInIdeal.Value.run_blocks m g),
    (θ_run _ _ _).mono (fun _ h c => ⟨(h c).1.trans (by rw [(hag c).1, (hag c).2]), (h c).2⟩) (RwInRefIdeal.Hand.run m' g')⟩

/-- RwOut: its result is the reference's. -/
theorem value_RwOut : Cert.algebraic_RwOutIdeal_RwOutRefIdeal := fun m g m' g' _ hag =>
  ⟨fun c => RwOutIdeal.Hand.result m c,
    (θ_run _ _ _).mono (fun _ h c => ⟨(h c).1.trans (RwOutIdeal.Hand.final m c), (h c).2⟩) (RwOutIdeal.Value.run_blocks m g),
    (θ_run _ _ _).mono (fun _ h c => ⟨(h c).1.trans (by rw [(hag c).1, (hag c).2]), (h c).2⟩) (RwOutRefIdeal.Hand.run m' g')⟩

/-- RwDx: its result is the reference's. -/
theorem value_RwDx : Cert.algebraic_RwDxIdeal_RwDxRefIdeal := fun m g m' g' _ hag =>
  ⟨fun c => RwDxIdeal.Hand.result m c,
    (θ_run _ _ _).mono (fun _ h c => ⟨(h c).1.trans (RwDxIdeal.Hand.final m c), (h c).2⟩) (RwDxIdeal.Value.run_blocks m g),
    (θ_run _ _ _).mono (fun _ h c => ⟨(h c).1.trans (by rw [(hag c).1, (hag c).2]), (h c).2⟩) (RwDxRefIdeal.Hand.run m' g')⟩

/-- RwDw: its result is the reference's. -/
theorem value_RwDw : Cert.algebraic_RwDwIdeal_RwDwRefIdeal := fun m g m' g' _ hag =>
  ⟨fun c => RwDwIdeal.Hand.result m c,
    (θ_run _ _ _).mono (fun _ h c => ⟨(h c).1.trans (RwDwIdeal.Hand.final m c), (h c).2⟩) (RwDwIdeal.Value.run_blocks m g),
    (θ_run _ _ _).mono (fun _ h c => ⟨(h c).1.trans (by rw [(hag c).1, (hag c).2]), (h c).2⟩) (RwDwRefIdeal.Hand.run m' g')⟩

/-- LnBwd: its results are the reference's. -/
theorem value_LnBwd : Cert.algebraic_LnBwdIdeal_LnBwdRefIdeal := fun m g m' g' _ hag =>
  ⟨fun c => LnBwdIdeal.Hand.resH m c, fun c => LnBwdIdeal.Hand.resY m c, fun c => LnBwdIdeal.Hand.resG m c, fun c => LnBwdIdeal.Hand.resB m c, LnBwdIdeal.Hand.run m g,
    (θ_run _ _ _).mono (fun _ h c => ⟨(h c).1.trans (by rw [(hag c).1, (hag c).2.1, (hag c).2.2.1, (hag c).2.2.2.2]),
      (h c).2.1.trans (by rw [(hag c).1, (hag c).2.1, (hag c).2.2.1, (hag c).2.2.2.2]),
      (h c).2.2.1.trans (by rw [(hag c).1, (hag c).2.1, (hag c).2.2.2.2]),
      (h c).2.2.2.1.trans (by rw [(hag c).2.2.2.2]), (h c).2.2.2.2⟩) (LnBwdRefIdeal.Hand.run m' g')⟩

/-- Ln: its result is the reference's. -/
theorem value_Ln : Cert.algebraic_LnIdeal_LnRefIdeal := fun m g m' g' _ hag =>
  ⟨fun c => LnIdeal.Hand.resF m c, LnIdeal.Hand.run m g,
    (θ_run _ _ _).mono (fun _ h c => ⟨(h c).1.trans (by rw [(hag c).1, (hag c).2.1, (hag c).2.2.1, (hag c).2.2.2]; rfl), (h c).2⟩) (LnRefIdeal.Hand.run m' g')⟩

/-- Ln0: its results are the reference's. -/
theorem value_Ln0 : Cert.algebraic_Ln0Ideal_Ln0RefIdeal := fun m g m' g' _ hag =>
  ⟨fun c => Ln0Ideal.Hand.resF m c, fun c => Ln0Ideal.Hand.resB m c, Ln0Ideal.Hand.run m g,
    (θ_run _ _ _).mono (fun _ h c => ⟨(h c).1.trans (by rw [(hag c).1, (hag c).2.1, (hag c).2.2.1, (hag c).2.2.2]; rfl),
      (h c).2.1.trans (by rw [(hag c).1, (hag c).2.1, (hag c).2.2.1, (hag c).2.2.2]; rfl), (h c).2.2⟩) (Ln0RefIdeal.Hand.run m' g')⟩

/-- Loss: its results are the reference's. -/
theorem value_Loss : Cert.algebraic_LossIdeal_LossRefIdeal := fun m g m' g' _ hag =>
  ⟨fun c => LossIdeal.Hand.resS m c, fun c => LossIdeal.Hand.resH m c, LossIdeal.Hand.run m g,
    (θ_run _ _ _).mono (fun _ h c => ⟨(h c).1.trans (by rw [(hag c).1, (hag c).2]),
      (h c).2.1.trans (by rw [(hag c).1, (hag c).2]), (h c).2.2⟩) (LossRefIdeal.Hand.run m' g')⟩

/-- GluLnBwd: its results are the reference's. -/
theorem value_GluLnBwd : Cert.algebraic_GluLnBwdIdeal_GluLnBwdRefIdeal := fun m g m' g' _ hag =>
  ⟨fun c => GluLnBwdIdeal.Hand.resH m c, fun c => GluLnBwdIdeal.Hand.resZ m c, fun c => GluLnBwdIdeal.Hand.resG m c, fun c => GluLnBwdIdeal.Hand.resB m c, GluLnBwdIdeal.Hand.run m g,
    (θ_run _ _ _).mono (fun _ h c => ⟨(h c).1.trans (by rw [(hag c).1, (hag c).2.1, (hag c).2.2.1, (hag c).2.2.2.2]),
      (h c).2.1.trans (by rw [(hag c).1, (hag c).2.1, (hag c).2.2.1, (hag c).2.2.2.2]),
      (h c).2.2.1.trans (by rw [(hag c).1, (hag c).2.1, (hag c).2.2.2.2]),
      (h c).2.2.2.1.trans (by rw [(hag c).2.2.2.2]), (h c).2.2.2.2⟩) (GluLnBwdRefIdeal.Hand.run m' g')⟩

/-- Gate: its result is the reference's. -/
theorem value_Gate : Cert.algebraic_GateIdeal_GateRefIdeal := fun m g m' g' _ hag =>
  ⟨fun c => GateIdeal.Hand.resF m c, GateIdeal.Hand.run m g,
    (θ_run _ _ _).mono (fun _ h c => ⟨(h c).1.trans (by rw [(hag c).1, (hag c).2.1, (hag c).2.2.1, (hag c).2.2.2.1, (hag c).2.2.2.2]; rfl), (h c).2⟩) (GateRefIdeal.Hand.run m' g')⟩

/-- S5Bbar: its results are the reference's. -/
theorem value_S5Bbar : Cert.algebraic_S5BbarIdeal_S5BbarRefIdeal := fun m g m' g' _ hag =>
  ⟨fun c => S5BbarIdeal.Hand.resRe m c, fun c => S5BbarIdeal.Hand.resIm m c, S5BbarIdeal.Hand.run m g,
    (θ_run _ _ _).mono (fun _ h c => ⟨(h c).1.trans (by rw [(hag c).1, (hag c).2.1, (hag c).2.2.1, (hag c).2.2.2]),
      (h c).2.1.trans (by rw [(hag c).1, (hag c).2.1, (hag c).2.2.1, (hag c).2.2.2]), (h c).2.2⟩) (S5BbarRefIdeal.Hand.run m' g')⟩

/-- S5Param: its results are the reference's. -/
theorem value_S5Param : Cert.algebraic_S5ParamIdeal_S5ParamRefIdeal := fun m g m' g' _ hag =>
  ⟨fun c => S5ParamIdeal.Hand.res3 m c, fun c => S5ParamIdeal.Hand.res4 m c, fun c => S5ParamIdeal.Hand.res5 m c, fun c => S5ParamIdeal.Hand.res6 m c, S5ParamIdeal.Hand.run m g,
    (θ_run _ _ _).mono (fun _ h c => ⟨(h c).1.trans (by rw [(hag c).1, (hag c).2.1, (hag c).2.2]),
      (h c).2.1.trans (by rw [(hag c).1, (hag c).2.1, (hag c).2.2]),
      (h c).2.2.1.trans (by rw [(hag c).1, (hag c).2.1, (hag c).2.2]),
      (h c).2.2.2.1.trans (by rw [(hag c).1, (hag c).2.1, (hag c).2.2]), (h c).2.2.2.2⟩) (S5ParamRefIdeal.Hand.run m' g')⟩

theorem claim : Cert.Claim :=
  ⟨Kernel.Gen.facts, KernelIdeal.Gen.facts, Up.Gen.facts, UpIdeal.Gen.facts, UpRefIdeal.Gen.facts, DownDx.Gen.facts, DownDxIdeal.Gen.facts, DownDxRefIdeal.Gen.facts, DownDw.Gen.facts, DownDwIdeal.Gen.facts, DownDwRefIdeal.Gen.facts, UpDw.Gen.facts, UpDwIdeal.Gen.facts, UpDwRefIdeal.Gen.facts, UpDx.Gen.facts, UpDxIdeal.Gen.facts, UpDxRefIdeal.Gen.facts, Down.Gen.facts, DownIdeal.Gen.facts, DownRefIdeal.Gen.facts, Up0.Gen.facts, Up0Ideal.Gen.facts, Up0RefIdeal.Gen.facts, DownDx0.Gen.facts, DownDx0Ideal.Gen.facts, DownDx0RefIdeal.Gen.facts, UpDx0.Gen.facts, UpDx0Ideal.Gen.facts, UpDx0RefIdeal.Gen.facts, Down0.Gen.facts, Down0Ideal.Gen.facts, Down0RefIdeal.Gen.facts, Glu.Gen.facts, GluIdeal.Gen.facts, GluRefIdeal.Gen.facts, GluDx.Gen.facts, GluDxIdeal.Gen.facts, GluDxRefIdeal.Gen.facts, GluDw.Gen.facts, GluDwIdeal.Gen.facts, GluDwRefIdeal.Gen.facts, RwIn.Gen.facts, RwInIdeal.Gen.facts, RwInRefIdeal.Gen.facts, RwOut.Gen.facts, RwOutIdeal.Gen.facts, RwOutRefIdeal.Gen.facts, RwDx.Gen.facts, RwDxIdeal.Gen.facts, RwDxRefIdeal.Gen.facts, RwDw.Gen.facts, RwDwIdeal.Gen.facts, RwDwRefIdeal.Gen.facts, LnBwd.Gen.facts, LnBwdIdeal.Gen.facts, LnBwdRefIdeal.Gen.facts, Ln.Gen.facts, LnIdeal.Gen.facts, LnRefIdeal.Gen.facts, Ln0.Gen.facts, Ln0Ideal.Gen.facts, Ln0RefIdeal.Gen.facts, Loss.Gen.facts, LossIdeal.Gen.facts, LossRefIdeal.Gen.facts, GluLnBwd.Gen.facts, GluLnBwdIdeal.Gen.facts, GluLnBwdRefIdeal.Gen.facts, Gate.Gen.facts, GateIdeal.Gen.facts, GateRefIdeal.Gen.facts, S5Bbar.Gen.facts, S5BbarIdeal.Gen.facts, S5BbarRefIdeal.Gen.facts, S5Param.Gen.facts, S5ParamIdeal.Gen.facts, S5ParamRefIdeal.Gen.facts,
    frame_kernel,
    frame_kernel_ideal,
    fun m ρ _ => Up.Gen.frame (F := Bits) m ρ,
    fun m ρ _ => UpIdeal.Gen.frame (F := Ideal) m ρ,
    fun m g _ => (θ_run _ _ _).mono (fun r h => ⟨fun c => (h c).2, sem_eq_zero_of_no_sems (by decide) r.2⟩) (UpRefIdeal.Value.run m g),
    fun m ρ _ => DownDx.Gen.frame (F := Bits) m ρ,
    fun m ρ _ => DownDxIdeal.Gen.frame (F := Ideal) m ρ,
    fun m g _ => (θ_run _ _ _).mono (fun r h => ⟨fun c => (h c).2, sem_eq_zero_of_no_sems (by decide) r.2⟩) (DownDxRefIdeal.Value.run m g),
    fun m ρ _ => DownDw.Gen.frame (F := Bits) m ρ,
    fun m ρ _ => DownDwIdeal.Gen.frame (F := Ideal) m ρ,
    fun m g _ => (θ_run _ _ _).mono (fun r h => ⟨fun c => (h c).2, sem_eq_zero_of_no_sems (by decide) r.2⟩) (DownDwRefIdeal.Value.run m g),
    fun m ρ _ => UpDw.Gen.frame (F := Bits) m ρ,
    fun m ρ _ => UpDwIdeal.Gen.frame (F := Ideal) m ρ,
    fun m g _ => (θ_run _ _ _).mono (fun r h => ⟨fun c => (h c).2, sem_eq_zero_of_no_sems (by decide) r.2⟩) (UpDwRefIdeal.Value.run m g),
    fun m ρ _ => UpDx.Gen.frame (F := Bits) m ρ,
    fun m ρ _ => UpDxIdeal.Gen.frame (F := Ideal) m ρ,
    fun m g _ => (θ_run _ _ _).mono (fun r h => ⟨fun c => (h c).2, sem_eq_zero_of_no_sems (by decide) r.2⟩) (UpDxRefIdeal.Value.run m g),
    fun m ρ _ => Down.Gen.frame (F := Bits) m ρ,
    fun m ρ _ => DownIdeal.Gen.frame (F := Ideal) m ρ,
    fun m g _ => (θ_run _ _ _).mono (fun r h => ⟨fun c => (h c).2, sem_eq_zero_of_no_sems (by decide) r.2⟩) (DownRefIdeal.Value.run m g),
    fun m ρ _ => Up0.Gen.frame (F := Bits) m ρ,
    fun m ρ _ => Up0Ideal.Gen.frame (F := Ideal) m ρ,
    fun m g _ => (θ_run _ _ _).mono (fun r h => ⟨fun c => (h c).2, sem_eq_zero_of_no_sems (by decide) r.2⟩) (Up0RefIdeal.Value.run m g),
    fun m ρ _ => DownDx0.Gen.frame (F := Bits) m ρ,
    fun m ρ _ => DownDx0Ideal.Gen.frame (F := Ideal) m ρ,
    fun m g _ => (θ_run _ _ _).mono (fun r h => ⟨fun c => (h c).2, sem_eq_zero_of_no_sems (by decide) r.2⟩) (DownDx0RefIdeal.Value.run m g),
    fun m ρ _ => UpDx0.Gen.frame (F := Bits) m ρ,
    fun m ρ _ => UpDx0Ideal.Gen.frame (F := Ideal) m ρ,
    fun m g _ => (θ_run _ _ _).mono (fun r h => ⟨fun c => (h c).2, sem_eq_zero_of_no_sems (by decide) r.2⟩) (UpDx0RefIdeal.Value.run m g),
    fun m ρ _ => Down0.Gen.frame (F := Bits) m ρ,
    fun m ρ _ => Down0Ideal.Gen.frame (F := Ideal) m ρ,
    fun m g _ => (θ_run _ _ _).mono (fun r h => ⟨fun c => (h c).2, sem_eq_zero_of_no_sems (by decide) r.2⟩) (Down0RefIdeal.Value.run m g),
    fun m ρ _ => Glu.Gen.frame (F := Bits) m ρ,
    fun m ρ _ => GluIdeal.Gen.frame (F := Ideal) m ρ,
    fun m g _ => (θ_run _ _ _).mono (fun r h => ⟨fun c => (h c).2, sem_eq_zero_of_no_sems (by decide) r.2⟩) (GluRefIdeal.Value.run m g),
    fun m ρ _ => GluDx.Gen.frame (F := Bits) m ρ,
    fun m ρ _ => GluDxIdeal.Gen.frame (F := Ideal) m ρ,
    fun m g _ => (θ_run _ _ _).mono (fun r h => ⟨fun c => (h c).2, sem_eq_zero_of_no_sems (by decide) r.2⟩) (GluDxRefIdeal.Value.run m g),
    fun m ρ _ => GluDw.Gen.frame (F := Bits) m ρ,
    fun m ρ _ => GluDwIdeal.Gen.frame (F := Ideal) m ρ,
    fun m g _ => (θ_run _ _ _).mono (fun r h => ⟨fun c => (h c).2, sem_eq_zero_of_no_sems (by decide) r.2⟩) (GluDwRefIdeal.Value.run m g),
    fun m ρ _ => RwIn.Gen.frame (F := Bits) m ρ,
    fun m ρ _ => RwInIdeal.Gen.frame (F := Ideal) m ρ,
    fun m g _ => (θ_run _ _ _).mono (fun r h => ⟨fun c => (h c).2, sem_eq_zero_of_no_sems (by decide) r.2⟩) (RwInRefIdeal.Value.run m g),
    fun m ρ _ => RwOut.Gen.frame (F := Bits) m ρ,
    fun m ρ _ => RwOutIdeal.Gen.frame (F := Ideal) m ρ,
    fun m g _ => (θ_run _ _ _).mono (fun r h => ⟨fun c => (h c).2, sem_eq_zero_of_no_sems (by decide) r.2⟩) (RwOutRefIdeal.Value.run m g),
    fun m ρ _ => RwDx.Gen.frame (F := Bits) m ρ,
    fun m ρ _ => RwDxIdeal.Gen.frame (F := Ideal) m ρ,
    fun m g _ => (θ_run _ _ _).mono (fun r h => ⟨fun c => (h c).2, sem_eq_zero_of_no_sems (by decide) r.2⟩) (RwDxRefIdeal.Value.run m g),
    fun m ρ _ => RwDw.Gen.frame (F := Bits) m ρ,
    fun m ρ _ => RwDwIdeal.Gen.frame (F := Ideal) m ρ,
    fun m g _ => (θ_run _ _ _).mono (fun r h => ⟨fun c => (h c).2, sem_eq_zero_of_no_sems (by decide) r.2⟩) (RwDwRefIdeal.Value.run m g),
    fun m ρ _ => LnBwd.Gen.frame (F := Bits) m ρ,
    fun m ρ _ => LnBwdIdeal.Gen.frame (F := Ideal) m ρ,
    fun m g _ => (θ_run _ _ _).mono (fun r h => ⟨fun c => (h c).2.2.2.2, sem_eq_zero_of_no_sems (by decide) r.2⟩) (LnBwdRefIdeal.Value.run m g),
    fun m ρ _ => Ln.Gen.frame (F := Bits) m ρ,
    fun m ρ _ => LnIdeal.Gen.frame (F := Ideal) m ρ,
    fun m g _ => (θ_run _ _ _).mono (fun r h => ⟨fun c => (h c).2, sem_eq_zero_of_no_sems (by decide) r.2⟩) (LnRefIdeal.Value.run m g),
    fun m ρ _ => Ln0.Gen.frame (F := Bits) m ρ,
    fun m ρ _ => Ln0Ideal.Gen.frame (F := Ideal) m ρ,
    fun m g _ => (θ_run _ _ _).mono (fun r h => ⟨fun c => (h c).2.2, sem_eq_zero_of_no_sems (by decide) r.2⟩) (Ln0RefIdeal.Value.run m g),
    fun m ρ _ => Loss.Gen.frame (F := Bits) m ρ,
    fun m ρ _ => LossIdeal.Gen.frame (F := Ideal) m ρ,
    fun m g _ => (θ_run _ _ _).mono (fun r h => ⟨fun c => (h c).2.2, sem_eq_zero_of_no_sems (by decide) r.2⟩) (LossRefIdeal.Value.run m g),
    fun m ρ _ => GluLnBwd.Gen.frame (F := Bits) m ρ,
    fun m ρ _ => GluLnBwdIdeal.Gen.frame (F := Ideal) m ρ,
    fun m g _ => (θ_run _ _ _).mono (fun r h => ⟨fun c => (h c).2.2.2.2, sem_eq_zero_of_no_sems (by decide) r.2⟩) (GluLnBwdRefIdeal.Value.run m g),
    fun m ρ _ => Gate.Gen.frame (F := Bits) m ρ,
    fun m ρ _ => GateIdeal.Gen.frame (F := Ideal) m ρ,
    fun m g _ => (θ_run _ _ _).mono (fun r h => ⟨fun c => (h c).2, sem_eq_zero_of_no_sems (by decide) r.2⟩) (GateRefIdeal.Value.run m g),
    fun m ρ _ => S5Bbar.Gen.frame (F := Bits) m ρ,
    fun m ρ _ => S5BbarIdeal.Gen.frame (F := Ideal) m ρ,
    fun m g _ => (θ_run _ _ _).mono (fun r h => ⟨fun c => (h c).2.2, sem_eq_zero_of_no_sems (by decide) r.2⟩) (S5BbarRefIdeal.Value.run m g),
    fun m ρ _ => S5Param.Gen.frame (F := Bits) m ρ,
    fun m ρ _ => S5ParamIdeal.Gen.frame (F := Ideal) m ρ,
    fun m g _ => (θ_run _ _ _).mono (fun r h => ⟨fun c => (h c).2.2.2.2, sem_eq_zero_of_no_sems (by decide) r.2⟩) (S5ParamRefIdeal.Value.run m g),
    trivial,
    trivial,
    value_Up,
    trivial,
    value_DownDx,
    trivial,
    value_DownDw,
    trivial,
    value_UpDw,
    trivial,
    value_UpDx,
    trivial,
    value_Down,
    trivial,
    value_Up0,
    trivial,
    value_DownDx0,
    trivial,
    value_UpDx0,
    trivial,
    value_Down0,
    trivial,
    value_Glu,
    trivial,
    value_GluDx,
    trivial,
    value_GluDw,
    trivial,
    value_RwIn,
    trivial,
    value_RwOut,
    trivial,
    value_RwDx,
    trivial,
    value_RwDw,
    trivial,
    value_LnBwd,
    trivial,
    value_Ln,
    trivial,
    value_Ln0,
    trivial,
    value_Loss,
    trivial,
    value_GluLnBwd,
    trivial,
    value_Gate,
    trivial,
    value_S5Bbar,
    trivial,
    value_S5Param⟩

end Cert.Proof

end
